-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_in [hPre_finite_in : Cert.Pre_finite_in.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.1 = (fun _ => 1#1)
    ∧ (Cert.Pre_finite_in.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5)) (m ((c.tc : Thread Cert.Kernel2Ideal.nD Cert.Kernel2Ideal.τ).loc Cert.Kernel2Ideal.main_arg6))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_in [hPre_finite_in : Cert.Pre_finite_in.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.1 = (fun _ => 1#1)
    ∧ (Cert.Pre_finite_in.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5)) (m ((c.tc : Thread Cert.Reference2Ideal.nD Cert.Reference2Ideal.τ).loc Cert.Reference2Ideal.main_arg6))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_out [hPre_finite_out : Cert.Pre_finite_out.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_out [hPre_finite_out : Cert.Pre_finite_out.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite_ffn [hPre_finite_ffn : Cert.Pre_finite_ffn.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.1 = (fun _ => 1#1)
    ∧ (Cert.Pre_finite_ffn.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))).2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite_ffn [hPre_finite_ffn : Cert.Pre_finite_ffn.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.1 = (fun _ => 1#1)
    ∧ (Cert.Pre_finite_ffn.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))).2.2.2.2 = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_qk [hPre_finite_qk : Cert.Pre_finite_qk.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.1 = (fun _ => 1#1)
    ∧ (Cert.Pre_finite_qk.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5))).2.2.2.2 = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_qk [hPre_finite_qk : Cert.Pre_finite_qk.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.1 = (fun _ => 1#1)
    ∧ (Cert.Pre_finite_qk.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3)) (m ((c.tc : Thread Cert.Reference6Ideal.nD Cert.Reference6Ideal.τ).loc Cert.Reference6Ideal.main_arg4)) (m ((c.tc : Thread Cert.Reference6Ideal.nD Cert.Reference6Ideal.τ).loc Cert.Reference6Ideal.main_arg5))).2.2.2.2 = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Kernel2Ideal_pre_finite_in [hKernel2Ideal : Cert.Kernel2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_in m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Reference2Ideal_pre_finite_in [hReference2Ideal : Cert.Reference2Ideal.Facts] [hPre_finite_in : Cert.Pre_finite_in.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_in m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_out [hKernel3Ideal : Cert.Kernel3Ideal.Facts] [hPre_finite_out : Cert.Pre_finite_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_out m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_out [hReference3Ideal : Cert.Reference3Ideal.Facts] [hPre_finite_out : Cert.Pre_finite_out.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_out m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Kernel4Ideal_pre_finite_ffn [hKernel4Ideal : Cert.Kernel4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite_ffn m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Reference4Ideal_pre_finite_ffn [hReference4Ideal : Cert.Reference4Ideal.Facts] [hPre_finite_ffn : Cert.Pre_finite_ffn.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite_ffn m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Kernel6Ideal_pre_finite_qk [hKernel6Ideal : Cert.Kernel6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_qk m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Reference6Ideal_pre_finite_qk [hReference6Ideal : Cert.Reference6Ideal.Facts] [hPre_finite_qk : Cert.Pre_finite_qk.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_qk m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v77)) (v1 : (c : Dev Cert.KernelIdeal.nD) → Buf (Elt Ideal) ((c.tc : Thread Cert.KernelIdeal.nD Cert.KernelIdeal.τ).loc Cert.KernelIdeal.main_v87)) (v2 : (c : Dev Cert.KernelIdeal.nD) → Buf (Elt Ideal) ((c.tc : Thread Cert.KernelIdeal.nD Cert.KernelIdeal.τ).loc Cert.KernelIdeal.main_v97)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_v87) = v1 c
          ∧ r.2.mem ((c.tc : Thread Cert.KernelIdeal.nD Cert.KernelIdeal.τ).loc Cert.KernelIdeal.main_v97) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_v49) = v1 c
          ∧ r.2.mem ((c.tc : Thread Cert.ReferenceIdeal.nD Cert.ReferenceIdeal.τ).loc Cert.ReferenceIdeal.main_v47) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal_pre_finite_in [hKernel2Ideal : Cert.Kernel2Ideal.Facts] [hReference2Ideal : Cert.Reference2Ideal.Facts] [hPre_finite_in : Cert.Pre_finite_in.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_in m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v6_0)) (v1 : (c : Dev Cert.Kernel2Ideal.nD) → Buf (Elt Ideal) ((c.tc : Thread Cert.Kernel2Ideal.nD Cert.Kernel2Ideal.τ).loc Cert.Kernel2Ideal.main_v6_1)) (v2 : (c : Dev Cert.Kernel2Ideal.nD) → Buf (Elt Ideal) ((c.tc : Thread Cert.Kernel2Ideal.nD Cert.Kernel2Ideal.τ).loc Cert.Kernel2Ideal.main_v6_2)) (v3 : (c : Dev Cert.Kernel2Ideal.nD) → Buf (Elt Ideal) ((c.tc : Thread Cert.Kernel2Ideal.nD Cert.Kernel2Ideal.τ).loc Cert.Kernel2Ideal.main_v6_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6_0) = v0 c
          ∧ r.2.mem ((c.tc : Thread Cert.Kernel2Ideal.nD Cert.Kernel2Ideal.τ).loc Cert.Kernel2Ideal.main_v6_1) = v1 c
          ∧ r.2.mem ((c.tc : Thread Cert.Kernel2Ideal.nD Cert.Kernel2Ideal.τ).loc Cert.Kernel2Ideal.main_v6_2) = v2 c
          ∧ r.2.mem ((c.tc : Thread Cert.Kernel2Ideal.nD Cert.Kernel2Ideal.τ).loc Cert.Kernel2Ideal.main_v6_3) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v39) = v0 c
          ∧ r.2.mem ((c.tc : Thread Cert.Reference2Ideal.nD Cert.Reference2Ideal.τ).loc Cert.Reference2Ideal.main_v53) = v1 c
          ∧ r.2.mem ((c.tc : Thread Cert.Reference2Ideal.nD Cert.Reference2Ideal.τ).loc Cert.Reference2Ideal.main_v54) = v2 c
          ∧ r.2.mem ((c.tc : Thread Cert.Reference2Ideal.nD Cert.Reference2Ideal.τ).loc Cert.Reference2Ideal.main_v55) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal_pre_finite_out [hKernel3Ideal : Cert.Kernel3Ideal.Facts] [hReference3Ideal : Cert.Reference3Ideal.Facts] [hPre_finite_out : Cert.Pre_finite_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_out m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v3_0)) (v1 : (c : Dev Cert.Kernel3Ideal.nD) → Buf (Elt Ideal) ((c.tc : Thread Cert.Kernel3Ideal.nD Cert.Kernel3Ideal.τ).loc Cert.Kernel3Ideal.main_v3_1)) (v2 : (c : Dev Cert.Kernel3Ideal.nD) → Buf (Elt Ideal) ((c.tc : Thread Cert.Kernel3Ideal.nD Cert.Kernel3Ideal.τ).loc Cert.Kernel3Ideal.main_v3_2)) (v3 : (c : Dev Cert.Kernel3Ideal.nD) → Buf (Elt Ideal) ((c.tc : Thread Cert.Kernel3Ideal.nD Cert.Kernel3Ideal.τ).loc Cert.Kernel3Ideal.main_v3_3)) (v4 : (c : Dev Cert.Kernel3Ideal.nD) → Buf (Elt Ideal) ((c.tc : Thread Cert.Kernel3Ideal.nD Cert.Kernel3Ideal.τ).loc Cert.Kernel3Ideal.main_v3_4)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v3_0) = v0 c
          ∧ r.2.mem ((c.tc : Thread Cert.Kernel3Ideal.nD Cert.Kernel3Ideal.τ).loc Cert.Kernel3Ideal.main_v3_1) = v1 c
          ∧ r.2.mem ((c.tc : Thread Cert.Kernel3Ideal.nD Cert.Kernel3Ideal.τ).loc Cert.Kernel3Ideal.main_v3_2) = v2 c
          ∧ r.2.mem ((c.tc : Thread Cert.Kernel3Ideal.nD Cert.Kernel3Ideal.τ).loc Cert.Kernel3Ideal.main_v3_3) = v3 c
          ∧ r.2.mem ((c.tc : Thread Cert.Kernel3Ideal.nD Cert.Kernel3Ideal.τ).loc Cert.Kernel3Ideal.main_v3_4) = v4 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v119) = v0 c
          ∧ r.2.mem ((c.tc : Thread Cert.Reference3Ideal.nD Cert.Reference3Ideal.τ).loc Cert.Reference3Ideal.main_v97) = v1 c
          ∧ r.2.mem ((c.tc : Thread Cert.Reference3Ideal.nD Cert.Reference3Ideal.τ).loc Cert.Reference3Ideal.main_v76) = v2 c
          ∧ r.2.mem ((c.tc : Thread Cert.Reference3Ideal.nD Cert.Reference3Ideal.τ).loc Cert.Reference3Ideal.main_v122) = v3 c
          ∧ r.2.mem ((c.tc : Thread Cert.Reference3Ideal.nD Cert.Reference3Ideal.τ).loc Cert.Reference3Ideal.main_v123) = v4 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal_pre_finite_ffn [hKernel4Ideal : Cert.Kernel4Ideal.Facts] [hReference4Ideal : Cert.Reference4Ideal.Facts] [hPre_finite_ffn : Cert.Pre_finite_ffn.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite_ffn m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v19_0)) (v1 : (c : Dev Cert.Kernel4Ideal.nD) → Buf (Elt Ideal) ((c.tc : Thread Cert.Kernel4Ideal.nD Cert.Kernel4Ideal.τ).loc Cert.Kernel4Ideal.main_v19_1)) (v2 : (c : Dev Cert.Kernel4Ideal.nD) → Buf (Elt Ideal) ((c.tc : Thread Cert.Kernel4Ideal.nD Cert.Kernel4Ideal.τ).loc Cert.Kernel4Ideal.main_v19_2)) (v3 : (c : Dev Cert.Kernel4Ideal.nD) → Buf (Elt Ideal) ((c.tc : Thread Cert.Kernel4Ideal.nD Cert.Kernel4Ideal.τ).loc Cert.Kernel4Ideal.main_v19_3)) (v4 : (c : Dev Cert.Kernel4Ideal.nD) → Buf (Elt Ideal) ((c.tc : Thread Cert.Kernel4Ideal.nD Cert.Kernel4Ideal.τ).loc Cert.Kernel4Ideal.main_v19_4)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v19_0) = v0 c
          ∧ r.2.mem ((c.tc : Thread Cert.Kernel4Ideal.nD Cert.Kernel4Ideal.τ).loc Cert.Kernel4Ideal.main_v19_1) = v1 c
          ∧ r.2.mem ((c.tc : Thread Cert.Kernel4Ideal.nD Cert.Kernel4Ideal.τ).loc Cert.Kernel4Ideal.main_v19_2) = v2 c
          ∧ r.2.mem ((c.tc : Thread Cert.Kernel4Ideal.nD Cert.Kernel4Ideal.τ).loc Cert.Kernel4Ideal.main_v19_3) = v3 c
          ∧ r.2.mem ((c.tc : Thread Cert.Kernel4Ideal.nD Cert.Kernel4Ideal.τ).loc Cert.Kernel4Ideal.main_v19_4) = v4 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v50) = v0 c
          ∧ r.2.mem ((c.tc : Thread Cert.Reference4Ideal.nD Cert.Reference4Ideal.τ).loc Cert.Reference4Ideal.main_v51) = v1 c
          ∧ r.2.mem ((c.tc : Thread Cert.Reference4Ideal.nD Cert.Reference4Ideal.τ).loc Cert.Reference4Ideal.main_v52) = v2 c
          ∧ r.2.mem ((c.tc : Thread Cert.Reference4Ideal.nD Cert.Reference4Ideal.τ).loc Cert.Reference4Ideal.main_v53) = v3 c
          ∧ r.2.mem ((c.tc : Thread Cert.Reference4Ideal.nD Cert.Reference4Ideal.τ).loc Cert.Reference4Ideal.main_v54) = v4 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v15) = v0 c
          ∧ r.2.mem ((c.tc : Thread Cert.Reference5Ideal.nD Cert.Reference5Ideal.τ).loc Cert.Reference5Ideal.main_v14) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal_pre_finite_qk [hKernel6Ideal : Cert.Kernel6Ideal.Facts] [hReference6Ideal : Cert.Reference6Ideal.Facts] [hPre_finite_qk : Cert.Pre_finite_qk.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_qk m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)) →
    ∃ (v0 : (c : Dev Cert.Kernel6Ideal.nD) → Buf (Elt Ideal) ((c.tc : Thread Cert.Kernel6Ideal.nD Cert.Kernel6Ideal.τ).loc Cert.Kernel6Ideal.main_v34_0)) (v1 : (c : Dev Cert.Kernel6Ideal.nD) → Buf (Elt Ideal) ((c.tc : Thread Cert.Kernel6Ideal.nD Cert.Kernel6Ideal.τ).loc Cert.Kernel6Ideal.main_v34_1)) (v2 : (c : Dev Cert.Kernel6Ideal.nD) → Buf (Elt Ideal) ((c.tc : Thread Cert.Kernel6Ideal.nD Cert.Kernel6Ideal.τ).loc Cert.Kernel6Ideal.main_v34_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v34_0) = v0 c
          ∧ r.2.mem ((c.tc : Thread Cert.Kernel6Ideal.nD Cert.Kernel6Ideal.τ).loc Cert.Kernel6Ideal.main_v34_1) = v1 c
          ∧ r.2.mem ((c.tc : Thread Cert.Kernel6Ideal.nD Cert.Kernel6Ideal.τ).loc Cert.Kernel6Ideal.main_v34_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v92) = v0 c
          ∧ r.2.mem ((c.tc : Thread Cert.Reference6Ideal.nD Cert.Reference6Ideal.τ).loc Cert.Reference6Ideal.main_v93) = v1 c
          ∧ r.2.mem ((c.tc : Thread Cert.Reference6Ideal.nD Cert.Reference6Ideal.τ).loc Cert.Reference6Ideal.main_v94) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5))

def preserves_Kernel7_Kernel7Ideal : Prop :=
  True

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)) →
    ∃ (v0 : (c : Dev Cert.Kernel8Ideal.nD) → Buf (Elt Ideal) ((c.tc : Thread Cert.Kernel8Ideal.nD Cert.Kernel8Ideal.τ).loc Cert.Kernel8Ideal.main_v0_0)) (v1 : (c : Dev Cert.Kernel8Ideal.nD) → Buf (Elt Ideal) ((c.tc : Thread Cert.Kernel8Ideal.nD Cert.Kernel8Ideal.τ).loc Cert.Kernel8Ideal.main_v0_1)) (v2 : (c : Dev Cert.Kernel8Ideal.nD) → Buf (Elt Ideal) ((c.tc : Thread Cert.Kernel8Ideal.nD Cert.Kernel8Ideal.τ).loc Cert.Kernel8Ideal.main_v0_2)) (v3 : (c : Dev Cert.Kernel8Ideal.nD) → Buf (Elt Ideal) ((c.tc : Thread Cert.Kernel8Ideal.nD Cert.Kernel8Ideal.τ).loc Cert.Kernel8Ideal.main_v0_3)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0_0) = v0 c
          ∧ r.2.mem ((c.tc : Thread Cert.Kernel8Ideal.nD Cert.Kernel8Ideal.τ).loc Cert.Kernel8Ideal.main_v0_1) = v1 c
          ∧ r.2.mem ((c.tc : Thread Cert.Kernel8Ideal.nD Cert.Kernel8Ideal.τ).loc Cert.Kernel8Ideal.main_v0_2) = v2 c
          ∧ r.2.mem ((c.tc : Thread Cert.Kernel8Ideal.nD Cert.Kernel8Ideal.τ).loc Cert.Kernel8Ideal.main_v0_3) = v3 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v1) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_v6) = v2 c
          ∧ r.2.mem ((c.tc : Thread Cert.Reference8Ideal.nD Cert.Reference8Ideal.τ).loc Cert.Reference8Ideal.main_v12) = v3 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v5_0)) (v1 : (c : Dev Cert.Kernel9Ideal.nD) → Buf (Elt Ideal) ((c.tc : Thread Cert.Kernel9Ideal.nD Cert.Kernel9Ideal.τ).loc Cert.Kernel9Ideal.main_v5_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v5_0) = v0 c
          ∧ r.2.mem ((c.tc : Thread Cert.Kernel9Ideal.nD Cert.Kernel9Ideal.τ).loc Cert.Kernel9Ideal.main_v5_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v13) = v0 c
          ∧ r.2.mem ((c.tc : Thread Cert.Reference9Ideal.nD Cert.Reference9Ideal.τ).loc Cert.Reference9Ideal.main_v19) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v3)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v3) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v44) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v3) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v5)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v5) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v44) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hPre_finite : Cert.Pre_finite.Facts) (hPre_finite_in : Cert.Pre_finite_in.Facts) (hPre_finite_out : Cert.Pre_finite_out.Facts) (hPre_finite_ffn : Cert.Pre_finite_ffn.Facts) (hPre_finite_qk : Cert.Pre_finite_qk.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_in (hKernel2Ideal := hKernel2Ideal) (hPre_finite_in := hPre_finite_in)
    ∧ quiescent_Reference2Ideal (hReference2Ideal := hReference2Ideal)
    ∧ quiescent_Reference2Ideal_pre_finite_in (hReference2Ideal := hReference2Ideal) (hPre_finite_in := hPre_finite_in)
    ∧ quiescent_Kernel3 (hKernel3 := hKernel3)
    ∧ quiescent_Kernel3Ideal (hKernel3Ideal := hKernel3Ideal)
    ∧ quiescent_Kernel3Ideal_pre_finite_out (hKernel3Ideal := hKernel3Ideal) (hPre_finite_out := hPre_finite_out)
    ∧ quiescent_Reference3Ideal (hReference3Ideal := hReference3Ideal)
    ∧ quiescent_Reference3Ideal_pre_finite_out (hReference3Ideal := hReference3Ideal) (hPre_finite_out := hPre_finite_out)
    ∧ quiescent_Kernel4 (hKernel4 := hKernel4)
    ∧ quiescent_Kernel4Ideal (hKernel4Ideal := hKernel4Ideal)
    ∧ quiescent_Kernel4Ideal_pre_finite_ffn (hKernel4Ideal := hKernel4Ideal) (hPre_finite_ffn := hPre_finite_ffn)
    ∧ quiescent_Reference4Ideal (hReference4Ideal := hReference4Ideal)
    ∧ quiescent_Reference4Ideal_pre_finite_ffn (hReference4Ideal := hReference4Ideal) (hPre_finite_ffn := hPre_finite_ffn)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_qk (hKernel6Ideal := hKernel6Ideal) (hPre_finite_qk := hPre_finite_qk)
    ∧ quiescent_Reference6Ideal (hReference6Ideal := hReference6Ideal)
    ∧ quiescent_Reference6Ideal_pre_finite_qk (hReference6Ideal := hReference6Ideal) (hPre_finite_qk := hPre_finite_qk)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_in (hKernel2Ideal := hKernel2Ideal) (hReference2Ideal := hReference2Ideal) (hPre_finite_in := hPre_finite_in)
    ∧ preserves_Kernel3_Kernel3Ideal
    ∧ algebraic_Kernel3Ideal_Reference3Ideal_pre_finite_out (hKernel3Ideal := hKernel3Ideal) (hReference3Ideal := hReference3Ideal) (hPre_finite_out := hPre_finite_out)
    ∧ preserves_Kernel4_Kernel4Ideal
    ∧ algebraic_Kernel4Ideal_Reference4Ideal_pre_finite_ffn (hKernel4Ideal := hKernel4Ideal) (hReference4Ideal := hReference4Ideal) (hPre_finite_ffn := hPre_finite_ffn)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_qk (hKernel6Ideal := hKernel6Ideal) (hReference6Ideal := hReference6Ideal) (hPre_finite_qk := hPre_finite_qk)
    ∧ preserves_Kernel7_Kernel7Ideal
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
-- ==== Pre_finite.lean ====
abbrev S2048x512 : Shape := ⟨2, ![2048, 512]⟩
abbrev S_ : Shape := ⟨0, ![]⟩

class Facts : Prop where
  bcast_S_S2048x512 : S_.BroadcastsInDim S2048x512 (![] : Fin 0 → Fin S2048x512.rank)

variable [Facts]

def fn {F : FTy → Type} [FloatOps F] (main_arg0 : FVec F S2048x512 .f32) (main_arg1 : FVec F S2048x512 .f32) (main_arg2 : FVec F S2048x512 .f32) (main_arg3 : FVec F S2048x512 .f32) : IVec S2048x512 1 × IVec S2048x512 1 × IVec S2048x512 1 × IVec S2048x512 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  (main_v2, main_v5, main_v8, main_v11)
-- ==== Pre_finite_ffn.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩

class Facts : Prop where
  bcast_S_S2048x1024 : S_.BroadcastsInDim S2048x1024 (![] : Fin 0 → Fin S2048x1024.rank)
  bcast_S_S1024 : S_.BroadcastsInDim S1024 (![] : Fin 0 → Fin S1024.rank)
  bcast_S_S1024x5632 : S_.BroadcastsInDim S1024x5632 (![] : Fin 0 → Fin S1024x5632.rank)
  bcast_S_S2816x1024 : S_.BroadcastsInDim S2816x1024 (![] : Fin 0 → Fin S2816x1024.rank)

variable [Facts]

def fn {F : FTy → Type} [FloatOps F] (main_arg0 : FVec F S2048x1024 .f32) (main_arg1 : FVec F S2048x1024 .f32) (main_arg2 : FVec F S1024 .f32) (main_arg3 : FVec F S1024x5632 .f32) (main_arg4 : FVec F S2816x1024 .f32) : IVec S2048x1024 1 × IVec S2048x1024 1 × IVec S1024 1 × IVec S1024x5632 1 × IVec S2816x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x1024 .f32 := Host.absf main_arg1
  let main_cst_0 : FVec F S_ .f32 := constant S_ .f32 0x7F800000#32
  let main_v4 : FVec F S2048x1024 .f32 := broadcastInDim S2048x1024 ![] bcast_S_S2048x1024 main_cst_0
  let main_v5 : IVec S2048x1024 1 := cmpf .olt main_v3 main_v4
  let main_v6 : FVec F S1024 .f32 := Host.absf main_arg2
  let main_cst_1 : FVec F S_ .f32 := constant S_ .f32 0x7F800000#32
  let main_v7 : FVec F S1024 .f32 := broadcastInDim S1024 ![] bcast_S_S1024 main_cst_1
  let main_v8 : IVec S1024 1 := cmpf .olt main_v6 main_v7
  let main_v9 : FVec F S1024x5632 .f32 := Host.absf main_arg3
  let main_cst_2 : FVec F S_ .f32 := constant S_ .f32 0x7F800000#32
  let main_v10 : FVec F S1024x5632 .f32 := broadcastInDim S1024x5632 ![] bcast_S_S1024x5632 main_cst_2
  let main_v11 : IVec S1024x5632 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  (main_v2, main_v5, main_v8, main_v11, main_v14)
-- ==== Pre_finite_in.lean ====
abbrev S2048x512 : Shape := ⟨2, ![2048, 512]⟩
abbrev S2048x1536 : Shape := ⟨2, ![2048, 1536]⟩
abbrev S2048x1024 : Shape := ⟨2, ![2048, 1024]⟩
abbrev S1024 : Shape := ⟨1, ![1024]⟩
abbrev S1024x2560 : Shape := ⟨2, ![1024, 2560]⟩
abbrev S_ : Shape := ⟨0, ![]⟩

class Facts : Prop where
  bcast_S_S2048x512 : S_.BroadcastsInDim S2048x512 (![] : Fin 0 → Fin S2048x512.rank)
  bcast_S_S2048x1536 : S_.BroadcastsInDim S2048x1536 (![] : Fin 0 → Fin S2048x1536.rank)
  bcast_S_S2048x1024 : S_.BroadcastsInDim S2048x1024 (![] : Fin 0 → Fin S2048x1024.rank)
  bcast_S_S1024 : S_.BroadcastsInDim S1024 (![] : Fin 0 → Fin S1024.rank)
  bcast_S_S1024x2560 : S_.BroadcastsInDim S1024x2560 (![] : Fin 0 → Fin S1024x2560.rank)

variable [Facts]

def fn {F : FTy → Type} [FloatOps F] (main_arg0 : FVec F S2048x512 .f32) (main_arg1 : FVec F S2048x512 .f32) (main_arg2 : FVec F S2048x1536 .f32) (main_arg3 : FVec F S2048x1024 .f32) (main_arg4 : FVec F S1024 .f32) (main_arg5 : FVec F S1024x2560 .f32) (main_arg6 : FVec F S2048x1024 .f32) : IVec S2048x512 1 × IVec S2048x512 1 × IVec S2048x1536 1 × IVec S2048x1024 1 × IVec S1024 1 × IVec S1024x2560 1 :=
  let main_v0 : FVec F S2048x512 .f32 := Host.absf main_arg0
  let main_cst : FVec F S_ .f32 := constant S_ .f32 0x7F800000#32
  let main_v1 : FVec F S2048x512 .f32 := broadcastInDim S2048x512 ![] bcast_S_S2048x512 main_cst
  let main_v2 : IVec S2048x512 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x1536 .f32 := Host.absf main_arg2
  let main_cst_1 : FVec F S_ .f32 := constant S_ .f32 0x7F800000#32
  let main_v7 : FVec F S2048x1536 .f32 := broadcastInDim S2048x1536 ![] bcast_S_S2048x1536 main_cst_1
  let main_v8 : IVec S2048x1536 1 := cmpf .olt main_v6 main_v7
  let main_v9 : FVec F S2048x1024 .f32 := Host.absf main_arg3
  let main_cst_2 : FVec F S_ .f32 := constant S_ .f32 0x7F800000#32
  let main_v10 : FVec F S2048x1024 .f32 := broadcastInDim S2048x1024 ![] bcast_S_S2048x1024 main_cst_2
  let main_v11 : IVec S2048x1024 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x2560 .f32 := Host.absf main_arg5
  let main_cst_4 : FVec F S_ .f32 := constant S_ .f32 0x7F800000#32
  let main_v16 : FVec F S1024x2560 .f32 := broadcastInDim S1024x2560 ![] bcast_S_S1024x2560 main_cst_4
  let main_v17 : IVec S1024x2560 1 := cmpf .olt main_v15 main_v16
  (main_v2, main_v5, main_v8, main_v11, main_v14, main_v17)
-- ==== Pre_finite_out.lean ====
abbrev S2048x1024 : Shape := ⟨2, ![2048, 1024]⟩
abbrev S2048x256 : Shape := ⟨2, ![2048, 256]⟩
abbrev S2048x512 : Shape := ⟨2, ![2048, 512]⟩
abbrev S1024 : Shape := ⟨1, ![1024]⟩
abbrev S1024x1024 : Shape := ⟨2, ![1024, 1024]⟩
abbrev S_ : Shape := ⟨0, ![]⟩

class Facts : Prop where
  bcast_S_S2048x1024 : S_.BroadcastsInDim S2048x1024 (![] : Fin 0 → Fin S2048x1024.rank)
  bcast_S_S2048x256 : S_.BroadcastsInDim S2048x256 (![] : Fin 0 → Fin S2048x256.rank)
  bcast_S_S2048x512 : S_.BroadcastsInDim S2048x512 (![] : Fin 0 → Fin S2048x512.rank)
  bcast_S_S1024 : S_.BroadcastsInDim S1024 (![] : Fin 0 → Fin S1024.rank)
  bcast_S_S1024x1024 : S_.BroadcastsInDim S1024x1024 (![] : Fin 0 → Fin S1024x1024.rank)

variable [Facts]

def fn {F : FTy → Type} [FloatOps F] (main_arg0 : FVec F S2048x1024 .f32) (main_arg1 : FVec F S2048x256 .f32) (main_arg2 : FVec F S2048x256 .f32) (main_arg3 : FVec F S2048x512 .f32) (main_arg4 : FVec F S1024 .f32) (main_arg5 : FVec F S1024x1024 .f32) : IVec S2048x1024 1 × IVec S2048x256 1 × IVec S2048x256 1 × IVec S2048x512 1 × IVec S1024 1 × IVec S1024x1024 1 :=
  let main_v0 : FVec F S2048x1024 .f32 := Host.absf main_arg0
  let main_cst : FVec F S_ .f32 := constant S_ .f32 0x7F800000#32
  let main_v1 : FVec F S2048x1024 .f32 := broadcastInDim S2048x1024 ![] bcast_S_S2048x1024 main_cst
  let main_v2 : IVec S2048x1024 1 := cmpf .olt main_v0 main_v1
  let main_v3 : FVec F S2048x256 .f32 := Host.absf main_arg1
  let main_cst_0 : FVec F S_ .f32 := constant S_ .f32 0x7F800000#32
  let main_v4 : FVec F S2048x256 .f32 := broadcastInDim S2048x256 ![] bcast_S_S2048x256 main_cst_0
  let main_v5 : IVec S2048x256 1 := cmpf .olt main_v3 main_v4
  let main_v6 : FVec F S2048x256 .f32 := Host.absf main_arg2
  let main_cst_1 : FVec F S_ .f32 := constant S_ .f32 0x7F800000#32
  let main_v7 : FVec F S2048x256 .f32 := broadcastInDim S2048x256 ![] bcast_S_S2048x256 main_cst_1
  let main_v8 : IVec S2048x256 1 := cmpf .olt main_v6 main_v7
  let main_v9 : FVec F S2048x512 .f32 := Host.absf main_arg3
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1024x1024 .f32 := Host.absf main_arg5
  let main_cst_4 : FVec F S_ .f32 := constant S_ .f32 0x7F800000#32
  let main_v16 : FVec F S1024x1024 .f32 := broadcastInDim S1024x1024 ![] bcast_S_S1024x1024 main_cst_4
  let main_v17 : IVec S1024x1024 1 := cmpf .olt main_v15 main_v16
  (main_v2, main_v5, main_v8, main_v11, main_v14, main_v17)
-- ==== Pre_finite_qk.lean ====
abbrev S2048x2560 : Shape := ⟨2, ![2048, 2560]⟩
abbrev S2048x512 : Shape := ⟨2, ![2048, 512]⟩
abbrev S64 : Shape := ⟨1, ![64]⟩
abbrev S_ : Shape := ⟨0, ![]⟩

class Facts : Prop where
  bcast_S_S2048x2560 : S_.BroadcastsInDim S2048x2560 (![] : Fin 0 → Fin S2048x2560.rank)
  bcast_S_S2048x512 : S_.BroadcastsInDim S2048x512 (![] : Fin 0 → Fin S2048x512.rank)
  bcast_S_S64 : S_.BroadcastsInDim S64 (![] : Fin 0 → Fin S64.rank)

variable [Facts]

def fn {F : FTy → Type} [FloatOps F] (main_arg0 : FVec F S2048x2560 .f32) (main_arg1 : FVec F S2048x512 .f32) (main_arg2 : FVec F S2048x512 .f32) (main_arg3 : FVec F S2048x512 .f32) (main_arg4 : FVec F S64 .f32) (main_arg5 : FVec F S64 .f32) : IVec S2048x2560 1 × IVec S2048x512 1 × IVec S2048x512 1 × IVec S64 1 × IVec S64 1 :=
  let main_v0 : FVec F S2048x2560 .f32 := Host.absf main_arg0
  let main_cst : FVec F S_ .f32 := constant S_ .f32 0x7F800000#32
  let main_v1 : FVec F S2048x2560 .f32 := broadcastInDim S2048x2560 ![] bcast_S_S2048x2560 main_cst
  let main_v2 : IVec S2048x2560 1 := cmpf .olt main_v0 main_v1
  let main_v3 : FVec F S2048x512 .f32 := Host.absf main_arg1
  let main_cst_0 : FVec F S_ .f32 := constant S_ .f32 0x7F800000#32
  let main_v4 : FVec F S2048x512 .f32 := broadcastInDim S2048x512 ![] bcast_S_S2048x512 main_cst_0
  let main_v5 : IVec S2048x512 1 := cmpf .olt main_v3 main_v4
  let main_v6 : FVec F S2048x512 .f32 := Host.absf main_arg2
  let main_cst_1 : FVec F S_ .f32 := constant S_ .f32 0x7F800000#32
  let main_v7 : FVec F S2048x512 .f32 := broadcastInDim S2048x512 ![] bcast_S_S2048x512 main_cst_1
  let main_v8 : IVec S2048x512 1 := cmpf .olt main_v6 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_v12 : FVec F S64 .f32 := Host.absf main_arg5
  let main_cst_3 : FVec F S_ .f32 := constant S_ .f32 0x7F800000#32
  let main_v13 : FVec F S64 .f32 := broadcastInDim S64 ![] bcast_S_S64 main_cst_3
  let main_v14 : IVec S64 1 := cmpf .olt main_v12 main_v13
  (main_v2, main_v5, main_v8, main_v11, main_v14)
-- ==== Kernel.lean ====
abbrev S2048x512 : Shape := ⟨2, ![2048, 512]⟩
abbrev S_ : Shape := ⟨0, ![]⟩
abbrev S16x128x512 : Shape := ⟨3, ![16, 128, 512]⟩
abbrev S16x256x512 : Shape := ⟨3, ![16, 256, 512]⟩
abbrev S4096x512 : Shape := ⟨2, ![4096, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x2048 : Shape := ⟨2, ![8, 2048]⟩
abbrev S2048x8 : Shape := ⟨2, ![2048, 8]⟩
abbrev S2048x8x1 : Shape := ⟨3, ![2048, 8, 1]⟩
abbrev S16x256x4x128 : Shape := ⟨4, ![16, 256, 4, 128]⟩
abbrev S4x16x128x256 : Shape := ⟨4, ![4, 16, 128, 256]⟩
abbrev S8x128 : Shape := ⟨2, ![8, 128]⟩
abbrev S256x256 : Shape := ⟨2, ![256, 256]⟩
abbrev S1024x128 : Shape := ⟨2, ![1024, 128]⟩
abbrev S4096x128 : Shape := ⟨2, ![4096, 128]⟩
abbrev S1x16x128x256 : Shape := ⟨4, ![1, 16, 128, 256]⟩
abbrev S1x1024x256 : Shape := ⟨3, ![1, 1024, 256]⟩
abbrev S128x1024 : Shape := ⟨2, ![128, 1024]⟩
abbrev S1024x1 : Shape := ⟨2, ![1024, 1]⟩
abbrev S1024x256 : Shape := ⟨2, ![1024, 256]⟩
abbrev S1x1x128x256 : Shape := ⟨4, ![1, 1, 128, 256]⟩
abbrev S128x256 : Shape := ⟨2, ![128, 256]⟩
abbrev S256x128 : Shape := ⟨2, ![256, 128]⟩
abbrev S1x512x256 : Shape := ⟨3, ![1, 512, 256]⟩
abbrev S512x256 : Shape := ⟨2, ![512, 256]⟩
abbrev S512x1 : Shape := ⟨2, ![512, 1]⟩
abbrev S512x128 : Shape := ⟨2, ![512, 128]⟩
abbrev S384x256 : Shape := ⟨2, ![384, 256]⟩
abbrev S1x128x256 : Shape := ⟨3, ![1, 128, 256]⟩
abbrev S128x1 : Shape := ⟨2, ![128, 1]⟩
abbrev S1x384x256 : Shape := ⟨3, ![1, 384, 256]⟩
abbrev S384x1 : Shape := ⟨2, ![384, 1]⟩
abbrev S384x128 : Shape := ⟨2, ![384, 128]⟩
abbrev S1x256x256 : Shape := ⟨3, ![1, 256, 256]⟩
abbrev S256x1 : Shape := ⟨2, ![256, 1]⟩
abbrev S128x128 : Shape := ⟨2, ![128, 128]⟩
abbrev S640x256 : Shape := ⟨2, ![640, 256]⟩
abbrev S1x640x256 : Shape := ⟨3, ![1, 640, 256]⟩
abbrev S640x1 : Shape := ⟨2, ![640, 1]⟩
abbrev S768x256 : Shape := ⟨2, ![768, 256]⟩
abbrev S1x768x256 : Shape := ⟨3, ![1, 768, 256]⟩
abbrev S768x1 : Shape := ⟨2, ![768, 1]⟩
abbrev S896x256 : Shape := ⟨2, ![896, 256]⟩
abbrev S1x896x256 : Shape := ⟨3, ![1, 896, 256]⟩
abbrev S4x16x2x64x2x128 : Shape := ⟨6, ![4, 16, 2, 64, 2, 128]⟩
abbrev S4x16x1x64x1x128 : Shape := ⟨6, ![4, 16, 1, 64, 1, 128]⟩
abbrev S4x16x64x128 : Shape := ⟨4, ![4, 16, 64, 128]⟩
abbrev S4x16x1x64x128 : Shape := ⟨5, ![4, 16, 1, 64, 128]⟩
abbrev S4x16x2x64x128 : Shape := ⟨5, ![4, 16, 2, 64, 128]⟩
abbrev S16x128x4x2x64 : Shape := ⟨5, ![16, 128, 4, 2, 64]⟩

abbrev nBuf : Space → Nat
  | .hbm => 260
  | .vmem => 24
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S_, .f32⟩
  | 5 => ⟨S2048x512, .f32⟩
  | 6 => ⟨S2048x512, .f32⟩
  | 7 => ⟨S2048x512, .bf16⟩
  | 8 => ⟨S2048x512, .i32⟩
  | 9 => ⟨S_, .i32⟩
  | 10 => ⟨S_, .i32⟩
  | 11 => ⟨S_, .i32⟩
  | 12 => ⟨S_, .i1⟩
  | 13 => ⟨S_, .i32⟩
  | 14 => ⟨S_, .i32⟩
  | 15 => ⟨S2048x512, .i32⟩
  | 16 => ⟨S2048x512, .i32⟩
  | 17 => ⟨S_, .i32⟩
  | 18 => ⟨S2048x512, .i32⟩
  | 19 => ⟨S2048x512, .i1⟩
  | 20 => ⟨S_, .i32⟩
  | 21 => ⟨S2048x512, .i32⟩
  | 22 => ⟨S2048x512, .i1⟩
  | 23 => ⟨S_, .i32⟩
  | 24 => ⟨S_, .i1⟩
  | 25 => ⟨S2048x512, .i1⟩
  | 26 => ⟨S2048x512, .i1⟩
  | 27 => ⟨S2048x512, .i1⟩
  | 28 => ⟨S2048x512, .i32⟩
  | 29 => ⟨S2048x512, .i32⟩
  | 30 => ⟨S2048x512, .i32⟩
  | 31 => ⟨S_, .i32⟩
  | 32 => ⟨S2048x512, .i32⟩
  | 33 => ⟨S2048x512, .i1⟩
  | 34 => ⟨S_, .f32⟩
  | 35 => ⟨S_, .f32⟩
  | 36 => ⟨S2048x512, .f32⟩
  | 37 => ⟨S2048x512, .f32⟩
  | 38 => ⟨S16x128x512, .f32⟩
  | 39 => ⟨S_, .f32⟩
  | 40 => ⟨S_, .f32⟩
  | 41 => ⟨S2048x512, .f32⟩
  | 42 => ⟨S2048x512, .f32⟩
  | 43 => ⟨S16x128x512, .f32⟩
  | 44 => ⟨S16x256x512, .f32⟩
  | 45 => ⟨S4096x512, .f32⟩
  | 46 => ⟨S2048x512, .i32⟩
  | 47 => ⟨S_, .i32⟩
  | 48 => ⟨S_, .i32⟩
  | 49 => ⟨S_, .i32⟩
  | 50 => ⟨S_, .i1⟩
  | 51 => ⟨S_, .i32⟩
  | 52 => ⟨S_, .i32⟩
  | 53 => ⟨S2048x512, .i32⟩
  | 54 => ⟨S2048x512, .i32⟩
  | 55 => ⟨S_, .i32⟩
  | 56 => ⟨S2048x512, .i32⟩
  | 57 => ⟨S2048x512, .i1⟩
  | 58 => ⟨S_, .i32⟩
  | 59 => ⟨S2048x512, .i32⟩
  | 60 => ⟨S2048x512, .i1⟩
  | 61 => ⟨S_, .i32⟩
  | 62 => ⟨S_, .i1⟩
  | 63 => ⟨S2048x512, .i1⟩
  | 64 => ⟨S2048x512, .i1⟩
  | 65 => ⟨S2048x512, .i1⟩
  | 66 => ⟨S2048x512, .i32⟩
  | 67 => ⟨S2048x512, .i32⟩
  | 68 => ⟨S2048x512, .i32⟩
  | 69 => ⟨S_, .i32⟩
  | 70 => ⟨S2048x512, .i32⟩
  | 71 => ⟨S2048x512, .i1⟩
  | 72 => ⟨S_, .f32⟩
  | 73 => ⟨S_, .f32⟩
  | 74 => ⟨S2048x512, .f32⟩
  | 75 => ⟨S2048x512, .f32⟩
  | 76 => ⟨S16x128x512, .f32⟩
  | 77 => ⟨S_, .f32⟩
  | 78 => ⟨S_, .f32⟩
  | 79 => ⟨S2048x512, .f32⟩
  | 80 => ⟨S2048x512, .f32⟩
  | 81 => ⟨S16x128x512, .f32⟩
  | 82 => ⟨S16x256x512, .f32⟩
  | 83 => ⟨S4096x512, .f32⟩
  | 84 => ⟨S2048x8x64, .f32⟩
  | 85 => ⟨S8x2048x64, .f32⟩
  | 86 => ⟨S2048x8x64, .f32⟩
  | 87 => ⟨S8x2048x64, .f32⟩
  | 88 => ⟨S8x2048x2048, .f32⟩
  | 89 => ⟨S_, .f32⟩
  | 90 => ⟨S8x2048x2048, .f32⟩
  | 91 => ⟨S8x2048x2048, .f32⟩
  | 92 => ⟨S2048, .i32⟩
  | 93 => ⟨S1x2048, .i32⟩
  | 94 => ⟨S2048x1, .i32⟩
  | 95 => ⟨S2048x2048, .i32⟩
  | 96 => ⟨S2048x2048, .i32⟩
  | 97 => ⟨S2048x2048, .i1⟩
  | 98 => ⟨S8x2048x2048, .f32⟩
  | 99 => ⟨S8x2048x2048, .f32⟩
  | 100 => ⟨S_, .f32⟩
  | 101 => ⟨S8x2048x2048, .f32⟩
  | 102 => ⟨S8x2048x2048, .f32⟩
  | 103 => ⟨S8x2048x2048, .f32⟩
  | 104 => ⟨S8x2048x2048, .f32⟩
  | 105 => ⟨S8x2048x2048, .i1⟩
  | 106 => ⟨S8x2048x2048, .f32⟩
  | 107 => ⟨S8x2048x2048, .f32⟩
  | 108 => ⟨S8x2048x2048, .f32⟩
  | 109 => ⟨S8x2048x2048, .f32⟩
  | 110 => ⟨S8x2048x2048, .f32⟩
  | 111 => ⟨S8x2048x2048, .f32⟩
  | 112 => ⟨S8x2048x2048, .f32⟩
  | 113 => ⟨S8x2048x2048, .f32⟩
  | 114 => ⟨S8x2048x2048, .f32⟩
  | 115 => ⟨S_, .f32⟩
  | 116 => ⟨S_, .f32⟩
  | 117 => ⟨S8x2048x2048, .i1⟩
  | 118 => ⟨S8x2048x2048, .f32⟩
  | 119 => ⟨S8x2048x2048, .f32⟩
  | 120 => ⟨S_, .f32⟩
  | 121 => ⟨S8x2048, .f32⟩
  | 122 => ⟨S2048x8, .f32⟩
  | 123 => ⟨S2048x8x1, .f32⟩
  | 124 => ⟨S2048x8x1, .f32⟩
  | 125 => ⟨S2048x8x64, .f32⟩
  | 126 => ⟨S2048x512, .f32⟩
  | 127 => ⟨S4096x512, .bf16⟩
  | _ => ⟨S2048x512, .f32⟩

abbrev hbmTy0_1 (i : Nat) : BufTy := match i % 128 with
  | 0 => ⟨S16x256x4x128, .f32⟩
  | 1 => ⟨S4x16x128x256, .f32⟩
  | 2 => ⟨S4x16x128x256, .bf16⟩
  | 3 => ⟨S16x256x4x128, .f32⟩
  | 4 => ⟨S4x16x128x256, .f32⟩
  | 5 => ⟨S4x16x128x256, .bf16⟩
  | 6 => ⟨S_, .f32⟩
  | 7 => ⟨S8x128, .f32⟩
  | 8 => ⟨S256x256, .i32⟩
  | 9 => ⟨S256x256, .i32⟩
  | 10 => ⟨S256x256, .i1⟩
  | 11 => ⟨S256x256, .i1⟩
  | 12 => ⟨S256x256, .i1⟩
  | 13 => ⟨S_, .i32⟩
  | 14 => ⟨S_, .i32⟩
  | 15 => ⟨S256x256, .i32⟩
  | 16 => ⟨S256x256, .i32⟩
  | 17 => ⟨S256x256, .i32⟩
  | 18 => ⟨S_, .i32⟩
  | 19 => ⟨S256x256, .i32⟩
  | 20 => ⟨S256x256, .i1⟩
  | 21 => ⟨S256x256, .i32⟩
  | 22 => ⟨S256x256, .i32⟩
  | 23 => ⟨S_, .i32⟩
  | 24 => ⟨S256x256, .i32⟩
  | 25 => ⟨S256x256, .i1⟩
  | 26 => ⟨S256x256, .i1⟩
  | 27 => ⟨S_, .i32⟩
  | 28 => ⟨S256x256, .i32⟩
  | 29 => ⟨S256x256, .i32⟩
  | 30 => ⟨S256x256, .i32⟩
  | 31 => ⟨S_, .i32⟩
  | 32 => ⟨S_, .i32⟩
  | 33 => ⟨S256x256, .i32⟩
  | 34 => ⟨S256x256, .i32⟩
  | 35 => ⟨S256x256, .i32⟩
  | 36 => ⟨S_, .i32⟩
  | 37 => ⟨S256x256, .i32⟩
  | 38 => ⟨S256x256, .i1⟩
  | 39 => ⟨S256x256, .i32⟩
  | 40 => ⟨S256x256, .i32⟩
  | 41 => ⟨S_, .i32⟩
  | 42 => ⟨S256x256, .i32⟩
  | 43 => ⟨S256x256, .i1⟩
  | 44 => ⟨S256x256, .i1⟩
  | 45 => ⟨S_, .i32⟩
  | 46 => ⟨S256x256, .i32⟩
  | 47 => ⟨S256x256, .i32⟩
  | 48 => ⟨S256x256, .i32⟩
  | 49 => ⟨S256x256, .i1⟩
  | 50 => ⟨S256x256, .i1⟩
  | 51 => ⟨S_, .f32⟩
  | 52 => ⟨S_, .f32⟩
  | 53 => ⟨S256x256, .f32⟩
  | 54 => ⟨S256x256, .f32⟩
  | 55 => ⟨S256x256, .f32⟩
  | 56 => ⟨S256x256, .bf16⟩
  | 57 => ⟨S256x256, .i32⟩
  | 58 => ⟨S256x256, .i32⟩
  | 59 => ⟨S256x256, .i1⟩
  | 60 => ⟨S256x256, .i1⟩
  | 61 => ⟨S256x256, .i1⟩
  | 62 => ⟨S_, .i32⟩
  | 63 => ⟨S_, .i32⟩
  | 64 => ⟨S256x256, .i32⟩
  | 65 => ⟨S256x256, .i32⟩
  | 66 => ⟨S256x256, .i32⟩
  | 67 => ⟨S_, .i32⟩
  | 68 => ⟨S256x256, .i32⟩
  | 69 => ⟨S256x256, .i1⟩
  | 70 => ⟨S256x256, .i32⟩
  | 71 => ⟨S256x256, .i32⟩
  | 72 => ⟨S_, .i32⟩
  | 73 => ⟨S256x256, .i32⟩
  | 74 => ⟨S256x256, .i1⟩
  | 75 => ⟨S256x256, .i1⟩
  | 76 => ⟨S_, .i32⟩
  | 77 => ⟨S256x256, .i32⟩
  | 78 => ⟨S256x256, .i32⟩
  | 79 => ⟨S256x256, .i32⟩
  | 80 => ⟨S_, .i32⟩
  | 81 => ⟨S_, .i32⟩
  | 82 => ⟨S256x256, .i32⟩
  | 83 => ⟨S256x256, .i32⟩
  | 84 => ⟨S256x256, .i32⟩
  | 85 => ⟨S_, .i32⟩
  | 86 => ⟨S256x256, .i32⟩
  | 87 => ⟨S256x256, .i1⟩
  | 88 => ⟨S256x256, .i32⟩
  | 89 => ⟨S256x256, .i32⟩
  | 90 => ⟨S_, .i32⟩
  | 91 => ⟨S256x256, .i32⟩
  | 92 => ⟨S256x256, .i1⟩
  | 93 => ⟨S256x256, .i1⟩
  | 94 => ⟨S_, .i32⟩
  | 95 => ⟨S256x256, .i32⟩
  | 96 => ⟨S256x256, .i32⟩
  | 97 => ⟨S256x256, .i32⟩
  | 98 => ⟨S256x256, .i1⟩
  | 99 => ⟨S256x256, .i1⟩
  | 100 => ⟨S_, .f32⟩
  | 101 => ⟨S_, .f32⟩
  | 102 => ⟨S256x256, .f32⟩
  | 103 => ⟨S256x256, .f32⟩
  | 104 => ⟨S256x256, .f32⟩
  | 105 => ⟨S256x256, .bf16⟩
  | 106 => ⟨S2048x512, .f32⟩
  | 107 => ⟨S4x16x128x256, .f32⟩
  | 108 => ⟨S4x16x128x256, .f32⟩
  | 109 => ⟨S_, .f32⟩
  | 110 => ⟨S2048x512, .f32⟩
  | 111 => ⟨S2048x512, .f32⟩
  | 112 => ⟨S4x16x2x64x2x128, .f32⟩
  | 113 => ⟨S4x16x1x64x1x128, .f32⟩
  | 114 => ⟨S4x16x64x128, .f32⟩
  | 115 => ⟨S4x16x1x64x1x128, .f32⟩
  | 116 => ⟨S4x16x64x128, .f32⟩
  | 117 => ⟨S4x16x1x64x128, .f32⟩
  | 118 => ⟨S4x16x1x64x128, .f32⟩
  | 119 => ⟨S4x16x2x64x128, .f32⟩
  | 120 => ⟨S16x128x4x2x64, .f32⟩
  | 121 => ⟨S2048x512, .f32⟩
  | 122 => ⟨S4x16x2x64x2x128, .f32⟩
  | 123 => ⟨S4x16x1x64x1x128, .f32⟩
  | 124 => ⟨S4x16x64x128, .f32⟩
  | 125 => ⟨S4x16x1x64x1x128, .f32⟩
  | 126 => ⟨S4x16x64x128, .f32⟩
  | 127 => ⟨S4x16x1x64x128, .f32⟩
  | _ => ⟨S2048x512, .f32⟩

abbrev hbmTy0_2 (i : Nat) : BufTy := match i % 128 with
  | 0 => ⟨S4x16x1x64x128, .f32⟩
  | 1 => ⟨S4x16x2x64x128, .f32⟩
  | 2 => ⟨S16x128x4x2x64, .f32⟩
  | 3 => ⟨S2048x512, .f32⟩
  | _ => ⟨S2048x512, .f32⟩

abbrev hbmTy (i : Nat) : BufTy := match i / 128 with
  | 0 => hbmTy0_0 i
  | 1 => hbmTy0_1 i
  | 2 => hbmTy0_2 i
  | _ => ⟨S2048x512, .f32⟩

abbrev bufTy : (tb : Table) → Fin (tcTables nBuf tb) → BufTy
  | .hbm, ⟨i, _⟩ => hbmTy i
  | .local _ .vmem, ⟨0, _⟩ => ⟨S1024x128, .bf16⟩
  | .local _ .vmem, ⟨1, _⟩ => ⟨S1024x128, .bf16⟩
  | .local _ .vmem, ⟨2, _⟩ => ⟨S4096x128, .bf16⟩
  | .local _ .vmem, ⟨3, _⟩ => ⟨S4096x128, .bf16⟩
  | .local _ .vmem, ⟨4, _⟩ => ⟨S1x16x128x256, .bf16⟩
  | .local _ .vmem, ⟨5, _⟩ => ⟨S1x16x128x256, .bf16⟩
  | .local _ .vmem, ⟨6, _⟩ => ⟨S1x16x128x256, .bf16⟩
  | .local _ .vmem, ⟨7, _⟩ => ⟨S1x16x128x256, .bf16⟩
  | .local _ .vmem, ⟨8, _⟩ => ⟨S1024x128, .f32⟩
  | .local _ .vmem, ⟨9, _⟩ => ⟨S1024x128, .f32⟩
  | .local _ .vmem, ⟨10, _⟩ => ⟨S1024x128, .f32⟩
  | .local _ .vmem, ⟨11, _⟩ => ⟨S1024x128, .f32⟩
  | .local _ .vmem, ⟨12, _⟩ => ⟨S256x256, .bf16⟩
  | .local _ .vmem, ⟨13, _⟩ => ⟨S256x256, .bf16⟩
  | .local _ .vmem, ⟨14, _⟩ => ⟨S1024x128, .f32⟩
  | .local _ .vmem, ⟨15, _⟩ => ⟨S1024x128, .f32⟩
  | .local _ .vmem, ⟨16, _⟩ => ⟨S1x16x128x256, .f32⟩
  | .local _ .vmem, ⟨17, _⟩ => ⟨S1x16x128x256, .f32⟩
  | .local _ .vmem, ⟨18, _⟩ => ⟨S1x16x128x256, .f32⟩
  | .local _ .vmem, ⟨19, _⟩ => ⟨S1x16x128x256, .f32⟩
  | .local _ .vmem, ⟨20, _⟩ => ⟨S1x1024x256, .f32⟩
  | .local _ .vmem, ⟨21, _⟩ => ⟨S1x1024x256, .f32⟩
  | .local _ .vmem, ⟨22, _⟩ => ⟨S1x1024x256, .bf16⟩
  | .local _ .vmem, ⟨23, _⟩ => ⟨S1x1024x256, .bf16⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_call0_v0 : Ref sig .tc := ⟨.hbm, 10, rfl⟩
abbrev main_call0_c : Ref sig .tc := ⟨.hbm, 11, rfl⟩
abbrev main_call0_v1 : Ref sig .tc := ⟨.hbm, 12, rfl⟩
abbrev main_call0_c_0 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_1 : Ref sig .tc := ⟨.hbm, 17, rfl⟩
abbrev main_call0_v5 : Ref sig .tc := ⟨.hbm, 18, rfl⟩
abbrev main_call0_v6 : Ref sig .tc := ⟨.hbm, 19, rfl⟩
abbrev main_call0_c_2 : Ref sig .tc := ⟨.hbm, 20, rfl⟩
abbrev main_call0_v7 : Ref sig .tc := ⟨.hbm, 21, rfl⟩
abbrev main_call0_v8 : Ref sig .tc := ⟨.hbm, 22, rfl⟩
abbrev main_call0_c_3 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_v12 : Ref sig .tc := ⟨.hbm, 27, rfl⟩
abbrev main_call0_v13 : Ref sig .tc := ⟨.hbm, 28, rfl⟩
abbrev main_call0_v14 : Ref sig .tc := ⟨.hbm, 29, rfl⟩
abbrev main_v4 : Ref sig .tc := ⟨.hbm, 30, rfl⟩
abbrev main_c_0 : Ref sig .tc := ⟨.hbm, 31, rfl⟩
abbrev main_v5 : Ref sig .tc := ⟨.hbm, 32, rfl⟩
abbrev main_v6 : Ref sig .tc := ⟨.hbm, 33, rfl⟩
abbrev main_cst_1 : Ref sig .tc := ⟨.hbm, 34, rfl⟩
abbrev main_call1_v0 : Ref sig .tc := ⟨.hbm, 35, rfl⟩
abbrev main_call1_v1 : Ref sig .tc := ⟨.hbm, 36, rfl⟩
abbrev main_v7 : Ref sig .tc := ⟨.hbm, 37, rfl⟩
abbrev main_v8 : Ref sig .tc := ⟨.hbm, 38, rfl⟩
abbrev main_cst_2 : Ref sig .tc := ⟨.hbm, 39, rfl⟩
abbrev main_call2_v0 : Ref sig .tc := ⟨.hbm, 40, rfl⟩
abbrev main_call2_v1 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_c_3 : Ref sig .tc := ⟨.hbm, 47, rfl⟩
abbrev main_call3_v0 : Ref sig .tc := ⟨.hbm, 48, rfl⟩
abbrev main_call3_c : Ref sig .tc := ⟨.hbm, 49, rfl⟩
abbrev main_call3_v1 : Ref sig .tc := ⟨.hbm, 50, rfl⟩
abbrev main_call3_c_0 : Ref sig .tc := ⟨.hbm, 51, rfl⟩
abbrev main_call3_v2 : Ref sig .tc := ⟨.hbm, 52, rfl⟩
abbrev main_call3_v3 : Ref sig .tc := ⟨.hbm, 53, rfl⟩
abbrev main_call3_v4 : Ref sig .tc := ⟨.hbm, 54, rfl⟩
abbrev main_call3_c_1 : Ref sig .tc := ⟨.hbm, 55, rfl⟩
abbrev main_call3_v5 : Ref sig .tc := ⟨.hbm, 56, rfl⟩
abbrev main_call3_v6 : Ref sig .tc := ⟨.hbm, 57, rfl⟩
abbrev main_call3_c_2 : Ref sig .tc := ⟨.hbm, 58, rfl⟩
abbrev main_call3_v7 : Ref sig .tc := ⟨.hbm, 59, rfl⟩
abbrev main_call3_v8 : Ref sig .tc := ⟨.hbm, 60, rfl⟩
abbrev main_call3_c_3 : Ref sig .tc := ⟨.hbm, 61, rfl⟩
abbrev main_call3_v9 : Ref sig .tc := ⟨.hbm, 62, rfl⟩
abbrev main_call3_v10 : Ref sig .tc := ⟨.hbm, 63, rfl⟩
abbrev main_call3_v11 : Ref sig .tc := ⟨.hbm, 64, rfl⟩
abbrev main_call3_v12 : Ref sig .tc := ⟨.hbm, 65, rfl⟩
abbrev main_call3_v13 : Ref sig .tc := ⟨.hbm, 66, rfl⟩
abbrev main_call3_v14 : Ref sig .tc := ⟨.hbm, 67, rfl⟩
abbrev main_v14 : Ref sig .tc := ⟨.hbm, 68, rfl⟩
abbrev main_c_4 : Ref sig .tc := ⟨.hbm, 69, rfl⟩
abbrev main_v15 : Ref sig .tc := ⟨.hbm, 70, rfl⟩
abbrev main_v16 : Ref sig .tc := ⟨.hbm, 71, rfl⟩
abbrev main_cst_5 : Ref sig .tc := ⟨.hbm, 72, rfl⟩
abbrev main_call4_v0 : Ref sig .tc := ⟨.hbm, 73, rfl⟩
abbrev main_call4_v1 : Ref sig .tc := ⟨.hbm, 74, rfl⟩
abbrev main_v17 : Ref sig .tc := ⟨.hbm, 75, rfl⟩
abbrev main_v18 : Ref sig .tc := ⟨.hbm, 76, rfl⟩
abbrev main_cst_6 : Ref sig .tc := ⟨.hbm, 77, rfl⟩
abbrev main_call5_v0 : Ref sig .tc := ⟨.hbm, 78, rfl⟩
abbrev main_call5_v1 : Ref sig .tc := ⟨.hbm, 79, rfl⟩
abbrev main_v19 : Ref sig .tc := ⟨.hbm, 80, rfl⟩
abbrev main_v20 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_7 : Ref sig .tc := ⟨.hbm, 89, rfl⟩
abbrev main_v28 : Ref sig .tc := ⟨.hbm, 90, rfl⟩
abbrev main_v29 : Ref sig .tc := ⟨.hbm, 91, rfl⟩
abbrev main_v30 : Ref sig .tc := ⟨.hbm, 92, rfl⟩
abbrev main_v31 : Ref sig .tc := ⟨.hbm, 93, rfl⟩
abbrev main_v32 : Ref sig .tc := ⟨.hbm, 94, rfl⟩
abbrev main_v33 : Ref sig .tc := ⟨.hbm, 95, rfl⟩
abbrev main_v34 : Ref sig .tc := ⟨.hbm, 96, rfl⟩
abbrev main_v35 : Ref sig .tc := ⟨.hbm, 97, rfl⟩
abbrev main_v36 : Ref sig .tc := ⟨.hbm, 98, rfl⟩
abbrev main_call6_v0 : Ref sig .tc := ⟨.hbm, 99, rfl⟩
abbrev main_call6_call0_cst : Ref sig .tc := ⟨.hbm, 100, rfl⟩
abbrev main_call6_call0_v0 : Ref sig .tc := ⟨.hbm, 101, rfl⟩
abbrev main_call6_call0_v1 : Ref sig .tc := ⟨.hbm, 102, rfl⟩
abbrev main_call6_call0_v2 : Ref sig .tc := ⟨.hbm, 103, rfl⟩
abbrev main_call6_call0_v3 : Ref sig .tc := ⟨.hbm, 104, rfl⟩
abbrev main_call6_call0_v4 : Ref sig .tc := ⟨.hbm, 105, rfl⟩
abbrev main_call6_call0_v5 : Ref sig .tc := ⟨.hbm, 106, rfl⟩
abbrev main_call6_call0_v6 : Ref sig .tc := ⟨.hbm, 107, rfl⟩
abbrev main_call6_call0_v7 : Ref sig .tc := ⟨.hbm, 108, rfl⟩
abbrev main_call6_call0_v8 : Ref sig .tc := ⟨.hbm, 109, rfl⟩
abbrev main_call6_call0_v9 : Ref sig .tc := ⟨.hbm, 110, rfl⟩
abbrev main_call6_call0_v10 : Ref sig .tc := ⟨.hbm, 111, rfl⟩
abbrev main_call6_call0_v11 : Ref sig .tc := ⟨.hbm, 112, rfl⟩
abbrev main_call6_v1 : Ref sig .tc := ⟨.hbm, 113, rfl⟩
abbrev main_v37 : Ref sig .tc := ⟨.hbm, 114, rfl⟩
abbrev main_cst_8 : Ref sig .tc := ⟨.hbm, 115, rfl⟩
abbrev main_call7_v0 : Ref sig .tc := ⟨.hbm, 116, rfl⟩
abbrev main_call7_v1 : Ref sig .tc := ⟨.hbm, 117, rfl⟩
abbrev main_call7_v2 : Ref sig .tc := ⟨.hbm, 118, rfl⟩
abbrev main_v38 : Ref sig .tc := ⟨.hbm, 119, rfl⟩
abbrev main_cst_9 : Ref sig .tc := ⟨.hbm, 120, rfl⟩
abbrev main_v39 : Ref sig .tc := ⟨.hbm, 121, rfl⟩
abbrev main_v40 : Ref sig .tc := ⟨.hbm, 122, rfl⟩
abbrev main_v41 : Ref sig .tc := ⟨.hbm, 123, rfl⟩
abbrev main_v42 : Ref sig .tc := ⟨.hbm, 124, rfl⟩
abbrev main_v43 : Ref sig .tc := ⟨.hbm, 125, rfl⟩
abbrev main_v44 : Ref sig .tc := ⟨.hbm, 126, rfl⟩
abbrev main_v45 : Ref sig .tc := ⟨.hbm, 127, rfl⟩
abbrev main_v46 : Ref sig .tc := ⟨.hbm, 128, rfl⟩
abbrev main_v47 : Ref sig .tc := ⟨.hbm, 129, rfl⟩
abbrev main_v48 : Ref sig .tc := ⟨.hbm, 130, rfl⟩
abbrev main_v49 : Ref sig .tc := ⟨.hbm, 131, rfl⟩
abbrev main_v50 : Ref sig .tc := ⟨.hbm, 132, rfl⟩
abbrev main_v51 : Ref sig .tc := ⟨.hbm, 133, rfl⟩
abbrev main_cst_10 : Ref sig .tc := ⟨.hbm, 134, rfl⟩
abbrev main_v52 : Ref sig .tc := ⟨.hbm, 135, rfl⟩
abbrev main_v53 : Ref sig .tc := ⟨.hbm, 136, rfl⟩
abbrev main_v54 : Ref sig .tc := ⟨.hbm, 137, rfl⟩
abbrev main_v55 : Ref sig .tc := ⟨.hbm, 138, rfl⟩
abbrev main_v56 : Ref sig .tc := ⟨.hbm, 139, rfl⟩
abbrev main_v57 : Ref sig .tc := ⟨.hbm, 140, rfl⟩
abbrev main_c_11 : Ref sig .tc := ⟨.hbm, 141, rfl⟩
abbrev main_call8_v0 : Ref sig .tc := ⟨.hbm, 142, rfl⟩
abbrev main_call8_v1 : Ref sig .tc := ⟨.hbm, 143, rfl⟩
abbrev main_call8_v2 : Ref sig .tc := ⟨.hbm, 144, rfl⟩
abbrev main_call8_v3 : Ref sig .tc := ⟨.hbm, 145, rfl⟩
abbrev main_call8_v4 : Ref sig .tc := ⟨.hbm, 146, rfl⟩
abbrev main_call8_v5 : Ref sig .tc := ⟨.hbm, 147, rfl⟩
abbrev main_call8_v6 : Ref sig .tc := ⟨.hbm, 148, rfl⟩
abbrev main_call8_v7 : Ref sig .tc := ⟨.hbm, 149, rfl⟩
abbrev main_call8_v8 : Ref sig .tc := ⟨.hbm, 150, rfl⟩
abbrev main_call8_c : Ref sig .tc := ⟨.hbm, 151, rfl⟩
abbrev main_call8_v9 : Ref sig .tc := ⟨.hbm, 152, rfl⟩
abbrev main_call8_v10 : Ref sig .tc := ⟨.hbm, 153, rfl⟩
abbrev main_call8_v11 : Ref sig .tc := ⟨.hbm, 154, rfl⟩
abbrev main_call8_c_0 : Ref sig .tc := ⟨.hbm, 155, rfl⟩
abbrev main_call8_v12 : Ref sig .tc := ⟨.hbm, 156, rfl⟩
abbrev main_call8_v13 : Ref sig .tc := ⟨.hbm, 157, rfl⟩
abbrev main_v58 : Ref sig .tc := ⟨.hbm, 158, rfl⟩
abbrev main_c_12 : Ref sig .tc := ⟨.hbm, 159, rfl⟩
abbrev main_call9_v0 : Ref sig .tc := ⟨.hbm, 160, rfl⟩
abbrev main_call9_v1 : Ref sig .tc := ⟨.hbm, 161, rfl⟩
abbrev main_call9_v2 : Ref sig .tc := ⟨.hbm, 162, rfl⟩
abbrev main_call9_v3 : Ref sig .tc := ⟨.hbm, 163, rfl⟩
abbrev main_call9_v4 : Ref sig .tc := ⟨.hbm, 164, rfl⟩
abbrev main_call9_v5 : Ref sig .tc := ⟨.hbm, 165, rfl⟩
abbrev main_call9_v6 : Ref sig .tc := ⟨.hbm, 166, rfl⟩
abbrev main_call9_v7 : Ref sig .tc := ⟨.hbm, 167, rfl⟩
abbrev main_call9_v8 : Ref sig .tc := ⟨.hbm, 168, rfl⟩
abbrev main_call9_c : Ref sig .tc := ⟨.hbm, 169, rfl⟩
abbrev main_call9_v9 : Ref sig .tc := ⟨.hbm, 170, rfl⟩
abbrev main_call9_v10 : Ref sig .tc := ⟨.hbm, 171, rfl⟩
abbrev main_call9_v11 : Ref sig .tc := ⟨.hbm, 172, rfl⟩
abbrev main_call9_c_0 : Ref sig .tc := ⟨.hbm, 173, rfl⟩
abbrev main_call9_v12 : Ref sig .tc := ⟨.hbm, 174, rfl⟩
abbrev main_call9_v13 : Ref sig .tc := ⟨.hbm, 175, rfl⟩
abbrev main_v59 : Ref sig .tc := ⟨.hbm, 176, rfl⟩
abbrev main_v60 : Ref sig .tc := ⟨.hbm, 177, rfl⟩
abbrev main_v61 : Ref sig .tc := ⟨.hbm, 178, rfl⟩
abbrev main_cst_13 : Ref sig .tc := ⟨.hbm, 179, rfl⟩
abbrev main_cst_14 : Ref sig .tc := ⟨.hbm, 180, rfl⟩
abbrev main_call10_v0 : Ref sig .tc := ⟨.hbm, 181, rfl⟩
abbrev main_call10_v1 : Ref sig .tc := ⟨.hbm, 182, rfl⟩
abbrev main_v62 : Ref sig .tc := ⟨.hbm, 183, rfl⟩
abbrev main_v63 : Ref sig .tc := ⟨.hbm, 184, rfl⟩
abbrev main_v64 : Ref sig .tc := ⟨.hbm, 185, rfl⟩
abbrev main_v65 : Ref sig .tc := ⟨.hbm, 186, rfl⟩
abbrev main_v66 : Ref sig .tc := ⟨.hbm, 187, rfl⟩
abbrev main_v67 : Ref sig .tc := ⟨.hbm, 188, rfl⟩
abbrev main_v68 : Ref sig .tc := ⟨.hbm, 189, rfl⟩
abbrev main_c_15 : Ref sig .tc := ⟨.hbm, 190, rfl⟩
abbrev main_call11_v0 : Ref sig .tc := ⟨.hbm, 191, rfl⟩
abbrev main_call11_v1 : Ref sig .tc := ⟨.hbm, 192, rfl⟩
abbrev main_call11_v2 : Ref sig .tc := ⟨.hbm, 193, rfl⟩
abbrev main_call11_v3 : Ref sig .tc := ⟨.hbm, 194, rfl⟩
abbrev main_call11_v4 : Ref sig .tc := ⟨.hbm, 195, rfl⟩
abbrev main_call11_v5 : Ref sig .tc := ⟨.hbm, 196, rfl⟩
abbrev main_call11_v6 : Ref sig .tc := ⟨.hbm, 197, rfl⟩
abbrev main_call11_v7 : Ref sig .tc := ⟨.hbm, 198, rfl⟩
abbrev main_call11_v8 : Ref sig .tc := ⟨.hbm, 199, rfl⟩
abbrev main_call11_c : Ref sig .tc := ⟨.hbm, 200, rfl⟩
abbrev main_call11_v9 : Ref sig .tc := ⟨.hbm, 201, rfl⟩
abbrev main_call11_v10 : Ref sig .tc := ⟨.hbm, 202, rfl⟩
abbrev main_call11_v11 : Ref sig .tc := ⟨.hbm, 203, rfl⟩
abbrev main_call11_c_0 : Ref sig .tc := ⟨.hbm, 204, rfl⟩
abbrev main_call11_v12 : Ref sig .tc := ⟨.hbm, 205, rfl⟩
abbrev main_call11_v13 : Ref sig .tc := ⟨.hbm, 206, rfl⟩
abbrev main_v69 : Ref sig .tc := ⟨.hbm, 207, rfl⟩
abbrev main_c_16 : Ref sig .tc := ⟨.hbm, 208, rfl⟩
abbrev main_call12_v0 : Ref sig .tc := ⟨.hbm, 209, rfl⟩
abbrev main_call12_v1 : Ref sig .tc := ⟨.hbm, 210, rfl⟩
abbrev main_call12_v2 : Ref sig .tc := ⟨.hbm, 211, rfl⟩
abbrev main_call12_v3 : Ref sig .tc := ⟨.hbm, 212, rfl⟩
abbrev main_call12_v4 : Ref sig .tc := ⟨.hbm, 213, rfl⟩
abbrev main_call12_v5 : Ref sig .tc := ⟨.hbm, 214, rfl⟩
abbrev main_call12_v6 : Ref sig .tc := ⟨.hbm, 215, rfl⟩
abbrev main_call12_v7 : Ref sig .tc := ⟨.hbm, 216, rfl⟩
abbrev main_call12_v8 : Ref sig .tc := ⟨.hbm, 217, rfl⟩
abbrev main_call12_c : Ref sig .tc := ⟨.hbm, 218, rfl⟩
abbrev main_call12_v9 : Ref sig .tc := ⟨.hbm, 219, rfl⟩
abbrev main_call12_v10 : Ref sig .tc := ⟨.hbm, 220, rfl⟩
abbrev main_call12_v11 : Ref sig .tc := ⟨.hbm, 221, rfl⟩
abbrev main_call12_c_0 : Ref sig .tc := ⟨.hbm, 222, rfl⟩
abbrev main_call12_v12 : Ref sig .tc := ⟨.hbm, 223, rfl⟩
abbrev main_call12_v13 : Ref sig .tc := ⟨.hbm, 224, rfl⟩
abbrev main_v70 : Ref sig .tc := ⟨.hbm, 225, rfl⟩
abbrev main_v71 : Ref sig .tc := ⟨.hbm, 226, rfl⟩
abbrev main_v72 : Ref sig .tc := ⟨.hbm, 227, rfl⟩
abbrev main_cst_17 : Ref sig .tc := ⟨.hbm, 228, rfl⟩
abbrev main_cst_18 : Ref sig .tc := ⟨.hbm, 229, rfl⟩
abbrev main_call13_v0 : Ref sig .tc := ⟨.hbm, 230, rfl⟩
abbrev main_call13_v1 : Ref sig .tc := ⟨.hbm, 231, rfl⟩
abbrev main_v73 : Ref sig .tc := ⟨.hbm, 232, rfl⟩
abbrev main_v74 : Ref sig .tc := ⟨.hbm, 233, rfl⟩
abbrev main_v75_0 : Ref sig .tc := ⟨.hbm, 234, rfl⟩
abbrev main_v75_1 : Ref sig .tc := ⟨.hbm, 235, rfl⟩
abbrev main_v75_2 : Ref sig .tc := ⟨.hbm, 236, rfl⟩
abbrev main_cst_19 : Ref sig .tc := ⟨.hbm, 237, rfl⟩
abbrev main_v76 : Ref sig .tc := ⟨.hbm, 238, rfl⟩
abbrev main_v77 : Ref sig .tc := ⟨.hbm, 239, rfl⟩
abbrev main_v78 : Ref sig .tc := ⟨.hbm, 240, rfl⟩
abbrev main_v79 : Ref sig .tc := ⟨.hbm, 241, rfl⟩
abbrev main_v80 : Ref sig .tc := ⟨.hbm, 242, rfl⟩
abbrev main_v81 : Ref sig .tc := ⟨.hbm, 243, rfl⟩
abbrev main_v82 : Ref sig .tc := ⟨.hbm, 244, rfl⟩
abbrev main_v83 : Ref sig .tc := ⟨.hbm, 245, rfl⟩
abbrev main_v84 : Ref sig .tc := ⟨.hbm, 246, rfl⟩
abbrev main_v85 : Ref sig .tc := ⟨.hbm, 247, rfl⟩
abbrev main_v86 : Ref sig .tc := ⟨.hbm, 248, rfl⟩
abbrev main_v87 : Ref sig .tc := ⟨.hbm, 249, rfl⟩
abbrev main_v88 : Ref sig .tc := ⟨.hbm, 250, rfl⟩
abbrev main_v89 : Ref sig .tc := ⟨.hbm, 251, rfl⟩
abbrev main_v90 : Ref sig .tc := ⟨.hbm, 252, rfl⟩
abbrev main_v91 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨2, ![4, 2], ![false, false]⟩

@[reducible] def k0_t1_loop (i : grid0.Coords) : Scf.Loop 32 :=
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let c1_i32_39 : BitVec 32 := 1#32
  ⟨c0_i32_37, v54, c1_i32_39⟩
def k0_off1 (i : grid0.Coords) (k0_t1 : Fin (k0_t1_loop i).trips) : Fin 4 → Nat :=
  let c0_808 : Index := 0#32
  let c0_i32_37 : BitVec 32 := 0#32
  let c1_i32_39 : BitVec 32 := 1#32
  let arg18 : BitVec 32 := Scf.iv c0_i32_37 c1_i32_39 k0_t1
  let c1_i32_807 : BitVec 32 := 1#32
  let v1870 : BitVec 32 := Scalar.addi arg18 c1_i32_807
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c1_i32 : BitVec 32 := 1#32
  let v2 : BitVec 32 := Scalar.subi v1 c1_i32
  let v1871 : BitVec 32 := Scalar.minsi v1870 v2
  let v1872 : Index := Scalar.indexCast v1871
  let c0_809 : Index := 0#32
  let c0_810 : Index := 0#32
  ![0, v1872.toNat, 0, 0]
def k0_off2 (i : grid0.Coords) (k0_t1 : Fin (k0_t1_loop i).trips) : Fin 4 → Nat :=
  let c0_821 : Index := 0#32
  let c0_i32_37 : BitVec 32 := 0#32
  let c1_i32_39 : BitVec 32 := 1#32
  let arg18 : BitVec 32 := Scf.iv c0_i32_37 c1_i32_39 k0_t1
  let c1_i32_816 : BitVec 32 := 1#32
  let v1880 : BitVec 32 := Scalar.subi arg18 c1_i32_816
  let c0_i32_817 : BitVec 32 := 0#32
  let v1881 : BitVec 32 := Scalar.maxsi v1880 c0_i32_817
  let v1884 : Index := Scalar.indexCast v1881
  let c0_822 : Index := 0#32
  let c0_823 : Index := 0#32
  ![0, v1884.toNat, 0, 0]
def k0_mult1 (i : grid0.Coords) (k0_t1 : Fin (k0_t1_loop i).trips) : BitVec 32 :=
  let c0_i32_37 : BitVec 32 := 0#32
  let c1_i32_39 : BitVec 32 := 1#32
  let arg18 : BitVec 32 := Scf.iv c0_i32_37 c1_i32_39 k0_t1
  let c1_i32_816 : BitVec 32 := 1#32
  let v1880 : BitVec 32 := Scalar.subi arg18 c1_i32_816
  let c0_i32_817 : BitVec 32 := 0#32
  let v1881 : BitVec 32 := Scalar.maxsi v1880 c0_i32_817
  let c256_i32_838 : BitVec 32 := 256#32
  let v1904 : BitVec 32 := Scalar.muli v1881 c256_i32_838
  v1904
def k0_off3 (i : grid0.Coords) (k0_t1 : Fin (k0_t1_loop i).trips) : Fin 2 → Nat :=
  let c0_i32_37 : BitVec 32 := 0#32
  let c1_i32_39 : BitVec 32 := 1#32
  let arg18 : BitVec 32 := Scf.iv c0_i32_37 c1_i32_39 k0_t1
  let c1_i32_816 : BitVec 32 := 1#32
  let v1880 : BitVec 32 := Scalar.subi arg18 c1_i32_816
  let c0_i32_817 : BitVec 32 := 0#32
  let v1881 : BitVec 32 := Scalar.maxsi v1880 c0_i32_817
  let c256_i32_838 : BitVec 32 := 256#32
  let v1904 : BitVec 32 := Scalar.muli v1881 c256_i32_838
  let v1905 : BitVec 32 := v1904
  let v1906 : Index := Scalar.indexCast v1905
  let c0_839 : Index := 0#32
  ![v1906.toNat, 0]
@[reducible] def k0_t2_loop (i : grid0.Coords) : Scf.Loop 32 :=
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let v51 : BitVec 32 := Scalar.addi c0_i32_37 v50
  let c1_i32_40 : BitVec 32 := 1#32
  ⟨v54, v51, c1_i32_40⟩
def k0_off4 (i : grid0.Coords) (k0_t2 : Fin (k0_t2_loop i).trips) : Fin 4 → Nat :=
  let c0_808 : Index := 0#32
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let c1_i32_40 : BitVec 32 := 1#32
  let arg18 : BitVec 32 := Scf.iv v54 c1_i32_40 k0_t2
  let c1_i32_807 : BitVec 32 := 1#32
  let v1870 : BitVec 32 := Scalar.addi arg18 c1_i32_807
  let c8_i32_0 : BitVec 32 := 8#32
  let v1 : BitVec 32 := Scalar.addi v0 c8_i32_0
  let c1_i32 : BitVec 32 := 1#32
  let v2 : BitVec 32 := Scalar.subi v1 c1_i32
  let v1871 : BitVec 32 := Scalar.minsi v1870 v2
  let v1872 : Index := Scalar.indexCast v1871
  let c0_809 : Index := 0#32
  let c0_810 : Index := 0#32
  ![0, v1872.toNat, 0, 0]
def k0_off5 (i : grid0.Coords) (k0_t2 : Fin (k0_t2_loop i).trips) : Fin 4 → Nat :=
  let c0_821 : Index := 0#32
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let c1_i32_40 : BitVec 32 := 1#32
  let arg18 : BitVec 32 := Scf.iv v54 c1_i32_40 k0_t2
  let c1_i32_816 : BitVec 32 := 1#32
  let v1880 : BitVec 32 := Scalar.subi arg18 c1_i32_816
  let c0_i32_817 : BitVec 32 := 0#32
  let v1881 : BitVec 32 := Scalar.maxsi v1880 c0_i32_817
  let v1884 : Index := Scalar.indexCast v1881
  let c0_822 : Index := 0#32
  let c0_823 : Index := 0#32
  ![0, v1884.toNat, 0, 0]
def k0_mult2 (i : grid0.Coords) (k0_t2 : Fin (k0_t2_loop i).trips) : BitVec 32 :=
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let c1_i32_40 : BitVec 32 := 1#32
  let arg18 : BitVec 32 := Scf.iv v54 c1_i32_40 k0_t2
  let c1_i32_816 : BitVec 32 := 1#32
  let v1880 : BitVec 32 := Scalar.subi arg18 c1_i32_816
  let c0_i32_817 : BitVec 32 := 0#32
  let v1881 : BitVec 32 := Scalar.maxsi v1880 c0_i32_817
  let c256_i32_838 : BitVec 32 := 256#32
  let v1904 : BitVec 32 := Scalar.muli v1881 c256_i32_838
  v1904
def k0_off6 (i : grid0.Coords) (k0_t2 : Fin (k0_t2_loop i).trips) : Fin 2 → Nat :=
  let c0_i32_37 : BitVec 32 := 0#32
  let arg1 : BitVec 32 := BitVec.ofNat 32 (i 1).val
  let c8_i32 : BitVec 32 := 8#32
  let v0 : BitVec 32 := Scalar.muli arg1 c8_i32
  let v50 : BitVec 32 := Scalar.subi v0 c0_i32_37
  let c1_i32_38 : BitVec 32 := 1#32
  let v52 : BitVec 32 := Scalar.divsi v50 c1_i32_38
  let v53 : BitVec 32 := Scalar.muli v52 c1_i32_38
  let v54 : BitVec 32 := Scalar.addi c0_i32_37 v53
  let c1_i32_40 : BitVec 32 := 1#32
  let arg18 : BitVec 32 := Scf.iv v54 c1_i32_40 k0_t2
  let c1_i32_816 : BitVec 32 := 1#32
  let v1880 : BitVec 32 := Scalar.subi arg18 c1_i32_816
  let c0_i32_817 : BitVec 32 := 0#32
  let v1881 : BitVec 32 := Scalar.maxsi v1880 c0_i32_817
  let c256_i32_838 : BitVec 32 := 256#32
  let v1904 : BitVec 32 := Scalar.muli v1881 c256_i32_838
  let v1905 : BitVec 32 := v1904
  let v1906 : Index := Scalar.indexCast v1905
  let c0_839 : Index := 0#32
  ![v1906.toNat, 0]
def k0_off7 (i : grid0.Coords) (c0_i32_41 : BitVec 32) : Fin 4 → Nat :=
  let c0_43 : Index := 0#32
  let arg1 : BitVec 32 := BitVec.ofNat 32 (i 1).val
  let c8_i32 : BitVec 32 := 8#32
  let v0 : BitVec 32 := Scalar.muli arg1 c8_i32
  let v57 : BitVec 32 := Scalar.addi v0 c0_i32_41
  let c1_i32_42 : BitVec 32 := 1#32
  let v58 : BitVec 32 := Scalar.addi v57 c1_i32_42
  let c8_i32_0 : BitVec 32 := 8#32
  let v1 : BitVec 32 := Scalar.addi v0 c8_i32_0
  let c1_i32 : BitVec 32 := 1#32
  let v2 : BitVec 32 := Scalar.subi v1 c1_i32
  let v59 : BitVec 32 := Scalar.minsi v58 v2
  let v60 : Index := Scalar.indexCast v59
  let c0_44 : Index := 0#32
  let c0_45 : Index := 0#32
  ![0, v60.toNat, 0, 0]
def k0_off8 (i : grid0.Coords) (c0_i32_41 : BitVec 32) : Fin 4 → Nat :=
  let c0_56 : Index := 0#32
  let arg1 : BitVec 32 := BitVec.ofNat 32 (i 1).val
  let c8_i32 : BitVec 32 := 8#32
  let v0 : BitVec 32 := Scalar.muli arg1 c8_i32
  let v57 : BitVec 32 := Scalar.addi v0 c0_i32_41
  let c1_i32_51 : BitVec 32 := 1#32
  let v68 : BitVec 32 := Scalar.subi v57 c1_i32_51
  let c0_i32_52 : BitVec 32 := 0#32
  let v69 : BitVec 32 := Scalar.maxsi v68 c0_i32_52
  let v72 : Index := Scalar.indexCast v69
  let c0_57 : Index := 0#32
  let c0_58 : Index := 0#32
  ![0, v72.toNat, 0, 0]
def k0_mult3 (i : grid0.Coords) : BitVec 32 :=
  let arg1 : BitVec 32 := BitVec.ofNat 32 (i 1).val
  let c8_i32 : BitVec 32 := 8#32
  let v0 : BitVec 32 := Scalar.muli arg1 c8_i32
  let c0_i32_41 : BitVec 32 := 0#32
  let v57 : BitVec 32 := Scalar.addi v0 c0_i32_41
  let c1_i32_51 : BitVec 32 := 1#32
  let v68 : BitVec 32 := Scalar.subi v57 c1_i32_51
  let c0_i32_52 : BitVec 32 := 0#32
  let v69 : BitVec 32 := Scalar.maxsi v68 c0_i32_52
  let c256_i32 : BitVec 32 := 256#32
  let v92 : BitVec 32 := Scalar.muli v69 c256_i32
  v92
def k0_off9 (i : grid0.Coords) (c0_i32_41 : BitVec 32) : Fin 2 → Nat :=
  let arg1 : BitVec 32 := BitVec.ofNat 32 (i 1).val
  let c8_i32 : BitVec 32 := 8#32
  let v0 : BitVec 32 := Scalar.muli arg1 c8_i32
  let v57 : BitVec 32 := Scalar.addi v0 c0_i32_41
  let c1_i32_51 : BitVec 32 := 1#32
  let v68 : BitVec 32 := Scalar.subi v57 c1_i32_51
  let c0_i32_52 : BitVec 32 := 0#32
  let v69 : BitVec 32 := Scalar.maxsi v68 c0_i32_52
  let c256_i32 : BitVec 32 := 256#32
  let v92 : BitVec 32 := Scalar.muli v69 c256_i32
  let v93 : BitVec 32 := v92
  let v94 : Index := Scalar.indexCast v93
  let c0_73 : Index := 0#32
  ![v94.toNat, 0]
def k0_mult4 (i : grid0.Coords) : BitVec 32 :=
  let arg1 : BitVec 32 := BitVec.ofNat 32 (i 1).val
  let c8_i32 : BitVec 32 := 8#32
  let v0 : BitVec 32 := Scalar.muli arg1 c8_i32
  let c1_i32_134 : BitVec 32 := 1#32
  let v303 : BitVec 32 := Scalar.addi v0 c1_i32_134
  let c1_i32_144 : BitVec 32 := 1#32
  let v314 : BitVec 32 := Scalar.subi v303 c1_i32_144
  let c0_i32_145 : BitVec 32 := 0#32
  let v315 : BitVec 32 := Scalar.maxsi v314 c0_i32_145
  let c256_i32_166 : BitVec 32 := 256#32
  let v338 : BitVec 32 := Scalar.muli v315 c256_i32_166
  v338
def k0_mult5 (i : grid0.Coords) : BitVec 32 :=
  let arg1 : BitVec 32 := BitVec.ofNat 32 (i 1).val
  let c8_i32 : BitVec 32 := 8#32
  let v0 : BitVec 32 := Scalar.muli arg1 c8_i32
  let c2_i32 : BitVec 32 := 2#32
  let v561 : BitVec 32 := Scalar.addi v0 c2_i32
  let c1_i32_245 : BitVec 32 := 1#32
  let v572 : BitVec 32 := Scalar.subi v561 c1_i32_245
  let c0_i32_246 : BitVec 32 := 0#32
  let v573 : BitVec 32 := Scalar.maxsi v572 c0_i32_246
  let c256_i32_267 : BitVec 32 := 256#32
  let v596 : BitVec 32 := Scalar.muli v573 c256_i32_267
  v596
def k0_mult6 (i : grid0.Coords) : BitVec 32 :=
  let arg1 : BitVec 32 := BitVec.ofNat 32 (i 1).val
  let c8_i32 : BitVec 32 := 8#32
  let v0 : BitVec 32 := Scalar.muli arg1 c8_i32
  let c3_i32 : BitVec 32 := 3#32
  let v819 : BitVec 32 := Scalar.addi v0 c3_i32
  let c1_i32_346 : BitVec 32 := 1#32
  let v830 : BitVec 32 := Scalar.subi v819 c1_i32_346
  let c0_i32_347 : BitVec 32 := 0#32
  let v831 : BitVec 32 := Scalar.maxsi v830 c0_i32_347
  let c256_i32_368 : BitVec 32 := 256#32
  let v854 : BitVec 32 := Scalar.muli v831 c256_i32_368
  v854
def k0_mult7 (i : grid0.Coords) : BitVec 32 :=
  let arg1 : BitVec 32 := BitVec.ofNat 32 (i 1).val
  let c8_i32 : BitVec 32 := 8#32
  let v0 : BitVec 32 := Scalar.muli arg1 c8_i32
  let c4_i32 : BitVec 32 := 4#32
  let v1077 : BitVec 32 := Scalar.addi v0 c4_i32
  let c1_i32_447 : BitVec 32 := 1#32
  let v1088 : BitVec 32 := Scalar.subi v1077 c1_i32_447
  let c0_i32_448 : BitVec 32 := 0#32
  let v1089 : BitVec 32 := Scalar.maxsi v1088 c0_i32_448
  let c256_i32_469 : BitVec 32 := 256#32
  let v1112 : BitVec 32 := Scalar.muli v1089 c256_i32_469
  v1112
def k0_mult8 (i : grid0.Coords) : BitVec 32 :=
  let arg1 : BitVec 32 := BitVec.ofNat 32 (i 1).val
  let c8_i32 : BitVec 32 := 8#32
  let v0 : BitVec 32 := Scalar.muli arg1 c8_i32
  let c5_i32 : BitVec 32 := 5#32
  let v1274 : BitVec 32 := Scalar.addi v0 c5_i32
  let c1_i32_533 : BitVec 32 := 1#32
  let v1285 : BitVec 32 := Scalar.subi v1274 c1_i32_533
  let c0_i32_534 : BitVec 32 := 0#32
  let v1286 : BitVec 32 := Scalar.maxsi v1285 c0_i32_534
  let c256_i32_555 : BitVec 32 := 256#32
  let v1309 : BitVec 32 := Scalar.muli v1286 c256_i32_555
  v1309
def k0_mult9 (i : grid0.Coords) : BitVec 32 :=
  let arg1 : BitVec 32 := BitVec.ofNat 32 (i 1).val
  let c8_i32 : BitVec 32 := 8#32
  let v0 : BitVec 32 := Scalar.muli arg1 c8_i32
  let c6_i32 : BitVec 32 := 6#32
  let v1471 : BitVec 32 := Scalar.addi v0 c6_i32
  let c1_i32_619 : BitVec 32 := 1#32
  let v1482 : BitVec 32 := Scalar.subi v1471 c1_i32_619
  let c0_i32_620 : BitVec 32 := 0#32
  let v1483 : BitVec 32 := Scalar.maxsi v1482 c0_i32_620
  let c256_i32_641 : BitVec 32 := 256#32
  let v1506 : BitVec 32 := Scalar.muli v1483 c256_i32_641
  v1506
def k0_mult10 (i : grid0.Coords) : BitVec 32 :=
  let arg1 : BitVec 32 := BitVec.ofNat 32 (i 1).val
  let c8_i32 : BitVec 32 := 8#32
  let v0 : BitVec 32 := Scalar.muli arg1 c8_i32
  let c7_i32 : BitVec 32 := 7#32
  let v1668 : BitVec 32 := Scalar.addi v0 c7_i32
  let c1_i32_705 : BitVec 32 := 1#32
  let v1679 : BitVec 32 := Scalar.subi v1668 c1_i32_705
  let c0_i32_706 : BitVec 32 := 0#32
  let v1680 : BitVec 32 := Scalar.maxsi v1679 c0_i32_706
  let c256_i32_727 : BitVec 32 := 256#32
  let v1703 : BitVec 32 := Scalar.muli v1680 c256_i32_727
  v1703
def k0_off10 (i : grid0.Coords) : Fin 4 → Nat :=
  let c0_785 : Index := 0#32
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c1_i32 : BitVec 32 := 1#32
  let v2 : BitVec 32 := Scalar.subi v1 c1_i32
  let v1842 : Index := Scalar.indexCast v2
  let c0_786 : Index := 0#32
  let c0_787 : Index := 0#32
  ![0, v1842.toNat, 0, 0]
def k0_mult11 (i : grid0.Coords) : BitVec 32 :=
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c1_i32 : BitVec 32 := 1#32
  let v2 : BitVec 32 := Scalar.subi v1 c1_i32
  let c256_i32_802 : BitVec 32 := 256#32
  let v1862 : BitVec 32 := Scalar.muli v2 c256_i32_802
  v1862
def k0_off11 (i : grid0.Coords) : Fin 2 → Nat :=
  let arg1 : BitVec 32 := BitVec.ofNat 32 (i 1).val
  let c8_i32 : BitVec 32 := 8#32
  let v0 : BitVec 32 := Scalar.muli arg1 c8_i32
  let c8_i32_0 : BitVec 32 := 8#32
  let v1 : BitVec 32 := Scalar.addi v0 c8_i32_0
  let c1_i32 : BitVec 32 := 1#32
  let v2 : BitVec 32 := Scalar.subi v1 c1_i32
  let c256_i32_802 : BitVec 32 := 256#32
  let v1862 : BitVec 32 := Scalar.muli v2 c256_i32_802
  let v1863 : BitVec 32 := v1862
  let v1864 : Index := Scalar.indexCast v1863
  let c0_803 : Index := 0#32
  ![v1864.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1024x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4096x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x128x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x16x128x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x16x128x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== ReferenceIdeal.lean ====
abbrev S2048x512 : Shape := ⟨2, ![2048, 512]⟩
abbrev S2048x8x64 : Shape := ⟨3, ![2048, 8, 64]⟩
abbrev S8x2048x64 : Shape := ⟨3, ![8, 2048, 64]⟩
abbrev S8x2048x2048 : Shape := ⟨3, ![8, 2048, 2048]⟩
abbrev S_ : Shape := ⟨0, ![]⟩
abbrev S2048 : Shape := ⟨1, ![2048]⟩
abbrev S1x2048 : Shape := ⟨2, ![1, 2048]⟩
abbrev S2048x1 : Shape := ⟨2, ![2048, 1]⟩
abbrev S2048x2048 : Shape := ⟨2, ![2048, 2048]⟩
abbrev S8x64x2048 : Shape := ⟨3, ![8, 64, 2048]⟩

abbrev nBuf : Space → Nat
  | .hbm => 176
  | .vmem => 0
  | .smem => 0
  | _ => 0

abbrev hbmTy0_0 (i : Nat) : BufTy := match i % 128 with
  | 0 => ⟨S2048x512, .f32⟩
  | 1 => ⟨S2048x512, .f32⟩
  | 2 => ⟨S2048x512, .f32⟩
  | 3 => ⟨S2048x512, .f32⟩
  | 4 => ⟨S2048x8x64, .f32⟩
  | 5 => ⟨S8x2048x64, .f32⟩
  | 6 => ⟨S2048x8x64, .f32⟩
  | 7 => ⟨S8x2048x64, .f32⟩
  | 8 => ⟨S2048x8x64, .f32⟩
  | 9 => ⟨S8x2048x64, .f32⟩
  | 10 => ⟨S8x2048x2048, .f32⟩
  | 11 => ⟨S_, .f32⟩
  | 12 => ⟨S8x2048x2048, .f32⟩
  | 13 => ⟨S8x2048x2048, .f32⟩
  | 14 => ⟨S2048, .i32⟩
  | 15 => ⟨S1x2048, .i32⟩
  | 16 => ⟨S2048x1, .i32⟩
  | 17 => ⟨S2048x2048, .i32⟩
  | 18 => ⟨S2048x2048, .i32⟩
  | 19 => ⟨S2048x2048, .i1⟩
  | 20 => ⟨S8x2048x2048, .f32⟩
  | 21 => ⟨S8x2048x2048, .f32⟩
  | 22 => ⟨S_, .f32⟩
  | 23 => ⟨S8x2048x2048, .f32⟩
  | 24 => ⟨S8x2048x2048, .f32⟩
  | 25 => ⟨S8x2048x2048, .f32⟩
  | 26 => ⟨S8x2048x2048, .f32⟩
  | 27 => ⟨S8x2048x2048, .i1⟩
  | 28 => ⟨S8x2048x2048, .f32⟩
  | 29 => ⟨S8x2048x2048, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S_, .f32⟩
  | 37 => ⟨S8x2048x2048, .f32⟩
  | 38 => ⟨S8x2048x2048, .i1⟩
  | 39 => ⟨S_, .f32⟩
  | 40 => ⟨S8x2048x2048, .f32⟩
  | 41 => ⟨S8x2048x2048, .f32⟩
  | 42 => ⟨S_, .f32⟩
  | 43 => ⟨S8x2048x2048, .f32⟩
  | 44 => ⟨S8x2048x2048, .i1⟩
  | 45 => ⟨S_, .f32⟩
  | 46 => ⟨S8x2048x2048, .f32⟩
  | 47 => ⟨S8x2048x2048, .f32⟩
  | 48 => ⟨S8x2048x2048, .f32⟩
  | 49 => ⟨S8x2048x2048, .f32⟩
  | 50 => ⟨S_, .f32⟩
  | 51 => ⟨S_, .f32⟩
  | 52 => ⟨S_, .i1⟩
  | 53 => ⟨S_, .f32⟩
  | 54 => ⟨S_, .f32⟩
  | 55 => ⟨S_, .f32⟩
  | 56 => ⟨S_, .f32⟩
  | 57 => ⟨S8x2048x2048, .f32⟩
  | 58 => ⟨S8x2048x2048, .i1⟩
  | 59 => ⟨S_, .f32⟩
  | 60 => ⟨S8x2048x2048, .f32⟩
  | 61 => ⟨S8x2048x2048, .f32⟩
  | 62 => ⟨S8x2048x2048, .f32⟩
  | 63 => ⟨S8x2048x2048, .f32⟩
  | 64 => ⟨S8x2048x2048, .f32⟩
  | 65 => ⟨S_, .f32⟩
  | 66 => ⟨S8x2048x2048, .f32⟩
  | 67 => ⟨S8x2048x2048, .f32⟩
  | 68 => ⟨S8x2048x2048, .f32⟩
  | 69 => ⟨S_, .f32⟩
  | 70 => ⟨S_, .f32⟩
  | 71 => ⟨S8x2048x2048, .i1⟩
  | 72 => ⟨S8x2048x2048, .f32⟩
  | 73 => ⟨S8x2048x2048, .f32⟩
  | 74 => ⟨S_, .f32⟩
  | 75 => ⟨S8x2048x2048, .f32⟩
  | 76 => ⟨S_, .f32⟩
  | 77 => ⟨S_, .f32⟩
  | 78 => ⟨S8x2048x2048, .f32⟩
  | 79 => ⟨S8x2048x2048, .f32⟩
  | 80 => ⟨S8x2048x2048, .f32⟩
  | 81 => ⟨S_, .f32⟩
  | 82 => ⟨S8x2048x2048, .f32⟩
  | 83 => ⟨S8x2048x2048, .f32⟩
  | 84 => ⟨S8x2048x2048, .f32⟩
  | 85 => ⟨S8x2048x2048, .f32⟩
  | 86 => ⟨S8x2048x2048, .i1⟩
  | 87 => ⟨S8x2048x2048, .f32⟩
  | 88 => ⟨S8x2048x2048, .f32⟩
  | 89 => ⟨S8x2048x2048, .f32⟩
  | 90 => ⟨S8x2048x2048, .f32⟩
  | 91 => ⟨S8x2048x2048, .f32⟩
  | 92 => ⟨S8x2048x2048, .f32⟩
  | 93 => ⟨S8x2048x2048, .f32⟩
  | 94 => ⟨S8x2048x2048, .f32⟩
  | 95 => ⟨S_, .f32⟩
  | 96 => ⟨S8x2048x2048, .f32⟩
  | 97 => ⟨S8x2048x2048, .i1⟩
  | 98 => ⟨S_, .f32⟩
  | 99 => ⟨S8x2048x2048, .f32⟩
  | 100 => ⟨S8x2048x2048, .f32⟩
  | 101 => ⟨S_, .f32⟩
  | 102 => ⟨S8x2048x2048, .f32⟩
  | 103 => ⟨S8x2048x2048, .i1⟩
  | 104 => ⟨S_, .f32⟩
  | 105 => ⟨S8x2048x2048, .f32⟩
  | 106 => ⟨S8x2048x2048, .f32⟩
  | 107 => ⟨S8x2048x2048, .f32⟩
  | 108 => ⟨S8x2048x2048, .f32⟩
  | 109 => ⟨S_, .f32⟩
  | 110 => ⟨S_, .f32⟩
  | 111 => ⟨S_, .i1⟩
  | 112 => ⟨S_, .f32⟩
  | 113 => ⟨S_, .f32⟩
  | 114 => ⟨S_, .f32⟩
  | 115 => ⟨S_, .f32⟩
  | 116 => ⟨S8x2048x2048, .f32⟩
  | 117 => ⟨S8x2048x2048, .i1⟩
  | 118 => ⟨S_, .f32⟩
  | 119 => ⟨S8x2048x2048, .f32⟩
  | 120 => ⟨S8x2048x2048, .f32⟩
  | 121 => ⟨S8x2048x2048, .f32⟩
  | 122 => ⟨S8x2048x2048, .f32⟩
  | 123 => ⟨S8x2048x2048, .f32⟩
  | 124 => ⟨S_, .f32⟩
  | 125 => ⟨S8x2048x2048, .f32⟩
  | 126 => ⟨S8x2048x2048, .f32⟩
  | 127 => ⟨S8x2048x2048, .f32⟩
  | _ => ⟨S2048x512, .f32⟩

abbrev hbmTy0_1 (i : Nat) : BufTy := match i % 128 with
  | 0 => ⟨S8x2048x2048, .f32⟩
  | 1 => ⟨S8x2048x2048, .f32⟩
  | 2 => ⟨S_, .f32⟩
  | 3 => ⟨S_, .f32⟩
  | 4 => ⟨S8x2048x2048, .i1⟩
  | 5 => ⟨S8x2048x2048, .f32⟩
  | 6 => ⟨S8x2048x2048, .f32⟩
  | 7 => ⟨S_, .f32⟩
  | 8 => ⟨S8x2048x2048, .f32⟩
  | 9 => ⟨S8x2048x64, .f32⟩
  | 10 => ⟨S2048x8x64, .f32⟩
  | 11 => ⟨S2048x512, .f32⟩
  | 12 => ⟨S2048x8x64, .f32⟩
  | 13 => ⟨S8x2048x64, .f32⟩
  | 14 => ⟨S8x64x2048, .f32⟩
  | 15 => ⟨S8x2048x64, .f32⟩
  | 16 => ⟨S8x2048x2048, .f32⟩
  | 17 => ⟨S_, .f32⟩
  | 18 => ⟨S8x2048x2048, .f32⟩
  | 19 => ⟨S8x2048x2048, .f32⟩
  | 20 => ⟨S8x2048x2048, .f32⟩
  | 21 => ⟨S8x2048x2048, .f32⟩
  | 22 => ⟨S8x2048x2048, .f32⟩
  | 23 => ⟨S8x2048x2048, .f32⟩
  | 24 => ⟨S8x2048x2048, .f32⟩
  | 25 => ⟨S_, .f32⟩
  | 26 => ⟨S_, .f32⟩
  | 27 => ⟨S8x2048x2048, .f32⟩
  | 28 => ⟨S8x2048x2048, .f32⟩
  | 29 => ⟨S_, .f32⟩
  | 30 => ⟨S8x2048x2048, .f32⟩
  | 31 => ⟨S8x2048x2048, .f32⟩
  | 32 => ⟨S8x2048x2048, .f32⟩
  | 33 => ⟨S8x2048x2048, .f32⟩
  | 34 => ⟨S8x2048x2048, .f32⟩
  | 35 => ⟨S8x2048x2048, .f32⟩
  | 36 => ⟨S8x2048x2048, .f32⟩
  | 37 => ⟨S_, .f32⟩
  | 38 => ⟨S8x2048x2048, .f32⟩
  | 39 => ⟨S8x2048x2048, .f32⟩
  | 40 => ⟨S8x2048x64, .f32⟩
  | 41 => ⟨S8x2048x64, .f32⟩
  | 42 => ⟨S2048x8x64, .f32⟩
  | 43 => ⟨S2048x512, .f32⟩
  | 44 => ⟨S2048x8x64, .f32⟩
  | 45 => ⟨S2048x512, .f32⟩
  | 46 => ⟨S2048x8x64, .f32⟩
  | 47 => ⟨S2048x512, .f32⟩
  | _ => ⟨S2048x512, .f32⟩

abbrev hbmTy (i : Nat) : BufTy := match i / 128 with
  | 0 => hbmTy0_0 i
  | 1 => hbmTy0_1 i
  | _ => ⟨S2048x512, .f32⟩

abbrev bufTy : (tb : Table) → Fin (tcTables nBuf tb) → BufTy
  | .hbm, ⟨i, _⟩ => hbmTy i
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_call0_v0 : Ref sig .tc := ⟨.hbm, 21, rfl⟩
abbrev main_call0_call0_cst : Ref sig .tc := ⟨.hbm, 22, rfl⟩
abbrev main_call0_call0_v0 : Ref sig .tc := ⟨.hbm, 23, rfl⟩
abbrev main_call0_call0_v1 : Ref sig .tc := ⟨.hbm, 24, rfl⟩
abbrev main_call0_call0_v2 : Ref sig .tc := ⟨.hbm, 25, rfl⟩
abbrev main_call0_call0_v3 : Ref sig .tc := ⟨.hbm, 26, rfl⟩
abbrev main_call0_call0_v4 : Ref sig .tc := ⟨.hbm, 27, rfl⟩
abbrev main_call0_call0_v5 : Ref sig .tc := ⟨.hbm, 28, rfl⟩
abbrev main_call0_call0_v6 : Ref sig .tc := ⟨.hbm, 29, rfl⟩
abbrev main_call0_call0_v7 : Ref sig .tc := ⟨.hbm, 30, rfl⟩
abbrev main_call0_call0_v8 : Ref sig .tc := ⟨.hbm, 31, rfl⟩
abbrev main_call0_call0_v9 : Ref sig .tc := ⟨.hbm, 32, rfl⟩
abbrev main_call0_call0_v10 : Ref sig .tc := ⟨.hbm, 33, rfl⟩
abbrev main_call0_call0_v11 : Ref sig .tc := ⟨.hbm, 34, rfl⟩
abbrev main_call0_v1_0 : Ref sig .tc := ⟨.hbm, 35, rfl⟩
abbrev main_call0_call0_cst_0 : Ref sig .tc := ⟨.hbm, 36, rfl⟩
abbrev main_call0_call0_v13 : Ref sig .tc := ⟨.hbm, 37, rfl⟩
abbrev main_call0_call0_v14 : Ref sig .tc := ⟨.hbm, 38, rfl⟩
abbrev main_call0_call0_cst_1 : Ref sig .tc := ⟨.hbm, 39, rfl⟩
abbrev main_call0_call0_v15 : Ref sig .tc := ⟨.hbm, 40, rfl⟩
abbrev main_call0_call0_v16 : Ref sig .tc := ⟨.hbm, 41, rfl⟩
abbrev main_call0_call0_cst_2 : Ref sig .tc := ⟨.hbm, 42, rfl⟩
abbrev main_call0_call0_v17 : Ref sig .tc := ⟨.hbm, 43, rfl⟩
abbrev main_call0_call0_v18 : Ref sig .tc := ⟨.hbm, 44, rfl⟩
abbrev main_call0_call0_cst_3 : Ref sig .tc := ⟨.hbm, 45, rfl⟩
abbrev main_call0_call0_v19 : Ref sig .tc := ⟨.hbm, 46, rfl⟩
abbrev main_call0_call0_v20 : Ref sig .tc := ⟨.hbm, 47, rfl⟩
abbrev main_call0_call0_v21 : Ref sig .tc := ⟨.hbm, 48, rfl⟩
abbrev main_v16_1 : Ref sig .tc := ⟨.hbm, 49, rfl⟩
abbrev main_call0_call0_cst_4 : Ref sig .tc := ⟨.hbm, 50, rfl⟩
abbrev main_call0_call0_cst_5 : Ref sig .tc := ⟨.hbm, 51, rfl⟩
abbrev main_call0_call0_v23 : Ref sig .tc := ⟨.hbm, 52, rfl⟩
abbrev main_call0_call0_cst_6 : Ref sig .tc := ⟨.hbm, 53, rfl⟩
abbrev main_call0_call0_cst_7 : Ref sig .tc := ⟨.hbm, 54, rfl⟩
abbrev main_call0_call0_v24 : Ref sig .tc := ⟨.hbm, 55, rfl⟩
abbrev main_call0_call0_cst_8 : Ref sig .tc := ⟨.hbm, 56, rfl⟩
abbrev main_call0_call0_v25 : Ref sig .tc := ⟨.hbm, 57, rfl⟩
abbrev main_call0_call0_v26 : Ref sig .tc := ⟨.hbm, 58, rfl⟩
abbrev main_call0_call0_cst_9 : Ref sig .tc := ⟨.hbm, 59, rfl⟩
abbrev main_call0_call0_v27 : Ref sig .tc := ⟨.hbm, 60, rfl⟩
abbrev main_call0_call0_v28 : Ref sig .tc := ⟨.hbm, 61, rfl⟩
abbrev main_call0_call0_v29 : Ref sig .tc := ⟨.hbm, 62, rfl⟩
abbrev main_call0_call0_v30 : Ref sig .tc := ⟨.hbm, 63, rfl⟩
abbrev main_call0_call0_v31 : Ref sig .tc := ⟨.hbm, 64, rfl⟩
abbrev main_call0_call0_cst_10 : Ref sig .tc := ⟨.hbm, 65, rfl⟩
abbrev main_call0_call0_v32 : Ref sig .tc := ⟨.hbm, 66, rfl⟩
abbrev main_v16_2 : Ref sig .tc := ⟨.hbm, 67, rfl⟩
abbrev main_v16_0 : Ref sig .tc := ⟨.hbm, 68, rfl⟩
abbrev main_cst_0 : Ref sig .tc := ⟨.hbm, 69, rfl⟩
abbrev main_call1_v0 : Ref sig .tc := ⟨.hbm, 70, rfl⟩
abbrev main_v17_1 : Ref sig .tc := ⟨.hbm, 71, rfl⟩
abbrev main_call1_v2 : Ref sig .tc := ⟨.hbm, 72, rfl⟩
abbrev main_v17_0 : Ref sig .tc := ⟨.hbm, 73, rfl⟩
abbrev main_call1_cst : Ref sig .tc := ⟨.hbm, 74, rfl⟩
abbrev main_v17_2 : Ref sig .tc := ⟨.hbm, 75, rfl⟩
abbrev main_call2_cst : Ref sig .tc := ⟨.hbm, 76, rfl⟩
abbrev main_call2_v0 : Ref sig .tc := ⟨.hbm, 77, rfl⟩
abbrev main_v18 : Ref sig .tc := ⟨.hbm, 78, rfl⟩
abbrev main_v19 : Ref sig .tc := ⟨.hbm, 79, rfl⟩
abbrev main_call3_v0 : Ref sig .tc := ⟨.hbm, 80, rfl⟩
abbrev main_call3_call0_cst : Ref sig .tc := ⟨.hbm, 81, rfl⟩
abbrev main_call3_call0_v0 : Ref sig .tc := ⟨.hbm, 82, rfl⟩
abbrev main_call3_call0_v1 : Ref sig .tc := ⟨.hbm, 83, rfl⟩
abbrev main_call3_call0_v2 : Ref sig .tc := ⟨.hbm, 84, rfl⟩
abbrev main_call3_call0_v3 : Ref sig .tc := ⟨.hbm, 85, rfl⟩
abbrev main_call3_call0_v4 : Ref sig .tc := ⟨.hbm, 86, rfl⟩
abbrev main_call3_call0_v5 : Ref sig .tc := ⟨.hbm, 87, rfl⟩
abbrev main_call3_call0_v6 : Ref sig .tc := ⟨.hbm, 88, rfl⟩
abbrev main_call3_call0_v7 : Ref sig .tc := ⟨.hbm, 89, rfl⟩
abbrev main_call3_call0_v8 : Ref sig .tc := ⟨.hbm, 90, rfl⟩
abbrev main_call3_call0_v9 : Ref sig .tc := ⟨.hbm, 91, rfl⟩
abbrev main_call3_call0_v10 : Ref sig .tc := ⟨.hbm, 92, rfl⟩
abbrev main_call3_call0_v11 : Ref sig .tc := ⟨.hbm, 93, rfl⟩
abbrev main_call3_v1_0 : Ref sig .tc := ⟨.hbm, 94, rfl⟩
abbrev main_call3_call0_cst_0 : Ref sig .tc := ⟨.hbm, 95, rfl⟩
abbrev main_call3_call0_v13 : Ref sig .tc := ⟨.hbm, 96, rfl⟩
abbrev main_call3_call0_v14 : Ref sig .tc := ⟨.hbm, 97, rfl⟩
abbrev main_call3_call0_cst_1 : Ref sig .tc := ⟨.hbm, 98, rfl⟩
abbrev main_call3_call0_v15 : Ref sig .tc := ⟨.hbm, 99, rfl⟩
abbrev main_call3_call0_v16 : Ref sig .tc := ⟨.hbm, 100, rfl⟩
abbrev main_call3_call0_cst_2 : Ref sig .tc := ⟨.hbm, 101, rfl⟩
abbrev main_call3_call0_v17 : Ref sig .tc := ⟨.hbm, 102, rfl⟩
abbrev main_call3_call0_v18 : Ref sig .tc := ⟨.hbm, 103, rfl⟩
abbrev main_call3_call0_cst_3 : Ref sig .tc := ⟨.hbm, 104, rfl⟩
abbrev main_call3_call0_v19 : Ref sig .tc := ⟨.hbm, 105, rfl⟩
abbrev main_call3_call0_v20 : Ref sig .tc := ⟨.hbm, 106, rfl⟩
abbrev main_call3_call0_v21 : Ref sig .tc := ⟨.hbm, 107, rfl⟩
abbrev main_v20_1 : Ref sig .tc := ⟨.hbm, 108, rfl⟩
abbrev main_call3_call0_cst_4 : Ref sig .tc := ⟨.hbm, 109, rfl⟩
abbrev main_call3_call0_cst_5 : Ref sig .tc := ⟨.hbm, 110, rfl⟩
abbrev main_call3_call0_v23 : Ref sig .tc := ⟨.hbm, 111, rfl⟩
abbrev main_call3_call0_cst_6 : Ref sig .tc := ⟨.hbm, 112, rfl⟩
abbrev main_call3_call0_cst_7 : Ref sig .tc := ⟨.hbm, 113, rfl⟩
abbrev main_call3_call0_v24 : Ref sig .tc := ⟨.hbm, 114, rfl⟩
abbrev main_call3_call0_cst_8 : Ref sig .tc := ⟨.hbm, 115, rfl⟩
abbrev main_call3_call0_v25 : Ref sig .tc := ⟨.hbm, 116, rfl⟩
abbrev main_call3_call0_v26 : Ref sig .tc := ⟨.hbm, 117, rfl⟩
abbrev main_call3_call0_cst_9 : Ref sig .tc := ⟨.hbm, 118, rfl⟩
abbrev main_call3_call0_v27 : Ref sig .tc := ⟨.hbm, 119, rfl⟩
abbrev main_call3_call0_v28 : Ref sig .tc := ⟨.hbm, 120, rfl⟩
abbrev main_call3_call0_v29 : Ref sig .tc := ⟨.hbm, 121, rfl⟩
abbrev main_call3_call0_v30 : Ref sig .tc := ⟨.hbm, 122, rfl⟩
abbrev main_call3_call0_v31 : Ref sig .tc := ⟨.hbm, 123, rfl⟩
abbrev main_call3_call0_cst_10 : Ref sig .tc := ⟨.hbm, 124, rfl⟩
abbrev main_call3_call0_v32 : Ref sig .tc := ⟨.hbm, 125, rfl⟩
abbrev main_v20_2 : Ref sig .tc := ⟨.hbm, 126, rfl⟩
abbrev main_v20_0 : Ref sig .tc := ⟨.hbm, 127, rfl⟩
abbrev main_v21 : Ref sig .tc := ⟨.hbm, 128, rfl⟩
abbrev main_v22 : Ref sig .tc := ⟨.hbm, 129, rfl⟩
abbrev main_cst_1 : Ref sig .tc := ⟨.hbm, 130, rfl⟩
abbrev main_call4_v0 : Ref sig .tc := ⟨.hbm, 131, rfl⟩
abbrev main_v23_1 : Ref sig .tc := ⟨.hbm, 132, rfl⟩
abbrev main_call4_v2 : Ref sig .tc := ⟨.hbm, 133, rfl⟩
abbrev main_v23_0 : Ref sig .tc := ⟨.hbm, 134, rfl⟩
abbrev main_call4_cst : Ref sig .tc := ⟨.hbm, 135, rfl⟩
abbrev main_v23_2 : Ref sig .tc := ⟨.hbm, 136, rfl⟩
abbrev main_v24 : Ref sig .tc := ⟨.hbm, 137, rfl⟩
abbrev main_v25 : Ref sig .tc := ⟨.hbm, 138, rfl⟩
abbrev main_v26 : Ref sig .tc := ⟨.hbm, 139, rfl⟩
abbrev main_v27 : Ref sig .tc := ⟨.hbm, 140, rfl⟩
abbrev main_v28 : Ref sig .tc := ⟨.hbm, 141, rfl⟩
abbrev main_v29 : Ref sig .tc := ⟨.hbm, 142, rfl⟩
abbrev main_v30 : Ref sig .tc := ⟨.hbm, 143, rfl⟩
abbrev main_v31 : Ref sig .tc := ⟨.hbm, 144, rfl⟩
abbrev main_call5_cst : Ref sig .tc := ⟨.hbm, 145, rfl⟩
abbrev main_call5_v0 : Ref sig .tc := ⟨.hbm, 146, rfl⟩
abbrev main_v32 : Ref sig .tc := ⟨.hbm, 147, rfl⟩
abbrev main_v33 : Ref sig .tc := ⟨.hbm, 148, rfl⟩
abbrev main_call6_v0 : Ref sig .tc := ⟨.hbm, 149, rfl⟩
abbrev main_call6_v1 : Ref sig .tc := ⟨.hbm, 150, rfl⟩
abbrev main_v34 : Ref sig .tc := ⟨.hbm, 151, rfl⟩
abbrev main_v35 : Ref sig .tc := ⟨.hbm, 152, rfl⟩
abbrev main_call7_cst : Ref sig .tc := ⟨.hbm, 153, rfl⟩
abbrev main_call7_v0 : Ref sig .tc := ⟨.hbm, 154, rfl⟩
abbrev main_v36 : Ref sig .tc := ⟨.hbm, 155, rfl⟩
abbrev main_v37 : Ref sig .tc := ⟨.hbm, 156, rfl⟩
abbrev main_call8_cst : Ref sig .tc := ⟨.hbm, 157, rfl⟩
abbrev main_call8_v0 : Ref sig .tc := ⟨.hbm, 158, rfl⟩
abbrev main_v38 : Ref sig .tc := ⟨.hbm, 159, rfl⟩
abbrev main_call9_v0 : Ref sig .tc := ⟨.hbm, 160, rfl⟩
abbrev main_call9_v1 : Ref sig .tc := ⟨.hbm, 161, rfl⟩
abbrev main_v39 : Ref sig .tc := ⟨.hbm, 162, rfl⟩
abbrev main_v40 : Ref sig .tc := ⟨.hbm, 163, rfl⟩
abbrev main_v41 : Ref sig .tc := ⟨.hbm, 164, rfl⟩
abbrev main_cst_2 : Ref sig .tc := ⟨.hbm, 165, rfl⟩
abbrev main_v42 : Ref sig .tc := ⟨.hbm, 166, rfl⟩
abbrev main_v43 : Ref sig .tc := ⟨.hbm, 167, rfl⟩
abbrev main_v44 : Ref sig .tc := ⟨.hbm, 168, rfl⟩
abbrev main_v45 : Ref sig .tc := ⟨.hbm, 169, rfl⟩
abbrev main_v46 : Ref sig .tc := ⟨.hbm, 170, rfl⟩
abbrev main_v47 : Ref sig .tc := ⟨.hbm, 171, rfl⟩
abbrev main_v48 : Ref sig .tc := ⟨.hbm, 172, rfl⟩
abbrev main_v49 : Ref sig .tc := ⟨.hbm, 173, rfl⟩
abbrev main_v50 : Ref sig .tc := ⟨.hbm, 174, rfl⟩
abbrev main_v51 : Ref sig .tc := ⟨.hbm, 175, rfl⟩

abbrev nD : Nat := 1
abbrev τ : Topo := Topo.v7x

variable {F : FTy → Type} [FloatOps F]
-- ==== Kernel2.lean ====
abbrev S2048x512 : Shape := ⟨2, ![2048, 512]⟩
abbrev S2048x1536 : Shape := ⟨2, ![2048, 1536]⟩
abbrev S2048x1024 : Shape := ⟨2, ![2048, 1024]⟩
abbrev S1024 : Shape := ⟨1, ![1024]⟩
abbrev S1024x2560 : Shape := ⟨2, ![1024, 2560]⟩
abbrev S1x1024 : Shape := ⟨2, ![1, 1024]⟩
abbrev S2560x1024 : Shape := ⟨2, ![2560, 1024]⟩
abbrev S2048x2560 : Shape := ⟨2, ![2048, 2560]⟩
abbrev S512x512 : Shape := ⟨2, ![512, 512]⟩
abbrev S512x1536 : Shape := ⟨2, ![512, 1536]⟩
abbrev S512x1024 : Shape := ⟨2, ![512, 1024]⟩
abbrev S512x2560 : Shape := ⟨2, ![512, 2560]⟩
abbrev S512 : Shape := ⟨1, ![512]⟩
abbrev S512x1 : Shape := ⟨2, ![512, 1]⟩

abbrev nBuf : Space → Nat
  | .hbm => 17
  | .vmem => 19
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1536, .f32⟩
  | .hbm, ⟨3, _⟩ => ⟨S2048x1024, .f32⟩
  | .hbm, ⟨4, _⟩ => ⟨S1024, .f32⟩
  | .hbm, ⟨5, _⟩ => ⟨S1024x2560, .f32⟩
  | .hbm, ⟨6, _⟩ => ⟨S2048x1024, .f32⟩
  | .hbm, ⟨7, _⟩ => ⟨S2048x512, .bf16⟩
  | .hbm, ⟨8, _⟩ => ⟨S2048x512, .bf16⟩
  | .hbm, ⟨9, _⟩ => ⟨S2048x1536, .bf16⟩
  | .hbm, ⟨10, _⟩ => ⟨S1x1024, .f32⟩
  | .hbm, ⟨11, _⟩ => ⟨S2560x1024, .f32⟩
  | .hbm, ⟨12, _⟩ => ⟨S2560x1024, .bf16⟩
  | .hbm, ⟨13, _⟩ => ⟨S2048x1024, .f32⟩
  | .hbm, ⟨14, _⟩ => ⟨S2048x1024, .bf16⟩
  | .hbm, ⟨15, _⟩ => ⟨S2048x2560, .bf16⟩
  | .hbm, ⟨16, _⟩ => ⟨S1x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1536, .bf16⟩
  | .local _ .vmem, ⟨5, _⟩ => ⟨S512x1536, .bf16⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S2560x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .bf16⟩
  | .local _ .vmem, ⟨15, _⟩ => ⟨S512x1024, .bf16⟩
  | .local _ .vmem, ⟨16, _⟩ => ⟨S512x2560, .bf16⟩
  | .local _ .vmem, ⟨17, _⟩ => ⟨S512x2560, .bf16⟩
  | .local _ .vmem, ⟨18, _⟩ => ⟨S1x1024, .f32⟩
  | _, _ => ⟨S2048x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1536 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2560x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x2560 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference2Ideal.lean ====
abbrev S2048x512 : Shape := ⟨2, ![2048, 512]⟩
abbrev S2048x1536 : Shape := ⟨2, ![2048, 1536]⟩
abbrev S2048x1024 : Shape := ⟨2, ![2048, 1024]⟩
abbrev S1024 : Shape := ⟨1, ![1024]⟩
abbrev S1024x2560 : Shape := ⟨2, ![1024, 2560]⟩
abbrev S2048x2560 : Shape := ⟨2, ![2048, 2560]⟩
abbrev S_ : Shape := ⟨0, ![]⟩
abbrev S2048 : Shape := ⟨1, ![2048]⟩
abbrev S2048x1 : Shape := ⟨2, ![2048, 1]⟩
abbrev S1x1024 : Shape := ⟨2, ![1, 1024]⟩

abbrev nBuf : Space → Nat
  | .hbm => 75
  | .vmem => 0
  | .smem => 0
  | _ => 0

abbrev bufTy : (tb : Table) → Fin (tcTables nBuf tb) → BufTy
  | .hbm, ⟨0, _⟩ => ⟨S2048x512, .f32⟩
  | .hbm, ⟨1, _⟩ => ⟨S2048x512, .f32⟩
  | .hbm, ⟨2, _⟩ => ⟨S2048x1536, .f32⟩
  | .hbm, ⟨3, _⟩ => ⟨S2048x1024, .f32⟩
  | .hbm, ⟨4, _⟩ => ⟨S1024, .f32⟩
  | .hbm, ⟨5, _⟩ => ⟨S1024x2560, .f32⟩
  | .hbm, ⟨6, _⟩ => ⟨S2048x1024, .f32⟩
  | .hbm, ⟨7, _⟩ => ⟨S2048x2560, .f32⟩
  | .hbm, ⟨8, _⟩ => ⟨S2048x1024, .f32⟩
  | .hbm, ⟨9, _⟩ => ⟨S_, .f32⟩
  | .hbm, ⟨10, _⟩ => ⟨S2048, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S_, .f32⟩
  | .hbm, ⟨16, _⟩ => ⟨S2048x1, .f32⟩
  | .hbm, ⟨17, _⟩ => ⟨S2048x1, .f32⟩
  | .hbm, ⟨18, _⟩ => ⟨S2048x1, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x1024, .f32⟩
  | .hbm, ⟨24, _⟩ => ⟨S2048x1024, .f32⟩
  | .hbm, ⟨25, _⟩ => ⟨S1x1024, .f32⟩
  | .hbm, ⟨26, _⟩ => ⟨S2048x1024, .f32⟩
  | .hbm, ⟨27, _⟩ => ⟨S2048x1024, .f32⟩
  | .hbm, ⟨28, _⟩ => ⟨S2048x2560, .f32⟩
  | .hbm, ⟨29, _⟩ => ⟨S2048x1024, .f32⟩
  | .hbm, ⟨30, _⟩ => ⟨S2048x1024, .f32⟩
  | .hbm, ⟨31, _⟩ => ⟨S_, .f32⟩
  | .hbm, ⟨32, _⟩ => ⟨S1024, .f32⟩
  | .hbm, ⟨33, _⟩ => ⟨S1x1024, .f32⟩
  | .hbm, ⟨34, _⟩ => ⟨S2048x1024, .f32⟩
  | .hbm, ⟨35, _⟩ => ⟨S2048x1024, .f32⟩
  | .hbm, ⟨36, _⟩ => ⟨S_, .f32⟩
  | .hbm, ⟨37, _⟩ => ⟨S1024, .f32⟩
  | .hbm, ⟨38, _⟩ => ⟨S2048x1024, .f32⟩
  | .hbm, ⟨39, _⟩ => ⟨S_, .f32⟩
  | .hbm, ⟨40, _⟩ => ⟨S2048, .f32⟩
  | .hbm, ⟨41, _⟩ => ⟨S2048x1, .f32⟩
  | .hbm, ⟨42, _⟩ => ⟨S2048x1024, .f32⟩
  | .hbm, ⟨43, _⟩ => ⟨S2048x1024, .f32⟩
  | .hbm, ⟨44, _⟩ => ⟨S2048x1024, .f32⟩
  | .hbm, ⟨45, _⟩ => ⟨S2048x1, .f32⟩
  | .hbm, ⟨46, _⟩ => ⟨S_, .f32⟩
  | .hbm, ⟨47, _⟩ => ⟨S2048x1, .f32⟩
  | .hbm, ⟨48, _⟩ => ⟨S2048x1, .f32⟩
  | .hbm, ⟨49, _⟩ => ⟨S_, .f32⟩
  | .hbm, ⟨50, _⟩ => ⟨S2048, .f32⟩
  | .hbm, ⟨51, _⟩ => ⟨S2048x1024, .f32⟩
  | .hbm, ⟨52, _⟩ => ⟨S2048x1024, .f32⟩
  | .hbm, ⟨53, _⟩ => ⟨S2048x1024, .f32⟩
  | .hbm, ⟨54, _⟩ => ⟨S2048x1024, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S2048, .f32⟩
  | .hbm, ⟨59, _⟩ => ⟨S2048x1, .f32⟩
  | .hbm, ⟨60, _⟩ => ⟨S_, .f32⟩
  | .hbm, ⟨61, _⟩ => ⟨S2048x1, .f32⟩
  | .hbm, ⟨62, _⟩ => ⟨S2048x1, .f32⟩
  | .hbm, ⟨63, _⟩ => ⟨S_, .f32⟩
  | .hbm, ⟨64, _⟩ => ⟨S2048x1, .f32⟩
  | .hbm, ⟨65, _⟩ => ⟨S2048x1, .f32⟩
  | .hbm, ⟨66, _⟩ => ⟨S2048x1, .f32⟩
  | .hbm, ⟨67, _⟩ => ⟨S2048x1024, .f32⟩
  | .hbm, ⟨68, _⟩ => ⟨S2048x1024, .f32⟩
  | .hbm, ⟨69, _⟩ => ⟨S1x1024, .f32⟩
  | .hbm, ⟨70, _⟩ => ⟨S2048x1024, .f32⟩
  | .hbm, ⟨71, _⟩ => ⟨S2048x1024, .f32⟩
  | .hbm, ⟨72, _⟩ => ⟨S2048x1024, .bf16⟩
  | .hbm, ⟨73, _⟩ => ⟨S2048x2560, .bf16⟩
  | .hbm, ⟨74, _⟩ => ⟨S1x1024, .f32⟩
  | _, _ => ⟨S2048x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_2 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_cst_4 : Ref sig .tc := ⟨.hbm, 36, rfl⟩
abbrev main_v24 : Ref sig .tc := ⟨.hbm, 37, rfl⟩
abbrev main_v25 : Ref sig .tc := ⟨.hbm, 38, rfl⟩
abbrev main_cst_5 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_6 : Ref sig .tc := ⟨.hbm, 46, rfl⟩
abbrev main_v32 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_8 : Ref sig .tc := ⟨.hbm, 57, rfl⟩
abbrev main_v41 : Ref sig .tc := ⟨.hbm, 58, rfl⟩
abbrev main_v42 : Ref sig .tc := ⟨.hbm, 59, rfl⟩
abbrev main_cst_9 : Ref sig .tc := ⟨.hbm, 60, rfl⟩
abbrev main_v43 : Ref sig .tc := ⟨.hbm, 61, rfl⟩
abbrev main_v44 : Ref sig .tc := ⟨.hbm, 62, rfl⟩
abbrev main_cst_10 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩

abbrev nD : Nat := 1
abbrev τ : Topo := Topo.v7x

variable {F : FTy → Type} [FloatOps F]
-- ==== Kernel3.lean ====
abbrev S2048x1024 : Shape := ⟨2, ![2048, 1024]⟩
abbrev S2048x256 : Shape := ⟨2, ![2048, 256]⟩
abbrev S2048x512 : Shape := ⟨2, ![2048, 512]⟩
abbrev S1024 : Shape := ⟨1, ![1024]⟩
abbrev S1024x1024 : Shape := ⟨2, ![1024, 1024]⟩
abbrev S1x1024 : Shape := ⟨2, ![1, 1024]⟩
abbrev S_ : Shape := ⟨0, ![]⟩
abbrev S8x128 : Shape := ⟨2, ![8, 128]⟩
abbrev S1024x256 : Shape := ⟨2, ![1024, 256]⟩
abbrev S1024x512 : Shape := ⟨2, ![1024, 512]⟩
abbrev S1024x1 : Shape := ⟨2, ![1024, 1]⟩
abbrev S1x256 : Shape := ⟨2, ![1, 256]⟩
abbrev S256 : Shape := ⟨1, ![256]⟩
abbrev S1x512 : Shape := ⟨2, ![1, 512]⟩
abbrev S512 : Shape := ⟨1, ![512]⟩

abbrev nBuf : Space → Nat
  | .hbm => 15
  | .vmem => 19
  | .smem => 0
  | _ => 0

abbrev bufTy : (tb : Table) → Fin (tcTables nBuf tb) → BufTy
  | .hbm, ⟨0, _⟩ => ⟨S2048x1024, .f32⟩
  | .hbm, ⟨1, _⟩ => ⟨S2048x256, .f32⟩
  | .hbm, ⟨2, _⟩ => ⟨S2048x256, .f32⟩
  | .hbm, ⟨3, _⟩ => ⟨S2048x512, .f32⟩
  | .hbm, ⟨4, _⟩ => ⟨S1024, .f32⟩
  | .hbm, ⟨5, _⟩ => ⟨S1024x1024, .f32⟩
  | .hbm, ⟨6, _⟩ => ⟨S1x1024, .f32⟩
  | .hbm, ⟨7, _⟩ => ⟨S1024x1024, .bf16⟩
  | .hbm, ⟨8, _⟩ => ⟨S_, .f32⟩
  | .hbm, ⟨9, _⟩ => ⟨S8x128, .f32⟩
  | .hbm, ⟨10, _⟩ => ⟨S2048x256, .f32⟩
  | .hbm, ⟨11, _⟩ => ⟨S2048x256, .f32⟩
  | .hbm, ⟨12, _⟩ => ⟨S2048x512, .f32⟩
  | .hbm, ⟨13, _⟩ => ⟨S2048x1024, .bf16⟩
  | .hbm, ⟨14, _⟩ => ⟨S1x1024, .f32⟩
  | .local _ .vmem, ⟨0, _⟩ => ⟨S1024x1024, .f32⟩
  | .local _ .vmem, ⟨1, _⟩ => ⟨S1024x1024, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S1024x512, .f32⟩
  | .local _ .vmem, ⟨7, _⟩ => ⟨S1024x512, .f32⟩
  | .local _ .vmem, ⟨8, _⟩ => ⟨S1x1024, .f32⟩
  | .local _ .vmem, ⟨9, _⟩ => ⟨S1024x1024, .bf16⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | .local _ .vmem, ⟨14, _⟩ => ⟨S1024x512, .f32⟩
  | .local _ .vmem, ⟨15, _⟩ => ⟨S1024x512, .f32⟩
  | .local _ .vmem, ⟨16, _⟩ => ⟨S1024x1024, .bf16⟩
  | .local _ .vmem, ⟨17, _⟩ => ⟨S1024x1024, .bf16⟩
  | .local _ .vmem, ⟨18, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev main_v3_4 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference3Ideal.lean ====
abbrev S2048x1024 : Shape := ⟨2, ![2048, 1024]⟩
abbrev S2048x256 : Shape := ⟨2, ![2048, 256]⟩
abbrev S2048x512 : Shape := ⟨2, ![2048, 512]⟩
abbrev S1024 : Shape := ⟨1, ![1024]⟩
abbrev S1024x1024 : Shape := ⟨2, ![1024, 1024]⟩
abbrev S256 : Shape := ⟨1, ![256]⟩
abbrev S_ : Shape := ⟨0, ![]⟩
abbrev S2048 : Shape := ⟨1, ![2048]⟩
abbrev S2048x1 : Shape := ⟨2, ![2048, 1]⟩
abbrev S1x256 : Shape := ⟨2, ![1, 256]⟩
abbrev S512 : Shape := ⟨1, ![512]⟩
abbrev S1x512 : Shape := ⟨2, ![1, 512]⟩
abbrev S1x1024 : Shape := ⟨2, ![1, 1024]⟩

abbrev nBuf : Space → Nat
  | .hbm => 160
  | .vmem => 0
  | .smem => 0
  | _ => 0

abbrev hbmTy0_0 (i : Nat) : BufTy := match i % 128 with
  | 0 => ⟨S2048x1024, .f32⟩
  | 1 => ⟨S2048x256, .f32⟩
  | 2 => ⟨S2048x256, .f32⟩
  | 3 => ⟨S2048x512, .f32⟩
  | 4 => ⟨S1024, .f32⟩
  | 5 => ⟨S1024x1024, .f32⟩
  | 6 => ⟨S256, .f32⟩
  | 7 => ⟨S2048x256, .f32⟩
  | 8 => ⟨S_, .f32⟩
  | 9 => ⟨S2048, .f32⟩
  | 10 => ⟨S2048x1, .f32⟩
  | 11 => ⟨S_, .f32⟩
  | 12 => ⟨S2048x1, .f32⟩
  | 13 => ⟨S2048x1, .f32⟩
  | 14 => ⟨S_, .f32⟩
  | 15 => ⟨S2048x1, .f32⟩
  | 16 => ⟨S2048x1, .f32⟩
  | 17 => ⟨S2048x1, .f32⟩
  | 18 => ⟨S2048x1, .f32⟩
  | 19 => ⟨S_, .f32⟩
  | 20 => ⟨S2048x1, .f32⟩
  | 21 => ⟨S2048x1, .f32⟩
  | 22 => ⟨S2048x256, .f32⟩
  | 23 => ⟨S2048x256, .f32⟩
  | 24 => ⟨S1x256, .f32⟩
  | 25 => ⟨S2048x256, .f32⟩
  | 26 => ⟨S2048x256, .f32⟩
  | 27 => ⟨S256, .f32⟩
  | 28 => ⟨S2048x256, .f32⟩
  | 29 => ⟨S_, .f32⟩
  | 30 => ⟨S2048, .f32⟩
  | 31 => ⟨S2048x1, .f32⟩
  | 32 => ⟨S_, .f32⟩
  | 33 => ⟨S2048x1, .f32⟩
  | 34 => ⟨S2048x1, .f32⟩
  | 35 => ⟨S_, .f32⟩
  | 36 => ⟨S2048x1, .f32⟩
  | 37 => ⟨S2048x1, .f32⟩
  | 38 => ⟨S2048x1, .f32⟩
  | 39 => ⟨S2048x1, .f32⟩
  | 40 => ⟨S_, .f32⟩
  | 41 => ⟨S2048x1, .f32⟩
  | 42 => ⟨S2048x1, .f32⟩
  | 43 => ⟨S2048x256, .f32⟩
  | 44 => ⟨S2048x256, .f32⟩
  | 45 => ⟨S1x256, .f32⟩
  | 46 => ⟨S2048x256, .f32⟩
  | 47 => ⟨S2048x256, .f32⟩
  | 48 => ⟨S512, .f32⟩
  | 49 => ⟨S2048x512, .f32⟩
  | 50 => ⟨S_, .f32⟩
  | 51 => ⟨S2048, .f32⟩
  | 52 => ⟨S2048x1, .f32⟩
  | 53 => ⟨S_, .f32⟩
  | 54 => ⟨S2048x1, .f32⟩
  | 55 => ⟨S2048x1, .f32⟩
  | 56 => ⟨S_, .f32⟩
  | 57 => ⟨S2048x1, .f32⟩
  | 58 => ⟨S2048x1, .f32⟩
  | 59 => ⟨S2048x1, .f32⟩
  | 60 => ⟨S2048x1, .f32⟩
  | 61 => ⟨S_, .f32⟩
  | 62 => ⟨S2048x1, .f32⟩
  | 63 => ⟨S2048x1, .f32⟩
  | 64 => ⟨S2048x512, .f32⟩
  | 65 => ⟨S2048x512, .f32⟩
  | 66 => ⟨S1x512, .f32⟩
  | 67 => ⟨S2048x512, .f32⟩
  | 68 => ⟨S2048x512, .f32⟩
  | 69 => ⟨S2048x1024, .f32⟩
  | 70 => ⟨S2048x1024, .f32⟩
  | 71 => ⟨S2048x1024, .f32⟩
  | 72 => ⟨S2048x256, .f32⟩
  | 73 => ⟨S2048x256, .f32⟩
  | 74 => ⟨S2048x512, .f32⟩
  | 75 => ⟨S2048x512, .f32⟩
  | 76 => ⟨S_, .f32⟩
  | 77 => ⟨S512, .f32⟩
  | 78 => ⟨S1x512, .f32⟩
  | 79 => ⟨S2048x512, .f32⟩
  | 80 => ⟨S2048x512, .f32⟩
  | 81 => ⟨S_, .f32⟩
  | 82 => ⟨S512, .f32⟩
  | 83 => ⟨S2048x512, .f32⟩
  | 84 => ⟨S_, .f32⟩
  | 85 => ⟨S2048, .f32⟩
  | 86 => ⟨S2048x1, .f32⟩
  | 87 => ⟨S2048x512, .f32⟩
  | 88 => ⟨S2048x512, .f32⟩
  | 89 => ⟨S2048x1, .f32⟩
  | 90 => ⟨S_, .f32⟩
  | 91 => ⟨S2048x1, .f32⟩
  | 92 => ⟨S2048x1, .f32⟩
  | 93 => ⟨S_, .f32⟩
  | 94 => ⟨S2048, .f32⟩
  | 95 => ⟨S2048x512, .f32⟩
  | 96 => ⟨S2048x512, .f32⟩
  | 97 => ⟨S2048x512, .f32⟩
  | 98 => ⟨S2048x512, .f32⟩
  | 99 => ⟨S2048x512, .f32⟩
  | 100 => ⟨S_, .f32⟩
  | 101 => ⟨S1024, .f32⟩
  | 102 => ⟨S2048x256, .f32⟩
  | 103 => ⟨S_, .f32⟩
  | 104 => ⟨S256, .f32⟩
  | 105 => ⟨S1x256, .f32⟩
  | 106 => ⟨S2048x256, .f32⟩
  | 107 => ⟨S2048x256, .f32⟩
  | 108 => ⟨S_, .f32⟩
  | 109 => ⟨S256, .f32⟩
  | 110 => ⟨S2048x256, .f32⟩
  | 111 => ⟨S_, .f32⟩
  | 112 => ⟨S2048, .f32⟩
  | 113 => ⟨S2048x1, .f32⟩
  | 114 => ⟨S2048x256, .f32⟩
  | 115 => ⟨S2048x256, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048, .f32⟩
  | 122 => ⟨S2048x256, .f32⟩
  | 123 => ⟨S2048x256, .f32⟩
  | 124 => ⟨S2048x256, .f32⟩
  | 125 => ⟨S2048x256, .f32⟩
  | 126 => ⟨S2048x256, .f32⟩
  | 127 => ⟨S_, .f32⟩
  | _ => ⟨S2048x1024, .f32⟩

abbrev hbmTy0_1 (i : Nat) : BufTy := match i % 128 with
  | 0 => ⟨S1024, .f32⟩
  | 1 => ⟨S1024, .f32⟩
  | 2 => ⟨S2048x256, .f32⟩
  | 3 => ⟨S_, .f32⟩
  | 4 => ⟨S256, .f32⟩
  | 5 => ⟨S1x256, .f32⟩
  | 6 => ⟨S2048x256, .f32⟩
  | 7 => ⟨S2048x256, .f32⟩
  | 8 => ⟨S_, .f32⟩
  | 9 => ⟨S256, .f32⟩
  | 10 => ⟨S2048x256, .f32⟩
  | 11 => ⟨S_, .f32⟩
  | 12 => ⟨S2048, .f32⟩
  | 13 => ⟨S2048x1, .f32⟩
  | 14 => ⟨S2048x256, .f32⟩
  | 15 => ⟨S2048x256, .f32⟩
  | 16 => ⟨S2048x1, .f32⟩
  | 17 => ⟨S_, .f32⟩
  | 18 => ⟨S2048x1, .f32⟩
  | 19 => ⟨S2048x1, .f32⟩
  | 20 => ⟨S_, .f32⟩
  | 21 => ⟨S2048, .f32⟩
  | 22 => ⟨S2048x256, .f32⟩
  | 23 => ⟨S2048x256, .f32⟩
  | 24 => ⟨S2048x256, .f32⟩
  | 25 => ⟨S2048x256, .f32⟩
  | 26 => ⟨S2048x256, .f32⟩
  | 27 => ⟨S_, .f32⟩
  | 28 => ⟨S1024, .f32⟩
  | 29 => ⟨S1024, .f32⟩
  | 30 => ⟨S2048x1024, .bf16⟩
  | 31 => ⟨S1x1024, .f32⟩
  | _ => ⟨S2048x1024, .f32⟩

abbrev hbmTy (i : Nat) : BufTy := match i / 128 with
  | 0 => hbmTy0_0 i
  | 1 => hbmTy0_1 i
  | _ => ⟨S2048x1024, .f32⟩

abbrev bufTy : (tb : Table) → Fin (tcTables nBuf tb) → BufTy
  | .hbm, ⟨i, _⟩ => hbmTy i
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_3 : Ref sig .tc := ⟨.hbm, 29, rfl⟩
abbrev main_v19 : Ref sig .tc := ⟨.hbm, 30, rfl⟩
abbrev main_v20 : Ref sig .tc := ⟨.hbm, 31, rfl⟩
abbrev main_cst_4 : Ref sig .tc := ⟨.hbm, 32, rfl⟩
abbrev main_v21 : Ref sig .tc := ⟨.hbm, 33, rfl⟩
abbrev main_v22 : Ref sig .tc := ⟨.hbm, 34, rfl⟩
abbrev main_cst_5 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_cst_6 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_cst_8 : Ref sig .tc := ⟨.hbm, 53, rfl⟩
abbrev main_v38 : Ref sig .tc := ⟨.hbm, 54, rfl⟩
abbrev main_v39 : Ref sig .tc := ⟨.hbm, 55, rfl⟩
abbrev main_cst_9 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_cst_11 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_cst_12 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_cst_15 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_cst_16 : Ref sig .tc := ⟨.hbm, 100, rfl⟩
abbrev main_v77 : Ref sig .tc := ⟨.hbm, 101, rfl⟩
abbrev main_v78 : Ref sig .tc := ⟨.hbm, 102, rfl⟩
abbrev main_cst_17 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_cst_18 : Ref sig .tc := ⟨.hbm, 108, rfl⟩
abbrev main_v83 : Ref sig .tc := ⟨.hbm, 109, rfl⟩
abbrev main_v84 : Ref sig .tc := ⟨.hbm, 110, rfl⟩
abbrev main_cst_19 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_cst_20 : Ref sig .tc := ⟨.hbm, 117, rfl⟩
abbrev main_v90 : Ref sig .tc := ⟨.hbm, 118, rfl⟩
abbrev main_v91 : Ref sig .tc := ⟨.hbm, 119, rfl⟩
abbrev main_cst_21 : Ref sig .tc := ⟨.hbm, 120, rfl⟩
abbrev main_v92 : Ref sig .tc := ⟨.hbm, 121, rfl⟩
abbrev main_v93 : Ref sig .tc := ⟨.hbm, 122, rfl⟩
abbrev main_v94 : Ref sig .tc := ⟨.hbm, 123, rfl⟩
abbrev main_v95 : Ref sig .tc := ⟨.hbm, 124, rfl⟩
abbrev main_v96 : Ref sig .tc := ⟨.hbm, 125, rfl⟩
abbrev main_v97 : Ref sig .tc := ⟨.hbm, 126, rfl⟩
abbrev main_cst_22 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_cst_23 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_cst_24 : Ref sig .tc := ⟨.hbm, 136, rfl⟩
abbrev main_v105 : Ref sig .tc := ⟨.hbm, 137, rfl⟩
abbrev main_v106 : Ref sig .tc := ⟨.hbm, 138, rfl⟩
abbrev main_cst_25 : Ref sig .tc := ⟨.hbm, 139, rfl⟩
abbrev main_v107 : Ref sig .tc := ⟨.hbm, 140, rfl⟩
abbrev main_v108 : Ref sig .tc := ⟨.hbm, 141, rfl⟩
abbrev main_v109 : Ref sig .tc := ⟨.hbm, 142, rfl⟩
abbrev main_v110 : Ref sig .tc := ⟨.hbm, 143, rfl⟩
abbrev main_v111 : Ref sig .tc := ⟨.hbm, 144, rfl⟩
abbrev main_cst_26 : Ref sig .tc := ⟨.hbm, 145, rfl⟩
abbrev main_v112 : Ref sig .tc := ⟨.hbm, 146, rfl⟩
abbrev main_v113 : Ref sig .tc := ⟨.hbm, 147, rfl⟩
abbrev main_cst_27 : Ref sig .tc := ⟨.hbm, 148, rfl⟩
abbrev main_v114 : Ref sig .tc := ⟨.hbm, 149, rfl⟩
abbrev main_v115 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_cst_28 : Ref sig .tc := ⟨.hbm, 155, rfl⟩
abbrev main_v120 : Ref sig .tc := ⟨.hbm, 156, rfl⟩
abbrev main_v121 : Ref sig .tc := ⟨.hbm, 157, rfl⟩
abbrev main_v122 : Ref sig .tc := ⟨.hbm, 158, rfl⟩
abbrev main_v123 : Ref sig .tc := ⟨.hbm, 159, rfl⟩

abbrev nD : Nat := 1
abbrev τ : Topo := Topo.v7x

variable {F : FTy → Type} [FloatOps F]
-- ==== Kernel4.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S5632x1024 : Shape := ⟨2, ![5632, 1024]⟩
abbrev S8x128 : Shape := ⟨2, ![8, 128]⟩
abbrev S2048x2816 : Shape := ⟨2, ![2048, 2816]⟩
abbrev S256x1024 : Shape := ⟨2, ![256, 1024]⟩
abbrev S256x5632 : Shape := ⟨2, ![256, 5632]⟩
abbrev S256x2816 : Shape := ⟨2, ![256, 2816]⟩
abbrev S256 : Shape := ⟨1, ![256]⟩
abbrev S256x1 : Shape := ⟨2, ![256, 1]⟩

abbrev nBuf : Space → Nat
  | .hbm => 33
  | .vmem => 18
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1024, .f32⟩
  | .hbm, ⟨17, _⟩ => ⟨S2048x1024, .f32⟩
  | .hbm, ⟨18, _⟩ => ⟨S1x1024, .f32⟩
  | .hbm, ⟨19, _⟩ => ⟨S2048x1024, .f32⟩
  | .hbm, ⟨20, _⟩ => ⟨S2048x1024, .f32⟩
  | .hbm, ⟨21, _⟩ => ⟨S2048x5632, .f32⟩
  | .hbm, ⟨22, _⟩ => ⟨S1x1024, .f32⟩
  | .hbm, ⟨23, _⟩ => ⟨S5632x1024, .f32⟩
  | .hbm, ⟨24, _⟩ => ⟨S5632x1024, .bf16⟩
  | .hbm, ⟨25, _⟩ => ⟨S2816x1024, .bf16⟩
  | .hbm, ⟨26, _⟩ => ⟨S_, .f32⟩
  | .hbm, ⟨27, _⟩ => ⟨S8x128, .f32⟩
  | .hbm, ⟨28, _⟩ => ⟨S2048x5632, .bf16⟩
  | .hbm, ⟨29, _⟩ => ⟨S2048x2816, .bf16⟩
  | .hbm, ⟨30, _⟩ => ⟨S2048x1024, .bf16⟩
  | .hbm, ⟨31, _⟩ => ⟨S2048x1024, .f32⟩
  | .hbm, ⟨32, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x5632, .f32⟩
  | .local _ .vmem, ⟨3, _⟩ => ⟨S256x5632, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S5632x1024, .bf16⟩
  | .local _ .vmem, ⟨8, _⟩ => ⟨S2816x1024, .bf16⟩
  | .local _ .vmem, ⟨9, _⟩ => ⟨S256x5632, .bf16⟩
  | .local _ .vmem, ⟨10, _⟩ => ⟨S256x5632, .bf16⟩
  | .local _ .vmem, ⟨11, _⟩ => ⟨S256x2816, .bf16⟩
  | .local _ .vmem, ⟨12, _⟩ => ⟨S256x2816, .bf16⟩
  | .local _ .vmem, ⟨13, _⟩ => ⟨S256x1024, .bf16⟩
  | .local _ .vmem, ⟨14, _⟩ => ⟨S256x1024, .bf16⟩
  | .local _ .vmem, ⟨15, _⟩ => ⟨S256x1024, .f32⟩
  | .local _ .vmem, ⟨16, _⟩ => ⟨S256x1024, .f32⟩
  | .local _ .vmem, ⟨17, _⟩ => ⟨S1x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_2 : Ref sig .tc := ⟨.hbm, 26, rfl⟩
abbrev main_v18 : Ref sig .tc := ⟨.hbm, 27, rfl⟩
abbrev main_v19_0 : Ref sig .tc := ⟨.hbm, 28, rfl⟩
abbrev main_v19_1 : Ref sig .tc := ⟨.hbm, 29, rfl⟩
abbrev main_v19_2 : Ref sig .tc := ⟨.hbm, 30, rfl⟩
abbrev main_v19_3 : Ref sig .tc := ⟨.hbm, 31, rfl⟩
abbrev main_v19_4 : Ref sig .tc := ⟨.hbm, 32, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg9_1 : Ref sig .tc := ⟨.vmem, 16, rfl⟩
abbrev cc0_stg10_0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem9_1 : DmaSem sig := 16
abbrev cc0_sem10_0 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S5632x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2816x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x5632 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference4Ideal.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩

abbrev nBuf : Space → Nat
  | .hbm => 86
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1024, .f32⟩
  | .hbm, ⟨3, _⟩ => ⟨S1024x5632, .f32⟩
  | .hbm, ⟨4, _⟩ => ⟨S2816x1024, .f32⟩
  | .hbm, ⟨5, _⟩ => ⟨S2048x1024, .f32⟩
  | .hbm, ⟨6, _⟩ => ⟨S_, .f32⟩
  | .hbm, ⟨7, _⟩ => ⟨S2048, .f32⟩
  | .hbm, ⟨8, _⟩ => ⟨S2048x1, .f32⟩
  | .hbm, ⟨9, _⟩ => ⟨S_, .f32⟩
  | .hbm, ⟨10, _⟩ => ⟨S2048x1, .f32⟩
  | .hbm, ⟨11, _⟩ => ⟨S2048x1, .f32⟩
  | .hbm, ⟨12, _⟩ => ⟨S_, .f32⟩
  | .hbm, ⟨13, _⟩ => ⟨S2048x1, .f32⟩
  | .hbm, ⟨14, _⟩ => ⟨S2048x1, .f32⟩
  | .hbm, ⟨15, _⟩ => ⟨S2048x1, .f32⟩
  | .hbm, ⟨16, _⟩ => ⟨S2048x1, .f32⟩
  | .hbm, ⟨17, _⟩ => ⟨S_, .f32⟩
  | .hbm, ⟨18, _⟩ => ⟨S2048x1, .f32⟩
  | .hbm, ⟨19, _⟩ => ⟨S2048x1, .f32⟩
  | .hbm, ⟨20, _⟩ => ⟨S2048x1024, .f32⟩
  | .hbm, ⟨21, _⟩ => ⟨S2048x1024, .f32⟩
  | .hbm, ⟨22, _⟩ => ⟨S1x1024, .f32⟩
  | .hbm, ⟨23, _⟩ => ⟨S2048x1024, .f32⟩
  | .hbm, ⟨24, _⟩ => ⟨S2048x1024, .f32⟩
  | .hbm, ⟨25, _⟩ => ⟨S2048x5632, .f32⟩
  | .hbm, ⟨26, _⟩ => ⟨S2048x2816, .f32⟩
  | .hbm, ⟨27, _⟩ => ⟨S2048x2816, .f32⟩
  | .hbm, ⟨28, _⟩ => ⟨S2048x2816, .f32⟩
  | .hbm, ⟨29, _⟩ => ⟨S_, .f32⟩
  | .hbm, ⟨30, _⟩ => ⟨S2048x2816, .f32⟩
  | .hbm, ⟨31, _⟩ => ⟨S2048x2816, .f32⟩
  | .hbm, ⟨32, _⟩ => ⟨S_, .f32⟩
  | .hbm, ⟨33, _⟩ => ⟨S2048x2816, .f32⟩
  | .hbm, ⟨34, _⟩ => ⟨S2048x2816, .f32⟩
  | .hbm, ⟨35, _⟩ => ⟨S_, .f32⟩
  | .hbm, ⟨36, _⟩ => ⟨S2048x2816, .f32⟩
  | .hbm, ⟨37, _⟩ => ⟨S2048x2816, .f32⟩
  | .hbm, ⟨38, _⟩ => ⟨S2048x2816, .f32⟩
  | .hbm, ⟨39, _⟩ => ⟨S2048x2816, .f32⟩
  | .hbm, ⟨40, _⟩ => ⟨S2048x2816, .f32⟩
  | .hbm, ⟨41, _⟩ => ⟨S2048x2816, .f32⟩
  | .hbm, ⟨42, _⟩ => ⟨S2048x1024, .f32⟩
  | .hbm, ⟨43, _⟩ => ⟨S2048x2816, .f32⟩
  | .hbm, ⟨44, _⟩ => ⟨S2048x2816, .f32⟩
  | .hbm, ⟨45, _⟩ => ⟨S2048x2816, .f32⟩
  | .hbm, ⟨46, _⟩ => ⟨S_, .f32⟩
  | .hbm, ⟨47, _⟩ => ⟨S2048x5632, .f32⟩
  | .hbm, ⟨48, _⟩ => ⟨S2048x2816, .f32⟩
  | .hbm, ⟨49, _⟩ => ⟨S2048x2816, .f32⟩
  | .hbm, ⟨50, _⟩ => ⟨S2048x2816, .f32⟩
  | .hbm, ⟨51, _⟩ => ⟨S2048x2816, .f32⟩
  | .hbm, ⟨52, _⟩ => ⟨S_, .f32⟩
  | .hbm, ⟨53, _⟩ => ⟨S2048x5632, .f32⟩
  | .hbm, ⟨54, _⟩ => ⟨S2048x5632, .f32⟩
  | .hbm, ⟨55, _⟩ => ⟨S2048x1024, .f32⟩
  | .hbm, ⟨56, _⟩ => ⟨S2048x1024, .f32⟩
  | .hbm, ⟨57, _⟩ => ⟨S_, .f32⟩
  | .hbm, ⟨58, _⟩ => ⟨S1024, .f32⟩
  | .hbm, ⟨59, _⟩ => ⟨S1x1024, .f32⟩
  | .hbm, ⟨60, _⟩ => ⟨S2048x1024, .f32⟩
  | .hbm, ⟨61, _⟩ => ⟨S2048x1024, .f32⟩
  | .hbm, ⟨62, _⟩ => ⟨S_, .f32⟩
  | .hbm, ⟨63, _⟩ => ⟨S1024, .f32⟩
  | .hbm, ⟨64, _⟩ => ⟨S2048x1024, .f32⟩
  | .hbm, ⟨65, _⟩ => ⟨S_, .f32⟩
  | .hbm, ⟨66, _⟩ => ⟨S2048, .f32⟩
  | .hbm, ⟨67, _⟩ => ⟨S2048x1, .f32⟩
  | .hbm, ⟨68, _⟩ => ⟨S2048x1024, .f32⟩
  | .hbm, ⟨69, _⟩ => ⟨S2048x1024, .f32⟩
  | .hbm, ⟨70, _⟩ => ⟨S2048x1, .f32⟩
  | .hbm, ⟨71, _⟩ => ⟨S_, .f32⟩
  | .hbm, ⟨72, _⟩ => ⟨S2048x1, .f32⟩
  | .hbm, ⟨73, _⟩ => ⟨S2048x1, .f32⟩
  | .hbm, ⟨74, _⟩ => ⟨S_, .f32⟩
  | .hbm, ⟨75, _⟩ => ⟨S2048, .f32⟩
  | .hbm, ⟨76, _⟩ => ⟨S2048x1024, .f32⟩
  | .hbm, ⟨77, _⟩ => ⟨S2048x1024, .f32⟩
  | .hbm, ⟨78, _⟩ => ⟨S2048x1024, .f32⟩
  | .hbm, ⟨79, _⟩ => ⟨S2048x1024, .f32⟩
  | .hbm, ⟨80, _⟩ => ⟨S2048x1024, .f32⟩
  | .hbm, ⟨81, _⟩ => ⟨S2048x5632, .bf16⟩
  | .hbm, ⟨82, _⟩ => ⟨S2048x2816, .bf16⟩
  | .hbm, ⟨83, _⟩ => ⟨S2048x1024, .bf16⟩
  | .hbm, ⟨84, _⟩ => ⟨S2048x1024, .f32⟩
  | .hbm, ⟨85, _⟩ => ⟨S1x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v18_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v18_1 : Ref sig .tc := ⟨.hbm, 38, rfl⟩
abbrev main_v18_0 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_cst_3 : Ref sig .tc := ⟨.hbm, 46, rfl⟩
abbrev main_v25 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v26 : Ref sig .tc := ⟨.hbm, 51, rfl⟩
abbrev main_cst_4 : Ref sig .tc := ⟨.hbm, 52, rfl⟩
abbrev main_v27 : Ref sig .tc := ⟨.hbm, 53, rfl⟩
abbrev main_v28 : Ref sig .tc := ⟨.hbm, 54, rfl⟩
abbrev main_v29 : Ref sig .tc := ⟨.hbm, 55, rfl⟩
abbrev main_v30 : Ref sig .tc := ⟨.hbm, 56, rfl⟩
abbrev main_cst_5 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_cst_6 : Ref sig .tc := ⟨.hbm, 62, rfl⟩
abbrev main_v35 : Ref sig .tc := ⟨.hbm, 63, rfl⟩
abbrev main_v36 : Ref sig .tc := ⟨.hbm, 64, rfl⟩
abbrev main_cst_7 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_8 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩

abbrev nD : Nat := 1
abbrev τ : Topo := Topo.v7x

variable {F : FTy → Type} [FloatOps F]
-- ==== Kernel5.lean ====
abbrev S2048x1024 : Shape := ⟨2, ![2048, 1024]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩
abbrev S1 : Shape := ⟨1, ![1]⟩

abbrev nBuf : Space → Nat
  | .hbm => 4
  | .vmem => 7
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S1x1, .f32⟩
  | .hbm, ⟨3, _⟩ => ⟨S2048x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .f32⟩
  | .local _ .vmem, ⟨3, _⟩ => ⟨S1024x1024, .f32⟩
  | .local _ .vmem, ⟨4, _⟩ => ⟨S1x1, .f32⟩
  | .local _ .vmem, ⟨5, _⟩ => ⟨S1024x1024, .f32⟩
  | .local _ .vmem, ⟨6, _⟩ => ⟨S1024x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S2048x1024 : Shape := ⟨2, ![2048, 1024]⟩
abbrev S_ : Shape := ⟨0, ![]⟩
abbrev S2048 : Shape := ⟨1, ![2048]⟩
abbrev S1x1 : Shape := ⟨2, ![1, 1]⟩

abbrev nBuf : Space → Nat
  | .hbm => 26
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S2048x1024, .f32⟩
  | .hbm, ⟨2, _⟩ => ⟨S2048x1024, .f32⟩
  | .hbm, ⟨3, _⟩ => ⟨S2048x1024, .f32⟩
  | .hbm, ⟨4, _⟩ => ⟨S_, .f32⟩
  | .hbm, ⟨5, _⟩ => ⟨S2048x1024, .f32⟩
  | .hbm, ⟨6, _⟩ => ⟨S2048x1024, .f32⟩
  | .hbm, ⟨7, _⟩ => ⟨S_, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S2048, .f32⟩
  | .hbm, ⟨20, _⟩ => ⟨S_, .f32⟩
  | .hbm, ⟨21, _⟩ => ⟨S2048, .f32⟩
  | .hbm, ⟨22, _⟩ => ⟨S2048, .f32⟩
  | .hbm, ⟨23, _⟩ => ⟨S2048x1024, .f32⟩
  | .hbm, ⟨24, _⟩ => ⟨S2048x1024, .f32⟩
  | .hbm, ⟨25, _⟩ => ⟨S1x1, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_cst_3 : Ref sig .tc := ⟨.hbm, 14, rfl⟩
abbrev main_v8 : Ref sig .tc := ⟨.hbm, 15, rfl⟩
abbrev main_cst_4 : Ref sig .tc := ⟨.hbm, 16, rfl⟩
abbrev main_cst_5 : Ref sig .tc := ⟨.hbm, 17, rfl⟩
abbrev main_v9 : Ref sig .tc := ⟨.hbm, 18, rfl⟩
abbrev main_v10 : Ref sig .tc := ⟨.hbm, 19, rfl⟩
abbrev main_cst_6 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩

abbrev nD : Nat := 1
abbrev τ : Topo := Topo.v7x

variable {F : FTy → Type} [FloatOps F]
-- ==== Kernel6.lean ====
abbrev S2048x2560 : Shape := ⟨2, ![2048, 2560]⟩
abbrev S2048x512 : Shape := ⟨2, ![2048, 512]⟩
abbrev S64 : Shape := ⟨1, ![64]⟩
abbrev S_ : Shape := ⟨0, ![]⟩
abbrev S16x128x512 : Shape := ⟨3, ![16, 128, 512]⟩
abbrev S16x256x512 : Shape := ⟨3, ![16, 256, 512]⟩
abbrev S4096x512 : Shape := ⟨2, ![4096, 512]⟩
abbrev S16x256x4x128 : Shape := ⟨4, ![16, 256, 4, 128]⟩
abbrev S4x16x128x256 : Shape := ⟨4, ![4, 16, 128, 256]⟩
abbrev S1x64 : Shape := ⟨2, ![1, 64]⟩
abbrev S8x64 : Shape := ⟨2, ![8, 64]⟩
abbrev S512 : Shape := ⟨1, ![512]⟩
abbrev S1x512 : Shape := ⟨2, ![1, 512]⟩
abbrev S2048x1536 : Shape := ⟨2, ![2048, 1536]⟩
abbrev S1024x512 : Shape := ⟨2, ![1024, 512]⟩
abbrev S4x8x128x256 : Shape := ⟨4, ![4, 8, 128, 256]⟩
abbrev S1024x1536 : Shape := ⟨2, ![1024, 1536]⟩
abbrev S512x512 : Shape := ⟨2, ![512, 512]⟩
abbrev S1x1x128x256 : Shape := ⟨4, ![1, 1, 128, 256]⟩
abbrev S128x256 : Shape := ⟨2, ![128, 256]⟩
abbrev S256x128 : Shape := ⟨2, ![256, 128]⟩
abbrev S256x512 : Shape := ⟨2, ![256, 512]⟩
abbrev S128x512 : Shape := ⟨2, ![128, 512]⟩

abbrev nBuf : Space → Nat
  | .hbm => 100
  | .vmem => 18
  | .smem => 0
  | _ => 0

abbrev bufTy : (tb : Table) → Fin (tcTables nBuf tb) → BufTy
  | .hbm, ⟨0, _⟩ => ⟨S2048x2560, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S64, .f32⟩
  | .hbm, ⟨5, _⟩ => ⟨S64, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S2048x512, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S_, .i1⟩
  | .hbm, ⟨14, _⟩ => ⟨S_, .i32⟩
  | .hbm, ⟨15, _⟩ => ⟨S_, .i32⟩
  | .hbm, ⟨16, _⟩ => ⟨S2048x512, .i32⟩
  | .hbm, ⟨17, _⟩ => ⟨S2048x512, .i32⟩
  | .hbm, ⟨18, _⟩ => ⟨S_, .i32⟩
  | .hbm, ⟨19, _⟩ => ⟨S2048x512, .i32⟩
  | .hbm, ⟨20, _⟩ => ⟨S2048x512, .i1⟩
  | .hbm, ⟨21, _⟩ => ⟨S_, .i32⟩
  | .hbm, ⟨22, _⟩ => ⟨S2048x512, .i32⟩
  | .hbm, ⟨23, _⟩ => ⟨S2048x512, .i1⟩
  | .hbm, ⟨24, _⟩ => ⟨S_, .i32⟩
  | .hbm, ⟨25, _⟩ => ⟨S_, .i1⟩
  | .hbm, ⟨26, _⟩ => ⟨S2048x512, .i1⟩
  | .hbm, ⟨27, _⟩ => ⟨S2048x512, .i1⟩
  | .hbm, ⟨28, _⟩ => ⟨S2048x512, .i1⟩
  | .hbm, ⟨29, _⟩ => ⟨S2048x512, .i32⟩
  | .hbm, ⟨30, _⟩ => ⟨S2048x512, .i32⟩
  | .hbm, ⟨31, _⟩ => ⟨S2048x512, .i32⟩
  | .hbm, ⟨32, _⟩ => ⟨S_, .i32⟩
  | .hbm, ⟨33, _⟩ => ⟨S2048x512, .i32⟩
  | .hbm, ⟨34, _⟩ => ⟨S2048x512, .i1⟩
  | .hbm, ⟨35, _⟩ => ⟨S_, .f32⟩
  | .hbm, ⟨36, _⟩ => ⟨S_, .f32⟩
  | .hbm, ⟨37, _⟩ => ⟨S2048x512, .f32⟩
  | .hbm, ⟨38, _⟩ => ⟨S2048x512, .f32⟩
  | .hbm, ⟨39, _⟩ => ⟨S16x128x512, .f32⟩
  | .hbm, ⟨40, _⟩ => ⟨S_, .f32⟩
  | .hbm, ⟨41, _⟩ => ⟨S_, .f32⟩
  | .hbm, ⟨42, _⟩ => ⟨S2048x512, .f32⟩
  | .hbm, ⟨43, _⟩ => ⟨S2048x512, .f32⟩
  | .hbm, ⟨44, _⟩ => ⟨S16x128x512, .f32⟩
  | .hbm, ⟨45, _⟩ => ⟨S16x256x512, .f32⟩
  | .hbm, ⟨46, _⟩ => ⟨S4096x512, .f32⟩
  | .hbm, ⟨47, _⟩ => ⟨S16x256x4x128, .f32⟩
  | .hbm, ⟨48, _⟩ => ⟨S4x16x128x256, .f32⟩
  | .hbm, ⟨49, _⟩ => ⟨S2048x512, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S_, .i1⟩
  | .hbm, ⟨54, _⟩ => ⟨S_, .i32⟩
  | .hbm, ⟨55, _⟩ => ⟨S_, .i32⟩
  | .hbm, ⟨56, _⟩ => ⟨S2048x512, .i32⟩
  | .hbm, ⟨57, _⟩ => ⟨S2048x512, .i32⟩
  | .hbm, ⟨58, _⟩ => ⟨S_, .i32⟩
  | .hbm, ⟨59, _⟩ => ⟨S2048x512, .i32⟩
  | .hbm, ⟨60, _⟩ => ⟨S2048x512, .i1⟩
  | .hbm, ⟨61, _⟩ => ⟨S_, .i32⟩
  | .hbm, ⟨62, _⟩ => ⟨S2048x512, .i32⟩
  | .hbm, ⟨63, _⟩ => ⟨S2048x512, .i1⟩
  | .hbm, ⟨64, _⟩ => ⟨S_, .i32⟩
  | .hbm, ⟨65, _⟩ => ⟨S_, .i1⟩
  | .hbm, ⟨66, _⟩ => ⟨S2048x512, .i1⟩
  | .hbm, ⟨67, _⟩ => ⟨S2048x512, .i1⟩
  | .hbm, ⟨68, _⟩ => ⟨S2048x512, .i1⟩
  | .hbm, ⟨69, _⟩ => ⟨S2048x512, .i32⟩
  | .hbm, ⟨70, _⟩ => ⟨S2048x512, .i32⟩
  | .hbm, ⟨71, _⟩ => ⟨S2048x512, .i32⟩
  | .hbm, ⟨72, _⟩ => ⟨S_, .i32⟩
  | .hbm, ⟨73, _⟩ => ⟨S2048x512, .i32⟩
  | .hbm, ⟨74, _⟩ => ⟨S2048x512, .i1⟩
  | .hbm, ⟨75, _⟩ => ⟨S_, .f32⟩
  | .hbm, ⟨76, _⟩ => ⟨S_, .f32⟩
  | .hbm, ⟨77, _⟩ => ⟨S2048x512, .f32⟩
  | .hbm, ⟨78, _⟩ => ⟨S2048x512, .f32⟩
  | .hbm, ⟨79, _⟩ => ⟨S16x128x512, .f32⟩
  | .hbm, ⟨80, _⟩ => ⟨S_, .f32⟩
  | .hbm, ⟨81, _⟩ => ⟨S_, .f32⟩
  | .hbm, ⟨82, _⟩ => ⟨S2048x512, .f32⟩
  | .hbm, ⟨83, _⟩ => ⟨S2048x512, .f32⟩
  | .hbm, ⟨84, _⟩ => ⟨S16x128x512, .f32⟩
  | .hbm, ⟨85, _⟩ => ⟨S16x256x512, .f32⟩
  | .hbm, ⟨86, _⟩ => ⟨S4096x512, .f32⟩
  | .hbm, ⟨87, _⟩ => ⟨S16x256x4x128, .f32⟩
  | .hbm, ⟨88, _⟩ => ⟨S4x16x128x256, .f32⟩
  | .hbm, ⟨89, _⟩ => ⟨S1x64, .f32⟩
  | .hbm, ⟨90, _⟩ => ⟨S8x64, .f32⟩
  | .hbm, ⟨91, _⟩ => ⟨S512, .f32⟩
  | .hbm, ⟨92, _⟩ => ⟨S1x512, .f32⟩
  | .hbm, ⟨93, _⟩ => ⟨S1x64, .f32⟩
  | .hbm, ⟨94, _⟩ => ⟨S8x64, .f32⟩
  | .hbm, ⟨95, _⟩ => ⟨S512, .f32⟩
  | .hbm, ⟨96, _⟩ => ⟨S1x512, .f32⟩
  | .hbm, ⟨97, _⟩ => ⟨S2048x1536, .bf16⟩
  | .hbm, ⟨98, _⟩ => ⟨S1x64, .f32⟩
  | .hbm, ⟨99, _⟩ => ⟨S1x64, .f32⟩
  | .local _ .vmem, ⟨0, _⟩ => ⟨S1024x512, .f32⟩
  | .local _ .vmem, ⟨1, _⟩ => ⟨S1024x512, .f32⟩
  | .local _ .vmem, ⟨2, _⟩ => ⟨S1024x512, .f32⟩
  | .local _ .vmem, ⟨3, _⟩ => ⟨S1024x512, .f32⟩
  | .local _ .vmem, ⟨4, _⟩ => ⟨S1024x512, .f32⟩
  | .local _ .vmem, ⟨5, _⟩ => ⟨S1024x512, .f32⟩
  | .local _ .vmem, ⟨6, _⟩ => ⟨S4x8x128x256, .f32⟩
  | .local _ .vmem, ⟨7, _⟩ => ⟨S4x8x128x256, .f32⟩
  | .local _ .vmem, ⟨8, _⟩ => ⟨S4x8x128x256, .f32⟩
  | .local _ .vmem, ⟨9, _⟩ => ⟨S4x8x128x256, .f32⟩
  | .local _ .vmem, ⟨10, _⟩ => ⟨S1x512, .f32⟩
  | .local _ .vmem, ⟨11, _⟩ => ⟨S1x512, .f32⟩
  | .local _ .vmem, ⟨12, _⟩ => ⟨S1024x1536, .bf16⟩
  | .local _ .vmem, ⟨13, _⟩ => ⟨S1024x1536, .bf16⟩
  | .local _ .vmem, ⟨14, _⟩ => ⟨S1x64, .f32⟩
  | .local _ .vmem, ⟨15, _⟩ => ⟨S1x64, .f32⟩
  | .local _ .vmem, ⟨16, _⟩ => ⟨S1x512, .f32⟩
  | .local _ .vmem, ⟨17, _⟩ => ⟨S1x512, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_c : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_c_1 : Ref sig .tc := ⟨.hbm, 18, rfl⟩
abbrev main_call0_v5 : Ref sig .tc := ⟨.hbm, 19, rfl⟩
abbrev main_call0_v6 : Ref sig .tc := ⟨.hbm, 20, rfl⟩
abbrev main_call0_c_2 : Ref sig .tc := ⟨.hbm, 21, rfl⟩
abbrev main_call0_v7 : Ref sig .tc := ⟨.hbm, 22, rfl⟩
abbrev main_call0_v8 : Ref sig .tc := ⟨.hbm, 23, rfl⟩
abbrev main_call0_c_3 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_v3 : Ref sig .tc := ⟨.hbm, 31, rfl⟩
abbrev main_c_0 : Ref sig .tc := ⟨.hbm, 32, rfl⟩
abbrev main_v4 : Ref sig .tc := ⟨.hbm, 33, rfl⟩
abbrev main_v5 : Ref sig .tc := ⟨.hbm, 34, rfl⟩
abbrev main_cst_1 : Ref sig .tc := ⟨.hbm, 35, rfl⟩
abbrev main_call1_v0 : Ref sig .tc := ⟨.hbm, 36, rfl⟩
abbrev main_call1_v1 : Ref sig .tc := ⟨.hbm, 37, rfl⟩
abbrev main_v6 : Ref sig .tc := ⟨.hbm, 38, rfl⟩
abbrev main_v7 : Ref sig .tc := ⟨.hbm, 39, rfl⟩
abbrev main_cst_2 : Ref sig .tc := ⟨.hbm, 40, rfl⟩
abbrev main_call2_v0 : Ref sig .tc := ⟨.hbm, 41, rfl⟩
abbrev main_call2_v1 : Ref sig .tc := ⟨.hbm, 42, rfl⟩
abbrev main_v8 : Ref sig .tc := ⟨.hbm, 43, rfl⟩
abbrev main_v9 : Ref sig .tc := ⟨.hbm, 44, rfl⟩
abbrev main_v10 : Ref sig .tc := ⟨.hbm, 45, rfl⟩
abbrev main_v11 : Ref sig .tc := ⟨.hbm, 46, rfl⟩
abbrev main_v12 : Ref sig .tc := ⟨.hbm, 47, rfl⟩
abbrev main_v13 : Ref sig .tc := ⟨.hbm, 48, rfl⟩
abbrev main_v14 : Ref sig .tc := ⟨.hbm, 49, rfl⟩
abbrev main_c_3 : Ref sig .tc := ⟨.hbm, 50, rfl⟩
abbrev main_call3_v0 : Ref sig .tc := ⟨.hbm, 51, rfl⟩
abbrev main_call3_c : Ref sig .tc := ⟨.hbm, 52, rfl⟩
abbrev main_call3_v1 : Ref sig .tc := ⟨.hbm, 53, rfl⟩
abbrev main_call3_c_0 : Ref sig .tc := ⟨.hbm, 54, rfl⟩
abbrev main_call3_v2 : Ref sig .tc := ⟨.hbm, 55, rfl⟩
abbrev main_call3_v3 : Ref sig .tc := ⟨.hbm, 56, rfl⟩
abbrev main_call3_v4 : Ref sig .tc := ⟨.hbm, 57, rfl⟩
abbrev main_call3_c_1 : Ref sig .tc := ⟨.hbm, 58, rfl⟩
abbrev main_call3_v5 : Ref sig .tc := ⟨.hbm, 59, rfl⟩
abbrev main_call3_v6 : Ref sig .tc := ⟨.hbm, 60, rfl⟩
abbrev main_call3_c_2 : Ref sig .tc := ⟨.hbm, 61, rfl⟩
abbrev main_call3_v7 : Ref sig .tc := ⟨.hbm, 62, rfl⟩
abbrev main_call3_v8 : Ref sig .tc := ⟨.hbm, 63, rfl⟩
abbrev main_call3_c_3 : Ref sig .tc := ⟨.hbm, 64, rfl⟩
abbrev main_call3_v9 : Ref sig .tc := ⟨.hbm, 65, rfl⟩
abbrev main_call3_v10 : Ref sig .tc := ⟨.hbm, 66, rfl⟩
abbrev main_call3_v11 : Ref sig .tc := ⟨.hbm, 67, rfl⟩
abbrev main_call3_v12 : Ref sig .tc := ⟨.hbm, 68, rfl⟩
abbrev main_call3_v13 : Ref sig .tc := ⟨.hbm, 69, rfl⟩
abbrev main_call3_v14 : Ref sig .tc := ⟨.hbm, 70, rfl⟩
abbrev main_v15 : Ref sig .tc := ⟨.hbm, 71, rfl⟩
abbrev main_c_4 : Ref sig .tc := ⟨.hbm, 72, rfl⟩
abbrev main_v16 : Ref sig .tc := ⟨.hbm, 73, rfl⟩
abbrev main_v17 : Ref sig .tc := ⟨.hbm, 74, rfl⟩
abbrev main_cst_5 : Ref sig .tc := ⟨.hbm, 75, rfl⟩
abbrev main_call4_v0 : Ref sig .tc := ⟨.hbm, 76, rfl⟩
abbrev main_call4_v1 : Ref sig .tc := ⟨.hbm, 77, rfl⟩
abbrev main_v18 : Ref sig .tc := ⟨.hbm, 78, rfl⟩
abbrev main_v19 : Ref sig .tc := ⟨.hbm, 79, rfl⟩
abbrev main_cst_6 : Ref sig .tc := ⟨.hbm, 80, rfl⟩
abbrev main_call5_v0 : Ref sig .tc := ⟨.hbm, 81, rfl⟩
abbrev main_call5_v1 : Ref sig .tc := ⟨.hbm, 82, rfl⟩
abbrev main_v20 : Ref sig .tc := ⟨.hbm, 83, rfl⟩
abbrev main_v21 : Ref sig .tc := ⟨.hbm, 84, rfl⟩
abbrev main_v22 : Ref sig .tc := ⟨.hbm, 85, rfl⟩
abbrev main_v23 : Ref sig .tc := ⟨.hbm, 86, rfl⟩
abbrev main_v24 : Ref sig .tc := ⟨.hbm, 87, rfl⟩
abbrev main_v25 : Ref sig .tc := ⟨.hbm, 88, rfl⟩
abbrev main_v26 : Ref sig .tc := ⟨.hbm, 89, rfl⟩
abbrev main_v27 : Ref sig .tc := ⟨.hbm, 90, rfl⟩
abbrev main_v28 : Ref sig .tc := ⟨.hbm, 91, rfl⟩
abbrev main_v29 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_v33 : Ref sig .tc := ⟨.hbm, 96, rfl⟩
abbrev main_v34_0 : Ref sig .tc := ⟨.hbm, 97, rfl⟩
abbrev main_v34_1 : Ref sig .tc := ⟨.hbm, 98, rfl⟩
abbrev main_v34_2 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_scratch0 : Ref sig .tc := ⟨.vmem, 16, rfl⟩
abbrev cc0_scratch1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![2], ![false]⟩

def k0_cond3 (i : grid0.Coords) : BitVec 1 :=
  let arg0 : BitVec 32 := BitVec.ofNat 32 (i 0).val
  let c1_i32_310 : BitVec 32 := 1#32
  let v438 : BitVec 1 := Scalar.cmpi .eq arg0 c1_i32_310
  let v439 : BitVec 32 := Scalar.extui v438
  let c0_i32_311 : BitVec 32 := 0#32
  let v440 : BitVec 1 := Scalar.cmpi .ne v439 c0_i32_311
  v440

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x8x128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x8x128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x512 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1536 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference6Ideal.lean ====
abbrev S2048x2560 : Shape := ⟨2, ![2048, 2560]⟩
abbrev S2048x512 : Shape := ⟨2, ![2048, 512]⟩
abbrev S64 : Shape := ⟨1, ![64]⟩
abbrev S2048x1536 : Shape := ⟨2, ![2048, 1536]⟩
abbrev S2048x3x8x64 : Shape := ⟨4, ![2048, 3, 8, 64]⟩
abbrev S2048x1x8x64 : Shape := ⟨4, ![2048, 1, 8, 64]⟩
abbrev S2048x8x64 : Shape := ⟨3, ![2048, 8, 64]⟩
abbrev S_ : Shape := ⟨0, ![]⟩
abbrev S2048x8 : Shape := ⟨2, ![2048, 8]⟩
abbrev S2048x8x1 : Shape := ⟨3, ![2048, 8, 1]⟩
abbrev S1x1x64 : Shape := ⟨3, ![1, 1, 64]⟩
abbrev S1x64 : Shape := ⟨2, ![1, 64]⟩

abbrev nBuf : Space → Nat
  | .hbm => 122
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S2048x512, .f32⟩
  | .hbm, ⟨2, _⟩ => ⟨S2048x512, .f32⟩
  | .hbm, ⟨3, _⟩ => ⟨S2048x512, .f32⟩
  | .hbm, ⟨4, _⟩ => ⟨S64, .f32⟩
  | .hbm, ⟨5, _⟩ => ⟨S64, .f32⟩
  | .hbm, ⟨6, _⟩ => ⟨S2048x1536, .f32⟩
  | .hbm, ⟨7, _⟩ => ⟨S2048x3x8x64, .f32⟩
  | .hbm, ⟨8, _⟩ => ⟨S2048x1x8x64, .f32⟩
  | .hbm, ⟨9, _⟩ => ⟨S2048x8x64, .f32⟩
  | .hbm, ⟨10, _⟩ => ⟨S2048x8x64, .f32⟩
  | .hbm, ⟨11, _⟩ => ⟨S_, .f32⟩
  | .hbm, ⟨12, _⟩ => ⟨S2048x8, .f32⟩
  | .hbm, ⟨13, _⟩ => ⟨S2048x8x1, .f32⟩
  | .hbm, ⟨14, _⟩ => ⟨S_, .f32⟩
  | .hbm, ⟨15, _⟩ => ⟨S2048x8x1, .f32⟩
  | .hbm, ⟨16, _⟩ => ⟨S2048x8x1, .f32⟩
  | .hbm, ⟨17, _⟩ => ⟨S_, .f32⟩
  | .hbm, ⟨18, _⟩ => ⟨S2048x8x1, .f32⟩
  | .hbm, ⟨19, _⟩ => ⟨S2048x8x1, .f32⟩
  | .hbm, ⟨20, _⟩ => ⟨S2048x8x1, .f32⟩
  | .hbm, ⟨21, _⟩ => ⟨S2048x8x1, .f32⟩
  | .hbm, ⟨22, _⟩ => ⟨S_, .f32⟩
  | .hbm, ⟨23, _⟩ => ⟨S2048x8x1, .f32⟩
  | .hbm, ⟨24, _⟩ => ⟨S2048x8x1, .f32⟩
  | .hbm, ⟨25, _⟩ => ⟨S2048x8x64, .f32⟩
  | .hbm, ⟨26, _⟩ => ⟨S2048x8x64, .f32⟩
  | .hbm, ⟨27, _⟩ => ⟨S1x1x64, .f32⟩
  | .hbm, ⟨28, _⟩ => ⟨S2048x8x64, .f32⟩
  | .hbm, ⟨29, _⟩ => ⟨S2048x8x64, .f32⟩
  | .hbm, ⟨30, _⟩ => ⟨S2048x1x8x64, .f32⟩
  | .hbm, ⟨31, _⟩ => ⟨S2048x8x64, .f32⟩
  | .hbm, ⟨32, _⟩ => ⟨S2048x8x64, .f32⟩
  | .hbm, ⟨33, _⟩ => ⟨S_, .f32⟩
  | .hbm, ⟨34, _⟩ => ⟨S2048x8, .f32⟩
  | .hbm, ⟨35, _⟩ => ⟨S2048x8x1, .f32⟩
  | .hbm, ⟨36, _⟩ => ⟨S_, .f32⟩
  | .hbm, ⟨37, _⟩ => ⟨S2048x8x1, .f32⟩
  | .hbm, ⟨38, _⟩ => ⟨S2048x8x1, .f32⟩
  | .hbm, ⟨39, _⟩ => ⟨S_, .f32⟩
  | .hbm, ⟨40, _⟩ => ⟨S2048x8x1, .f32⟩
  | .hbm, ⟨41, _⟩ => ⟨S2048x8x1, .f32⟩
  | .hbm, ⟨42, _⟩ => ⟨S2048x8x1, .f32⟩
  | .hbm, ⟨43, _⟩ => ⟨S2048x8x1, .f32⟩
  | .hbm, ⟨44, _⟩ => ⟨S_, .f32⟩
  | .hbm, ⟨45, _⟩ => ⟨S2048x8x1, .f32⟩
  | .hbm, ⟨46, _⟩ => ⟨S2048x8x1, .f32⟩
  | .hbm, ⟨47, _⟩ => ⟨S2048x8x64, .f32⟩
  | .hbm, ⟨48, _⟩ => ⟨S2048x8x64, .f32⟩
  | .hbm, ⟨49, _⟩ => ⟨S1x1x64, .f32⟩
  | .hbm, ⟨50, _⟩ => ⟨S2048x8x64, .f32⟩
  | .hbm, ⟨51, _⟩ => ⟨S2048x8x64, .f32⟩
  | .hbm, ⟨52, _⟩ => ⟨S2048x1x8x64, .f32⟩
  | .hbm, ⟨53, _⟩ => ⟨S2048x8x64, .f32⟩
  | .hbm, ⟨54, _⟩ => ⟨S2048x8x64, .f32⟩
  | .hbm, ⟨55, _⟩ => ⟨S2048x8x64, .f32⟩
  | .hbm, ⟨56, _⟩ => ⟨S2048x8x64, .f32⟩
  | .hbm, ⟨57, _⟩ => ⟨S2048x1x8x64, .f32⟩
  | .hbm, ⟨58, _⟩ => ⟨S_, .f32⟩
  | .hbm, ⟨59, _⟩ => ⟨S2048x3x8x64, .f32⟩
  | .hbm, ⟨60, _⟩ => ⟨S2048x8x64, .f32⟩
  | .hbm, ⟨61, _⟩ => ⟨S_, .f32⟩
  | .hbm, ⟨62, _⟩ => ⟨S64, .f32⟩
  | .hbm, ⟨63, _⟩ => ⟨S1x1x64, .f32⟩
  | .hbm, ⟨64, _⟩ => ⟨S2048x8x64, .f32⟩
  | .hbm, ⟨65, _⟩ => ⟨S2048x8x64, .f32⟩
  | .hbm, ⟨66, _⟩ => ⟨S_, .f32⟩
  | .hbm, ⟨67, _⟩ => ⟨S64, .f32⟩
  | .hbm, ⟨68, _⟩ => ⟨S2048x8x64, .f32⟩
  | .hbm, ⟨69, _⟩ => ⟨S_, .f32⟩
  | .hbm, ⟨70, _⟩ => ⟨S2048x8, .f32⟩
  | .hbm, ⟨71, _⟩ => ⟨S2048x8x1, .f32⟩
  | .hbm, ⟨72, _⟩ => ⟨S2048x8x64, .f32⟩
  | .hbm, ⟨73, _⟩ => ⟨S2048x8x64, .f32⟩
  | .hbm, ⟨74, _⟩ => ⟨S2048x8x1, .f32⟩
  | .hbm, ⟨75, _⟩ => ⟨S_, .f32⟩
  | .hbm, ⟨76, _⟩ => ⟨S2048x8x1, .f32⟩
  | .hbm, ⟨77, _⟩ => ⟨S2048x8x1, .f32⟩
  | .hbm, ⟨78, _⟩ => ⟨S_, .f32⟩
  | .hbm, ⟨79, _⟩ => ⟨S2048x8, .f32⟩
  | .hbm, ⟨80, _⟩ => ⟨S2048x8x64, .f32⟩
  | .hbm, ⟨81, _⟩ => ⟨S2048x8x64, .f32⟩
  | .hbm, ⟨82, _⟩ => ⟨S2048x8x64, .f32⟩
  | .hbm, ⟨83, _⟩ => ⟨S2048x8x64, .f32⟩
  | .hbm, ⟨84, _⟩ => ⟨S2048x8x64, .f32⟩
  | .hbm, ⟨85, _⟩ => ⟨S2048x1x8x64, .f32⟩
  | .hbm, ⟨86, _⟩ => ⟨S_, .f32⟩
  | .hbm, ⟨87, _⟩ => ⟨S2048x3x8x64, .f32⟩
  | .hbm, ⟨88, _⟩ => ⟨S2048x3x8x64, .f32⟩
  | .hbm, ⟨89, _⟩ => ⟨S2048x8x64, .f32⟩
  | .hbm, ⟨90, _⟩ => ⟨S_, .f32⟩
  | .hbm, ⟨91, _⟩ => ⟨S64, .f32⟩
  | .hbm, ⟨92, _⟩ => ⟨S1x1x64, .f32⟩
  | .hbm, ⟨93, _⟩ => ⟨S2048x8x64, .f32⟩
  | .hbm, ⟨94, _⟩ => ⟨S2048x8x64, .f32⟩
  | .hbm, ⟨95, _⟩ => ⟨S_, .f32⟩
  | .hbm, ⟨96, _⟩ => ⟨S64, .f32⟩
  | .hbm, ⟨97, _⟩ => ⟨S2048x8x64, .f32⟩
  | .hbm, ⟨98, _⟩ => ⟨S_, .f32⟩
  | .hbm, ⟨99, _⟩ => ⟨S2048x8, .f32⟩
  | .hbm, ⟨100, _⟩ => ⟨S2048x8x1, .f32⟩
  | .hbm, ⟨101, _⟩ => ⟨S2048x8x64, .f32⟩
  | .hbm, ⟨102, _⟩ => ⟨S2048x8x64, .f32⟩
  | .hbm, ⟨103, _⟩ => ⟨S2048x8x1, .f32⟩
  | .hbm, ⟨104, _⟩ => ⟨S_, .f32⟩
  | .hbm, ⟨105, _⟩ => ⟨S2048x8x1, .f32⟩
  | .hbm, ⟨106, _⟩ => ⟨S2048x8x1, .f32⟩
  | .hbm, ⟨107, _⟩ => ⟨S_, .f32⟩
  | .hbm, ⟨108, _⟩ => ⟨S2048x8, .f32⟩
  | .hbm, ⟨109, _⟩ => ⟨S2048x8x64, .f32⟩
  | .hbm, ⟨110, _⟩ => ⟨S2048x8x64, .f32⟩
  | .hbm, ⟨111, _⟩ => ⟨S2048x8x64, .f32⟩
  | .hbm, ⟨112, _⟩ => ⟨S2048x8x64, .f32⟩
  | .hbm, ⟨113, _⟩ => ⟨S2048x8x64, .f32⟩
  | .hbm, ⟨114, _⟩ => ⟨S2048x1x8x64, .f32⟩
  | .hbm, ⟨115, _⟩ => ⟨S_, .f32⟩
  | .hbm, ⟨116, _⟩ => ⟨S2048x3x8x64, .f32⟩
  | .hbm, ⟨117, _⟩ => ⟨S2048x3x8x64, .f32⟩
  | .hbm, ⟨118, _⟩ => ⟨S2048x1536, .f32⟩
  | .hbm, ⟨119, _⟩ => ⟨S2048x1536, .bf16⟩
  | .hbm, ⟨120, _⟩ => ⟨S1x64, .f32⟩
  | .hbm, ⟨121, _⟩ => ⟨S1x64, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_cst_7 : Ref sig .tc := ⟨.hbm, 58, rfl⟩
abbrev main_v44 : Ref sig .tc := ⟨.hbm, 59, rfl⟩
abbrev main_v45 : Ref sig .tc := ⟨.hbm, 60, rfl⟩
abbrev main_cst_8 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_cst_9 : Ref sig .tc := ⟨.hbm, 66, rfl⟩
abbrev main_v50 : Ref sig .tc := ⟨.hbm, 67, rfl⟩
abbrev main_v51 : Ref sig .tc := ⟨.hbm, 68, rfl⟩
abbrev main_cst_10 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_cst_11 : Ref sig .tc := ⟨.hbm, 75, rfl⟩
abbrev main_v57 : Ref sig .tc := ⟨.hbm, 76, rfl⟩
abbrev main_v58 : Ref sig .tc := ⟨.hbm, 77, rfl⟩
abbrev main_cst_12 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_cst_13 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_cst_14 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_cst_15 : Ref sig .tc := ⟨.hbm, 95, rfl⟩
abbrev main_v73 : Ref sig .tc := ⟨.hbm, 96, rfl⟩
abbrev main_v74 : Ref sig .tc := ⟨.hbm, 97, rfl⟩
abbrev main_cst_16 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩
abbrev main_v79 : Ref sig .tc := ⟨.hbm, 103, rfl⟩
abbrev main_cst_17 : Ref sig .tc := ⟨.hbm, 104, rfl⟩
abbrev main_v80 : Ref sig .tc := ⟨.hbm, 105, rfl⟩
abbrev main_v81 : Ref sig .tc := ⟨.hbm, 106, rfl⟩
abbrev main_cst_18 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_19 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩

abbrev nD : Nat := 1
abbrev τ : Topo := Topo.v7x

variable {F : FTy → Type} [FloatOps F]
-- ==== Kernel7.lean ====
abbrev S2048x2560 : Shape := ⟨2, ![2048, 2560]⟩
abbrev S2048x256 : Shape := ⟨2, ![2048, 256]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S2048x512 : Shape := ⟨2, ![2048, 512]⟩
abbrev S128x128 : Shape := ⟨2, ![128, 128]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S1x128x128 : Shape := ⟨3, ![1, 128, 128]⟩
abbrev S128x64 : Shape := ⟨2, ![128, 64]⟩
abbrev S128 : Shape := ⟨1, ![128]⟩
abbrev S128x1 : Shape := ⟨2, ![128, 1]⟩

abbrev nBuf : Space → Nat
  | .hbm => 16
  | .vmem => 15
  | .smem => 0
  | _ => 0

abbrev bufTy : (tb : Table) → Fin (tcTables nBuf tb) → BufTy
  | .hbm, ⟨0, _⟩ => ⟨S2048x2560, .f32⟩
  | .hbm, ⟨1, _⟩ => ⟨S2048x256, .f32⟩
  | .hbm, ⟨2, _⟩ => ⟨S256, .f32⟩
  | .hbm, ⟨3, _⟩ => ⟨S256, .f32⟩
  | .hbm, ⟨4, _⟩ => ⟨S4x128x128, .f32⟩
  | .hbm, ⟨5, _⟩ => ⟨S4x128, .f32⟩
  | .hbm, ⟨6, _⟩ => ⟨S1x256, .f32⟩
  | .hbm, ⟨7, _⟩ => ⟨S1x256, .f32⟩
  | .hbm, ⟨8, _⟩ => ⟨S128x4, .f32⟩
  | .hbm, ⟨9, _⟩ => ⟨S128x4x64, .f32⟩
  | .hbm, ⟨10, _⟩ => ⟨S128x256, .f32⟩
  | .hbm, ⟨11, _⟩ => ⟨S2048x512, .bf16⟩
  | .hbm, ⟨12, _⟩ => ⟨S1x256, .f32⟩
  | .hbm, ⟨13, _⟩ => ⟨S1x256, .f32⟩
  | .hbm, ⟨14, _⟩ => ⟨S4x128x128, .f32⟩
  | .hbm, ⟨15, _⟩ => ⟨S128x128, .f32⟩
  | .local _ .vmem, ⟨0, _⟩ => ⟨S1024x512, .f32⟩
  | .local _ .vmem, ⟨1, _⟩ => ⟨S1024x512, .f32⟩
  | .local _ .vmem, ⟨2, _⟩ => ⟨S1024x256, .f32⟩
  | .local _ .vmem, ⟨3, _⟩ => ⟨S1024x256, .f32⟩
  | .local _ .vmem, ⟨4, _⟩ => ⟨S1x256, .f32⟩
  | .local _ .vmem, ⟨5, _⟩ => ⟨S1x256, .f32⟩
  | .local _ .vmem, ⟨6, _⟩ => ⟨S4x128x128, .f32⟩
  | .local _ .vmem, ⟨7, _⟩ => ⟨S128x256, .f32⟩
  | .local _ .vmem, ⟨8, _⟩ => ⟨S1024x512, .bf16⟩
  | .local _ .vmem, ⟨9, _⟩ => ⟨S1024x512, .bf16⟩
  | .local _ .vmem, ⟨10, _⟩ => ⟨S1x256, .f32⟩
  | .local _ .vmem, ⟨11, _⟩ => ⟨S1x256, .f32⟩
  | .local _ .vmem, ⟨12, _⟩ => ⟨S4x128x128, .f32⟩
  | .local _ .vmem, ⟨13, _⟩ => ⟨S128x128, .f32⟩
  | .local _ .vmem, ⟨14, _⟩ => ⟨S128x256, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5_0 : Ref sig .tc := ⟨.hbm, 11, rfl⟩
abbrev main_v5_1 : Ref sig .tc := ⟨.hbm, 12, rfl⟩
abbrev main_v5_2 : Ref sig .tc := ⟨.hbm, 13, rfl⟩
abbrev main_v5_3 : Ref sig .tc := ⟨.hbm, 14, rfl⟩
abbrev main_v5_4 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem10_0 : DmaSem sig := 13

abbrev nD : Nat := 1
abbrev τ : Topo := Topo.v7x

variable {F : FTy → Type} [FloatOps F]

abbrev grid0 : Pipeline.Grid := ⟨1, ![2], ![false]⟩

def k0_cond4 (i : grid0.Coords) : BitVec 1 :=
  let arg0 : BitVec 32 := BitVec.ofNat 32 (i 0).val
  let c1_i32_802 : BitVec 32 := 1#32
  let v1264 : BitVec 1 := Scalar.cmpi .eq arg0 c1_i32_802
  let v1265 : BitVec 32 := Scalar.extui v1264
  let c0_i32_803 : BitVec 32 := 0#32
  let v1266 : BitVec 1 := Scalar.cmpi .ne v1265 c0_i32_803
  v1266

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S4x128x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]
-- ==== Reference7Ideal.lean ====
abbrev S2048x2560 : Shape := ⟨2, ![2048, 2560]⟩
abbrev S2048x256 : Shape := ⟨2, ![2048, 256]⟩
abbrev S256 : Shape := ⟨1, ![256]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S2048 : Shape := ⟨1, ![2048]⟩
abbrev S2048x1 : Shape := ⟨2, ![2048, 1]⟩
abbrev S1x256 : Shape := ⟨2, ![1, 256]⟩
abbrev S16x128x4x64 : Shape := ⟨4, ![16, 128, 4, 64]⟩
abbrev S128x128 : Shape := ⟨2, ![128, 128]⟩
abbrev S1x128x128 : Shape := ⟨3, ![1, 128, 128]⟩
abbrev S4x16x64x128 : Shape := ⟨4, ![4, 16, 64, 128]⟩
abbrev S128x4 : Shape := ⟨2, ![128, 4]⟩
abbrev S1x128x4x1 : Shape := ⟨4, ![1, 128, 4, 1]⟩
abbrev S128x124 : Shape := ⟨2, ![128, 124]⟩

abbrev nBuf : Space → Nat
  | .hbm => 164
  | .vmem => 0
  | .smem => 0
  | _ => 0

abbrev hbmTy0_0 (i : Nat) : BufTy := match i % 128 with
  | 0 => ⟨S2048x2560, .f32⟩
  | 1 => ⟨S2048x256, .f32⟩
  | 2 => ⟨S256, .f32⟩
  | 3 => ⟨S256, .f32⟩
  | 4 => ⟨S4x128x128, .f32⟩
  | 5 => ⟨S4x128, .f32⟩
  | 6 => ⟨S2048x512, .f32⟩
  | 7 => ⟨S_, .f32⟩
  | 8 => ⟨S2048x512, .f32⟩
  | 9 => ⟨S2048x512, .f32⟩
  | 10 => ⟨S2048x512, .f32⟩
  | 11 => ⟨S_, .f32⟩
  | 12 => ⟨S2048x512, .f32⟩
  | 13 => ⟨S2048x512, .f32⟩
  | 14 => ⟨S2048x512, .f32⟩
  | 15 => ⟨S2048x512, .f32⟩
  | 16 => ⟨S2048x512, .f32⟩
  | 17 => ⟨S2048x512, .f32⟩
  | 18 => ⟨S2048x512, .f32⟩
  | 19 => ⟨S2048x256, .f32⟩
  | 20 => ⟨S2048x256, .f32⟩
  | 21 => ⟨S_, .f32⟩
  | 22 => ⟨S2048, .f32⟩
  | 23 => ⟨S2048x1, .f32⟩
  | 24 => ⟨S_, .f32⟩
  | 25 => ⟨S2048x1, .f32⟩
  | 26 => ⟨S2048x1, .f32⟩
  | 27 => ⟨S2048x256, .f32⟩
  | 28 => ⟨S2048x256, .f32⟩
  | 29 => ⟨S2048x256, .f32⟩
  | 30 => ⟨S_, .f32⟩
  | 31 => ⟨S2048, .f32⟩
  | 32 => ⟨S2048x1, .f32⟩
  | 33 => ⟨S_, .f32⟩
  | 34 => ⟨S2048x1, .f32⟩
  | 35 => ⟨S2048x1, .f32⟩
  | 36 => ⟨S_, .f32⟩
  | 37 => ⟨S2048x1, .f32⟩
  | 38 => ⟨S2048x1, .f32⟩
  | 39 => ⟨S2048x1, .f32⟩
  | 40 => ⟨S2048x1, .f32⟩
  | 41 => ⟨S_, .f32⟩
  | 42 => ⟨S2048x1, .f32⟩
  | 43 => ⟨S2048x1, .f32⟩
  | 44 => ⟨S2048x256, .f32⟩
  | 45 => ⟨S2048x256, .f32⟩
  | 46 => ⟨S1x256, .f32⟩
  | 47 => ⟨S2048x256, .f32⟩
  | 48 => ⟨S2048x256, .f32⟩
  | 49 => ⟨S1x256, .f32⟩
  | 50 => ⟨S2048x256, .f32⟩
  | 51 => ⟨S2048x256, .f32⟩
  | 52 => ⟨S16x128x4x64, .f32⟩
  | 53 => ⟨S_, .i1⟩
  | 54 => ⟨S128x128, .i1⟩
  | 55 => ⟨S128x128, .i32⟩
  | 56 => ⟨S_, .i32⟩
  | 57 => ⟨S128x128, .i32⟩
  | 58 => ⟨S128x128, .i32⟩
  | 59 => ⟨S128x128, .i32⟩
  | 60 => ⟨S128x128, .i1⟩
  | 61 => ⟨S_, .i1⟩
  | 62 => ⟨S128x128, .i1⟩
  | 63 => ⟨S128x128, .i1⟩
  | 64 => ⟨S1x128x128, .i1⟩
  | 65 => ⟨S_, .f32⟩
  | 66 => ⟨S_, .f32⟩
  | 67 => ⟨S4x128x128, .i1⟩
  | 68 => ⟨S4x128x128, .f32⟩
  | 69 => ⟨S4x128x128, .f32⟩
  | 70 => ⟨S_, .f32⟩
  | 71 => ⟨S4x128x128, .f32⟩
  | 72 => ⟨S4x16x64x128, .f32⟩
  | 73 => ⟨S16x128x4x64, .f32⟩
  | 74 => ⟨S128x4, .f32⟩
  | 75 => ⟨S1x128x4x1, .f32⟩
  | 76 => ⟨S16x128x4x64, .f32⟩
  | 77 => ⟨S16x128x4x64, .f32⟩
  | 78 => ⟨S2048x256, .f32⟩
  | 79 => ⟨S2048x256, .f32⟩
  | 80 => ⟨S2048x256, .f32⟩
  | 81 => ⟨S2048x256, .f32⟩
  | 82 => ⟨S16x128x4x64, .f32⟩
  | 83 => ⟨S_, .f32⟩
  | 84 => ⟨S128x4, .f32⟩
  | 85 => ⟨S1x128x4x1, .f32⟩
  | 86 => ⟨S_, .f32⟩
  | 87 => ⟨S128x4, .f32⟩
  | 88 => ⟨S4x128, .f32⟩
  | 89 => ⟨S4x16x64x128, .f32⟩
  | 90 => ⟨S4x128x128, .f32⟩
  | 91 => ⟨S4x16x64x128, .f32⟩
  | 92 => ⟨S16x128x4x64, .f32⟩
  | 93 => ⟨S_, .f32⟩
  | 94 => ⟨S4x128x128, .f32⟩
  | 95 => ⟨S4x128x128, .f32⟩
  | 96 => ⟨S2048x256, .f32⟩
  | 97 => ⟨S_, .f32⟩
  | 98 => ⟨S256, .f32⟩
  | 99 => ⟨S1x256, .f32⟩
  | 100 => ⟨S_, .f32⟩
  | 101 => ⟨S256, .f32⟩
  | 102 => ⟨S2048x256, .f32⟩
  | 103 => ⟨S_, .f32⟩
  | 104 => ⟨S256, .f32⟩
  | 105 => ⟨S1x256, .f32⟩
  | 106 => ⟨S2048x256, .f32⟩
  | 107 => ⟨S2048x256, .f32⟩
  | 108 => ⟨S_, .f32⟩
  | 109 => ⟨S256, .f32⟩
  | 110 => ⟨S2048x256, .f32⟩
  | 111 => ⟨S_, .f32⟩
  | 112 => ⟨S2048, .f32⟩
  | 113 => ⟨S2048x1, .f32⟩
  | 114 => ⟨S2048x256, .f32⟩
  | 115 => ⟨S2048x256, .f32⟩
  | 116 => ⟨S2048x1, .f32⟩
  | 117 => ⟨S_, .f32⟩
  | 118 => ⟨S2048x1, .f32⟩
  | 119 => ⟨S2048x1, .f32⟩
  | 120 => ⟨S_, .f32⟩
  | 121 => ⟨S2048, .f32⟩
  | 122 => ⟨S2048x256, .f32⟩
  | 123 => ⟨S2048x256, .f32⟩
  | 124 => ⟨S2048x256, .f32⟩
  | 125 => ⟨S2048x256, .f32⟩
  | 126 => ⟨S2048x256, .f32⟩
  | 127 => ⟨S2048x256, .f32⟩
  | _ => ⟨S2048x2560, .f32⟩

abbrev hbmTy0_1 (i : Nat) : BufTy := match i % 128 with
  | 0 => ⟨S_, .f32⟩
  | 1 => ⟨S2048, .f32⟩
  | 2 => ⟨S2048x1, .f32⟩
  | 3 => ⟨S_, .f32⟩
  | 4 => ⟨S2048x1, .f32⟩
  | 5 => ⟨S2048x1, .f32⟩
  | 6 => ⟨S_, .f32⟩
  | 7 => ⟨S2048, .f32⟩
  | 8 => ⟨S2048x256, .f32⟩
  | 9 => ⟨S2048x256, .f32⟩
  | 10 => ⟨S_, .f32⟩
  | 11 => ⟨S2048x512, .f32⟩
  | 12 => ⟨S_, .f32⟩
  | 13 => ⟨S2048x512, .f32⟩
  | 14 => ⟨S2048x512, .f32⟩
  | 15 => ⟨S2048x512, .f32⟩
  | 16 => ⟨S2048x512, .f32⟩
  | 17 => ⟨S_, .f32⟩
  | 18 => ⟨S2048x512, .f32⟩
  | 19 => ⟨S2048x512, .f32⟩
  | 20 => ⟨S2048x512, .f32⟩
  | 21 => ⟨S_, .f32⟩
  | 22 => ⟨S2048x512, .f32⟩
  | 23 => ⟨S2048x512, .f32⟩
  | 24 => ⟨S2048x512, .f32⟩
  | 25 => ⟨S_, .f32⟩
  | 26 => ⟨S2048x512, .f32⟩
  | 27 => ⟨S2048x512, .f32⟩
  | 28 => ⟨S2048x512, .f32⟩
  | 29 => ⟨S2048x512, .bf16⟩
  | 30 => ⟨S1x256, .f32⟩
  | 31 => ⟨S1x256, .f32⟩
  | 32 => ⟨S128x4, .f32⟩
  | 33 => ⟨S_, .f32⟩
  | 34 => ⟨S128x124, .f32⟩
  | 35 => ⟨S128x128, .f32⟩
  | _ => ⟨S2048x2560, .f32⟩

abbrev hbmTy (i : Nat) : BufTy := match i / 128 with
  | 0 => hbmTy0_0 i
  | 1 => hbmTy0_1 i
  | _ => ⟨S2048x2560, .f32⟩

abbrev bufTy : (tb : Table) → Fin (tcTables nBuf tb) → BufTy
  | .hbm, ⟨i, _⟩ => hbmTy i
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_6 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_c : Ref sig .tc := ⟨.hbm, 53, rfl⟩
abbrev main_v39 : Ref sig .tc := ⟨.hbm, 54, rfl⟩
abbrev main_call0_v0 : Ref sig .tc := ⟨.hbm, 55, rfl⟩
abbrev main_call0_c : Ref sig .tc := ⟨.hbm, 56, rfl⟩
abbrev main_call0_v1 : Ref sig .tc := ⟨.hbm, 57, rfl⟩
abbrev main_call0_v2 : Ref sig .tc := ⟨.hbm, 58, rfl⟩
abbrev main_call0_v3 : Ref sig .tc := ⟨.hbm, 59, rfl⟩
abbrev main_call0_v4 : Ref sig .tc := ⟨.hbm, 60, rfl⟩
abbrev main_call0_c_0 : Ref sig .tc := ⟨.hbm, 61, rfl⟩
abbrev main_call0_v5 : Ref sig .tc := ⟨.hbm, 62, rfl⟩
abbrev main_v40 : Ref sig .tc := ⟨.hbm, 63, rfl⟩
abbrev main_v41 : Ref sig .tc := ⟨.hbm, 64, rfl⟩
abbrev main_cst_7 : Ref sig .tc := ⟨.hbm, 65, rfl⟩
abbrev main_call1_v0 : Ref sig .tc := ⟨.hbm, 66, rfl⟩
abbrev main_v42_1 : Ref sig .tc := ⟨.hbm, 67, rfl⟩
abbrev main_call1_v2 : Ref sig .tc := ⟨.hbm, 68, rfl⟩
abbrev main_v42_0 : Ref sig .tc := ⟨.hbm, 69, rfl⟩
abbrev main_call1_cst : Ref sig .tc := ⟨.hbm, 70, rfl⟩
abbrev main_v42_2 : Ref sig .tc := ⟨.hbm, 71, rfl⟩
abbrev main_v43 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_cst_8 : Ref sig .tc := ⟨.hbm, 83, rfl⟩
abbrev main_v54 : Ref sig .tc := ⟨.hbm, 84, rfl⟩
abbrev main_v55 : Ref sig .tc := ⟨.hbm, 85, rfl⟩
abbrev main_cst_9 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_call2_cst : Ref sig .tc := ⟨.hbm, 93, rfl⟩
abbrev main_call2_v0 : Ref sig .tc := ⟨.hbm, 94, rfl⟩
abbrev main_v62 : Ref sig .tc := ⟨.hbm, 95, rfl⟩
abbrev main_v63 : Ref sig .tc := ⟨.hbm, 96, rfl⟩
abbrev main_cst_10 : Ref sig .tc := ⟨.hbm, 97, rfl⟩
abbrev main_v64 : Ref sig .tc := ⟨.hbm, 98, rfl⟩
abbrev main_v65 : Ref sig .tc := ⟨.hbm, 99, rfl⟩
abbrev main_cst_11 : Ref sig .tc := ⟨.hbm, 100, rfl⟩
abbrev main_v66 : Ref sig .tc := ⟨.hbm, 101, rfl⟩
abbrev main_v67 : Ref sig .tc := ⟨.hbm, 102, rfl⟩
abbrev main_cst_12 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_v71 : Ref sig .tc := ⟨.hbm, 107, rfl⟩
abbrev main_cst_13 : Ref sig .tc := ⟨.hbm, 108, rfl⟩
abbrev main_v72 : Ref sig .tc := ⟨.hbm, 109, rfl⟩
abbrev main_v73 : Ref sig .tc := ⟨.hbm, 110, rfl⟩
abbrev main_cst_14 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_cst_15 : Ref sig .tc := ⟨.hbm, 117, rfl⟩
abbrev main_v79 : Ref sig .tc := ⟨.hbm, 118, rfl⟩
abbrev main_v80 : Ref sig .tc := ⟨.hbm, 119, rfl⟩
abbrev main_cst_16 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_17 : Ref sig .tc := ⟨.hbm, 128, rfl⟩
abbrev main_v88 : Ref sig .tc := ⟨.hbm, 129, rfl⟩
abbrev main_v89 : Ref sig .tc := ⟨.hbm, 130, rfl⟩
abbrev main_cst_18 : Ref sig .tc := ⟨.hbm, 131, rfl⟩
abbrev main_v90 : Ref sig .tc := ⟨.hbm, 132, rfl⟩
abbrev main_v91 : Ref sig .tc := ⟨.hbm, 133, rfl⟩
abbrev main_cst_19 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_cst_20 : Ref sig .tc := ⟨.hbm, 138, rfl⟩
abbrev main_v95 : Ref sig .tc := ⟨.hbm, 139, rfl⟩
abbrev main_cst_21 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_cst_22 : Ref sig .tc := ⟨.hbm, 145, rfl⟩
abbrev main_v100 : Ref sig .tc := ⟨.hbm, 146, rfl⟩
abbrev main_v101 : Ref sig .tc := ⟨.hbm, 147, rfl⟩
abbrev main_v102 : Ref sig .tc := ⟨.hbm, 148, rfl⟩
abbrev main_cst_23 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_cst_24 : Ref sig .tc := ⟨.hbm, 153, rfl⟩
abbrev main_v106 : Ref sig .tc := ⟨.hbm, 154, rfl⟩
abbrev main_v107 : Ref sig .tc := ⟨.hbm, 155, rfl⟩
abbrev main_v108 : Ref sig .tc := ⟨.hbm, 156, rfl⟩
abbrev main_v109 : Ref sig .tc := ⟨.hbm, 157, rfl⟩
abbrev main_v110 : Ref sig .tc := ⟨.hbm, 158, rfl⟩
abbrev main_v111 : Ref sig .tc := ⟨.hbm, 159, rfl⟩
abbrev main_v112 : Ref sig .tc := ⟨.hbm, 160, rfl⟩
abbrev main_cst_25 : Ref sig .tc := ⟨.hbm, 161, rfl⟩
abbrev main_v113 : Ref sig .tc := ⟨.hbm, 162, rfl⟩
abbrev main_v114 : Ref sig .tc := ⟨.hbm, 163, rfl⟩

abbrev nD : Nat := 1
abbrev τ : Topo := Topo.v7x

variable {F : FTy → Type} [FloatOps F]
-- ==== Kernel8.lean ====
abbrev S4x8x352x1024 : Shape := ⟨4, ![4, 8, 352, 1024]⟩
abbrev S4x352x1024 : Shape := ⟨3, ![4, 352, 1024]⟩
abbrev S1x8x352x1024 : Shape := ⟨4, ![1, 8, 352, 1024]⟩
abbrev S1x352x1024 : Shape := ⟨3, ![1, 352, 1024]⟩
abbrev S1x1x352x1024 : Shape := ⟨4, ![1, 1, 352, 1024]⟩
abbrev S352x1024 : Shape := ⟨2, ![352, 1024]⟩

abbrev nBuf : Space → Nat
  | .hbm => 8
  | .vmem => 16
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x352x1024, .f32⟩
  | .hbm, ⟨5, _⟩ => ⟨S4x352x1024, .f32⟩
  | .hbm, ⟨6, _⟩ => ⟨S4x352x1024, .f32⟩
  | .hbm, ⟨7, _⟩ => ⟨S4x352x1024, .f32⟩
  | .local _ .vmem, ⟨0, _⟩ => ⟨S1x8x352x1024, .bf16⟩
  | .local _ .vmem, ⟨1, _⟩ => ⟨S1x8x352x1024, .bf16⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | .local _ .vmem, ⟨14, _⟩ => ⟨S1x352x1024, .f32⟩
  | .local _ .vmem, ⟨15, _⟩ => ⟨S1x352x1024, .f32⟩
  | _, _ => ⟨S4x8x352x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 1], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8x352x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x352x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference8Ideal.lean ====
abbrev S4x8x352x1024 : Shape := ⟨4, ![4, 8, 352, 1024]⟩
abbrev S4x352x1024 : Shape := ⟨3, ![4, 352, 1024]⟩
abbrev S_ : Shape := ⟨0, ![]⟩

abbrev nBuf : Space → Nat
  | .hbm => 40
  | .vmem => 0
  | .smem => 0
  | _ => 0

abbrev bufTy : (tb : Table) → Fin (tcTables nBuf tb) → BufTy
  | .hbm, ⟨0, _⟩ => ⟨S4x8x352x1024, .bf16⟩
  | .hbm, ⟨1, _⟩ => ⟨S4x352x1024, .f32⟩
  | .hbm, ⟨2, _⟩ => ⟨S4x352x1024, .f32⟩
  | .hbm, ⟨3, _⟩ => ⟨S4x352x1024, .f32⟩
  | .hbm, ⟨4, _⟩ => ⟨S4x8x352x1024, .f32⟩
  | .hbm, ⟨5, _⟩ => ⟨S_, .f32⟩
  | .hbm, ⟨6, _⟩ => ⟨S4x352x1024, .f32⟩
  | .hbm, ⟨7, _⟩ => ⟨S_, .f32⟩
  | .hbm, ⟨8, _⟩ => ⟨S4x352x1024, .f32⟩
  | .hbm, ⟨9, _⟩ => ⟨S4x352x1024, .f32⟩
  | .hbm, ⟨10, _⟩ => ⟨S_, .f32⟩
  | .hbm, ⟨11, _⟩ => ⟨S4x352x1024, .f32⟩
  | .hbm, ⟨12, _⟩ => ⟨S4x352x1024, .f32⟩
  | .hbm, ⟨13, _⟩ => ⟨S4x352x1024, .f32⟩
  | .hbm, ⟨14, _⟩ => ⟨S_, .f32⟩
  | .hbm, ⟨15, _⟩ => ⟨S4x352x1024, .f32⟩
  | .hbm, ⟨16, _⟩ => ⟨S4x352x1024, .f32⟩
  | .hbm, ⟨17, _⟩ => ⟨S4x352x1024, .f32⟩
  | .hbm, ⟨18, _⟩ => ⟨S_, .f32⟩
  | .hbm, ⟨19, _⟩ => ⟨S4x352x1024, .f32⟩
  | .hbm, ⟨20, _⟩ => ⟨S4x352x1024, .f32⟩
  | .hbm, ⟨21, _⟩ => ⟨S4x352x1024, .f32⟩
  | .hbm, ⟨22, _⟩ => ⟨S_, .f32⟩
  | .hbm, ⟨23, _⟩ => ⟨S4x352x1024, .f32⟩
  | .hbm, ⟨24, _⟩ => ⟨S4x352x1024, .f32⟩
  | .hbm, ⟨25, _⟩ => ⟨S_, .f32⟩
  | .hbm, ⟨26, _⟩ => ⟨S4x352x1024, .f32⟩
  | .hbm, ⟨27, _⟩ => ⟨S4x352x1024, .f32⟩
  | .hbm, ⟨28, _⟩ => ⟨S4x352x1024, .f32⟩
  | .hbm, ⟨29, _⟩ => ⟨S_, .f32⟩
  | .hbm, ⟨30, _⟩ => ⟨S4x352x1024, .f32⟩
  | .hbm, ⟨31, _⟩ => ⟨S4x352x1024, .f32⟩
  | .hbm, ⟨32, _⟩ => ⟨S4x352x1024, .f32⟩
  | .hbm, ⟨33, _⟩ => ⟨S_, .f32⟩
  | .hbm, ⟨34, _⟩ => ⟨S4x352x1024, .f32⟩
  | .hbm, ⟨35, _⟩ => ⟨S4x352x1024, .f32⟩
  | .hbm, ⟨36, _⟩ => ⟨S4x352x1024, .f32⟩
  | .hbm, ⟨37, _⟩ => ⟨S_, .f32⟩
  | .hbm, ⟨38, _⟩ => ⟨S4x352x1024, .f32⟩
  | .hbm, ⟨39, _⟩ => ⟨S4x352x1024, .f32⟩
  | _, _ => ⟨S4x8x352x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_cst_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_cst_5 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_v24 : Ref sig .tc := ⟨.hbm, 38, rfl⟩
abbrev main_v25 : Ref sig .tc := ⟨.hbm, 39, rfl⟩

abbrev nD : Nat := 1
abbrev τ : Topo := Topo.v7x

variable {F : FTy → Type} [FloatOps F]
-- ==== Kernel9.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S1x1024 : Shape := ⟨2, ![1, 1024]⟩
abbrev S5632x1024 : Shape := ⟨2, ![5632, 1024]⟩
abbrev S_ : Shape := ⟨0, ![]⟩
abbrev S8x128 : Shape := ⟨2, ![8, 128]⟩
abbrev S2048x5632 : Shape := ⟨2, ![2048, 5632]⟩
abbrev S512x1024 : Shape := ⟨2, ![512, 1024]⟩
abbrev S512x5632 : Shape := ⟨2, ![512, 5632]⟩
abbrev S512 : Shape := ⟨1, ![512]⟩
abbrev S512x1 : Shape := ⟨2, ![512, 1]⟩
abbrev S512x2816 : Shape := ⟨2, ![512, 2816]⟩

abbrev nBuf : Space → Nat
  | .hbm => 12
  | .vmem => 9
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S1x1024, .f32⟩
  | .hbm, ⟨5, _⟩ => ⟨S5632x1024, .f32⟩
  | .hbm, ⟨6, _⟩ => ⟨S5632x1024, .bf16⟩
  | .hbm, ⟨7, _⟩ => ⟨S2816x1024, .bf16⟩
  | .hbm, ⟨8, _⟩ => ⟨S_, .f32⟩
  | .hbm, ⟨9, _⟩ => ⟨S8x128, .f32⟩
  | .hbm, ⟨10, _⟩ => ⟨S2048x5632, .f32⟩
  | .hbm, ⟨11, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S5632x1024, .bf16⟩
  | .local _ .vmem, ⟨4, _⟩ => ⟨S2816x1024, .bf16⟩
  | .local _ .vmem, ⟨5, _⟩ => ⟨S512x5632, .f32⟩
  | .local _ .vmem, ⟨6, _⟩ => ⟨S512x5632, .f32⟩
  | .local _ .vmem, ⟨7, _⟩ => ⟨S512x1024, .f32⟩
  | .local _ .vmem, ⟨8, _⟩ => ⟨S512x1024, .f32⟩
  | _, _ => ⟨S2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S5632x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x5632 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S2048x1024 : Shape := ⟨2, ![2048, 1024]⟩
abbrev S1024 : Shape := ⟨1, ![1024]⟩
abbrev S1024x5632 : Shape := ⟨2, ![1024, 5632]⟩
abbrev S2816x1024 : Shape := ⟨2, ![2816, 1024]⟩
abbrev S_ : Shape := ⟨0, ![]⟩
abbrev S2048 : Shape := ⟨1, ![2048]⟩
abbrev S2048x1 : Shape := ⟨2, ![2048, 1]⟩
abbrev S1x1024 : Shape := ⟨2, ![1, 1024]⟩
abbrev S2048x5632 : Shape := ⟨2, ![2048, 5632]⟩
abbrev S2048x2816 : Shape := ⟨2, ![2048, 2816]⟩

abbrev nBuf : Space → Nat
  | .hbm => 35
  | .vmem => 0
  | .smem => 0
  | _ => 0

abbrev bufTy : (tb : Table) → Fin (tcTables nBuf tb) → BufTy
  | .hbm, ⟨0, _⟩ => ⟨S2048x1024, .f32⟩
  | .hbm, ⟨1, _⟩ => ⟨S1024, .f32⟩
  | .hbm, ⟨2, _⟩ => ⟨S1024x5632, .f32⟩
  | .hbm, ⟨3, _⟩ => ⟨S2816x1024, .f32⟩
  | .hbm, ⟨4, _⟩ => ⟨S2048x1024, .f32⟩
  | .hbm, ⟨5, _⟩ => ⟨S_, .f32⟩
  | .hbm, ⟨6, _⟩ => ⟨S2048, .f32⟩
  | .hbm, ⟨7, _⟩ => ⟨S2048x1, .f32⟩
  | .hbm, ⟨8, _⟩ => ⟨S_, .f32⟩
  | .hbm, ⟨9, _⟩ => ⟨S2048x1, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S2048x1, .f32⟩
  | .hbm, ⟨15, _⟩ => ⟨S2048x1024, .f32⟩
  | .hbm, ⟨16, _⟩ => ⟨S2048x1024, .f32⟩
  | .hbm, ⟨17, _⟩ => ⟨S1x1024, .f32⟩
  | .hbm, ⟨18, _⟩ => ⟨S2048x1024, .f32⟩
  | .hbm, ⟨19, _⟩ => ⟨S2048x1024, .f32⟩
  | .hbm, ⟨20, _⟩ => ⟨S2048x5632, .f32⟩
  | .hbm, ⟨21, _⟩ => ⟨S2048x2816, .f32⟩
  | .hbm, ⟨22, _⟩ => ⟨S2048x2816, .f32⟩
  | .hbm, ⟨23, _⟩ => ⟨S2048x2816, .f32⟩
  | .hbm, ⟨24, _⟩ => ⟨S_, .f32⟩
  | .hbm, ⟨25, _⟩ => ⟨S2048x2816, .f32⟩
  | .hbm, ⟨26, _⟩ => ⟨S2048x2816, .f32⟩
  | .hbm, ⟨27, _⟩ => ⟨S_, .f32⟩
  | .hbm, ⟨28, _⟩ => ⟨S2048x2816, .f32⟩
  | .hbm, ⟨29, _⟩ => ⟨S2048x2816, .f32⟩
  | .hbm, ⟨30, _⟩ => ⟨S2048x2816, .f32⟩
  | .hbm, ⟨31, _⟩ => ⟨S2048x2816, .f32⟩
  | .hbm, ⟨32, _⟩ => ⟨S2048x2816, .f32⟩
  | .hbm, ⟨33, _⟩ => ⟨S2048x1024, .f32⟩
  | .hbm, ⟨34, _⟩ => ⟨S2048x1024, .f32⟩
  | _, _ => ⟨S2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_call0_v0 : Ref sig .tc := ⟨.hbm, 22, rfl⟩
abbrev main_call0_v1 : Ref sig .tc := ⟨.hbm, 23, rfl⟩
abbrev main_call0_cst : Ref sig .tc := ⟨.hbm, 24, rfl⟩
abbrev main_call0_v2 : Ref sig .tc := ⟨.hbm, 25, rfl⟩
abbrev main_call0_v3 : Ref sig .tc := ⟨.hbm, 26, rfl⟩
abbrev main_call0_cst_0 : Ref sig .tc := ⟨.hbm, 27, rfl⟩
abbrev main_call0_v4 : Ref sig .tc := ⟨.hbm, 28, rfl⟩
abbrev main_call0_v5 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩

abbrev nD : Nat := 1
abbrev τ : Topo := Topo.v7x

variable {F : FTy → Type} [FloatOps F]
-- ==== Kernel10.lean ====
abbrev S2048x256 : Shape := ⟨2, ![2048, 256]⟩
abbrev S2048x512 : Shape := ⟨2, ![2048, 512]⟩
abbrev S1024 : Shape := ⟨1, ![1024]⟩
abbrev S1024x1024 : Shape := ⟨2, ![1024, 1024]⟩
abbrev S2048x1024 : Shape := ⟨2, ![2048, 1024]⟩
abbrev S1x1024 : Shape := ⟨2, ![1, 1024]⟩
abbrev S_ : Shape := ⟨0, ![]⟩
abbrev S8x128 : Shape := ⟨2, ![8, 128]⟩
abbrev S1024x256 : Shape := ⟨2, ![1024, 256]⟩
abbrev S1024x512 : Shape := ⟨2, ![1024, 512]⟩
abbrev S1024x1 : Shape := ⟨2, ![1024, 1]⟩

abbrev nBuf : Space → Nat
  | .hbm => 11
  | .vmem => 12
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S1024, .f32⟩
  | .hbm, ⟨4, _⟩ => ⟨S1024x1024, .f32⟩
  | .hbm, ⟨5, _⟩ => ⟨S2048x1024, .f32⟩
  | .hbm, ⟨6, _⟩ => ⟨S1x1024, .f32⟩
  | .hbm, ⟨7, _⟩ => ⟨S1024x1024, .bf16⟩
  | .hbm, ⟨8, _⟩ => ⟨S_, .f32⟩
  | .hbm, ⟨9, _⟩ => ⟨S8x128, .f32⟩
  | .hbm, ⟨10, _⟩ => ⟨S2048x1024, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x512, .f32⟩
  | .local _ .vmem, ⟨5, _⟩ => ⟨S1024x512, .f32⟩
  | .local _ .vmem, ⟨6, _⟩ => ⟨S1x1024, .f32⟩
  | .local _ .vmem, ⟨7, _⟩ => ⟨S1024x1024, .bf16⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference10Ideal.lean ====
abbrev S2048x256 : Shape := ⟨2, ![2048, 256]⟩
abbrev S2048x512 : Shape := ⟨2, ![2048, 512]⟩
abbrev S1024 : Shape := ⟨1, ![1024]⟩
abbrev S1024x1024 : Shape := ⟨2, ![1024, 1024]⟩
abbrev S2048x1024 : Shape := ⟨2, ![2048, 1024]⟩
abbrev S256 : Shape := ⟨1, ![256]⟩
abbrev S_ : Shape := ⟨0, ![]⟩
abbrev S2048 : Shape := ⟨1, ![2048]⟩
abbrev S2048x1 : Shape := ⟨2, ![2048, 1]⟩
abbrev S1x256 : Shape := ⟨2, ![1, 256]⟩
abbrev S512 : Shape := ⟨1, ![512]⟩
abbrev S1x512 : Shape := ⟨2, ![1, 512]⟩

abbrev nBuf : Space → Nat
  | .hbm => 60
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S2048x256, .f32⟩
  | .hbm, ⟨2, _⟩ => ⟨S2048x512, .f32⟩
  | .hbm, ⟨3, _⟩ => ⟨S1024, .f32⟩
  | .hbm, ⟨4, _⟩ => ⟨S1024x1024, .f32⟩
  | .hbm, ⟨5, _⟩ => ⟨S2048x1024, .f32⟩
  | .hbm, ⟨6, _⟩ => ⟨S256, .f32⟩
  | .hbm, ⟨7, _⟩ => ⟨S2048x256, .f32⟩
  | .hbm, ⟨8, _⟩ => ⟨S_, .f32⟩
  | .hbm, ⟨9, _⟩ => ⟨S2048, .f32⟩
  | .hbm, ⟨10, _⟩ => ⟨S2048x1, .f32⟩
  | .hbm, ⟨11, _⟩ => ⟨S_, .f32⟩
  | .hbm, ⟨12, _⟩ => ⟨S2048x1, .f32⟩
  | .hbm, ⟨13, _⟩ => ⟨S2048x1, .f32⟩
  | .hbm, ⟨14, _⟩ => ⟨S_, .f32⟩
  | .hbm, ⟨15, _⟩ => ⟨S2048x1, .f32⟩
  | .hbm, ⟨16, _⟩ => ⟨S2048x1, .f32⟩
  | .hbm, ⟨17, _⟩ => ⟨S2048x1, .f32⟩
  | .hbm, ⟨18, _⟩ => ⟨S2048x256, .f32⟩
  | .hbm, ⟨19, _⟩ => ⟨S2048x256, .f32⟩
  | .hbm, ⟨20, _⟩ => ⟨S1x256, .f32⟩
  | .hbm, ⟨21, _⟩ => ⟨S2048x256, .f32⟩
  | .hbm, ⟨22, _⟩ => ⟨S2048x256, .f32⟩
  | .hbm, ⟨23, _⟩ => ⟨S256, .f32⟩
  | .hbm, ⟨24, _⟩ => ⟨S2048x256, .f32⟩
  | .hbm, ⟨25, _⟩ => ⟨S_, .f32⟩
  | .hbm, ⟨26, _⟩ => ⟨S2048, .f32⟩
  | .hbm, ⟨27, _⟩ => ⟨S2048x1, .f32⟩
  | .hbm, ⟨28, _⟩ => ⟨S_, .f32⟩
  | .hbm, ⟨29, _⟩ => ⟨S2048x1, .f32⟩
  | .hbm, ⟨30, _⟩ => ⟨S2048x1, .f32⟩
  | .hbm, ⟨31, _⟩ => ⟨S_, .f32⟩
  | .hbm, ⟨32, _⟩ => ⟨S2048x1, .f32⟩
  | .hbm, ⟨33, _⟩ => ⟨S2048x1, .f32⟩
  | .hbm, ⟨34, _⟩ => ⟨S2048x1, .f32⟩
  | .hbm, ⟨35, _⟩ => ⟨S2048x256, .f32⟩
  | .hbm, ⟨36, _⟩ => ⟨S2048x256, .f32⟩
  | .hbm, ⟨37, _⟩ => ⟨S1x256, .f32⟩
  | .hbm, ⟨38, _⟩ => ⟨S2048x256, .f32⟩
  | .hbm, ⟨39, _⟩ => ⟨S2048x256, .f32⟩
  | .hbm, ⟨40, _⟩ => ⟨S512, .f32⟩
  | .hbm, ⟨41, _⟩ => ⟨S2048x512, .f32⟩
  | .hbm, ⟨42, _⟩ => ⟨S_, .f32⟩
  | .hbm, ⟨43, _⟩ => ⟨S2048, .f32⟩
  | .hbm, ⟨44, _⟩ => ⟨S2048x1, .f32⟩
  | .hbm, ⟨45, _⟩ => ⟨S_, .f32⟩
  | .hbm, ⟨46, _⟩ => ⟨S2048x1, .f32⟩
  | .hbm, ⟨47, _⟩ => ⟨S2048x1, .f32⟩
  | .hbm, ⟨48, _⟩ => ⟨S_, .f32⟩
  | .hbm, ⟨49, _⟩ => ⟨S2048x1, .f32⟩
  | .hbm, ⟨50, _⟩ => ⟨S2048x1, .f32⟩
  | .hbm, ⟨51, _⟩ => ⟨S2048x1, .f32⟩
  | .hbm, ⟨52, _⟩ => ⟨S2048x512, .f32⟩
  | .hbm, ⟨53, _⟩ => ⟨S2048x512, .f32⟩
  | .hbm, ⟨54, _⟩ => ⟨S1x512, .f32⟩
  | .hbm, ⟨55, _⟩ => ⟨S2048x512, .f32⟩
  | .hbm, ⟨56, _⟩ => ⟨S2048x512, .f32⟩
  | .hbm, ⟨57, _⟩ => ⟨S2048x1024, .f32⟩
  | .hbm, ⟨58, _⟩ => ⟨S2048x1024, .f32⟩
  | .hbm, ⟨59, _⟩ => ⟨S2048x1024, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_2 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_v30 : Ref sig .tc := ⟨.hbm, 43, rfl⟩
abbrev main_v31 : Ref sig .tc := ⟨.hbm, 44, rfl⟩
abbrev main_cst_6 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩

abbrev nD : Nat := 1
abbrev τ : Topo := Topo.v7x

variable {F : FTy → Type} [FloatOps F]
-- ==== Kernel11.lean ====
abbrev S2048x5632 : Shape := ⟨2, ![2048, 5632]⟩
abbrev S2048x1024 : Shape := ⟨2, ![2048, 1024]⟩
abbrev S5632x1024 : Shape := ⟨2, ![5632, 1024]⟩
abbrev S2048x512 : Shape := ⟨2, ![2048, 512]⟩
abbrev S512x1024 : Shape := ⟨2, ![512, 1024]⟩

abbrev nBuf : Space → Nat
  | .hbm => 3
  | .vmem => 5
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S5632x1024, .bf16⟩
  | .local _ .vmem, ⟨0, _⟩ => ⟨S2048x512, .bf16⟩
  | .local _ .vmem, ⟨1, _⟩ => ⟨S2048x512, .bf16⟩
  | .local _ .vmem, ⟨2, _⟩ => ⟨S2048x1024, .bf16⟩
  | .local _ .vmem, ⟨3, _⟩ => ⟨S512x1024, .bf16⟩
  | .local _ .vmem, ⟨4, _⟩ => ⟨S512x1024, .bf16⟩
  | _, _ => ⟨S2048x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![11, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S2048x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S2048x5632 : Shape := ⟨2, ![2048, 5632]⟩
abbrev S2048x1024 : Shape := ⟨2, ![2048, 1024]⟩
abbrev S5632x1024 : Shape := ⟨2, ![5632, 1024]⟩

abbrev nBuf : Space → Nat
  | .hbm => 6
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x1024, .bf16⟩
  | .hbm, ⟨2, _⟩ => ⟨S2048x5632, .f32⟩
  | .hbm, ⟨3, _⟩ => ⟨S2048x1024, .f32⟩
  | .hbm, ⟨4, _⟩ => ⟨S5632x1024, .f32⟩
  | .hbm, ⟨5, _⟩ => ⟨S5632x1024, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩

abbrev nD : Nat := 1
abbrev τ : Topo := Topo.v7x

variable {F : FTy → Type} [FloatOps F]
-- ==== Kernel12.lean ====
abbrev S2048x2560 : Shape := ⟨2, ![2048, 2560]⟩
abbrev S256 : Shape := ⟨1, ![256]⟩
abbrev S4x128x128 : Shape := ⟨3, ![4, 128, 128]⟩
abbrev S4x128 : Shape := ⟨2, ![4, 128]⟩
abbrev S1x256 : Shape := ⟨2, ![1, 256]⟩
abbrev S128x4 : Shape := ⟨2, ![128, 4]⟩
abbrev S128x4x64 : Shape := ⟨3, ![128, 4, 64]⟩
abbrev S128x256 : Shape := ⟨2, ![128, 256]⟩
abbrev S2048x256 : Shape := ⟨2, ![2048, 256]⟩
abbrev S1024x512 : Shape := ⟨2, ![1024, 512]⟩
abbrev S1024x256 : Shape := ⟨2, ![1024, 256]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩

abbrev nBuf : Space → Nat
  | .hbm => 11
  | .vmem => 8
  | .smem => 0
  | _ => 0

abbrev bufTy : (tb : Table) → Fin (tcTables nBuf tb) → BufTy
  | .hbm, ⟨0, _⟩ => ⟨S2048x2560, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S1x256, .f32⟩
  | .hbm, ⟨6, _⟩ => ⟨S1x256, .f32⟩
  | .hbm, ⟨7, _⟩ => ⟨S128x4, .f32⟩
  | .hbm, ⟨8, _⟩ => ⟨S128x4x64, .f32⟩
  | .hbm, ⟨9, _⟩ => ⟨S128x256, .f32⟩
  | .hbm, ⟨10, _⟩ => ⟨S2048x256, .f32⟩
  | .local _ .vmem, ⟨0, _⟩ => ⟨S1024x512, .f32⟩
  | .local _ .vmem, ⟨1, _⟩ => ⟨S1024x512, .f32⟩
  | .local _ .vmem, ⟨2, _⟩ => ⟨S1x256, .f32⟩
  | .local _ .vmem, ⟨3, _⟩ => ⟨S1x256, .f32⟩
  | .local _ .vmem, ⟨4, _⟩ => ⟨S4x128x128, .f32⟩
  | .local _ .vmem, ⟨5, _⟩ => ⟨S128x256, .f32⟩
  | .local _ .vmem, ⟨6, _⟩ => ⟨S1024x256, .f32⟩
  | .local _ .vmem, ⟨7, _⟩ => ⟨S1024x256, .f32⟩
  | _, _ => ⟨S2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference12Ideal.lean ====
abbrev S2048x2560 : Shape := ⟨2, ![2048, 2560]⟩
abbrev S256 : Shape := ⟨1, ![256]⟩
abbrev S4x128x128 : Shape := ⟨3, ![4, 128, 128]⟩
abbrev S4x128 : Shape := ⟨2, ![4, 128]⟩
abbrev S2048x512 : Shape := ⟨2, ![2048, 512]⟩
abbrev S_ : Shape := ⟨0, ![]⟩
abbrev S2048x256 : Shape := ⟨2, ![2048, 256]⟩
abbrev S2048 : Shape := ⟨1, ![2048]⟩
abbrev S2048x1 : Shape := ⟨2, ![2048, 1]⟩
abbrev S1x256 : Shape := ⟨2, ![1, 256]⟩
abbrev S16x128x4x64 : Shape := ⟨4, ![16, 128, 4, 64]⟩
abbrev S128x128 : Shape := ⟨2, ![128, 128]⟩
abbrev S1x128x128 : Shape := ⟨3, ![1, 128, 128]⟩
abbrev S4x16x64x128 : Shape := ⟨4, ![4, 16, 64, 128]⟩
abbrev S128x4 : Shape := ⟨2, ![128, 4]⟩
abbrev S1x128x4x1 : Shape := ⟨4, ![1, 128, 4, 1]⟩

abbrev nBuf : Space → Nat
  | .hbm => 70
  | .vmem => 0
  | .smem => 0
  | _ => 0

abbrev bufTy : (tb : Table) → Fin (tcTables nBuf tb) → BufTy
  | .hbm, ⟨0, _⟩ => ⟨S2048x2560, .f32⟩
  | .hbm, ⟨1, _⟩ => ⟨S256, .f32⟩
  | .hbm, ⟨2, _⟩ => ⟨S256, .f32⟩
  | .hbm, ⟨3, _⟩ => ⟨S4x128x128, .f32⟩
  | .hbm, ⟨4, _⟩ => ⟨S4x128, .f32⟩
  | .hbm, ⟨5, _⟩ => ⟨S2048x512, .f32⟩
  | .hbm, ⟨6, _⟩ => ⟨S_, .f32⟩
  | .hbm, ⟨7, _⟩ => ⟨S2048x512, .f32⟩
  | .hbm, ⟨8, _⟩ => ⟨S2048x512, .f32⟩
  | .hbm, ⟨9, _⟩ => ⟨S2048x512, .f32⟩
  | .hbm, ⟨10, _⟩ => ⟨S_, .f32⟩
  | .hbm, ⟨11, _⟩ => ⟨S2048x512, .f32⟩
  | .hbm, ⟨12, _⟩ => ⟨S2048x512, .f32⟩
  | .hbm, ⟨13, _⟩ => ⟨S2048x512, .f32⟩
  | .hbm, ⟨14, _⟩ => ⟨S2048x512, .f32⟩
  | .hbm, ⟨15, _⟩ => ⟨S2048x256, .f32⟩
  | .hbm, ⟨16, _⟩ => ⟨S2048x256, .f32⟩
  | .hbm, ⟨17, _⟩ => ⟨S_, .f32⟩
  | .hbm, ⟨18, _⟩ => ⟨S2048, .f32⟩
  | .hbm, ⟨19, _⟩ => ⟨S2048x1, .f32⟩
  | .hbm, ⟨20, _⟩ => ⟨S_, .f32⟩
  | .hbm, ⟨21, _⟩ => ⟨S2048x1, .f32⟩
  | .hbm, ⟨22, _⟩ => ⟨S2048x1, .f32⟩
  | .hbm, ⟨23, _⟩ => ⟨S2048x256, .f32⟩
  | .hbm, ⟨24, _⟩ => ⟨S2048x256, .f32⟩
  | .hbm, ⟨25, _⟩ => ⟨S2048x256, .f32⟩
  | .hbm, ⟨26, _⟩ => ⟨S_, .f32⟩
  | .hbm, ⟨27, _⟩ => ⟨S2048, .f32⟩
  | .hbm, ⟨28, _⟩ => ⟨S2048x1, .f32⟩
  | .hbm, ⟨29, _⟩ => ⟨S_, .f32⟩
  | .hbm, ⟨30, _⟩ => ⟨S2048x1, .f32⟩
  | .hbm, ⟨31, _⟩ => ⟨S2048x1, .f32⟩
  | .hbm, ⟨32, _⟩ => ⟨S_, .f32⟩
  | .hbm, ⟨33, _⟩ => ⟨S2048x1, .f32⟩
  | .hbm, ⟨34, _⟩ => ⟨S2048x1, .f32⟩
  | .hbm, ⟨35, _⟩ => ⟨S2048x1, .f32⟩
  | .hbm, ⟨36, _⟩ => ⟨S2048x256, .f32⟩
  | .hbm, ⟨37, _⟩ => ⟨S2048x256, .f32⟩
  | .hbm, ⟨38, _⟩ => ⟨S1x256, .f32⟩
  | .hbm, ⟨39, _⟩ => ⟨S2048x256, .f32⟩
  | .hbm, ⟨40, _⟩ => ⟨S2048x256, .f32⟩
  | .hbm, ⟨41, _⟩ => ⟨S1x256, .f32⟩
  | .hbm, ⟨42, _⟩ => ⟨S2048x256, .f32⟩
  | .hbm, ⟨43, _⟩ => ⟨S2048x256, .f32⟩
  | .hbm, ⟨44, _⟩ => ⟨S16x128x4x64, .f32⟩
  | .hbm, ⟨45, _⟩ => ⟨S_, .i1⟩
  | .hbm, ⟨46, _⟩ => ⟨S128x128, .i1⟩
  | .hbm, ⟨47, _⟩ => ⟨S128x128, .i32⟩
  | .hbm, ⟨48, _⟩ => ⟨S_, .i32⟩
  | .hbm, ⟨49, _⟩ => ⟨S128x128, .i32⟩
  | .hbm, ⟨50, _⟩ => ⟨S128x128, .i32⟩
  | .hbm, ⟨51, _⟩ => ⟨S128x128, .i32⟩
  | .hbm, ⟨52, _⟩ => ⟨S128x128, .i1⟩
  | .hbm, ⟨53, _⟩ => ⟨S_, .i1⟩
  | .hbm, ⟨54, _⟩ => ⟨S128x128, .i1⟩
  | .hbm, ⟨55, _⟩ => ⟨S128x128, .i1⟩
  | .hbm, ⟨56, _⟩ => ⟨S1x128x128, .i1⟩
  | .hbm, ⟨57, _⟩ => ⟨S_, .f32⟩
  | .hbm, ⟨58, _⟩ => ⟨S_, .f32⟩
  | .hbm, ⟨59, _⟩ => ⟨S4x128x128, .i1⟩
  | .hbm, ⟨60, _⟩ => ⟨S4x128x128, .f32⟩
  | .hbm, ⟨61, _⟩ => ⟨S4x128x128, .f32⟩
  | .hbm, ⟨62, _⟩ => ⟨S4x16x64x128, .f32⟩
  | .hbm, ⟨63, _⟩ => ⟨S16x128x4x64, .f32⟩
  | .hbm, ⟨64, _⟩ => ⟨S128x4, .f32⟩
  | .hbm, ⟨65, _⟩ => ⟨S1x128x4x1, .f32⟩
  | .hbm, ⟨66, _⟩ => ⟨S16x128x4x64, .f32⟩
  | .hbm, ⟨67, _⟩ => ⟨S16x128x4x64, .f32⟩
  | .hbm, ⟨68, _⟩ => ⟨S2048x256, .f32⟩
  | .hbm, ⟨69, _⟩ => ⟨S2048x256, .f32⟩
  | _, _ => ⟨S2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_v20 : Ref sig .tc := ⟨.hbm, 31, rfl⟩
abbrev main_cst_5 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_c : Ref sig .tc := ⟨.hbm, 45, rfl⟩
abbrev main_v33 : Ref sig .tc := ⟨.hbm, 46, rfl⟩
abbrev main_call0_v0 : Ref sig .tc := ⟨.hbm, 47, rfl⟩
abbrev main_call0_c : Ref sig .tc := ⟨.hbm, 48, rfl⟩
abbrev main_call0_v1 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_c_0 : Ref sig .tc := ⟨.hbm, 53, rfl⟩
abbrev main_call0_v5 : Ref sig .tc := ⟨.hbm, 54, rfl⟩
abbrev main_v34 : Ref sig .tc := ⟨.hbm, 55, rfl⟩
abbrev main_v35 : Ref sig .tc := ⟨.hbm, 56, rfl⟩
abbrev main_cst_6 : Ref sig .tc := ⟨.hbm, 57, rfl⟩
abbrev main_call1_v0 : Ref sig .tc := ⟨.hbm, 58, rfl⟩
abbrev main_call1_v1 : Ref sig .tc := ⟨.hbm, 59, rfl⟩
abbrev main_call1_v2 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩

abbrev nD : Nat := 1
abbrev τ : Topo := Topo.v7x

variable {F : FTy → Type} [FloatOps F]
-- ==== Proof.SbLoop.lean ====
module

public import proofs.«01_k».proof.Proof.Gen.KernelIdeal.Frame
public import proofs.«01_k».proof.Proof.Gen.KernelIdeal.Loops

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ
/-- What a trip carries. -/
abbrev Acc (F : FTy → Type) := (FVec F S1024x128 .f32 × FVec F S1024x1 .f32 × FVec F S1024x1 .f32 × FVec F S1024x1 .f32 × FVec F S1024x1 .f32)
/-- The pieces stored, per buffer. -/
abbrev Pcs (F : FTy → Type) := (List (View.Piece (Elt F) S1x16x128x256 .f32) × List (View.Piece (Elt F) S1x16x128x256 .f32) × List (View.Piece (Elt F) S1x1024x256 .f32) × List (View.Piece (Elt F) S1x1024x256 .f32) × List (View.Piece (Elt F) S1x1024x256 .bf16) × List (View.Piece (Elt F) S1x1024x256 .bf16))

/-- The buffers one run of the body works on. -/
structure Bufs where
  arg2 : Memref sig .tc .vmem S1024x128 .bf16
  harg2 : arg2.IsWhole
  arg3 : Memref sig .tc .vmem S4096x128 .bf16
  harg3 : arg3.IsWhole
  arg4 : Memref sig .tc .vmem S1x16x128x256 .bf16
  harg4 : arg4.IsWhole
  arg5 : Memref sig .tc .vmem S1x16x128x256 .bf16
  harg5 : arg5.IsWhole
  arg6 : Memref sig .tc .vmem S1024x128 .f32
  harg6 : arg6.IsWhole
  arg7 : Memref sig .tc .vmem S1024x128 .f32
  harg7 : arg7.IsWhole
  arg8 : Memref sig .tc .vmem S256x256 .bf16
  harg8 : arg8.IsWhole
  arg9 : Memref sig .tc .vmem S256x256 .bf16
  harg9 : arg9.IsWhole
  arg10 : Memref sig .tc .hbm S8x128 .f32
  harg10 : arg10.IsWhole
  arg11 : Memref sig .tc .vmem S1024x128 .f32
  harg11 : arg11.IsWhole
  arg12 : Memref sig .tc .vmem S1x16x128x256 .f32
  harg12 : arg12.IsWhole
  arg13 : Memref sig .tc .vmem S1x16x128x256 .f32
  harg13 : arg13.IsWhole
  arg14 : Memref sig .tc .vmem S1x1024x256 .f32
  harg14 : arg14.IsWhole
  arg15 : Memref sig .tc .vmem S1x1024x256 .f32
  harg15 : arg15.IsWhole
  arg16 : Memref sig .tc .vmem S1x1024x256 .bf16
  harg16 : arg16.IsWhole
  arg17 : Memref sig .tc .vmem S1x1024x256 .bf16
  harg17 : arg17.IsWhole

/-- What the buffers hold when it starts: its eight inputs, its three outputs and its four scratch buffers. -/
structure Held (F : FTy → Type) [FloatOps F] where
  x0 : Vec F S1024x128 .bf16
  x1 : Vec F S4096x128 .bf16
  x2 : Vec F S1x16x128x256 .bf16
  x3 : Vec F S1x16x128x256 .bf16
  x4 : Vec F S1024x128 .f32
  x5 : Vec F S1024x128 .f32
  x6 : Vec F S256x256 .bf16
  x7 : Vec F S256x256 .bf16
  y11 : Vec F S1024x128 .f32
  y12 : Vec F S1x16x128x256 .f32
  y13 : Vec F S1x16x128x256 .f32
  y14 : Vec F S1x1024x256 .f32
  y15 : Vec F S1x1024x256 .f32
  y16 : Vec F S1x1024x256 .bf16
  y17 : Vec F S1x1024x256 .bf16

/-! # The loop over the key blocks no query of the block is masked in

One trip leaves in the six buffers it writes a list of pieces and a new carried value, both functions of what the
trip found; `st` iterates them. -/

variable (c : Dev nD) (i : grid0.Coords) (m : Bufs) (v0 : BitVec 32) (v2 : BitVec 32) (v7 : FVec F S1024x128 .bf16)
  (v9 : FVec F S1024x128 .bf16) (v12 : FVec F S128x1024 .bf16) (v14 : FVec F S128x1024 .bf16) (v23 : FVec F S1024x256
  .f32) (v25 : FVec F S256x256 .bf16) (v27 : FVec F S256x256 .bf16) (v30 : FVec F S1024x256 .f32) (X3 :
  BufTy.Contents (Elt F) m.arg3.view.ty) (X4 : BufTy.Contents (Elt F) m.arg4.view.ty) (X5 : BufTy.Contents
  (Elt F) m.arg5.view.ty)
variable (G12 : BufTy.Contents (Elt F) m.arg12.view.ty) (G13 : BufTy.Contents (Elt F) m.arg13.view.ty)
  (G14 : BufTy.Contents (Elt F) m.arg14.view.ty) (G15 : BufTy.Contents (Elt F) m.arg15.view.ty) (G16 :
  BufTy.Contents (Elt F) m.arg16.view.ty) (G17 : BufTy.Contents (Elt F) m.arg17.view.ty)

/-- One trip at a symbolic `k`. -/
@[irreducible] def trip (k : Fin (k0_t1_loop i).trips) :
    Σ' (Rv : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → Acc F) (L_arg12 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x16x128x256 .f32)) (L_arg13 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x16x128x256 .f32)) (L_arg14 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x1024x256 .f32)) (L_arg15 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x1024x256 .f32)) (L_arg16 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x1024x256 .bf16)), { L_arg17 : Acc F → BufTy.Contents (Elt F) m.arg12.view.ty → BufTy.Contents (Elt F) m.arg13.view.ty → BufTy.Contents (Elt F) m.arg14.view.ty → BufTy.Contents (Elt F) m.arg15.view.ty → BufTy.Contents (Elt F) m.arg16.view.ty → BufTy.Contents (Elt F) m.arg17.view.ty → List (View.Piece (Elt F) S1x1024x256 .bf16) //
      ∀ (E : Set ℕ) (acc : Acc F) (f12 : BufTy.Contents (Elt F) m.arg12.view.ty) (f13 : BufTy.Contents (Elt F) m.arg13.view.ty) (f14 : BufTy.Contents (Elt F) m.arg14.view.ty) (f15 : BufTy.Contents (Elt F) m.arg15.view.ty) (f16 : BufTy.Contents (Elt F) m.arg16.view.ty) (f17 : BufTy.Contents (Elt F) m.arg17.view.ty),
        (iprop((m.arg3.view.loc (c : Thread nD τ) ↦[m.arg3.view.set]{fullShare} X3) ∗ (m.arg4.view.loc (c : Thread nD τ) ↦[m.arg4.view.set]{fullShare} X4) ∗ (m.arg5.view.loc (c : Thread nD τ) ↦[m.arg5.view.set]{fullShare} X5) ∗ (m.arg12.view.loc (c : Thread nD τ) ↦[m.arg12.view.set]{fullShare} f12) ∗ (m.arg13.view.loc (c : Thread nD τ) ↦[m.arg13.view.set]{fullShare} f13) ∗ (m.arg14.view.loc (c : Thread nD τ) ↦[m.arg14.view.set]{fullShare} f14) ∗ (m.arg15.view.loc (c : Thread nD τ) ↦[m.arg15.view.set]{fullShare} f15) ∗ (m.arg16.view.loc (c : Thread nD τ) ↦[m.arg16.view.set]{fullShare} f16) ∗ (m.arg17.view.loc (c : Thread nD τ) ↦[m.arg17.view.set]{fullShare} f17)) : sProp 𝕄)
          ⊢ wp frame (wpE (defs₀ (F := F)) Variants.none c none) E (k0_t1_body (F := F) i m.arg2 m.harg2 m.arg3 m.harg3 m.arg4 m.harg4 m.arg5 m.harg5 m.arg6 m.harg6 m.arg7 m.harg7 m.arg8 m.harg8 m.arg9 m.harg9 m.arg10 m.harg10 m.arg11 m.harg11 m.arg12 m.harg12 m.arg13 m.harg13 m.arg14 m.harg14 m.arg15 m.harg15 m.arg16 m.harg16 m.arg17 m.harg17 v0 v2 v7 v9 v12 v14 v23 v25 v27 v30 k acc)
            (fun yld => iprop(⌜yld = Rv acc f12 f13 f14 f15 f16 f17⌝ ∗ (m.arg3.view.loc (c : Thread nD τ) ↦[m.arg3.view.set]{fullShare} X3) ∗ (m.arg4.view.loc (c : Thread nD τ) ↦[m.arg4.view.set]{fullShare} X4) ∗ (m.arg5.view.loc (c : Thread nD τ) ↦[m.arg5.view.set]{fullShare} X5) ∗ (m.arg12.view.loc (c : Thread nD τ) ↦[m.arg12.view.set]{fullShare} (m.arg12.view.writes (Elt F) f12 (L_arg12 acc f12 f13 f14 f15 f16 f17))) ∗ (m.arg13.view.loc (c : Thread nD τ) ↦[m.arg13.view.set]{fullShare} (m.arg13.view.writes (Elt F) f13 (L_arg13 acc f12 f13 f14 f15 f16 f17))) ∗ (m.arg14.view.loc (c : Thread nD τ) ↦[m.arg14.view.set]{fullShare} (m.arg14.view.writes (Elt F) f14 (L_arg14 acc f12 f13 f14 f15 f16 f17))) ∗ (m.arg15.view.loc (c : Thread nD τ) ↦[m.arg15.view.set]{fullShare} (m.arg15.view.writes (Elt F) f15 (L_arg15 acc f12 f13 f14 f15 f16 f17))) ∗ (m.arg16.view.loc (c : Thread nD τ) ↦[m.arg16.view.set]{fullShare} (m.arg16.view.writes (Elt F) f16 (L_arg16 acc f12 f13 f14 f15 f16 f17))) ∗ (m.arg17.view.loc (c : Thread nD τ) ↦[m.arg17.view.set]{fullShare} (m.arg17.view.writes (Elt F) f17 (L_arg17 acc f12 f13 f14 f15 f16 f17))))) } := by
  refine ⟨?_, ?_, ?_, ?_, ?_, ?_, ?_, fun E acc f12 f13 f14 f15 f16 f17 => ?run⟩
  case run =>
    unfold k0_t1_body
    iintro ⟨Harg3, Harg4, Harg5, Harg12, Harg13, Harg14, Harg15, Harg16, Harg17⟩
    sl_exec
    sl_step
    sl_close

/-- What one trip makes of the state before it. -/
@[irreducible] def next (k : Fin (k0_t1_loop i).trips) (s : Acc F × Pcs F) : Acc F × Pcs F :=
  ((trip (F := F) c i m v0 v2 v7 v9 v12 v14 v23 v25 v27 v30 X3 X4 X5 k).1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2), (trip (F := F) c i m v0 v2 v7 v9 v12 v14 v23 v25 v27 v30 X3 X4 X5 k).2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.1, (trip (F := F) c i m v0 v2 v7 v9 v12 v14 v23 v25 v27 v30 X3 X4 X5 k).2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.1, (trip (F := F) c i m v0 v2 v7 v9 v12 v14 v23 v25 v27 v30 X3 X4 X5 k).2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.1, (trip (F := F) c i m v0 v2 v7 v9 v12 v14 v23 v25 v27 v30 X3 X4 X5 k).2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.1, (trip (F := F) c i m v0 v2 v7 v9 v12 v14 v23 v25 v27 v30 X3 X4 X5 k).2.2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.2.1, (trip (F := F) c i m v0 v2 v7 v9 v12 v14 v23 v25 v27 v30 X3 X4 X5 k).2.2.2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.2.2)

theorem next_acc (k : Fin (k0_t1_loop i).trips) (s : Acc F × Pcs F) :
    (next (F := F) c i m v0 v2 v7 v9 v12 v14 v23 v25 v27 v30 X3 X4 X5 G12 G13 G14 G15 G16 G17 k s).1 = (trip (F := F) c i m v0 v2 v7 v9 v12 v14 v23 v25 v27 v30 X3 X4 X5 k).1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) := by unfold next; rfl
theorem next_arg12 (k : Fin (k0_t1_loop i).trips) (s : Acc F × Pcs F) :
    (next (F := F) c i m v0 v2 v7 v9 v12 v14 v23 v25 v27 v30 X3 X4 X5 G12 G13 G14 G15 G16 G17 k s).2.1 = (trip (F := F) c i m v0 v2 v7 v9 v12 v14 v23 v25 v27 v30 X3 X4 X5 k).2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.1 := by unfold next; rfl
theorem next_arg13 (k : Fin (k0_t1_loop i).trips) (s : Acc F × Pcs F) :
    (next (F := F) c i m v0 v2 v7 v9 v12 v14 v23 v25 v27 v30 X3 X4 X5 G12 G13 G14 G15 G16 G17 k s).2.2.1 = (trip (F := F) c i m v0 v2 v7 v9 v12 v14 v23 v25 v27 v30 X3 X4 X5 k).2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.1 := by unfold next; rfl
theorem next_arg14 (k : Fin (k0_t1_loop i).trips) (s : Acc F × Pcs F) :
    (next (F := F) c i m v0 v2 v7 v9 v12 v14 v23 v25 v27 v30 X3 X4 X5 G12 G13 G14 G15 G16 G17 k s).2.2.2.1 = (trip (F := F) c i m v0 v2 v7 v9 v12 v14 v23 v25 v27 v30 X3 X4 X5 k).2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.1 := by unfold next; rfl
theorem next_arg15 (k : Fin (k0_t1_loop i).trips) (s : Acc F × Pcs F) :
    (next (F := F) c i m v0 v2 v7 v9 v12 v14 v23 v25 v27 v30 X3 X4 X5 G12 G13 G14 G15 G16 G17 k s).2.2.2.2.1 = (trip (F := F) c i m v0 v2 v7 v9 v12 v14 v23 v25 v27 v30 X3 X4 X5 k).2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.1 := by unfold next; rfl
theorem next_arg16 (k : Fin (k0_t1_loop i).trips) (s : Acc F × Pcs F) :
    (next (F := F) c i m v0 v2 v7 v9 v12 v14 v23 v25 v27 v30 X3 X4 X5 G12 G13 G14 G15 G16 G17 k s).2.2.2.2.2.1 = (trip (F := F) c i m v0 v2 v7 v9 v12 v14 v23 v25 v27 v30 X3 X4 X5 k).2.2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.2.1 := by unfold next; rfl
theorem next_arg17 (k : Fin (k0_t1_loop i).trips) (s : Acc F × Pcs F) :
    (next (F := F) c i m v0 v2 v7 v9 v12 v14 v23 v25 v27 v30 X3 X4 X5 G12 G13 G14 G15 G16 G17 k s).2.2.2.2.2.2 = (trip (F := F) c i m v0 v2 v7 v9 v12 v14 v23 v25 v27 v30 X3 X4 X5 k).2.2.2.2.2.2.1 s.1 (m.arg12.view.writes (Elt F) G12 s.2.1) (m.arg13.view.writes (Elt F) G13 s.2.2.1) (m.arg14.view.writes (Elt F) G14 s.2.2.2.1) (m.arg15.view.writes (Elt F) G15 s.2.2.2.2.1) (m.arg16.view.writes (Elt F) G16 s.2.2.2.2.2.1) (m.arg17.view.writes (Elt F) G17 s.2.2.2.2.2.2) ++ s.2.2.2.2.2.2 := by unfold next; rfl

/-- The state before trip `k`: the carried value and, per written buffer, the pieces of the trips before. -/
def st (init : Acc F) : ℕ → Acc F × Pcs F
  | 0 => (init, [], [], [], [], [], [])
  | k + 1 => if h : k < (k0_t1_loop i).trips then next c i m v0 v2 v7 v9 v12 v14 v23 v25 v27 v30 X3 X4 X5 G12 G13 G14 G15 G16 G17 ⟨k, h⟩ (st init k) else st init k

theorem st_succ (init : Acc F) (k : Fin (k0_t1_loop i).trips) :
    st (F := F) c i m v0 v2 v7 v9 v12 v14 v23 v25 v27 v30 X3 X4 X5 G12 G13 G14 G15 G16 G17 init (k.val + 1) = next c i m v0 v2 v7 v9 v12 v14 v23 v25 v27 v30 X3 X4 X5 G12 G13 G14 G15 G16 G17 k (st c i m v0 v2 v7 v9 v12 v14 v23 v25 v27 v30 X3 X4 X5 G12 G13 G14 G15 G16 G17 init k.val) := by
  rw [st.eq_2]; exact dif_pos k.isLt

/-- What the loop holds before trip `k`. -/
abbrev inv (init : Acc F) (k : ℕ) (acc : Acc F) : sProp 𝕄 :=
  iprop((m.arg3.view.loc (c : Thread nD τ) ↦[m.arg3.view.set]{fullShare} X3) ∗ (m.arg4.view.loc (c : Thread nD τ) ↦[m.arg4.view.set]{fullShare} X4) ∗ (m.arg5.view.loc (c : Thread nD τ) ↦[m.arg5.view.set]{fullShare} X5) ∗ (∃ f, (m.arg12.view.loc (c : Thread nD τ) ↦[m.arg12.view.set]{fullShare} f) ∗ ⌜f = m.arg12.view.writes (Elt F) G12 (st (F := F) c i m v0 v2 v7 v9 v12 v14 v23 v25 v27 v30 X3 X4 X5 G12 G13 G14 G15 G16 G17 init k).2.1⌝) ∗ (∃ f, (m.arg13.view.loc (c : Thread nD τ) ↦[m.arg13.view.set]{fullShare} f) ∗ ⌜f = m.arg13.view.writes (Elt F) G13 (st (F := F) c i m v0 v2 v7 v9 v12 v14 v23 v25 v27 v30 X3 X4 X5 G12 G13 G14 G15 G16 G17 init k).2.2.1⌝) ∗ (∃ f, (m.arg14.view.loc (c : Thread nD τ) ↦[m.arg14.view.set]{fullShare} f) ∗ ⌜f = m.arg14.view.writes (Elt F) G14 (st (F := F) c i m v0 v2 v7 v9 v12 v14 v23 v25 v27 v30 X3 X4 X5 G12 G13 G14 G15 G16 G17 init k).2.2.2.1⌝) ∗ (∃ f, (m.arg15.view.loc (c : Thread nD τ) ↦[m.arg15.view.set]{fullShare} f) ∗ ⌜f = m.arg15.view.writes (Elt F) G15 (st (F := F) c i m v0 v2 v7 v9 v12 v14 v23 v25 v27 v30 X3 X4 X5 G12 G13 G14 G15 G16 G17 init k).2.2.2.2.1⌝) ∗ (∃ f, (m.arg16.view.loc (c : Thread nD τ) ↦[m.arg16.view.set]{fullShare} f) ∗ ⌜f = m.arg16.view.writes (Elt F) G16 (st (F := F) c i m v0 v2 v7 v9 v12 v14 v23 v25 v27 v30 X3 X4 X5 G12 G13 G14 G15 G16 G17 init k).2.2.2.2.2.1⌝) ∗ (∃ f, (m.arg17.view.loc (c : Thread nD τ) ↦[m.arg17.view.set]{fullShare} f) ∗ ⌜f = m.arg17.view.writes (Elt F) G17 (st (F := F) c i m v0 v2 v7 v9 v12 v14 v23 v25 v27 v30 X3 X4 X5 G12 G13 G14 G15 G16 G17 init k).2.2.2.2.2.2⌝) ∗ ⌜acc = (st (F := F) c i m v0 v2 v7 v9 v12 v14 v23 v25 v27 v30 X3 X4 X5 G12 G13 G14 G15 G16 G17 init k).1⌝)

set_option warn.classDefReducibility false in
set_option maxHeartbeats 4000000 in
/-- The loop by its invariant. -/
@[sl_loop] def loop1 (c : Dev nD) (E : Set ℕ) (i : grid0.Coords) (m : Bufs) (v0 : BitVec 32) (v2 : BitVec 32) (v7 : FVec F S1024x128 .bf16) (v9 : FVec F S1024x128 .bf16) (v12 : FVec F S128x1024 .bf16) (v14 : FVec F S128x1024 .bf16) (v23 : FVec F S1024x256 .f32) (v25 : FVec F S256x256 .bf16) (v27 : FVec F S256x256 .bf16) (v30 : FVec F S1024x256 .f32) (X3 : BufTy.Contents (Elt F) m.arg3.view.ty) (X4 : BufTy.Contents (Elt F) m.arg4.view.ty) (X5 : BufTy.Contents (Elt F) m.arg5.view.ty) (G12 : BufTy.Contents (Elt F) m.arg12.view.ty) (G13 : BufTy.Contents (Elt F) m.arg13.view.ty) (G14 : BufTy.Contents (Elt F) m.arg14.view.ty) (G15 : BufTy.Contents (Elt F) m.arg15.view.ty) (G16 : BufTy.Contents (Elt F) m.arg16.view.ty) (G17 : BufTy.Contents (Elt F) m.arg17.view.ty) (init : Acc F) :
    LoopInvTy_k0_t1 (F := F) Unit ℕ (UR sig nD τ) ℕ Variants.none c none E i m.arg2 m.harg2 m.arg3 m.harg3 m.arg4 m.harg4 m.arg5 m.harg5 m.arg6 m.harg6 m.arg7 m.harg7 m.arg8 m.harg8 m.arg9 m.harg9 m.arg10 m.harg10 m.arg11 m.harg11 m.arg12 m.harg12 m.arg13 m.harg13 m.arg14 m.harg14 m.arg15 m.harg15 m.arg16 m.harg16 m.arg17 m.harg17 v0 v2 v7 v9 v12 v14 v23 v25 v27 v30 init where
  inv := inv (F := F) c i m v0 v2 v7 v9 v12 v14 v23 v25 v27 v30 X3 X4 X5 G12 G13 G14 G15 G16 G17 init
  step k acc := by
    iintro ⟨Harg3, Harg4, Harg5, ⟨%f12, Harg12, %h12⟩, ⟨%f13, Harg13, %h13⟩, ⟨%f14, Harg14, %h14⟩, ⟨%f15, Harg15, %h15⟩, ⟨%f16, Harg16, %h16⟩, ⟨%f17, Harg17, %h17⟩, %h_acc⟩
    subst h_acc
    iapply (wp_wand_r Idealize.ShloMosaic.frame (wpE (defs₀ (F := F)) Variants.none (c : Thread nD τ) none) E)
    isplitl [Harg3 Harg4 Harg5 Harg12 Harg13 Harg14 Harg15 Harg16 Harg17]
    · iapply ((trip (F := F) c i m v0 v2 v7 v9 v12 v14 v23 v25 v27 v30 X3 X4 X5 k).2.2.2.2.2.2.2 E (st (F := F) c i m v0 v2 v7 v9 v12 v14 v23 v25 v27 v30 X3 X4 X5 G12 G13 G14 G15 G16 G17 init k.val).1 f12 f13 f14 f15 f16 f17)
      isplitl [Harg3]; · iexact Harg3
      isplitl [Harg4]; · iexact Harg4
      isplitl [Harg5]; · iexact Harg5
      isplitl [Harg12]; · iexact Harg12
      isplitl [Harg13]; · iexact Harg13
      isplitl [Harg14]; · iexact Harg14
      isplitl [Harg15]; · iexact Harg15
      isplitl [Harg16]; · iexact Harg16
      iexact Harg17
    · iintro %yld ⟨%h_res, Harg3, Harg4, Harg5, Harg12, Harg13, Harg14, Harg15, Harg16, Harg17⟩
      isplitl [Harg3]; · iexact Harg3
      isplitl [Harg4]; · iexact Harg4
      isplitl [Harg5]; · iexact Harg5
      rw [st_succ]
      isplitl [Harg12]
      · iexists _; isplitl [Harg12]; · iexact Harg12
        ipureintro; subst h12 h13 h14 h15 h16 h17; rw [next_arg12, View.writes_append]
      isplitl [Harg13]
      · iexists _; isplitl [Harg13]; · iexact Harg13
        ipureintro; subst h12 h13 h14 h15 h16 h17; rw [next_arg13, View.writes_append]
      isplitl [Harg14]
      · iexists _; isplitl [Harg14]; · iexact Harg14
        ipureintro; subst h12 h13 h14 h15 h16 h17; rw [next_arg14, View.writes_append]
      isplitl [Harg15]
      · iexists _; isplitl [Harg15]; · iexact Harg15
        ipureintro; subst h12 h13 h14 h15 h16 h17; rw [next_arg15, View.writes_append]
      isplitl [Harg16]
      · iexists _; isplitl [Harg16]; · iexact Harg16
        ipureintro; subst h12 h13 h14 h15 h16 h17; rw [next_arg16, View.writes_append]
      isplitl [Harg17]
      · iexists _; isplitl [Harg17]; · iexact Harg17
        ipureintro; subst h12 h13 h14 h15 h16 h17; rw [next_arg17, View.writes_append]
      ipureintro; subst h12 h13 h14 h15 h16 h17; rw [next_acc]; exact h_res

set_option warn.classDefReducibility false in
/-- The loop's second half makes no trip. -/
@[sl_loop] def loop2 (c : Dev nD) (E : Set ℕ) (i : grid0.Coords) (m : Bufs) (v0 : BitVec 32) (v2 : BitVec 32) (v7 : FVec F S1024x128 .bf16) (v9 : FVec F S1024x128 .bf16) (v12 : FVec F S128x1024 .bf16) (v14 : FVec F S128x1024 .bf16) (v23 : FVec F S1024x256 .f32) (v25 : FVec F S256x256 .bf16) (v27 : FVec F S256x256 .bf16) (v30 : FVec F S1024x256 .f32) (v54 : BitVec 32) (G12 : BufTy.Contents (Elt F) m.arg12.view.ty) (G13 : BufTy.Contents (Elt F) m.arg13.view.ty) (G14 : BufTy.Contents (Elt F) m.arg14.view.ty) (G15 : BufTy.Contents (Elt F) m.arg15.view.ty) (G16 : BufTy.Contents (Elt F) m.arg16.view.ty) (G17 : BufTy.Contents (Elt F) m.arg17.view.ty) (init : Acc F) :
    LoopInvTy_k0_t2 (F := F) Unit ℕ (UR sig nD τ) ℕ Variants.none c none E i m.arg2 m.harg2 m.arg3 m.harg3 m.arg4 m.harg4 m.arg5 m.harg5 m.arg6 m.harg6 m.arg7 m.harg7 m.arg8 m.harg8 m.arg9 m.harg9 m.arg10 m.harg10 m.arg11 m.harg11 m.arg12 m.harg12 m.arg13 m.harg13 m.arg14 m.harg14 m.arg15 m.harg15 m.arg16 m.harg16 m.arg17 m.harg17 v0 v2 v7 v9 v12 v14 v23 v25 v27 v30 v54 init where
  inv := fun _ acc => iprop((∃ f, (m.arg12.view.loc (c : Thread nD τ) ↦[m.arg12.view.set]{fullShare} f) ∗ ⌜f = G12⌝) ∗ (∃ f, (m.arg13.view.loc (c : Thread nD τ) ↦[m.arg13.view.set]{fullShare} f) ∗ ⌜f = G13⌝) ∗ (∃ f, (m.arg14.view.loc (c : Thread nD τ) ↦[m.arg14.view.set]{fullShare} f) ∗ ⌜f = G14⌝) ∗ (∃ f, (m.arg15.view.loc (c : Thread nD τ) ↦[m.arg15.view.set]{fullShare} f) ∗ ⌜f = G15⌝) ∗ (∃ f, (m.arg16.view.loc (c : Thread nD τ) ↦[m.arg16.view.set]{fullShare} f) ∗ ⌜f = G16⌝) ∗ (∃ f, (m.arg17.view.loc (c : Thread nD τ) ↦[m.arg17.view.set]{fullShare} f) ∗ ⌜f = G17⌝) ∗ ⌜acc = init⌝)
  step k acc := absurd k.isLt (Nat.not_lt.2 (Nat.le_trans (k0_t2_abs i).2.1 (Nat.zero_le _)))

end Cert.Proof.Sb

end
-- ==== Proof.SbPoints.lean ====
module

public import proofs.«01_k».proof.Proof.Gen.KernelIdeal.Frame
public import proofs.«01_k».proof.Proof.Gen.KernelIdeal.Loops

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The grid point of head pair `p` and query block 0. -/
def at0 (p : Fin 4) : grid0.Coords := fun a => ⟨![p.val, 0] a, by revert p a; decide⟩
/-- The grid point of head pair `p` and query block 1. -/
def at1 (p : Fin 4) : grid0.Coords := fun a => ⟨![p.val, 1] a, by revert p a; decide⟩

/-! ### The offsets of the unrolled blocks at the grid's points -/

instance off7_0_0 (p : Fin 4) : ClosedOff (k0_off7 (at0 p) 0#32) := ⟨![0, 1, 0, 0], by revert p; decide +kernel⟩
instance off8_0_0 (p : Fin 4) : ClosedOff (k0_off8 (at0 p) 0#32) := ⟨![0, 0, 0, 0], by revert p; decide +kernel⟩
instance off9_0_0 (p : Fin 4) : ClosedOff (k0_off9 (at0 p) 0#32) := ⟨![0, 0], by revert p; decide +kernel⟩
instance off7_0_1 (p : Fin 4) : ClosedOff (k0_off7 (at0 p) 1#32) := ⟨![0, 2, 0, 0], by revert p; decide +kernel⟩
instance off8_0_1 (p : Fin 4) : ClosedOff (k0_off8 (at0 p) 1#32) := ⟨![0, 0, 0, 0], by revert p; decide +kernel⟩
instance off9_0_1 (p : Fin 4) : ClosedOff (k0_off9 (at0 p) 1#32) := ⟨![0, 0], by revert p; decide +kernel⟩
instance off7_0_2 (p : Fin 4) : ClosedOff (k0_off7 (at0 p) 2#32) := ⟨![0, 3, 0, 0], by revert p; decide +kernel⟩
instance off8_0_2 (p : Fin 4) : ClosedOff (k0_off8 (at0 p) 2#32) := ⟨![0, 1, 0, 0], by revert p; decide +kernel⟩
instance off9_0_2 (p : Fin 4) : ClosedOff (k0_off9 (at0 p) 2#32) := ⟨![256, 0], by revert p; decide +kernel⟩
instance off7_0_3 (p : Fin 4) : ClosedOff (k0_off7 (at0 p) 3#32) := ⟨![0, 4, 0, 0], by revert p; decide +kernel⟩
instance off8_0_3 (p : Fin 4) : ClosedOff (k0_off8 (at0 p) 3#32) := ⟨![0, 2, 0, 0], by revert p; decide +kernel⟩
instance off9_0_3 (p : Fin 4) : ClosedOff (k0_off9 (at0 p) 3#32) := ⟨![512, 0], by revert p; decide +kernel⟩
instance off7_0_4 (p : Fin 4) : ClosedOff (k0_off7 (at0 p) 4#32) := ⟨![0, 5, 0, 0], by revert p; decide +kernel⟩
instance off8_0_4 (p : Fin 4) : ClosedOff (k0_off8 (at0 p) 4#32) := ⟨![0, 3, 0, 0], by revert p; decide +kernel⟩
instance off9_0_4 (p : Fin 4) : ClosedOff (k0_off9 (at0 p) 4#32) := ⟨![768, 0], by revert p; decide +kernel⟩
instance off7_0_5 (p : Fin 4) : ClosedOff (k0_off7 (at0 p) 5#32) := ⟨![0, 6, 0, 0], by revert p; decide +kernel⟩
instance off8_0_5 (p : Fin 4) : ClosedOff (k0_off8 (at0 p) 5#32) := ⟨![0, 4, 0, 0], by revert p; decide +kernel⟩
instance off9_0_5 (p : Fin 4) : ClosedOff (k0_off9 (at0 p) 5#32) := ⟨![1024, 0], by revert p; decide +kernel⟩
instance off7_0_6 (p : Fin 4) : ClosedOff (k0_off7 (at0 p) 6#32) := ⟨![0, 7, 0, 0], by revert p; decide +kernel⟩
instance off8_0_6 (p : Fin 4) : ClosedOff (k0_off8 (at0 p) 6#32) := ⟨![0, 5, 0, 0], by revert p; decide +kernel⟩
instance off9_0_6 (p : Fin 4) : ClosedOff (k0_off9 (at0 p) 6#32) := ⟨![1280, 0], by revert p; decide +kernel⟩
instance off7_0_7 (p : Fin 4) : ClosedOff (k0_off7 (at0 p) 7#32) := ⟨![0, 7, 0, 0], by revert p; decide +kernel⟩
instance off8_0_7 (p : Fin 4) : ClosedOff (k0_off8 (at0 p) 7#32) := ⟨![0, 6, 0, 0], by revert p; decide +kernel⟩
instance off9_0_7 (p : Fin 4) : ClosedOff (k0_off9 (at0 p) 7#32) := ⟨![1536, 0], by revert p; decide +kernel⟩
instance off10_0 (p : Fin 4) : ClosedOff (k0_off10 (at0 p)) := ⟨![0, 7, 0, 0], by revert p; decide +kernel⟩
instance off11_0 (p : Fin 4) : ClosedOff (k0_off11 (at0 p)) := ⟨![1792, 0], by revert p; decide +kernel⟩
instance off7_1_0 (p : Fin 4) : ClosedOff (k0_off7 (at1 p) 0#32) := ⟨![0, 9, 0, 0], by revert p; decide +kernel⟩
instance off8_1_0 (p : Fin 4) : ClosedOff (k0_off8 (at1 p) 0#32) := ⟨![0, 7, 0, 0], by revert p; decide +kernel⟩
instance off9_1_0 (p : Fin 4) : ClosedOff (k0_off9 (at1 p) 0#32) := ⟨![1792, 0], by revert p; decide +kernel⟩
instance off7_1_1 (p : Fin 4) : ClosedOff (k0_off7 (at1 p) 1#32) := ⟨![0, 10, 0, 0], by revert p; decide +kernel⟩
instance off8_1_1 (p : Fin 4) : ClosedOff (k0_off8 (at1 p) 1#32) := ⟨![0, 8, 0, 0], by revert p; decide +kernel⟩
instance off9_1_1 (p : Fin 4) : ClosedOff (k0_off9 (at1 p) 1#32) := ⟨![2048, 0], by revert p; decide +kernel⟩
instance off7_1_2 (p : Fin 4) : ClosedOff (k0_off7 (at1 p) 2#32) := ⟨![0, 11, 0, 0], by revert p; decide +kernel⟩
instance off8_1_2 (p : Fin 4) : ClosedOff (k0_off8 (at1 p) 2#32) := ⟨![0, 9, 0, 0], by revert p; decide +kernel⟩
instance off9_1_2 (p : Fin 4) : ClosedOff (k0_off9 (at1 p) 2#32) := ⟨![2304, 0], by revert p; decide +kernel⟩
instance off7_1_3 (p : Fin 4) : ClosedOff (k0_off7 (at1 p) 3#32) := ⟨![0, 12, 0, 0], by revert p; decide +kernel⟩
instance off8_1_3 (p : Fin 4) : ClosedOff (k0_off8 (at1 p) 3#32) := ⟨![0, 10, 0, 0], by revert p; decide +kernel⟩
instance off9_1_3 (p : Fin 4) : ClosedOff (k0_off9 (at1 p) 3#32) := ⟨![2560, 0], by revert p; decide +kernel⟩
instance off7_1_4 (p : Fin 4) : ClosedOff (k0_off7 (at1 p) 4#32) := ⟨![0, 13, 0, 0], by revert p; decide +kernel⟩
instance off8_1_4 (p : Fin 4) : ClosedOff (k0_off8 (at1 p) 4#32) := ⟨![0, 11, 0, 0], by revert p; decide +kernel⟩
instance off9_1_4 (p : Fin 4) : ClosedOff (k0_off9 (at1 p) 4#32) := ⟨![2816, 0], by revert p; decide +kernel⟩
instance off7_1_5 (p : Fin 4) : ClosedOff (k0_off7 (at1 p) 5#32) := ⟨![0, 14, 0, 0], by revert p; decide +kernel⟩
instance off8_1_5 (p : Fin 4) : ClosedOff (k0_off8 (at1 p) 5#32) := ⟨![0, 12, 0, 0], by revert p; decide +kernel⟩
instance off9_1_5 (p : Fin 4) : ClosedOff (k0_off9 (at1 p) 5#32) := ⟨![3072, 0], by revert p; decide +kernel⟩
instance off7_1_6 (p : Fin 4) : ClosedOff (k0_off7 (at1 p) 6#32) := ⟨![0, 15, 0, 0], by revert p; decide +kernel⟩
instance off8_1_6 (p : Fin 4) : ClosedOff (k0_off8 (at1 p) 6#32) := ⟨![0, 13, 0, 0], by revert p; decide +kernel⟩
instance off9_1_6 (p : Fin 4) : ClosedOff (k0_off9 (at1 p) 6#32) := ⟨![3328, 0], by revert p; decide +kernel⟩
instance off7_1_7 (p : Fin 4) : ClosedOff (k0_off7 (at1 p) 7#32) := ⟨![0, 15, 0, 0], by revert p; decide +kernel⟩
instance off8_1_7 (p : Fin 4) : ClosedOff (k0_off8 (at1 p) 7#32) := ⟨![0, 14, 0, 0], by revert p; decide +kernel⟩
instance off9_1_7 (p : Fin 4) : ClosedOff (k0_off9 (at1 p) 7#32) := ⟨![3584, 0], by revert p; decide +kernel⟩
instance off10_1 (p : Fin 4) : ClosedOff (k0_off10 (at1 p)) := ⟨![0, 15, 0, 0], by revert p; decide +kernel⟩
instance off11_1 (p : Fin 4) : ClosedOff (k0_off11 (at1 p)) := ⟨![3840, 0], by revert p; decide +kernel⟩

/-- Every grid point is one of these. -/
theorem coords_even : ∀ t : Fin cfg0.N, t.val % 2 = 0 → grid0.coords t = at0 ⟨t.val / 2 % 4, Nat.mod_lt _ (by decide)⟩ := by decide +kernel
theorem coords_odd : ∀ t : Fin cfg0.N, ¬ t.val % 2 = 0 → grid0.coords t = at1 ⟨t.val / 2 % 4, Nat.mod_lt _ (by decide)⟩ := by decide +kernel

end Cert.Proof.Sb

end
-- ==== Proof.SbRunA.lean ====
module

public import proofs.«01_k».proof.Proof.Gen.KernelIdeal.Frame
public import proofs.«01_k».proof.Proof.Gen.KernelIdeal.Loops
public import proofs.«01_k».proof.Proof.SbLoop
public import proofs.«01_k».proof.Proof.SbPoints

@[expose] public section
set_option maxRecDepth 16384
noncomputable section
namespace Cert.Proof.Sb
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (UR sig nD τ) ℕ

set_option maxHeartbeats 4000000 in
/-- The kernel's body at the points of query block 0: what it leaves in its three outputs is the witness. -/
def runA (c : Dev nD) (p : Fin 4) (m : Bufs) (x : Held F) :
    Σ' (r11 : Vec F S1024x128 .f32) (r12 : Vec F S1x16x128x256 .f32), { r13 : Vec F S1x16x128x256 .f32 //
      ∀ (E : Set ℕ) (K : PUnit → sProp 𝕄),
        iprop(owns (c : Thread nD τ) m.arg2 fullShare x.x0 ∗ owns (c : Thread nD τ) m.arg3 fullShare x.x1 ∗ owns (c : Thread nD τ) m.arg4 fullShare x.x2 ∗ owns (c : Thread nD τ) m.arg5 fullShare x.x3 ∗ owns (c : Thread nD τ) m.arg6 fullShare x.x4 ∗ owns (c : Thread nD τ) m.arg7 fullShare x.x5 ∗ owns (c : Thread nD τ) m.arg8 fullShare x.x6 ∗ owns (c : Thread nD τ) m.arg9 fullShare x.x7 ∗ owns (c : Thread nD τ) m.arg11 fullShare x.y11 ∗ owns (c : Thread nD τ) m.arg12 fullShare x.y12 ∗ owns (c : Thread nD τ) m.arg13 fullShare x.y13 ∗ owns (c : Thread nD τ) m.arg14 fullShare x.y14 ∗ owns (c : Thread nD τ) m.arg15 fullShare x.y15 ∗ owns (c : Thread nD τ) m.arg16 fullShare x.y16 ∗ owns (c : Thread nD τ) m.arg17 fullShare x.y17 ∗ (iprop(owns (c : Thread nD τ) m.arg2 fullShare x.x0 ∗ owns (c : Thread nD τ) m.arg3 fullShare x.x1 ∗ owns (c : Thread nD τ) m.arg4 fullShare x.x2 ∗ owns (c : Thread nD τ) m.arg5 fullShare x.x3 ∗ owns (c : Thread nD τ) m.arg6 fullShare x.x4 ∗ owns (c : Thread nD τ) m.arg7 fullShare x.x5 ∗ owns (c : Thread nD τ) m.arg8 fullShare x.x6 ∗ owns (c : Thread nD τ) m.arg9 fullShare x.x7 ∗ owns (c : Thread nD τ) m.arg11 fullShare r11 ∗ owns (c : Thread nD τ) m.arg12 fullShare r12 ∗ owns (c : Thread nD τ) m.arg13 fullShare r13 ∗ (∃ d, owns (c : Thread nD τ) m.arg14 fullShare d) ∗ (∃ d, owns (c : Thread nD τ) m.arg15 fullShare d) ∗ (∃ d, owns (c : Thread nD τ) m.arg16 fullShare d) ∗ (∃ d, owns (c : Thread nD τ) m.arg17 fullShare d)) -∗ K ⟨⟩))
          ⊢ wp frame (wpE (defs₀ (F := F)) Variants.none c none) E (cc0_bwd_sb (at0 p) m.arg2 m.harg2 m.arg3 m.harg3 m.arg4 m.harg4 m.arg5 m.harg5 m.arg6 m.harg6 m.arg7 m.harg7 m.arg8 m.harg8 m.arg9 m.harg9 m.arg10 m.harg10 m.arg11 m.harg11 m.arg12 m.harg12 m.arg13 m.harg13 m.arg14 m.harg14 m.arg15 m.harg15 m.arg16 m.harg16 m.arg17 m.harg17) K } := by
  refine ⟨?_, ?_, ?_, fun E K => ?run⟩
  case run =>
    simp only [cc0_bwd_sb_eq_skeleton]; unfold cc0_bwd_sb_skel
    simp only [k0_part55_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, Hk⟩
    obtain rfl := m.harg2.eq_unread hf0; obtain rfl := m.harg3.eq_unread hf1; obtain rfl := m.harg4.eq_unread hf2; obtain rfl := m.harg5.eq_unread hf3; obtain rfl := m.harg6.eq_unread hf4; obtain rfl := m.harg7.eq_unread hf5; obtain rfl := m.harg8.eq_unread hf6; obtain rfl := m.harg9.eq_unread hf7
    obtain rfl := m.harg11.eq_unread hfarg11; obtain rfl := m.harg12.eq_unread hfarg12; obtain rfl := m.harg13.eq_unread hfarg13; obtain rfl := m.harg14.eq_unread hfarg14; obtain rfl := m.harg15.eq_unread hfarg15; obtain rfl := m.harg16.eq_unread hfarg16; obtain rfl := m.harg17.eq_unread hfarg17
    have hc : Scalar.cmpi .ne (Scalar.extui (Scalar.cmpi .eq (BitVec.ofNat 32 (at0 p 1).val) 0#32) : BitVec 32) 0#32 = 1#1 := by revert p; decide +kernel
    sl_exec (disch := first | sl_exact hc)
    sl_step
    iapply Hk
    isplitl [H0]
    · iexists _; isplitr; · ipureintro; exact m.harg2.read_unread _
      iexact H0
    isplitl [H1]
    · iexists _; isplitr; · ipureintro; exact m.harg3.read_unread _
      iexact H1
    isplitl [H2]
    · iexists _; isplitr; · ipureintro; exact m.harg4.read_unread _
      iexact H2
    isplitl [H3]
    · iexists _; isplitr; · ipureintro; exact m.harg5.read_unread _
      iexact H3
    isplitl [H4]
    · iexists _; isplitr; · ipureintro; exact m.harg6.read_unread _
      iexact H4
    isplitl [H5]
    · iexists _; isplitr; · ipureintro; exact m.harg7.read_unread _
      iexact H5
    isplitl [H6]
    · iexists _; isplitr; · ipureintro; exact m.harg8.read_unread _
      iexact H6
    isplitl [H7]
    · iexists _; isplitr; · ipureintro; exact m.harg9.read_unread _
      iexact H7
    isplitl [Harg11]
    · iexists _; isplitr; swap; · iexact Harg11
      ipureintro; rfl
    isplitl [Harg12]
    · iexists _; isplitr; swap; · iexact Harg12
      ipureintro; rfl
    isplitl [Harg13]
    · iexists _; isplitr; swap; · iexact Harg13
      ipureintro; rfl
    isplitl [Harg14]
    · iexists _, _; isplitr; swap; · iexact Harg14
      ipureintro; rfl
    isplitl [Harg15]
    · iexists _, _; isplitr; swap; · iexact Harg15
      ipureintro; rfl
    isplitl [Harg16]
    · iexists _, _; isplitr; swap; · iexact Harg16
      ipureintro; rfl
    iexists _, _; isplitr; swap; · iexact Harg17
    ipureintro; rfl
end Cert.Proof.Sb

end
-- ==== Proof.SbRunB.lean ====
module

public import proofs.«01_k».proof.Proof.Gen.KernelIdeal.Frame
public import proofs.«01_k».proof.Proof.Gen.KernelIdeal.Loops
public import proofs.«01_k».proof.Proof.SbLoop
public import proofs.«01_k».proof.Proof.SbPoints

@[expose] public section
set_option maxRecDepth 16384
noncomputable section
namespace Cert.Proof.Sb
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
variable {F : FTy → Type} [FloatOps F]

local notation "𝕄" => MT nD τ sig Unit (Elt F) ℕ (UR sig nD τ) ℕ

set_option maxHeartbeats 4000000 in
/-- The kernel's body at the points of query block 1: what it leaves in its three outputs is the witness. -/
def runB (c : Dev nD) (p : Fin 4) (m : Bufs) (x : Held F) :
    Σ' (r11 : Vec F S1024x128 .f32) (r12 : Vec F S1x16x128x256 .f32), { r13 : Vec F S1x16x128x256 .f32 //
      ∀ (E : Set ℕ) (K : PUnit → sProp 𝕄),
        iprop(owns (c : Thread nD τ) m.arg2 fullShare x.x0 ∗ owns (c : Thread nD τ) m.arg3 fullShare x.x1 ∗ owns (c : Thread nD τ) m.arg4 fullShare x.x2 ∗ owns (c : Thread nD τ) m.arg5 fullShare x.x3 ∗ owns (c : Thread nD τ) m.arg6 fullShare x.x4 ∗ owns (c : Thread nD τ) m.arg7 fullShare x.x5 ∗ owns (c : Thread nD τ) m.arg8 fullShare x.x6 ∗ owns (c : Thread nD τ) m.arg9 fullShare x.x7 ∗ owns (c : Thread nD τ) m.arg11 fullShare x.y11 ∗ owns (c : Thread nD τ) m.arg12 fullShare x.y12 ∗ owns (c : Thread nD τ) m.arg13 fullShare x.y13 ∗ owns (c : Thread nD τ) m.arg14 fullShare x.y14 ∗ owns (c : Thread nD τ) m.arg15 fullShare x.y15 ∗ owns (c : Thread nD τ) m.arg16 fullShare x.y16 ∗ owns (c : Thread nD τ) m.arg17 fullShare x.y17 ∗ (iprop(owns (c : Thread nD τ) m.arg2 fullShare x.x0 ∗ owns (c : Thread nD τ) m.arg3 fullShare x.x1 ∗ owns (c : Thread nD τ) m.arg4 fullShare x.x2 ∗ owns (c : Thread nD τ) m.arg5 fullShare x.x3 ∗ owns (c : Thread nD τ) m.arg6 fullShare x.x4 ∗ owns (c : Thread nD τ) m.arg7 fullShare x.x5 ∗ owns (c : Thread nD τ) m.arg8 fullShare x.x6 ∗ owns (c : Thread nD τ) m.arg9 fullShare x.x7 ∗ owns (c : Thread nD τ) m.arg11 fullShare r11 ∗ owns (c : Thread nD τ) m.arg12 fullShare r12 ∗ owns (c : Thread nD τ) m.arg13 fullShare r13 ∗ (∃ d, owns (c : Thread nD τ) m.arg14 fullShare d) ∗ (∃ d, owns (c : Thread nD τ) m.arg15 fullShare d) ∗ (∃ d, owns (c : Thread nD τ) m.arg16 fullShare d) ∗ (∃ d, owns (c : Thread nD τ) m.arg17 fullShare d)) -∗ K ⟨⟩))
          ⊢ wp frame (wpE (defs₀ (F := F)) Variants.none c none) E (cc0_bwd_sb (at1 p) m.arg2 m.harg2 m.arg3 m.harg3 m.arg4 m.harg4 m.arg5 m.harg5 m.arg6 m.harg6 m.arg7 m.harg7 m.arg8 m.harg8 m.arg9 m.harg9 m.arg10 m.harg10 m.arg11 m.harg11 m.arg12 m.harg12 m.arg13 m.harg13 m.arg14 m.harg14 m.arg15 m.harg15 m.arg16 m.harg16 m.arg17 m.harg17) K } := by
  refine ⟨?_, ?_, ?_, fun E K => ?run⟩
  case run =>
    simp only [cc0_bwd_sb_eq_skeleton]; unfold cc0_bwd_sb_skel
    simp only [k0_part55_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%farg11, %hfarg11, Harg11⟩, ⟨%farg12, %hfarg12, Harg12⟩, ⟨%farg13, %hfarg13, Harg13⟩, ⟨%farg14, %hfarg14, Harg14⟩, ⟨%farg15, %hfarg15, Harg15⟩, ⟨%farg16, %hfarg16, Harg16⟩, ⟨%farg17, %hfarg17, Harg17⟩, Hk⟩
    obtain rfl := m.harg2.eq_unread hf0; obtain rfl := m.harg3.eq_unread hf1; obtain rfl := m.harg4.eq_unread hf2; obtain rfl := m.harg5.eq_unread hf3; obtain rfl := m.harg6.eq_unread hf4; obtain rfl := m.harg7.eq_unread hf5; obtain rfl := m.harg8.eq_unread hf6; obtain rfl := m.harg9.eq_unread hf7
    obtain rfl := m.harg11.eq_unread hfarg11; obtain rfl := m.harg12.eq_unread hfarg12; obtain rfl := m.harg13.eq_unread hfarg13; obtain rfl := m.harg14.eq_unread hfarg14; obtain rfl := m.harg15.eq_unread hfarg15; obtain rfl := m.harg16.eq_unread hfarg16; obtain rfl := m.harg17.eq_unread hfarg17
    have hc : ¬ Scalar.cmpi .ne (Scalar.extui (Scalar.cmpi .eq (BitVec.ofNat 32 (at1 p 1).val) 0#32) : BitVec 32) 0#32 = 1#1 := by revert p; decide +kernel
    sl_exec (disch := first | sl_exact hc)
    sl_step
    iapply Hk
    isplitl [H0]
    · iexists _; isplitr; · ipureintro; exact m.harg2.read_unread _
      iexact H0
    isplitl [H1]
    · iexists _; isplitr; · ipureintro; exact m.harg3.read_unread _
      iexact H1
    isplitl [H2]
    · iexists _; isplitr; · ipureintro; exact m.harg4.read_unread _
      iexact H2
    isplitl [H3]
    · iexists _; isplitr; · ipureintro; exact m.harg5.read_unread _
      iexact H3
    isplitl [H4]
    · iexists _; isplitr; · ipureintro; exact m.harg6.read_unread _
      iexact H4
    isplitl [H5]
    · iexists _; isplitr; · ipureintro; exact m.harg7.read_unread _
      iexact H5
    isplitl [H6]
    · iexists _; isplitr; · ipureintro; exact m.harg8.read_unread _
      iexact H6
    isplitl [H7]
    · iexists _; isplitr; · ipureintro; exact m.harg9.read_unread _
      iexact H7
    isplitl [Harg11]
    · iexists _; isplitr; swap; · iexact Harg11
      ipureintro; rfl
    isplitl [Harg12]
    · iexists _; isplitr; swap; · iexact Harg12
      ipureintro; rfl
    isplitl [Harg13]
    · iexists _; isplitr; swap; · iexact Harg13
      ipureintro; rfl
    isplitl [Harg14]
    · iexists _, _; isplitr; swap; · iexact Harg14
      ipureintro; rfl
    isplitl [Harg15]
    · iexists _, _; isplitr; swap; · iexact Harg15
      ipureintro; rfl
    isplitl [Harg16]
    · iexists _, _; isplitr; swap; · iexact Harg16
      ipureintro; rfl
    iexists _, _; isplitr; swap; · iexact Harg17
    ipureintro; rfl
end Cert.Proof.Sb

end
-- ==== Proof.SbFrame.lean ====
module

public import proofs.«01_k».proof.Proof.SbRunA
public import proofs.«01_k».proof.Proof.SbRunB
public import Idealize.ShloMosaic.Lib.Claim

/-!
The frame: from any memory, for any values, every execution ends with the arguments unchanged. What the body leaves in
its three outputs is not named here.
-/

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The buffers the body is called with at point `t`. -/
abbrev bufs (t : Fin cfg0.N) : Bufs := ⟨st0_0 t, hstage0_0 ((cfg0.slots t 0).cast nbuf0_0), st0_1 t, hstage0_1 ((cfg0.slots t 1).cast nbuf0_1), st0_2 t, hstage0_2 ((cfg0.slots t 2).cast nbuf0_2), st0_3 t, hstage0_3 ((cfg0.slots t 3).cast nbuf0_3), st0_4 t, hstage0_4 ((cfg0.slots t 4).cast nbuf0_4), st0_5 t, hstage0_5 ((cfg0.slots t 5).cast nbuf0_5), st0_6 t, hstage0_6 ((cfg0.slots t 6).cast nbuf0_6), st0_7 t, hstage0_7 ((cfg0.slots t 7).cast nbuf0_7), Memref.whole main_v52, Memref.isWhole_whole _, st0_8 t, hstage0_8 ((cfg0.slots t 8).cast nbuf0_8), st0_9 t, hstage0_9 ((cfg0.slots t 9).cast nbuf0_9), st0_10 t, hstage0_10 ((cfg0.slots t 10).cast nbuf0_10), Memref.whole cc0_scratch0, Memref.isWhole_whole _, Memref.whole cc0_scratch1, Memref.isWhole_whole _, Memref.whole cc0_scratch2, Memref.isWhole_whole _, Memref.whole cc0_scratch3, Memref.isWhole_whole _⟩

/-- The head pair of a point. -/
abbrev pair (t : Fin cfg0.N) : Fin 4 := ⟨t.val / 2 % 4, Nat.mod_lt _ (by decide)⟩

/-- Called at point `t` with its buffers holding `x`, the body leaves `r` in its three outputs. -/
def Leaves (c : Dev nD) (t : Fin cfg0.N) (x : Held F) (r : Vec F S1024x128 .f32 × Vec F S1x16x128x256 .f32 × Vec F S1x16x128x256 .f32) : Prop :=
  ∀ (E : Set ℕ) (K : PUnit → sProp 𝕄),
    iprop(owns (c : Thread nD τ) (st0_0 t) fullShare x.x0 ∗ owns (c : Thread nD τ) (st0_1 t) fullShare x.x1 ∗ owns (c : Thread nD τ) (st0_2 t) fullShare x.x2 ∗ owns (c : Thread nD τ) (st0_3 t) fullShare x.x3 ∗ owns (c : Thread nD τ) (st0_4 t) fullShare x.x4 ∗ owns (c : Thread nD τ) (st0_5 t) fullShare x.x5 ∗ owns (c : Thread nD τ) (st0_6 t) fullShare x.x6 ∗ owns (c : Thread nD τ) (st0_7 t) fullShare x.x7 ∗ owns (c : Thread nD τ) (st0_8 t) fullShare x.y11 ∗ owns (c : Thread nD τ) (st0_9 t) fullShare x.y12 ∗ owns (c : Thread nD τ) (st0_10 t) fullShare x.y13 ∗ owns (c : Thread nD τ) (Memref.whole cc0_scratch0) fullShare x.y14 ∗ owns (c : Thread nD τ) (Memref.whole cc0_scratch1) fullShare x.y15 ∗ owns (c : Thread nD τ) (Memref.whole cc0_scratch2) fullShare x.y16 ∗ owns (c : Thread nD τ) (Memref.whole cc0_scratch3) fullShare x.y17 ∗ (iprop(owns (c : Thread nD τ) (st0_0 t) fullShare x.x0 ∗ owns (c : Thread nD τ) (st0_1 t) fullShare x.x1 ∗ owns (c : Thread nD τ) (st0_2 t) fullShare x.x2 ∗ owns (c : Thread nD τ) (st0_3 t) fullShare x.x3 ∗ owns (c : Thread nD τ) (st0_4 t) fullShare x.x4 ∗ owns (c : Thread nD τ) (st0_5 t) fullShare x.x5 ∗ owns (c : Thread nD τ) (st0_6 t) fullShare x.x6 ∗ owns (c : Thread nD τ) (st0_7 t) fullShare x.x7 ∗ owns (c : Thread nD τ) (st0_8 t) fullShare r.1 ∗ owns (c : Thread nD τ) (st0_9 t) fullShare r.2.1 ∗ owns (c : Thread nD τ) (st0_10 t) fullShare r.2.2 ∗ (∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) -∗ K ⟨⟩))
      ⊢ wp frame (wpE (defs₀ (F := F)) Variants.none c none) E (bodyAt0 t) K

theorem leaves_even (c : Dev nD) (t : Fin cfg0.N) (h : t.val % 2 = 0) (x : Held F) :
    Leaves c t x ((runA c (pair t) (bufs t) x).1, (runA c (pair t) (bufs t) x).2.1, (runA c (pair t) (bufs t) x).2.2.1) := by
  intro E K
  unfold bodyAt0
  rw [coords_even t h]
  exact (runA c (pair t) (bufs t) x).2.2.2 E K

theorem leaves_odd (c : Dev nD) (t : Fin cfg0.N) (h : ¬ t.val % 2 = 0) (x : Held F) :
    Leaves c t x ((runB c (pair t) (bufs t) x).1, (runB c (pair t) (bufs t) x).2.1, (runB c (pair t) (bufs t) x).2.2.1) := by
  intro E K
  unfold bodyAt0
  rw [coords_odd t h]
  exact (runB c (pair t) (bufs t) x).2.2.2 E K

theorem leaves_some (c : Dev nD) (t : Fin cfg0.N) (x : Held F) : ∃ r, Leaves c t x r := by
  by_cases h : t.val % 2 = 0
  · exact ⟨_, leaves_even c t h x⟩
  · exact ⟨_, leaves_odd c t h x⟩

/-- The region's invariant: the four scratch buffers at some contents, and the generator's register. -/
theorem scratch_eq (c : Dev nD) :
    (Pipeline.ΦA spec0 c : sProp 𝕄) = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

variable (m : (ℓ : Loc nD τ sig) → Buf (Elt F) ℓ) (ρ : Dev nD → PrngReg)

/-- Proof data with the outputs' blocks after each point given. -/
def data (o : Fin cfg0.N → Vec F S1024x128 .f32 × Vec F S1x16x128x256 .f32 × Vec F S1x16x128x256 .f32)
    (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (o t).1
    | ⟨9, _⟩ => (o t).2.1
    | ⟨10, _⟩ => (o t).2.2
  Φ _ := Pipeline.ΦA spec0 c
  q _ := fullShare
  owed _ := 0

section
variable (o : Fin cfg0.N → Vec F S1024x128 .f32 × Vec F S1x16x128x256 .f32 × Vec F S1x16x128x256 .f32)

theorem data_A (c : Dev nD) (w : Fin cfg0.W) : (data m o 0 c).A w = V m c (Pipeline.arrRef spec0 w) := by dsimp only [data]
theorem data_after0 (c : Dev nD) (t : Fin cfg0.N) : (data m o 0 c).after 0 t = iblk m c 0 t := by dsimp only [data]
theorem data_after1 (c : Dev nD) (t : Fin cfg0.N) : (data m o 0 c).after 1 t = iblk m c 1 t := by dsimp only [data]
theorem data_after2 (c : Dev nD) (t : Fin cfg0.N) : (data m o 0 c).after 2 t = iblk m c 2 t := by dsimp only [data]
theorem data_after3 (c : Dev nD) (t : Fin cfg0.N) : (data m o 0 c).after 3 t = iblk m c 3 t := by dsimp only [data]
theorem data_after4 (c : Dev nD) (t : Fin cfg0.N) : (data m o 0 c).after 4 t = iblk m c 4 t := by dsimp only [data]
theorem data_after5 (c : Dev nD) (t : Fin cfg0.N) : (data m o 0 c).after 5 t = iblk m c 5 t := by dsimp only [data]
theorem data_after6 (c : Dev nD) (t : Fin cfg0.N) : (data m o 0 c).after 6 t = iblk m c 6 t := by dsimp only [data]
theorem data_after7 (c : Dev nD) (t : Fin cfg0.N) : (data m o 0 c).after 7 t = iblk m c 7 t := by dsimp only [data]
theorem data_after8 (c : Dev nD) (t : Fin cfg0.N) : (data m o 0 c).after 8 t = (o t).1 := by dsimp only [data]
theorem data_after9 (c : Dev nD) (t : Fin cfg0.N) : (data m o 0 c).after 9 t = (o t).2.1 := by dsimp only [data]
theorem data_after10 (c : Dev nD) (t : Fin cfg0.N) : (data m o 0 c).after 10 t = (o t).2.2 := by dsimp only [data]
theorem data_before0 (c : Dev nD) (t : Fin cfg0.N) (d) : (data m o 0 c).before 0 t d = iblk m c 0 t :=
  before0_0_of m (data m o 0 c) (data_A m o c 0) (data_after0 m o c) t d
theorem data_before1 (c : Dev nD) (t : Fin cfg0.N) (d) : (data m o 0 c).before 1 t d = iblk m c 1 t :=
  before0_1_of m (data m o 0 c) (data_A m o c 1) (data_after1 m o c) t d
theorem data_before2 (c : Dev nD) (t : Fin cfg0.N) (d) : (data m o 0 c).before 2 t d = iblk m c 2 t :=
  before0_2_of m (data m o 0 c) (data_A m o c 2) (data_after2 m o c) t d
theorem data_before3 (c : Dev nD) (t : Fin cfg0.N) (d) : (data m o 0 c).before 3 t d = iblk m c 3 t :=
  before0_3_of m (data m o 0 c) (data_A m o c 3) (data_after3 m o c) t d
theorem data_before4 (c : Dev nD) (t : Fin cfg0.N) (d) : (data m o 0 c).before 4 t d = iblk m c 4 t :=
  before0_4_of m (data m o 0 c) (data_A m o c 4) (data_after4 m o c) t d
theorem data_before5 (c : Dev nD) (t : Fin cfg0.N) (d) : (data m o 0 c).before 5 t d = iblk m c 5 t :=
  before0_5_of m (data m o 0 c) (data_A m o c 5) (data_after5 m o c) t d
theorem data_before6 (c : Dev nD) (t : Fin cfg0.N) (d) : (data m o 0 c).before 6 t d = iblk m c 6 t :=
  before0_6_of m (data m o 0 c) (data_A m o c 6) (data_after6 m o c) t d
theorem data_before7 (c : Dev nD) (t : Fin cfg0.N) (d) : (data m o 0 c).before 7 t d = iblk m c 7 t :=
  before0_7_of m (data m o 0 c) (data_A m o c 7) (data_after7 m o c) t d

/-- What the body is called with at point `t`. -/
def bodyPre (c : Dev nD) (t : Fin cfg0.N) : sProp 𝕄 := iprop((data m o 0 c).Φ t.castSucc ∗ (data m o 0 c).owesAt () t.castSucc ∗ (∃ d, owns (c : Thread nD τ) (st0_0 t) fullShare ((data m o 0 c).before 0 t d)) ∗ (∃ d, owns (c : Thread nD τ) (st0_1 t) fullShare ((data m o 0 c).before 1 t d)) ∗ (∃ d, owns (c : Thread nD τ) (st0_2 t) fullShare ((data m o 0 c).before 2 t d)) ∗ (∃ d, owns (c : Thread nD τ) (st0_3 t) fullShare ((data m o 0 c).before 3 t d)) ∗ (∃ d, owns (c : Thread nD τ) (st0_4 t) fullShare ((data m o 0 c).before 4 t d)) ∗ (∃ d, owns (c : Thread nD τ) (st0_5 t) fullShare ((data m o 0 c).before 5 t d)) ∗ (∃ d, owns (c : Thread nD τ) (st0_6 t) fullShare ((data m o 0 c).before 6 t d)) ∗ (∃ d, owns (c : Thread nD τ) (st0_7 t) fullShare ((data m o 0 c).before 7 t d)) ∗ (∃ d, owns (c : Thread nD τ) (st0_8 t) fullShare ((data m o 0 c).before 8 t d)) ∗ (∃ d, owns (c : Thread nD τ) (st0_9 t) fullShare ((data m o 0 c).before 9 t d)) ∗ (∃ d, owns (c : Thread nD τ) (st0_10 t) fullShare ((data m o 0 c).before 10 t d)))

/-- The same, the outputs at any contents. -/
def bodyPreSome (c : Dev nD) (t : Fin cfg0.N) : sProp 𝕄 := iprop((data m o 0 c).Φ t.castSucc ∗ (data m o 0 c).owesAt () t.castSucc ∗ (∃ d, owns (c : Thread nD τ) (st0_0 t) fullShare ((data m o 0 c).before 0 t d)) ∗ (∃ d, owns (c : Thread nD τ) (st0_1 t) fullShare ((data m o 0 c).before 1 t d)) ∗ (∃ d, owns (c : Thread nD τ) (st0_2 t) fullShare ((data m o 0 c).before 2 t d)) ∗ (∃ d, owns (c : Thread nD τ) (st0_3 t) fullShare ((data m o 0 c).before 3 t d)) ∗ (∃ d, owns (c : Thread nD τ) (st0_4 t) fullShare ((data m o 0 c).before 4 t d)) ∗ (∃ d, owns (c : Thread nD τ) (st0_5 t) fullShare ((data m o 0 c).before 5 t d)) ∗ (∃ d, owns (c : Thread nD τ) (st0_6 t) fullShare ((data m o 0 c).before 6 t d)) ∗ (∃ d, owns (c : Thread nD τ) (st0_7 t) fullShare ((data m o 0 c).before 7 t d)) ∗ (∃ d, owns (c : Thread nD τ) (st0_8 t) fullShare d) ∗ (∃ d, owns (c : Thread nD τ) (st0_9 t) fullShare d) ∗ (∃ d, owns (c : Thread nD τ) (st0_10 t) fullShare d))

/-- What it leaves: the inputs as they were, the outputs at some contents, -/
def bodyPostSome (c : Dev nD) (t : Fin cfg0.N) : sProp 𝕄 := iprop((data m o 0 c).Φ t.succ ∗ (data m o 0 c).owesAt () t.succ ∗ owns (c : Thread nD τ) (st0_0 t) fullShare ((data m o 0 c).after 0 t) ∗ owns (c : Thread nD τ) (st0_1 t) fullShare ((data m o 0 c).after 1 t) ∗ owns (c : Thread nD τ) (st0_2 t) fullShare ((data m o 0 c).after 2 t) ∗ owns (c : Thread nD τ) (st0_3 t) fullShare ((data m o 0 c).after 3 t) ∗ owns (c : Thread nD τ) (st0_4 t) fullShare ((data m o 0 c).after 4 t) ∗ owns (c : Thread nD τ) (st0_5 t) fullShare ((data m o 0 c).after 5 t) ∗ owns (c : Thread nD τ) (st0_6 t) fullShare ((data m o 0 c).after 6 t) ∗ owns (c : Thread nD τ) (st0_7 t) fullShare ((data m o 0 c).after 7 t) ∗ (∃ d, owns (c : Thread nD τ) (st0_8 t) fullShare d) ∗ (∃ d, owns (c : Thread nD τ) (st0_9 t) fullShare d) ∗ (∃ d, owns (c : Thread nD τ) (st0_10 t) fullShare d))

/-- or at the contents given. -/
def bodyPost (c : Dev nD) (t : Fin cfg0.N) : sProp 𝕄 := iprop((data m o 0 c).Φ t.succ ∗ (data m o 0 c).owesAt () t.succ ∗ owns (c : Thread nD τ) (st0_0 t) fullShare ((data m o 0 c).after 0 t) ∗ owns (c : Thread nD τ) (st0_1 t) fullShare ((data m o 0 c).after 1 t) ∗ owns (c : Thread nD τ) (st0_2 t) fullShare ((data m o 0 c).after 2 t) ∗ owns (c : Thread nD τ) (st0_3 t) fullShare ((data m o 0 c).after 3 t) ∗ owns (c : Thread nD τ) (st0_4 t) fullShare ((data m o 0 c).after 4 t) ∗ owns (c : Thread nD τ) (st0_5 t) fullShare ((data m o 0 c).after 5 t) ∗ owns (c : Thread nD τ) (st0_6 t) fullShare ((data m o 0 c).after 6 t) ∗ owns (c : Thread nD τ) (st0_7 t) fullShare ((data m o 0 c).after 7 t) ∗ owns (c : Thread nD τ) (st0_8 t) fullShare ((data m o 0 c).after 8 t) ∗ owns (c : Thread nD τ) (st0_9 t) fullShare ((data m o 0 c).after 9 t) ∗ owns (c : Thread nD τ) (st0_10 t) fullShare ((data m o 0 c).after 10 t))
end

set_option maxHeartbeats 1600000 in
theorem sound_some (o : Fin cfg0.N → Vec F S1024x128 .f32 × Vec F S1x16x128x256 .f32 × Vec F S1x16x128x256 .f32) (c : Dev nD) (t : Fin cfg0.N) :
    bodyPreSome m o c t ⊢ wp frame (wpE (defs₀ (F := F)) Variants.none c none) Set.univ (bodyAt0 t) (fun _ => bodyPostSome m o c t) := by
  unfold bodyPreSome bodyPostSome
  simp only [data_before0, data_before1, data_before2, data_before3, data_before4, data_before5, data_before6, data_before7]
  rw [show (data m o 0 c).Φ t.succ = (data m o 0 c).Φ t.castSucc from rfl,
    show (data m o 0 c).owesAt () t.succ = (data m o 0 c).owesAt () t.castSucc from rfl,
    data_after0, data_after1, data_after2, data_after3, data_after4, data_after5, data_after6, data_after7]
  rw [show (data m o 0 c).Φ t.castSucc = Pipeline.ΦA spec0 c from rfl, scratch_eq]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  obtain ⟨r, hr⟩ := leaves_some c t (⟨iblk m c 0 t, iblk m c 1 t, iblk m c 2 t, iblk m c 3 t, iblk m c 4 t, iblk m c 5 t, iblk m c 6 t, iblk m c 7 t, d8, d9, d10, s0, s1, s2, s3⟩ : Held F)
  iapply (hr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexists _; iexact H8
  isplitl [H9]; · iexists _; iexact H9
  iexists _; iexact H10

set_option maxHeartbeats 1600000 in
theorem sound_given (o : Fin cfg0.N → Vec F S1024x128 .f32 × Vec F S1x16x128x256 .f32 × Vec F S1x16x128x256 .f32) (c : Dev nD) (t : Fin cfg0.N) (hl : ∀ y11 y12 y13 y14 y15 y16 y17, (∃ d, y12 = (data m o 0 c).before 9 t d) → (∃ d, y13 = (data m o 0 c).before 10 t d) →
      Leaves c t ⟨iblk m c 0 t, iblk m c 1 t, iblk m c 2 t, iblk m c 3 t, iblk m c 4 t, iblk m c 5 t, iblk m c 6 t, iblk m c 7 t, y11, y12, y13, y14, y15, y16, y17⟩ (o t)) :
    bodyPre m o c t ⊢ wp frame (wpE (defs₀ (F := F)) Variants.none c none) Set.univ (bodyAt0 t) (fun _ => bodyPost m o c t) := by
  unfold bodyPre bodyPost
  simp only [data_before0, data_before1, data_before2, data_before3, data_before4, data_before5, data_before6, data_before7]
  rw [show (data m o 0 c).Φ t.succ = (data m o 0 c).Φ t.castSucc from rfl,
    show (data m o 0 c).owesAt () t.succ = (data m o 0 c).owesAt () t.castSucc from rfl,
    data_after0, data_after1, data_after2, data_after3, data_after4, data_after5, data_after6, data_after7, data_after8, data_after9, data_after10]
  rw [show (data m o 0 c).Φ t.castSucc = Pipeline.ΦA spec0 c from rfl, scratch_eq]
  iintro ⟨⟨⟨⟨%s0, S0⟩, ⟨%s1, S1⟩, ⟨%s2, S2⟩, ⟨%s3, S3⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
  have hr := hl ((data m o 0 c).before 8 t d8) ((data m o 0 c).before 9 t d9) ((data m o 0 c).before 10 t d10) s0 s1 s2 s3 ⟨d9, rfl⟩ ⟨d10, rfl⟩
  iapply (hr Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [S0]; · iexact S0
  isplitl [S1]; · iexact S1
  isplitl [S2]; · iexact S2
  isplitl [S3]; · iexact S3
  iintro ⟨H0, H1, H2, H3, H4, H5, H6, H7, H8, H9, H10, S0, S1, S2, S3⟩
  isplitl [S0 S1 S2 S3 Hg]
  · isplitl [S0 S1 S2 S3]
    · isplitl [S0]; · iexact S0
      isplitl [S1]; · iexact S1
      isplitl [S2]; · iexact S2
      iexact S3
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

theorem row (t : Fin cfg0.N) : defs₀ (F := F) .tc cfg0.body (cfg0.bodyArgs t (cfg0.slots t)) = bodyAt0 t := by
  unfold defs₀; rw [Defs.onTc_tc]

/-! ### The frame, the outputs not named -/

/-- The outputs, of which nothing is said. -/
def forgets : Fin 11 → Bool := fun w => w.val == 8 || w.val == 9 || w.val == 10

/-- Any contents do for outputs nothing is said of. -/
def anyOut : Fin cfg0.N → Vec F S1024x128 .f32 × Vec F S1x16x128x256 .f32 × Vec F S1x16x128x256 .f32 :=
  fun t => (Pipeline.Dat.unnamed (cfg := cfg0) 8 t, Pipeline.Dat.unnamed (cfg := cfg0) 9 t, Pipeline.Dat.unnamed (cfg := cfg0) 10 t)

theorem obligation_some (c : Dev nD) : BodyObligation (data (F := F) m anyOut 0 c) (defs₀ (F := F)) Variants.none () Set.univ forgets := fun t => by
  rw [bigSep_W0, bigSep_W0, row]
  exact triple_restated (sound_some m anyOut c t) rfl .rfl fun _ => .rfl

/-- Every buffer but three of the arguments: the lines after the region may write them. -/
def later : Finset (Ref sig .tc) := Finset.univ.filter fun b => b ≠ main_arg0 ∧ b ≠ main_arg1 ∧ b ≠ main_arg2

theorem later_writes : ∀ ops ∈ ([hostOps1] : List (List (HloOp τ sig (Elt F)))), ∀ op ∈ ops, ∀ b : Ref sig .tc,
    Proc.devRef .tc b ∈ op.writes → b ∈ later := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl | rfl | rfl | rfl
  all_goals
    intro b hb
    simp only [StableHlo.nullary_writes, StableHlo.unary_writes, StableHlo.binary_writes, StableHlo.ternary_writes, StableHlo.quaternary_writes, StableHlo.reshape_writes, StableHlo.binaryIndexed_writes, Finset.mem_singleton] at hb
    have hb := Proc.devRef_injective _ hb
    subst hb
    exact Finset.mem_filter.mpr ⟨Finset.mem_univ _, by decide, by decide, by decide⟩

set_option backward.isDefEq.respectTransparency.types false in
theorem run_some : θ_run defs (onTc (τ := τ) (main (F := F))) (s₀ m ρ)
    (fun r => Pipeline.RDat.FramePostR (cfgs 0) (fun c => (data m anyOut 0 c).toRForget forgets) later (fun c b => V0 m c (Proc.devRef .tc b)) r ∧ r.2.sem = fun _ => 0) :=
  Pipeline.θ_run_frame_around_T_forget (Q' := _) cfgs (data m anyOut) (0 : Fin 1) launch0 defs₀ Variants.none forgets later m ρ main
    (hbody := fun c => (obligation_some m c).loose) (hshare := fun c => (data m anyOut 0 c).share_full fun _ => rfl)
    (howed := fun _ _ => rfl) (V₀ := V0 m) (opss := [hostOps1]) (hsub := sfx_sub) (hfresh := sfx_fresh) (hkeep := sfx_keeps) (hT := later_writes)
    (hmain := hmain m Variants.none) (hA := data_A m anyOut) (hΦ := fun _ _ => rfl)

/-- The frame, at any values. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨
      ((h.1 c).2 main_arg0 (Finset.mem_sdiff.mpr ⟨Pipeline.mem_restRefs_of main_arg0 (by decide) (by decide), by simp [later]⟩)).trans (V_main_arg0 m c),
      ((h.1 c).2 main_arg1 (Finset.mem_sdiff.mpr ⟨Pipeline.mem_restRefs_of main_arg1 (by decide) (by decide), by simp [later]⟩)).trans (V_main_arg1 m c),
      ((h.1 c).2 main_arg2 (Finset.mem_sdiff.mpr ⟨Pipeline.mem_restRefs_of main_arg2 (by decide) (by decide), by simp [later]⟩)).trans (V_main_arg2 m c),
      (Pipeline.RDat.FramePostR.arr_in h.1 c 4 rfl).trans ((data_A m anyOut c 4).trans (V_main_arg3 m c))⟩, h.2⟩) (run_some m ρ)

end Cert.Proof.Sb

end
-- ==== Proof.Reals.lean ====
module

public import Idealize.ShloMosaic.PureOps.Ideal.Laws
public import Idealize.ShloMosaic.Lib.Pointwise
public import Idealize.ShloMosaic.Lib.ReduceAll

/-!
Arithmetic on the extended reals where every term is a real number: the literals the programs print, sums and
quotients of coerced reals, and what a finite argument is.
-/

@[expose] public section
namespace Cert.Proof.Reals
open Idealize.ShloMosaic

/-- A sum of coerced reals is the coerced sum. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- A quotient of coerced reals with a divisor other than zero. -/
theorem coe_div (x y : ℝ) (h : y ≠ 0) : Ideal.div (x : EReal) (y : EReal) = ((x / y : ℝ) : EReal) := by
  rw [Ideal.div_coe h, ← EReal.coe_mul, mul_one_div]

/-- The reciprocal root of a positive real. -/
theorem coe_rsqrt (x : ℝ) (h : 0 < x) : Ideal.rsqrt (x : EReal) = (((Real.sqrt x)⁻¹ : ℝ) : EReal) := by
  rw [Ideal.rsqrt_coe, if_neg h.le.not_gt, if_neg h.ne']

/-- The printed `1024`. -/
theorem lit_1024 : Ideal.ofBits .f32 1149239296#32 = ((1024 : ℝ) : EReal) := by
  simp [Ideal.ofBits, Ideal.ieee, -EReal.coe_mul]; norm_num

/-- The printed `-0.5`. -/
theorem lit_neg_half : Ideal.ofBits .f32 0xBF000000#32 = ((-(1 / 2) : ℝ) : EReal) := by
  simp [Ideal.ofBits, Ideal.ieee, -EReal.coe_mul]; norm_num

/-- The real number the printed root-mean-square epsilon is (the rational of its float word). -/
noncomputable def eps : ℝ := 8796093 / 2 ^ 43

theorem eps_pos : 0 < eps := by unfold eps; norm_num

/-- The printed root-mean-square epsilon. -/
theorem lit_eps : Ideal.ofBits .f32 897988541#32 = (eps : EReal) := by
  unfold eps
  simp [Ideal.ofBits, Ideal.ieee, -EReal.coe_mul]; norm_num

/-- The printed plus infinity. -/
theorem lit_top : Ideal.ofBits .f32 0x7F800000#32 = (⊤ : EReal) := by
  simp [Ideal.ofBits, Ideal.ieee]

/-- An array whose every absolute value is below plus infinity is an array of reals. -/
theorem finite_real {ι : Type*} (x : ι → EReal)
    (h : ∀ i, Ideal.cmp .olt (max (x i) (-x i)) (Ideal.ofBits .f32 0x7F800000#32) = 1#1) :
    ∃ r : ι → ℝ, ∀ i, x i = (r i : EReal) := by
  refine ⟨fun i => (x i).toReal, fun i => (EReal.coe_toReal ?_ ?_).symm⟩ <;>
  · intro hx
    have hi := (Ideal.cmp_olt_eq_one _ _).mp (h i)
    rw [lit_top, hx] at hi
    simp at hi

end Cert.Proof.Reals
-- ==== Proof.SbRow.lean ====
module

public import proofs.«01_k».proof.Proof.Reals

/-!
The stick-breaking attention and its derivative as real numbers: of the queries `q` (scaled), the keys `k`, the values
`v` and the cotangent `g`, by position and lane, and of a head `h`.
-/

@[expose] public section

noncomputable section

namespace Cert.Proof.Sb

open Idealize.ShloMosaic Finset

/-- The operands, by position and lane. -/
structure Rows where
  q : ℕ → ℕ → ℝ
  k : ℕ → ℕ → ℝ
  v : ℕ → ℕ → ℝ
  g : ℕ → ℕ → ℝ

/-- The softplus. -/
def spl (x : ℝ) : ℝ := max x 0 + Real.log (1 + Real.exp (-|x|))

namespace Rows

variable (R : Rows)

/-- The score of query `t` for key `s`, and the product of the cotangent with the value. -/
def z (h t s : ℕ) : ℝ := ∑ d ∈ range 64, R.q t (64 * h + d) * R.k s (64 * h + d)
def da (h t s : ℕ) : ℝ := ∑ d ∈ range 64, R.g t (64 * h + d) * R.v s (64 * h + d)
/-- The softplus of an earlier key's score, and the row's total. -/
def w (h t s : ℕ) : ℝ := if s < t then spl (R.z h t s) else 0
def tot (h t : ℕ) : ℝ := ∑ s ∈ range 2048, R.w h t s
/-- The share of the stick a key takes of what is left. -/
def sig (h t s : ℕ) : ℝ := Real.exp (R.z h t s - spl (R.z h t s))
/-- The attention's weight. -/
def att (h t s : ℕ) : ℝ :=
  if s < t then Real.exp (R.z h t s - spl (R.z h t s) - (R.tot h t - ∑ i ∈ range (s + 1), R.w h t i)) else 0
def e (h t s : ℕ) : ℝ := R.att h t s * R.da h t s
/-- The derivative by the score. -/
def dz (h t s : ℕ) : ℝ :=
  if s < t then R.e h t s - R.sig h t s * (R.e h t s + ∑ i ∈ range s, R.e h t i) else 0

/-- The three gradients; the queries' is by the scaled queries. -/
def dq (t d : ℕ) : ℝ := ∑ s ∈ range 2048, R.dz (d / 64) t s * R.k s d
def dk (s d : ℕ) : ℝ := ∑ t ∈ range 2048, R.q t d * R.dz (d / 64) t s
def dv (s d : ℕ) : ℝ := ∑ t ∈ range 2048, R.g t d * R.att (d / 64) t s

theorem dz_of_le {h t s : ℕ} (hs : t ≤ s) : R.dz h t s = 0 := if_neg (by omega)
theorem att_of_le {h t s : ℕ} (hs : t ≤ s) : R.att h t s = 0 := if_neg (by omega)
theorem e_of_le {h t s : ℕ} (hs : t ≤ s) : R.e h t s = 0 := by rw [e, R.att_of_le hs, zero_mul]

end Rows

/-! ### Sums over the stacked columns -/

/-- The columns of one half below `n`. -/
theorem sum_half (f : ℕ → ℝ) (u n : ℕ) (hu : u < 2) (hn : n ≤ 128) :
    (∑ x : Fin 256, if x.val / 128 = u ∧ x.val % 128 < n then f x.val else 0) = ∑ i ∈ range n, f (128 * u + i) := by
  rw [Fin.sum_univ_eq_sum_range (fun x => if x / 128 = u ∧ x % 128 < n then f x else 0) 256, ← sum_filter]
  refine (sum_bij (fun i _ => 128 * u + i) (fun i hi => ?_) (fun i _ j _ h => by omega) (fun x hx => ?_) fun _ _ => rfl).symm
  · rw [mem_range] at hi
    rw [mem_filter, mem_range]
    omega
  · rw [mem_filter, mem_range] at hx
    exact ⟨x % 128, by rw [mem_range]; exact hx.2.2, by omega⟩

theorem sum_tri (f : ℕ → EReal) (g : ℕ → ℝ) (T : ℕ → EReal) (u n : ℕ) (hu : u < 2) (hn : n ≤ 128)
    (hf : ∀ x < 256, f x = (g x : EReal))
    (hT : ∀ x < 256, T x = if x / 128 = u ∧ x % 128 < n then (1 : EReal) else 0) :
    (∑ x : Fin 256, f x * T x) = ((∑ i ∈ range n, g (128 * u + i) : ℝ) : EReal) := by
  rw [← sum_half g u n hu hn, ← Reals.coe_sum]
  refine sum_congr rfl fun x _ => ?_
  rw [hf x x.isLt, hT x x.isLt]
  split_ifs <;> simp

/-- The lanes of one head of a pair. -/
theorem sum_lane (f : ℕ → ℝ) (u : ℕ) (hu : u < 2) :
    (∑ x : Fin 128, if u = x.val / 64 then f x.val else 0) = ∑ i ∈ range 64, f (64 * u + i) := by
  rw [Fin.sum_univ_eq_sum_range (fun x => if u = x / 64 then f x else 0) 128, ← sum_filter]
  refine (sum_bij (fun i _ => 64 * u + i) (fun i hi => ?_) (fun i _ j _ h => by omega) (fun x hx => ?_) fun _ _ => rfl).symm
  · rw [mem_range] at hi
    rw [mem_filter, mem_range]
    omega
  · rw [mem_filter, mem_range] at hx
    exact ⟨x % 64, by rw [mem_range]; omega, by omega⟩

theorem sum_lane_coe (f T : ℕ → EReal) (g h : ℕ → ℝ) (u : ℕ) (hu : u < 2) (hf : ∀ x < 128, f x = (g x : EReal))
    (hT : ∀ x < 128, T x = if u = x / 64 then (h x : EReal) else 0) :
    (∑ x : Fin 128, f x * T x) = ((∑ i ∈ range 64, g (64 * u + i) * h (64 * u + i) : ℝ) : EReal) := by
  rw [← sum_lane (fun x => g x * h x) u hu, ← Reals.coe_sum]
  refine sum_congr rfl fun x _ => ?_
  rw [hf x x.isLt, hT x x.isLt]
  split_ifs <;> simp

/-- A sum up to a multiple of 128 takes up the next 128. -/
theorem sum_block (f : ℕ → ℝ) (k n : ℕ) : (∑ s ∈ range (128 * k), f s) + ∑ i ∈ range n, f (128 * k + i) = ∑ s ∈ range (128 * k + n), f s :=
  (sum_range_add _ _ _).symm

/-- Terms that vanish from `n` on. -/
theorem sum_upto (f : ℕ → ℝ) (n N : ℕ) (h : n ≤ N) (hf : ∀ s, n ≤ s → f s = 0) : ∑ s ∈ range n, f s = ∑ s ∈ range N, f s :=
  sum_subset (range_subset_range.mpr h) fun s _ hs => hf s (by simpa using hs)

end Cert.Proof.Sb

end
-- ==== Proof.SbSpec.lean ====
module

public import Idealize.ShloMosaic.Lib.Pipeline.ValueKit
public import Idealize.ShloMosaic.Lib.Pointwise

/-!
The backward pass of the stick-breaking attention for one pair of heads and one block of 1024 queries, block of
keys by block of keys, as plain functions on extended reals. Rows are the queries of the block, columns are the
128 keys of a key block, once for each of the two heads.
-/

@[expose] public section

noncomputable section

namespace Cert.Proof.Sb

open Idealize.ShloMosaic

/-- The operands of one grid point: the query block's number, the scaled queries and the cotangent by row and
lane, the stacked keys, the packed key and value tiles, the row's total, the two triangles, and what the two tile
outputs held before. -/
structure Sp where
  j : ℕ
  q : ℕ → ℕ → EReal
  dO : ℕ → ℕ → EReal
  ks : ℕ → ℕ → EReal
  kt : ℕ → ℕ → ℕ → EReal
  vt : ℕ → ℕ → ℕ → EReal
  lt : ℕ → ℕ → EReal
  up : ℕ → ℕ → EReal
  be : ℕ → ℕ → EReal
  w12 : ℕ → ℕ → ℕ → EReal
  w13 : ℕ → ℕ → ℕ → EReal

namespace Sp

variable (S : Sp)

/-- Key `c` of block `k` lies before query `r`. -/
def M (k r c : ℕ) : Prop := 128 * k + c % 128 < 1024 * S.j + r

instance (k r c : ℕ) : Decidable (S.M k r c) := inferInstanceAs (Decidable (_ < _))

/-- The scores, and the products of the cotangent with the values. -/
def z (k r c : ℕ) : EReal := ∑ d : Fin 128, S.q r d * S.kt k d c
def da (k r c : ℕ) : EReal := ∑ d : Fin 128, S.dO r d * S.vt k d c

def mx (k r c : ℕ) : EReal := max (S.z k r c) 0
def ab (k r c : ℕ) : EReal := FloatOps.absf (F := Ideal) (φ := .f32) (S.z k r c)
def ex (k r c : ℕ) : EReal := Ideal.exp (0 - S.ab k r c)
/-- The softplus of the score. -/
def sp (k r c : ℕ) : EReal := S.mx k r c + Ideal.log (1 + S.ex k r c)
def nlb (k r c : ℕ) : EReal := if S.M k r c then S.sp k r c else 0
def dotn (k r c : ℕ) : EReal := ∑ x : Fin 256, S.nlb k r x * S.up x c

/-- The sum over the earlier key blocks, of head `h`. -/
def P : ℕ → ℕ → ℕ → EReal
  | 0, _, _ => 0
  | k + 1, r, h => S.dotn k r (128 * h + 127) + P k r h

def pc (k r c : ℕ) : EReal := if c < 128 then S.P k r 0 else S.P k r 1
def pin (k r c : ℕ) : EReal := S.dotn k r c + S.pc k r c
def lth (r c : ℕ) : EReal := if c < 128 then S.lt r 0 else S.lt r 64
def zs (k r c : ℕ) : EReal := S.z k r c - S.sp k r c
def sig (k r c : ℕ) : EReal := Ideal.exp (S.zs k r c)
def attu (k r c : ℕ) : EReal := Ideal.exp (S.zs k r c - (S.lth r c - S.pin k r c))
/-- The attention's weights, and the products `e` with the cotangent. -/
def att (k r c : ℕ) : EReal := if S.M k r c then S.attu k r c else 0
def e (k r c : ℕ) : EReal := S.att k r c * S.da k r c
def dote (k r c : ℕ) : EReal := ∑ x : Fin 256, S.e k r x * S.be x c

def E : ℕ → ℕ → ℕ → EReal
  | 0, _, _ => 0
  | k + 1, r, h => (S.dote k r (128 * h + 127) + E k r h) + S.e k r (128 * h + 127)

def ec (k r c : ℕ) : EReal := if c < 128 then S.E k r 0 else S.E k r 1
def eb (k r c : ℕ) : EReal := S.dote k r c + S.ec k r c
def dzu (k r c : ℕ) : EReal := S.e k r c - S.sig k r c * (S.e k r c + S.eb k r c)
/-- The gradient of the scores. -/
def dz (k r c : ℕ) : EReal := if S.M k r c then S.dzu k r c else 0

/-- What the two buffers that run one block behind hold when block `k` starts. -/
def dzb : ℕ → ℕ → ℕ → EReal
  | 0 => fun _ _ => 0
  | k + 1 => S.dz k
def atb : ℕ → ℕ → ℕ → EReal
  | 0 => fun _ _ => 0
  | k + 1 => S.att k

/-- The queries' gradient before block `k`. -/
def DQ : ℕ → ℕ → ℕ → EReal
  | 0, _, _ => 0
  | k + 1, r, d => DQ k r d + ∑ c : Fin 256, S.dzb k r c * S.ks (256 * (k - 1) + c) d

/-- The key tiles and the value tiles before block `k`. -/
def W12 : ℕ → ℕ → ℕ → ℕ → EReal
  | 0 => S.w12
  | k + 1 => fun t d c => if t = k - 1 then W12 k t d c + ∑ r : Fin 1024, S.q r d * S.dzb k r c else W12 k t d c
def W13 : ℕ → ℕ → ℕ → ℕ → EReal
  | 0 => S.w13
  | k + 1 => fun t d c => if t = k - 1 then W13 k t d c + ∑ r : Fin 1024, S.dO r d * S.atb k r c else W13 k t d c

theorem nlb_of_not {k r c : ℕ} (h : ¬ S.M k r c) : S.nlb k r c = 0 := if_neg h
theorem att_of_not {k r c : ℕ} (h : ¬ S.M k r c) : S.att k r c = 0 := if_neg h
theorem dz_of_not {k r c : ℕ} (h : ¬ S.M k r c) : S.dz k r c = 0 := if_neg h
theorem e_of_not {k r c : ℕ} (h : ¬ S.M k r c) : S.e k r c = 0 := by rw [e, S.att_of_not h, zero_mul]

/-- A row that sees no key of a block keeps its sums. -/
theorem P_succ {k r h : ℕ} (hM : ∀ c, ¬ S.M k r c) : S.P (k + 1) r h = S.P k r h := by
  have e0 : S.dotn k r (128 * h + 127) = 0 := Finset.sum_eq_zero fun c _ => by rw [S.nlb_of_not (hM c), zero_mul]
  show S.dotn k r (128 * h + 127) + S.P k r h = _
  rw [e0, zero_add]

theorem E_succ {k r h : ℕ} (hM : ∀ c, ¬ S.M k r c) : S.E (k + 1) r h = S.E k r h := by
  have e0 : S.dote k r (128 * h + 127) = 0 := Finset.sum_eq_zero fun c _ => by rw [S.e_of_not (hM c), zero_mul]
  show (S.dote k r (128 * h + 127) + S.E k r h) + S.e k r (128 * h + 127) = _
  rw [e0, S.e_of_not (hM _), zero_add, add_zero]

theorem P_one (k r : ℕ) : S.P (k + 1) r 0 = S.dotn k r 127 + S.P k r 0 := rfl
theorem P_two (k r : ℕ) : S.P (k + 1) r 1 = S.dotn k r 255 + S.P k r 1 := rfl
theorem E_one (k r : ℕ) : S.E (k + 1) r 0 = (S.dote k r 127 + S.E k r 0) + S.e k r 127 := rfl
theorem E_two (k r : ℕ) : S.E (k + 1) r 1 = (S.dote k r 255 + S.E k r 1) + S.e k r 255 := rfl
theorem pin_one (k r : ℕ) : S.pin k r 127 = S.P (k + 1) r 0 := rfl
theorem pin_two (k r : ℕ) : S.pin k r 255 = S.P (k + 1) r 1 := rfl
theorem eb_one (k r : ℕ) : S.eb k r 127 + S.e k r 127 = S.E (k + 1) r 0 := rfl
theorem eb_two (k r : ℕ) : S.eb k r 255 + S.e k r 255 = S.E (k + 1) r 1 := rfl
theorem dzb_succ (k : ℕ) : S.dzb (k + 1) = S.dz k := rfl
theorem atb_succ (k : ℕ) : S.atb (k + 1) = S.att k := rfl
theorem DQ_succ (k r d : ℕ) : S.DQ (k + 1) r d = S.DQ k r d + ∑ c : Fin 256, S.dzb k r c * S.ks (256 * (k - 1) + c) d := rfl

theorem DQ_step (k r d : ℕ) : S.DQ (k + 2) r d = S.DQ (k + 1) r d + ∑ c : Fin 256, S.dz k r c * S.ks (256 * k + c) d := rfl

/-- A tile takes up its product one block later; the other tiles stay. -/
theorem W12_at (k d c : ℕ) : S.W12 (k + 1) (k - 1) d c = S.W12 k (k - 1) d c + ∑ r : Fin 1024, S.q r d * S.dzb k r c := if_pos rfl
theorem W12_off (k t d c : ℕ) (h : t ≠ k - 1) : S.W12 (k + 1) t d c = S.W12 k t d c := if_neg h
theorem W13_at (k d c : ℕ) : S.W13 (k + 1) (k - 1) d c = S.W13 k (k - 1) d c + ∑ r : Fin 1024, S.dO r d * S.atb k r c := if_pos rfl
theorem W13_off (k t d c : ℕ) (h : t ≠ k - 1) : S.W13 (k + 1) t d c = S.W13 k t d c := if_neg h
theorem W12_zero : S.W12 0 = S.w12 := rfl
theorem W13_zero : S.W13 0 = S.w13 := rfl
theorem P_zero (r h : ℕ) : S.P 0 r h = 0 := rfl
/-- The mask in the diagonal blocks and left of them. -/
theorem diag (n b : ℕ) {x : ℕ} (a : Fin x) (h : 128 * n = b) (c : ℕ) : S.M (8*S.j + n) (b + a.val) c ↔ c % 128 < a.val := by
  unfold Sp.M; omega
theorem full (n b : ℕ) {x : ℕ} (a : Fin x) (h : 128 * (n + 1) ≤ b) (c : ℕ) : S.M (8*S.j + n) (b + a.val) c ↔ True :=
  iff_true_intro (by unfold Sp.M; omega)
theorem E_zero (r h : ℕ) : S.E 0 r h = 0 := rfl
theorem DQ_zero (r d : ℕ) : S.DQ 0 r d = 0 := rfl
theorem dzb_zero (r c : ℕ) : S.dzb 0 r c = 0 := rfl
theorem atb_zero (r c : ℕ) : S.atb 0 r c = 0 := rfl

attribute [irreducible] M P E DQ W12 W13 dzb atb

end Sp

/-! ### Ways to say what a vector holds -/

abbrev Col {n : ℕ} (v : (⟨2, ![n, 1]⟩ : Shape).Idx → EReal) (g : ℕ → EReal) : Prop :=
  ∀ a : Fin n, v (ix2 a 0) = g a.val
abbrev Mat {α : Type} {n m : ℕ} (v : (⟨2, ![n, m]⟩ : Shape).Idx → α) (g : ℕ → ℕ → α) : Prop :=
  ∀ (a : Fin n) (c : Fin m), v (ix2 a c) = g a.val c.val
abbrev MatAt {n m : ℕ} (v : (⟨2, ![n, m]⟩ : Shape).Idx → EReal) (g : ℕ → ℕ → EReal) (o : ℕ) : Prop :=
  ∀ (a : Fin n) (c : Fin m), v (ix2 a c) = g (o + a.val) c.val
abbrev Mat3 {n m : ℕ} (v : (⟨3, ![1, n, m]⟩ : Shape).Idx → EReal) (g : ℕ → ℕ → EReal) : Prop :=
  ∀ (a : Fin n) (c : Fin m), v (ix3 0 a c) = g a.val c.val
abbrev Mat3At {n m : ℕ} (v : (⟨3, ![1, n, m]⟩ : Shape).Idx → EReal) (g : ℕ → ℕ → EReal) (o : ℕ) : Prop :=
  ∀ (a : Fin n) (c : Fin m), v (ix3 0 a c) = g (o + a.val) c.val
abbrev Tile {n m : ℕ} (v : (⟨4, ![1, 1, n, m]⟩ : Shape).Idx → EReal) (g : ℕ → ℕ → EReal) : Prop :=
  ∀ (a : Fin n) (c : Fin m), v (ix4 0 0 a c) = g a.val c.val

theorem lt_all {x : ℕ} (a : Fin x) (h : ¬ a.val < 128) (y : ℕ) : (y % 128 < a.val) = True := eq_true (by omega)

theorem msel : Scalar.select (Scalar.cmpi CmpIPredicate.eq 128#32 0#32) 1#32 128#32 = 128#32 := rfl

theorem mask_rem (x : Fin 256) :
    (Scalar.select
      (IntOp.andi
        (IntOp.xori
          (IntOp.cmpi CmpIPredicate.slt (IntOp.remsi ArithUnit.vector (BitVec.ofNat 32 x.val) 128#32) 0#32)
          (Scalar.cmpi CmpIPredicate.slt 128#32 0#32))
        (IntOp.cmpi CmpIPredicate.ne (IntOp.remsi ArithUnit.vector (BitVec.ofNat 32 x.val) 128#32) 0#32))
      (IntOp.addi (IntOp.remsi ArithUnit.vector (BitVec.ofNat 32 x.val) 128#32) 128#32)
      (IntOp.remsi ArithUnit.vector (BitVec.ofNat 32 x.val) 128#32)) = BitVec.ofNat 32 (x.val % 128) := by
  revert x; decide +kernel

theorem toInt_small (n : ℕ) (h : n < 1024) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

theorem mask_lt (x : Fin 256) (a : ℕ) (ha : a < 1024) (u v : EReal) :
    Scalar.select (IntOp.cmpi CmpIPredicate.slt (BitVec.ofNat 32 (x.val % 128)) (BitVec.ofNat 32 a)) u v
      = if x.val % 128 < a then u else v := by
  have h1 := toInt_small (x.val % 128) (by omega)
  have h2 := toInt_small a ha
  by_cases h : x.val % 128 < a
  · rw [if_pos h]
    have : IntOp.cmpi CmpIPredicate.slt (BitVec.ofNat 32 (x.val % 128)) (BitVec.ofNat 32 a) = 1#1 := by
      simp only [IntOp.cmpi, BitVec.slt, h1, h2]
      rw [decide_eq_true (by exact_mod_cast h)]; rfl
    rw [this]; rfl
  · rw [if_neg h]
    have : IntOp.cmpi CmpIPredicate.slt (BitVec.ofNat 32 (x.val % 128)) (BitVec.ofNat 32 a) = 0#1 := by
      simp only [IntOp.cmpi, BitVec.slt, h1, h2]
      rw [decide_eq_false (by exact_mod_cast h)]; rfl
    rw [this]; rfl

theorem mask512 (x : Fin 256) (a : Fin 512) (u v : EReal) :
    Scalar.select (IntOp.cmpi CmpIPredicate.slt (BitVec.ofNat 32 (x.val % 128)) (BitVec.ofNat 32 a.val)) u v
      = if x.val % 128 < a.val then u else v := mask_lt x a.val (by omega) u v
theorem mask384 (x : Fin 256) (a : Fin 384) (u v : EReal) :
    Scalar.select (IntOp.cmpi CmpIPredicate.slt (BitVec.ofNat 32 (x.val % 128)) (BitVec.ofNat 32 a.val)) u v
      = if x.val % 128 < a.val then u else v := mask_lt x a.val (by omega) u v
theorem mask256 (x : Fin 256) (a : Fin 256) (u v : EReal) :
    Scalar.select (IntOp.cmpi CmpIPredicate.slt (BitVec.ofNat 32 (x.val % 128)) (BitVec.ofNat 32 a.val)) u v
      = if x.val % 128 < a.val then u else v := mask_lt x a.val (by omega) u v
theorem mask128 (x : Fin 256) (a : Fin 128) (u v : EReal) :
    Scalar.select (IntOp.cmpi CmpIPredicate.slt (BitVec.ofNat 32 (x.val % 128)) (BitVec.ofNat 32 a.val)) u v
      = if x.val % 128 < a.val then u else v := mask_lt x a.val (by omega) u v

end Cert.Proof.Sb

end
-- ==== Proof.SbReal.lean ====
module

public import proofs.«01_k».proof.Proof.SbRow
public import proofs.«01_k».proof.Proof.SbSpec

/-!
The plain functions of one pair of heads and one block of queries, at real operands: the closed forms of the running
sums and of the three gradients.
-/

@[expose] public section

noncomputable section

namespace Cert.Proof.Sb

open Idealize.ShloMosaic Finset

theorem spl_coe (x : ℝ) : max (x : EReal) 0 + Ideal.log (1 + Ideal.exp (0 - max (x : EReal) (-x))) = (spl x : EReal) := by
  have h1 : max (x : EReal) (-x) = ((|x| : ℝ) : EReal) := by
    rw [← EReal.coe_neg, ← EReal.coe_strictMono.monotone.map_max]; rfl
  have h2 : (0 : EReal) - ((|x| : ℝ) : EReal) = ((-|x| : ℝ) : EReal) := by
    rw [zero_sub, EReal.coe_neg]
  have h3 : (1 : EReal) + ((Real.exp (-|x|) : ℝ) : EReal) = ((1 + Real.exp (-|x|) : ℝ) : EReal) := by
    rw [EReal.coe_add, EReal.coe_one]
  have h4 : max (x : EReal) 0 = ((max x 0 : ℝ) : EReal) := by
    rw [EReal.coe_strictMono.monotone.map_max, EReal.coe_zero]
  rw [h1, h2, Ideal.exp_coe, h3, Ideal.log_coe, if_neg (by have := Real.exp_pos (-|x|); linarith), h4, ← EReal.coe_add]
  rfl

/-- The operands of pair `p` and query block `S.j` are the real operands `R`, packed. -/
structure AtReals (S : Sp) (R : Rows) (p : ℕ) : Prop where
  hj : S.j < 2
  hq : ∀ r < 1024, ∀ d < 128, S.q r d = (R.q (1024 * S.j + r) (128 * p + d) : EReal)
  hg : ∀ r < 1024, ∀ d < 128, S.dO r d = (R.g (1024 * S.j + r) (128 * p + d) : EReal)
  hks : ∀ k < 16, ∀ c < 256, ∀ d < 128, S.ks (256 * k + c) d = if c / 128 = d / 64 then (R.k (128 * k + c % 128) (128 * p + d) : EReal) else 0
  hkt : ∀ k < 16, ∀ d < 128, ∀ c < 256, S.kt k d c = if c / 128 = d / 64 then (R.k (128 * k + c % 128) (128 * p + d) : EReal) else 0
  hvt : ∀ k < 16, ∀ d < 128, ∀ c < 256, S.vt k d c = if c / 128 = d / 64 then (R.v (128 * k + c % 128) (128 * p + d) : EReal) else 0
  hl : ∀ r < 1024, ∀ h < 2, S.lt r (64 * h) = (R.tot (2 * p + h) (1024 * S.j + r) : EReal)
  hup : ∀ x < 256, ∀ c < 256, S.up x c = if x / 128 = c / 128 ∧ x % 128 < c % 128 + 1 then (1 : EReal) else 0
  hbe : ∀ x < 256, ∀ c < 256, S.be x c = if x / 128 = c / 128 ∧ x % 128 < c % 128 then (1 : EReal) else 0

namespace AtReals

variable {S : Sp} {R : Rows} {p : ℕ} (A : AtReals S R p)
include A

theorem z {k r c : ℕ} (hk : k < 16) (hr : r < 1024) (hc : c < 256) :
    S.z k r c = (R.z (2 * p + c / 128) (1024 * S.j + r) (128 * k + c % 128) : EReal) := by
  refine (sum_lane_coe (S.q r) (fun d => S.kt k d c) (fun d => R.q (1024 * S.j + r) (128 * p + d))
    (fun d => R.k (128 * k + c % 128) (128 * p + d)) (c / 128) (by omega) (fun x hx => A.hq r hr x hx) fun x hx => A.hkt k hk x hx c hc).trans ?_
  refine congrArg _ (sum_congr rfl fun i _ => ?_)
  rw [show 128 * p + (64 * (c / 128) + i) = 64 * (2 * p + c / 128) + i by omega]

theorem da {k r c : ℕ} (hk : k < 16) (hr : r < 1024) (hc : c < 256) :
    S.da k r c = (R.da (2 * p + c / 128) (1024 * S.j + r) (128 * k + c % 128) : EReal) := by
  refine (sum_lane_coe (S.dO r) (fun d => S.vt k d c) (fun d => R.g (1024 * S.j + r) (128 * p + d))
    (fun d => R.v (128 * k + c % 128) (128 * p + d)) (c / 128) (by omega) (fun x hx => A.hg r hr x hx) fun x hx => A.hvt k hk x hx c hc).trans ?_
  refine congrArg _ (sum_congr rfl fun i _ => ?_)
  rw [show 128 * p + (64 * (c / 128) + i) = 64 * (2 * p + c / 128) + i by omega]

theorem sp {k r c : ℕ} (hk : k < 16) (hr : r < 1024) (hc : c < 256) :
    S.sp k r c = (spl (R.z (2 * p + c / 128) (1024 * S.j + r) (128 * k + c % 128)) : EReal) := by
  rw [← spl_coe, ← A.z hk hr hc]; rfl

omit A in
theorem M_iff {k r c : ℕ} : S.M k r c ↔ 128 * k + c % 128 < 1024 * S.j + r := by unfold Sp.M; exact Iff.rfl

theorem nlb {k r c : ℕ} (hk : k < 16) (hr : r < 1024) (hc : c < 256) :
    S.nlb k r c = (R.w (2 * p + c / 128) (1024 * S.j + r) (128 * k + c % 128) : EReal) := by
  unfold Sp.nlb Rows.w
  simp only [M_iff, A.sp hk hr hc]
  split_ifs <;> rfl

theorem dotn {k r c : ℕ} (hk : k < 16) (hr : r < 1024) (hc : c < 256) :
    S.dotn k r c = ((∑ i ∈ range (c % 128 + 1), R.w (2 * p + c / 128) (1024 * S.j + r) (128 * k + i) : ℝ) : EReal) := by
  refine (sum_tri (S.nlb k r) (fun x => R.w (2 * p + x / 128) (1024 * S.j + r) (128 * k + x % 128)) (fun x => S.up x c) (c / 128) (c % 128 + 1)
    (by omega) (by omega) (fun x hx => A.nlb hk hr hx) fun x hx => A.hup x hx c hc).trans ?_
  refine congrArg _ (sum_congr rfl fun i hi => ?_)
  rw [mem_range] at hi
  rw [show (128 * (c / 128) + i) / 128 = c / 128 by omega, show (128 * (c / 128) + i) % 128 = i by omega]

theorem P {k r h : ℕ} (hk : k ≤ 16) (hr : r < 1024) (hh : h < 2) :
    S.P k r h = ((∑ s ∈ range (128 * k), R.w (2 * p + h) (1024 * S.j + r) s : ℝ) : EReal) := by
  induction k with
  | zero => rw [S.P_zero]; simp
  | succ k ih =>
    have e : S.P (k + 1) r h = S.dotn k r (128 * h + 127) + S.P k r h := by
      rcases (by omega : h = 0 ∨ h = 1) with rfl | rfl
      · exact S.P_one k r
      · exact S.P_two k r
    rw [e, ih (by omega), A.dotn (by omega) hr (by omega), show (128 * h + 127) % 128 + 1 = 128 by omega,
      show (128 * h + 127) / 128 = h by omega, ← EReal.coe_add, add_comm, sum_block]; rfl

theorem pin {k r c : ℕ} (hk : k < 16) (hr : r < 1024) (hc : c < 256) :
    S.pin k r c = ((∑ i ∈ range (128 * k + c % 128 + 1), R.w (2 * p + c / 128) (1024 * S.j + r) i : ℝ) : EReal) := by
  have e : S.pc k r c = S.P k r (c / 128) := by
    unfold Sp.pc
    by_cases h : c < 128
    · rw [if_pos h, show c / 128 = 0 by omega]
    · rw [if_neg h, show c / 128 = 1 by omega]
  rw [Sp.pin, e, A.P (by omega) hr (by omega), A.dotn hk hr hc, ← EReal.coe_add, add_comm, sum_block, add_assoc]

theorem lth {r c : ℕ} (hr : r < 1024) (hc : c < 256) : S.lth r c = (R.tot (2 * p + c / 128) (1024 * S.j + r) : EReal) := by
  rw [← A.hl r hr (c / 128) (by omega)]
  unfold Sp.lth
  by_cases h : c < 128
  · rw [if_pos h, show c / 128 = 0 by omega]
  · rw [if_neg h, show c / 128 = 1 by omega]

theorem zs {k r c : ℕ} (hk : k < 16) (hr : r < 1024) (hc : c < 256) :
    S.zs k r c = ((R.z (2 * p + c / 128) (1024 * S.j + r) (128 * k + c % 128) - spl (R.z (2 * p + c / 128) (1024 * S.j + r) (128 * k + c % 128)) : ℝ) : EReal) := by
  rw [Sp.zs, A.z hk hr hc, A.sp hk hr hc, ← EReal.coe_sub]

theorem sig {k r c : ℕ} (hk : k < 16) (hr : r < 1024) (hc : c < 256) :
    S.sig k r c = (R.sig (2 * p + c / 128) (1024 * S.j + r) (128 * k + c % 128) : EReal) := by
  rw [Sp.sig, A.zs hk hr hc, Ideal.exp_coe]; rfl

theorem att {k r c : ℕ} (hk : k < 16) (hr : r < 1024) (hc : c < 256) :
    S.att k r c = (R.att (2 * p + c / 128) (1024 * S.j + r) (128 * k + c % 128) : EReal) := by
  unfold Sp.att Sp.attu Rows.att
  simp only [M_iff, A.zs hk hr hc, A.lth hr hc, A.pin hk hr hc, ← EReal.coe_sub, Ideal.exp_coe]
  split_ifs <;> rfl

theorem e {k r c : ℕ} (hk : k < 16) (hr : r < 1024) (hc : c < 256) :
    S.e k r c = (R.e (2 * p + c / 128) (1024 * S.j + r) (128 * k + c % 128) : EReal) := by
  rw [Sp.e, A.att hk hr hc, A.da hk hr hc, ← EReal.coe_mul]; rfl

theorem dote {k r c : ℕ} (hk : k < 16) (hr : r < 1024) (hc : c < 256) :
    S.dote k r c = ((∑ i ∈ range (c % 128), R.e (2 * p + c / 128) (1024 * S.j + r) (128 * k + i) : ℝ) : EReal) := by
  refine (sum_tri (S.e k r) (fun x => R.e (2 * p + x / 128) (1024 * S.j + r) (128 * k + x % 128)) (fun x => S.be x c) (c / 128) (c % 128)
    (by omega) (by omega) (fun x hx => A.e hk hr hx) fun x hx => A.hbe x hx c hc).trans ?_
  refine congrArg _ (sum_congr rfl fun i hi => ?_)
  rw [mem_range] at hi
  rw [show (128 * (c / 128) + i) / 128 = c / 128 by omega, show (128 * (c / 128) + i) % 128 = i by omega]

theorem E {k r h : ℕ} (hk : k ≤ 16) (hr : r < 1024) (hh : h < 2) :
    S.E k r h = ((∑ s ∈ range (128 * k), R.e (2 * p + h) (1024 * S.j + r) s : ℝ) : EReal) := by
  induction k with
  | zero => rw [S.E_zero]; simp
  | succ k ih =>
    have e : S.E (k + 1) r h = (S.dote k r (128 * h + 127) + S.E k r h) + S.e k r (128 * h + 127) := by
      rcases (by omega : h = 0 ∨ h = 1) with rfl | rfl
      · exact S.E_one k r
      · exact S.E_two k r
    rw [e, ih (by omega), A.dote (by omega) hr (by omega), A.e (by omega) hr (by omega), show (128 * h + 127) % 128 = 127 by omega,
      show (128 * h + 127) / 128 = h by omega, ← EReal.coe_add, ← EReal.coe_add, add_comm (∑ i ∈ range 127, _), sum_block, ← sum_range_succ,
      show 128 * k + 127 + 1 = 128 * (k + 1) by omega]

theorem eb {k r c : ℕ} (hk : k < 16) (hr : r < 1024) (hc : c < 256) :
    S.eb k r c = ((∑ i ∈ range (128 * k + c % 128), R.e (2 * p + c / 128) (1024 * S.j + r) i : ℝ) : EReal) := by
  have e : S.ec k r c = S.E k r (c / 128) := by
    unfold Sp.ec
    by_cases h : c < 128
    · rw [if_pos h, show c / 128 = 0 by omega]
    · rw [if_neg h, show c / 128 = 1 by omega]
  rw [Sp.eb, e, A.E (by omega) hr (by omega), A.dote hk hr hc, ← EReal.coe_add, add_comm, sum_block]

theorem dz {k r c : ℕ} (hk : k < 16) (hr : r < 1024) (hc : c < 256) :
    S.dz k r c = (R.dz (2 * p + c / 128) (1024 * S.j + r) (128 * k + c % 128) : EReal) := by
  unfold Sp.dz Sp.dzu Rows.dz
  simp only [M_iff, A.e hk hr hc, A.sig hk hr hc, A.eb hk hr hc, ← EReal.coe_add, ← EReal.coe_mul, ← EReal.coe_sub]
  split_ifs <;> rfl

/-! ### The three gradients -/

theorem DQ_upto {k r d : ℕ} (hk : k ≤ 16) (hr : r < 1024) (hd : d < 128) :
    S.DQ (k + 1) r d = ((∑ s ∈ range (128 * k), R.dz (2 * p + d / 64) (1024 * S.j + r) s * R.k s (128 * p + d) : ℝ) : EReal) := by
  induction k with
  | zero => rw [S.DQ_succ, S.DQ_zero]; simp [S.dzb_zero]
  | succ k ih =>
    have e : (∑ c : Fin 256, S.dz k r c * S.ks (256 * k + c) d)
        = ((∑ i ∈ range 128, R.dz (2 * p + d / 64) (1024 * S.j + r) (128 * k + i) * R.k (128 * k + i) (128 * p + d) : ℝ) : EReal) := by
      have h0 := sum_half (fun x => R.dz (2 * p + x / 128) (1024 * S.j + r) (128 * k + x % 128) * R.k (128 * k + x % 128) (128 * p + d)) (d / 64) 128
        (by omega) le_rfl
      refine Eq.trans ?_ (congrArg _ (h0.trans (sum_congr rfl fun i hi => ?_)))
      · rw [← Reals.coe_sum]
        refine sum_congr rfl fun x _ => ?_
        rw [A.dz (by omega) hr x.isLt, A.hks k (by omega) x x.isLt d hd]
        have : x.val % 128 < 128 := by omega
        by_cases hx : x.val / 128 = d / 64
        · rw [if_pos hx, if_pos ⟨hx, this⟩, ← EReal.coe_mul]
        · rw [if_neg hx, if_neg (fun hh => hx hh.1), mul_zero, EReal.coe_zero]
      · rw [mem_range] at hi
        rw [show (128 * (d / 64) + i) / 128 = d / 64 by omega, show (128 * (d / 64) + i) % 128 = i by omega]
    rw [S.DQ_step, ih (by omega), e, ← EReal.coe_add, sum_block]; rfl

/-- The scaled queries' gradient. -/
theorem DQ {r d : ℕ} (hr : r < 1024) (hd : d < 128) :
    S.DQ (8*S.j+9) r d = (R.dq (1024 * S.j + r) (128 * p + d) : EReal) := by
  have hj := A.hj
  rw [A.DQ_upto (k := 8*S.j+8) (by omega) hr hd]
  refine congrArg _ ?_
  rw [Rows.dq, show (128 * p + d) / 64 = 2 * p + d / 64 by omega]
  exact sum_upto _ _ _ (by omega) fun s hs => by rw [R.dz_of_le (by omega), zero_mul]

omit A in
theorem W12_upto (k t d c : ℕ) : S.W12 (k + 1) t d c = S.w12 t d c + if t < k then ∑ r : Fin 1024, S.q r d * S.dz t r c else 0 := by
  induction k with
  | zero =>
    rw [if_neg (by omega), add_zero]
    by_cases h : t = 0
    · subst h
      have := S.W12_at 0 d c
      rw [this, S.W12_zero]; simp [S.dzb_zero]
    · rw [S.W12_off 0 t d c h, S.W12_zero]
  | succ k ih =>
    by_cases h : t = k
    · subst h
      have e := S.W12_at (t + 1) d c
      rw [Nat.add_sub_cancel, S.dzb_succ] at e
      rw [e, ih, if_neg (lt_irrefl _), add_zero, if_pos (by omega)]
    · rw [S.W12_off (k + 1) t d c h, ih]
      by_cases h' : t < k
      · rw [if_pos h', if_pos (by omega)]
      · rw [if_neg h', if_neg (by omega)]

omit A in
theorem W13_upto (k t d c : ℕ) : S.W13 (k + 1) t d c = S.w13 t d c + if t < k then ∑ r : Fin 1024, S.dO r d * S.att t r c else 0 := by
  induction k with
  | zero =>
    rw [if_neg (by omega), add_zero]
    by_cases h : t = 0
    · subst h
      have := S.W13_at 0 d c
      rw [this, S.W13_zero]; simp [S.atb_zero]
    · rw [S.W13_off 0 t d c h, S.W13_zero]
  | succ k ih =>
    by_cases h : t = k
    · subst h
      have e := S.W13_at (t + 1) d c
      rw [Nat.add_sub_cancel, S.atb_succ] at e
      rw [e, ih, if_neg (lt_irrefl _), add_zero, if_pos (by omega)]
    · rw [S.W13_off (k + 1) t d c h, ih]
      by_cases h' : t < k
      · rw [if_pos h', if_pos (by omega)]
      · rw [if_neg h', if_neg (by omega)]

/-- The key tiles take up the products of this block's queries. -/
theorem W12 {t d c : ℕ} (ht : t < 16) (hd : d < 128) (hc : c < 256) : S.W12 (8*S.j+9) t d c = S.w12 t d c
    + ((∑ r ∈ range 1024, R.q (1024 * S.j + r) (128 * p + d) * R.dz (2 * p + c / 128) (1024 * S.j + r) (128 * t + c % 128) : ℝ) : EReal) := by
  rw [W12_upto (8*S.j+8) t d c]
  refine congrArg _ ?_
  rw [← Fin.sum_univ_eq_sum_range (fun r => R.q (1024 * S.j + r) (128 * p + d) * R.dz (2 * p + c / 128) (1024 * S.j + r) (128 * t + c % 128)), ← Reals.coe_sum]
  split_ifs with h
  · refine sum_congr rfl fun r _ => ?_
    rw [A.hq r r.isLt d hd, A.dz ht r.isLt hc, EReal.coe_mul]
  · refine (sum_eq_zero fun r _ => ?_).symm
    rw [R.dz_of_le (by omega), mul_zero, EReal.coe_zero]

theorem W13 {t d c : ℕ} (ht : t < 16) (hd : d < 128) (hc : c < 256) : S.W13 (8*S.j+9) t d c = S.w13 t d c
    + ((∑ r ∈ range 1024, R.g (1024 * S.j + r) (128 * p + d) * R.att (2 * p + c / 128) (1024 * S.j + r) (128 * t + c % 128) : ℝ) : EReal) := by
  rw [W13_upto (8*S.j+8) t d c]
  refine congrArg _ ?_
  rw [← Fin.sum_univ_eq_sum_range (fun r => R.g (1024 * S.j + r) (128 * p + d) * R.att (2 * p + c / 128) (1024 * S.j + r) (128 * t + c % 128)), ← Reals.coe_sum]
  split_ifs with h
  · refine sum_congr rfl fun r _ => ?_
    rw [A.hg r r.isLt d hd, A.att ht r.isLt hc, EReal.coe_mul]
  · refine (sum_eq_zero fun r _ => ?_).symm
    rw [R.att_of_le (by omega), mul_zero, EReal.coe_zero]

end AtReals

end Cert.Proof.Sb

end
-- ==== Proof.SbHost.lean ====
module

public import proofs.«01_k».proof.Proof.SbFrame
public import proofs.«01_k».proof.Proof.SbReal
public import Idealize.ShloMosaic.Lib.StableHlo.RunRead

/-!
What the host lines before the region prepare, entry by entry, for arguments that are real numbers: the scaled
queries, the stacked and the packed keys and values, the rows' totals, and the two triangles.
-/

@[expose] public section

set_option maxRecDepth 16384

noncomputable section

namespace Cert.Proof.Sb

open Cert.KernelIdeal Cert.KernelIdeal.Gen
open Idealize.ShloMosaic Idealize.ShloMosaic.TcCoe

/-- An array's entry at any position and lane. -/
def at2 (t d : ℕ) : S2048x512.Idx := ix2 ⟨t % 2048, Nat.mod_lt _ (by decide)⟩ ⟨d % 512, Nat.mod_lt _ (by decide)⟩

theorem at2_eq {t d : ℕ} (s : Fin 2048) (e : Fin 512) (hs : s.val = t) (he : e.val = d) : at2 t d = ix2 s e := by
  subst hs he
  unfold at2
  congr 1 <;> apply Fin.ext <;> dsimp only
  · exact Nat.mod_eq_of_lt s.isLt
  · exact Nat.mod_eq_of_lt e.isLt

/-- The four real arrays as rows, the queries scaled. -/
def rows (q k v g : S2048x512.Idx → ℝ) : Rows where
  q t d := q (at2 t d) * (1 / 8)
  k t d := k (at2 t d)
  v t d := v (at2 t d)
  g t d := g (at2 t d)

theorem rows_q {q k v g : S2048x512.Idx → ℝ} {t d : ℕ} (s : Fin 2048) (e : Fin 512) (hs : s.val = t) (he : e.val = d) :
    (rows q k v g).q t d = q (ix2 s e) * (1 / 8) := by
  show q (at2 t d) * (1 / 8) = _; rw [at2_eq s e hs he]
theorem rows_k {q k v g : S2048x512.Idx → ℝ} {t d : ℕ} (s : Fin 2048) (e : Fin 512) (hs : s.val = t) (he : e.val = d) :
    (rows q k v g).k t d = k (ix2 s e) := by
  show k (at2 t d) = _; rw [at2_eq s e hs he]
theorem rows_v {q k v g : S2048x512.Idx → ℝ} {t d : ℕ} (s : Fin 2048) (e : Fin 512) (hs : s.val = t) (he : e.val = d) :
    (rows q k v g).v t d = v (ix2 s e) := by
  show v (at2 t d) = _; rw [at2_eq s e hs he]
theorem rows_g {q k v g : S2048x512.Idx → ℝ} {t d : ℕ} (s : Fin 2048) (e : Fin 512) (hs : s.val = t) (he : e.val = d) :
    (rows q k v g).g t d = g (ix2 s e) := by
  show g (at2 t d) = _; rw [at2_eq s e hs he]

theorem lit_eighth : Ideal.ofBits .f32 1040187392#32 = ((1 / 8 : ℝ) : EReal) := by
  simp [Ideal.ofBits, Ideal.ieee, -EReal.coe_mul]; norm_num

/-- The lane lies in the even head of its pair. -/
theorem lane_even : ∀ d < 512, IntOp.cmpi CmpIPredicate.slt
        (Scalar.select
          (IntOp.andi
            (IntOp.cmpi CmpIPredicate.ne
              (IntOp.cmpi CmpIPredicate.slt
                (IntOp.remsi ArithUnit.host (BitVec.ofNat 32 d)
                  (Scalar.select (IntOp.cmpi CmpIPredicate.eq 128#32 0#32) 1#32 128#32))
                0#32)
              (IntOp.cmpi CmpIPredicate.slt (Scalar.select (IntOp.cmpi CmpIPredicate.eq 128#32 0#32) 1#32 128#32) 0#32))
            (IntOp.cmpi CmpIPredicate.ne
              (IntOp.remsi ArithUnit.host (BitVec.ofNat 32 d)
                (Scalar.select (IntOp.cmpi CmpIPredicate.eq 128#32 0#32) 1#32 128#32))
              0#32))
          (IntOp.addi
            (IntOp.remsi ArithUnit.host (BitVec.ofNat 32 d)
              (Scalar.select (IntOp.cmpi CmpIPredicate.eq 128#32 0#32) 1#32 128#32))
            (Scalar.select (IntOp.cmpi CmpIPredicate.eq 128#32 0#32) 1#32 128#32))
          (IntOp.remsi ArithUnit.host (BitVec.ofNat 32 d)
            (Scalar.select (IntOp.cmpi CmpIPredicate.eq 128#32 0#32) 1#32 128#32)))
        64#32 = if d % 128 < 64 then 1#1 else 0#1 := by
  decide +kernel

/-- The half a column lies in. -/
theorem half_of : ∀ s < 256, Scalar.select
            (IntOp.andi
              (IntOp.cmpi CmpIPredicate.ne
                (if BitVec.ofNat 32 s = 0 then (0 : BitVec 32) else if (BitVec.ofNat 32 s).msb = true then (-1 : BitVec 32) else 1)
                (if 128#32 = 0 then (0 : BitVec 32) else if (128#32).msb = true then (-1 : BitVec 32) else 1))
              (IntOp.cmpi CmpIPredicate.ne (IntOp.remsi ArithUnit.host (BitVec.ofNat 32 s) 128#32) 0#32))
            (IntOp.subi (IntOp.divsi ArithUnit.host (BitVec.ofNat 32 s) 128#32) 1#32)
            (IntOp.divsi ArithUnit.host (BitVec.ofNat 32 s) 128#32) = BitVec.ofNat 32 (s / 128) := by
  decide +kernel

theorem half_eq (a b : Fin 2) : IntOp.cmpi CmpIPredicate.eq (BitVec.ofNat 32 a.val) (BitVec.ofNat 32 b.val) = if a = b then 1#1 else 0#1 := by
  revert a b; decide +kernel

theorem toInt_fin (n : ℕ) (h : n < 4096) : (BitVec.ofNat 32 n).toInt = (n : ℤ) := by
  rw [BitVec.toInt_eq_toNat_of_lt]
  · rw [BitVec.toNat_ofNat, Nat.mod_eq_of_lt (by omega)]
  · rw [BitVec.toNat_ofNat, Nat.mod_eq_of_lt (by omega)]; omega

theorem cmp_lt (a b : ℕ) (ha : a < 4096) (hb : b < 4096) :
    IntOp.cmpi CmpIPredicate.slt (BitVec.ofNat 32 a) (BitVec.ofNat 32 b) = if a < b then 1#1 else 0#1 := by
  simp only [IntOp.cmpi, BitVec.slt, toInt_fin a ha, toInt_fin b hb]
  by_cases h : a < b
  · rw [if_pos h, decide_eq_true (by exact_mod_cast h)]; rfl
  · rw [if_neg h, decide_eq_false (by exact_mod_cast h)]; rfl

theorem cmp_le (a b : ℕ) (ha : a < 4096) (hb : b < 4096) :
    IntOp.cmpi CmpIPredicate.sle (BitVec.ofNat 32 a) (BitVec.ofNat 32 b) = if a ≤ b then 1#1 else 0#1 := by
  simp only [IntOp.cmpi, BitVec.sle, toInt_fin a ha, toInt_fin b hb]
  by_cases h : a ≤ b
  · rw [if_pos h, decide_eq_true (by exact_mod_cast h)]; rfl
  · rw [if_neg h, decide_eq_false (by exact_mod_cast h)]; rfl

theorem pick {α : Type} (p : Prop) [Decidable p] (x y : α) : Scalar.select (if p then 1#1 else 0#1) x y = if p then x else y := by
  split_ifs <;> rfl

theorem both (p r : Prop) [Decidable p] [Decidable r] :
    IntOp.andi (if p then 1#1 else 0#1) (if r then 1#1 else 0#1) = if p ∧ r then 1#1 else 0#1 := by
  by_cases hp : p <;> by_cases hr : r <;> simp [hp, hr, IntOp.andi]

/-- The softplus the host lines print, with its guard. -/
theorem sp_host (x : ℝ) : (if - -(x : EReal) ≠ - -(x : EReal) then - -(x : EReal)
    else max (- -(x : EReal)) 0 + Ideal.log1p (Ideal.exp (-FloatOps.absf (F := Ideal) (φ := .f32) (- -(x : EReal))))) = (spl x : EReal) := by
  rw [if_neg (not_not.mpr rfl), neg_neg, ← spl_coe, zero_sub]; rfl

variable {m : (ℓ : Loc nD τ sig) → Buf (Elt Ideal) ℓ} {c : Dev nD} {q k v g : S2048x512.Idx → ℝ}

/-- The four arguments are real. -/
structure RealArgs (m : (ℓ : Loc nD τ sig) → Buf (Elt Ideal) ℓ) (c : Dev nD) (q k v g : S2048x512.Idx → ℝ) : Prop where
  hq : ∀ i, m (c, Proc.devRef .tc main_arg0) i = (q i : EReal)
  hk : ∀ i, m (c, Proc.devRef .tc main_arg1) i = (k i : EReal)
  hv : ∀ i, m (c, Proc.devRef .tc main_arg2) i = (v i : EReal)
  hg : ∀ i, m (c, Proc.devRef .tc main_arg3) i = (g i : EReal)

/-- A score, as the host lines compute it. -/
theorem score (a b : S2048x512.Idx → EReal) (ha : ∀ i, a i = (q i : EReal)) (hb : ∀ i, b i = (k i : EReal)) (s x : Fin 2048) (d : Fin 512) (f : Fin 64 → Fin 512) (hf : ∀ e, (f e).val = d.val / 64 * 64 + e.val) :
    (∑ e : Fin 64, a (ix2 s (f e)) * b (ix2 x (f e))) * Ideal.ofBits .f32 1040187392#32
      = ((rows q k v g).z (d.val / 64) s.val x.val : EReal) := by
  simp only [ha, hb, lit_eighth, ← EReal.coe_mul, Reals.coe_sum]
  refine congrArg _ ?_
  unfold Rows.z
  rw [← Fin.sum_univ_eq_sum_range (fun e => (rows q k v g).q s.val (64 * (d.val / 64) + e) * (rows q k v g).k x.val (64 * (d.val / 64) + e)), Finset.sum_mul]
  refine Finset.sum_congr rfl fun e _ => ?_
  rw [rows_q s (f e) rfl (by rw [hf]; omega), rows_k x (f e) rfl (by rw [hf]; omega)]
  ring

section
variable (A : RealArgs m c q k v g)
include A

theorem in_q (s : Fin 2048) (d : Fin 512) : V m c main_v2 (ix2 s d) = ((rows q k v g).q s.val d.val : EReal) := by
  after_reads_simp
  pointwise
  rw [A.hq, lit_eighth, ← EReal.coe_mul, rows_q s d rfl rfl]

theorem in_g (s : Fin 2048) (d : Fin 512) : V m c main_arg3 (ix2 s d) = ((rows q k v g).g s.val d.val : EReal) := by
  rw [V_main_arg3, rows_g s d rfl rfl]
  exact A.hg _

theorem in_ks (s : Fin 4096) (d : Fin 512) : V m c main_v45 (ix2 s d)
    = if s.val % 256 / 128 = d.val % 128 / 64 then ((rows q k v g).k (s.val / 256 * 128 + s.val % 256 % 128) d.val : EReal) else 0 := by
  after_reads_simp
  pointwise
  have hs := s.isLt
  split
  · after_reads_simp; simp only [StableHlo.TRef.toBuf, StableHlo.TRef.ofBuf, cast_eq, id_eq]
    pointwise
    rw [lane_even _ (by omega), pick, A.hk, rows_k (q := q) (v := v) (g := g) ⟨s.val / 256 * 128 + s.val % 256, by omega⟩ d (by dsimp only; omega) rfl]
    exact if_congr (by omega) rfl rfl
  · after_reads_simp; simp only [StableHlo.TRef.toBuf, StableHlo.TRef.ofBuf, cast_eq, id_eq]
    pointwise
    rw [lane_even _ (by omega), pick, A.hk, rows_k (q := q) (v := v) (g := g) ⟨s.val / 256 * 128 + (s.val % 256 - 128), by omega⟩ d (by dsimp only; omega) rfl, ← ite_not]
    exact if_congr (by omega) rfl rfl

theorem in_kt (p : Fin 4) (s : Fin 16) (d : Fin 128) (e : Fin 256) : V m c main_v48 (ix4 p s d e)
    = if e.val / 128 = d.val / 64 then ((rows q k v g).k (128 * s.val + e.val % 128) (128 * p.val + d.val) : EReal) else 0 := by
  after_reads_simp
  pointwise
  have hs := s.isLt
  have he := e.isLt
  have hp := p.isLt
  have hd := d.isLt
  split
  · after_reads_simp; simp only [StableHlo.TRef.toBuf, StableHlo.TRef.ofBuf, cast_eq, id_eq]
    pointwise
    rw [lane_even _ (by omega), pick, A.hk, rows_k (q := q) (v := v) (g := g) ⟨s.val * 128 + e.val, by omega⟩ ⟨p.val * 128 + d.val, by omega⟩ (by dsimp only; omega) (by dsimp only; omega)]
    exact if_congr (by omega) rfl rfl
  · after_reads_simp; simp only [StableHlo.TRef.toBuf, StableHlo.TRef.ofBuf, cast_eq, id_eq]
    pointwise
    rw [lane_even _ (by omega), pick, A.hk, rows_k (q := q) (v := v) (g := g) ⟨s.val * 128 + (e.val - 128), by omega⟩ ⟨p.val * 128 + d.val, by omega⟩ (by dsimp only; omega) (by dsimp only; omega), ← ite_not]
    exact if_congr (by omega) rfl rfl

theorem in_vt (p : Fin 4) (s : Fin 16) (d : Fin 128) (e : Fin 256) : V m c main_v51 (ix4 p s d e)
    = if e.val / 128 = d.val / 64 then ((rows q k v g).v (128 * s.val + e.val % 128) (128 * p.val + d.val) : EReal) else 0 := by
  after_reads_simp
  pointwise
  have hs := s.isLt
  have he := e.isLt
  have hp := p.isLt
  have hd := d.isLt
  split
  · after_reads_simp; simp only [StableHlo.TRef.toBuf, StableHlo.TRef.ofBuf, cast_eq, id_eq]
    pointwise
    rw [lane_even _ (by omega), pick, A.hv, rows_v (q := q) (k := k) (g := g) ⟨s.val * 128 + e.val, by omega⟩ ⟨p.val * 128 + d.val, by omega⟩ (by dsimp only; omega) (by dsimp only; omega)]
    exact if_congr (by omega) rfl rfl
  · after_reads_simp; simp only [StableHlo.TRef.toBuf, StableHlo.TRef.ofBuf, cast_eq, id_eq]
    pointwise
    rw [lane_even _ (by omega), pick, A.hv, rows_v (q := q) (k := k) (g := g) ⟨s.val * 128 + (e.val - 128), by omega⟩ ⟨p.val * 128 + d.val, by omega⟩ (by dsimp only; omega) (by dsimp only; omega), ← ite_not]
    exact if_congr (by omega) rfl rfl

theorem in_lt (s : Fin 2048) (d : Fin 512) : V m c main_v44 (ix2 s d) = ((rows q k v g).tot (d.val / 64) s.val : EReal) := by
  after_reads_simp; simp only [StableHlo.TRef.toBuf, StableHlo.TRef.ofBuf, cast_eq, id_eq]
  pointwise
  have hz := fun x : Fin 2048 => score (v := v) (g := g) _ _ A.hq A.hk s x d (fun e => ⟨d.val / 64 * 64 + e.val, by omega⟩) fun e => rfl
  simp only [hz, sp_host]
  unfold Rows.tot
  rw [← Fin.sum_univ_eq_sum_range (fun x => (rows q k v g).w (d.val / 64) s.val x)]
  refine Eq.trans (b := -((-∑ x : Fin 2048, (rows q k v g).w (d.val / 64) s.val x.val : ℝ) : EReal)) ?_ (by rw [← EReal.coe_neg, neg_neg])
  rw [← Finset.sum_neg_distrib, ← Reals.coe_sum]
  refine congrArg _ (Finset.sum_congr rfl fun x _ => ?_)
  rw [cmp_lt _ _ (by omega) (by omega), pick]
  unfold Rows.w
  split_ifs
  · rw [EReal.coe_neg]
  · rw [neg_zero, EReal.coe_zero]
end

theorem in_up (s : Fin 256) (d : Fin 256) : V m c main_v63 (ix2 s d)
    = if s.val / 128 = d.val / 128 ∧ s.val % 128 < d.val % 128 + 1 then (1 : EReal) else 0 := by
  after_reads_simp; simp only [StableHlo.TRef.toBuf, StableHlo.TRef.ofBuf, cast_eq, id_eq]
  pointwise
  have h := half_eq ⟨s.val / 128, by omega⟩ ⟨d.val / 128, by omega⟩
  dsimp only at h
  refine (congrArg (fun b => Scalar.select b (1 : EReal) 0) (congrArg₂ IntOp.andi ((congrArg₂ (IntOp.cmpi .eq) (half_of _ s.isLt)
    (half_of _ d.isLt)).trans h) (cmp_le _ _ (by omega) (by omega)))).trans ?_
  rw [both, pick]
  exact if_congr (by rw [Fin.mk.injEq]; omega) rfl rfl

theorem in_be (s : Fin 256) (d : Fin 256) : V m c main_v74 (ix2 s d)
    = if s.val / 128 = d.val / 128 ∧ s.val % 128 < d.val % 128 then (1 : EReal) else 0 := by
  after_reads_simp; simp only [StableHlo.TRef.toBuf, StableHlo.TRef.ofBuf, cast_eq, id_eq]
  pointwise
  have h := half_eq ⟨s.val / 128, by omega⟩ ⟨d.val / 128, by omega⟩
  dsimp only at h
  refine (congrArg (fun b => Scalar.select b (1 : EReal) 0) (congrArg₂ IntOp.andi ((congrArg₂ (IntOp.cmpi .eq) (half_of _ s.isLt)
    (half_of _ d.isLt)).trans h) (cmp_lt _ _ (by omega) (by omega)))).trans ?_
  rw [both, pick]
  exact if_congr (by rw [Fin.mk.injEq]; omega) rfl rfl

end Cert.Proof.Sb

end
-- ==== Proof.SbPayT.lean ====
module

public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v7 v9 : FVec Ideal S1024x128 .bf16} {v1873 v1877 : Vec Ideal S1x1x128x256 .bf16} {v1882 v1896 : Vec Ideal
  S1x1024x256 .bf16} {v12 v14 : FVec Ideal S128x1024 .bf16} {v1885 v1894 : Vec Ideal S1x1x128x256 .f32} {v1899 : FVec
  Ideal S128x256 .f32} {v1883 : FVec Ideal S1024x256 .bf16} {v1907 : Vec Ideal S256x128 .bf16} {v1911 v1940 v1972
  v2001 : Vec Ideal S1x512x256 .f32} {v25 v27 : FVec Ideal S256x256 .bf16} {v23 v1875 v1879 : FVec Ideal S1024x256
  .f32} {v1942 v1934 v1939 v1932 v1985 v1973 v1983 : FVec Ideal S512x256 .f32} {v1986 v1964 v2025 v1965 v2026 v1968
  v2029 v1971 v2032 : FVec Ideal S512x1 .f32}
variable (S : Sp) (k : ℕ) (hk : k < 8*S.j)
include S k hk

theorem pay1 (h7 : Mat v7 S.q) (h1873 : Tile v1873 (S.kt (k + 1))) :
    Mat (k0_pay1 v7 v1873) (S.z (k + 1)) := by
  intro a c
  simp only [k0_pay1]
  pointwise
  simp only [h7, h1873, Sp.z]

theorem pay2 (h9 : Mat v9 S.dO) (h1877 : Tile v1877 (S.vt (k + 1))) :
    Mat (k0_pay2 v9 v1877) (S.da (k + 1)) := by
  intro a c
  simp only [k0_pay2]
  pointwise
  simp only [h9, h1877, Sp.da]

theorem pay3 (h1882 : Mat3 v1882 (S.dzb k)) :
    Mat (k0_pay3 v1882) (S.dzb k) := by
  intro a c
  simp only [k0_pay3]
  pointwise
  simp only [h1882]

theorem pay4 (w : ℕ → ℕ → EReal) (h12 : Mat v12 fun a c => S.q c a) (h1882 : Mat3 v1882 (S.dzb k)) (h1885 : Tile v1885 w) :
    Tile (k0_pay4 v12 v1882 v1885) fun a c => w a c + ∑ r : Fin 1024, S.q r a * S.dzb k r c := by
  intro a c
  simp only [k0_pay4]
  pointwise
  simp only [h12, h1885, pay3 S k hk h1882]

theorem pay5 (w : ℕ → ℕ → EReal) (h14 : Mat v14 fun a c => S.dO c a) (h1894 : Tile v1894 w) (h1896 : Mat3 v1896 (S.atb k)) :
    Mat (k0_pay5 v14 v1894 v1896) fun a c => w a c + ∑ r : Fin 1024, S.dO r a * S.atb k r c := by
  intro a c
  simp only [k0_pay5]
  pointwise
  simp only [h14, h1894, h1896]

theorem pay6 (w : ℕ → ℕ → EReal) (h1899 : Mat v1899 w) :
    Tile (k0_pay6 v1899) w := by
  intro a c
  simp only [k0_pay6]
  pointwise
  simp only [h1899]

theorem pay7 {arg19 : FVec Ideal S1024x128 .f32} (ha19 : Mat arg19 (S.DQ k)) (h1883 : Mat v1883 (S.dzb k)) (h1907 : Mat v1907 fun a c => S.ks (256 * (k - 1) + a) c) :
    Mat (k0_pay7 arg19 v1883 v1907) (S.DQ (k + 1)) := by
  intro a c
  simp only [k0_pay7]
  pointwise
  simp only [ha19, h1883, h1907]
  exact (S.DQ_succ _ _ _).symm

theorem pay8 (h1911 : Mat3 v1911 (S.z k)) :
    Mat (k0_pay8 v1911) (S.z k) := by
  intro a c
  simp only [k0_pay8]
  pointwise
  simp only [h1911]

theorem pay9 (h1911 : Mat3 v1911 (S.z k)) :
    Mat (k0_pay9 v1911) (S.sp k) := by
  intro a c
  simp only [k0_pay9]
  pointwise
  simp only [pay8 S k hk h1911, Sp.mx, Sp.ab, Sp.ex, Sp.sp]

theorem pay10 {arg20 : FVec Ideal S1024x1 .f32} {arg21 : FVec Ideal S1024x1 .f32} (h25 : Mat v25 S.up) (ha20 : Col arg20 fun a => S.P k a 0) (ha21 : Col arg21 fun a => S.P k a 1) (h1911 : Mat3 v1911 (S.z k)) :
    Mat (k0_pay10 v25 arg20 arg21 v1911) (S.pin k) := by
  intro a c
  simp only [k0_pay10]
  pointwise
  have hM : ∀ c : ℕ, S.M k a.val c ↔ True := fun c => iff_true_intro (by unfold Sp.M; omega)
  simp only [h25, ha20, ha21, pay9 S k hk h1911, Sp.nlb, Sp.dotn, Sp.pc, Sp.pin, hM, if_true]
  rfl

theorem pay11 (h1911 : Mat3 v1911 (S.z k)) :
    Mat (k0_pay11 v1911) (S.sig k) := by
  intro a c
  simp only [k0_pay11]
  pointwise
  simp only [pay8 S k hk h1911, pay9 S k hk h1911, Sp.zs, Sp.sig]

theorem pay12 {arg20 : FVec Ideal S1024x1 .f32} {arg21 : FVec Ideal S1024x1 .f32} (h23 : Mat v23 S.lth) (h25 : Mat v25 S.up) (ha20 : Col arg20 fun a => S.P k a 0) (ha21 : Col arg21 fun a => S.P k a 1) (h1911 : Mat3 v1911 (S.z k)) :
    Mat (k0_pay12 v23 v25 arg20 arg21 v1911) (S.att k) := by
  intro a c
  simp only [k0_pay12]
  pointwise
  have hM : ∀ c : ℕ, S.M k a.val c ↔ True := fun c => iff_true_intro (by unfold Sp.M; omega)
  simp only [h23, pay8 S k hk h1911, pay9 S k hk h1911, pay10 S k hk h25 ha20 ha21 h1911, Sp.lth, Sp.zs, Sp.attu, Sp.att, hM, if_true]

theorem pay13 {arg20 : FVec Ideal S1024x1 .f32} {arg21 : FVec Ideal S1024x1 .f32} (h23 : Mat v23 S.lth) (h25 : Mat v25 S.up) (ha20 : Col arg20 fun a => S.P k a 0) (ha21 : Col arg21 fun a => S.P k a 1) (h1911 : Mat3 v1911 (S.z k)) (h1940 : Mat3 v1940 (S.da k)) :
    Mat (k0_pay13 v23 v25 arg20 arg21 v1911 v1940) (S.e k) := by
  intro a c
  simp only [k0_pay13]
  pointwise
  simp only [h1940, pay12 S k hk h23 h25 ha20 ha21 h1911, Sp.e]

theorem pay14 {arg22 : FVec Ideal S1024x1 .f32} {arg23 : FVec Ideal S1024x1 .f32} (h27 : Mat v27 S.be) (ha22 : Col arg22 fun a => S.E k a 0) (ha23 : Col arg23 fun a => S.E k a 1) (h1942 : Mat v1942 (S.e k)) :
    Mat (k0_pay14 v27 arg22 arg23 v1942) (S.eb k) := by
  intro a c
  simp only [k0_pay14]
  pointwise
  simp only [h27, ha22, ha23, h1942, Sp.dote, Sp.ec, Sp.eb]
  rfl

theorem pay15 {arg22 : FVec Ideal S1024x1 .f32} {arg23 : FVec Ideal S1024x1 .f32} (h27 : Mat v27 S.be) (ha22 : Col arg22 fun a => S.E k a 0) (ha23 : Col arg23 fun a => S.E k a 1) (h1934 : Mat v1934 (S.sig k)) (h1942 : Mat v1942 (S.e k)) :
    Mat3 (k0_pay15 v27 arg22 arg23 v1934 v1942) (S.dz k) := by
  intro a c
  simp only [k0_pay15]
  pointwise
  have hM : ∀ c : ℕ, S.M k a.val c ↔ True := fun c => iff_true_intro (by unfold Sp.M; omega)
  simp only [h1934, h1942, pay14 S k hk h27 ha22 ha23 h1942, Sp.dzu, Sp.dz, hM, if_true]

theorem pay16 (h1939 : Mat v1939 (S.att k)) :
    Mat3 (k0_pay16 v1939) (S.att k) := by
  intro a c
  simp only [k0_pay16]
  pointwise
  simp only [h1939]

theorem pay17 (h1932 : Mat v1932 (S.pin k)) :
    Col (k0_pay17 v1932) fun a => S.P (k + 1) a 0 := by
  intro a
  simp only [k0_pay17]
  pointwise
  simp only [h1932]
  simp (disch := omega) [Sp.pin_one]

theorem pay18 (h1932 : Mat v1932 (S.pin k)) :
    Col (k0_pay18 v1932) fun a => S.P (k + 1) a 1 := by
  intro a
  simp only [k0_pay18]
  pointwise
  simp only [h1932]
  simp (disch := omega) [Sp.pin_two]

theorem pay19 {arg22 : FVec Ideal S1024x1 .f32} {arg23 : FVec Ideal S1024x1 .f32} (h27 : Mat v27 S.be) (ha22 : Col arg22 fun a => S.E k a 0) (ha23 : Col arg23 fun a => S.E k a 1) (h1942 : Mat v1942 (S.e k)) :
    Col (k0_pay19 v27 arg22 arg23 v1942) fun a => S.E (k + 1) a 0 := by
  intro a
  simp only [k0_pay19]
  pointwise
  simp only [h1942, pay14 S k hk h27 ha22 ha23 h1942]
  simp (disch := omega) [Sp.eb_one]

theorem pay20 {arg22 : FVec Ideal S1024x1 .f32} {arg23 : FVec Ideal S1024x1 .f32} (h27 : Mat v27 S.be) (ha22 : Col arg22 fun a => S.E k a 0) (ha23 : Col arg23 fun a => S.E k a 1) (h1942 : Mat v1942 (S.e k)) :
    Col (k0_pay20 v27 arg22 arg23 v1942) fun a => S.E (k + 1) a 1 := by
  intro a
  simp only [k0_pay20]
  pointwise
  simp only [h1942, pay14 S k hk h27 ha22 ha23 h1942]
  simp (disch := omega) [Sp.eb_two]

theorem pay21 (h1972 : Mat3 v1972 fun a c => S.z k (512 + a) c) :
    Mat (k0_pay21 v1972) fun a c => S.z k (512 + a) c := by
  intro a c
  simp only [k0_pay21]
  pointwise
  simp only [h1972]

theorem pay22 (h1972 : Mat3 v1972 fun a c => S.z k (512 + a) c) :
    Mat (k0_pay22 v1972) fun a c => S.sp k (512 + a) c := by
  intro a c
  simp only [k0_pay22]
  pointwise
  simp only [pay21 S k hk h1972, Sp.mx, Sp.ab, Sp.ex, Sp.sp]

theorem pay23 (h25 : Mat v25 S.up) (h1972 : Mat3 v1972 fun a c => S.z k (512 + a) c) :
    Mat (k0_pay23 v25 v1972) fun a c => S.dotn k (512 + a) c := by
  intro a c
  simp only [k0_pay23]
  pointwise
  have hM : ∀ c : ℕ, S.M k (512 + a.val) c ↔ True := fun c => iff_true_intro (by unfold Sp.M; omega)
  simp only [h25, pay22 S k hk h1972, Sp.nlb, Sp.dotn, hM, if_true]

theorem pay24 {arg20 : FVec Ideal S1024x1 .f32} (ha20 : Col arg20 fun a => S.P k a 0) :
    Col (k0_pay24 arg20) fun a => S.P k (512 + a) 0 := by
  intro a
  simp only [k0_pay24]
  pointwise
  simp only [ha20]

theorem pay25 {arg21 : FVec Ideal S1024x1 .f32} (ha21 : Col arg21 fun a => S.P k a 1) (h1985 : Mat v1985 fun a c => S.dotn k (512 + a) c) (h1986 : Col v1986 fun a => S.P k (512 + a) 0) :
    Mat (k0_pay25 arg21 v1985 v1986) fun a c => S.pin k (512 + a) c := by
  intro a c
  simp only [k0_pay25]
  pointwise
  simp only [ha21, h1985, h1986, Sp.pc, Sp.pin]
  rfl

theorem pay26 {arg21 : FVec Ideal S1024x1 .f32} (h23 : Mat v23 S.lth) (ha21 : Col arg21 fun a => S.P k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) :
    Mat (k0_pay26 v23 arg21 v1973 v1983 v1985 v1986) fun a c => S.att k (512 + a) c := by
  intro a c
  simp only [k0_pay26]
  pointwise
  have hM : ∀ c : ℕ, S.M k (512 + a.val) c ↔ True := fun c => iff_true_intro (by unfold Sp.M; omega)
  simp only [h23, h1973, h1983, pay25 S k hk ha21 h1985 h1986, Sp.lth, Sp.zs, Sp.attu, Sp.att, hM, if_true]

theorem pay27 {arg21 : FVec Ideal S1024x1 .f32} (h23 : Mat v23 S.lth) (ha21 : Col arg21 fun a => S.P k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) (h2001 : Mat3 v2001 fun a c => S.da k (512 + a) c) :
    Mat (k0_pay27 v23 arg21 v1973 v1983 v1985 v1986 v2001) fun a c => S.e k (512 + a) c := by
  intro a c
  simp only [k0_pay27]
  pointwise
  simp only [h2001, pay26 S k hk h23 ha21 h1973 h1983 h1985 h1986, Sp.e]

theorem pay28 {arg21 : FVec Ideal S1024x1 .f32} {arg22 : FVec Ideal S1024x1 .f32} {arg23 : FVec Ideal S1024x1 .f32} (h23 : Mat v23 S.lth) (h27 : Mat v27 S.be) (ha21 : Col arg21 fun a => S.P k a 1) (ha22 : Col arg22 fun a => S.E k a 0) (ha23 : Col arg23 fun a => S.E k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) (h2001 : Mat3 v2001 fun a c => S.da k (512 + a) c) :
    Mat (k0_pay28 v23 v27 arg21 arg22 arg23 v1973 v1983 v1985 v1986 v2001) fun a c => S.eb k (512 + a) c := by
  intro a c
  simp only [k0_pay28]
  pointwise
  simp only [h27, ha22, ha23, pay27 S k hk h23 ha21 h1973 h1983 h1985 h1986 h2001, Sp.dote, Sp.ec, Sp.eb]
  rfl

theorem pay29 {arg21 : FVec Ideal S1024x1 .f32} {arg22 : FVec Ideal S1024x1 .f32} {arg23 : FVec Ideal S1024x1 .f32} (h23 : Mat v23 S.lth) (h27 : Mat v27 S.be) (ha21 : Col arg21 fun a => S.P k a 1) (ha22 : Col arg22 fun a => S.E k a 0) (ha23 : Col arg23 fun a => S.E k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) (h2001 : Mat3 v2001 fun a c => S.da k (512 + a) c) :
    Mat3 (k0_pay29 v23 v27 arg21 arg22 arg23 v1973 v1983 v1985 v1986 v2001) fun a c => S.dz k (512 + a) c := by
  intro a c
  simp only [k0_pay29]
  pointwise
  have hM : ∀ c : ℕ, S.M k (512 + a.val) c ↔ True := fun c => iff_true_intro (by unfold Sp.M; omega)
  simp only [h1973, h1983, pay27 S k hk h23 ha21 h1973 h1983 h1985 h1986 h2001, pay28 S k hk h23 h27 ha21 ha22 ha23 h1973 h1983 h1985 h1986 h2001, Sp.zs, Sp.sig, Sp.dzu, Sp.dz, hM, if_true]

theorem pay30 {arg21 : FVec Ideal S1024x1 .f32} (h23 : Mat v23 S.lth) (ha21 : Col arg21 fun a => S.P k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) :
    Mat3 (k0_pay30 v23 arg21 v1973 v1983 v1985 v1986) fun a c => S.att k (512 + a) c := by
  intro a c
  simp only [k0_pay30]
  pointwise
  simp only [pay26 S k hk h23 ha21 h1973 h1983 h1985 h1986]

theorem pay31 {arg21 : FVec Ideal S1024x1 .f32} (ha21 : Col arg21 fun a => S.P k a 1) (h1985 : Mat v1985 fun a c => S.dotn k (512 + a) c) (h1986 : Col v1986 fun a => S.P k (512 + a) 0) :
    Col (k0_pay31 arg21 v1985 v1986) fun a => S.P (k + 1) (512 + a) 0 := by
  intro a
  simp only [k0_pay31]
  pointwise
  simp only [pay25 S k hk ha21 h1985 h1986]
  simp (disch := omega) [Sp.pin_one, Sp.P_one]

theorem pay32 {arg21 : FVec Ideal S1024x1 .f32} (ha21 : Col arg21 fun a => S.P k a 1) (h1985 : Mat v1985 fun a c => S.dotn k (512 + a) c) (h1986 : Col v1986 fun a => S.P k (512 + a) 0) :
    Col (k0_pay32 arg21 v1985 v1986) fun a => S.P (k + 1) (512 + a) 1 := by
  intro a
  simp only [k0_pay32]
  pointwise
  simp only [pay25 S k hk ha21 h1985 h1986]
  simp (disch := omega) [Sp.pin_two, Sp.P_two]

theorem pay33 {arg21 : FVec Ideal S1024x1 .f32} {arg22 : FVec Ideal S1024x1 .f32} {arg23 : FVec Ideal S1024x1 .f32} (h23 : Mat v23 S.lth) (h27 : Mat v27 S.be) (ha21 : Col arg21 fun a => S.P k a 1) (ha22 : Col arg22 fun a => S.E k a 0) (ha23 : Col arg23 fun a => S.E k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) (h2001 : Mat3 v2001 fun a c => S.da k (512 + a) c) :
    Col (k0_pay33 v23 v27 arg21 arg22 arg23 v1973 v1983 v1985 v1986 v2001) fun a => S.E (k + 1) (512 + a) 0 := by
  intro a
  simp only [k0_pay33]
  pointwise
  simp only [pay28 S k hk h23 h27 ha21 ha22 ha23 h1973 h1983 h1985 h1986 h2001, pay27 S k hk h23 ha21 h1973 h1983 h1985 h1986 h2001]
  simp (disch := omega) [Sp.E_one, Sp.eb, Sp.ec]

theorem pay34 {arg21 : FVec Ideal S1024x1 .f32} {arg22 : FVec Ideal S1024x1 .f32} {arg23 : FVec Ideal S1024x1 .f32} (h23 : Mat v23 S.lth) (h27 : Mat v27 S.be) (ha21 : Col arg21 fun a => S.P k a 1) (ha22 : Col arg22 fun a => S.E k a 0) (ha23 : Col arg23 fun a => S.E k a 1) (h1973 : Mat v1973 fun a c => S.z k (512 + a) c) (h1983 : Mat v1983 fun a c => S.sp k (512 + a) c) (h1985 : Mat v1985 fun a c => S.dotn k (512 + a) c) (h1986 : Col v1986 fun a => S.P k (512 + a) 0) (h2001 : Mat3 v2001 fun a c => S.da k (512 + a) c) :
    Col (k0_pay34 v23 v27 arg21 arg22 arg23 v1973 v1983 v1985 v1986 v2001) fun a => S.E (k + 1) (512 + a) 1 := by
  intro a
  simp only [k0_pay34]
  pointwise
  simp only [pay28 S k hk h23 h27 ha21 ha22 ha23 h1973 h1983 h1985 h1986 h2001, pay27 S k hk h23 ha21 h1973 h1983 h1985 h1986 h2001]
  simp (disch := omega) [Sp.E_two, Sp.eb, Sp.ec]

theorem pay85 (h1875 : Mat v1875 (S.z (k + 1))) :
    Mat3 (k0_pay85 v1875) (S.z (k + 1)) := by
  intro a c
  simp only [k0_pay85]
  pointwise
  simp only [h1875]

theorem pay86 (h1879 : Mat v1879 (S.da (k + 1))) :
    Mat3 (k0_pay86 v1879) (S.da (k + 1)) := by
  intro a c
  simp only [k0_pay86]
  pointwise
  simp only [h1879]

theorem pay87 (h1964 : Col v1964 fun a => S.P (k + 1) a 0) (h2025 : Col v2025 fun a => S.P (k + 1) (512 + a) 0) :
    Col (k0_pay87 v1964 v2025) fun a => S.P (k + 1) a 0 := by
  intro a
  simp only [k0_pay87]
  pointwise
  simp only [h1964, h2025]
  simp (disch := omega)

theorem pay88 (h1965 : Col v1965 fun a => S.P (k + 1) a 1) (h2026 : Col v2026 fun a => S.P (k + 1) (512 + a) 1) :
    Col (k0_pay88 v1965 v2026) fun a => S.P (k + 1) a 1 := by
  intro a
  simp only [k0_pay88]
  pointwise
  simp only [h1965, h2026]
  simp (disch := omega)

theorem pay89 (h1968 : Col v1968 fun a => S.E (k + 1) a 0) (h2029 : Col v2029 fun a => S.E (k + 1) (512 + a) 0) :
    Col (k0_pay89 v1968 v2029) fun a => S.E (k + 1) a 0 := by
  intro a
  simp only [k0_pay89]
  pointwise
  simp only [h1968, h2029]
  simp (disch := omega)

theorem pay90 (h1971 : Col v1971 fun a => S.E (k + 1) a 1) (h2032 : Col v2032 fun a => S.E (k + 1) (512 + a) 1) :
    Col (k0_pay90 v1971 v2032) fun a => S.E (k + 1) a 1 := by
  intro a
  simp only [k0_pay90]
  pointwise
  simp only [h1971, h2032]
  simp (disch := omega)

end Cert.Proof.Sb

end
-- ==== Proof.SbHold.lean ====
module

public import Idealize.ShloMosaic.Lib.Pipeline.ValueKit
public import Idealize.ShloMosaic.Lib.Pointwise
public import Idealize.ShloMosaic.Lib.VecWindow

/-!
What a buffer holds after a list of stores, entry by entry: the tile outputs are 16 tiles of 128 by 256, the four
scratch buffers are 1024 rows of 256.
-/

@[expose] public section

noncomputable section

namespace Cert.Proof.Sb

open Idealize.ShloMosaic

variable {sig : RefSig} {κ : Kind} {sp : Space} {e : EltTy} {Val : EltTy → Type}

/-! ### A plain matrix -/

/-- A load of a block of whole rows. -/
theorem flat_read {N n d o : ℕ} {v : View sig κ sp ⟨2, ![N, d]⟩ e} {f : v.ty.Contents Val} {g : ℕ → ℕ → Val e}
    (h : ∀ (a : Fin N) (c : Fin d), v.read Val f (ix2 a c) = g a.val c.val) {off : Fin 2 → ℕ}
    {inb : ∀ a, off a + (![n, d] : Fin 2 → ℕ) a ≤ (⟨2, ![N, d]⟩ : Shape).size a} (ho : off = ![o, 0]) :
    ∀ (a : Fin n) (c : Fin d), v.readAt Val (Rect.unit (s := ⟨2, ![N, d]⟩) off ![n, d] inb).toLoadRect f (ix2 a c) = g (o + a.val) c.val := by
  subst ho
  intro a c
  have hb : o + n ≤ N := inb 0
  refine Eq.trans (congrArg (v.read Val f) ?_) (h ⟨o + a.val, by omega⟩ c)
  funext x
  revert x
  refine Fin.forall_fin_two.mpr ⟨Fin.ext ?_, Fin.ext ?_⟩
  · show o + 1 * a.val = o + a.val; omega
  · show 0 + 1 * c.val = c.val; omega

/-- A load of everything. -/
theorem whole_read {N d : ℕ} {v : View sig κ sp ⟨2, ![N, d]⟩ e} {f : v.ty.Contents Val} {g : ℕ → ℕ → Val e}
    (h : ∀ (a : Fin N) (c : Fin d), v.read Val f (ix2 a c) = g a.val c.val)
    {inb : ∀ a, (![0, 0] : Fin 2 → ℕ) a + (![N, d] : Fin 2 → ℕ) a ≤ (⟨2, ![N, d]⟩ : Shape).size a} :
    ∀ (a : Fin N) (c : Fin d), v.readAt Val (Rect.unit (s := ⟨2, ![N, d]⟩) ![0, 0] ![N, d] inb).toLoadRect f (ix2 a c) = g a.val c.val := by
  intro a c
  exact (congrFun (v.readAt_full f inb) (ix2 a c)).trans (h a c)

/-- A load of one column. -/
theorem column_read {N d o : ℕ} {v : View sig κ sp ⟨2, ![N, d]⟩ e} {f : v.ty.Contents Val} {g : ℕ → ℕ → Val e}
    (h : ∀ (a : Fin N) (c : Fin d), v.read Val f (ix2 a c) = g a.val c.val)
    {inb : ∀ a, (![0, o] : Fin 2 → ℕ) a + (![N, 1] : Fin 2 → ℕ) a ≤ (⟨2, ![N, d]⟩ : Shape).size a} :
    ∀ a : Fin N, v.readAt Val (Rect.unit (s := ⟨2, ![N, d]⟩) ![0, o] ![N, 1] inb).toLoadRect f (ix2 a 0) = g a.val o := by
  intro a
  have hb : o + 1 ≤ d := inb 1
  refine Eq.trans (congrArg (v.read Val f) ?_) (h a ⟨o, by omega⟩)
  funext x
  revert x
  refine Fin.forall_fin_two.mpr ⟨Fin.ext ?_, Fin.ext ?_⟩
  · show 0 + 1 * a.val = a.val; omega
  · rfl

/-! ### The tiles -/

/-- The 16 tiles hold `g`. -/
def Tiles (v : View sig κ sp ⟨4, ![1, 16, 128, 256]⟩ e) (f : v.ty.Contents Val) (g : ℕ → ℕ → ℕ → Val e) : Prop :=
  ∀ (t : Fin 16) (a : Fin 128) (c : Fin 256), v.read Val f (ix4 0 t a c) = g t.val a.val c.val

/-- A load of one tile. -/
theorem tile_read {v : View sig κ sp ⟨4, ![1, 16, 128, 256]⟩ e} {f : v.ty.Contents Val} {g : ℕ → ℕ → ℕ → Val e}
    (h : Tiles v f g) {n : ℕ} {off : Fin 4 → ℕ}
    {inb : ∀ a, off a + (![1, 1, 128, 256] : Fin 4 → ℕ) a ≤ (⟨4, ![1, 16, 128, 256]⟩ : Shape).size a} (ho : off = ![0, n, 0, 0]) :
    ∀ (a : Fin 128) (c : Fin 256), v.readAt Val (Rect.unit (s := ⟨4, ![1, 16, 128, 256]⟩) off ![1, 1, 128, 256] inb).toLoadRect f (ix4 0 0 a c) = g n a.val c.val := by
  subst ho
  intro a c
  have hb : n + 1 ≤ 16 := inb 1
  refine Eq.trans (congrArg (v.read Val f) ?_) (h ⟨n, by omega⟩ a c)
  funext x
  match x with
  | 0 => rfl
  | 1 => exact Fin.ext (by show n + 1 * 0 = n; omega)
  | 2 => exact Fin.ext (by show 0 + 1 * a.val = a.val; omega)
  | 3 => exact Fin.ext (by show 0 + 1 * c.val = c.val; omega)

/-- A store of one tile. -/
theorem tiles_cons {v : View sig κ sp ⟨4, ![1, 16, 128, 256]⟩ e} {f : v.ty.Contents Val} {g g' : ℕ → ℕ → ℕ → Val e}
    {L : List (View.Piece Val ⟨4, ![1, 16, 128, 256]⟩ e)} (h : Tiles v (v.writes Val f L) g) {n : ℕ} {off : Fin 4 → ℕ}
    {inb : ∀ a, off a + (![1, 1, 128, 256] : Fin 4 → ℕ) a ≤ (⟨4, ![1, 16, 128, 256]⟩ : Shape).size a}
    {w : (Rect.unit (s := ⟨4, ![1, 16, 128, 256]⟩) off ![1, 1, 128, 256] inb).shape.Idx → Val e} (ho : off = ![0, n, 0, 0])
    (hw : ∀ (a : Fin 128) (c : Fin 256), w (ix4 0 0 a c) = g' n a.val c.val) (hg : ∀ t, t ≠ n → ∀ a c, g' t a c = g t a c) :
    Tiles v (v.writes Val f (⟨Rect.unit (s := ⟨4, ![1, 16, 128, 256]⟩) off ![1, 1, 128, 256] inb, w⟩ :: L)) g' := by
  intro t a c
  by_cases ht : t.val = n
  · refine (v.read_writes_cons_unit_of_mem f inb w L _ (ix4 0 0 a c) ho fun x => ?_).trans ((hw a c).trans (by rw [ht]))
    match x with
    | 0 => rfl
    | 1 => show t.val = n + 0; omega
    | 2 => show a.val = 0 + a.val; omega
    | 3 => show c.val = 0 + c.val; omega
  · refine (v.read_writes_cons_unit_of_not_mem f inb w L _ ho 1 ?_).trans ((h t a c).trans (hg t.val ht _ _).symm)
    show t.val < n ∨ n + 1 ≤ t.val
    omega

/-- A store of everything. -/
theorem tiles_full {v : View sig κ sp ⟨4, ![1, 16, 128, 256]⟩ e} {f : v.ty.Contents Val} {g : ℕ → ℕ → ℕ → Val e}
    {L : List (View.Piece Val ⟨4, ![1, 16, 128, 256]⟩ e)} {off : Fin 4 → ℕ}
    {inb : ∀ a, off a + (⟨4, ![1, 16, 128, 256]⟩ : Shape).size a ≤ (⟨4, ![1, 16, 128, 256]⟩ : Shape).size a}
    {w : (Rect.unit (s := ⟨4, ![1, 16, 128, 256]⟩) off (⟨4, ![1, 16, 128, 256]⟩ : Shape).size inb).shape.Idx → Val e}
    (hw : ∀ (t : Fin 16) (a : Fin 128) (c : Fin 256), w (ix4 0 t a c) = g t.val a.val c.val) :
    Tiles v (v.writes Val f (⟨Rect.unit (s := ⟨4, ![1, 16, 128, 256]⟩) off (⟨4, ![1, 16, 128, 256]⟩ : Shape).size inb, w⟩ :: L)) g := by
  intro t a c
  rw [View.read_writes_full]
  exact hw t a c

/-! ### The scratch buffers -/

/-- The rows in `D` hold `g`. -/
def HoldsOn (v : View sig κ sp ⟨3, ![1, 1024, 256]⟩ e) (f : v.ty.Contents Val) (g : ℕ → ℕ → Val e) (D : ℕ → Prop) : Prop :=
  ∀ (a : Fin 1024) (c : Fin 256), D a.val → v.read Val f (ix3 0 a c) = g a.val c.val

/-- All rows hold `g`. -/
def Holds (v : View sig κ sp ⟨3, ![1, 1024, 256]⟩ e) (f : v.ty.Contents Val) (g : ℕ → ℕ → Val e) : Prop :=
  ∀ (a : Fin 1024) (c : Fin 256), v.read Val f (ix3 0 a c) = g a.val c.val

/-- Written to from nothing by the listed pieces, the rows hold `g`. -/
abbrev Wrote (v : View sig κ sp ⟨3, ![1, 1024, 256]⟩ e) (L : List (View.Piece (Elt Ideal) ⟨3, ![1, 1024, 256]⟩ e)) (g : ℕ → ℕ → Elt Ideal e) : Prop :=
  Holds v (v.writes (Elt Ideal) v.junk L) g

/-- The same of the 16 tiles. -/
abbrev WroteT (v : View sig κ sp ⟨4, ![1, 16, 128, 256]⟩ e) (L : List (View.Piece (Elt Ideal) ⟨4, ![1, 16, 128, 256]⟩ e)) (g : ℕ → ℕ → ℕ → Elt Ideal e) : Prop :=
  Tiles v (v.writes (Elt Ideal) v.junk L) g

theorem holds_none (v : View sig κ sp ⟨3, ![1, 1024, 256]⟩ e) (f : v.ty.Contents Val) (g : ℕ → ℕ → Val e) :
    HoldsOn v f g fun _ => False := fun _ _ h => h.elim

theorem holds_all {v : View sig κ sp ⟨3, ![1, 1024, 256]⟩ e} {f : v.ty.Contents Val} {g : ℕ → ℕ → Val e} {D : ℕ → Prop}
    (h : HoldsOn v f g D) (hD : ∀ a, a < 1024 → D a) : Holds v f g := fun a c => h a c (hD a.val a.isLt)

/-- A store of everything. -/
theorem holds_full {v : View sig κ sp ⟨3, ![1, 1024, 256]⟩ e} {f : v.ty.Contents Val} {g : ℕ → ℕ → Val e}
    {L : List (View.Piece Val ⟨3, ![1, 1024, 256]⟩ e)} {off : Fin 3 → ℕ}
    {inb : ∀ a, off a + (⟨3, ![1, 1024, 256]⟩ : Shape).size a ≤ (⟨3, ![1, 1024, 256]⟩ : Shape).size a}
    {w : (Rect.unit (s := ⟨3, ![1, 1024, 256]⟩) off (⟨3, ![1, 1024, 256]⟩ : Shape).size inb).shape.Idx → Val e}
    (hw : ∀ (a : Fin 1024) (c : Fin 256), w (ix3 0 a c) = g a.val c.val) :
    Holds v (v.writes Val f (⟨Rect.unit (s := ⟨3, ![1, 1024, 256]⟩) off (⟨3, ![1, 1024, 256]⟩ : Shape).size inb, w⟩ :: L)) g := by
  intro a c
  rw [View.read_writes_full]
  exact hw a c

/-- A store of `n` rows from row `o` on. -/
theorem holds_cons {v : View sig κ sp ⟨3, ![1, 1024, 256]⟩ e} {f : v.ty.Contents Val} {g : ℕ → ℕ → Val e} {D : ℕ → Prop}
    {L : List (View.Piece Val ⟨3, ![1, 1024, 256]⟩ e)} (h : HoldsOn v (v.writes Val f L) g D) {o n : ℕ}
    {inb : ∀ a, (![0, o, 0] : Fin 3 → ℕ) a + (![1, n, 256] : Fin 3 → ℕ) a ≤ (⟨3, ![1, 1024, 256]⟩ : Shape).size a}
    {w : (Rect.unit (s := ⟨3, ![1, 1024, 256]⟩) ![0, o, 0] ![1, n, 256] inb).shape.Idx → Val e}
    (hw : ∀ (a : Fin n) (c : Fin 256), w (ix3 0 a c) = g (o + a.val) c.val) :
    HoldsOn v (v.writes Val f (⟨Rect.unit (s := ⟨3, ![1, 1024, 256]⟩) ![0, o, 0] ![1, n, 256] inb, w⟩ :: L)) g fun a => D a ∨ (o ≤ a ∧ a < o + n) := by
  intro a c hD
  by_cases ha : o ≤ a.val ∧ a.val < o + n
  · refine (v.read_writes_cons_unit_of_mem f inb w L _ (ix3 0 ⟨a.val - o, by omega⟩ c) rfl fun x => ?_).trans
      ((hw _ c).trans (by show g (o + (a.val - o)) _ = _; rw [Nat.add_sub_cancel' ha.1]))
    match x with
    | 0 => rfl
    | 1 => show a.val = o + (a.val - o); omega
    | 2 => show c.val = 0 + c.val; omega
  · refine (v.read_writes_cons_unit_of_not_mem f inb w L _ rfl 1 ?_).trans (h a c (hD.resolve_right ha))
    show a.val < o ∨ o + n ≤ a.val
    omega

/-- A load of `n` rows. -/
theorem rows_read {v : View sig κ sp ⟨3, ![1, 1024, 256]⟩ e} {f : v.ty.Contents Val} {g : ℕ → ℕ → Val e} (h : Holds v f g) {o n : ℕ}
    {inb : ∀ a, (![0, o, 0] : Fin 3 → ℕ) a + (![1, n, 256] : Fin 3 → ℕ) a ≤ (⟨3, ![1, 1024, 256]⟩ : Shape).size a} :
    ∀ (a : Fin n) (c : Fin 256), v.readAt Val (Rect.unit (s := ⟨3, ![1, 1024, 256]⟩) ![0, o, 0] ![1, n, 256] inb).toLoadRect f (ix3 0 a c) = g (o + a.val) c.val := by
  intro a c
  have hb : o + n ≤ 1024 := inb 1
  refine Eq.trans (congrArg (v.read Val f) ?_) (h ⟨o + a.val, by omega⟩ c)
  funext x
  match x with
  | 0 => rfl
  | 1 => exact Fin.ext (by show o + 1 * a.val = o + a.val; omega)
  | 2 => exact Fin.ext (by show 0 + 1 * c.val = c.val; omega)

/-- A load of the first `n` rows. -/
theorem top_read {v : View sig κ sp ⟨3, ![1, 1024, 256]⟩ e} {f : v.ty.Contents Val} {g : ℕ → ℕ → Val e} (h : Holds v f g) {n : ℕ}
    {inb : ∀ a, (![0, 0, 0] : Fin 3 → ℕ) a + (![1, n, 256] : Fin 3 → ℕ) a ≤ (⟨3, ![1, 1024, 256]⟩ : Shape).size a} :
    ∀ (a : Fin n) (c : Fin 256), v.readAt Val (Rect.unit (s := ⟨3, ![1, 1024, 256]⟩) ![0, 0, 0] ![1, n, 256] inb).toLoadRect f (ix3 0 a c) = g a.val c.val :=
  fun a c => (rows_read h a c).trans (by rw [Nat.zero_add])

/-- A store of the first `n` rows. -/
theorem holds_top {v : View sig κ sp ⟨3, ![1, 1024, 256]⟩ e} {f : v.ty.Contents Val} {g : ℕ → ℕ → Val e} {D : ℕ → Prop}
    {L : List (View.Piece Val ⟨3, ![1, 1024, 256]⟩ e)} (h : HoldsOn v (v.writes Val f L) g D) {n : ℕ}
    {inb : ∀ a, (![0, 0, 0] : Fin 3 → ℕ) a + (![1, n, 256] : Fin 3 → ℕ) a ≤ (⟨3, ![1, 1024, 256]⟩ : Shape).size a}
    {w : (Rect.unit (s := ⟨3, ![1, 1024, 256]⟩) ![0, 0, 0] ![1, n, 256] inb).shape.Idx → Val e}
    (hw : ∀ (a : Fin n) (c : Fin 256), w (ix3 0 a c) = g a.val c.val) :
    HoldsOn v (v.writes Val f (⟨Rect.unit (s := ⟨3, ![1, 1024, 256]⟩) ![0, 0, 0] ![1, n, 256] inb, w⟩ :: L)) g fun a => D a ∨ (0 ≤ a ∧ a < 0 + n) :=
  holds_cons h fun a c => (hw a c).trans (by rw [Nat.zero_add])

end Cert.Proof.Sb

end
-- ==== Proof.SbLoopVal.lean ====
module

public import proofs.«01_k».proof.Proof.SbLoop
public import proofs.«01_k».proof.Proof.SbPoints
public import proofs.«01_k».proof.Proof.SbPayT
public import proofs.«01_k».proof.Proof.SbHold

/-!
The loop over the earlier key blocks keeps the sums, the two score buffers and the tiles where the plain functions
have them.
-/

@[expose] public section
set_option maxRecDepth 16384
noncomputable section
namespace Cert.Proof.Sb
open Cert.KernelIdeal Cert.KernelIdeal.Gen
open Idealize.ShloMosaic Idealize.ShloMosaic.TcCoe

/-- The carried sums, the six buffers and the pieces stored to them. -/
abbrev LoopSt : Type :=
  (FVec Ideal S1024x128 .f32 × FVec Ideal S1024x1 .f32 × FVec Ideal S1024x1 .f32 × FVec Ideal S1024x1 .f32 × FVec Ideal S1024x1 .f32)
    × List (View.Piece (Elt Ideal) S1x16x128x256 .f32) × List (View.Piece (Elt Ideal) S1x16x128x256 .f32)
    × List (View.Piece (Elt Ideal) S1x1024x256 .f32) × List (View.Piece (Elt Ideal) S1x1024x256 .f32)
    × List (View.Piece (Elt Ideal) S1x1024x256 .bf16) × List (View.Piece (Elt Ideal) S1x1024x256 .bf16)

/-- What the loop is given: the queries, the cotangent, their transposes, the totals and the triangles. -/
structure Given (S : Sp) (v7 : FVec Ideal S1024x128 .bf16) (v9 : FVec Ideal S1024x128 .bf16) (v12 : FVec Ideal S128x1024 .bf16)
    (v14 : FVec Ideal S128x1024 .bf16) (v23 : FVec Ideal S1024x256 .f32) (v25 : FVec Ideal S256x256 .bf16) (v27 : FVec Ideal S256x256 .bf16) : Prop where
  q : ∀ (a : Fin 1024) (c : Fin 128), v7 (ix2 a c) = S.q a.val c.val
  dO : ∀ (a : Fin 1024) (c : Fin 128), v9 (ix2 a c) = S.dO a.val c.val
  qT : ∀ (a : Fin 128) (c : Fin 1024), v12 (ix2 a c) = S.q c.val a.val
  doT : ∀ (a : Fin 128) (c : Fin 1024), v14 (ix2 a c) = S.dO c.val a.val
  lt : ∀ (a : Fin 1024) (c : Fin 256), v23 (ix2 a c) = S.lth a.val c.val
  up : ∀ (a : Fin 256) (c : Fin 256), v25 (ix2 a c) = S.up a.val c.val
  be : ∀ (a : Fin 256) (c : Fin 256), v27 (ix2 a c) = S.be a.val c.val

variable {m : Bufs}

/-- The state at the start of key block `k`. -/
structure Before (S : Sp) (m : Bufs) (G12 : BufTy.Contents (Elt Ideal) m.arg12.view.ty) (G13 : BufTy.Contents (Elt Ideal) m.arg13.view.ty)
    (G14 : BufTy.Contents (Elt Ideal) m.arg14.view.ty) (G15 : BufTy.Contents (Elt Ideal) m.arg15.view.ty)
    (G16 : BufTy.Contents (Elt Ideal) m.arg16.view.ty) (G17 : BufTy.Contents (Elt Ideal) m.arg17.view.ty) (k : ℕ) (s : LoopSt) : Prop where
  dq : ∀ (a : Fin 1024) (c : Fin 128), s.1.1 (ix2 a c) = S.DQ k a.val c.val
  p0 : ∀ a : Fin 1024, s.1.2.1 (ix2 a 0) = S.P k a.val 0
  p1 : ∀ a : Fin 1024, s.1.2.2.1 (ix2 a 0) = S.P k a.val 1
  e0 : ∀ a : Fin 1024, s.1.2.2.2.1 (ix2 a 0) = S.E k a.val 0
  e1 : ∀ a : Fin 1024, s.1.2.2.2.2 (ix2 a 0) = S.E k a.val 1
  w12 : Tiles m.arg12.view (m.arg12.view.writes (Elt Ideal) G12 s.2.1) (S.W12 k)
  w13 : Tiles m.arg13.view (m.arg13.view.writes (Elt Ideal) G13 s.2.2.1) (S.W13 k)
  z : Holds m.arg14.view (m.arg14.view.writes (Elt Ideal) G14 s.2.2.2.1) (S.z k)
  da : Holds m.arg15.view (m.arg15.view.writes (Elt Ideal) G15 s.2.2.2.2.1) (S.da k)
  dz : Holds m.arg16.view (m.arg16.view.writes (Elt Ideal) G16 s.2.2.2.2.2.1) (S.dzb k)
  att : Holds m.arg17.view (m.arg17.view.writes (Elt Ideal) G17 s.2.2.2.2.2.2) (S.atb k)

theorem halves : ∀ a, a < 1024 → (False ∨ 0 ≤ a ∧ a < 0 + 512) ∨ 512 ≤ a ∧ a < 512 + 512 := fun a _ => by omega

theorem trips_one (p : Fin 4) : (k0_t1_loop (at1 p)).trips = 8 := by revert p; decide +kernel
theorem off1_one (p : Fin 4) (k : Fin (k0_t1_loop (at1 p)).trips) : k0_off1 (at1 p) k = ![0, k.val + 1, 0, 0] := by revert p; decide +kernel
theorem off2_one (p : Fin 4) (k : Fin (k0_t1_loop (at1 p)).trips) : k0_off2 (at1 p) k = ![0, k.val - 1, 0, 0] := by revert p; decide +kernel
theorem off3_one (p : Fin 4) (k : Fin (k0_t1_loop (at1 p)).trips) : k0_off3 (at1 p) k = ![256 * (k.val - 1), 0] := by revert p; decide +kernel

variable {S : Sp} {c : Dev nD} {p : Fin 4} {v0 v2 : BitVec 32} {v7 v9 : FVec Ideal S1024x128 .bf16} {v12 v14 : FVec Ideal S128x1024 .bf16}
  {v23 v30 : FVec Ideal S1024x256 .f32} {v25 v27 : FVec Ideal S256x256 .bf16}
  {X3 : BufTy.Contents (Elt Ideal) m.arg3.view.ty} {X4 : BufTy.Contents (Elt Ideal) m.arg4.view.ty} {X5 : BufTy.Contents (Elt Ideal) m.arg5.view.ty}
  {G12 : BufTy.Contents (Elt Ideal) m.arg12.view.ty} {G13 : BufTy.Contents (Elt Ideal) m.arg13.view.ty}
  {G14 : BufTy.Contents (Elt Ideal) m.arg14.view.ty} {G15 : BufTy.Contents (Elt Ideal) m.arg15.view.ty}
  {G16 : BufTy.Contents (Elt Ideal) m.arg16.view.ty} {G17 : BufTy.Contents (Elt Ideal) m.arg17.view.ty}

set_option maxHeartbeats 2000000 in
/-- One trip. -/
theorem before_next (hj : S.j = 1) (V : Given S v7 v9 v12 v14 v23 v25 v27)
    (h3 : ∀ (a : Fin 4096) (c : Fin 128), m.arg3.view.read (Elt Ideal) X3 (ix2 a c) = S.ks a.val c.val)
    (h4 : Tiles m.arg4.view X4 S.kt) (h5 : Tiles m.arg5.view X5 S.vt) (k : Fin (k0_t1_loop (at1 p)).trips) (s : LoopSt)
    (B : Before S m G12 G13 G14 G15 G16 G17 k.val s) :
    Before S m G12 G13 G14 G15 G16 G17 (k.val + 1) (next (F := Ideal) c (at1 p) m v0 v2 v7 v9 v12 v14 v23 v25 v27 v30 X3 X4 X5 G12 G13 G14 G15 G16 G17 k s) := by
  have hk : k.val < 8*S.j := by rw [hj]; exact lt_of_lt_of_eq k.isLt (trips_one p)
  have zT := top_read (n := 512) (inb := inb_S1x1024x256_S1x512x256_0_0_0) B.z
  have zB := rows_read (o := 512) (n := 512) (inb := inb_S1x1024x256_S1x512x256_0_512_0) B.z
  have dT := top_read (n := 512) (inb := inb_S1x1024x256_S1x512x256_0_0_0) B.da
  have dB := rows_read (o := 512) (n := 512) (inb := inb_S1x1024x256_S1x512x256_0_512_0) B.da
  have gz := top_read (n := 1024) (inb := inb_S1x1024x256_S1x1024x256_0_0_0) B.dz
  have ga := top_read (n := 1024) (inb := inb_S1x1024x256_S1x1024x256_0_0_0) B.att
  have e5 := pay10 S k.val hk V.up B.p0 B.p1 zT
  have e7 := pay12 S k.val hk V.lt V.up B.p0 B.p1 zT
  have e8 := pay13 S k.val hk V.lt V.up B.p0 B.p1 zT dT
  have e6 := pay11 S k.val hk zT
  have e13 := pay21 S k.val hk zB
  have e14 := pay22 S k.val hk zB
  have e15 := pay23 S k.val hk V.up zB
  have e16 := pay24 S k.val hk B.p0
  refine ⟨?_, ?_, ?_, ?_, ?_, ?_, ?_, ?_, ?_, ?_, ?_⟩
  · rw [next_acc]; unfold trip
    exact pay7 S k.val hk B.dq (pay3 S k.val hk gz) (flat_read h3 (off3_one p k))
  · rw [next_acc]; unfold trip
    exact pay87 S k.val hk (pay17 S k.val hk e5) (pay31 S k.val hk B.p1 e15 e16)
  · rw [next_acc]; unfold trip
    exact pay88 S k.val hk (pay18 S k.val hk e5) (pay32 S k.val hk B.p1 e15 e16)
  · rw [next_acc]; unfold trip
    exact pay89 S k.val hk (pay19 S k.val hk V.be B.e0 B.e1 e8) (pay33 S k.val hk V.lt V.be B.p1 B.e0 B.e1 e13 e14 e15 e16 dB)
  · rw [next_acc]; unfold trip
    exact pay90 S k.val hk (pay20 S k.val hk V.be B.e0 B.e1 e8) (pay34 S k.val hk V.lt V.be B.p1 B.e0 B.e1 e13 e14 e15 e16 dB)
  · rw [next_arg12]; unfold trip
    exact tiles_cons B.w12 (off2_one p k) (fun a c => (pay4 S k.val hk (fun a c => S.W12 k.val (k.val - 1) a c) V.qT gz (tile_read B.w12 (off2_one p k)) a c).trans
      (S.W12_at k.val a.val c.val).symm) fun t ht a c => S.W12_off k.val t a c ht
  · rw [next_arg13]; unfold trip
    exact tiles_cons B.w13 (off2_one p k) (fun a c => (pay6 S k.val hk (fun a c => S.W13 k.val (k.val - 1) a c + ∑ r : Fin 1024, S.dO r a * S.atb k.val r c)
      (pay5 S k.val hk (fun a c => S.W13 k.val (k.val - 1) a c) V.doT (tile_read B.w13 (off2_one p k)) ga) a c).trans
      (S.W13_at k.val a.val c.val).symm) fun t ht a c => S.W13_off k.val t a c ht
  · rw [next_arg14]; unfold trip
    exact holds_full (pay85 S k.val hk (pay1 S k.val hk V.q (tile_read h4 (off1_one p k))))
  · rw [next_arg15]; unfold trip
    exact holds_full (pay86 S k.val hk (pay2 S k.val hk V.dO (tile_read h5 (off1_one p k))))
  · rw [S.dzb_succ k.val, next_arg16]; unfold trip
    exact holds_all (holds_cons (n := 512) (holds_top (n := 512) (holds_none _ _ _) (pay15 S k.val hk V.be B.e0 B.e1 e6 e8))
      (pay29 S k.val hk V.lt V.be B.p1 B.e0 B.e1 e13 e14 e15 e16 dB)) halves
  · rw [S.atb_succ k.val, next_arg17]; unfold trip
    exact holds_all (holds_cons (n := 512) (holds_top (n := 512) (holds_none _ _ _) (pay16 S k.val hk e7))
      (pay30 S k.val hk V.lt B.p1 e13 e14 e15 e16)) halves

/-- All the trips before block `k`. -/
theorem before_st (hj : S.j = 1) (V : Given S v7 v9 v12 v14 v23 v25 v27)
    (h3 : ∀ (a : Fin 4096) (c : Fin 128), m.arg3.view.read (Elt Ideal) X3 (ix2 a c) = S.ks a.val c.val)
    (h4 : Tiles m.arg4.view X4 S.kt) (h5 : Tiles m.arg5.view X5 S.vt) (init : _)
    (B : Before S m G12 G13 G14 G15 G16 G17 0 (init, [], [], [], [], [], [])) (k : ℕ) (hk : k ≤ 8) :
    Before S m G12 G13 G14 G15 G16 G17 k (st (F := Ideal) c (at1 p) m v0 v2 v7 v9 v12 v14 v23 v25 v27 v30 X3 X4 X5 G12 G13 G14 G15 G16 G17 init k) := by
  induction k with
  | zero => exact B
  | succ k ih =>
    have hlt : k < (k0_t1_loop (at1 p)).trips := by rw [trips_one]; omega
    have := before_next (v0 := v0) (v2 := v2) (v30 := v30) (c := c) hj V h3 h4 h5 ⟨k, hlt⟩ _ (ih (by omega))
    rw [st_succ (F := Ideal) (k := ⟨k, hlt⟩)]
    exact this
end Cert.Proof.Sb

end
-- ==== Proof.SbPay0.lean ====
module

public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v6 : Vec Ideal S1024x128 .bf16} {v8 : Vec Ideal S1024x128 .f32} {v15 v17 : Vec Ideal S1024x1 .f32} {v24 v26
  : Vec Ideal S256x256 .bf16} {v28 v31 v61 v65 : Vec Ideal S1x1x128x256 .bf16} {v30 v23 v63 v67 : FVec Ideal S1024x256
  .f32} {v9 v7 : FVec Ideal S1024x128 .bf16} {v70 v84 : Vec Ideal S1x1024x256 .bf16} {v12 v14 : FVec Ideal S128x1024
  .bf16} {v73 v82 : Vec Ideal S1x1x128x256 .f32} {v71 : FVec Ideal S1024x256 .bf16} {v95 : Vec Ideal S256x128 .bf16}
  {v99 v176 v232 v261 : Vec Ideal S1x512x256 .f32} {v25 v27 : FVec Ideal S256x256 .bf16} {v135 v277 : FVec Ideal
  S512x256 .bf16} {v100 v110 v180 v146 v178 v175 v144 v188 v260 v253 : FVec Ideal S512x256 .f32} {v182 v183 v224 v225
  : FVec Ideal S512x1 .f32}
variable (S : Sp)
include S

theorem pay71 (h6 : Mat v6 S.q) :
    Mat (k0_pay71 v6) S.q := by
  intro a c
  simp only [k0_pay71]
  pointwise
  simp only [h6]

theorem pay72 (h8 : Mat v8 S.dO) :
    Mat (k0_pay72 v8) S.dO := by
  intro a c
  simp only [k0_pay72]
  pointwise
  simp only [h8]

theorem pay73 (h6 : Mat v6 S.q) :
    Mat (k0_pay73 v6) fun a c => S.q c a := by
  intro a c
  simp only [k0_pay73]
  pointwise
  simp only [pay71 S h6]

theorem pay74 (h8 : Mat v8 S.dO) :
    Mat (k0_pay74 v8) fun a c => S.dO c a := by
  intro a c
  simp only [k0_pay74]
  pointwise
  simp only [h8]

theorem pay75 (h15 : Col v15 fun a => S.lt a 0) (h17 : Col v17 fun a => S.lt a 64) :
    Mat (k0_pay75 v15 v17) S.lth := by
  intro a c
  simp only [k0_pay75]
  pointwise
  simp only [h15, h17, Sp.lth]
  rfl

theorem pay76 (h24 : Mat v24 S.up) :
    Mat (k0_pay76 v24) S.up := by
  intro a c
  simp only [k0_pay76]
  pointwise
  simp only [h24]

theorem pay77 (h26 : Mat v26 S.be) :
    Mat (k0_pay77 v26) S.be := by
  intro a c
  simp only [k0_pay77]
  pointwise
  simp only [h26]

theorem pay78 (h6 : Mat v6 S.q) (h28 : Tile v28 (S.kt 0)) :
    Mat (k0_pay78 v6 v28) (S.z 0) := by
  intro a c
  simp only [k0_pay78]
  pointwise
  simp only [h28, pay71 S h6, Sp.z]

theorem pay79 (h30 : Mat v30 (S.z 0)) :
    Mat3 (k0_pay79 v30) (S.z 0) := by
  intro a c
  simp only [k0_pay79]
  pointwise
  simp only [h30]

theorem pay80 (h9 : Mat v9 S.dO) (h31 : Tile v31 (S.vt 0)) :
    Mat3 (k0_pay80 v9 v31) (S.da 0) := by
  intro a c
  simp only [k0_pay80]
  pointwise
  simp only [h9, h31, Sp.da]

theorem pay81 :
    Mat3 (k0_pay81 (F := Ideal)) fun a c => (0 : EReal) := by
  intro a c
  simp only [k0_pay81]
  pointwise

theorem pay82 :
    Mat3 (k0_pay82 (F := Ideal)) fun a c => (0 : EReal) := by
  intro a c
  simp only [k0_pay82]
  pointwise

theorem pay97 (h7 : Mat v7 S.q) (h61 : Tile v61 (S.kt (8*S.j+1))) :
    Mat (k0_pay97 v7 v61) (S.z (8*S.j+1)) := by
  intro a c
  simp only [k0_pay97]
  pointwise
  simp only [h7, h61, Sp.z]

theorem pay98 (h9 : Mat v9 S.dO) (h65 : Tile v65 (S.vt (8*S.j+1))) :
    Mat (k0_pay98 v9 v65) (S.da (8*S.j+1)) := by
  intro a c
  simp only [k0_pay98]
  pointwise
  simp only [h9, h65, Sp.da]

theorem pay99 (h70 : Mat3 v70 (S.dzb (8*S.j))) :
    Mat (k0_pay99 v70) (S.dzb (8*S.j)) := by
  intro a c
  simp only [k0_pay99]
  pointwise
  simp only [h70]

theorem pay100 (w : ℕ → ℕ → EReal) (h12 : Mat v12 fun a c => S.q c a) (h70 : Mat3 v70 (S.dzb (8*S.j))) (h73 : Tile v73 w) :
    Tile (k0_pay100 v12 v70 v73) fun a c => w a c + ∑ r : Fin 1024, S.q r a * S.dzb (8*S.j) r c := by
  intro a c
  simp only [k0_pay100]
  pointwise
  simp only [h12, h73, pay99 S h70]

theorem pay101 (w : ℕ → ℕ → EReal) (h14 : Mat v14 fun a c => S.dO c a) (h82 : Tile v82 w) (h84 : Mat3 v84 (S.atb (8*S.j))) :
    Tile (k0_pay101 v14 v82 v84) fun a c => w a c + ∑ r : Fin 1024, S.dO r a * S.atb (8*S.j) r c := by
  intro a c
  simp only [k0_pay101]
  pointwise
  simp only [h14, h82, h84]

theorem pay102 {v56_0 : FVec Ideal S1024x128 .f32} (h56_0 : Mat v56_0 (S.DQ (8*S.j))) (h71 : Mat v71 (S.dzb (8*S.j))) (h95 : Mat v95 fun a c => S.ks (256 * (8*S.j - 1) + a) c) :
    Mat (k0_pay102 v56_0 v71 v95) (S.DQ (8*S.j+1)) := by
  intro a c
  simp only [k0_pay102]
  pointwise
  simp only [h56_0, h71, h95]
  exact (S.DQ_succ _ _ _).symm

theorem pay103 (h99 : Mat3 v99 (S.z (8*S.j))) :
    Mat (k0_pay103 v99) (S.z (8*S.j)) := by
  intro a c
  simp only [k0_pay103]
  pointwise
  simp only [h99]

theorem pay104 (h99 : Mat3 v99 (S.z (8*S.j))) :
    Mat (k0_pay104 v99) (S.sp (8*S.j)) := by
  intro a c
  simp only [k0_pay104]
  pointwise
  simp only [pay103 S h99, Sp.mx, Sp.ab, Sp.ex, Sp.sp]

theorem pay105 (h99 : Mat3 v99 (S.z (8*S.j))) :
    Mat (k0_pay105 v99) (S.nlb (8*S.j)) := by
  intro a c
  simp only [k0_pay105]
  pointwise
  have hM : ∀ c : ℕ, S.M (8*S.j) a.val c ↔ c % 128 < a.val := fun c => by unfold Sp.M; omega
  by_cases ha : a.val < 128
  · simp only [msel, pay104 S h99, Sp.nlb, hM, mask_rem, mask512, ha, dif_pos]
  · have ea : 128 + (a.val - 128) = a.val := by omega
    have hT := lt_all a ha
    simp only [msel, pay104 S h99, Sp.nlb, hM, mask_rem, mask512, ha, ea, hT, dif_neg, not_false_eq_true, if_true]

theorem pay106 {v56_1 : FVec Ideal S1024x1 .f32} {v56_2 : FVec Ideal S1024x1 .f32} (h25 : Mat v25 S.up) (h56_1 : Col v56_1 fun a => S.P (8*S.j) a 0) (h56_2 : Col v56_2 fun a => S.P (8*S.j) a 1) (h135 : Mat v135 (S.nlb (8*S.j))) :
    Mat (k0_pay106 v25 v56_1 v56_2 v135) (S.pin (8*S.j)) := by
  intro a c
  simp only [k0_pay106]
  pointwise
  simp only [h25, h56_1, h56_2, h135, Sp.dotn, Sp.pc, Sp.pin]; rfl

theorem pay107 (h100 : Mat v100 (S.z (8*S.j))) (h110 : Mat v110 (S.sp (8*S.j))) :
    Mat (k0_pay107 v100 v110) (S.sig (8*S.j)) := by
  intro a c
  simp only [k0_pay107]
  pointwise
  simp only [h100, h110, Sp.zs, Sp.sig]

theorem pay108 {v56_1 : FVec Ideal S1024x1 .f32} {v56_2 : FVec Ideal S1024x1 .f32} (h23 : Mat v23 S.lth) (h25 : Mat v25 S.up) (h56_1 : Col v56_1 fun a => S.P (8*S.j) a 0) (h56_2 : Col v56_2 fun a => S.P (8*S.j) a 1) (h100 : Mat v100 (S.z (8*S.j))) (h110 : Mat v110 (S.sp (8*S.j))) (h135 : Mat v135 (S.nlb (8*S.j))) :
    Mat (k0_pay108 v23 v25 v56_1 v56_2 v100 v110 v135) (S.att (8*S.j)) := by
  intro a c
  simp only [k0_pay108]
  pointwise
  have hM : ∀ c : ℕ, S.M (8*S.j) a.val c ↔ c % 128 < a.val := fun c => by unfold Sp.M; omega
  by_cases ha : a.val < 128
  · simp only [msel, h23, h100, h110, pay106 S h25 h56_1 h56_2 h135, Sp.lth, Sp.zs, Sp.attu, Sp.att, hM, mask_rem, mask512, ha, dif_pos]
  · have ea : 128 + (a.val - 128) = a.val := by omega
    have hT := lt_all a ha
    simp only [msel, h23, h100, h110, pay106 S h25 h56_1 h56_2 h135, Sp.lth, Sp.zs, Sp.attu, Sp.att, hM, mask_rem, mask512, ha, ea, hT, dif_neg, not_false_eq_true, if_true]

theorem pay109 {v56_1 : FVec Ideal S1024x1 .f32} {v56_2 : FVec Ideal S1024x1 .f32} (h23 : Mat v23 S.lth) (h25 : Mat v25 S.up) (h56_1 : Col v56_1 fun a => S.P (8*S.j) a 0) (h56_2 : Col v56_2 fun a => S.P (8*S.j) a 1) (h100 : Mat v100 (S.z (8*S.j))) (h110 : Mat v110 (S.sp (8*S.j))) (h135 : Mat v135 (S.nlb (8*S.j))) (h176 : Mat3 v176 (S.da (8*S.j))) :
    Mat (k0_pay109 v23 v25 v56_1 v56_2 v100 v110 v135 v176) (S.e (8*S.j)) := by
  intro a c
  simp only [k0_pay109]
  pointwise
  simp only [h176, pay108 S h23 h25 h56_1 h56_2 h100 h110 h135, Sp.e]

theorem pay110 {v56_1 : FVec Ideal S1024x1 .f32} {v56_2 : FVec Ideal S1024x1 .f32} (h23 : Mat v23 S.lth) (h25 : Mat v25 S.up) (h27 : Mat v27 S.be) (h56_1 : Col v56_1 fun a => S.P (8*S.j) a 0) (h56_2 : Col v56_2 fun a => S.P (8*S.j) a 1) (h100 : Mat v100 (S.z (8*S.j))) (h110 : Mat v110 (S.sp (8*S.j))) (h135 : Mat v135 (S.nlb (8*S.j))) (h176 : Mat3 v176 (S.da (8*S.j))) :
    Mat (k0_pay110 v23 v25 v27 v56_1 v56_2 v100 v110 v135 v176) (S.dote (8*S.j)) := by
  intro a c
  simp only [k0_pay110]
  pointwise
  simp only [h27, pay109 S h23 h25 h56_1 h56_2 h100 h110 h135 h176, Sp.dote]

theorem pay111 {v56_4 : FVec Ideal S1024x1 .f32} (h56_4 : Col v56_4 fun a => S.E (8*S.j) a 1) :
    Col (k0_pay111 v56_4) fun a => S.E (8*S.j) a 1 := by
  intro a
  simp only [k0_pay111]
  pointwise
  simp only [h56_4]

theorem pay112 {v56_3 : FVec Ideal S1024x1 .f32} (h56_3 : Col v56_3 fun a => S.E (8*S.j) a 0) :
    Col (k0_pay112 v56_3) fun a => S.E (8*S.j) a 0 := by
  intro a
  simp only [k0_pay112]
  pointwise
  simp only [h56_3]

theorem pay113 (h180 : Mat v180 (S.dote (8*S.j))) (h182 : Col v182 fun a => S.E (8*S.j) a 1) (h183 : Col v183 fun a => S.E (8*S.j) a 0) :
    Mat (k0_pay113 v180 v182 v183) (S.eb (8*S.j)) := by
  intro a c
  simp only [k0_pay113]
  pointwise
  simp only [h180, h182, h183, Sp.ec, Sp.eb]; rfl

theorem pay114 (h146 : Mat v146 (S.sig (8*S.j))) (h178 : Mat v178 (S.e (8*S.j))) (h180 : Mat v180 (S.dote (8*S.j))) (h182 : Col v182 fun a => S.E (8*S.j) a 1) (h183 : Col v183 fun a => S.E (8*S.j) a 0) :
    Mat3 (k0_pay114 v146 v178 v180 v182 v183) (S.dz (8*S.j)) := by
  intro a c
  simp only [k0_pay114]
  pointwise
  have hM : ∀ c : ℕ, S.M (8*S.j) a.val c ↔ c % 128 < a.val := fun c => by unfold Sp.M; omega
  by_cases ha : a.val < 128
  · simp only [msel, h146, h178, pay113 S h180 h182 h183, Sp.dzu, Sp.dz, hM, mask_rem, mask512, ha, dif_pos]
  · have ea : 128 + (a.val - 128) = a.val := by omega
    have hT := lt_all a ha
    simp only [msel, h146, h178, pay113 S h180 h182 h183, Sp.dzu, Sp.dz, hM, mask_rem, mask512, ha, ea, hT, dif_neg, not_false_eq_true, if_true]

theorem pay115 (h175 : Mat v175 (S.att (8*S.j))) :
    Mat3 (k0_pay115 v175) (S.att (8*S.j)) := by
  intro a c
  simp only [k0_pay115]
  pointwise
  simp only [h175]

theorem pay116 (h144 : Mat v144 (S.pin (8*S.j))) :
    Col (k0_pay116 v144) fun a => S.P (8*S.j+1) a 0 := by
  intro a
  simp only [k0_pay116]
  pointwise
  simp only [h144]
  simp (disch := omega) [Sp.pin_one]

theorem pay117 (h144 : Mat v144 (S.pin (8*S.j))) :
    Col (k0_pay117 v144) fun a => S.P (8*S.j+1) a 1 := by
  intro a
  simp only [k0_pay117]
  pointwise
  simp only [h144]
  simp (disch := omega) [Sp.pin_two]

theorem pay118 (h178 : Mat v178 (S.e (8*S.j))) (h180 : Mat v180 (S.dote (8*S.j))) (h182 : Col v182 fun a => S.E (8*S.j) a 1) (h183 : Col v183 fun a => S.E (8*S.j) a 0) :
    Col (k0_pay118 v178 v180 v182 v183) fun a => S.E (8*S.j+1) a 0 := by
  intro a
  simp only [k0_pay118]
  pointwise
  simp only [h178, pay113 S h180 h182 h183]
  simp (disch := omega) [Sp.E_one, Sp.eb, Sp.ec]

theorem pay119 (h178 : Mat v178 (S.e (8*S.j))) (h188 : Mat v188 (S.eb (8*S.j))) :
    Col (k0_pay119 v178 v188) fun a => S.E (8*S.j+1) a 1 := by
  intro a
  simp only [k0_pay119]
  pointwise
  simp only [h178, h188]
  simp (disch := omega) [Sp.eb_two]

theorem pay120 (h232 : Mat3 v232 fun a c => S.z (8*S.j) (512 + a) c) :
    Mat (k0_pay120 v232) fun a c => S.z (8*S.j) (512 + a) c := by
  intro a c
  simp only [k0_pay120]
  pointwise
  simp only [h232]

theorem pay121 (h232 : Mat3 v232 fun a c => S.z (8*S.j) (512 + a) c) :
    Mat (k0_pay121 v232) fun a c => S.sp (8*S.j) (512 + a) c := by
  intro a c
  simp only [k0_pay121]
  pointwise
  simp only [pay120 S h232, Sp.mx, Sp.ab, Sp.ex, Sp.sp]

theorem pay122 {v56_1 : FVec Ideal S1024x1 .f32} {v56_2 : FVec Ideal S1024x1 .f32} (h25 : Mat v25 S.up) (h56_1 : Col v56_1 fun a => S.P (8*S.j) a 0) (h56_2 : Col v56_2 fun a => S.P (8*S.j) a 1) (h232 : Mat3 v232 fun a c => S.z (8*S.j) (512 + a) c) :
    Mat (k0_pay122 v25 v56_1 v56_2 v232) fun a c => S.pin (8*S.j) (512 + a) c := by
  intro a c
  simp only [k0_pay122]
  pointwise
  have hM : ∀ c : ℕ, S.M (8*S.j) (512 + a.val) c ↔ True := fun c => iff_true_intro (by unfold Sp.M; omega)
  simp only [h25, h56_1, h56_2, pay121 S h232, Sp.nlb, Sp.dotn, Sp.pc, Sp.pin, hM, if_true]
  rfl

theorem pay123 {v56_1 : FVec Ideal S1024x1 .f32} {v56_2 : FVec Ideal S1024x1 .f32} (h23 : Mat v23 S.lth) (h25 : Mat v25 S.up) (h56_1 : Col v56_1 fun a => S.P (8*S.j) a 0) (h56_2 : Col v56_2 fun a => S.P (8*S.j) a 1) (h232 : Mat3 v232 fun a c => S.z (8*S.j) (512 + a) c) :
    Mat (k0_pay123 v23 v25 v56_1 v56_2 v232) fun a c => S.att (8*S.j) (512 + a) c := by
  intro a c
  simp only [k0_pay123]
  pointwise
  have hM : ∀ c : ℕ, S.M (8*S.j) (512 + a.val) c ↔ True := fun c => iff_true_intro (by unfold Sp.M; omega)
  simp only [h23, pay120 S h232, pay121 S h232, pay122 S h25 h56_1 h56_2 h232, Sp.lth, Sp.zs, Sp.attu, Sp.att, hM, if_true]

theorem pay124 {v56_1 : FVec Ideal S1024x1 .f32} {v56_2 : FVec Ideal S1024x1 .f32} (h23 : Mat v23 S.lth) (h25 : Mat v25 S.up) (h56_1 : Col v56_1 fun a => S.P (8*S.j) a 0) (h56_2 : Col v56_2 fun a => S.P (8*S.j) a 1) (h232 : Mat3 v232 fun a c => S.z (8*S.j) (512 + a) c) (h261 : Mat3 v261 fun a c => S.da (8*S.j) (512 + a) c) :
    Mat (k0_pay124 v23 v25 v56_1 v56_2 v232 v261) fun a c => S.e (8*S.j) (512 + a) c := by
  intro a c
  simp only [k0_pay124]
  pointwise
  simp only [h261, pay123 S h23 h25 h56_1 h56_2 h232, Sp.e]

theorem pay125 {v56_1 : FVec Ideal S1024x1 .f32} {v56_2 : FVec Ideal S1024x1 .f32} {v56_3 : FVec Ideal S1024x1 .f32} {v56_4 : FVec Ideal S1024x1 .f32} (h23 : Mat v23 S.lth) (h25 : Mat v25 S.up) (h27 : Mat v27 S.be) (h56_1 : Col v56_1 fun a => S.P (8*S.j) a 0) (h56_2 : Col v56_2 fun a => S.P (8*S.j) a 1) (h56_3 : Col v56_3 fun a => S.E (8*S.j) a 0) (h56_4 : Col v56_4 fun a => S.E (8*S.j) a 1) (h232 : Mat3 v232 fun a c => S.z (8*S.j) (512 + a) c) (h261 : Mat3 v261 fun a c => S.da (8*S.j) (512 + a) c) :
    Mat (k0_pay125 v23 v25 v27 v56_1 v56_2 v56_3 v56_4 v232 v261) fun a c => S.eb (8*S.j) (512 + a) c := by
  intro a c
  simp only [k0_pay125]
  pointwise
  simp only [h27, h56_3, h56_4, pay124 S h23 h25 h56_1 h56_2 h232 h261, Sp.dote, Sp.ec, Sp.eb]
  rfl

theorem pay126 {v56_1 : FVec Ideal S1024x1 .f32} {v56_2 : FVec Ideal S1024x1 .f32} {v56_3 : FVec Ideal S1024x1 .f32} {v56_4 : FVec Ideal S1024x1 .f32} (h23 : Mat v23 S.lth) (h25 : Mat v25 S.up) (h27 : Mat v27 S.be) (h56_1 : Col v56_1 fun a => S.P (8*S.j) a 0) (h56_2 : Col v56_2 fun a => S.P (8*S.j) a 1) (h56_3 : Col v56_3 fun a => S.E (8*S.j) a 0) (h56_4 : Col v56_4 fun a => S.E (8*S.j) a 1) (h232 : Mat3 v232 fun a c => S.z (8*S.j) (512 + a) c) (h261 : Mat3 v261 fun a c => S.da (8*S.j) (512 + a) c) :
    Mat (k0_pay126 v23 v25 v27 v56_1 v56_2 v56_3 v56_4 v232 v261) fun a c => S.dz (8*S.j) (512 + a) c := by
  intro a c
  simp only [k0_pay126]
  pointwise
  have hM : ∀ c : ℕ, S.M (8*S.j) (512 + a.val) c ↔ True := fun c => iff_true_intro (by unfold Sp.M; omega)
  simp only [pay120 S h232, pay121 S h232, pay124 S h23 h25 h56_1 h56_2 h232 h261, pay125 S h23 h25 h27 h56_1 h56_2 h56_3 h56_4 h232 h261, Sp.zs, Sp.sig, Sp.dzu, Sp.dz, hM, if_true]

theorem pay127 (h277 : Mat v277 fun a c => S.dz (8*S.j) (512 + a) c) :
    Mat3 (k0_pay127 v277) fun a c => S.dz (8*S.j) (512 + a) c := by
  intro a c
  simp only [k0_pay127]
  pointwise
  simp only [h277]

theorem pay128 (h260 : Mat v260 fun a c => S.att (8*S.j) (512 + a) c) :
    Mat3 (k0_pay128 v260) fun a c => S.att (8*S.j) (512 + a) c := by
  intro a c
  simp only [k0_pay128]
  pointwise
  simp only [h260]

theorem pay129 (h63 : Mat v63 (S.z (8*S.j+1))) :
    Mat3 (k0_pay129 v63) (S.z (8*S.j+1)) := by
  intro a c
  simp only [k0_pay129]
  pointwise
  simp only [h63]

theorem pay130 (h67 : Mat v67 (S.da (8*S.j+1))) :
    Mat3 (k0_pay130 v67) (S.da (8*S.j+1)) := by
  intro a c
  simp only [k0_pay130]
  pointwise
  simp only [h67]

theorem pay131 (h224 : Col v224 fun a => S.P (8*S.j+1) a 0) (h253 : Mat v253 fun a c => S.pin (8*S.j) (512 + a) c) :
    Col (k0_pay131 v224 v253) fun a => S.P (8*S.j+1) a 0 := by
  intro a
  simp only [k0_pay131]
  pointwise
  simp only [h224, h253]
  simp (disch := omega) [Sp.pin_one]

theorem pay132 (h225 : Col v225 fun a => S.P (8*S.j+1) a 1) (h253 : Mat v253 fun a c => S.pin (8*S.j) (512 + a) c) :
    Col (k0_pay132 v225 v253) fun a => S.P (8*S.j+1) a 1 := by
  intro a
  simp only [k0_pay132]
  pointwise
  simp only [h225, h253]
  simp (disch := omega) [Sp.pin_two]

end Cert.Proof.Sb

end
-- ==== Proof.SbPay1.lean ====
module

public import proofs.«01_k».proof.Proof.SbPay0
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v228 v231 v482 v483 v486 v489 : FVec Ideal S512x1 .f32} {v263 v273 v368 v358 v433 v404 v402 v436 v446 : FVec
  Ideal S512x256 .f32} {v7 v9 : FVec Ideal S1024x128 .bf16} {v307 v311 v565 v569 : Vec Ideal S1x1x128x256 .bf16} {v312
  : FVec Ideal S128x256 .bf16} {v316 v330 v574 : Vec Ideal S1x1024x256 .bf16} {v12 v14 : FVec Ideal S128x1024 .bf16}
  {v319 v328 : Vec Ideal S1x1x128x256 .f32} {v98 : FVec Ideal S1024x128 .f32} {v341 : Vec Ideal S256x128 .bf16} {v299
  v300 v301 v302 : FVec Ideal S1024x1 .f32} {v357 v434 : Vec Ideal S1x512x256 .f32} {v25 v27 : FVec Ideal S256x256
  .bf16} {v369 v374 : IVec S128x256 32} {v372 : BitVec 32} {v376 v382 : IVec S128x256 1} {v23 v309 v313 : FVec Ideal
  S1024x256 .f32} {v478 : FVec Ideal S512x256 .bf16} {v490 v519 : Vec Ideal S1x384x256 .f32} {v523 v513 v521 v518 v511
  : FVec Ideal S384x256 .f32} {v353 v354 v355 v356 : FVec Ideal S128x1 .f32}
variable (S : Sp)
include S

theorem pay133 (h228 : Col v228 fun a => S.E (8*S.j+1) a 0) (h263 : Mat v263 fun a c => S.e (8*S.j) (512 + a) c) (h273 : Mat v273 fun a c => S.eb (8*S.j) (512 + a) c) :
    Col (k0_pay133 v228 v263 v273) fun a => S.E (8*S.j+1) a 0 := by
  intro a
  simp only [k0_pay133]
  pointwise
  simp only [h228, h263, h273]
  simp (disch := omega) [Sp.eb_one]

theorem pay134 (h231 : Col v231 fun a => S.E (8*S.j+1) a 1) (h263 : Mat v263 fun a c => S.e (8*S.j) (512 + a) c) (h273 : Mat v273 fun a c => S.eb (8*S.j) (512 + a) c) :
    Col (k0_pay134 v231 v263 v273) fun a => S.E (8*S.j+1) a 1 := by
  intro a
  simp only [k0_pay134]
  pointwise
  simp only [h231, h263, h273]
  simp (disch := omega) [Sp.eb_two]

theorem pay135 (h7 : Mat v7 S.q) (h307 : Tile v307 (S.kt (8*S.j+2))) :
    Mat (k0_pay135 v7 v307) (S.z (8*S.j+2)) := by
  intro a c
  simp only [k0_pay135]
  pointwise
  simp only [h7, h307, Sp.z]

theorem pay136 (h311 : Tile v311 (S.vt (8*S.j+2))) :
    Mat (k0_pay136 v311) (S.vt (8*S.j+2)) := by
  intro a c
  simp only [k0_pay136]
  pointwise
  simp only [h311]

theorem pay137 (h9 : Mat v9 S.dO) (h312 : Mat v312 (S.vt (8*S.j+2))) :
    Mat (k0_pay137 v9 v312) (S.da (8*S.j+2)) := by
  intro a c
  simp only [k0_pay137]
  pointwise
  simp only [h9, h312, Sp.da]

theorem pay138 (h316 : Mat3 v316 (S.dz (8*S.j))) :
    Mat (k0_pay138 v316) (S.dz (8*S.j)) := by
  intro a c
  simp only [k0_pay138]
  pointwise
  simp only [h316]

theorem pay139 (w : ℕ → ℕ → EReal) (h12 : Mat v12 fun a c => S.q c a) (h316 : Mat3 v316 (S.dz (8*S.j))) (h319 : Tile v319 w) :
    Tile (k0_pay139 v12 v316 v319) fun a c => w a c + ∑ r : Fin 1024, S.q r a * S.dz (8*S.j) r c := by
  intro a c
  simp only [k0_pay139]
  pointwise
  simp only [h12, h319, pay138 S h316]

theorem pay140 (w : ℕ → ℕ → EReal) (h14 : Mat v14 fun a c => S.dO c a) (h328 : Tile v328 w) (h330 : Mat3 v330 (S.att (8*S.j))) :
    Tile (k0_pay140 v14 v328 v330) fun a c => w a c + ∑ r : Fin 1024, S.dO r a * S.att (8*S.j) r c := by
  intro a c
  simp only [k0_pay140]
  pointwise
  simp only [h14, h328, h330]

theorem pay141 (h98 : Mat v98 (S.DQ (8*S.j+1))) (h316 : Mat3 v316 (S.dz (8*S.j))) (h341 : Mat v341 fun a c => S.ks (256 * (8*S.j) + a) c) :
    Mat (k0_pay141 v98 v316 v341) (S.DQ (8*S.j+2)) := by
  intro a c
  simp only [k0_pay141]
  pointwise
  simp only [h98, h341, pay138 S h316]
  exact (S.DQ_step _ _ _).symm

theorem pay142 :
    Mat3 (k0_pay142 (F := Ideal)) fun a c => (0 : EReal) := by
  intro a c
  simp only [k0_pay142]
  pointwise

theorem pay143 :
    Mat3 (k0_pay143 (F := Ideal)) fun a c => (0 : EReal) := by
  intro a c
  simp only [k0_pay143]
  pointwise

theorem pay144 (h299 : Col v299 fun a => S.P (8*S.j+1) a 0) :
    Col (k0_pay144 v299) fun a => S.P (8*S.j+1) a 0 := by
  intro a
  simp only [k0_pay144]
  pointwise
  simp only [h299]

theorem pay145 (h300 : Col v300 fun a => S.P (8*S.j+1) a 1) :
    Col (k0_pay145 v300) fun a => S.P (8*S.j+1) a 1 := by
  intro a
  simp only [k0_pay145]
  pointwise
  simp only [h300]

theorem pay146 (h301 : Col v301 fun a => S.E (8*S.j+1) a 0) :
    Col (k0_pay146 v301) fun a => S.E (8*S.j+1) a 0 := by
  intro a
  simp only [k0_pay146]
  pointwise
  simp only [h301]

theorem pay147 (h302 : Col v302 fun a => S.E (8*S.j+1) a 1) :
    Col (k0_pay147 v302) fun a => S.E (8*S.j+1) a 1 := by
  intro a
  simp only [k0_pay147]
  pointwise
  simp only [h302]

theorem pay148 (h357 : Mat3 v357 fun a c => S.z (8*S.j+1) (128 + a) c) :
    Mat (k0_pay148 v357) fun a c => S.z (8*S.j+1) (128 + a) c := by
  intro a c
  simp only [k0_pay148]
  pointwise
  simp only [h357]

theorem pay149 (h357 : Mat3 v357 fun a c => S.z (8*S.j+1) (128 + a) c) :
    Mat (k0_pay149 v357) fun a c => S.sp (8*S.j+1) (128 + a) c := by
  intro a c
  simp only [k0_pay149]
  pointwise
  simp only [pay148 S h357, Sp.mx, Sp.ab, Sp.ex, Sp.sp]

theorem pay153 (h25 : Mat v25 S.up) (h299 : Col v299 fun a => S.P (8*S.j+1) a 0) (h300 : Col v300 fun a => S.P (8*S.j+1) a 1) (h368 : Mat v368 fun a c => S.sp (8*S.j+1) (128 + a) c) (h369 : Mat v369 fun a c => BitVec.ofNat 32 a) (h372 : v372 = 128#32) (h374 : Mat v374 fun a c => IntOp.remsi ArithUnit.vector (BitVec.ofNat 32 c) (128#32)) (h376 : Mat v376 fun a c => IntOp.cmpi CmpIPredicate.ne (IntOp.remsi ArithUnit.vector (BitVec.ofNat 32 c) (128#32)) (0#32)) (h382 : Mat v382 fun a c => IntOp.xori (IntOp.cmpi CmpIPredicate.slt (IntOp.remsi ArithUnit.vector (BitVec.ofNat 32 c) (128#32)) (0#32)) (Scalar.cmpi CmpIPredicate.slt (128#32) (0#32))) :
    Mat (k0_pay153 v25 v299 v300 v368 v369 v372 v374 v376 v382) fun a c => S.pin (8*S.j+1) (128 + a) c := by
  intro a c
  subst h372
  simp only [k0_pay153]
  pointwise
  have hM := S.diag 1 128 a rfl
  by_cases ha : a.val < 128
  · simp only [h25, h299, h300, h368, h369, h374, h376, h382, Sp.nlb, Sp.dotn, Sp.pc, Sp.pin, hM, mask_rem, mask512, ha, dif_pos]; rfl
  · have ea : 128 + (a.val - 128) = a.val := by omega
    have hT := lt_all a ha
    simp only [h25, h299, h300, h368, h369, h374, h376, h382, Sp.nlb, Sp.dotn, Sp.pc, Sp.pin, hM, mask_rem, mask512, ha, ea, hT, dif_neg, not_false_eq_true, if_true]; rfl

theorem pay154 (h358 : Mat v358 fun a c => S.z (8*S.j+1) (128 + a) c) (h368 : Mat v368 fun a c => S.sp (8*S.j+1) (128 + a) c) :
    Mat (k0_pay154 v358 v368) fun a c => S.sig (8*S.j+1) (128 + a) c := by
  intro a c
  simp only [k0_pay154]
  pointwise
  simp only [h358, h368, Sp.zs, Sp.sig]

theorem pay155 (h23 : Mat v23 S.lth) (h25 : Mat v25 S.up) (h299 : Col v299 fun a => S.P (8*S.j+1) a 0) (h300 : Col v300 fun a => S.P (8*S.j+1) a 1) (h358 : Mat v358 fun a c => S.z (8*S.j+1) (128 + a) c) (h368 : Mat v368 fun a c => S.sp (8*S.j+1) (128 + a) c) (h369 : Mat v369 fun a c => BitVec.ofNat 32 a) (h372 : v372 = 128#32) (h374 : Mat v374 fun a c => IntOp.remsi ArithUnit.vector (BitVec.ofNat 32 c) (128#32)) (h376 : Mat v376 fun a c => IntOp.cmpi CmpIPredicate.ne (IntOp.remsi ArithUnit.vector (BitVec.ofNat 32 c) (128#32)) (0#32)) (h382 : Mat v382 fun a c => IntOp.xori (IntOp.cmpi CmpIPredicate.slt (IntOp.remsi ArithUnit.vector (BitVec.ofNat 32 c) (128#32)) (0#32)) (Scalar.cmpi CmpIPredicate.slt (128#32) (0#32))) :
    Mat (k0_pay155 v23 v25 v299 v300 v358 v368 v369 v372 v374 v376 v382) fun a c => S.att (8*S.j+1) (128 + a) c := by
  intro a c
  subst h372
  simp only [k0_pay155]
  pointwise
  have hM := S.diag 1 128 a rfl
  by_cases ha : a.val < 128
  · simp only [msel, h23, h358, h368, pay153 S h25 h299 h300 h368 h369 rfl h374 h376 h382, Sp.lth, Sp.zs, Sp.attu, Sp.att, hM, mask_rem, mask512, ha, dif_pos]
  · have ea : 128 + (a.val - 128) = a.val := by omega
    have hT := lt_all a ha
    simp only [msel, h23, h358, h368, pay153 S h25 h299 h300 h368 h369 rfl h374 h376 h382, Sp.lth, Sp.zs, Sp.attu, Sp.att, hM, mask_rem, mask512, ha, ea, hT, dif_neg, not_false_eq_true, if_true]

theorem pay156 (h433 : Mat v433 fun a c => S.att (8*S.j+1) (128 + a) c) (h434 : Mat3 v434 fun a c => S.da (8*S.j+1) (128 + a) c) :
    Mat (k0_pay156 v433 v434) fun a c => S.e (8*S.j+1) (128 + a) c := by
  intro a c
  simp only [k0_pay156]
  pointwise
  simp only [h433, h434, Sp.e]

theorem pay157 (h27 : Mat v27 S.be) (h301 : Col v301 fun a => S.E (8*S.j+1) a 0) (h302 : Col v302 fun a => S.E (8*S.j+1) a 1) (h433 : Mat v433 fun a c => S.att (8*S.j+1) (128 + a) c) (h434 : Mat3 v434 fun a c => S.da (8*S.j+1) (128 + a) c) :
    Mat (k0_pay157 v27 v301 v302 v433 v434) fun a c => S.eb (8*S.j+1) (128 + a) c := by
  intro a c
  simp only [k0_pay157]
  pointwise
  simp only [h27, h301, h302, pay156 S h433 h434, Sp.dote, Sp.ec, Sp.eb]; rfl

theorem pay158 (h27 : Mat v27 S.be) (h301 : Col v301 fun a => S.E (8*S.j+1) a 0) (h302 : Col v302 fun a => S.E (8*S.j+1) a 1) (h404 : Mat v404 fun a c => S.sig (8*S.j+1) (128 + a) c) (h433 : Mat v433 fun a c => S.att (8*S.j+1) (128 + a) c) (h434 : Mat3 v434 fun a c => S.da (8*S.j+1) (128 + a) c) :
    Mat3 (k0_pay158 v27 v301 v302 v404 v433 v434) fun a c => S.dz (8*S.j+1) (128 + a) c := by
  intro a c
  simp only [k0_pay158]
  pointwise
  have hM := S.diag 1 128 a rfl
  by_cases ha : a.val < 128
  · simp only [msel, h404, pay156 S h433 h434, pay157 S h27 h301 h302 h433 h434, Sp.dzu, Sp.dz, hM, mask_rem, mask512, ha, dif_pos]
  · have ea : 128 + (a.val - 128) = a.val := by omega
    have hT := lt_all a ha
    simp only [msel, h404, pay156 S h433 h434, pay157 S h27 h301 h302 h433 h434, Sp.dzu, Sp.dz, hM, mask_rem, mask512, ha, ea, hT, dif_neg, not_false_eq_true, if_true]

theorem pay159 (h433 : Mat v433 fun a c => S.att (8*S.j+1) (128 + a) c) :
    Mat (k0_pay159 v433) fun a c => S.att (8*S.j+1) (128 + a) c := by
  intro a c
  simp only [k0_pay159]
  pointwise
  simp only [h433]

theorem pay160 (h478 : Mat v478 fun a c => S.att (8*S.j+1) (128 + a) c) :
    Mat3 (k0_pay160 v478) fun a c => S.att (8*S.j+1) (128 + a) c := by
  intro a c
  simp only [k0_pay160]
  pointwise
  simp only [h478]

theorem pay161 (h402 : Mat v402 fun a c => S.pin (8*S.j+1) (128 + a) c) :
    Col (k0_pay161 v402) fun a => S.P (8*S.j+2) (128 + a) 0 := by
  intro a
  simp only [k0_pay161]
  pointwise
  simp only [h402]
  simp (disch := omega) [Sp.pin_one]

theorem pay162 (h402 : Mat v402 fun a c => S.pin (8*S.j+1) (128 + a) c) :
    Col (k0_pay162 v402) fun a => S.P (8*S.j+2) (128 + a) 1 := by
  intro a
  simp only [k0_pay162]
  pointwise
  simp only [h402]
  simp (disch := omega) [Sp.pin_two]

theorem pay163 (h436 : Mat v436 fun a c => S.e (8*S.j+1) (128 + a) c) (h446 : Mat v446 fun a c => S.eb (8*S.j+1) (128 + a) c) :
    Col (k0_pay163 v436 v446) fun a => S.E (8*S.j+2) (128 + a) 0 := by
  intro a
  simp only [k0_pay163]
  pointwise
  simp only [h436, h446]
  simp (disch := omega) [Sp.eb_one]

theorem pay164 (h436 : Mat v436 fun a c => S.e (8*S.j+1) (128 + a) c) (h446 : Mat v446 fun a c => S.eb (8*S.j+1) (128 + a) c) :
    Col (k0_pay164 v436 v446) fun a => S.E (8*S.j+2) (128 + a) 1 := by
  intro a
  simp only [k0_pay164]
  pointwise
  simp only [h436, h446]
  simp (disch := omega) [Sp.eb_two]

theorem pay165 (h490 : Mat3 v490 fun a c => S.z (8*S.j+1) (640 + a) c) :
    Mat (k0_pay165 v490) fun a c => S.z (8*S.j+1) (640 + a) c := by
  intro a c
  simp only [k0_pay165]
  pointwise
  simp only [h490]

theorem pay166 (h490 : Mat3 v490 fun a c => S.z (8*S.j+1) (640 + a) c) :
    Mat (k0_pay166 v490) fun a c => S.sp (8*S.j+1) (640 + a) c := by
  intro a c
  simp only [k0_pay166]
  pointwise
  simp only [pay165 S h490, Sp.mx, Sp.ab, Sp.ex, Sp.sp]

theorem pay167 (h25 : Mat v25 S.up) (h299 : Col v299 fun a => S.P (8*S.j+1) a 0) (h300 : Col v300 fun a => S.P (8*S.j+1) a 1) (h490 : Mat3 v490 fun a c => S.z (8*S.j+1) (640 + a) c) :
    Mat (k0_pay167 v25 v299 v300 v490) fun a c => S.pin (8*S.j+1) (640 + a) c := by
  intro a c
  simp only [k0_pay167]
  pointwise
  have hM := S.full 1 640 a (by decide)
  simp only [h25, h299, h300, pay166 S h490, Sp.nlb, Sp.dotn, Sp.pc, Sp.pin, hM, if_true]
  rfl

theorem pay168 (h490 : Mat3 v490 fun a c => S.z (8*S.j+1) (640 + a) c) :
    Mat (k0_pay168 v490) fun a c => S.sig (8*S.j+1) (640 + a) c := by
  intro a c
  simp only [k0_pay168]
  pointwise
  simp only [pay165 S h490, pay166 S h490, Sp.zs, Sp.sig]

theorem pay169 (h23 : Mat v23 S.lth) (h25 : Mat v25 S.up) (h299 : Col v299 fun a => S.P (8*S.j+1) a 0) (h300 : Col v300 fun a => S.P (8*S.j+1) a 1) (h490 : Mat3 v490 fun a c => S.z (8*S.j+1) (640 + a) c) :
    Mat (k0_pay169 v23 v25 v299 v300 v490) fun a c => S.att (8*S.j+1) (640 + a) c := by
  intro a c
  simp only [k0_pay169]
  pointwise
  have hM := S.full 1 640 a (by decide)
  simp only [h23, pay165 S h490, pay166 S h490, pay167 S h25 h299 h300 h490, Sp.lth, Sp.zs, Sp.attu, Sp.att, hM, if_true]

theorem pay170 (h23 : Mat v23 S.lth) (h25 : Mat v25 S.up) (h299 : Col v299 fun a => S.P (8*S.j+1) a 0) (h300 : Col v300 fun a => S.P (8*S.j+1) a 1) (h490 : Mat3 v490 fun a c => S.z (8*S.j+1) (640 + a) c) (h519 : Mat3 v519 fun a c => S.da (8*S.j+1) (640 + a) c) :
    Mat (k0_pay170 v23 v25 v299 v300 v490 v519) fun a c => S.e (8*S.j+1) (640 + a) c := by
  intro a c
  simp only [k0_pay170]
  pointwise
  simp only [h519, pay169 S h23 h25 h299 h300 h490, Sp.e]

theorem pay171 (h23 : Mat v23 S.lth) (h25 : Mat v25 S.up) (h27 : Mat v27 S.be) (h299 : Col v299 fun a => S.P (8*S.j+1) a 0) (h300 : Col v300 fun a => S.P (8*S.j+1) a 1) (h490 : Mat3 v490 fun a c => S.z (8*S.j+1) (640 + a) c) (h519 : Mat3 v519 fun a c => S.da (8*S.j+1) (640 + a) c) :
    Mat (k0_pay171 v23 v25 v27 v299 v300 v490 v519) fun a c => S.dote (8*S.j+1) (640 + a) c := by
  intro a c
  simp only [k0_pay171]
  pointwise
  simp only [h27, pay170 S h23 h25 h299 h300 h490 h519, Sp.dote]

theorem pay172 (h301 : Col v301 fun a => S.E (8*S.j+1) a 0) (h302 : Col v302 fun a => S.E (8*S.j+1) a 1) (h523 : Mat v523 fun a c => S.dote (8*S.j+1) (640 + a) c) :
    Mat (k0_pay172 v301 v302 v523) fun a c => S.eb (8*S.j+1) (640 + a) c := by
  intro a c
  simp only [k0_pay172]
  pointwise
  simp only [h301, h302, h523, Sp.ec, Sp.eb]
  rfl

theorem pay173 (h301 : Col v301 fun a => S.E (8*S.j+1) a 0) (h302 : Col v302 fun a => S.E (8*S.j+1) a 1) (h513 : Mat v513 fun a c => S.sig (8*S.j+1) (640 + a) c) (h521 : Mat v521 fun a c => S.e (8*S.j+1) (640 + a) c) (h523 : Mat v523 fun a c => S.dote (8*S.j+1) (640 + a) c) :
    Mat3 (k0_pay173 v301 v302 v513 v521 v523) fun a c => S.dz (8*S.j+1) (640 + a) c := by
  intro a c
  simp only [k0_pay173]
  pointwise
  have hM := S.full 1 640 a (by decide)
  simp only [h513, h521, pay172 S h301 h302 h523, Sp.dzu, Sp.dz, hM, if_true]

theorem pay174 (h518 : Mat v518 fun a c => S.att (8*S.j+1) (640 + a) c) :
    Mat3 (k0_pay174 v518) fun a c => S.att (8*S.j+1) (640 + a) c := by
  intro a c
  simp only [k0_pay174]
  pointwise
  simp only [h518]

theorem pay175 (h309 : Mat v309 (S.z (8*S.j+2))) :
    Mat3 (k0_pay175 v309) (S.z (8*S.j+2)) := by
  intro a c
  simp only [k0_pay175]
  pointwise
  simp only [h309]

theorem pay176 (h313 : Mat v313 (S.da (8*S.j+2))) :
    Mat3 (k0_pay176 v313) (S.da (8*S.j+2)) := by
  intro a c
  simp only [k0_pay176]
  pointwise
  simp only [h313]

theorem pay177 (h353 : Col v353 fun a => S.P (8*S.j+1) a 0) (h482 : Col v482 fun a => S.P (8*S.j+2) (128 + a) 0) (h511 : Mat v511 fun a c => S.pin (8*S.j+1) (640 + a) c) :
    Col (k0_pay177 v353 v482 v511) fun a => S.P (8*S.j+2) a 0 := by
  intro a
  simp only [k0_pay177]
  pointwise
  simp only [h353, h482, h511]
  try repeat' split
  all_goals first | done | exact (S.P_succ fun c => by unfold Sp.M; omega).symm | (simp (disch := omega) [Nat.sub_sub, Sp.pin_one] <;> first | done | skip)

theorem pay178 (h354 : Col v354 fun a => S.P (8*S.j+1) a 1) (h483 : Col v483 fun a => S.P (8*S.j+2) (128 + a) 1) (h511 : Mat v511 fun a c => S.pin (8*S.j+1) (640 + a) c) :
    Col (k0_pay178 v354 v483 v511) fun a => S.P (8*S.j+2) a 1 := by
  intro a
  simp only [k0_pay178]
  pointwise
  simp only [h354, h483, h511]
  try repeat' split
  all_goals first | done | exact (S.P_succ fun c => by unfold Sp.M; omega).symm | (simp (disch := omega) [Nat.sub_sub, Sp.pin_two] <;> first | done | skip)

theorem pay179 (h301 : Col v301 fun a => S.E (8*S.j+1) a 0) (h302 : Col v302 fun a => S.E (8*S.j+1) a 1) (h355 : Col v355 fun a => S.E (8*S.j+1) a 0) (h486 : Col v486 fun a => S.E (8*S.j+2) (128 + a) 0) (h521 : Mat v521 fun a c => S.e (8*S.j+1) (640 + a) c) (h523 : Mat v523 fun a c => S.dote (8*S.j+1) (640 + a) c) :
    Col (k0_pay179 v301 v302 v355 v486 v521 v523) fun a => S.E (8*S.j+2) a 0 := by
  intro a
  simp only [k0_pay179]
  pointwise
  simp only [h355, h486, h521, pay172 S h301 h302 h523]
  try repeat' split
  all_goals first | done | exact (S.E_succ fun c => by unfold Sp.M; omega).symm | (simp (disch := omega) [Nat.sub_sub, Sp.E_one, Sp.eb, Sp.ec] <;> first | done | skip)

theorem pay180 (h301 : Col v301 fun a => S.E (8*S.j+1) a 0) (h302 : Col v302 fun a => S.E (8*S.j+1) a 1) (h356 : Col v356 fun a => S.E (8*S.j+1) a 1) (h489 : Col v489 fun a => S.E (8*S.j+2) (128 + a) 1) (h521 : Mat v521 fun a c => S.e (8*S.j+1) (640 + a) c) (h523 : Mat v523 fun a c => S.dote (8*S.j+1) (640 + a) c) :
    Col (k0_pay180 v301 v302 v356 v489 v521 v523) fun a => S.E (8*S.j+2) a 1 := by
  intro a
  simp only [k0_pay180]
  pointwise
  simp only [h356, h489, h521, pay172 S h301 h302 h523]
  try repeat' split
  all_goals first | done | exact (S.E_succ fun c => by unfold Sp.M; omega).symm | (simp (disch := omega) [Nat.sub_sub, Sp.E_two, Sp.eb, Sp.ec] <;> first | done | skip)

theorem pay181 (h7 : Mat v7 S.q) (h565 : Tile v565 (S.kt (8*S.j+3))) :
    Mat (k0_pay181 v7 v565) (S.z (8*S.j+3)) := by
  intro a c
  simp only [k0_pay181]
  pointwise
  simp only [h7, h565, Sp.z]

theorem pay182 (h9 : Mat v9 S.dO) (h569 : Tile v569 (S.vt (8*S.j+3))) :
    Mat (k0_pay182 v9 v569) (S.da (8*S.j+3)) := by
  intro a c
  simp only [k0_pay182]
  pointwise
  simp only [h9, h569, Sp.da]

theorem pay183 (h574 : Mat3 v574 (S.dz (8*S.j+1))) :
    Mat (k0_pay183 v574) (S.dz (8*S.j+1)) := by
  intro a c
  simp only [k0_pay183]
  pointwise
  simp only [h574]

end Cert.Proof.Sb

end
-- ==== Proof.SbPay2.lean ====
module

public import proofs.«01_k».proof.Proof.SbPay1
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v12 v14 : FVec Ideal S128x1024 .bf16} {v574 v588 : Vec Ideal S1x1024x256 .bf16} {v577 v586 : Vec Ideal
  S1x1x128x256 .f32} {v591 v727 : FVec Ideal S128x256 .f32} {v344 : FVec Ideal S1024x128 .f32} {v575 : FVec Ideal
  S1024x256 .bf16} {v599 : Vec Ideal S256x128 .bf16} {v557 v558 v559 v560 : FVec Ideal S1024x1 .f32} {v615 v692 : Vec
  Ideal S1x512x256 .f32} {v25 v27 : FVec Ideal S256x256 .bf16} {v626 v616 v667 v662 v707 v691 v660 v694 v704 : FVec
  Ideal S512x256 .f32} {v627 v628 v631 v668 v673 : IVec S128x256 32} {v630 v671 : BitVec 32} {v23 v567 v571 : FVec
  Ideal S1024x256 .f32} {v675 v677 v680 v726 : IVec S128x256 1} {v748 v777 : Vec Ideal S1x256x256 .f32} {v769 v772
  v773 v771 : FVec Ideal S256x256 .f32} {v611 v801 v612 v802 v613 v805 v614 v808 : FVec Ideal S256x1 .f32} {v740 v741
  v744 v747 : FVec Ideal S512x1 .f32}
variable (S : Sp)
include S

theorem pay184 (w : ℕ → ℕ → EReal) (h12 : Mat v12 fun a c => S.q c a) (h574 : Mat3 v574 (S.dz (8*S.j+1))) (h577 : Tile v577 w) :
    Tile (k0_pay184 v12 v574 v577) fun a c => w a c + ∑ r : Fin 1024, S.q r a * S.dz (8*S.j+1) r c := by
  intro a c
  simp only [k0_pay184]
  pointwise
  simp only [h12, h577, pay183 S h574]

theorem pay185 (w : ℕ → ℕ → EReal) (h14 : Mat v14 fun a c => S.dO c a) (h586 : Tile v586 w) (h588 : Mat3 v588 (S.att (8*S.j+1))) :
    Mat (k0_pay185 v14 v586 v588) fun a c => w a c + ∑ r : Fin 1024, S.dO r a * S.att (8*S.j+1) r c := by
  intro a c
  simp only [k0_pay185]
  pointwise
  simp only [h14, h586, h588]

theorem pay186 (w : ℕ → ℕ → EReal) (h591 : Mat v591 w) :
    Tile (k0_pay186 v591) w := by
  intro a c
  simp only [k0_pay186]
  pointwise
  simp only [h591]

theorem pay187 (h344 : Mat v344 (S.DQ (8*S.j+2))) (h575 : Mat v575 (S.dz (8*S.j+1))) (h599 : Mat v599 fun a c => S.ks (256 * (8*S.j+1) + a) c) :
    Mat (k0_pay187 v344 v575 v599) (S.DQ (8*S.j+3)) := by
  intro a c
  simp only [k0_pay187]
  pointwise
  simp only [h344, h575, h599]
  exact (S.DQ_step _ _ _).symm

theorem pay188 :
    Mat3 (k0_pay188 (F := Ideal)) fun a c => (0 : EReal) := by
  intro a c
  simp only [k0_pay188]
  pointwise

theorem pay189 :
    Mat3 (k0_pay189 (F := Ideal)) fun a c => (0 : EReal) := by
  intro a c
  simp only [k0_pay189]
  pointwise

theorem pay190 (h557 : Col v557 fun a => S.P (8*S.j+2) a 0) :
    Col (k0_pay190 v557) fun a => S.P (8*S.j+2) a 0 := by
  intro a
  simp only [k0_pay190]
  pointwise
  simp only [h557]

theorem pay191 (h558 : Col v558 fun a => S.P (8*S.j+2) a 1) :
    Col (k0_pay191 v558) fun a => S.P (8*S.j+2) a 1 := by
  intro a
  simp only [k0_pay191]
  pointwise
  simp only [h558]

theorem pay192 (h559 : Col v559 fun a => S.E (8*S.j+2) a 0) :
    Col (k0_pay192 v559) fun a => S.E (8*S.j+2) a 0 := by
  intro a
  simp only [k0_pay192]
  pointwise
  simp only [h559]

theorem pay193 (h560 : Col v560 fun a => S.E (8*S.j+2) a 1) :
    Col (k0_pay193 v560) fun a => S.E (8*S.j+2) a 1 := by
  intro a
  simp only [k0_pay193]
  pointwise
  simp only [h560]

theorem pay194 (h615 : Mat3 v615 fun a c => S.z (8*S.j+2) (256 + a) c) :
    Mat (k0_pay194 v615) fun a c => S.z (8*S.j+2) (256 + a) c := by
  intro a c
  simp only [k0_pay194]
  pointwise
  simp only [h615]

theorem pay195 (h615 : Mat3 v615 fun a c => S.z (8*S.j+2) (256 + a) c) :
    Mat (k0_pay195 v615) fun a c => S.sp (8*S.j+2) (256 + a) c := by
  intro a c
  simp only [k0_pay195]
  pointwise
  simp only [pay194 S h615, Sp.mx, Sp.ab, Sp.ex, Sp.sp]

theorem pay197 (h25 : Mat v25 S.up) (h557 : Col v557 fun a => S.P (8*S.j+2) a 0) (h558 : Col v558 fun a => S.P (8*S.j+2) a 1) (h626 : Mat v626 fun a c => S.sp (8*S.j+2) (256 + a) c) (h627 : Mat v627 fun a c => BitVec.ofNat 32 a) (h628 : Mat v628 fun a c => BitVec.ofNat 32 c) (h630 : v630 = 128#32) (h631 : Mat v631 fun a c => 128#32) :
    Mat (k0_pay197 v25 v557 v558 v626 v627 v628 v630 v631) fun a c => S.pin (8*S.j+2) (256 + a) c := by
  intro a c
  subst h630
  simp only [k0_pay197]
  pointwise
  have hM := S.diag 2 256 a rfl
  by_cases ha : a.val < 128
  · simp only [h25, h557, h558, h626, h627, h628, h631, Sp.nlb, Sp.dotn, Sp.pc, Sp.pin, hM, mask_rem, mask512, ha, dif_pos]; rfl
  · have ea : 128 + (a.val - 128) = a.val := by omega
    have hT := lt_all a ha
    simp only [h25, h557, h558, h626, h627, h628, h631, Sp.nlb, Sp.dotn, Sp.pc, Sp.pin, hM, mask_rem, mask512, ha, ea, hT, dif_neg, not_false_eq_true, if_true]; rfl

theorem pay198 (h616 : Mat v616 fun a c => S.z (8*S.j+2) (256 + a) c) (h626 : Mat v626 fun a c => S.sp (8*S.j+2) (256 + a) c) :
    Mat (k0_pay198 v616 v626) fun a c => S.sig (8*S.j+2) (256 + a) c := by
  intro a c
  simp only [k0_pay198]
  pointwise
  simp only [h616, h626, Sp.zs, Sp.sig]

theorem pay199 (h23 : Mat v23 S.lth) (h25 : Mat v25 S.up) (h557 : Col v557 fun a => S.P (8*S.j+2) a 0) (h558 : Col v558 fun a => S.P (8*S.j+2) a 1) (h616 : Mat v616 fun a c => S.z (8*S.j+2) (256 + a) c) (h626 : Mat v626 fun a c => S.sp (8*S.j+2) (256 + a) c) (h627 : Mat v627 fun a c => BitVec.ofNat 32 a) (h628 : Mat v628 fun a c => BitVec.ofNat 32 c) (h630 : v630 = 128#32) (h631 : Mat v631 fun a c => 128#32) :
    Mat (k0_pay199 v23 v25 v557 v558 v616 v626 v627 v628 v630 v631) fun a c => S.attu (8*S.j+2) (256 + a) c := by
  intro a c
  subst h630
  simp only [k0_pay199]
  pointwise
  simp only [h23, h616, h626, pay197 S h25 h557 h558 h626 h627 h628 rfl h631, Sp.lth, Sp.zs, Sp.attu]

theorem pay204 (h667 : Mat v667 fun a c => S.attu (8*S.j+2) (256 + a) c) (h668 : Mat v668 fun a c => BitVec.ofNat 32 a) (h671 : v671 = 128#32) (h673 : Mat v673 fun a c => IntOp.remsi ArithUnit.vector (BitVec.ofNat 32 c) (128#32)) (h675 : Mat v675 fun a c => IntOp.cmpi CmpIPredicate.ne (IntOp.remsi ArithUnit.vector (BitVec.ofNat 32 c) (128#32)) (0#32)) (h677 : Mat v677 fun a c => IntOp.cmpi CmpIPredicate.slt (IntOp.remsi ArithUnit.vector (BitVec.ofNat 32 c) (128#32)) (0#32)) (h680 : Mat v680 fun a c => Scalar.cmpi CmpIPredicate.slt (128#32) (0#32)) :
    Mat (k0_pay204 v667 v668 v671 v673 v675 v677 v680) fun a c => S.att (8*S.j+2) (256 + a) c := by
  intro a c
  subst h671
  simp only [k0_pay204]
  pointwise
  have hM := S.diag 2 256 a rfl
  by_cases ha : a.val < 128
  · simp only [h667, h668, h673, h675, h677, h680, Sp.att, hM, mask_rem, mask512, ha, dif_pos]
  · have ea : 128 + (a.val - 128) = a.val := by omega
    have hT := lt_all a ha
    simp only [h667, h668, h673, h675, h677, h680, Sp.att, hM, mask_rem, mask512, ha, ea, hT, dif_neg, not_false_eq_true, if_true]

theorem pay205 (h667 : Mat v667 fun a c => S.attu (8*S.j+2) (256 + a) c) (h668 : Mat v668 fun a c => BitVec.ofNat 32 a) (h671 : v671 = 128#32) (h673 : Mat v673 fun a c => IntOp.remsi ArithUnit.vector (BitVec.ofNat 32 c) (128#32)) (h675 : Mat v675 fun a c => IntOp.cmpi CmpIPredicate.ne (IntOp.remsi ArithUnit.vector (BitVec.ofNat 32 c) (128#32)) (0#32)) (h677 : Mat v677 fun a c => IntOp.cmpi CmpIPredicate.slt (IntOp.remsi ArithUnit.vector (BitVec.ofNat 32 c) (128#32)) (0#32)) (h680 : Mat v680 fun a c => Scalar.cmpi CmpIPredicate.slt (128#32) (0#32)) (h692 : Mat3 v692 fun a c => S.da (8*S.j+2) (256 + a) c) :
    Mat (k0_pay205 v667 v668 v671 v673 v675 v677 v680 v692) fun a c => S.e (8*S.j+2) (256 + a) c := by
  intro a c
  subst h671
  simp only [k0_pay205]
  pointwise
  simp only [h692, pay204 S h667 h668 rfl h673 h675 h677 h680, Sp.e]

theorem pay206 (h27 : Mat v27 S.be) (h559 : Col v559 fun a => S.E (8*S.j+2) a 0) (h560 : Col v560 fun a => S.E (8*S.j+2) a 1) (h667 : Mat v667 fun a c => S.attu (8*S.j+2) (256 + a) c) (h668 : Mat v668 fun a c => BitVec.ofNat 32 a) (h671 : v671 = 128#32) (h673 : Mat v673 fun a c => IntOp.remsi ArithUnit.vector (BitVec.ofNat 32 c) (128#32)) (h675 : Mat v675 fun a c => IntOp.cmpi CmpIPredicate.ne (IntOp.remsi ArithUnit.vector (BitVec.ofNat 32 c) (128#32)) (0#32)) (h677 : Mat v677 fun a c => IntOp.cmpi CmpIPredicate.slt (IntOp.remsi ArithUnit.vector (BitVec.ofNat 32 c) (128#32)) (0#32)) (h680 : Mat v680 fun a c => Scalar.cmpi CmpIPredicate.slt (128#32) (0#32)) (h692 : Mat3 v692 fun a c => S.da (8*S.j+2) (256 + a) c) :
    Mat (k0_pay206 v27 v559 v560 v667 v668 v671 v673 v675 v677 v680 v692) fun a c => S.eb (8*S.j+2) (256 + a) c := by
  intro a c
  subst h671
  simp only [k0_pay206]
  pointwise
  simp only [h27, h559, h560, pay205 S h667 h668 rfl h673 h675 h677 h680 h692, Sp.dote, Sp.ec, Sp.eb]; rfl

theorem pay207 (h27 : Mat v27 S.be) (h559 : Col v559 fun a => S.E (8*S.j+2) a 0) (h560 : Col v560 fun a => S.E (8*S.j+2) a 1) (h662 : Mat v662 fun a c => S.sig (8*S.j+2) (256 + a) c) (h667 : Mat v667 fun a c => S.attu (8*S.j+2) (256 + a) c) (h668 : Mat v668 fun a c => BitVec.ofNat 32 a) (h671 : v671 = 128#32) (h673 : Mat v673 fun a c => IntOp.remsi ArithUnit.vector (BitVec.ofNat 32 c) (128#32)) (h675 : Mat v675 fun a c => IntOp.cmpi CmpIPredicate.ne (IntOp.remsi ArithUnit.vector (BitVec.ofNat 32 c) (128#32)) (0#32)) (h677 : Mat v677 fun a c => IntOp.cmpi CmpIPredicate.slt (IntOp.remsi ArithUnit.vector (BitVec.ofNat 32 c) (128#32)) (0#32)) (h680 : Mat v680 fun a c => Scalar.cmpi CmpIPredicate.slt (128#32) (0#32)) (h692 : Mat3 v692 fun a c => S.da (8*S.j+2) (256 + a) c) :
    Mat (k0_pay207 v27 v559 v560 v662 v667 v668 v671 v673 v675 v677 v680 v692) fun a c => S.dzu (8*S.j+2) (256 + a) c := by
  intro a c
  subst h671
  simp only [k0_pay207]
  pointwise
  simp only [h662, pay205 S h667 h668 rfl h673 h675 h677 h680 h692, pay206 S h27 h559 h560 h667 h668 rfl h673 h675 h677 h680 h692, Sp.dzu]

theorem pay209 (h27 : Mat v27 S.be) (h559 : Col v559 fun a => S.E (8*S.j+2) a 0) (h560 : Col v560 fun a => S.E (8*S.j+2) a 1) (h662 : Mat v662 fun a c => S.sig (8*S.j+2) (256 + a) c) (h667 : Mat v667 fun a c => S.attu (8*S.j+2) (256 + a) c) (h668 : Mat v668 fun a c => BitVec.ofNat 32 a) (h671 : v671 = 128#32) (h673 : Mat v673 fun a c => IntOp.remsi ArithUnit.vector (BitVec.ofNat 32 c) (128#32)) (h675 : Mat v675 fun a c => IntOp.cmpi CmpIPredicate.ne (IntOp.remsi ArithUnit.vector (BitVec.ofNat 32 c) (128#32)) (0#32)) (h677 : Mat v677 fun a c => IntOp.cmpi CmpIPredicate.slt (IntOp.remsi ArithUnit.vector (BitVec.ofNat 32 c) (128#32)) (0#32)) (h680 : Mat v680 fun a c => Scalar.cmpi CmpIPredicate.slt (128#32) (0#32)) (h692 : Mat3 v692 fun a c => S.da (8*S.j+2) (256 + a) c) :
    Mat (k0_pay209 v27 v559 v560 v662 v667 v668 v671 v673 v675 v677 v680 v692) fun a c => S.dzu (8*S.j+2) (256 + a) c := by
  intro a c
  subst h671
  simp only [k0_pay209]
  pointwise
  simp only [pay207 S h27 h559 h560 h662 h667 h668 rfl h673 h675 h677 h680 h692]

theorem pay210 :
    Mat (k0_pay210 (F := Ideal)) fun a c => (0 : EReal) := by
  intro a c
  simp only [k0_pay210]
  pointwise

theorem pay211 (h707 : Mat v707 fun a c => S.dzu (8*S.j+2) (256 + a) c) (h726 : Mat v726 fun a c => IntOp.cmpi CmpIPredicate.slt (Scalar.select (IntOp.andi (IntOp.xori (IntOp.cmpi CmpIPredicate.slt (IntOp.remsi ArithUnit.vector (BitVec.ofNat 32 c) (128#32)) (0#32)) (Scalar.cmpi CmpIPredicate.slt (128#32) (0#32))) (IntOp.cmpi CmpIPredicate.ne (IntOp.remsi ArithUnit.vector (BitVec.ofNat 32 c) (128#32)) (0#32))) (IntOp.addi (IntOp.remsi ArithUnit.vector (BitVec.ofNat 32 c) (128#32)) (128#32)) (IntOp.remsi ArithUnit.vector (BitVec.ofNat 32 c) (128#32))) (BitVec.ofNat 32 a)) (h727 : Mat v727 fun a c => S.dzu (8*S.j+2) (256 + a) c) :
    Mat3 (k0_pay211 v707 v726 v727 k0_pay210) fun a c => S.dz (8*S.j+2) (256 + a) c := by
  intro a c
  simp only [k0_pay211, k0_pay210]
  pointwise
  have hM := S.diag 2 256 a rfl
  by_cases ha : a.val < 128
  · simp only [h707, h726, h727, Sp.dz, hM, mask_rem, mask512, ha, dif_pos]
  · have ea : 128 + (a.val - 128) = a.val := by omega
    have hT := lt_all a ha
    simp only [h707, h726, h727, Sp.dz, hM, mask_rem, mask512, ha, ea, hT, dif_neg, not_false_eq_true, if_true]

theorem pay212 (h691 : Mat v691 fun a c => S.att (8*S.j+2) (256 + a) c) :
    Mat3 (k0_pay212 v691) fun a c => S.att (8*S.j+2) (256 + a) c := by
  intro a c
  simp only [k0_pay212]
  pointwise
  simp only [h691]

theorem pay213 (h660 : Mat v660 fun a c => S.pin (8*S.j+2) (256 + a) c) :
    Col (k0_pay213 v660) fun a => S.P (8*S.j+3) (256 + a) 0 := by
  intro a
  simp only [k0_pay213]
  pointwise
  simp only [h660]
  simp (disch := omega) [Sp.pin_one]

theorem pay214 (h660 : Mat v660 fun a c => S.pin (8*S.j+2) (256 + a) c) :
    Col (k0_pay214 v660) fun a => S.P (8*S.j+3) (256 + a) 1 := by
  intro a
  simp only [k0_pay214]
  pointwise
  simp only [h660]
  simp (disch := omega) [Sp.pin_two]

theorem pay215 (h694 : Mat v694 fun a c => S.e (8*S.j+2) (256 + a) c) (h704 : Mat v704 fun a c => S.eb (8*S.j+2) (256 + a) c) :
    Col (k0_pay215 v694 v704) fun a => S.E (8*S.j+3) (256 + a) 0 := by
  intro a
  simp only [k0_pay215]
  pointwise
  simp only [h694, h704]
  simp (disch := omega) [Sp.eb_one]

theorem pay216 (h694 : Mat v694 fun a c => S.e (8*S.j+2) (256 + a) c) (h704 : Mat v704 fun a c => S.eb (8*S.j+2) (256 + a) c) :
    Col (k0_pay216 v694 v704) fun a => S.E (8*S.j+3) (256 + a) 1 := by
  intro a
  simp only [k0_pay216]
  pointwise
  simp only [h694, h704]
  simp (disch := omega) [Sp.eb_two]

theorem pay217 (h748 : Mat3 v748 fun a c => S.z (8*S.j+2) (768 + a) c) :
    Mat (k0_pay217 v748) fun a c => S.z (8*S.j+2) (768 + a) c := by
  intro a c
  simp only [k0_pay217]
  pointwise
  simp only [h748]

theorem pay218 (h748 : Mat3 v748 fun a c => S.z (8*S.j+2) (768 + a) c) :
    Mat (k0_pay218 v748) fun a c => S.sp (8*S.j+2) (768 + a) c := by
  intro a c
  simp only [k0_pay218]
  pointwise
  simp only [pay217 S h748, Sp.mx, Sp.ab, Sp.ex, Sp.sp]

theorem pay219 (h25 : Mat v25 S.up) (h557 : Col v557 fun a => S.P (8*S.j+2) a 0) (h558 : Col v558 fun a => S.P (8*S.j+2) a 1) (h748 : Mat3 v748 fun a c => S.z (8*S.j+2) (768 + a) c) :
    Mat (k0_pay219 v25 v557 v558 v748) fun a c => S.pin (8*S.j+2) (768 + a) c := by
  intro a c
  simp only [k0_pay219]
  pointwise
  have hM := S.full 2 768 a (by decide)
  simp only [h25, h557, h558, pay218 S h748, Sp.nlb, Sp.dotn, Sp.pc, Sp.pin, hM, if_true]
  rfl

theorem pay220 (h748 : Mat3 v748 fun a c => S.z (8*S.j+2) (768 + a) c) :
    Mat (k0_pay220 v748) fun a c => S.sig (8*S.j+2) (768 + a) c := by
  intro a c
  simp only [k0_pay220]
  pointwise
  simp only [pay217 S h748, pay218 S h748, Sp.zs, Sp.sig]

theorem pay221 (h748 : Mat3 v748 fun a c => S.z (8*S.j+2) (768 + a) c) :
    Mat (k0_pay221 v748) fun a c => S.zs (8*S.j+2) (768 + a) c := by
  intro a c
  simp only [k0_pay221]
  pointwise
  simp only [pay217 S h748, pay218 S h748, Sp.zs]

theorem pay222 (h23 : Mat v23 S.lth) :
    Mat (k0_pay222 v23) fun a c => S.lth (768 + a) c := by
  intro a c
  simp only [k0_pay222]
  pointwise
  simp only [h23, Sp.lth]

theorem pay223 (h769 : Mat v769 fun a c => S.pin (8*S.j+2) (768 + a) c) (h772 : Mat v772 fun a c => S.zs (8*S.j+2) (768 + a) c) (h773 : Mat v773 fun a c => S.lth (768 + a) c) :
    Mat (k0_pay223 v769 v772 v773) fun a c => S.att (8*S.j+2) (768 + a) c := by
  intro a c
  simp only [k0_pay223]
  pointwise
  have hM := S.full 2 768 a (by decide)
  simp only [h769, h772, h773, Sp.lth, Sp.attu, Sp.att, hM, if_true]

theorem pay224 (h769 : Mat v769 fun a c => S.pin (8*S.j+2) (768 + a) c) (h772 : Mat v772 fun a c => S.zs (8*S.j+2) (768 + a) c) (h773 : Mat v773 fun a c => S.lth (768 + a) c) (h777 : Mat3 v777 fun a c => S.da (8*S.j+2) (768 + a) c) :
    Mat (k0_pay224 v769 v772 v773 v777) fun a c => S.e (8*S.j+2) (768 + a) c := by
  intro a c
  simp only [k0_pay224]
  pointwise
  simp only [h777, pay223 S h769 h772 h773, Sp.e]

theorem pay225 (h27 : Mat v27 S.be) (h559 : Col v559 fun a => S.E (8*S.j+2) a 0) (h560 : Col v560 fun a => S.E (8*S.j+2) a 1) (h769 : Mat v769 fun a c => S.pin (8*S.j+2) (768 + a) c) (h772 : Mat v772 fun a c => S.zs (8*S.j+2) (768 + a) c) (h773 : Mat v773 fun a c => S.lth (768 + a) c) (h777 : Mat3 v777 fun a c => S.da (8*S.j+2) (768 + a) c) :
    Mat (k0_pay225 v27 v559 v560 v769 v772 v773 v777) fun a c => S.eb (8*S.j+2) (768 + a) c := by
  intro a c
  simp only [k0_pay225]
  pointwise
  simp only [h27, h559, h560, pay224 S h769 h772 h773 h777, Sp.dote, Sp.ec, Sp.eb]
  rfl

theorem pay226 (h27 : Mat v27 S.be) (h559 : Col v559 fun a => S.E (8*S.j+2) a 0) (h560 : Col v560 fun a => S.E (8*S.j+2) a 1) (h769 : Mat v769 fun a c => S.pin (8*S.j+2) (768 + a) c) (h771 : Mat v771 fun a c => S.sig (8*S.j+2) (768 + a) c) (h772 : Mat v772 fun a c => S.zs (8*S.j+2) (768 + a) c) (h773 : Mat v773 fun a c => S.lth (768 + a) c) (h777 : Mat3 v777 fun a c => S.da (8*S.j+2) (768 + a) c) :
    Mat3 (k0_pay226 v27 v559 v560 v769 v771 v772 v773 v777) fun a c => S.dz (8*S.j+2) (768 + a) c := by
  intro a c
  simp only [k0_pay226]
  pointwise
  have hM := S.full 2 768 a (by decide)
  simp only [h771, pay224 S h769 h772 h773 h777, pay225 S h27 h559 h560 h769 h772 h773 h777, Sp.dzu, Sp.dz, hM, if_true]

theorem pay227 (h769 : Mat v769 fun a c => S.pin (8*S.j+2) (768 + a) c) (h772 : Mat v772 fun a c => S.zs (8*S.j+2) (768 + a) c) (h773 : Mat v773 fun a c => S.lth (768 + a) c) :
    Mat3 (k0_pay227 v769 v772 v773) fun a c => S.att (8*S.j+2) (768 + a) c := by
  intro a c
  simp only [k0_pay227]
  pointwise
  simp only [pay223 S h769 h772 h773]

theorem pay228 (h769 : Mat v769 fun a c => S.pin (8*S.j+2) (768 + a) c) :
    Col (k0_pay228 v769) fun a => S.P (8*S.j+3) (768 + a) 0 := by
  intro a
  simp only [k0_pay228]
  pointwise
  simp only [h769]
  simp (disch := omega) [Sp.pin_one]

theorem pay229 (h769 : Mat v769 fun a c => S.pin (8*S.j+2) (768 + a) c) :
    Col (k0_pay229 v769) fun a => S.P (8*S.j+3) (768 + a) 1 := by
  intro a
  simp only [k0_pay229]
  pointwise
  simp only [h769]
  simp (disch := omega) [Sp.pin_two]

theorem pay230 (h27 : Mat v27 S.be) (h559 : Col v559 fun a => S.E (8*S.j+2) a 0) (h560 : Col v560 fun a => S.E (8*S.j+2) a 1) (h769 : Mat v769 fun a c => S.pin (8*S.j+2) (768 + a) c) (h772 : Mat v772 fun a c => S.zs (8*S.j+2) (768 + a) c) (h773 : Mat v773 fun a c => S.lth (768 + a) c) (h777 : Mat3 v777 fun a c => S.da (8*S.j+2) (768 + a) c) :
    Col (k0_pay230 v27 v559 v560 v769 v772 v773 v777) fun a => S.E (8*S.j+3) (768 + a) 0 := by
  intro a
  simp only [k0_pay230]
  pointwise
  simp only [pay225 S h27 h559 h560 h769 h772 h773 h777, pay224 S h769 h772 h773 h777]
  simp (disch := omega) [Sp.eb_one]

theorem pay231 (h27 : Mat v27 S.be) (h559 : Col v559 fun a => S.E (8*S.j+2) a 0) (h560 : Col v560 fun a => S.E (8*S.j+2) a 1) (h769 : Mat v769 fun a c => S.pin (8*S.j+2) (768 + a) c) (h772 : Mat v772 fun a c => S.zs (8*S.j+2) (768 + a) c) (h773 : Mat v773 fun a c => S.lth (768 + a) c) (h777 : Mat3 v777 fun a c => S.da (8*S.j+2) (768 + a) c) :
    Col (k0_pay231 v27 v559 v560 v769 v772 v773 v777) fun a => S.E (8*S.j+3) (768 + a) 1 := by
  intro a
  simp only [k0_pay231]
  pointwise
  simp only [pay225 S h27 h559 h560 h769 h772 h773 h777, pay224 S h769 h772 h773 h777]
  simp (disch := omega) [Sp.eb_two]

theorem pay232 (h567 : Mat v567 (S.z (8*S.j+3))) :
    Mat3 (k0_pay232 v567) (S.z (8*S.j+3)) := by
  intro a c
  simp only [k0_pay232]
  pointwise
  simp only [h567]

theorem pay233 (h571 : Mat v571 (S.da (8*S.j+3))) :
    Mat3 (k0_pay233 v571) (S.da (8*S.j+3)) := by
  intro a c
  simp only [k0_pay233]
  pointwise
  simp only [h571]

theorem pay234 (h611 : Col v611 fun a => S.P (8*S.j+2) a 0) (h740 : Col v740 fun a => S.P (8*S.j+3) (256 + a) 0) (h801 : Col v801 fun a => S.P (8*S.j+3) (768 + a) 0) :
    Col (k0_pay234 v611 v740 v801) fun a => S.P (8*S.j+3) a 0 := by
  intro a
  simp only [k0_pay234]
  pointwise
  simp only [h611, h740, h801]
  try repeat' split
  all_goals first | done | exact (S.P_succ fun c => by unfold Sp.M; omega).symm | (simp (disch := omega) [Nat.sub_sub] <;> first | done | skip)

theorem pay235 (h612 : Col v612 fun a => S.P (8*S.j+2) a 1) (h741 : Col v741 fun a => S.P (8*S.j+3) (256 + a) 1) (h802 : Col v802 fun a => S.P (8*S.j+3) (768 + a) 1) :
    Col (k0_pay235 v612 v741 v802) fun a => S.P (8*S.j+3) a 1 := by
  intro a
  simp only [k0_pay235]
  pointwise
  simp only [h612, h741, h802]
  try repeat' split
  all_goals first | done | exact (S.P_succ fun c => by unfold Sp.M; omega).symm | (simp (disch := omega) [Nat.sub_sub] <;> first | done | skip)

theorem pay236 (h613 : Col v613 fun a => S.E (8*S.j+2) a 0) (h744 : Col v744 fun a => S.E (8*S.j+3) (256 + a) 0) (h805 : Col v805 fun a => S.E (8*S.j+3) (768 + a) 0) :
    Col (k0_pay236 v613 v744 v805) fun a => S.E (8*S.j+3) a 0 := by
  intro a
  simp only [k0_pay236]
  pointwise
  simp only [h613, h744, h805]
  try repeat' split
  all_goals first | done | exact (S.E_succ fun c => by unfold Sp.M; omega).symm | (simp (disch := omega) [Nat.sub_sub] <;> first | done | skip)

theorem pay237 (h614 : Col v614 fun a => S.E (8*S.j+2) a 1) (h747 : Col v747 fun a => S.E (8*S.j+3) (256 + a) 1) (h808 : Col v808 fun a => S.E (8*S.j+3) (768 + a) 1) :
    Col (k0_pay237 v614 v747 v808) fun a => S.E (8*S.j+3) a 1 := by
  intro a
  simp only [k0_pay237]
  pointwise
  simp only [h614, h747, h808]
  try repeat' split
  all_goals first | done | exact (S.E_succ fun c => by unfold Sp.M; omega).symm | (simp (disch := omega) [Nat.sub_sub] <;> first | done | skip)

end Cert.Proof.Sb

end
-- ==== Proof.SbPay3.lean ====
module

public import proofs.«01_k».proof.Proof.SbPay2
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v7 v9 : FVec Ideal S1024x128 .bf16} {v823 v827 : Vec Ideal S1x1x128x256 .bf16} {v832 v846 : Vec Ideal
  S1x1024x256 .bf16} {v12 v14 : FVec Ideal S128x1024 .bf16} {v835 v844 : Vec Ideal S1x1x128x256 .f32} {v845 v1019
  v1007 v1017 : FVec Ideal S128x256 .f32} {v602 : FVec Ideal S1024x128 .f32} {v833 : FVec Ideal S1024x256 .bf16} {v857
  : Vec Ideal S256x128 .bf16} {v815 v816 v817 v818 : FVec Ideal S1024x1 .f32} {v873 v950 : Vec Ideal S1x512x256 .f32}
  {v876 v880 v874 v925 v920 v965 v949 v918 v952 v962 : FVec Ideal S512x256 .f32} {v25 v27 : FVec Ideal S256x256 .bf16}
  {v23 v825 v829 : FVec Ideal S1024x256 .f32} {v926 v927 v966 v971 : IVec S128x256 32} {v929 v969 : BitVec 32} {v973
  v975 : IVec S128x256 1} {v1006 v1035 : Vec Ideal S1x128x256 .f32} {v869 v870 v871 : FVec Ideal S384x1 .f32} {v998
  v999 v1002 : FVec Ideal S512x1 .f32} {v1059 v1060 v1063 : FVec Ideal S128x1 .f32}
variable (S : Sp)
include S

theorem pay238 (h7 : Mat v7 S.q) (h823 : Tile v823 (S.kt (8*S.j+4))) :
    Mat (k0_pay238 v7 v823) (S.z (8*S.j+4)) := by
  intro a c
  simp only [k0_pay238]
  pointwise
  simp only [h7, h823, Sp.z]

theorem pay239 (h9 : Mat v9 S.dO) (h827 : Tile v827 (S.vt (8*S.j+4))) :
    Mat (k0_pay239 v9 v827) (S.da (8*S.j+4)) := by
  intro a c
  simp only [k0_pay239]
  pointwise
  simp only [h9, h827, Sp.da]

theorem pay240 (h832 : Mat3 v832 (S.dz (8*S.j+2))) :
    Mat (k0_pay240 v832) (S.dz (8*S.j+2)) := by
  intro a c
  simp only [k0_pay240]
  pointwise
  simp only [h832]

theorem pay241 (w : ℕ → ℕ → EReal) (h12 : Mat v12 fun a c => S.q c a) (h832 : Mat3 v832 (S.dz (8*S.j+2))) (h835 : Tile v835 w) :
    Tile (k0_pay241 v12 v832 v835) fun a c => w a c + ∑ r : Fin 1024, S.q r a * S.dz (8*S.j+2) r c := by
  intro a c
  simp only [k0_pay241]
  pointwise
  simp only [h12, h835, pay240 S h832]

theorem pay242 (w : ℕ → ℕ → EReal) (h844 : Tile v844 w) :
    Mat (k0_pay242 v844) w := by
  intro a c
  simp only [k0_pay242]
  pointwise
  simp only [h844]

theorem pay243 (w : ℕ → ℕ → EReal) (h14 : Mat v14 fun a c => S.dO c a) (h845 : Mat v845 w) (h846 : Mat3 v846 (S.att (8*S.j+2))) :
    Tile (k0_pay243 v14 v845 v846) fun a c => w a c + ∑ r : Fin 1024, S.dO r a * S.att (8*S.j+2) r c := by
  intro a c
  simp only [k0_pay243]
  pointwise
  simp only [h14, h845, h846]

theorem pay244 (h602 : Mat v602 (S.DQ (8*S.j+3))) (h833 : Mat v833 (S.dz (8*S.j+2))) (h857 : Mat v857 fun a c => S.ks (256 * (8*S.j+2) + a) c) :
    Mat (k0_pay244 v602 v833 v857) (S.DQ (8*S.j+4)) := by
  intro a c
  simp only [k0_pay244]
  pointwise
  simp only [h602, h833, h857]
  exact (S.DQ_step _ _ _).symm

theorem pay245 :
    Mat3 (k0_pay245 (F := Ideal)) fun a c => (0 : EReal) := by
  intro a c
  simp only [k0_pay245]
  pointwise

theorem pay246 :
    Mat3 (k0_pay246 (F := Ideal)) fun a c => (0 : EReal) := by
  intro a c
  simp only [k0_pay246]
  pointwise

theorem pay247 (h815 : Col v815 fun a => S.P (8*S.j+3) a 0) :
    Col (k0_pay247 v815) fun a => S.P (8*S.j+3) a 0 := by
  intro a
  simp only [k0_pay247]
  pointwise
  simp only [h815]

theorem pay248 (h816 : Col v816 fun a => S.P (8*S.j+3) a 1) :
    Col (k0_pay248 v816) fun a => S.P (8*S.j+3) a 1 := by
  intro a
  simp only [k0_pay248]
  pointwise
  simp only [h816]

theorem pay249 (h817 : Col v817 fun a => S.E (8*S.j+3) a 0) :
    Col (k0_pay249 v817) fun a => S.E (8*S.j+3) a 0 := by
  intro a
  simp only [k0_pay249]
  pointwise
  simp only [h817]

theorem pay250 (h818 : Col v818 fun a => S.E (8*S.j+3) a 1) :
    Col (k0_pay250 v818) fun a => S.E (8*S.j+3) a 1 := by
  intro a
  simp only [k0_pay250]
  pointwise
  simp only [h818]

theorem pay251 (h873 : Mat3 v873 fun a c => S.z (8*S.j+3) (384 + a) c) :
    Mat (k0_pay251 v873) fun a c => S.z (8*S.j+3) (384 + a) c := by
  intro a c
  simp only [k0_pay251]
  pointwise
  simp only [h873]

theorem pay252 (h873 : Mat3 v873 fun a c => S.z (8*S.j+3) (384 + a) c) :
    Mat (k0_pay252 v873) fun a c => S.mx (8*S.j+3) (384 + a) c := by
  intro a c
  simp only [k0_pay252]
  pointwise
  simp only [pay251 S h873, Sp.mx]

theorem pay253 (h873 : Mat3 v873 fun a c => S.z (8*S.j+3) (384 + a) c) :
    Mat (k0_pay253 v873) fun a c => S.ex (8*S.j+3) (384 + a) c := by
  intro a c
  simp only [k0_pay253]
  pointwise
  simp only [pay251 S h873, Sp.ab, Sp.ex]

theorem pay254 {cst_383 : Ideal .f32} (h876 : Mat v876 fun a c => S.mx (8*S.j+3) (384 + a) c) (h880 : Mat v880 fun a c => S.ex (8*S.j+3) (384 + a) c) (hcst_383 : cst_383 = (1 : EReal)) :
    Mat (k0_pay254 v876 v880 cst_383) fun a c => S.sp (8*S.j+3) (384 + a) c := by
  intro a c
  subst hcst_383
  simp only [k0_pay254]
  pointwise
  simp only [h876, h880, Sp.sp]

theorem pay255 {cst_383 : Ideal .f32} (h25 : Mat v25 S.up) (h815 : Col v815 fun a => S.P (8*S.j+3) a 0) (h816 : Col v816 fun a => S.P (8*S.j+3) a 1) (h876 : Mat v876 fun a c => S.mx (8*S.j+3) (384 + a) c) (h880 : Mat v880 fun a c => S.ex (8*S.j+3) (384 + a) c) (hcst_383 : cst_383 = (1 : EReal)) :
    Mat (k0_pay255 v25 v815 v816 v876 v880 cst_383) fun a c => S.pin (8*S.j+3) (384 + a) c := by
  intro a c
  subst hcst_383
  simp only [k0_pay255]
  pointwise
  have hM := S.diag 3 384 a rfl
  by_cases ha : a.val < 128
  · simp only [msel, h25, h815, h816, pay254 S h876 h880 rfl, Sp.nlb, Sp.dotn, Sp.pc, Sp.pin, hM, mask_rem, mask512, ha, dif_pos]; rfl
  · have ea : 128 + (a.val - 128) = a.val := by omega
    have hT := lt_all a ha
    simp only [msel, h25, h815, h816, pay254 S h876 h880 rfl, Sp.nlb, Sp.dotn, Sp.pc, Sp.pin, hM, mask_rem, mask512, ha, ea, hT, dif_neg, not_false_eq_true, if_true]; rfl

theorem pay256 {cst_383 : Ideal .f32} (h874 : Mat v874 fun a c => S.z (8*S.j+3) (384 + a) c) (h876 : Mat v876 fun a c => S.mx (8*S.j+3) (384 + a) c) (h880 : Mat v880 fun a c => S.ex (8*S.j+3) (384 + a) c) (hcst_383 : cst_383 = (1 : EReal)) :
    Mat (k0_pay256 v874 v876 v880 cst_383) fun a c => S.sig (8*S.j+3) (384 + a) c := by
  intro a c
  subst hcst_383
  simp only [k0_pay256]
  pointwise
  simp only [h874, pay254 S h876 h880 rfl, Sp.zs, Sp.sig]

theorem pay257 {cst_383 : Ideal .f32} (h23 : Mat v23 S.lth) (h25 : Mat v25 S.up) (h815 : Col v815 fun a => S.P (8*S.j+3) a 0) (h816 : Col v816 fun a => S.P (8*S.j+3) a 1) (h874 : Mat v874 fun a c => S.z (8*S.j+3) (384 + a) c) (h876 : Mat v876 fun a c => S.mx (8*S.j+3) (384 + a) c) (h880 : Mat v880 fun a c => S.ex (8*S.j+3) (384 + a) c) (hcst_383 : cst_383 = (1 : EReal)) :
    Mat (k0_pay257 v23 v25 v815 v816 v874 v876 v880 cst_383) fun a c => S.attu (8*S.j+3) (384 + a) c := by
  intro a c
  subst hcst_383
  simp only [k0_pay257]
  pointwise
  simp only [h23, h874, pay254 S h876 h880 rfl, pay255 S h25 h815 h816 h876 h880 rfl, Sp.lth, Sp.zs, Sp.attu]

theorem pay258 (h925 : Mat v925 fun a c => S.attu (8*S.j+3) (384 + a) c) (h926 : Mat v926 fun a c => BitVec.ofNat 32 a) (h927 : Mat v927 fun a c => BitVec.ofNat 32 c) (h929 : v929 = 128#32) :
    Mat (k0_pay258 v925 v926 v927 v929) fun a c => S.att (8*S.j+3) (384 + a) c := by
  intro a c
  subst h929
  simp only [k0_pay258]
  pointwise
  have hM := S.diag 3 384 a rfl
  by_cases ha : a.val < 128
  · simp only [h925, h926, h927, Sp.att, hM, mask_rem, mask512, ha, dif_pos]
  · have ea : 128 + (a.val - 128) = a.val := by omega
    have hT := lt_all a ha
    simp only [h925, h926, h927, Sp.att, hM, mask_rem, mask512, ha, ea, hT, dif_neg, not_false_eq_true, if_true]

theorem pay259 (h925 : Mat v925 fun a c => S.attu (8*S.j+3) (384 + a) c) (h926 : Mat v926 fun a c => BitVec.ofNat 32 a) (h927 : Mat v927 fun a c => BitVec.ofNat 32 c) (h929 : v929 = 128#32) (h950 : Mat3 v950 fun a c => S.da (8*S.j+3) (384 + a) c) :
    Mat (k0_pay259 v925 v926 v927 v929 v950) fun a c => S.e (8*S.j+3) (384 + a) c := by
  intro a c
  subst h929
  simp only [k0_pay259]
  pointwise
  simp only [h950, pay258 S h925 h926 h927 rfl, Sp.e]

theorem pay260 (h27 : Mat v27 S.be) (h817 : Col v817 fun a => S.E (8*S.j+3) a 0) (h818 : Col v818 fun a => S.E (8*S.j+3) a 1) (h925 : Mat v925 fun a c => S.attu (8*S.j+3) (384 + a) c) (h926 : Mat v926 fun a c => BitVec.ofNat 32 a) (h927 : Mat v927 fun a c => BitVec.ofNat 32 c) (h929 : v929 = 128#32) (h950 : Mat3 v950 fun a c => S.da (8*S.j+3) (384 + a) c) :
    Mat (k0_pay260 v27 v817 v818 v925 v926 v927 v929 v950) fun a c => S.eb (8*S.j+3) (384 + a) c := by
  intro a c
  subst h929
  simp only [k0_pay260]
  pointwise
  simp only [h27, h817, h818, pay259 S h925 h926 h927 rfl h950, Sp.dote, Sp.ec, Sp.eb]; rfl

theorem pay261 (h27 : Mat v27 S.be) (h817 : Col v817 fun a => S.E (8*S.j+3) a 0) (h818 : Col v818 fun a => S.E (8*S.j+3) a 1) (h920 : Mat v920 fun a c => S.sig (8*S.j+3) (384 + a) c) (h925 : Mat v925 fun a c => S.attu (8*S.j+3) (384 + a) c) (h926 : Mat v926 fun a c => BitVec.ofNat 32 a) (h927 : Mat v927 fun a c => BitVec.ofNat 32 c) (h929 : v929 = 128#32) (h950 : Mat3 v950 fun a c => S.da (8*S.j+3) (384 + a) c) :
    Mat (k0_pay261 v27 v817 v818 v920 v925 v926 v927 v929 v950) fun a c => S.dzu (8*S.j+3) (384 + a) c := by
  intro a c
  subst h929
  simp only [k0_pay261]
  pointwise
  simp only [h920, pay259 S h925 h926 h927 rfl h950, pay260 S h27 h817 h818 h925 h926 h927 rfl h950, Sp.dzu]

theorem pay265 {c0_i32_408 : BitVec 32} (h965 : Mat v965 fun a c => S.dzu (8*S.j+3) (384 + a) c) (h966 : Mat v966 fun a c => BitVec.ofNat 32 a) (h969 : v969 = 128#32) (h971 : Mat v971 fun a c => IntOp.remsi ArithUnit.vector (BitVec.ofNat 32 c) (128#32)) (h973 : Mat v973 fun a c => IntOp.cmpi CmpIPredicate.ne (IntOp.remsi ArithUnit.vector (BitVec.ofNat 32 c) (128#32)) (0#32)) (h975 : Mat v975 fun a c => IntOp.cmpi CmpIPredicate.slt (IntOp.remsi ArithUnit.vector (BitVec.ofNat 32 c) (128#32)) (0#32)) (hc0_i32_408 : c0_i32_408 = 0#32) :
    Mat3 (k0_pay265 v965 v966 v969 v971 v973 v975 c0_i32_408) fun a c => S.dz (8*S.j+3) (384 + a) c := by
  intro a c
  subst h969
  subst hc0_i32_408
  simp only [k0_pay265]
  pointwise
  have hM := S.diag 3 384 a rfl
  by_cases ha : a.val < 128
  · simp only [h965, h966, h971, h973, h975, Sp.dz, hM, mask_rem, mask512, ha, dif_pos]
  · have ea : 128 + (a.val - 128) = a.val := by omega
    have hT := lt_all a ha
    simp only [h965, h966, h971, h973, h975, Sp.dz, hM, mask_rem, mask512, ha, ea, hT, dif_neg, not_false_eq_true, if_true]

theorem pay266 (h949 : Mat v949 fun a c => S.att (8*S.j+3) (384 + a) c) :
    Mat3 (k0_pay266 v949) fun a c => S.att (8*S.j+3) (384 + a) c := by
  intro a c
  simp only [k0_pay266]
  pointwise
  simp only [h949]

theorem pay267 (h918 : Mat v918 fun a c => S.pin (8*S.j+3) (384 + a) c) :
    Col (k0_pay267 v918) fun a => S.P (8*S.j+4) (384 + a) 0 := by
  intro a
  simp only [k0_pay267]
  pointwise
  simp only [h918]
  simp (disch := omega) [Sp.pin_one]

theorem pay268 (h918 : Mat v918 fun a c => S.pin (8*S.j+3) (384 + a) c) :
    Col (k0_pay268 v918) fun a => S.P (8*S.j+4) (384 + a) 1 := by
  intro a
  simp only [k0_pay268]
  pointwise
  simp only [h918]
  simp (disch := omega) [Sp.pin_two]

theorem pay269 (h952 : Mat v952 fun a c => S.e (8*S.j+3) (384 + a) c) (h962 : Mat v962 fun a c => S.eb (8*S.j+3) (384 + a) c) :
    Col (k0_pay269 v952 v962) fun a => S.E (8*S.j+4) (384 + a) 0 := by
  intro a
  simp only [k0_pay269]
  pointwise
  simp only [h952, h962]
  simp (disch := omega) [Sp.eb_one]

theorem pay270 (h952 : Mat v952 fun a c => S.e (8*S.j+3) (384 + a) c) (h962 : Mat v962 fun a c => S.eb (8*S.j+3) (384 + a) c) :
    Col (k0_pay270 v952 v962) fun a => S.E (8*S.j+4) (384 + a) 1 := by
  intro a
  simp only [k0_pay270]
  pointwise
  simp only [h952, h962]
  simp (disch := omega) [Sp.eb_two]

theorem pay271 (h1006 : Mat3 v1006 fun a c => S.z (8*S.j+3) (896 + a) c) :
    Mat (k0_pay271 v1006) fun a c => S.z (8*S.j+3) (896 + a) c := by
  intro a c
  simp only [k0_pay271]
  pointwise
  simp only [h1006]

theorem pay272 (h1006 : Mat3 v1006 fun a c => S.z (8*S.j+3) (896 + a) c) :
    Mat (k0_pay272 v1006) fun a c => S.sp (8*S.j+3) (896 + a) c := by
  intro a c
  simp only [k0_pay272]
  pointwise
  simp only [pay271 S h1006, Sp.mx, Sp.ab, Sp.ex, Sp.sp]

theorem pay273 (h25 : Mat v25 S.up) (h1006 : Mat3 v1006 fun a c => S.z (8*S.j+3) (896 + a) c) :
    Mat (k0_pay273 v25 v1006) fun a c => S.dotn (8*S.j+3) (896 + a) c := by
  intro a c
  simp only [k0_pay273]
  pointwise
  have hM := S.full 3 896 a (by decide)
  simp only [h25, pay272 S h1006, Sp.nlb, Sp.dotn, hM, if_true]

theorem pay274 (h815 : Col v815 fun a => S.P (8*S.j+3) a 0) (h816 : Col v816 fun a => S.P (8*S.j+3) a 1) (h1019 : Mat v1019 fun a c => S.dotn (8*S.j+3) (896 + a) c) :
    Mat (k0_pay274 v815 v816 v1019) fun a c => S.pin (8*S.j+3) (896 + a) c := by
  intro a c
  simp only [k0_pay274]
  pointwise
  simp only [h815, h816, h1019, Sp.pc, Sp.pin]
  rfl

theorem pay275 (h23 : Mat v23 S.lth) (h815 : Col v815 fun a => S.P (8*S.j+3) a 0) (h816 : Col v816 fun a => S.P (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) :
    Mat (k0_pay275 v23 v815 v816 v1007 v1017 v1019) fun a c => S.att (8*S.j+3) (896 + a) c := by
  intro a c
  simp only [k0_pay275]
  pointwise
  have hM := S.full 3 896 a (by decide)
  simp only [h23, h1007, h1017, pay274 S h815 h816 h1019, Sp.lth, Sp.zs, Sp.attu, Sp.att, hM, if_true]

theorem pay276 (h23 : Mat v23 S.lth) (h815 : Col v815 fun a => S.P (8*S.j+3) a 0) (h816 : Col v816 fun a => S.P (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) (h1035 : Mat3 v1035 fun a c => S.da (8*S.j+3) (896 + a) c) :
    Mat (k0_pay276 v23 v815 v816 v1007 v1017 v1019 v1035) fun a c => S.e (8*S.j+3) (896 + a) c := by
  intro a c
  simp only [k0_pay276]
  pointwise
  simp only [h1035, pay275 S h23 h815 h816 h1007 h1017 h1019, Sp.e]

theorem pay277 (h23 : Mat v23 S.lth) (h27 : Mat v27 S.be) (h815 : Col v815 fun a => S.P (8*S.j+3) a 0) (h816 : Col v816 fun a => S.P (8*S.j+3) a 1) (h817 : Col v817 fun a => S.E (8*S.j+3) a 0) (h818 : Col v818 fun a => S.E (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) (h1035 : Mat3 v1035 fun a c => S.da (8*S.j+3) (896 + a) c) :
    Mat (k0_pay277 v23 v27 v815 v816 v817 v818 v1007 v1017 v1019 v1035) fun a c => S.eb (8*S.j+3) (896 + a) c := by
  intro a c
  simp only [k0_pay277]
  pointwise
  simp only [h27, h817, h818, pay276 S h23 h815 h816 h1007 h1017 h1019 h1035, Sp.dote, Sp.ec, Sp.eb]
  rfl

theorem pay278 (h23 : Mat v23 S.lth) (h27 : Mat v27 S.be) (h815 : Col v815 fun a => S.P (8*S.j+3) a 0) (h816 : Col v816 fun a => S.P (8*S.j+3) a 1) (h817 : Col v817 fun a => S.E (8*S.j+3) a 0) (h818 : Col v818 fun a => S.E (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) (h1035 : Mat3 v1035 fun a c => S.da (8*S.j+3) (896 + a) c) :
    Mat3 (k0_pay278 v23 v27 v815 v816 v817 v818 v1007 v1017 v1019 v1035) fun a c => S.dz (8*S.j+3) (896 + a) c := by
  intro a c
  simp only [k0_pay278]
  pointwise
  have hM := S.full 3 896 a (by decide)
  simp only [h1007, h1017, pay276 S h23 h815 h816 h1007 h1017 h1019 h1035, pay277 S h23 h27 h815 h816 h817 h818 h1007 h1017 h1019 h1035, Sp.zs, Sp.sig, Sp.dzu, Sp.dz, hM, if_true]

theorem pay279 (h23 : Mat v23 S.lth) (h815 : Col v815 fun a => S.P (8*S.j+3) a 0) (h816 : Col v816 fun a => S.P (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) :
    Mat3 (k0_pay279 v23 v815 v816 v1007 v1017 v1019) fun a c => S.att (8*S.j+3) (896 + a) c := by
  intro a c
  simp only [k0_pay279]
  pointwise
  simp only [pay275 S h23 h815 h816 h1007 h1017 h1019]

theorem pay280 (h815 : Col v815 fun a => S.P (8*S.j+3) a 0) (h816 : Col v816 fun a => S.P (8*S.j+3) a 1) (h1019 : Mat v1019 fun a c => S.dotn (8*S.j+3) (896 + a) c) :
    Col (k0_pay280 v815 v816 v1019) fun a => S.P (8*S.j+4) (896 + a) 0 := by
  intro a
  simp only [k0_pay280]
  pointwise
  simp only [pay274 S h815 h816 h1019]
  simp (disch := omega) [Sp.pin_one, Sp.P_one]

theorem pay281 (h815 : Col v815 fun a => S.P (8*S.j+3) a 0) (h816 : Col v816 fun a => S.P (8*S.j+3) a 1) (h1019 : Mat v1019 fun a c => S.dotn (8*S.j+3) (896 + a) c) :
    Col (k0_pay281 v815 v816 v1019) fun a => S.P (8*S.j+4) (896 + a) 1 := by
  intro a
  simp only [k0_pay281]
  pointwise
  simp only [pay274 S h815 h816 h1019]
  simp (disch := omega) [Sp.pin_two, Sp.P_two]

theorem pay282 (h23 : Mat v23 S.lth) (h27 : Mat v27 S.be) (h815 : Col v815 fun a => S.P (8*S.j+3) a 0) (h816 : Col v816 fun a => S.P (8*S.j+3) a 1) (h817 : Col v817 fun a => S.E (8*S.j+3) a 0) (h818 : Col v818 fun a => S.E (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) (h1035 : Mat3 v1035 fun a c => S.da (8*S.j+3) (896 + a) c) :
    Col (k0_pay282 v23 v27 v815 v816 v817 v818 v1007 v1017 v1019 v1035) fun a => S.E (8*S.j+4) (896 + a) 0 := by
  intro a
  simp only [k0_pay282]
  pointwise
  simp only [pay277 S h23 h27 h815 h816 h817 h818 h1007 h1017 h1019 h1035, pay276 S h23 h815 h816 h1007 h1017 h1019 h1035]
  simp (disch := omega) [Sp.E_one, Sp.eb, Sp.ec]

theorem pay283 (h23 : Mat v23 S.lth) (h27 : Mat v27 S.be) (h815 : Col v815 fun a => S.P (8*S.j+3) a 0) (h816 : Col v816 fun a => S.P (8*S.j+3) a 1) (h817 : Col v817 fun a => S.E (8*S.j+3) a 0) (h818 : Col v818 fun a => S.E (8*S.j+3) a 1) (h1007 : Mat v1007 fun a c => S.z (8*S.j+3) (896 + a) c) (h1017 : Mat v1017 fun a c => S.sp (8*S.j+3) (896 + a) c) (h1019 : Mat v1019 fun a c => S.dotn (8*S.j+3) (896 + a) c) (h1035 : Mat3 v1035 fun a c => S.da (8*S.j+3) (896 + a) c) :
    Col (k0_pay283 v23 v27 v815 v816 v817 v818 v1007 v1017 v1019 v1035) fun a => S.E (8*S.j+4) (896 + a) 1 := by
  intro a
  simp only [k0_pay283]
  pointwise
  simp only [pay277 S h23 h27 h815 h816 h817 h818 h1007 h1017 h1019 h1035, pay276 S h23 h815 h816 h1007 h1017 h1019 h1035]
  simp (disch := omega) [Sp.E_two, Sp.eb, Sp.ec]

theorem pay284 (h825 : Mat v825 (S.z (8*S.j+4))) :
    Mat3 (k0_pay284 v825) (S.z (8*S.j+4)) := by
  intro a c
  simp only [k0_pay284]
  pointwise
  simp only [h825]

theorem pay285 (h829 : Mat v829 (S.da (8*S.j+4))) :
    Mat3 (k0_pay285 v829) (S.da (8*S.j+4)) := by
  intro a c
  simp only [k0_pay285]
  pointwise
  simp only [h829]

theorem pay286 (h869 : Col v869 fun a => S.P (8*S.j+3) a 0) (h998 : Col v998 fun a => S.P (8*S.j+4) (384 + a) 0) (h1059 : Col v1059 fun a => S.P (8*S.j+4) (896 + a) 0) :
    Col (k0_pay286 v869 v998 v1059) fun a => S.P (8*S.j+4) a 0 := by
  intro a
  simp only [k0_pay286]
  pointwise
  simp only [h869, h998, h1059]
  try repeat' split
  all_goals first | done | exact (S.P_succ fun c => by unfold Sp.M; omega).symm | (simp (disch := omega) [Nat.sub_sub] <;> first | done | skip)

theorem pay287 (h870 : Col v870 fun a => S.P (8*S.j+3) a 1) (h999 : Col v999 fun a => S.P (8*S.j+4) (384 + a) 1) (h1060 : Col v1060 fun a => S.P (8*S.j+4) (896 + a) 1) :
    Col (k0_pay287 v870 v999 v1060) fun a => S.P (8*S.j+4) a 1 := by
  intro a
  simp only [k0_pay287]
  pointwise
  simp only [h870, h999, h1060]
  try repeat' split
  all_goals first | done | exact (S.P_succ fun c => by unfold Sp.M; omega).symm | (simp (disch := omega) [Nat.sub_sub] <;> first | done | skip)

theorem pay288 (h871 : Col v871 fun a => S.E (8*S.j+3) a 0) (h1002 : Col v1002 fun a => S.E (8*S.j+4) (384 + a) 0) (h1063 : Col v1063 fun a => S.E (8*S.j+4) (896 + a) 0) :
    Col (k0_pay288 v871 v1002 v1063) fun a => S.E (8*S.j+4) a 0 := by
  intro a
  simp only [k0_pay288]
  pointwise
  simp only [h871, h1002, h1063]
  try repeat' split
  all_goals first | done | exact (S.E_succ fun c => by unfold Sp.M; omega).symm | (simp (disch := omega) [Nat.sub_sub] <;> first | done | skip)

end Cert.Proof.Sb

end
-- ==== Proof.SbPay4.lean ====
module

public import proofs.«01_k».proof.Proof.SbPay3
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v872 : FVec Ideal S384x1 .f32} {v1005 v1127 v1256 v1128 v1257 v1129 v1260 v1130 v1263 : FVec Ideal S512x1
  .f32} {v1066 : FVec Ideal S128x1 .f32} {v7 v9 : FVec Ideal S1024x128 .bf16} {v1081 v1085 v1278 v1282 : Vec Ideal
  S1x1x128x256 .bf16} {v1090 v1104 v1287 v1301 : Vec Ideal S1x1024x256 .bf16} {v12 v14 : FVec Ideal S128x1024 .bf16}
  {v1093 v1102 v1290 v1299 : Vec Ideal S1x1x128x256 .f32} {v1096 : FVec Ideal S128x256 .f32} {v860 v1118 : FVec Ideal
  S1024x128 .f32} {v1091 v1288 : FVec Ideal S1024x256 .bf16} {v1115 v1312 : Vec Ideal S256x128 .bf16} {v1073 v1074
  v1075 v1076 v1270 v1271 v1272 v1273 : FVec Ideal S1024x1 .f32} {v1131 v1208 : Vec Ideal S1x512x256 .f32} {v25 v27 :
  FVec Ideal S256x256 .bf16} {v23 v1083 v1087 : FVec Ideal S1024x256 .f32} {v1132 v1142 v1176 v1178 v1223 v1207 v1210
  v1220 : FVec Ideal S512x256 .f32} {v1224 v1225 : IVec S128x256 32} {v1328 : Vec Ideal S1x384x256 .f32}
variable (S : Sp)
include S

theorem pay289 (h872 : Col v872 fun a => S.E (8*S.j+3) a 1) (h1005 : Col v1005 fun a => S.E (8*S.j+4) (384 + a) 1) (h1066 : Col v1066 fun a => S.E (8*S.j+4) (896 + a) 1) :
    Col (k0_pay289 v872 v1005 v1066) fun a => S.E (8*S.j+4) a 1 := by
  intro a
  simp only [k0_pay289]
  pointwise
  simp only [h872, h1005, h1066]
  try repeat' split
  all_goals first | done | exact (S.E_succ fun c => by unfold Sp.M; omega).symm | (simp (disch := omega) [Nat.sub_sub] <;> first | done | skip)

theorem pay290 (h7 : Mat v7 S.q) (h1081 : Tile v1081 (S.kt (8*S.j+5))) :
    Mat (k0_pay290 v7 v1081) (S.z (8*S.j+5)) := by
  intro a c
  simp only [k0_pay290]
  pointwise
  simp only [h7, h1081, Sp.z]

theorem pay291 (h9 : Mat v9 S.dO) (h1085 : Tile v1085 (S.vt (8*S.j+5))) :
    Mat (k0_pay291 v9 v1085) (S.da (8*S.j+5)) := by
  intro a c
  simp only [k0_pay291]
  pointwise
  simp only [h9, h1085, Sp.da]

theorem pay292 (h1090 : Mat3 v1090 (S.dz (8*S.j+3))) :
    Mat (k0_pay292 v1090) (S.dz (8*S.j+3)) := by
  intro a c
  simp only [k0_pay292]
  pointwise
  simp only [h1090]

theorem pay293 (w : ℕ → ℕ → EReal) (h12 : Mat v12 fun a c => S.q c a) (h1090 : Mat3 v1090 (S.dz (8*S.j+3))) (h1093 : Tile v1093 w) :
    Mat (k0_pay293 v12 v1090 v1093) fun a c => w a c + ∑ r : Fin 1024, S.q r a * S.dz (8*S.j+3) r c := by
  intro a c
  simp only [k0_pay293]
  pointwise
  simp only [h12, h1093, pay292 S h1090]

theorem pay294 (w : ℕ → ℕ → EReal) (h1096 : Mat v1096 w) :
    Tile (k0_pay294 v1096) w := by
  intro a c
  simp only [k0_pay294]
  pointwise
  simp only [h1096]

theorem pay295 (w : ℕ → ℕ → EReal) (h14 : Mat v14 fun a c => S.dO c a) (h1102 : Tile v1102 w) (h1104 : Mat3 v1104 (S.att (8*S.j+3))) :
    Tile (k0_pay295 v14 v1102 v1104) fun a c => w a c + ∑ r : Fin 1024, S.dO r a * S.att (8*S.j+3) r c := by
  intro a c
  simp only [k0_pay295]
  pointwise
  simp only [h14, h1102, h1104]

theorem pay296 (h860 : Mat v860 (S.DQ (8*S.j+4))) (h1091 : Mat v1091 (S.dz (8*S.j+3))) (h1115 : Mat v1115 fun a c => S.ks (256 * (8*S.j+3) + a) c) :
    Mat (k0_pay296 v860 v1091 v1115) (S.DQ (8*S.j+5)) := by
  intro a c
  simp only [k0_pay296]
  pointwise
  simp only [h860, h1091, h1115]
  exact (S.DQ_step _ _ _).symm

theorem pay297 :
    Mat3 (k0_pay297 (F := Ideal)) fun a c => (0 : EReal) := by
  intro a c
  simp only [k0_pay297]
  pointwise

theorem pay298 :
    Mat3 (k0_pay298 (F := Ideal)) fun a c => (0 : EReal) := by
  intro a c
  simp only [k0_pay298]
  pointwise

theorem pay299 (h1073 : Col v1073 fun a => S.P (8*S.j+4) a 0) :
    Col (k0_pay299 v1073) fun a => S.P (8*S.j+4) a 0 := by
  intro a
  simp only [k0_pay299]
  pointwise
  simp only [h1073]

theorem pay300 (h1074 : Col v1074 fun a => S.P (8*S.j+4) a 1) :
    Col (k0_pay300 v1074) fun a => S.P (8*S.j+4) a 1 := by
  intro a
  simp only [k0_pay300]
  pointwise
  simp only [h1074]

theorem pay301 (h1075 : Col v1075 fun a => S.E (8*S.j+4) a 0) :
    Col (k0_pay301 v1075) fun a => S.E (8*S.j+4) a 0 := by
  intro a
  simp only [k0_pay301]
  pointwise
  simp only [h1075]

theorem pay302 (h1076 : Col v1076 fun a => S.E (8*S.j+4) a 1) :
    Col (k0_pay302 v1076) fun a => S.E (8*S.j+4) a 1 := by
  intro a
  simp only [k0_pay302]
  pointwise
  simp only [h1076]

theorem pay303 (h1131 : Mat3 v1131 fun a c => S.z (8*S.j+4) (512 + a) c) :
    Mat (k0_pay303 v1131) fun a c => S.z (8*S.j+4) (512 + a) c := by
  intro a c
  simp only [k0_pay303]
  pointwise
  simp only [h1131]

theorem pay304 (h1131 : Mat3 v1131 fun a c => S.z (8*S.j+4) (512 + a) c) :
    Mat (k0_pay304 v1131) fun a c => S.sp (8*S.j+4) (512 + a) c := by
  intro a c
  simp only [k0_pay304]
  pointwise
  simp only [pay303 S h1131, Sp.mx, Sp.ab, Sp.ex, Sp.sp]

theorem pay305 (h25 : Mat v25 S.up) (h1073 : Col v1073 fun a => S.P (8*S.j+4) a 0) (h1074 : Col v1074 fun a => S.P (8*S.j+4) a 1) (h1131 : Mat3 v1131 fun a c => S.z (8*S.j+4) (512 + a) c) :
    Mat (k0_pay305 v25 v1073 v1074 v1131) fun a c => S.pin (8*S.j+4) (512 + a) c := by
  intro a c
  simp only [k0_pay305]
  pointwise
  have hM := S.diag 4 512 a rfl
  by_cases ha : a.val < 128
  · simp only [msel, h25, h1073, h1074, pay304 S h1131, Sp.nlb, Sp.dotn, Sp.pc, Sp.pin, hM, mask_rem, mask512, ha, dif_pos]; rfl
  · have ea : 128 + (a.val - 128) = a.val := by omega
    have hT := lt_all a ha
    simp only [msel, h25, h1073, h1074, pay304 S h1131, Sp.nlb, Sp.dotn, Sp.pc, Sp.pin, hM, mask_rem, mask512, ha, ea, hT, dif_neg, not_false_eq_true, if_true]; rfl

theorem pay306 (h1131 : Mat3 v1131 fun a c => S.z (8*S.j+4) (512 + a) c) :
    Mat (k0_pay306 v1131) fun a c => S.sig (8*S.j+4) (512 + a) c := by
  intro a c
  simp only [k0_pay306]
  pointwise
  simp only [pay303 S h1131, pay304 S h1131, Sp.zs, Sp.sig]

theorem pay307 (h23 : Mat v23 S.lth) (h1132 : Mat v1132 fun a c => S.z (8*S.j+4) (512 + a) c) (h1142 : Mat v1142 fun a c => S.sp (8*S.j+4) (512 + a) c) (h1176 : Mat v1176 fun a c => S.pin (8*S.j+4) (512 + a) c) :
    Mat (k0_pay307 v23 v1132 v1142 v1176) fun a c => S.att (8*S.j+4) (512 + a) c := by
  intro a c
  simp only [k0_pay307]
  pointwise
  have hM := S.diag 4 512 a rfl
  by_cases ha : a.val < 128
  · simp only [msel, h23, h1132, h1142, h1176, Sp.lth, Sp.zs, Sp.attu, Sp.att, hM, mask_rem, mask512, ha, dif_pos]
  · have ea : 128 + (a.val - 128) = a.val := by omega
    have hT := lt_all a ha
    simp only [msel, h23, h1132, h1142, h1176, Sp.lth, Sp.zs, Sp.attu, Sp.att, hM, mask_rem, mask512, ha, ea, hT, dif_neg, not_false_eq_true, if_true]

theorem pay308 (h23 : Mat v23 S.lth) (h1132 : Mat v1132 fun a c => S.z (8*S.j+4) (512 + a) c) (h1142 : Mat v1142 fun a c => S.sp (8*S.j+4) (512 + a) c) (h1176 : Mat v1176 fun a c => S.pin (8*S.j+4) (512 + a) c) (h1208 : Mat3 v1208 fun a c => S.da (8*S.j+4) (512 + a) c) :
    Mat (k0_pay308 v23 v1132 v1142 v1176 v1208) fun a c => S.e (8*S.j+4) (512 + a) c := by
  intro a c
  simp only [k0_pay308]
  pointwise
  simp only [h1208, pay307 S h23 h1132 h1142 h1176, Sp.e]

theorem pay309 (h23 : Mat v23 S.lth) (h27 : Mat v27 S.be) (h1075 : Col v1075 fun a => S.E (8*S.j+4) a 0) (h1076 : Col v1076 fun a => S.E (8*S.j+4) a 1) (h1132 : Mat v1132 fun a c => S.z (8*S.j+4) (512 + a) c) (h1142 : Mat v1142 fun a c => S.sp (8*S.j+4) (512 + a) c) (h1176 : Mat v1176 fun a c => S.pin (8*S.j+4) (512 + a) c) (h1208 : Mat3 v1208 fun a c => S.da (8*S.j+4) (512 + a) c) :
    Mat (k0_pay309 v23 v27 v1075 v1076 v1132 v1142 v1176 v1208) fun a c => S.eb (8*S.j+4) (512 + a) c := by
  intro a c
  simp only [k0_pay309]
  pointwise
  simp only [h27, h1075, h1076, pay308 S h23 h1132 h1142 h1176 h1208, Sp.dote, Sp.ec, Sp.eb]; rfl

theorem pay310 (h23 : Mat v23 S.lth) (h27 : Mat v27 S.be) (h1075 : Col v1075 fun a => S.E (8*S.j+4) a 0) (h1076 : Col v1076 fun a => S.E (8*S.j+4) a 1) (h1132 : Mat v1132 fun a c => S.z (8*S.j+4) (512 + a) c) (h1142 : Mat v1142 fun a c => S.sp (8*S.j+4) (512 + a) c) (h1176 : Mat v1176 fun a c => S.pin (8*S.j+4) (512 + a) c) (h1178 : Mat v1178 fun a c => S.sig (8*S.j+4) (512 + a) c) (h1208 : Mat3 v1208 fun a c => S.da (8*S.j+4) (512 + a) c) :
    Mat (k0_pay310 v23 v27 v1075 v1076 v1132 v1142 v1176 v1178 v1208) fun a c => S.dzu (8*S.j+4) (512 + a) c := by
  intro a c
  simp only [k0_pay310]
  pointwise
  simp only [h1178, pay308 S h23 h1132 h1142 h1176 h1208, pay309 S h23 h27 h1075 h1076 h1132 h1142 h1176 h1208, Sp.dzu]

theorem pay311 {c128_i32_505 : BitVec 32} {c0_i32_506 : BitVec 32} (h1223 : Mat v1223 fun a c => S.dzu (8*S.j+4) (512 + a) c) (h1224 : Mat v1224 fun a c => BitVec.ofNat 32 a) (h1225 : Mat v1225 fun a c => BitVec.ofNat 32 c) (hc128_i32_505 : c128_i32_505 = 128#32) (hc0_i32_506 : c0_i32_506 = 0#32) :
    Mat3 (k0_pay311 v1223 v1224 v1225 c128_i32_505 c0_i32_506) fun a c => S.dz (8*S.j+4) (512 + a) c := by
  intro a c
  subst hc128_i32_505
  subst hc0_i32_506
  simp only [k0_pay311]
  pointwise
  have hM := S.diag 4 512 a rfl
  by_cases ha : a.val < 128
  · simp only [msel, h1223, h1224, h1225, Sp.dz, hM, mask_rem, mask512, ha, dif_pos]
  · have ea : 128 + (a.val - 128) = a.val := by omega
    have hT := lt_all a ha
    simp only [msel, h1223, h1224, h1225, Sp.dz, hM, mask_rem, mask512, ha, ea, hT, dif_neg, not_false_eq_true, if_true]

theorem pay312 (h1207 : Mat v1207 fun a c => S.att (8*S.j+4) (512 + a) c) :
    Mat3 (k0_pay312 v1207) fun a c => S.att (8*S.j+4) (512 + a) c := by
  intro a c
  simp only [k0_pay312]
  pointwise
  simp only [h1207]

theorem pay313 (h1176 : Mat v1176 fun a c => S.pin (8*S.j+4) (512 + a) c) :
    Col (k0_pay313 v1176) fun a => S.P (8*S.j+5) (512 + a) 0 := by
  intro a
  simp only [k0_pay313]
  pointwise
  simp only [h1176]
  simp (disch := omega) [Sp.pin_one]

theorem pay314 (h1176 : Mat v1176 fun a c => S.pin (8*S.j+4) (512 + a) c) :
    Col (k0_pay314 v1176) fun a => S.P (8*S.j+5) (512 + a) 1 := by
  intro a
  simp only [k0_pay314]
  pointwise
  simp only [h1176]
  simp (disch := omega) [Sp.pin_two]

theorem pay315 (h1210 : Mat v1210 fun a c => S.e (8*S.j+4) (512 + a) c) (h1220 : Mat v1220 fun a c => S.eb (8*S.j+4) (512 + a) c) :
    Col (k0_pay315 v1210 v1220) fun a => S.E (8*S.j+5) (512 + a) 0 := by
  intro a
  simp only [k0_pay315]
  pointwise
  simp only [h1210, h1220]
  simp (disch := omega) [Sp.eb_one]

theorem pay316 (h1210 : Mat v1210 fun a c => S.e (8*S.j+4) (512 + a) c) (h1220 : Mat v1220 fun a c => S.eb (8*S.j+4) (512 + a) c) :
    Col (k0_pay316 v1210 v1220) fun a => S.E (8*S.j+5) (512 + a) 1 := by
  intro a
  simp only [k0_pay316]
  pointwise
  simp only [h1210, h1220]
  simp (disch := omega) [Sp.eb_two]

theorem pay317 (h1083 : Mat v1083 (S.z (8*S.j+5))) :
    Mat3 (k0_pay317 v1083) (S.z (8*S.j+5)) := by
  intro a c
  simp only [k0_pay317]
  pointwise
  simp only [h1083]

theorem pay318 (h1087 : Mat v1087 (S.da (8*S.j+5))) :
    Mat3 (k0_pay318 v1087) (S.da (8*S.j+5)) := by
  intro a c
  simp only [k0_pay318]
  pointwise
  simp only [h1087]

theorem pay319 (h1127 : Col v1127 fun a => S.P (8*S.j+4) a 0) (h1256 : Col v1256 fun a => S.P (8*S.j+5) (512 + a) 0) :
    Col (k0_pay319 v1127 v1256) fun a => S.P (8*S.j+5) a 0 := by
  intro a
  simp only [k0_pay319]
  pointwise
  simp only [h1127, h1256]
  try repeat' split
  all_goals first | done | exact (S.P_succ fun c => by unfold Sp.M; omega).symm | (simp (disch := omega) [] <;> first | done | skip)

theorem pay320 (h1128 : Col v1128 fun a => S.P (8*S.j+4) a 1) (h1257 : Col v1257 fun a => S.P (8*S.j+5) (512 + a) 1) :
    Col (k0_pay320 v1128 v1257) fun a => S.P (8*S.j+5) a 1 := by
  intro a
  simp only [k0_pay320]
  pointwise
  simp only [h1128, h1257]
  try repeat' split
  all_goals first | done | exact (S.P_succ fun c => by unfold Sp.M; omega).symm | (simp (disch := omega) [] <;> first | done | skip)

theorem pay321 (h1129 : Col v1129 fun a => S.E (8*S.j+4) a 0) (h1260 : Col v1260 fun a => S.E (8*S.j+5) (512 + a) 0) :
    Col (k0_pay321 v1129 v1260) fun a => S.E (8*S.j+5) a 0 := by
  intro a
  simp only [k0_pay321]
  pointwise
  simp only [h1129, h1260]
  try repeat' split
  all_goals first | done | exact (S.E_succ fun c => by unfold Sp.M; omega).symm | (simp (disch := omega) [] <;> first | done | skip)

theorem pay322 (h1130 : Col v1130 fun a => S.E (8*S.j+4) a 1) (h1263 : Col v1263 fun a => S.E (8*S.j+5) (512 + a) 1) :
    Col (k0_pay322 v1130 v1263) fun a => S.E (8*S.j+5) a 1 := by
  intro a
  simp only [k0_pay322]
  pointwise
  simp only [h1130, h1263]
  try repeat' split
  all_goals first | done | exact (S.E_succ fun c => by unfold Sp.M; omega).symm | (simp (disch := omega) [] <;> first | done | skip)

theorem pay323 (h7 : Mat v7 S.q) (h1278 : Tile v1278 (S.kt (8*S.j+6))) :
    Mat (k0_pay323 v7 v1278) (S.z (8*S.j+6)) := by
  intro a c
  simp only [k0_pay323]
  pointwise
  simp only [h7, h1278, Sp.z]

theorem pay324 (h9 : Mat v9 S.dO) (h1282 : Tile v1282 (S.vt (8*S.j+6))) :
    Mat (k0_pay324 v9 v1282) (S.da (8*S.j+6)) := by
  intro a c
  simp only [k0_pay324]
  pointwise
  simp only [h9, h1282, Sp.da]

theorem pay325 (h1287 : Mat3 v1287 (S.dz (8*S.j+4))) :
    Mat (k0_pay325 v1287) (S.dz (8*S.j+4)) := by
  intro a c
  simp only [k0_pay325]
  pointwise
  simp only [h1287]

theorem pay326 (w : ℕ → ℕ → EReal) (h12 : Mat v12 fun a c => S.q c a) (h1287 : Mat3 v1287 (S.dz (8*S.j+4))) (h1290 : Tile v1290 w) :
    Tile (k0_pay326 v12 v1287 v1290) fun a c => w a c + ∑ r : Fin 1024, S.q r a * S.dz (8*S.j+4) r c := by
  intro a c
  simp only [k0_pay326]
  pointwise
  simp only [h12, h1290, pay325 S h1287]

theorem pay327 (w : ℕ → ℕ → EReal) (h14 : Mat v14 fun a c => S.dO c a) (h1299 : Tile v1299 w) (h1301 : Mat3 v1301 (S.att (8*S.j+4))) :
    Tile (k0_pay327 v14 v1299 v1301) fun a c => w a c + ∑ r : Fin 1024, S.dO r a * S.att (8*S.j+4) r c := by
  intro a c
  simp only [k0_pay327]
  pointwise
  simp only [h14, h1299, h1301]

theorem pay328 (h1118 : Mat v1118 (S.DQ (8*S.j+5))) (h1288 : Mat v1288 (S.dz (8*S.j+4))) (h1312 : Mat v1312 fun a c => S.ks (256 * (8*S.j+4) + a) c) :
    Mat (k0_pay328 v1118 v1288 v1312) (S.DQ (8*S.j+6)) := by
  intro a c
  simp only [k0_pay328]
  pointwise
  simp only [h1118, h1288, h1312]
  exact (S.DQ_step _ _ _).symm

theorem pay329 :
    Mat3 (k0_pay329 (F := Ideal)) fun a c => (0 : EReal) := by
  intro a c
  simp only [k0_pay329]
  pointwise

theorem pay330 :
    Mat3 (k0_pay330 (F := Ideal)) fun a c => (0 : EReal) := by
  intro a c
  simp only [k0_pay330]
  pointwise

theorem pay331 (h1270 : Col v1270 fun a => S.P (8*S.j+5) a 0) :
    Col (k0_pay331 v1270) fun a => S.P (8*S.j+5) a 0 := by
  intro a
  simp only [k0_pay331]
  pointwise
  simp only [h1270]

theorem pay332 (h1271 : Col v1271 fun a => S.P (8*S.j+5) a 1) :
    Col (k0_pay332 v1271) fun a => S.P (8*S.j+5) a 1 := by
  intro a
  simp only [k0_pay332]
  pointwise
  simp only [h1271]

theorem pay333 (h1272 : Col v1272 fun a => S.E (8*S.j+5) a 0) :
    Col (k0_pay333 v1272) fun a => S.E (8*S.j+5) a 0 := by
  intro a
  simp only [k0_pay333]
  pointwise
  simp only [h1272]

theorem pay334 (h1273 : Col v1273 fun a => S.E (8*S.j+5) a 1) :
    Col (k0_pay334 v1273) fun a => S.E (8*S.j+5) a 1 := by
  intro a
  simp only [k0_pay334]
  pointwise
  simp only [h1273]

theorem pay335 (h1328 : Mat3 v1328 fun a c => S.z (8*S.j+5) (640 + a) c) :
    Mat (k0_pay335 v1328) fun a c => S.z (8*S.j+5) (640 + a) c := by
  intro a c
  simp only [k0_pay335]
  pointwise
  simp only [h1328]

theorem pay336 (h1328 : Mat3 v1328 fun a c => S.z (8*S.j+5) (640 + a) c) :
    Mat (k0_pay336 v1328) fun a c => S.mx (8*S.j+5) (640 + a) c := by
  intro a c
  simp only [k0_pay336]
  pointwise
  simp only [pay335 S h1328, Sp.mx]

end Cert.Proof.Sb

end
-- ==== Proof.SbPay5.lean ====
module

public import proofs.«01_k».proof.Proof.SbPay4
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v1328 v1405 : Vec Ideal S1x384x256 .f32} {v1331 v1332 v1329 v1380 v1375 v1420 v1404 v1407 v1417 v1373 : FVec
  Ideal S384x256 .f32} {v25 v27 : FVec Ideal S256x256 .bf16} {v1270 v1271 v1272 v1273 v1467 v1468 v1469 v1470 : FVec
  Ideal S1024x1 .f32} {v23 v1280 v1284 v1477 v1481 : FVec Ideal S1024x256 .f32} {v1381 v1382 v1421 v1426 v1578 v1583
  v1584 v1618 v1623 : IVec S128x256 32} {v1424 v1581 v1621 : BitVec 32} {v1428 v1625 v1631 : IVec S128x256 1} {v1324
  v1325 v1326 v1327 : FVec Ideal S640x1 .f32} {v1460 : FVec Ideal S384x1 .f32} {v7 v9 : FVec Ideal S1024x128 .bf16}
  {v1475 v1479 : Vec Ideal S1x1x128x256 .bf16} {v1484 v1498 : Vec Ideal S1x1024x256 .bf16} {v12 v14 : FVec Ideal
  S128x1024 .bf16} {v1487 v1496 : Vec Ideal S1x1x128x256 .f32} {v1497 : FVec Ideal S128x256 .f32} {v1499 v1485 : FVec
  Ideal S1024x256 .bf16} {v1315 : FVec Ideal S1024x128 .f32} {v1509 : Vec Ideal S256x128 .bf16} {v1525 v1602 : Vec
  Ideal S1x256x256 .f32} {v1536 v1526 v1577 v1572 v1617 v1601 v1570 v1604 v1614 : FVec Ideal S256x256 .f32} {v1521
  v1522 v1523 : FVec Ideal S768x1 .f32}
variable (S : Sp)
include S

theorem pay337 (h1328 : Mat3 v1328 fun a c => S.z (8*S.j+5) (640 + a) c) :
    Mat (k0_pay337 v1328) fun a c => S.ab (8*S.j+5) (640 + a) c := by
  intro a c
  simp only [k0_pay337]
  pointwise
  simp only [pay335 S h1328, Sp.ab]

theorem pay338 {cst_570 : Ideal .f32} (h1331 : Mat v1331 fun a c => S.mx (8*S.j+5) (640 + a) c) (h1332 : Mat v1332 fun a c => S.ab (8*S.j+5) (640 + a) c) (hcst_570 : cst_570 = (0 : EReal)) :
    Mat (k0_pay338 v1331 v1332 cst_570) fun a c => S.sp (8*S.j+5) (640 + a) c := by
  intro a c
  subst hcst_570
  simp only [k0_pay338]
  pointwise
  simp only [h1331, h1332, Sp.ex, Sp.sp]

theorem pay339 {cst_570 : Ideal .f32} (h25 : Mat v25 S.up) (h1270 : Col v1270 fun a => S.P (8*S.j+5) a 0) (h1271 : Col v1271 fun a => S.P (8*S.j+5) a 1) (h1331 : Mat v1331 fun a c => S.mx (8*S.j+5) (640 + a) c) (h1332 : Mat v1332 fun a c => S.ab (8*S.j+5) (640 + a) c) (hcst_570 : cst_570 = (0 : EReal)) :
    Mat (k0_pay339 v25 v1270 v1271 v1331 v1332 cst_570) fun a c => S.pin (8*S.j+5) (640 + a) c := by
  intro a c
  subst hcst_570
  simp only [k0_pay339]
  pointwise
  have hM := S.diag 5 640 a rfl
  by_cases ha : a.val < 128
  · simp only [msel, h25, h1270, h1271, pay338 S h1331 h1332 rfl, Sp.nlb, Sp.dotn, Sp.pc, Sp.pin, hM, mask_rem, mask384, ha, dif_pos]; rfl
  · have ea : 128 + (a.val - 128) = a.val := by omega
    have hT := lt_all a ha
    simp only [msel, h25, h1270, h1271, pay338 S h1331 h1332 rfl, Sp.nlb, Sp.dotn, Sp.pc, Sp.pin, hM, mask_rem, mask384, ha, ea, hT, dif_neg, not_false_eq_true, if_true]; rfl

theorem pay340 {cst_570 : Ideal .f32} (h1329 : Mat v1329 fun a c => S.z (8*S.j+5) (640 + a) c) (h1331 : Mat v1331 fun a c => S.mx (8*S.j+5) (640 + a) c) (h1332 : Mat v1332 fun a c => S.ab (8*S.j+5) (640 + a) c) (hcst_570 : cst_570 = (0 : EReal)) :
    Mat (k0_pay340 v1329 v1331 v1332 cst_570) fun a c => S.sig (8*S.j+5) (640 + a) c := by
  intro a c
  subst hcst_570
  simp only [k0_pay340]
  pointwise
  simp only [h1329, pay338 S h1331 h1332 rfl, Sp.zs, Sp.sig]

theorem pay341 {cst_570 : Ideal .f32} (h23 : Mat v23 S.lth) (h25 : Mat v25 S.up) (h1270 : Col v1270 fun a => S.P (8*S.j+5) a 0) (h1271 : Col v1271 fun a => S.P (8*S.j+5) a 1) (h1329 : Mat v1329 fun a c => S.z (8*S.j+5) (640 + a) c) (h1331 : Mat v1331 fun a c => S.mx (8*S.j+5) (640 + a) c) (h1332 : Mat v1332 fun a c => S.ab (8*S.j+5) (640 + a) c) (hcst_570 : cst_570 = (0 : EReal)) :
    Mat (k0_pay341 v23 v25 v1270 v1271 v1329 v1331 v1332 cst_570) fun a c => S.attu (8*S.j+5) (640 + a) c := by
  intro a c
  subst hcst_570
  simp only [k0_pay341]
  pointwise
  simp only [h23, h1329, pay338 S h1331 h1332 rfl, pay339 S h25 h1270 h1271 h1331 h1332 rfl, Sp.lth, Sp.zs, Sp.attu]

theorem pay342 {c128_i32_580 : BitVec 32} (h1380 : Mat v1380 fun a c => S.attu (8*S.j+5) (640 + a) c) (h1381 : Mat v1381 fun a c => BitVec.ofNat 32 a) (h1382 : Mat v1382 fun a c => BitVec.ofNat 32 c) (hc128_i32_580 : c128_i32_580 = 128#32) :
    Mat (k0_pay342 v1380 v1381 v1382 c128_i32_580) fun a c => S.att (8*S.j+5) (640 + a) c := by
  intro a c
  subst hc128_i32_580
  simp only [k0_pay342]
  pointwise
  have hM := S.diag 5 640 a rfl
  by_cases ha : a.val < 128
  · simp only [msel, h1380, h1381, h1382, Sp.att, hM, mask_rem, mask384, ha, dif_pos]
  · have ea : 128 + (a.val - 128) = a.val := by omega
    have hT := lt_all a ha
    simp only [msel, h1380, h1381, h1382, Sp.att, hM, mask_rem, mask384, ha, ea, hT, dif_neg, not_false_eq_true, if_true]

theorem pay343 {c128_i32_580 : BitVec 32} (h1380 : Mat v1380 fun a c => S.attu (8*S.j+5) (640 + a) c) (h1381 : Mat v1381 fun a c => BitVec.ofNat 32 a) (h1382 : Mat v1382 fun a c => BitVec.ofNat 32 c) (hc128_i32_580 : c128_i32_580 = 128#32) (h1405 : Mat3 v1405 fun a c => S.da (8*S.j+5) (640 + a) c) :
    Mat (k0_pay343 v1380 v1381 v1382 c128_i32_580 v1405) fun a c => S.e (8*S.j+5) (640 + a) c := by
  intro a c
  subst hc128_i32_580
  simp only [k0_pay343]
  pointwise
  simp only [h1405, pay342 S h1380 h1381 h1382 rfl, Sp.e]

theorem pay344 {c128_i32_580 : BitVec 32} (h27 : Mat v27 S.be) (h1272 : Col v1272 fun a => S.E (8*S.j+5) a 0) (h1273 : Col v1273 fun a => S.E (8*S.j+5) a 1) (h1380 : Mat v1380 fun a c => S.attu (8*S.j+5) (640 + a) c) (h1381 : Mat v1381 fun a c => BitVec.ofNat 32 a) (h1382 : Mat v1382 fun a c => BitVec.ofNat 32 c) (hc128_i32_580 : c128_i32_580 = 128#32) (h1405 : Mat3 v1405 fun a c => S.da (8*S.j+5) (640 + a) c) :
    Mat (k0_pay344 v27 v1272 v1273 v1380 v1381 v1382 c128_i32_580 v1405) fun a c => S.eb (8*S.j+5) (640 + a) c := by
  intro a c
  subst hc128_i32_580
  simp only [k0_pay344]
  pointwise
  simp only [h27, h1272, h1273, pay343 S h1380 h1381 h1382 rfl h1405, Sp.dote, Sp.ec, Sp.eb]; rfl

theorem pay345 {c128_i32_580 : BitVec 32} (h27 : Mat v27 S.be) (h1272 : Col v1272 fun a => S.E (8*S.j+5) a 0) (h1273 : Col v1273 fun a => S.E (8*S.j+5) a 1) (h1375 : Mat v1375 fun a c => S.sig (8*S.j+5) (640 + a) c) (h1380 : Mat v1380 fun a c => S.attu (8*S.j+5) (640 + a) c) (h1381 : Mat v1381 fun a c => BitVec.ofNat 32 a) (h1382 : Mat v1382 fun a c => BitVec.ofNat 32 c) (hc128_i32_580 : c128_i32_580 = 128#32) (h1405 : Mat3 v1405 fun a c => S.da (8*S.j+5) (640 + a) c) :
    Mat (k0_pay345 v27 v1272 v1273 v1375 v1380 v1381 v1382 c128_i32_580 v1405) fun a c => S.dzu (8*S.j+5) (640 + a) c := by
  intro a c
  subst hc128_i32_580
  simp only [k0_pay345]
  pointwise
  simp only [h1375, pay343 S h1380 h1381 h1382 rfl h1405, pay344 S h27 h1272 h1273 h1380 h1381 h1382 rfl h1405, Sp.dzu]

theorem pay348 (h1420 : Mat v1420 fun a c => S.dzu (8*S.j+5) (640 + a) c) (h1421 : Mat v1421 fun a c => BitVec.ofNat 32 a) (h1424 : v1424 = 128#32) (h1426 : Mat v1426 fun a c => IntOp.remsi ArithUnit.vector (BitVec.ofNat 32 c) (128#32)) (h1428 : Mat v1428 fun a c => IntOp.cmpi CmpIPredicate.ne (IntOp.remsi ArithUnit.vector (BitVec.ofNat 32 c) (128#32)) (0#32)) :
    Mat3 (k0_pay348 v1420 v1421 v1424 v1426 v1428) fun a c => S.dz (8*S.j+5) (640 + a) c := by
  intro a c
  subst h1424
  simp only [k0_pay348]
  pointwise
  have hM := S.diag 5 640 a rfl
  by_cases ha : a.val < 128
  · simp only [h1420, h1421, h1426, h1428, Sp.dz, hM, mask_rem, mask384, ha, dif_pos]
  · have ea : 128 + (a.val - 128) = a.val := by omega
    have hT := lt_all a ha
    simp only [h1420, h1421, h1426, h1428, Sp.dz, hM, mask_rem, mask384, ha, ea, hT, dif_neg, not_false_eq_true, if_true]

theorem pay349 (h1404 : Mat v1404 fun a c => S.att (8*S.j+5) (640 + a) c) :
    Mat3 (k0_pay349 v1404) fun a c => S.att (8*S.j+5) (640 + a) c := by
  intro a c
  simp only [k0_pay349]
  pointwise
  simp only [h1404]

theorem pay350 (h1407 : Mat v1407 fun a c => S.e (8*S.j+5) (640 + a) c) (h1417 : Mat v1417 fun a c => S.eb (8*S.j+5) (640 + a) c) :
    Col (k0_pay350 v1407 v1417) fun a => S.E (8*S.j+6) (640 + a) 1 := by
  intro a
  simp only [k0_pay350]
  pointwise
  simp only [h1407, h1417]
  simp (disch := omega) [Sp.eb_two]

theorem pay351 (h1280 : Mat v1280 (S.z (8*S.j+6))) :
    Mat3 (k0_pay351 v1280) (S.z (8*S.j+6)) := by
  intro a c
  simp only [k0_pay351]
  pointwise
  simp only [h1280]

theorem pay352 (h1284 : Mat v1284 (S.da (8*S.j+6))) :
    Mat3 (k0_pay352 v1284) (S.da (8*S.j+6)) := by
  intro a c
  simp only [k0_pay352]
  pointwise
  simp only [h1284]

theorem pay353 (h1324 : Col v1324 fun a => S.P (8*S.j+5) a 0) (h1373 : Mat v1373 fun a c => S.pin (8*S.j+5) (640 + a) c) :
    Col (k0_pay353 v1324 v1373) fun a => S.P (8*S.j+6) a 0 := by
  intro a
  simp only [k0_pay353]
  pointwise
  simp only [h1324, h1373]
  try repeat' split
  all_goals first | done | exact (S.P_succ fun c => by unfold Sp.M; omega).symm | (simp (disch := omega) [Sp.pin_one] <;> first | done | skip)

theorem pay354 (h1325 : Col v1325 fun a => S.P (8*S.j+5) a 1) (h1373 : Mat v1373 fun a c => S.pin (8*S.j+5) (640 + a) c) :
    Col (k0_pay354 v1325 v1373) fun a => S.P (8*S.j+6) a 1 := by
  intro a
  simp only [k0_pay354]
  pointwise
  simp only [h1325, h1373]
  try repeat' split
  all_goals first | done | exact (S.P_succ fun c => by unfold Sp.M; omega).symm | (simp (disch := omega) [Sp.pin_two] <;> first | done | skip)

theorem pay355 (h1326 : Col v1326 fun a => S.E (8*S.j+5) a 0) (h1407 : Mat v1407 fun a c => S.e (8*S.j+5) (640 + a) c) (h1417 : Mat v1417 fun a c => S.eb (8*S.j+5) (640 + a) c) :
    Col (k0_pay355 v1326 v1407 v1417) fun a => S.E (8*S.j+6) a 0 := by
  intro a
  simp only [k0_pay355]
  pointwise
  simp only [h1326, h1407, h1417]
  try repeat' split
  all_goals first | done | exact (S.E_succ fun c => by unfold Sp.M; omega).symm | (simp (disch := omega) [Sp.eb_one] <;> first | done | skip)

theorem pay356 (h1327 : Col v1327 fun a => S.E (8*S.j+5) a 1) (h1460 : Col v1460 fun a => S.E (8*S.j+6) (640 + a) 1) :
    Col (k0_pay356 v1327 v1460) fun a => S.E (8*S.j+6) a 1 := by
  intro a
  simp only [k0_pay356]
  pointwise
  simp only [h1327, h1460]
  try repeat' split
  all_goals first | done | exact (S.E_succ fun c => by unfold Sp.M; omega).symm | (simp (disch := omega) [] <;> first | done | skip)

theorem pay357 (h7 : Mat v7 S.q) (h1475 : Tile v1475 (S.kt (8*S.j+7))) :
    Mat (k0_pay357 v7 v1475) (S.z (8*S.j+7)) := by
  intro a c
  simp only [k0_pay357]
  pointwise
  simp only [h7, h1475, Sp.z]

theorem pay358 (h9 : Mat v9 S.dO) (h1479 : Tile v1479 (S.vt (8*S.j+7))) :
    Mat (k0_pay358 v9 v1479) (S.da (8*S.j+7)) := by
  intro a c
  simp only [k0_pay358]
  pointwise
  simp only [h9, h1479, Sp.da]

theorem pay359 (h1484 : Mat3 v1484 (S.dz (8*S.j+5))) :
    Mat (k0_pay359 v1484) (S.dz (8*S.j+5)) := by
  intro a c
  simp only [k0_pay359]
  pointwise
  simp only [h1484]

theorem pay360 (w : ℕ → ℕ → EReal) (h12 : Mat v12 fun a c => S.q c a) (h1484 : Mat3 v1484 (S.dz (8*S.j+5))) (h1487 : Tile v1487 w) :
    Tile (k0_pay360 v12 v1484 v1487) fun a c => w a c + ∑ r : Fin 1024, S.q r a * S.dz (8*S.j+5) r c := by
  intro a c
  simp only [k0_pay360]
  pointwise
  simp only [h12, h1487, pay359 S h1484]

theorem pay361 (w : ℕ → ℕ → EReal) (h1496 : Tile v1496 w) :
    Mat (k0_pay361 v1496) w := by
  intro a c
  simp only [k0_pay361]
  pointwise
  simp only [h1496]

theorem pay362 (h1498 : Mat3 v1498 (S.att (8*S.j+5))) :
    Mat (k0_pay362 v1498) (S.att (8*S.j+5)) := by
  intro a c
  simp only [k0_pay362]
  pointwise
  simp only [h1498]

theorem pay363 (w : ℕ → ℕ → EReal) (h14 : Mat v14 fun a c => S.dO c a) (h1497 : Mat v1497 w) (h1499 : Mat v1499 (S.att (8*S.j+5))) :
    ∀ (a : Fin 128) (c : Fin 256), (k0_pay363 (F := Ideal) v14 v1497 v1499 (constant (F := Ideal) S128x256 FTy.f32 0#32)) (ix4 0 0 a c) = w a.val c.val + ∑ r : Fin 1024, S.dO r a * S.att (8*S.j+5) r c := by
  intro a c
  simp only [k0_pay363]
  pointwise
  simp only [h14, h1497, h1499]

theorem pay364 (h1315 : Mat v1315 (S.DQ (8*S.j+6))) (h1485 : Mat v1485 (S.dz (8*S.j+5))) (h1509 : Mat v1509 fun a c => S.ks (256 * (8*S.j+5) + a) c) :
    Mat (k0_pay364 v1315 v1485 v1509) (S.DQ (8*S.j+7)) := by
  intro a c
  simp only [k0_pay364]
  pointwise
  simp only [h1315, h1485, h1509]
  exact (S.DQ_step _ _ _).symm

theorem pay365 :
    Mat3 (k0_pay365 (F := Ideal)) fun a c => (0 : EReal) := by
  intro a c
  simp only [k0_pay365]
  pointwise

theorem pay366 :
    Mat3 (k0_pay366 (F := Ideal)) fun a c => (0 : EReal) := by
  intro a c
  simp only [k0_pay366]
  pointwise

theorem pay367 (h1467 : Col v1467 fun a => S.P (8*S.j+6) a 0) :
    Col (k0_pay367 v1467) fun a => S.P (8*S.j+6) a 0 := by
  intro a
  simp only [k0_pay367]
  pointwise
  simp only [h1467]

theorem pay368 (h1468 : Col v1468 fun a => S.P (8*S.j+6) a 1) :
    Col (k0_pay368 v1468) fun a => S.P (8*S.j+6) a 1 := by
  intro a
  simp only [k0_pay368]
  pointwise
  simp only [h1468]

theorem pay369 (h1469 : Col v1469 fun a => S.E (8*S.j+6) a 0) :
    Col (k0_pay369 v1469) fun a => S.E (8*S.j+6) a 0 := by
  intro a
  simp only [k0_pay369]
  pointwise
  simp only [h1469]

theorem pay370 (h1470 : Col v1470 fun a => S.E (8*S.j+6) a 1) :
    Col (k0_pay370 v1470) fun a => S.E (8*S.j+6) a 1 := by
  intro a
  simp only [k0_pay370]
  pointwise
  simp only [h1470]

theorem pay371 (h1525 : Mat3 v1525 fun a c => S.z (8*S.j+6) (768 + a) c) :
    Mat (k0_pay371 v1525) fun a c => S.z (8*S.j+6) (768 + a) c := by
  intro a c
  simp only [k0_pay371]
  pointwise
  simp only [h1525]

theorem pay372 (h1525 : Mat3 v1525 fun a c => S.z (8*S.j+6) (768 + a) c) :
    Mat (k0_pay372 v1525) fun a c => S.sp (8*S.j+6) (768 + a) c := by
  intro a c
  simp only [k0_pay372]
  pointwise
  simp only [pay371 S h1525, Sp.mx, Sp.ab, Sp.ex, Sp.sp]

theorem pay373 (h25 : Mat v25 S.up) (h1467 : Col v1467 fun a => S.P (8*S.j+6) a 0) (h1468 : Col v1468 fun a => S.P (8*S.j+6) a 1) (h1536 : Mat v1536 fun a c => S.sp (8*S.j+6) (768 + a) c) :
    Mat (k0_pay373 v25 v1467 v1468 v1536) fun a c => S.pin (8*S.j+6) (768 + a) c := by
  intro a c
  simp only [k0_pay373]
  pointwise
  have hM := S.diag 6 768 a rfl
  by_cases ha : a.val < 128
  · simp only [msel, h25, h1467, h1468, h1536, Sp.nlb, Sp.dotn, Sp.pc, Sp.pin, hM, mask_rem, mask256, ha, dif_pos]; rfl
  · have ea : 128 + (a.val - 128) = a.val := by omega
    have hT := lt_all a ha
    simp only [msel, h25, h1467, h1468, h1536, Sp.nlb, Sp.dotn, Sp.pc, Sp.pin, hM, mask_rem, mask256, ha, ea, hT, dif_neg, not_false_eq_true, if_true]; rfl

theorem pay374 (h1526 : Mat v1526 fun a c => S.z (8*S.j+6) (768 + a) c) (h1536 : Mat v1536 fun a c => S.sp (8*S.j+6) (768 + a) c) :
    Mat (k0_pay374 v1526 v1536) fun a c => S.sig (8*S.j+6) (768 + a) c := by
  intro a c
  simp only [k0_pay374]
  pointwise
  simp only [h1526, h1536, Sp.zs, Sp.sig]

theorem pay375 (h23 : Mat v23 S.lth) (h25 : Mat v25 S.up) (h1467 : Col v1467 fun a => S.P (8*S.j+6) a 0) (h1468 : Col v1468 fun a => S.P (8*S.j+6) a 1) (h1526 : Mat v1526 fun a c => S.z (8*S.j+6) (768 + a) c) (h1536 : Mat v1536 fun a c => S.sp (8*S.j+6) (768 + a) c) :
    Mat (k0_pay375 v23 v25 v1467 v1468 v1526 v1536) fun a c => S.attu (8*S.j+6) (768 + a) c := by
  intro a c
  simp only [k0_pay375]
  pointwise
  simp only [h23, h1526, h1536, pay373 S h25 h1467 h1468 h1536, Sp.lth, Sp.zs, Sp.attu]

theorem pay378 (h1577 : Mat v1577 fun a c => S.attu (8*S.j+6) (768 + a) c) (h1578 : Mat v1578 fun a c => BitVec.ofNat 32 a) (h1581 : v1581 = 128#32) (h1583 : Mat v1583 fun a c => IntOp.remsi ArithUnit.vector (BitVec.ofNat 32 c) (128#32)) (h1584 : Mat v1584 fun a c => 0#32) :
    Mat (k0_pay378 v1577 v1578 v1581 v1583 v1584) fun a c => S.att (8*S.j+6) (768 + a) c := by
  intro a c
  subst h1581
  simp only [k0_pay378]
  pointwise
  have hM := S.diag 6 768 a rfl
  by_cases ha : a.val < 128
  · simp only [h1577, h1578, h1583, h1584, Sp.att, hM, mask_rem, mask256, ha, dif_pos]
  · have ea : 128 + (a.val - 128) = a.val := by omega
    have hT := lt_all a ha
    simp only [h1577, h1578, h1583, h1584, Sp.att, hM, mask_rem, mask256, ha, ea, hT, dif_neg, not_false_eq_true, if_true]

theorem pay379 (h1577 : Mat v1577 fun a c => S.attu (8*S.j+6) (768 + a) c) (h1578 : Mat v1578 fun a c => BitVec.ofNat 32 a) (h1581 : v1581 = 128#32) (h1583 : Mat v1583 fun a c => IntOp.remsi ArithUnit.vector (BitVec.ofNat 32 c) (128#32)) (h1584 : Mat v1584 fun a c => 0#32) (h1602 : Mat3 v1602 fun a c => S.da (8*S.j+6) (768 + a) c) :
    Mat (k0_pay379 v1577 v1578 v1581 v1583 v1584 v1602) fun a c => S.e (8*S.j+6) (768 + a) c := by
  intro a c
  subst h1581
  simp only [k0_pay379]
  pointwise
  simp only [h1602, pay378 S h1577 h1578 rfl h1583 h1584, Sp.e]

theorem pay380 (h27 : Mat v27 S.be) (h1469 : Col v1469 fun a => S.E (8*S.j+6) a 0) (h1470 : Col v1470 fun a => S.E (8*S.j+6) a 1) (h1577 : Mat v1577 fun a c => S.attu (8*S.j+6) (768 + a) c) (h1578 : Mat v1578 fun a c => BitVec.ofNat 32 a) (h1581 : v1581 = 128#32) (h1583 : Mat v1583 fun a c => IntOp.remsi ArithUnit.vector (BitVec.ofNat 32 c) (128#32)) (h1584 : Mat v1584 fun a c => 0#32) (h1602 : Mat3 v1602 fun a c => S.da (8*S.j+6) (768 + a) c) :
    Mat (k0_pay380 v27 v1469 v1470 v1577 v1578 v1581 v1583 v1584 v1602) fun a c => S.eb (8*S.j+6) (768 + a) c := by
  intro a c
  subst h1581
  simp only [k0_pay380]
  pointwise
  simp only [h27, h1469, h1470, pay379 S h1577 h1578 rfl h1583 h1584 h1602, Sp.dote, Sp.ec, Sp.eb]; rfl

theorem pay381 (h27 : Mat v27 S.be) (h1469 : Col v1469 fun a => S.E (8*S.j+6) a 0) (h1470 : Col v1470 fun a => S.E (8*S.j+6) a 1) (h1572 : Mat v1572 fun a c => S.sig (8*S.j+6) (768 + a) c) (h1577 : Mat v1577 fun a c => S.attu (8*S.j+6) (768 + a) c) (h1578 : Mat v1578 fun a c => BitVec.ofNat 32 a) (h1581 : v1581 = 128#32) (h1583 : Mat v1583 fun a c => IntOp.remsi ArithUnit.vector (BitVec.ofNat 32 c) (128#32)) (h1584 : Mat v1584 fun a c => 0#32) (h1602 : Mat3 v1602 fun a c => S.da (8*S.j+6) (768 + a) c) :
    Mat (k0_pay381 v27 v1469 v1470 v1572 v1577 v1578 v1581 v1583 v1584 v1602) fun a c => S.dzu (8*S.j+6) (768 + a) c := by
  intro a c
  subst h1581
  simp only [k0_pay381]
  pointwise
  simp only [h1572, pay379 S h1577 h1578 rfl h1583 h1584 h1602, pay380 S h27 h1469 h1470 h1577 h1578 rfl h1583 h1584 h1602, Sp.dzu]

theorem pay385 (h1617 : Mat v1617 fun a c => S.dzu (8*S.j+6) (768 + a) c) (h1618 : Mat v1618 fun a c => BitVec.ofNat 32 a) (h1621 : v1621 = 128#32) (h1623 : Mat v1623 fun a c => IntOp.remsi ArithUnit.vector (BitVec.ofNat 32 c) (128#32)) (h1625 : Mat v1625 fun a c => IntOp.cmpi CmpIPredicate.ne (IntOp.remsi ArithUnit.vector (BitVec.ofNat 32 c) (128#32)) (0#32)) (h1631 : Mat v1631 fun a c => IntOp.xori (IntOp.cmpi CmpIPredicate.slt (IntOp.remsi ArithUnit.vector (BitVec.ofNat 32 c) (128#32)) (0#32)) (Scalar.cmpi CmpIPredicate.slt (128#32) (0#32))) :
    Mat3 (k0_pay385 v1617 v1618 v1621 v1623 v1625 v1631) fun a c => S.dz (8*S.j+6) (768 + a) c := by
  intro a c
  subst h1621
  simp only [k0_pay385]
  pointwise
  have hM := S.diag 6 768 a rfl
  by_cases ha : a.val < 128
  · simp only [h1617, h1618, h1623, h1625, h1631, Sp.dz, hM, mask_rem, mask256, ha, dif_pos]
  · have ea : 128 + (a.val - 128) = a.val := by omega
    have hT := lt_all a ha
    simp only [h1617, h1618, h1623, h1625, h1631, Sp.dz, hM, mask_rem, mask256, ha, ea, hT, dif_neg, not_false_eq_true, if_true]

theorem pay386 (h1601 : Mat v1601 fun a c => S.att (8*S.j+6) (768 + a) c) :
    Mat3 (k0_pay386 v1601) fun a c => S.att (8*S.j+6) (768 + a) c := by
  intro a c
  simp only [k0_pay386]
  pointwise
  simp only [h1601]

theorem pay387 (h1477 : Mat v1477 (S.z (8*S.j+7))) :
    Mat3 (k0_pay387 v1477) (S.z (8*S.j+7)) := by
  intro a c
  simp only [k0_pay387]
  pointwise
  simp only [h1477]

theorem pay388 (h1481 : Mat v1481 (S.da (8*S.j+7))) :
    Mat3 (k0_pay388 v1481) (S.da (8*S.j+7)) := by
  intro a c
  simp only [k0_pay388]
  pointwise
  simp only [h1481]

theorem pay389 (h1521 : Col v1521 fun a => S.P (8*S.j+6) a 0) (h1570 : Mat v1570 fun a c => S.pin (8*S.j+6) (768 + a) c) :
    Col (k0_pay389 v1521 v1570) fun a => S.P (8*S.j+7) a 0 := by
  intro a
  simp only [k0_pay389]
  pointwise
  simp only [h1521, h1570]
  try repeat' split
  all_goals first | done | exact (S.P_succ fun c => by unfold Sp.M; omega).symm | (simp (disch := omega) [Sp.pin_one] <;> first | done | skip)

theorem pay390 (h1522 : Col v1522 fun a => S.P (8*S.j+6) a 1) (h1570 : Mat v1570 fun a c => S.pin (8*S.j+6) (768 + a) c) :
    Col (k0_pay390 v1522 v1570) fun a => S.P (8*S.j+7) a 1 := by
  intro a
  simp only [k0_pay390]
  pointwise
  simp only [h1522, h1570]
  try repeat' split
  all_goals first | done | exact (S.P_succ fun c => by unfold Sp.M; omega).symm | (simp (disch := omega) [Sp.pin_two] <;> first | done | skip)

theorem pay391 (h1523 : Col v1523 fun a => S.E (8*S.j+6) a 0) (h1604 : Mat v1604 fun a c => S.e (8*S.j+6) (768 + a) c) (h1614 : Mat v1614 fun a c => S.eb (8*S.j+6) (768 + a) c) :
    Col (k0_pay391 v1523 v1604 v1614) fun a => S.E (8*S.j+7) a 0 := by
  intro a
  simp only [k0_pay391]
  pointwise
  simp only [h1523, h1604, h1614]
  try repeat' split
  all_goals first | done | exact (S.E_succ fun c => by unfold Sp.M; omega).symm | (simp (disch := omega) [Sp.eb_one] <;> first | done | skip)

end Cert.Proof.Sb

end
-- ==== Proof.SbPay6.lean ====
module

public import proofs.«01_k».proof.Proof.SbPay5
public import proofs.«01_k».proof.Proof.Gen.KernelIdeal.Skeleton
public import proofs.«01_k».proof.Proof.SbSpec

/-!
Every value the body computes in a block of keys, as the plain functions of the specification.
-/

@[expose] public section

set_option maxRecDepth 16384

noncomputable section

namespace Cert.Proof.Sb

open Cert.KernelIdeal Cert.KernelIdeal.Gen
open Idealize.ShloMosaic Idealize.ShloMosaic.TcCoe
open Idealize.SL.Sem

variable {v1524 : FVec Ideal S768x1 .f32} {v1604 v1614 : FVec Ideal S256x256 .f32} {v7 v9 : FVec Ideal S1024x128
  .bf16} {v1672 v1676 : Vec Ideal S1x1x128x256 .bf16} {v1681 v1695 v1840 v1854 : Vec Ideal S1x1024x256 .bf16} {v12 v14
  : FVec Ideal S128x1024 .bf16} {v1684 v1693 v1852 : Vec Ideal S1x1x128x256 .f32} {v1698 v1719 v1729 v1767 v1762 :
  FVec Ideal S128x256 .f32} {v1512 v1709 : FVec Ideal S1024x128 .f32} {v1682 v1841 : FVec Ideal S1024x256 .bf16}
  {v1706 v1865 : Vec Ideal S256x128 .bf16} {v1718 v1789 : Vec Ideal S1x128x256 .f32} {v23 : FVec Ideal S1024x256 .f32}
  {v25 v27 : FVec Ideal S256x256 .bf16} {v1664 v1665 v1666 v1667 : FVec Ideal S1024x1 .f32} {v1730 v1735 : IVec
  S128x256 32} {v1733 : BitVec 32} {v1737 v1786 : IVec S128x256 1} {v1830 : FVec Ideal S128x256 .bf16}
variable (S : Sp)
include S

theorem pay392 (h1524 : Col v1524 fun a => S.E (8*S.j+6) a 1) (h1604 : Mat v1604 fun a c => S.e (8*S.j+6) (768 + a) c) (h1614 : Mat v1614 fun a c => S.eb (8*S.j+6) (768 + a) c) :
    Col (k0_pay392 v1524 v1604 v1614) fun a => S.E (8*S.j+7) a 1 := by
  intro a
  simp only [k0_pay392]
  pointwise
  simp only [h1524, h1604, h1614]
  try repeat' split
  all_goals first | done | exact (S.E_succ fun c => by unfold Sp.M; omega).symm | (simp (disch := omega) [Sp.eb_two] <;> first | done | skip)

theorem pay395 (h1681 : Mat3 v1681 (S.dz (8*S.j+6))) :
    Mat (k0_pay395 v1681) (S.dz (8*S.j+6)) := by
  intro a c
  simp only [k0_pay395]
  pointwise
  simp only [h1681]

theorem pay396 (w : ℕ → ℕ → EReal) (h12 : Mat v12 fun a c => S.q c a) (h1681 : Mat3 v1681 (S.dz (8*S.j+6))) (h1684 : Tile v1684 w) :
    Tile (k0_pay396 v12 v1681 v1684) fun a c => w a c + ∑ r : Fin 1024, S.q r a * S.dz (8*S.j+6) r c := by
  intro a c
  simp only [k0_pay396]
  pointwise
  simp only [h12, h1684, pay395 S h1681]

theorem pay397 (w : ℕ → ℕ → EReal) (h14 : Mat v14 fun a c => S.dO c a) (h1693 : Tile v1693 w) (h1695 : Mat3 v1695 (S.att (8*S.j+6))) :
    Mat (k0_pay397 v14 v1693 v1695) fun a c => w a c + ∑ r : Fin 1024, S.dO r a * S.att (8*S.j+6) r c := by
  intro a c
  simp only [k0_pay397]
  pointwise
  simp only [h14, h1693, h1695]

theorem pay398 (w : ℕ → ℕ → EReal) (h1698 : Mat v1698 w) :
    Tile (k0_pay398 v1698) w := by
  intro a c
  simp only [k0_pay398]
  pointwise
  simp only [h1698]

theorem pay399 (h1512 : Mat v1512 (S.DQ (8*S.j+7))) (h1682 : Mat v1682 (S.dz (8*S.j+6))) (h1706 : Mat v1706 fun a c => S.ks (256 * (8*S.j+6) + a) c) :
    Mat (k0_pay399 v1512 v1682 v1706) (S.DQ (8*S.j+8)) := by
  intro a c
  simp only [k0_pay399]
  pointwise
  simp only [h1512, h1682, h1706]
  exact (S.DQ_step _ _ _).symm

theorem pay400 :
    Mat3 (k0_pay400 (F := Ideal)) fun a c => (0 : EReal) := by
  intro a c
  simp only [k0_pay400]
  pointwise

theorem pay401 :
    Mat3 (k0_pay401 (F := Ideal)) fun a c => (0 : EReal) := by
  intro a c
  simp only [k0_pay401]
  pointwise

theorem pay402 (h1718 : Mat3 v1718 fun a c => S.z (8*S.j+7) (896 + a) c) :
    Mat (k0_pay402 v1718) fun a c => S.z (8*S.j+7) (896 + a) c := by
  intro a c
  simp only [k0_pay402]
  pointwise
  simp only [h1718]

theorem pay403 (h1718 : Mat3 v1718 fun a c => S.z (8*S.j+7) (896 + a) c) :
    Mat (k0_pay403 v1718) fun a c => S.sp (8*S.j+7) (896 + a) c := by
  intro a c
  simp only [k0_pay403]
  pointwise
  simp only [pay402 S h1718, Sp.mx, Sp.ab, Sp.ex, Sp.sp]

theorem pay406 (h1719 : Mat v1719 fun a c => S.z (8*S.j+7) (896 + a) c) (h1729 : Mat v1729 fun a c => S.sp (8*S.j+7) (896 + a) c) :
    Mat (k0_pay406 v1719 v1729) fun a c => S.sig (8*S.j+7) (896 + a) c := by
  intro a c
  simp only [k0_pay406]
  pointwise
  simp only [h1719, h1729, Sp.zs, Sp.sig]

theorem pay407 (h23 : Mat v23 S.lth) (h25 : Mat v25 S.up) (h1664 : Col v1664 fun a => S.P (8*S.j+7) a 0) (h1665 : Col v1665 fun a => S.P (8*S.j+7) a 1) (h1719 : Mat v1719 fun a c => S.z (8*S.j+7) (896 + a) c) (h1729 : Mat v1729 fun a c => S.sp (8*S.j+7) (896 + a) c) (h1730 : Mat v1730 fun a c => BitVec.ofNat 32 a) (h1733 : v1733 = 128#32) (h1735 : Mat v1735 fun a c => IntOp.remsi ArithUnit.vector (BitVec.ofNat 32 c) (128#32)) (h1737 : Mat v1737 fun a c => IntOp.cmpi CmpIPredicate.ne (IntOp.remsi ArithUnit.vector (BitVec.ofNat 32 c) (128#32)) (0#32)) :
    Mat (k0_pay407 v23 v25 v1664 v1665 v1719 v1729 v1730 v1733 v1735 v1737) fun a c => S.attu (8*S.j+7) (896 + a) c := by
  intro a c
  subst h1733
  simp only [k0_pay407]
  pointwise
  have hM := S.diag 7 896 a rfl
  simp only [h23, h25, h1664, h1665, h1719, h1729, h1730, h1735, h1737, Sp.nlb, Sp.dotn, Sp.pc, Sp.pin, Sp.lth, Sp.zs, Sp.attu, hM, mask_rem, mask128]
  simp only [ite_mul, zero_mul, dite_eq_ite]

theorem pay409 {cst_758 : Ideal .f32} (h1767 : Mat v1767 fun a c => S.attu (8*S.j+7) (896 + a) c) (h1786 : Mat v1786 fun a c => IntOp.cmpi CmpIPredicate.slt (Scalar.select (IntOp.andi (IntOp.xori (IntOp.cmpi CmpIPredicate.slt (IntOp.remsi ArithUnit.vector (BitVec.ofNat 32 c) (128#32)) (0#32)) (Scalar.cmpi CmpIPredicate.slt (128#32) (0#32))) (IntOp.cmpi CmpIPredicate.ne (IntOp.remsi ArithUnit.vector (BitVec.ofNat 32 c) (128#32)) (0#32))) (IntOp.addi (IntOp.remsi ArithUnit.vector (BitVec.ofNat 32 c) (128#32)) (128#32)) (IntOp.remsi ArithUnit.vector (BitVec.ofNat 32 c) (128#32))) (BitVec.ofNat 32 a)) (hcst_758 : cst_758 = (0 : EReal)) :
    Mat (k0_pay409 v1767 v1786 cst_758) fun a c => S.att (8*S.j+7) (896 + a) c := by
  intro a c
  subst hcst_758
  simp only [k0_pay409]
  pointwise
  have hM := S.diag 7 896 a rfl
  simp only [h1767, h1786, Sp.att, hM, mask_rem, mask128]

theorem pay410 {cst_758 : Ideal .f32} (h27 : Mat v27 S.be) (h1666 : Col v1666 fun a => S.E (8*S.j+7) a 0) (h1667 : Col v1667 fun a => S.E (8*S.j+7) a 1) (h1762 : Mat v1762 fun a c => S.sig (8*S.j+7) (896 + a) c) (h1767 : Mat v1767 fun a c => S.attu (8*S.j+7) (896 + a) c) (h1786 : Mat v1786 fun a c => IntOp.cmpi CmpIPredicate.slt (Scalar.select (IntOp.andi (IntOp.xori (IntOp.cmpi CmpIPredicate.slt (IntOp.remsi ArithUnit.vector (BitVec.ofNat 32 c) (128#32)) (0#32)) (Scalar.cmpi CmpIPredicate.slt (128#32) (0#32))) (IntOp.cmpi CmpIPredicate.ne (IntOp.remsi ArithUnit.vector (BitVec.ofNat 32 c) (128#32)) (0#32))) (IntOp.addi (IntOp.remsi ArithUnit.vector (BitVec.ofNat 32 c) (128#32)) (128#32)) (IntOp.remsi ArithUnit.vector (BitVec.ofNat 32 c) (128#32))) (BitVec.ofNat 32 a)) (hcst_758 : cst_758 = (0 : EReal)) (h1789 : Mat3 v1789 fun a c => S.da (8*S.j+7) (896 + a) c) :
    Mat3 (k0_pay410 v27 v1666 v1667 v1762 v1767 v1786 cst_758 v1789) fun a c => S.dz (8*S.j+7) (896 + a) c := by
  intro a c
  subst hcst_758
  simp only [k0_pay410]
  pointwise
  have hM := S.diag 7 896 a rfl
  simp only [msel, h27, h1666, h1667, h1762, h1789, pay409 S h1767 h1786 rfl, Sp.e, Sp.dote, Sp.ec, Sp.eb, Sp.dzu, Sp.dz, hM, mask_rem, mask128]
  rfl

theorem pay411 {cst_758 : Ideal .f32} (h1767 : Mat v1767 fun a c => S.attu (8*S.j+7) (896 + a) c) (h1786 : Mat v1786 fun a c => IntOp.cmpi CmpIPredicate.slt (Scalar.select (IntOp.andi (IntOp.xori (IntOp.cmpi CmpIPredicate.slt (IntOp.remsi ArithUnit.vector (BitVec.ofNat 32 c) (128#32)) (0#32)) (Scalar.cmpi CmpIPredicate.slt (128#32) (0#32))) (IntOp.cmpi CmpIPredicate.ne (IntOp.remsi ArithUnit.vector (BitVec.ofNat 32 c) (128#32)) (0#32))) (IntOp.addi (IntOp.remsi ArithUnit.vector (BitVec.ofNat 32 c) (128#32)) (128#32)) (IntOp.remsi ArithUnit.vector (BitVec.ofNat 32 c) (128#32))) (BitVec.ofNat 32 a)) (hcst_758 : cst_758 = (0 : EReal)) :
    Mat (k0_pay411 v1767 v1786 cst_758) fun a c => S.att (8*S.j+7) (896 + a) c := by
  intro a c
  subst hcst_758
  simp only [k0_pay411]
  pointwise
  simp only [pay409 S h1767 h1786 rfl]

theorem pay412 (h1830 : Mat v1830 fun a c => S.att (8*S.j+7) (896 + a) c) :
    Mat3 (k0_pay412 v1830) fun a c => S.att (8*S.j+7) (896 + a) c := by
  intro a c
  simp only [k0_pay412]
  pointwise
  simp only [h1830]

theorem pay415 (h1840 : Mat3 v1840 (S.dz (8*S.j+7))) :
    Mat (k0_pay415 v1840) (S.dz (8*S.j+7)) := by
  intro a c
  simp only [k0_pay415]
  pointwise
  simp only [h1840]

theorem pay417 (w : ℕ → ℕ → EReal) (h14 : Mat v14 fun a c => S.dO c a) (h1852 : Tile v1852 w) (h1854 : Mat3 v1854 (S.att (8*S.j+7))) :
    Mat (k0_pay417 v14 v1852 v1854) fun a c => w a c + ∑ r : Fin 1024, S.dO r a * S.att (8*S.j+7) r c := by
  intro a c
  simp only [k0_pay417]
  pointwise
  simp only [h14, h1852, h1854]

theorem pay419 (h1709 : Mat v1709 (S.DQ (8*S.j+8))) (h1841 : Mat v1841 (S.dz (8*S.j+7))) (h1865 : Mat v1865 fun a c => S.ks (256 * (8*S.j+7) + a) c) :
    Mat (k0_pay419 v1709 v1841 v1865) (S.DQ (8*S.j+9)) := by
  intro a c
  simp only [k0_pay419]
  pointwise
  simp only [h1709, h1841, h1865]
  exact (S.DQ_step _ _ _).symm

end Cert.Proof.Sb

end
-- ==== Proof.SbFed.lean ====
module

public import proofs.«01_k».proof.Proof.SbLoopVal
public import proofs.«01_k».proof.Proof.SbPay6

/-!
What the body is given, and the places its unrolled blocks load from and store to.
-/

@[expose] public section
set_option maxRecDepth 16384
noncomputable section
namespace Cert.Proof.Sb
open Cert.KernelIdeal Cert.KernelIdeal.Gen
open Idealize.ShloMosaic Idealize.ShloMosaic.TcCoe

/-- What the input blocks hold. -/
structure Fed (S : Sp) (x : Held Ideal) : Prop where
  q : Mat x.x0 S.q
  ks : Mat x.x1 S.ks
  kt : ∀ (t : Fin 16) (a : Fin 128) (c : Fin 256), x.x2 (ix4 0 t a c) = S.kt t.val a.val c.val
  vt : ∀ (t : Fin 16) (a : Fin 128) (c : Fin 256), x.x3 (ix4 0 t a c) = S.vt t.val a.val c.val
  dO : Mat x.x4 S.dO
  lt : Mat x.x5 S.lt
  up : Mat x.x6 S.up
  be : Mat x.x7 S.be

/-- The first query block: the tiles start at zero. -/
structure FedA (S : Sp) (x : Held Ideal) : Prop extends Fed S x where
  hj : S.j = 0
  w12 : ∀ t a c, S.w12 t a c = 0
  w13 : ∀ t a c, S.w13 t a c = 0

/-- The second query block: the tiles are what the first left. -/
structure FedB (S : Sp) (x : Held Ideal) : Prop extends Fed S x where
  hj : S.j = 1
  w12 : ∀ (t : Fin 16) (a : Fin 128) (c : Fin 256), x.y12 (ix4 0 t a c) = S.w12 t.val a.val c.val
  w13 : ∀ (t : Fin 16) (a : Fin 128) (c : Fin 256), x.y13 (ix4 0 t a c) = S.w13 t.val a.val c.val

section
variable {S : Sp} {m : Bufs} {x : Held Ideal}

theorem Fed.r2 (H : Fed S x) (a : Fin 1024) (c : Fin 128) : m.arg2.view.read (Elt Ideal) (m.harg2.unread x.x0) (ix2 a c) = S.q a.val c.val :=
  (congrFun (m.harg2.read_unread x.x0) (ix2 a c)).trans (H.q a c)
theorem Fed.r3 (H : Fed S x) (a : Fin 4096) (c : Fin 128) : m.arg3.view.read (Elt Ideal) (m.harg3.unread x.x1) (ix2 a c) = S.ks a.val c.val :=
  (congrFun (m.harg3.read_unread x.x1) (ix2 a c)).trans (H.ks a c)
theorem Fed.r4 (H : Fed S x) : Tiles m.arg4.view (m.harg4.unread x.x2) S.kt := fun t a c =>
  (congrFun (m.harg4.read_unread x.x2) (ix4 0 t a c)).trans (H.kt t a c)
theorem Fed.r5 (H : Fed S x) : Tiles m.arg5.view (m.harg5.unread x.x3) S.vt := fun t a c =>
  (congrFun (m.harg5.read_unread x.x3) (ix4 0 t a c)).trans (H.vt t a c)
theorem Fed.r6 (H : Fed S x) (a : Fin 1024) (c : Fin 128) : m.arg6.view.read (Elt Ideal) (m.harg6.unread x.x4) (ix2 a c) = S.dO a.val c.val :=
  (congrFun (m.harg6.read_unread x.x4) (ix2 a c)).trans (H.dO a c)
theorem Fed.r7 (H : Fed S x) (a : Fin 1024) (c : Fin 128) : m.arg7.view.read (Elt Ideal) (m.harg7.unread x.x5) (ix2 a c) = S.lt a.val c.val :=
  (congrFun (m.harg7.read_unread x.x5) (ix2 a c)).trans (H.lt a c)
theorem Fed.r8 (H : Fed S x) (a : Fin 256) (c : Fin 256) : m.arg8.view.read (Elt Ideal) (m.harg8.unread x.x6) (ix2 a c) = S.up a.val c.val :=
  (congrFun (m.harg8.read_unread x.x6) (ix2 a c)).trans (H.up a c)
theorem Fed.r9 (H : Fed S x) (a : Fin 256) (c : Fin 256) : m.arg9.view.read (Elt Ideal) (m.harg9.unread x.x7) (ix2 a c) = S.be a.val c.val :=
  (congrFun (m.harg9.read_unread x.x7) (ix2 a c)).trans (H.be a c)
end

section
variable {sig : RefSig} {κ : Kind} {sp : Space} {e : EltTy} {Val : EltTy → Type}

theorem tiles_append {v : View sig κ sp ⟨4, ![1, 16, 128, 256]⟩ e} {f : v.ty.Contents Val} {g : ℕ → ℕ → ℕ → Val e}
    {L M : List (View.Piece Val ⟨4, ![1, 16, 128, 256]⟩ e)} (h : Tiles v (v.writes Val (v.writes Val f M) L) g) :
    Tiles v (v.writes Val f (L ++ M)) g := by
  rw [View.writes_append]; exact h
theorem tiles_nil {v : View sig κ sp ⟨4, ![1, 16, 128, 256]⟩ e} {f : v.ty.Contents Val} {g : ℕ → ℕ → ℕ → Val e} (h : Tiles v f g) :
    Tiles v (v.writes Val f []) g := h
theorem holds_nil {v : View sig κ sp ⟨3, ![1, 1024, 256]⟩ e} {f : v.ty.Contents Val} {g : ℕ → ℕ → Val e} (h : Holds v f g) :
    Holds v (v.writes Val f []) g := h
theorem holds_append {v : View sig κ sp ⟨3, ![1, 1024, 256]⟩ e} {f : v.ty.Contents Val} {g : ℕ → ℕ → Val e}
    {L M : List (View.Piece Val ⟨3, ![1, 1024, 256]⟩ e)} (h : Holds v (v.writes Val (v.writes Val f M) L) g) :
    Holds v (v.writes Val f (L ++ M)) g := by
  rw [View.writes_append]; exact h
end

theorem one_lit : (FloatOps.ofBits FTy.f32 1065353216#32 : Ideal FTy.f32) = (1 : EReal) := by
  show Ideal.ofBits .f32 1065353216#32 = _
  simp [Ideal.ofBits, Ideal.ieee, -EReal.coe_mul]; norm_num
theorem zero_lit : (FloatOps.ofBits FTy.f32 0#32 : Ideal FTy.f32) = (0 : EReal) := Ideal.ofBits_zero .f32

theorem pay69 (i : S1x16x128x256.Idx) : k0_pay69 (F := Ideal) i = (0 : EReal) := by simp only [k0_pay69]; pointwise
theorem pay70 (i : S1x16x128x256.Idx) : k0_pay70 (F := Ideal) i = (0 : EReal) := by simp only [k0_pay70]; pointwise
theorem pay83 (i : S1024x1.Idx) : k0_pay83 (F := Ideal) i = (0 : EReal) := by simp only [k0_pay83]; pointwise
theorem pay84 (i : S1024x128.Idx) : k0_pay84 (F := Ideal) i = (0 : EReal) := by simp only [k0_pay84]; pointwise

theorem trips_zero (p : Fin 4) : (k0_t1_loop (at0 p)).trips = 0 := by revert p; decide +kernel

variable (S : Sp)

theorem Sp.W12_step (k d c : ℕ) : S.W12 (k + 2) k d c = S.W12 (k + 1) k d c + ∑ r : Fin 1024, S.q r d * S.dz k r c := by
  have h := S.W12_at (k + 1) d c
  rwa [Nat.add_sub_cancel, S.dzb_succ] at h
theorem Sp.W13_step (k d c : ℕ) : S.W13 (k + 2) k d c = S.W13 (k + 1) k d c + ∑ r : Fin 1024, S.dO r d * S.att k r c := by
  have h := S.W13_at (k + 1) d c
  rwa [Nat.add_sub_cancel, S.atb_succ] at h
theorem Sp.W12_past (k t d c : ℕ) (h : t ≠ k) : S.W12 (k + 2) t d c = S.W12 (k + 1) t d c := S.W12_off (k + 1) t d c h
theorem Sp.W13_past (k t d c : ℕ) (h : t ≠ k) : S.W13 (k + 2) t d c = S.W13 (k + 1) t d c := S.W13_off (k + 1) t d c h

theorem Sp.top_masked (r : ℕ) {n : ℕ} (hn : n = 128 * r) (a : Fin n) (c : ℕ) : ¬ S.M (8*S.j + r) a.val c := by
  have := a.isLt
  unfold Sp.M
  omega
theorem Sp.dz_top (r : ℕ) {n : ℕ} (hn : n = 128 * r) (a : Fin n) {m : ℕ} (c : Fin m) : S.dz (8*S.j + r) a.val c.val = 0 := S.dz_of_not (S.top_masked r hn a c.val)
theorem Sp.att_top (r : ℕ) {n : ℕ} (hn : n = 128 * r) (a : Fin n) {m : ℕ} (c : Fin m) : S.att (8*S.j + r) a.val c.val = 0 := S.att_of_not (S.top_masked r hn a c.val)

variable {S}

theorem sel128 : Scalar.select (Scalar.cmpi CmpIPredicate.eq 128#32 0#32) 1#32 128#32 = 128#32 := rfl
theorem int150 (a : Fin 128) (c : Fin 256) : k0_pay150 (ix2 a c) = IntOp.remsi ArithUnit.vector (BitVec.ofNat 32 c.val) (128#32) := by simp only [k0_pay150]; pointwise; try simp only [sel128]
theorem int151 (a : Fin 128) (c : Fin 256) : k0_pay151 (ix2 a c) = IntOp.cmpi CmpIPredicate.ne (IntOp.remsi ArithUnit.vector (BitVec.ofNat 32 c.val) (128#32)) (0#32) := by simp only [k0_pay151, k0_pay150]; pointwise; try simp only [sel128]
theorem int152 (a : Fin 128) (c : Fin 256) : k0_pay152 (ix2 a c) = IntOp.xori (IntOp.cmpi CmpIPredicate.slt (IntOp.remsi ArithUnit.vector (BitVec.ofNat 32 c.val) (128#32)) (0#32)) (Scalar.cmpi CmpIPredicate.slt (128#32) (0#32)) := by simp only [k0_pay152, k0_pay150]; pointwise; try simp only [sel128]
theorem int196 (a : Fin 128) (c : Fin 256) : k0_pay196 (ix2 a c) = 128#32 := by simp only [k0_pay196]; pointwise; try simp only [sel128]
theorem int200 (a : Fin 128) (c : Fin 256) : k0_pay200 (ix2 a c) = IntOp.remsi ArithUnit.vector (BitVec.ofNat 32 c.val) (128#32) := by simp only [k0_pay200]; pointwise; try simp only [sel128]
theorem int201 (a : Fin 128) (c : Fin 256) : k0_pay201 (ix2 a c) = IntOp.cmpi CmpIPredicate.ne (IntOp.remsi ArithUnit.vector (BitVec.ofNat 32 c.val) (128#32)) (0#32) := by simp only [k0_pay201, k0_pay200]; pointwise; try simp only [sel128]
theorem int202 (a : Fin 128) (c : Fin 256) : k0_pay202 (ix2 a c) = IntOp.cmpi CmpIPredicate.slt (IntOp.remsi ArithUnit.vector (BitVec.ofNat 32 c.val) (128#32)) (0#32) := by simp only [k0_pay202, k0_pay200]; pointwise; try simp only [sel128]
theorem int203 (a : Fin 128) (c : Fin 256) : k0_pay203 (ix2 a c) = Scalar.cmpi CmpIPredicate.slt (128#32) (0#32) := by simp only [k0_pay203]; pointwise; try simp only [sel128]
theorem int208 (a : Fin 128) (c : Fin 256) : k0_pay208 (ix2 a c) = IntOp.cmpi CmpIPredicate.slt (Scalar.select (IntOp.andi (IntOp.xori (IntOp.cmpi CmpIPredicate.slt (IntOp.remsi ArithUnit.vector (BitVec.ofNat 32 c.val) (128#32)) (0#32)) (Scalar.cmpi CmpIPredicate.slt (128#32) (0#32))) (IntOp.cmpi CmpIPredicate.ne (IntOp.remsi ArithUnit.vector (BitVec.ofNat 32 c.val) (128#32)) (0#32))) (IntOp.addi (IntOp.remsi ArithUnit.vector (BitVec.ofNat 32 c.val) (128#32)) (128#32)) (IntOp.remsi ArithUnit.vector (BitVec.ofNat 32 c.val) (128#32))) (BitVec.ofNat 32 a.val) := by simp only [k0_pay208]; pointwise; try simp only [sel128]
theorem int262 (a : Fin 128) (c : Fin 256) : k0_pay262 (ix2 a c) = IntOp.remsi ArithUnit.vector (BitVec.ofNat 32 c.val) (128#32) := by simp only [k0_pay262]; pointwise; try simp only [sel128]
theorem int263 (a : Fin 128) (c : Fin 256) : k0_pay263 (ix2 a c) = IntOp.cmpi CmpIPredicate.ne (IntOp.remsi ArithUnit.vector (BitVec.ofNat 32 c.val) (128#32)) (0#32) := by simp only [k0_pay263, k0_pay262]; pointwise; try simp only [sel128]
theorem int264 (a : Fin 128) (c : Fin 256) : k0_pay264 (ix2 a c) = IntOp.cmpi CmpIPredicate.slt (IntOp.remsi ArithUnit.vector (BitVec.ofNat 32 c.val) (128#32)) (0#32) := by simp only [k0_pay264, k0_pay262]; pointwise; try simp only [sel128]
theorem int346 (a : Fin 128) (c : Fin 256) : k0_pay346 (ix2 a c) = IntOp.remsi ArithUnit.vector (BitVec.ofNat 32 c.val) (128#32) := by simp only [k0_pay346]; pointwise; try simp only [sel128]
theorem int347 (a : Fin 128) (c : Fin 256) : k0_pay347 (ix2 a c) = IntOp.cmpi CmpIPredicate.ne (IntOp.remsi ArithUnit.vector (BitVec.ofNat 32 c.val) (128#32)) (0#32) := by simp only [k0_pay347, k0_pay346]; pointwise; try simp only [sel128]
theorem int376 (a : Fin 128) (c : Fin 256) : k0_pay376 (ix2 a c) = IntOp.remsi ArithUnit.vector (BitVec.ofNat 32 c.val) (128#32) := by simp only [k0_pay376]; pointwise; try simp only [sel128]
theorem int377 (a : Fin 128) (c : Fin 256) : k0_pay377 (ix2 a c) = 0#32 := by simp only [k0_pay377]; pointwise; try simp only [sel128]
theorem int382 (a : Fin 128) (c : Fin 256) : k0_pay382 (ix2 a c) = IntOp.remsi ArithUnit.vector (BitVec.ofNat 32 c.val) (128#32) := by simp only [k0_pay382]; pointwise; try simp only [sel128]
theorem int383 (a : Fin 128) (c : Fin 256) : k0_pay383 (ix2 a c) = IntOp.cmpi CmpIPredicate.ne (IntOp.remsi ArithUnit.vector (BitVec.ofNat 32 c.val) (128#32)) (0#32) := by simp only [k0_pay383, k0_pay382]; pointwise; try simp only [sel128]
theorem int384 (a : Fin 128) (c : Fin 256) : k0_pay384 (ix2 a c) = IntOp.xori (IntOp.cmpi CmpIPredicate.slt (IntOp.remsi ArithUnit.vector (BitVec.ofNat 32 c.val) (128#32)) (0#32)) (Scalar.cmpi CmpIPredicate.slt (128#32) (0#32)) := by simp only [k0_pay384, k0_pay382]; pointwise; try simp only [sel128]
theorem int404 (a : Fin 128) (c : Fin 256) : k0_pay404 (ix2 a c) = IntOp.remsi ArithUnit.vector (BitVec.ofNat 32 c.val) (128#32) := by simp only [k0_pay404]; pointwise; try simp only [sel128]
theorem int405 (a : Fin 128) (c : Fin 256) : k0_pay405 (ix2 a c) = IntOp.cmpi CmpIPredicate.ne (IntOp.remsi ArithUnit.vector (BitVec.ofNat 32 c.val) (128#32)) (0#32) := by simp only [k0_pay405, k0_pay404]; pointwise; try simp only [sel128]
theorem int408 (a : Fin 128) (c : Fin 256) : k0_pay408 (ix2 a c) = IntOp.cmpi CmpIPredicate.slt (Scalar.select (IntOp.andi (IntOp.xori (IntOp.cmpi CmpIPredicate.slt (IntOp.remsi ArithUnit.vector (BitVec.ofNat 32 c.val) (128#32)) (0#32)) (Scalar.cmpi CmpIPredicate.slt (128#32) (0#32))) (IntOp.cmpi CmpIPredicate.ne (IntOp.remsi ArithUnit.vector (BitVec.ofNat 32 c.val) (128#32)) (0#32))) (IntOp.addi (IntOp.remsi ArithUnit.vector (BitVec.ofNat 32 c.val) (128#32)) (128#32)) (IntOp.remsi ArithUnit.vector (BitVec.ofNat 32 c.val) (128#32))) (BitVec.ofNat 32 a.val) := by simp only [k0_pay408]; pointwise; try simp only [sel128]
theorem o10_0 (p : Fin 4) (hj : S.j = 0) : k0_off10 (at0 p) = ![0, 8*S.j+7, 0, 0] := by rw [hj]; exact (off10_0 p).eq
theorem o10_1 (p : Fin 4) (hj : S.j = 1) : k0_off10 (at1 p) = ![0, 8*S.j+7, 0, 0] := by rw [hj]; exact (off10_1 p).eq
theorem o11_0 (p : Fin 4) (hj : S.j = 0) : k0_off11 (at0 p) = ![256 * (8*S.j+7), 0] := by rw [hj]; exact (off11_0 p).eq
theorem o11_1 (p : Fin 4) (hj : S.j = 1) : k0_off11 (at1 p) = ![256 * (8*S.j+7), 0] := by rw [hj]; exact (off11_1 p).eq
theorem o7_0_0 (p : Fin 4) (hj : S.j = 0) : k0_off7 (at0 p) 0#32 = ![0, 8*S.j+1, 0, 0] := by rw [hj]; exact (off7_0_0 p).eq
theorem o7_0_1 (p : Fin 4) (hj : S.j = 0) : k0_off7 (at0 p) 1#32 = ![0, 8*S.j+2, 0, 0] := by rw [hj]; exact (off7_0_1 p).eq
theorem o7_0_2 (p : Fin 4) (hj : S.j = 0) : k0_off7 (at0 p) 2#32 = ![0, 8*S.j+3, 0, 0] := by rw [hj]; exact (off7_0_2 p).eq
theorem o7_0_3 (p : Fin 4) (hj : S.j = 0) : k0_off7 (at0 p) 3#32 = ![0, 8*S.j+4, 0, 0] := by rw [hj]; exact (off7_0_3 p).eq
theorem o7_0_4 (p : Fin 4) (hj : S.j = 0) : k0_off7 (at0 p) 4#32 = ![0, 8*S.j+5, 0, 0] := by rw [hj]; exact (off7_0_4 p).eq
theorem o7_0_5 (p : Fin 4) (hj : S.j = 0) : k0_off7 (at0 p) 5#32 = ![0, 8*S.j+6, 0, 0] := by rw [hj]; exact (off7_0_5 p).eq
theorem o7_0_6 (p : Fin 4) (hj : S.j = 0) : k0_off7 (at0 p) 6#32 = ![0, 8*S.j+7, 0, 0] := by rw [hj]; exact (off7_0_6 p).eq
theorem o7_1_0 (p : Fin 4) (hj : S.j = 1) : k0_off7 (at1 p) 0#32 = ![0, 8*S.j+1, 0, 0] := by rw [hj]; exact (off7_1_0 p).eq
theorem o7_1_1 (p : Fin 4) (hj : S.j = 1) : k0_off7 (at1 p) 1#32 = ![0, 8*S.j+2, 0, 0] := by rw [hj]; exact (off7_1_1 p).eq
theorem o7_1_2 (p : Fin 4) (hj : S.j = 1) : k0_off7 (at1 p) 2#32 = ![0, 8*S.j+3, 0, 0] := by rw [hj]; exact (off7_1_2 p).eq
theorem o7_1_3 (p : Fin 4) (hj : S.j = 1) : k0_off7 (at1 p) 3#32 = ![0, 8*S.j+4, 0, 0] := by rw [hj]; exact (off7_1_3 p).eq
theorem o7_1_4 (p : Fin 4) (hj : S.j = 1) : k0_off7 (at1 p) 4#32 = ![0, 8*S.j+5, 0, 0] := by rw [hj]; exact (off7_1_4 p).eq
theorem o7_1_5 (p : Fin 4) (hj : S.j = 1) : k0_off7 (at1 p) 5#32 = ![0, 8*S.j+6, 0, 0] := by rw [hj]; exact (off7_1_5 p).eq
theorem o7_1_6 (p : Fin 4) (hj : S.j = 1) : k0_off7 (at1 p) 6#32 = ![0, 8*S.j+7, 0, 0] := by rw [hj]; exact (off7_1_6 p).eq
theorem o8_0_0 (p : Fin 4) (hj : S.j = 0) : k0_off8 (at0 p) 0#32 = ![0, 8*S.j - 1, 0, 0] := by rw [hj]; exact (off8_0_0 p).eq
theorem o8_0_1 (p : Fin 4) (hj : S.j = 0) : k0_off8 (at0 p) 1#32 = ![0, 8*S.j, 0, 0] := by rw [hj]; exact (off8_0_1 p).eq
theorem o8_0_2 (p : Fin 4) (hj : S.j = 0) : k0_off8 (at0 p) 2#32 = ![0, 8*S.j+1, 0, 0] := by rw [hj]; exact (off8_0_2 p).eq
theorem o8_0_3 (p : Fin 4) (hj : S.j = 0) : k0_off8 (at0 p) 3#32 = ![0, 8*S.j+2, 0, 0] := by rw [hj]; exact (off8_0_3 p).eq
theorem o8_0_4 (p : Fin 4) (hj : S.j = 0) : k0_off8 (at0 p) 4#32 = ![0, 8*S.j+3, 0, 0] := by rw [hj]; exact (off8_0_4 p).eq
theorem o8_0_5 (p : Fin 4) (hj : S.j = 0) : k0_off8 (at0 p) 5#32 = ![0, 8*S.j+4, 0, 0] := by rw [hj]; exact (off8_0_5 p).eq
theorem o8_0_6 (p : Fin 4) (hj : S.j = 0) : k0_off8 (at0 p) 6#32 = ![0, 8*S.j+5, 0, 0] := by rw [hj]; exact (off8_0_6 p).eq
theorem o8_0_7 (p : Fin 4) (hj : S.j = 0) : k0_off8 (at0 p) 7#32 = ![0, 8*S.j+6, 0, 0] := by rw [hj]; exact (off8_0_7 p).eq
theorem o8_1_0 (p : Fin 4) (hj : S.j = 1) : k0_off8 (at1 p) 0#32 = ![0, 8*S.j - 1, 0, 0] := by rw [hj]; exact (off8_1_0 p).eq
theorem o8_1_1 (p : Fin 4) (hj : S.j = 1) : k0_off8 (at1 p) 1#32 = ![0, 8*S.j, 0, 0] := by rw [hj]; exact (off8_1_1 p).eq
theorem o8_1_2 (p : Fin 4) (hj : S.j = 1) : k0_off8 (at1 p) 2#32 = ![0, 8*S.j+1, 0, 0] := by rw [hj]; exact (off8_1_2 p).eq
theorem o8_1_3 (p : Fin 4) (hj : S.j = 1) : k0_off8 (at1 p) 3#32 = ![0, 8*S.j+2, 0, 0] := by rw [hj]; exact (off8_1_3 p).eq
theorem o8_1_4 (p : Fin 4) (hj : S.j = 1) : k0_off8 (at1 p) 4#32 = ![0, 8*S.j+3, 0, 0] := by rw [hj]; exact (off8_1_4 p).eq
theorem o8_1_5 (p : Fin 4) (hj : S.j = 1) : k0_off8 (at1 p) 5#32 = ![0, 8*S.j+4, 0, 0] := by rw [hj]; exact (off8_1_5 p).eq
theorem o8_1_6 (p : Fin 4) (hj : S.j = 1) : k0_off8 (at1 p) 6#32 = ![0, 8*S.j+5, 0, 0] := by rw [hj]; exact (off8_1_6 p).eq
theorem o8_1_7 (p : Fin 4) (hj : S.j = 1) : k0_off8 (at1 p) 7#32 = ![0, 8*S.j+6, 0, 0] := by rw [hj]; exact (off8_1_7 p).eq
theorem o9_0_0 (p : Fin 4) (hj : S.j = 0) : k0_off9 (at0 p) 0#32 = ![256 * (8*S.j - 1), 0] := by rw [hj]; exact (off9_0_0 p).eq
theorem o9_0_1 (p : Fin 4) (hj : S.j = 0) : k0_off9 (at0 p) 1#32 = ![256 * (8*S.j), 0] := by rw [hj]; exact (off9_0_1 p).eq
theorem o9_0_2 (p : Fin 4) (hj : S.j = 0) : k0_off9 (at0 p) 2#32 = ![256 * (8*S.j+1), 0] := by rw [hj]; exact (off9_0_2 p).eq
theorem o9_0_3 (p : Fin 4) (hj : S.j = 0) : k0_off9 (at0 p) 3#32 = ![256 * (8*S.j+2), 0] := by rw [hj]; exact (off9_0_3 p).eq
theorem o9_0_4 (p : Fin 4) (hj : S.j = 0) : k0_off9 (at0 p) 4#32 = ![256 * (8*S.j+3), 0] := by rw [hj]; exact (off9_0_4 p).eq
theorem o9_0_5 (p : Fin 4) (hj : S.j = 0) : k0_off9 (at0 p) 5#32 = ![256 * (8*S.j+4), 0] := by rw [hj]; exact (off9_0_5 p).eq
theorem o9_0_6 (p : Fin 4) (hj : S.j = 0) : k0_off9 (at0 p) 6#32 = ![256 * (8*S.j+5), 0] := by rw [hj]; exact (off9_0_6 p).eq
theorem o9_0_7 (p : Fin 4) (hj : S.j = 0) : k0_off9 (at0 p) 7#32 = ![256 * (8*S.j+6), 0] := by rw [hj]; exact (off9_0_7 p).eq
theorem o9_1_0 (p : Fin 4) (hj : S.j = 1) : k0_off9 (at1 p) 0#32 = ![256 * (8*S.j - 1), 0] := by rw [hj]; exact (off9_1_0 p).eq
theorem o9_1_1 (p : Fin 4) (hj : S.j = 1) : k0_off9 (at1 p) 1#32 = ![256 * (8*S.j), 0] := by rw [hj]; exact (off9_1_1 p).eq
theorem o9_1_2 (p : Fin 4) (hj : S.j = 1) : k0_off9 (at1 p) 2#32 = ![256 * (8*S.j+1), 0] := by rw [hj]; exact (off9_1_2 p).eq
theorem o9_1_3 (p : Fin 4) (hj : S.j = 1) : k0_off9 (at1 p) 3#32 = ![256 * (8*S.j+2), 0] := by rw [hj]; exact (off9_1_3 p).eq
theorem o9_1_4 (p : Fin 4) (hj : S.j = 1) : k0_off9 (at1 p) 4#32 = ![256 * (8*S.j+3), 0] := by rw [hj]; exact (off9_1_4 p).eq
theorem o9_1_5 (p : Fin 4) (hj : S.j = 1) : k0_off9 (at1 p) 5#32 = ![256 * (8*S.j+4), 0] := by rw [hj]; exact (off9_1_5 p).eq
theorem o9_1_6 (p : Fin 4) (hj : S.j = 1) : k0_off9 (at1 p) 6#32 = ![256 * (8*S.j+5), 0] := by rw [hj]; exact (off9_1_6 p).eq
theorem o9_1_7 (p : Fin 4) (hj : S.j = 1) : k0_off9 (at1 p) 7#32 = ![256 * (8*S.j+6), 0] := by rw [hj]; exact (off9_1_7 p).eq
theorem cov_0_256_768 : ∀ a, a < 1024 → ((False ∨ 0 ≤ a ∧ a < 0 + 256) ∨ 256 ≤ a ∧ a < 256 + 512) ∨ 768 ≤ a ∧ a < 768 + 256 := fun a _ => by omega
theorem cov_0_512 : ∀ a, a < 1024 → (False ∨ 0 ≤ a ∧ a < 0 + 512) ∨ 512 ≤ a ∧ a < 512 + 512 := fun a _ => by omega
theorem cov_0_128_640 : ∀ a, a < 1024 → ((False ∨ 0 ≤ a ∧ a < 0 + 128) ∨ 128 ≤ a ∧ a < 128 + 512) ∨ 640 ≤ a ∧ a < 640 + 384 := fun a _ => by omega
theorem cov_0_384_896 : ∀ a, a < 1024 → ((False ∨ 0 ≤ a ∧ a < 0 + 384) ∨ 384 ≤ a ∧ a < 384 + 512) ∨ 896 ≤ a ∧ a < 896 + 128 := fun a _ => by omega
theorem cov_0_640 : ∀ a, a < 1024 → (False ∨ 0 ≤ a ∧ a < 0 + 640) ∨ 640 ≤ a ∧ a < 640 + 384 := fun a _ => by omega
theorem cov_0_768 : ∀ a, a < 1024 → (False ∨ 0 ≤ a ∧ a < 0 + 768) ∨ 768 ≤ a ∧ a < 768 + 256 := fun a _ => by omega
theorem cov_0_896 : ∀ a, a < 1024 → (False ∨ 0 ≤ a ∧ a < 0 + 896) ∨ 896 ≤ a ∧ a < 896 + 128 := fun a _ => by omega
end Cert.Proof.Sb

end
-- ==== Proof.SbPoint.lean ====
module

public import proofs.«01_k».proof.Proof.SbHost
public import proofs.«01_k».proof.Proof.SbFed
public import Idealize.ShloMosaic.Lib.Pipeline.ValueKit

/-!
What the body is given at a grid point, from real arguments.
-/

@[expose] public section

set_option maxRecDepth 16384

noncomputable section

namespace Cert.Proof.Sb

open Cert.KernelIdeal Cert.KernelIdeal.Gen
open Idealize.ShloMosaic Idealize.ShloMosaic.TcCoe

/-- Where each window's block sits: point `t` is head pair `t / 2` and query block `t % 2`. -/
theorem idx (t : Fin grid0.N) : win0_0.index t = ![t.val % 2, t.val / 2] ∧ win0_1.index t = ![0, t.val / 2] ∧ win0_2.index t = ![t.val / 2, 0, 0, 0] ∧
    win0_3.index t = ![t.val / 2, 0, 0, 0] ∧ win0_4.index t = ![t.val % 2, t.val / 2] ∧ win0_5.index t = ![t.val % 2, t.val / 2] ∧
    win0_6.index t = ![0, 0] ∧ win0_7.index t = ![0, 0] ∧ win0_8.index t = ![t.val % 2, t.val / 2] ∧
    win0_9.index t = ![t.val / 2, 0, 0, 0] ∧ win0_10.index t = ![t.val / 2, 0, 0, 0] := by
  revert t; decide +kernel

section
variable (m : (ℓ : Loc nD τ sig) → Buf (Elt Ideal) ℓ) (c : Dev nD) (t : Fin cfg0.N)

theorem lt8 : t.val < 8 := t.isLt

/-- The array row of a block's row, the array lane of its lane, the pair's tiles. -/
abbrev rowAt (a : Fin 1024) : Fin 2048 := ⟨t.val % 2 * 1024 + a.val, by omega⟩
abbrev laneAt (b : Fin 128) : Fin 512 := ⟨t.val / 2 * 128 + b.val, by have h := lt8 t; omega⟩
abbrev pairAt : Fin 4 := ⟨t.val / 2, by have h := lt8 t; omega⟩

theorem blk0 (a : Fin 1024) (b : Fin 128) : iblk m c 0 t (ix2 a b) = V m c main_v2 (ix2 (rowAt t a) (laneAt t b)) := by
  blk_ext! [iblk, idx t]
theorem blk1 (a : Fin 4096) (b : Fin 128) : iblk m c 1 t (ix2 a b) = V m c main_v45 (ix2 a (laneAt t b)) := by
  blk_ext! [iblk, idx t]
theorem blk2 (a : Fin 16) (b : Fin 128) (e : Fin 256) : iblk m c 2 t (ix4 0 a b e) = V m c main_v48 (ix4 (pairAt t) a b e) := by
  blk_ext! [iblk, idx t]
theorem blk3 (a : Fin 16) (b : Fin 128) (e : Fin 256) : iblk m c 3 t (ix4 0 a b e) = V m c main_v51 (ix4 (pairAt t) a b e) := by
  blk_ext! [iblk, idx t]
theorem blk4 (a : Fin 1024) (b : Fin 128) : iblk m c 4 t (ix2 a b) = V m c main_arg3 (ix2 (rowAt t a) (laneAt t b)) := by
  blk_ext! [iblk, idx t]
theorem blk5 (a : Fin 1024) (b : Fin 128) : iblk m c 5 t (ix2 a b) = V m c main_v44 (ix2 (rowAt t a) (laneAt t b)) := by
  blk_ext! [iblk, idx t]
theorem blk6 (a : Fin 256) (b : Fin 256) : iblk m c 6 t (ix2 a b) = V m c main_v63 (ix2 a b) := by
  blk_ext! [iblk, idx t]
theorem blk7 (a : Fin 256) (b : Fin 256) : iblk m c 7 t (ix2 a b) = V m c main_v74 (ix2 a b) := by
  blk_ext! [iblk, idx t]

theorem emb8 (a : Fin 1024) (b : Fin 128) (G : S2048x512.Idx → EReal) :
    G (((View.whole main_v75_0).slice (win0_8.rect t)).emb (ix2 a b)) = G (ix2 (rowAt t a) (laneAt t b)) := by
  blk_ext [idx t]
theorem emb9 (s : Fin 1) (a : Fin 16) (b : Fin 128) (e : Fin 256) (G : S4x16x128x256.Idx → EReal) :
    G (((View.whole main_v75_1).slice (win0_9.rect t)).emb (ix4 s a b e)) = G (ix4 (pairAt t) a b e) := by
  blk_ext [idx t]
theorem emb10 (s : Fin 1) (a : Fin 16) (b : Fin 128) (e : Fin 256) (G : S4x16x128x256.Idx → EReal) :
    G (((View.whole main_v75_2).slice (win0_10.rect t)).emb (ix4 s a b e)) = G (ix4 (pairAt t) a b e) := by
  blk_ext [idx t]
end

/-! ### The point's data, at reals -/

/-- A tile's entry after the first `n` query rows. -/
def tileK (R : Rows) (p n u d e : ℕ) : ℝ := ∑ r ∈ Finset.range n, R.q r (128 * p + d) * R.dz (2 * p + e / 128) r (128 * u + e % 128)
def tileV (R : Rows) (p n u d e : ℕ) : ℝ := ∑ r ∈ Finset.range n, R.g r (128 * p + d) * R.att (2 * p + e / 128) r (128 * u + e % 128)

/-- What the blocks of head pair `p` and query block `j` hold. -/
def spAt (R : Rows) (p j : ℕ) : Sp where
  j := j
  q r d := (R.q (1024 * j + r) (128 * p + d) : EReal)
  dO r d := (R.g (1024 * j + r) (128 * p + d) : EReal)
  ks x d := if x % 256 / 128 = d / 64 then (R.k (x / 256 * 128 + x % 256 % 128) (128 * p + d) : EReal) else 0
  kt u d e := if e / 128 = d / 64 then (R.k (128 * u + e % 128) (128 * p + d) : EReal) else 0
  vt u d e := if e / 128 = d / 64 then (R.v (128 * u + e % 128) (128 * p + d) : EReal) else 0
  lt r d := (R.tot (2 * p + d / 64) (1024 * j + r) : EReal)
  up x e := if x / 128 = e / 128 ∧ x % 128 < e % 128 + 1 then (1 : EReal) else 0
  be x e := if x / 128 = e / 128 ∧ x % 128 < e % 128 then (1 : EReal) else 0
  w12 u d e := (tileK R p (1024 * j) u d e : EReal)
  w13 u d e := (tileV R p (1024 * j) u d e : EReal)

theorem spAt_reals (R : Rows) (p j : ℕ) (hj : j < 2) : AtReals (spAt R p j) R p where
  hj := hj
  hq r hr d hd := rfl
  hg r hr d hd := rfl
  hks k hk e he d hd := by
    show (if (256 * k + e) % 256 / 128 = d / 64 then (R.k ((256 * k + e) / 256 * 128 + (256 * k + e) % 256 % 128) (128 * p + d) : EReal) else 0) = _
    rw [show (256 * k + e) % 256 = e by omega, show (256 * k + e) / 256 * 128 = 128 * k by omega]
  hkt k hk d hd e he := rfl
  hvt k hk d hd e he := rfl
  hl r hr h hh := by
    show (R.tot (2 * p + 64 * h / 64) (1024 * j + r) : EReal) = _
    rw [show 64 * h / 64 = h by omega]
    rfl
  hup x hx e he := rfl
  hbe x hx e he := rfl

section
variable (R : Rows) (p j : ℕ) (hj : j < 2)
include hj

theorem spAt_DQ {r d : ℕ} (hr : r < 1024) (hd : d < 128) : (spAt R p j).DQ (8 * j + 9) r d = (R.dq (1024 * j + r) (128 * p + d) : EReal) :=
  (spAt_reals R p j hj).DQ hr hd

theorem spAt_W12 {u d e : ℕ} (hu : u < 16) (hd : d < 128) (he : e < 256) :
    (spAt R p j).W12 (8 * j + 9) u d e = (tileK R p (1024 * (j + 1)) u d e : EReal) := by
  refine ((spAt_reals R p j hj).W12 hu hd he).trans ?_
  show (tileK R p (1024 * j) u d e : EReal) + _ = _
  rw [← EReal.coe_add, show 1024 * (j + 1) = 1024 * j + 1024 by ring]
  unfold tileK
  rw [Finset.sum_range_add]
  rfl

theorem spAt_W13 {u d e : ℕ} (hu : u < 16) (hd : d < 128) (he : e < 256) :
    (spAt R p j).W13 (8 * j + 9) u d e = (tileV R p (1024 * (j + 1)) u d e : EReal) := by
  refine ((spAt_reals R p j hj).W13 hu hd he).trans ?_
  show (tileV R p (1024 * j) u d e : EReal) + _ = _
  rw [← EReal.coe_add, show 1024 * (j + 1) = 1024 * j + 1024 by ring]
  unfold tileV
  rw [Finset.sum_range_add]
  rfl
end

/-! ### What the points leave -/

/-- The query rows' gradient and the two tiles after point `t`. -/
def left (R : Rows) (t : Fin cfg0.N) : Vec Ideal S1024x128 .f32 × Vec Ideal S1x16x128x256 .f32 × Vec Ideal S1x16x128x256 .f32 :=
  (fun i => (R.dq (1024 * (t.val % 2) + (i 0).val) (128 * (t.val / 2) + (i 1).val) : EReal),
   fun i => (tileK R (t.val / 2) (1024 * (t.val % 2 + 1)) (i 1).val (i 2).val (i 3).val : EReal),
   fun i => (tileV R (t.val / 2) (1024 * (t.val % 2 + 1)) (i 1).val (i 2).val (i 3).val : EReal))

variable {m : (ℓ : Loc nD τ sig) → Buf (Elt Ideal) ℓ} {c : Dev nD} {q k v g : S2048x512.Idx → ℝ}

section
variable (A : RealArgs m c q k v g) (t : Fin cfg0.N)
include A

theorem fed_q : Mat (n := 1024) (m := 128) (iblk m c 0 t) (spAt (rows q k v g) (t.val / 2) (t.val % 2)).q := fun a b =>
  (blk0 m c t a b).trans ((in_q A _ _).trans (by dsimp only [spAt]; rw [Nat.mul_comm 1024, Nat.mul_comm 128]))
theorem fed_ks : Mat (n := 4096) (m := 128) (iblk m c 1 t) (spAt (rows q k v g) (t.val / 2) (t.val % 2)).ks := fun a b =>
  (blk1 m c t a b).trans ((in_ks A _ _).trans (by
    dsimp only [spAt]
    rw [Nat.mul_comm 128 (t.val / 2)]
    exact if_congr (by omega) rfl rfl))
theorem fed_kt (u : Fin 16) (a : Fin 128) (b : Fin 256) : iblk m c 2 t (ix4 0 u a b)
    = (spAt (rows q k v g) (t.val / 2) (t.val % 2)).kt u.val a.val b.val :=
  (blk2 m c t u a b).trans (in_kt A _ _ _ _)
theorem fed_vt (u : Fin 16) (a : Fin 128) (b : Fin 256) : iblk m c 3 t (ix4 0 u a b)
    = (spAt (rows q k v g) (t.val / 2) (t.val % 2)).vt u.val a.val b.val :=
  (blk3 m c t u a b).trans (in_vt A _ _ _ _)
theorem fed_dO : Mat (n := 1024) (m := 128) (iblk m c 4 t) (spAt (rows q k v g) (t.val / 2) (t.val % 2)).dO := fun a b =>
  (blk4 m c t a b).trans ((in_g A _ _).trans (by dsimp only [spAt]; rw [Nat.mul_comm 1024, Nat.mul_comm 128]))
theorem fed_lt : Mat (n := 1024) (m := 128) (iblk m c 5 t) (spAt (rows q k v g) (t.val / 2) (t.val % 2)).lt := fun a b =>
  (blk5 m c t a b).trans ((in_lt A _ _).trans (by
    dsimp only [spAt]
    rw [Nat.mul_comm 1024, show (t.val / 2 * 128 + b.val) / 64 = 2 * (t.val / 2) + b.val / 64 by omega]))
omit A in
theorem fed_up : Mat (n := 256) (m := 256) (iblk m c 6 t) (spAt (rows q k v g) (t.val / 2) (t.val % 2)).up := fun a b =>
  (blk6 m c t a b).trans (in_up _ _)
omit A in
theorem fed_be : Mat (n := 256) (m := 256) (iblk m c 7 t) (spAt (rows q k v g) (t.val / 2) (t.val % 2)).be := fun a b =>
  (blk7 m c t a b).trans (in_be _ _)

omit A in
theorem fed_mk {S : Sp} {x0 : Vec Ideal S1024x128 .f32} {x1 : Vec Ideal S4096x128 .f32} {x2 x3 : Vec Ideal S1x16x128x256 .f32}
    {x4 x5 : Vec Ideal S1024x128 .f32} {x6 x7 : Vec Ideal S256x256 .f32} (h0 : Mat x0 S.q) (h1 : Mat x1 S.ks)
    (h2 : ∀ (t : Fin 16) (a : Fin 128) (c : Fin 256), x2 (ix4 0 t a c) = S.kt t.val a.val c.val)
    (h3 : ∀ (t : Fin 16) (a : Fin 128) (c : Fin 256), x3 (ix4 0 t a c) = S.vt t.val a.val c.val)
    (h4 : Mat x4 S.dO) (h5 : Mat x5 S.lt) (h6 : Mat x6 S.up) (h7 : Mat x7 S.be) (y11 : Vec Ideal S1024x128 .f32)
    (y12 y13 : Vec Ideal S1x16x128x256 .f32) (y14 y15 y16 y17) : Fed S ⟨x0, x1, x2, x3, x4, x5, x6, x7, y11, y12, y13, y14, y15, y16, y17⟩ :=
  ⟨h0, h1, h2, h3, h4, h5, h6, h7⟩

theorem fed (y11 : Vec Ideal S1024x128 .f32) (y12 y13 : Vec Ideal S1x16x128x256 .f32) (y14 y15 y16 y17) :
    Fed (spAt (rows q k v g) (t.val / 2) (t.val % 2))
      ⟨iblk m c 0 t, iblk m c 1 t, iblk m c 2 t, iblk m c 3 t, iblk m c 4 t, iblk m c 5 t, iblk m c 6 t, iblk m c 7 t, y11, y12, y13, y14, y15, y16, y17⟩ :=
  fed_mk (fed_q A t) (fed_ks A t) (fed_kt A t) (fed_vt A t) (fed_dO A t) (fed_lt A t) (fed_up t) (fed_be t) y11 y12 y13 y14 y15 y16 y17
end

end Cert.Proof.Sb

end
-- ==== Proof.SbStartA.lean ====
module
public import proofs.«01_k».proof.Proof.SbFed
public import proofs.«01_k».proof.Proof.SbRunA

/-!
The loop of the body when query block 0 is worked on.
-/

@[expose] public section
set_option maxRecDepth 16384
noncomputable section
namespace Cert.Proof.Sb
open Cert.KernelIdeal Cert.KernelIdeal.Gen
open Idealize.ShloMosaic Idealize.ShloMosaic.TcCoe
open runA.sl

theorem av369 (a : Fin 128) (c : Fin 256) : v369 (ix2 a c) = BitVec.ofNat 32 a.val := by
  unfold v369; pointwise

theorem av628 (a : Fin 128) (c : Fin 256) : v628 (ix2 a c) = BitVec.ofNat 32 c.val := by
  unfold v628; pointwise

variable {S : Sp} {dv : Dev nD} {p : Fin 4} {m : Bufs} {x : Held Ideal} (H : FedA S x)
include H
theorem ar : Mat (runA.sl.r dv m x) S.q :=
  pay71 S (whole_read (H.r2 (m := m)))
theorem ar1 : Mat (r_1 dv m x) S.dO :=
  pay72 S (whole_read (H.r6 (m := m)))
theorem ar6 : Mat (r_6 dv m x) S.be :=
  pay77 S (whole_read (H.r9 (m := m)))
theorem ar4 : Mat (r_4 dv m x) S.lth :=
  pay75 S (column_read (o := 0) (H.r7 (m := m))) (column_read (o := 64) (H.r7 (m := m)))
theorem ar5 : Mat (r_5 dv m x) S.up :=
  pay76 S (whole_read (H.r8 (m := m)))
theorem ar3 : Mat (r_3 dv m x) fun a c => S.dO c a :=
  pay74 S (whole_read (H.r6 (m := m)))
theorem ar2 : Mat (r_2 dv m x) fun a c => S.q c a :=
  pay73 S (whole_read (H.r2 (m := m)))
theorem ar7 : Mat (r_7 dv m x) (S.z 0) :=
  pay78 S (whole_read (H.r2 (m := m))) (tile_read (n := 0) (H.r4 (m := m)) rfl)

/-- What the loop starts from. -/
theorem aInit : Before S m (m.arg12.view.writes (Elt Ideal) m.arg12.view.junk (Harg12_1 (F := Ideal))) (m.arg13.view.writes (Elt Ideal) m.arg13.view.junk (Harg13_1 (F := Ideal))) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) 0 ((k0_pay84 (F := Ideal), k0_pay83 (F := Ideal), k0_pay83 (F := Ideal), k0_pay83 (F := Ideal), k0_pay83 (F := Ideal)), [], [], [], [], [], []) where
  dq a c := (pay84 (ix2 a c)).trans (S.DQ_zero _ _).symm
  p0 a := (pay83 (ix2 a 0)).trans (S.P_zero _ _).symm
  p1 a := (pay83 (ix2 a 0)).trans (S.P_zero _ _).symm
  e0 a := (pay83 (ix2 a 0)).trans (S.E_zero _ _).symm
  e1 a := (pay83 (ix2 a 0)).trans (S.E_zero _ _).symm
  w12 := tiles_nil (tiles_full fun t a c => (pay69 (ix4 0 t a c)).trans ((H.w12 _ _ _).symm.trans (by rw [S.W12_zero])))
  w13 := tiles_nil (tiles_full fun t a c => (pay70 (ix4 0 t a c)).trans ((H.w13 _ _ _).symm.trans (by rw [S.W13_zero])))
  z := holds_nil (holds_full (pay79 S (ar7 H)))
  da := holds_nil (holds_full (pay80 S (ar1 H) (tile_read (n := 0) (H.r5 (m := m)) rfl)))
  dz := holds_nil (holds_full fun a c => (pay81 S a c).trans (S.dzb_zero _ _).symm)
  att := holds_nil (holds_full fun a c => (pay82 S a c).trans (S.atb_zero _ _).symm)

/-- What the loop ends with. -/
theorem aLoop : Before S m (m.arg12.view.writes (Elt Ideal) m.arg12.view.junk (Harg12_1 (F := Ideal))) (m.arg13.view.writes (Elt Ideal) m.arg13.view.junk (Harg13_1 (F := Ideal))) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) (8*S.j)
    (st (F := Ideal) dv (at0 p) m 0#32 7#32 (runA.sl.r dv m x) (r_1 dv m x) (r_2 dv m x) (r_3 dv m x) (r_4 dv m x) (r_5 dv m x) (r_6 dv m x) (r_7 dv m x) (m.harg3.unread x.x1) (m.harg4.unread x.x2) (m.harg5.unread x.x3) (m.arg12.view.writes (Elt Ideal) m.arg12.view.junk (Harg12_1 (F := Ideal))) (m.arg13.view.writes (Elt Ideal) m.arg13.view.junk (Harg13_1 (F := Ideal))) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) (k0_pay84 (F := Ideal), k0_pay83 (F := Ideal), k0_pay83 (F := Ideal), k0_pay83 (F := Ideal), k0_pay83 (F := Ideal)) (Scf.trips (k0_t1_loop (at0 p)).lb (k0_t1_loop (at0 p)).ub (k0_t1_loop (at0 p)).st)) := by
  rw [H.hj, show Scf.trips (k0_t1_loop (at0 p)).lb (k0_t1_loop (at0 p)).ub (k0_t1_loop (at0 p)).st = 0 from trips_zero p]
  exact aInit H
end Cert.Proof.Sb

end
-- ==== Proof.SbStageA0.lean ====
module
public import proofs.«01_k».proof.Proof.SbStartA

/-!
What the values of the body are when query block 0 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runA.sl
variable {S : Sp} {dv : Dev nD} {p : Fin 4} {m : Bufs} {x : Held Ideal} (H : FedA S x)
include H
theorem ar10 : Col (r_10 dv p m x) fun a => S.P (8*S.j) a 1 :=
  (aLoop (dv := dv) (p := p) H).p1
theorem ar9 : Col (r_9 dv p m x) fun a => S.P (8*S.j) a 0 :=
  (aLoop (dv := dv) (p := p) H).p0
theorem av99 : Mat3 (v99 dv p m x) (S.z (8*S.j)) :=
  top_read (n := 512) (holds_append (aLoop (dv := dv) (p := p) H).z)
theorem ar17 : Mat (r_17 dv p m x) (S.z (8*S.j)) :=
  pay103 S (av99 H)
theorem ar18 : Mat (r_18 dv p m x) (S.sp (8*S.j)) :=
  pay104 S (av99 H)
theorem ar19 : Mat (r_19 dv p m x) (S.nlb (8*S.j)) :=
  pay105 S (av99 H)
theorem av176 : Mat3 (v176 dv p m x) (S.da (8*S.j)) :=
  top_read (n := 512) (holds_append (aLoop (dv := dv) (p := p) H).da)
theorem ar23 : Mat (r_23 dv p m x) (S.e (8*S.j)) :=
  pay109 S (ar4 H) (ar5 H) (ar9 H) (ar10 H) (ar17 H) (ar18 H) (ar19 H) (av176 H)
theorem ar24 : Mat (r_24 dv p m x) (S.dote (8*S.j)) :=
  pay110 S (ar4 H) (ar5 H) (ar6 H) (ar9 H) (ar10 H) (ar17 H) (ar18 H) (ar19 H) (av176 H)
theorem ar12 : Col (r_12 dv p m x) fun a => S.E (8*S.j) a 1 :=
  (aLoop (dv := dv) (p := p) H).e1
theorem ar25 : Col (r_25 dv p m x) fun a => S.E (8*S.j) a 1 :=
  pay111 S (ar12 H)
theorem ar11 : Col (r_11 dv p m x) fun a => S.E (8*S.j) a 0 :=
  (aLoop (dv := dv) (p := p) H).e0
theorem ar26 : Col (r_26 dv p m x) fun a => S.E (8*S.j) a 0 :=
  pay112 S (ar11 H)
theorem ar30 : Col (r_30 dv p m x) fun a => S.E (8*S.j+1) a 0 :=
  pay118 S (ar23 H) (ar24 H) (ar25 H) (ar26 H)
theorem av232 : Mat3At (v232 dv p m x) (S.z (8*S.j)) 512 :=
  rows_read (o := 512) (n := 512) (holds_append (aLoop (dv := dv) (p := p) H).z)
theorem av261 : Mat3At (v261 dv p m x) (S.da (8*S.j)) 512 :=
  rows_read (o := 512) (n := 512) (holds_append (aLoop (dv := dv) (p := p) H).da)
theorem ar34 : MatAt (r_34 dv p m x) (S.e (8*S.j)) 512 :=
  pay124 S (ar4 H) (ar5 H) (ar9 H) (ar10 H) (av232 H) (av261 H)
theorem ar35 : MatAt (r_35 dv p m x) (S.eb (8*S.j)) 512 :=
  pay125 S (ar4 H) (ar5 H) (ar6 H) (ar9 H) (ar10 H) (ar11 H) (ar12 H) (av232 H) (av261 H)
theorem ar39 : Col (r_39 dv p m x) fun a => S.E (8*S.j+1) a 0 :=
  pay133 S (ar30 H) (ar34 H) (ar35 H)
theorem ar27 : Mat (r_27 dv p m x) (S.eb (8*S.j)) :=
  pay113 S (ar24 H) (ar25 H) (ar26 H)
theorem ar31 : Col (r_31 dv p m x) fun a => S.E (8*S.j+1) a 1 :=
  pay119 S (ar23 H) (ar27 H)
theorem ar40 : Col (r_40 dv p m x) fun a => S.E (8*S.j+1) a 1 :=
  pay134 S (ar31 H) (ar34 H) (ar35 H)
theorem ar47 : Col (r_47 dv p m x) fun a => S.E (8*S.j+1) a 0 :=
  pay146 S (ar39 H)
theorem ar20 : Mat (r_20 dv p m x) (S.pin (8*S.j)) :=
  pay106 S (ar5 H) (ar9 H) (ar10 H) (ar19 H)
theorem ar28 : Col (r_28 dv p m x) fun a => S.P (8*S.j+1) a 0 :=
  pay116 S (ar20 H)
theorem ar32 : MatAt (r_32 dv p m x) (S.pin (8*S.j)) 512 :=
  pay122 S (ar5 H) (ar9 H) (ar10 H) (av232 H)
theorem ar37 : Col (r_37 dv p m x) fun a => S.P (8*S.j+1) a 0 :=
  pay131 S (ar28 H) (ar32 H)
theorem ar29 : Col (r_29 dv p m x) fun a => S.P (8*S.j+1) a 1 :=
  pay117 S (ar20 H)
theorem ar38 : Col (r_38 dv p m x) fun a => S.P (8*S.j+1) a 1 :=
  pay132 S (ar29 H) (ar32 H)
theorem ar13 : Mat (r_13 dv p m x) (S.z (8*S.j+1)) :=
  pay97 S (ar H) (tile_read (H.r4 (m := m)) (o7_0_0 p H.hj))
theorem aHarg14_1_1 : Wrote m.arg14.view (Harg14_1_1 dv p m x) (S.z (8*S.j+1)) :=
  holds_full (pay129 S (ar13 H))
theorem av357 : Mat3At (v357 dv p m x) (S.z (8*S.j+1)) 128 :=
  rows_read (o := 128) (n := 512) (aHarg14_1_1 H)
theorem ar49 : MatAt (r_49 dv p m x) (S.z (8*S.j+1)) 128 :=
  pay148 S (av357 H)
theorem ar50 : MatAt (r_50 dv p m x) (S.sp (8*S.j+1)) 128 :=
  pay149 S (av357 H)
theorem ar53 : MatAt (r_53 dv p m x) (S.att (8*S.j+1)) 128 :=
  pay155 S (ar4 H) (ar5 H) (ar37 H) (ar38 H) (ar49 H) (ar50 H) av369 rfl int150 int151 int152
theorem ar14 : Mat (r_14 dv p m x) (S.da (8*S.j+1)) :=
  pay98 S (ar1 H) (tile_read (H.r5 (m := m)) (o7_0_0 p H.hj))
theorem aHarg15_1_1 : Wrote m.arg15.view (Harg15_1_1 dv p m x) (S.da (8*S.j+1)) :=
  holds_full (pay130 S (ar14 H))
theorem av434 : Mat3At (v434 dv p m x) (S.da (8*S.j+1)) 128 :=
  rows_read (o := 128) (n := 512) (aHarg15_1_1 H)
theorem ar54 : MatAt (r_54 dv p m x) (S.e (8*S.j+1)) 128 :=
  pay156 S (ar53 H) (av434 H)
theorem ar55 : MatAt (r_55 dv p m x) (S.eb (8*S.j+1)) 128 :=
  pay157 S (ar6 H) (ar39 H) (ar40 H) (ar53 H) (av434 H)
theorem ar59 : Col (r_59 dv p m x) fun a => S.E (8*S.j+2) (128 + a) 0 :=
  pay163 S (ar54 H) (ar55 H)
theorem av490 : Mat3At (v490 dv p m x) (S.z (8*S.j+1)) 640 :=
  rows_read (o := 640) (n := 384) (aHarg14_1_1 H)
theorem av519 : Mat3At (v519 dv p m x) (S.da (8*S.j+1)) 640 :=
  rows_read (o := 640) (n := 384) (aHarg15_1_1 H)
theorem ar64 : MatAt (r_64 dv p m x) (S.e (8*S.j+1)) 640 :=
  pay170 S (ar4 H) (ar5 H) (ar37 H) (ar38 H) (av490 H) (av519 H)
theorem ar65 : MatAt (r_65 dv p m x) (S.dote (8*S.j+1)) 640 :=
  pay171 S (ar4 H) (ar5 H) (ar6 H) (ar37 H) (ar38 H) (av490 H) (av519 H)
theorem ar68 : Col (r_68 dv p m x) fun a => S.E (8*S.j+2) a 0 :=
  pay179 S (ar39 H) (ar40 H) (ar47 H) (ar59 H) (ar64 H) (ar65 H)
theorem ar48 : Col (r_48 dv p m x) fun a => S.E (8*S.j+1) a 1 :=
  pay147 S (ar40 H)
theorem ar60 : Col (r_60 dv p m x) fun a => S.E (8*S.j+2) (128 + a) 1 :=
  pay164 S (ar54 H) (ar55 H)
theorem ar69 : Col (r_69 dv p m x) fun a => S.E (8*S.j+2) a 1 :=
  pay180 S (ar39 H) (ar40 H) (ar48 H) (ar60 H) (ar64 H) (ar65 H)
theorem ar45 : Col (r_45 dv p m x) fun a => S.P (8*S.j+1) a 0 :=
  pay144 S (ar37 H)
theorem ar51 : MatAt (r_51 dv p m x) (S.pin (8*S.j+1)) 128 :=
  pay153 S (ar5 H) (ar37 H) (ar38 H) (ar50 H) av369 rfl int150 int151 int152
theorem ar57 : Col (r_57 dv p m x) fun a => S.P (8*S.j+2) (128 + a) 0 :=
  pay161 S (ar51 H)
theorem ar61 : MatAt (r_61 dv p m x) (S.pin (8*S.j+1)) 640 :=
  pay167 S (ar5 H) (ar37 H) (ar38 H) (av490 H)
theorem ar66 : Col (r_66 dv p m x) fun a => S.P (8*S.j+2) a 0 :=
  pay177 S (ar45 H) (ar57 H) (ar61 H)
theorem ar46 : Col (r_46 dv p m x) fun a => S.P (8*S.j+1) a 1 :=
  pay145 S (ar38 H)
theorem ar58 : Col (r_58 dv p m x) fun a => S.P (8*S.j+2) (128 + a) 1 :=
  pay162 S (ar51 H)
theorem ar67 : Col (r_67 dv p m x) fun a => S.P (8*S.j+2) a 1 :=
  pay178 S (ar46 H) (ar58 H) (ar61 H)
theorem ar41 : Mat (r_41 dv p m x) (S.z (8*S.j+2)) :=
  pay135 S (ar H) (tile_read (H.r4 (m := m)) (o7_0_1 p H.hj))
theorem aHarg14_2 : Wrote m.arg14.view (Harg14_2 dv p m x) (S.z (8*S.j+2)) :=
  holds_full (pay175 S (ar41 H))
theorem av748 : Mat3At (v748 dv p m x) (S.z (8*S.j+2)) 768 :=
  rows_read (o := 768) (n := 256) (aHarg14_2 H)
theorem ar93 : MatAt (r_93 dv p m x) (S.pin (8*S.j+2)) 768 :=
  pay219 S (ar5 H) (ar66 H) (ar67 H) (av748 H)
theorem ar95 : MatAt (r_95 dv p m x) (S.zs (8*S.j+2)) 768 :=
  pay221 S (av748 H)
theorem ar96 : ∀ (a : Fin 256) (c : Fin 256), r_96 dv m x (ix2 a c) = S.lth (768 + a.val) c.val :=
  pay222 S (ar4 H)
theorem ar42 : Mat (r_42 p m x) (S.vt (8*S.j+2)) :=
  pay136 S (tile_read (H.r5 (m := m)) (o7_0_1 p H.hj))
theorem ar43 : Mat (r_43 dv p m x) (S.da (8*S.j+2)) :=
  pay137 S (ar1 H) (ar42 H)
theorem aHarg15_2 : Wrote m.arg15.view (Harg15_2 dv p m x) (S.da (8*S.j+2)) :=
  holds_full (pay176 S (ar43 H))
theorem av777 : Mat3At (v777 dv p m x) (S.da (8*S.j+2)) 768 :=
  rows_read (o := 768) (n := 256) (aHarg15_2 H)
theorem ar100 : Col (r_100 dv p m x) fun a => S.E (8*S.j+3) (768 + a) 1 :=
  pay231 S (ar6 H) (ar68 H) (ar69 H) (ar93 H) (ar95 H) (ar96 H) (av777 H)
theorem ar71 : Mat (r_71 dv p m x) (S.da (8*S.j+3)) :=
  pay182 S (ar1 H) (tile_read (H.r5 (m := m)) (o7_0_2 p H.hj))
theorem ar101 : Mat3 (r_101 dv p m x) (S.da (8*S.j+3)) :=
  pay233 S (ar71 H)
theorem ar75 : Col (r_75 dv p m x) fun a => S.P (8*S.j+2) a 0 :=
  pay190 S (ar66 H)
theorem av615 : Mat3At (v615 dv p m x) (S.z (8*S.j+2)) 256 :=
  rows_read (o := 256) (n := 512) (aHarg14_2 H)
theorem ar80 : MatAt (r_80 dv p m x) (S.sp (8*S.j+2)) 256 :=
  pay195 S (av615 H)
theorem ar81 : MatAt (r_81 dv p m x) (S.pin (8*S.j+2)) 256 :=
  pay197 S (ar5 H) (ar66 H) (ar67 H) (ar80 H) av369 av628 rfl int196
theorem ar89 : Col (r_89 dv p m x) fun a => S.P (8*S.j+3) (256 + a) 0 :=
  pay213 S (ar81 H)
theorem ar97 : Col (r_97 dv p m x) fun a => S.P (8*S.j+3) (768 + a) 0 :=
  pay228 S (ar93 H)
theorem ar102 : Col (r_102 dv p m x) fun a => S.P (8*S.j+3) a 0 :=
  pay234 S (ar75 H) (ar89 H) (ar97 H)
theorem ar76 : Col (r_76 dv p m x) fun a => S.P (8*S.j+2) a 1 :=
  pay191 S (ar67 H)
theorem ar90 : Col (r_90 dv p m x) fun a => S.P (8*S.j+3) (256 + a) 1 :=
  pay214 S (ar81 H)
theorem ar98 : Col (r_98 dv p m x) fun a => S.P (8*S.j+3) (768 + a) 1 :=
  pay229 S (ar93 H)
end Cert.Proof.Sb

end
-- ==== Proof.SbStageA1.lean ====
module
public import proofs.«01_k».proof.Proof.SbStageA0

/-!
What the values of the body are when query block 0 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runA.sl
variable {S : Sp} {dv : Dev nD} {p : Fin 4} {m : Bufs} {x : Held Ideal} (H : FedA S x)
include H
theorem ar103 : Col (r_103 dv p m x) fun a => S.P (8*S.j+3) a 1 :=
  pay235 S (ar76 H) (ar90 H) (ar98 H)
theorem ar77 : Col (r_77 dv p m x) fun a => S.E (8*S.j+2) a 0 :=
  pay192 S (ar68 H)
theorem ar79 : MatAt (r_79 dv p m x) (S.z (8*S.j+2)) 256 :=
  pay194 S (av615 H)
theorem ar83 : MatAt (r_83 dv p m x) (S.attu (8*S.j+2)) 256 :=
  pay199 S (ar4 H) (ar5 H) (ar66 H) (ar67 H) (ar79 H) (ar80 H) av369 av628 rfl int196
theorem av692 : Mat3At (v692 dv p m x) (S.da (8*S.j+2)) 256 :=
  rows_read (o := 256) (n := 512) (aHarg15_2 H)
theorem ar85 : MatAt (r_85 dv p m x) (S.e (8*S.j+2)) 256 :=
  pay205 S (ar83 H) av369 rfl int200 int201 int202 int203 (av692 H)
theorem ar86 : MatAt (r_86 dv p m x) (S.eb (8*S.j+2)) 256 :=
  pay206 S (ar6 H) (ar68 H) (ar69 H) (ar83 H) av369 rfl int200 int201 int202 int203 (av692 H)
theorem ar91 : Col (r_91 dv p m x) fun a => S.E (8*S.j+3) (256 + a) 0 :=
  pay215 S (ar85 H) (ar86 H)
theorem ar99 : Col (r_99 dv p m x) fun a => S.E (8*S.j+3) (768 + a) 0 :=
  pay230 S (ar6 H) (ar68 H) (ar69 H) (ar93 H) (ar95 H) (ar96 H) (av777 H)
theorem ar104 : Col (r_104 dv p m x) fun a => S.E (8*S.j+3) a 0 :=
  pay236 S (ar77 H) (ar91 H) (ar99 H)
theorem ar78 : Col (r_78 dv p m x) fun a => S.E (8*S.j+2) a 1 :=
  pay193 S (ar69 H)
theorem ar92 : Col (r_92 dv p m x) fun a => S.E (8*S.j+3) (256 + a) 1 :=
  pay216 S (ar85 H) (ar86 H)
theorem ar105 : Col (r_105 dv p m x) fun a => S.E (8*S.j+3) a 1 :=
  pay237 S (ar78 H) (ar92 H) (ar100 H)
theorem ar106 : Mat (r_106 dv p m x) (S.z (8*S.j+4)) :=
  pay238 S (ar H) (tile_read (H.r4 (m := m)) (o7_0_3 p H.hj))
theorem ar107 : Mat (r_107 dv p m x) (S.da (8*S.j+4)) :=
  pay239 S (ar1 H) (tile_read (H.r5 (m := m)) (o7_0_3 p H.hj))
theorem ar82 : MatAt (r_82 dv p m x) (S.sig (8*S.j+2)) 256 :=
  pay198 S (ar79 H) (ar80 H)
theorem ar87 : MatAt (r_87 dv p m x) (S.dzu (8*S.j+2)) 256 :=
  pay207 S (ar6 H) (ar68 H) (ar69 H) (ar82 H) (ar83 H) av369 rfl int200 int201 int202 int203 (av692 H)
theorem ar88 : MatAt (r_88 dv p m x) (S.dzu (8*S.j+2)) 256 :=
  pay209 S (ar6 H) (ar68 H) (ar69 H) (ar82 H) (ar83 H) av369 rfl int200 int201 int202 int203 (av692 H)
theorem ar94 : MatAt (r_94 dv p m x) (S.sig (8*S.j+2)) 768 :=
  pay220 S (av748 H)
theorem aHarg16_8 : Wrote m.arg16.view (Harg16_8 dv p m x) (S.dz (8*S.j+2)) :=
  holds_all (holds_cons (o := 768) (n := 256) (holds_cons (o := 256) (n := 512) (holds_top (n := 256) (holds_none _ _ _) (fun a c => (pay188 S a c).trans (S.dz_top 2 rfl a c).symm)) (pay211 S (ar87 H) int208 (ar88 H))) (pay226 S (ar6 H) (ar68 H) (ar69 H) (ar93 H) (ar94 H) (ar95 H) (ar96 H) (av777 H))) cov_0_256_768
theorem av832 : Mat3 (v832 dv p m x) (S.dz (8*S.j+2)) :=
  top_read (n := 1024) (aHarg16_8 H)
theorem ar108 : Mat (r_108 dv p m x) (S.dz (8*S.j+2)) :=
  pay240 S (av832 H)
theorem av82 : Tile (v82 dv p m x) (S.W13 (8*S.j) (8*S.j - 1)) :=
  tile_read (n := 8*S.j - 1) (tiles_append (aLoop (dv := dv) (p := p) H).w13) (o8_0_0 p H.hj)
theorem av84 : Mat3 (v84 dv p m x) (S.atb (8*S.j)) :=
  top_read (n := 1024) (holds_append (aLoop (dv := dv) (p := p) H).att)
theorem aHarg13_1_1 : WroteT m.arg13.view (Harg13_1_1 dv p m x) (S.W13 (8*S.j+1)) :=
  tiles_cons (n := 8*S.j - 1) (tiles_append (aLoop (dv := dv) (p := p) H).w13) (o8_0_0 p H.hj) (fun a c => ((pay101 S (S.W13 (8*S.j) (8*S.j - 1)) (ar3 H) (av82 H) (av84 H)) a c).trans (S.W13_at (8*S.j) a.val c.val).symm) fun t ht a c => S.W13_off (8*S.j) t a c ht
theorem av328 : Tile (v328 dv p m x) (S.W13 (8*S.j+1) (8*S.j)) :=
  tile_read (n := 8*S.j) (aHarg13_1_1 H) (o8_0_1 p H.hj)
theorem ar22 : Mat (r_22 dv p m x) (S.att (8*S.j)) :=
  pay108 S (ar4 H) (ar5 H) (ar9 H) (ar10 H) (ar17 H) (ar18 H) (ar19 H)
theorem ar33 : MatAt (r_33 dv p m x) (S.att (8*S.j)) 512 :=
  pay123 S (ar4 H) (ar5 H) (ar9 H) (ar10 H) (av232 H)
theorem aHarg17_2 : Wrote m.arg17.view (Harg17_2 dv p m x) (S.att (8*S.j)) :=
  holds_all (holds_cons (o := 512) (n := 512) (holds_top (n := 512) (holds_none _ _ _) (pay115 S (ar22 H))) (pay128 S (ar33 H))) cov_0_512
theorem av330 : Mat3 (v330 dv p m x) (S.att (8*S.j)) :=
  top_read (n := 1024) (aHarg17_2 H)
theorem aHarg13_2 : WroteT m.arg13.view (Harg13_2 dv p m x) (S.W13 (8*S.j+2)) :=
  tiles_cons (n := 8*S.j) (aHarg13_1_1 H) (o8_0_1 p H.hj) (fun a c => ((pay140 S (S.W13 (8*S.j+1) (8*S.j)) (ar3 H) (av328 H) (av330 H)) a c).trans (S.W13_step (8*S.j) a.val c.val).symm) fun t ht a c => S.W13_past (8*S.j) t a c ht
theorem ar56 : MatAt (r_56 dv p m x) (S.att (8*S.j+1)) 128 :=
  pay159 S (ar53 H)
theorem ar63 : MatAt (r_63 dv p m x) (S.att (8*S.j+1)) 640 :=
  pay169 S (ar4 H) (ar5 H) (ar37 H) (ar38 H) (av490 H)
theorem aHarg17_5 : Wrote m.arg17.view (Harg17_5 dv p m x) (S.att (8*S.j+1)) :=
  holds_all (holds_cons (o := 640) (n := 384) (holds_cons (o := 128) (n := 512) (holds_top (n := 128) (holds_none _ _ _) (fun a c => (pay143 S a c).trans (S.att_top 1 rfl a c).symm)) (pay160 S (ar56 H))) (pay174 S (ar63 H))) cov_0_128_640
theorem av588 : Mat3 (v588 dv p m x) (S.att (8*S.j+1)) :=
  top_read (n := 1024) (aHarg17_5 H)
theorem ar73 : Mat (r_73 dv p m x) (S.W13 (8*S.j+3) (8*S.j+1)) :=
  (fun a c => ((pay185 S (S.W13 (8*S.j+2) (8*S.j+1)) (ar3 H) (tile_read (n := 8*S.j+1) (aHarg13_2 H) (o8_0_2 p H.hj)) (av588 H)) a c).trans (S.W13_step (8*S.j+1) a.val c.val).symm)
theorem aHarg13_3 : WroteT m.arg13.view (Harg13_3 dv p m x) (S.W13 (8*S.j+3)) :=
  tiles_cons (n := 8*S.j+1) (aHarg13_2 H) (o8_0_2 p H.hj) (pay186 S (S.W13 (8*S.j+3) (8*S.j+1)) (ar73 H)) fun t ht a c => S.W13_past (8*S.j+1) t a c ht
theorem ar109 : Mat (r_109 dv p m x) (S.W13 (8*S.j+3) (8*S.j+2)) :=
  pay242 S (S.W13 (8*S.j+3) (8*S.j+2)) (tile_read (n := 8*S.j+2) (aHarg13_3 H) (o8_0_3 p H.hj))
theorem ar8 : Mat (r_8 dv p m x) (S.DQ (8*S.j)) :=
  (aLoop (dv := dv) (p := p) H).dq
theorem av70 : Mat3 (v70 dv p m x) (S.dzb (8*S.j)) :=
  top_read (n := 1024) (holds_append (aLoop (dv := dv) (p := p) H).dz)
theorem ar15 : Mat (r_15 dv p m x) (S.dzb (8*S.j)) :=
  pay99 S (av70 H)
theorem ar16 : Mat (r_16 dv p m x) (S.DQ (8*S.j+1)) :=
  pay102 S (ar8 H) (ar15 H) (flat_read (H.r3 (m := m)) (o9_0_0 p H.hj))
theorem ar21 : Mat (r_21 dv p m x) (S.sig (8*S.j)) :=
  pay107 S (ar17 H) (ar18 H)
theorem ar36 : MatAt (r_36 dv p m x) (S.dz (8*S.j)) 512 :=
  pay126 S (ar4 H) (ar5 H) (ar6 H) (ar9 H) (ar10 H) (ar11 H) (ar12 H) (av232 H) (av261 H)
theorem aHarg16_2 : Wrote m.arg16.view (Harg16_2 dv p m x) (S.dz (8*S.j)) :=
  holds_all (holds_cons (o := 512) (n := 512) (holds_top (n := 512) (holds_none _ _ _) (pay114 S (ar21 H) (ar23 H) (ar24 H) (ar25 H) (ar26 H))) (pay127 S (ar36 H))) cov_0_512
theorem av316 : Mat3 (v316 dv p m x) (S.dz (8*S.j)) :=
  top_read (n := 1024) (aHarg16_2 H)
theorem ar44 : Mat (r_44 dv p m x) (S.DQ (8*S.j+2)) :=
  pay141 S (ar16 H) (av316 H) (flat_read (H.r3 (m := m)) (o9_0_1 p H.hj))
theorem ar52 : MatAt (r_52 dv p m x) (S.sig (8*S.j+1)) 128 :=
  pay154 S (ar49 H) (ar50 H)
theorem ar62 : MatAt (r_62 dv p m x) (S.sig (8*S.j+1)) 640 :=
  pay168 S (av490 H)
theorem aHarg16_5 : Wrote m.arg16.view (Harg16_5 dv p m x) (S.dz (8*S.j+1)) :=
  holds_all (holds_cons (o := 640) (n := 384) (holds_cons (o := 128) (n := 512) (holds_top (n := 128) (holds_none _ _ _) (fun a c => (pay142 S a c).trans (S.dz_top 1 rfl a c).symm)) (pay158 S (ar6 H) (ar39 H) (ar40 H) (ar52 H) (ar53 H) (av434 H))) (pay173 S (ar39 H) (ar40 H) (ar62 H) (ar64 H) (ar65 H))) cov_0_128_640
theorem av574 : Mat3 (v574 dv p m x) (S.dz (8*S.j+1)) :=
  top_read (n := 1024) (aHarg16_5 H)
theorem ar72 : Mat (r_72 dv p m x) (S.dz (8*S.j+1)) :=
  pay183 S (av574 H)
theorem ar74 : Mat (r_74 dv p m x) (S.DQ (8*S.j+3)) :=
  pay187 S (ar44 H) (ar72 H) (flat_read (H.r3 (m := m)) (o9_0_2 p H.hj))
theorem ar110 : Mat (r_110 dv p m x) (S.DQ (8*S.j+4)) :=
  pay244 S (ar74 H) (ar108 H) (flat_read (H.r3 (m := m)) (o9_0_3 p H.hj))
theorem ar111 : Col (r_111 dv p m x) fun a => S.P (8*S.j+3) a 0 :=
  pay247 S (ar102 H)
theorem ar112 : Col (r_112 dv p m x) fun a => S.P (8*S.j+3) a 1 :=
  pay248 S (ar103 H)
theorem ar113 : Col (r_113 dv p m x) fun a => S.E (8*S.j+3) a 0 :=
  pay249 S (ar104 H)
theorem ar114 : Col (r_114 dv p m x) fun a => S.E (8*S.j+3) a 1 :=
  pay250 S (ar105 H)
theorem ar70 : Mat (r_70 dv p m x) (S.z (8*S.j+3)) :=
  pay181 S (ar H) (tile_read (H.r4 (m := m)) (o7_0_2 p H.hj))
theorem aHarg14_3 : Wrote m.arg14.view (Harg14_3 dv p m x) (S.z (8*S.j+3)) :=
  holds_full (pay232 S (ar70 H))
theorem av873 : Mat3At (v873 dv p m x) (S.z (8*S.j+3)) 384 :=
  rows_read (o := 384) (n := 512) (aHarg14_3 H)
theorem ar115 : MatAt (r_115 dv p m x) (S.z (8*S.j+3)) 384 :=
  pay251 S (av873 H)
theorem ar116 : MatAt (r_116 dv p m x) (S.mx (8*S.j+3)) 384 :=
  pay252 S (av873 H)
theorem ar117 : MatAt (r_117 dv p m x) (S.ex (8*S.j+3)) 384 :=
  pay253 S (av873 H)
theorem ar118 : MatAt (r_118 dv p m x) (S.pin (8*S.j+3)) 384 :=
  pay255 S (ar5 H) (ar102 H) (ar103 H) (ar116 H) (ar117 H) one_lit
theorem ar119 : MatAt (r_119 dv p m x) (S.sig (8*S.j+3)) 384 :=
  pay256 S (ar115 H) (ar116 H) (ar117 H) one_lit
theorem ar120 : MatAt (r_120 dv p m x) (S.attu (8*S.j+3)) 384 :=
  pay257 S (ar4 H) (ar5 H) (ar102 H) (ar103 H) (ar115 H) (ar116 H) (ar117 H) one_lit
theorem ar121 : MatAt (r_121 dv p m x) (S.att (8*S.j+3)) 384 :=
  pay258 S (ar120 H) av369 av628 rfl
theorem aHarg15_3 : Wrote m.arg15.view (Harg15_3 dv p m x) (S.da (8*S.j+3)) :=
  holds_full (ar101 H)
theorem av950 : Mat3At (v950 dv p m x) (S.da (8*S.j+3)) 384 :=
  rows_read (o := 384) (n := 512) (aHarg15_3 H)
theorem ar122 : MatAt (r_122 dv p m x) (S.e (8*S.j+3)) 384 :=
  pay259 S (ar120 H) av369 av628 rfl (av950 H)
theorem ar123 : MatAt (r_123 dv p m x) (S.eb (8*S.j+3)) 384 :=
  pay260 S (ar6 H) (ar104 H) (ar105 H) (ar120 H) av369 av628 rfl (av950 H)
theorem ar124 : MatAt (r_124 dv p m x) (S.dzu (8*S.j+3)) 384 :=
  pay261 S (ar6 H) (ar104 H) (ar105 H) (ar119 H) (ar120 H) av369 av628 rfl (av950 H)
theorem ar125 : Col (r_125 dv p m x) fun a => S.P (8*S.j+4) (384 + a) 0 :=
  pay267 S (ar118 H)
theorem ar126 : Col (r_126 dv p m x) fun a => S.P (8*S.j+4) (384 + a) 1 :=
  pay268 S (ar118 H)
theorem ar127 : Col (r_127 dv p m x) fun a => S.E (8*S.j+4) (384 + a) 0 :=
  pay269 S (ar122 H) (ar123 H)
theorem ar128 : Col (r_128 dv p m x) fun a => S.E (8*S.j+4) (384 + a) 1 :=
  pay270 S (ar122 H) (ar123 H)
theorem av1006 : Mat3At (v1006 dv p m x) (S.z (8*S.j+3)) 896 :=
  rows_read (o := 896) (n := 128) (aHarg14_3 H)
theorem ar129 : MatAt (r_129 dv p m x) (S.z (8*S.j+3)) 896 :=
  pay271 S (av1006 H)
theorem ar130 : MatAt (r_130 dv p m x) (S.sp (8*S.j+3)) 896 :=
  pay272 S (av1006 H)
end Cert.Proof.Sb

end
-- ==== Proof.SbStageA2.lean ====
module
public import proofs.«01_k».proof.Proof.SbStageA1

/-!
What the values of the body are when query block 0 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runA.sl
variable {S : Sp} {dv : Dev nD} {p : Fin 4} {m : Bufs} {x : Held Ideal} (H : FedA S x)
include H
theorem ar131 : MatAt (r_131 dv p m x) (S.dotn (8*S.j+3)) 896 :=
  pay273 S (ar5 H) (av1006 H)
theorem ar132 : Col (r_132 dv p m x) fun a => S.P (8*S.j+4) (896 + a) 0 :=
  pay280 S (ar102 H) (ar103 H) (ar131 H)
theorem ar133 : Col (r_133 dv p m x) fun a => S.P (8*S.j+4) (896 + a) 1 :=
  pay281 S (ar102 H) (ar103 H) (ar131 H)
theorem av1035 : Mat3At (v1035 dv p m x) (S.da (8*S.j+3)) 896 :=
  rows_read (o := 896) (n := 128) (aHarg15_3 H)
theorem ar134 : Col (r_134 dv p m x) fun a => S.E (8*S.j+4) (896 + a) 0 :=
  pay282 S (ar4 H) (ar6 H) (ar102 H) (ar103 H) (ar104 H) (ar105 H) (ar129 H) (ar130 H) (ar131 H) (av1035 H)
theorem ar135 : Col (r_135 dv p m x) fun a => S.E (8*S.j+4) (896 + a) 1 :=
  pay283 S (ar4 H) (ar6 H) (ar102 H) (ar103 H) (ar104 H) (ar105 H) (ar129 H) (ar130 H) (ar131 H) (av1035 H)
theorem ar136 : Col (r_136 dv p m x) fun a => S.P (8*S.j+4) a 0 :=
  pay286 S (ar111 H) (ar125 H) (ar132 H)
theorem ar137 : Col (r_137 dv p m x) fun a => S.P (8*S.j+4) a 1 :=
  pay287 S (ar112 H) (ar126 H) (ar133 H)
theorem ar138 : Col (r_138 dv p m x) fun a => S.E (8*S.j+4) a 0 :=
  pay288 S (ar113 H) (ar127 H) (ar134 H)
theorem ar139 : Col (r_139 dv p m x) fun a => S.E (8*S.j+4) a 1 :=
  pay289 S (ar114 H) (ar128 H) (ar135 H)
theorem ar140 : Mat (r_140 dv p m x) (S.z (8*S.j+5)) :=
  pay290 S (ar H) (tile_read (H.r4 (m := m)) (o7_0_4 p H.hj))
theorem ar141 : Mat (r_141 dv p m x) (S.da (8*S.j+5)) :=
  pay291 S (ar1 H) (tile_read (H.r5 (m := m)) (o7_0_4 p H.hj))
theorem aHarg16_11 : Wrote m.arg16.view (Harg16_11 dv p m x) (S.dz (8*S.j+3)) :=
  holds_all (holds_cons (o := 896) (n := 128) (holds_cons (o := 384) (n := 512) (holds_top (n := 384) (holds_none _ _ _) (fun a c => (pay245 S a c).trans (S.dz_top 3 rfl a c).symm)) (pay265 S (ar124 H) av369 rfl int262 int263 int264 rfl)) (pay278 S (ar4 H) (ar6 H) (ar102 H) (ar103 H) (ar104 H) (ar105 H) (ar129 H) (ar130 H) (ar131 H) (av1035 H))) cov_0_384_896
theorem av1090 : Mat3 (v1090 dv p m x) (S.dz (8*S.j+3)) :=
  top_read (n := 1024) (aHarg16_11 H)
theorem ar142 : Mat (r_142 dv p m x) (S.dz (8*S.j+3)) :=
  pay292 S (av1090 H)
theorem av73 : Tile (v73 dv p m x) (S.W12 (8*S.j) (8*S.j - 1)) :=
  tile_read (n := 8*S.j - 1) (tiles_append (aLoop (dv := dv) (p := p) H).w12) (o8_0_0 p H.hj)
theorem aHarg12_1_1 : WroteT m.arg12.view (Harg12_1_1 dv p m x) (S.W12 (8*S.j+1)) :=
  tiles_cons (n := 8*S.j - 1) (tiles_append (aLoop (dv := dv) (p := p) H).w12) (o8_0_0 p H.hj) (fun a c => ((pay100 S (S.W12 (8*S.j) (8*S.j - 1)) (ar2 H) (av70 H) (av73 H)) a c).trans (S.W12_at (8*S.j) a.val c.val).symm) fun t ht a c => S.W12_off (8*S.j) t a c ht
theorem av319 : Tile (v319 dv p m x) (S.W12 (8*S.j+1) (8*S.j)) :=
  tile_read (n := 8*S.j) (aHarg12_1_1 H) (o8_0_1 p H.hj)
theorem aHarg12_2 : WroteT m.arg12.view (Harg12_2 dv p m x) (S.W12 (8*S.j+2)) :=
  tiles_cons (n := 8*S.j) (aHarg12_1_1 H) (o8_0_1 p H.hj) (fun a c => ((pay139 S (S.W12 (8*S.j+1) (8*S.j)) (ar2 H) (av316 H) (av319 H)) a c).trans (S.W12_step (8*S.j) a.val c.val).symm) fun t ht a c => S.W12_past (8*S.j) t a c ht
theorem aHarg12_3 : WroteT m.arg12.view (Harg12_3 dv p m x) (S.W12 (8*S.j+3)) :=
  tiles_cons (n := 8*S.j+1) (aHarg12_2 H) (o8_0_2 p H.hj) (fun a c => ((pay184 S (S.W12 (8*S.j+2) (8*S.j+1)) (ar2 H) (av574 H) (tile_read (n := 8*S.j+1) (aHarg12_2 H) (o8_0_2 p H.hj))) a c).trans (S.W12_step (8*S.j+1) a.val c.val).symm) fun t ht a c => S.W12_past (8*S.j+1) t a c ht
theorem aHarg12_4 : WroteT m.arg12.view (Harg12_4 dv p m x) (S.W12 (8*S.j+4)) :=
  tiles_cons (n := 8*S.j+2) (aHarg12_3 H) (o8_0_3 p H.hj) (fun a c => ((pay241 S (S.W12 (8*S.j+3) (8*S.j+2)) (ar2 H) (av832 H) (tile_read (n := 8*S.j+2) (aHarg12_3 H) (o8_0_3 p H.hj))) a c).trans (S.W12_step (8*S.j+2) a.val c.val).symm) fun t ht a c => S.W12_past (8*S.j+2) t a c ht
theorem ar143 : Mat (r_143 dv p m x) (S.W12 (8*S.j+5) (8*S.j+3)) :=
  (fun a c => ((pay293 S (S.W12 (8*S.j+4) (8*S.j+3)) (ar2 H) (av1090 H) (tile_read (n := 8*S.j+3) (aHarg12_4 H) (o8_0_4 p H.hj))) a c).trans (S.W12_step (8*S.j+3) a.val c.val).symm)
theorem ar144 : Mat (r_144 dv p m x) (S.DQ (8*S.j+5)) :=
  pay296 S (ar110 H) (ar142 H) (flat_read (H.r3 (m := m)) (o9_0_4 p H.hj))
theorem ar145 : Col (r_145 dv p m x) fun a => S.P (8*S.j+4) a 0 :=
  pay299 S (ar136 H)
theorem ar146 : Col (r_146 dv p m x) fun a => S.P (8*S.j+4) a 1 :=
  pay300 S (ar137 H)
theorem ar147 : Col (r_147 dv p m x) fun a => S.E (8*S.j+4) a 0 :=
  pay301 S (ar138 H)
theorem ar148 : Col (r_148 dv p m x) fun a => S.E (8*S.j+4) a 1 :=
  pay302 S (ar139 H)
theorem aHarg14_4 : Wrote m.arg14.view (Harg14_4 dv p m x) (S.z (8*S.j+4)) :=
  holds_full (pay284 S (ar106 H))
theorem av1131 : Mat3At (v1131 dv p m x) (S.z (8*S.j+4)) 512 :=
  rows_read (o := 512) (n := 512) (aHarg14_4 H)
theorem ar149 : MatAt (r_149 dv p m x) (S.z (8*S.j+4)) 512 :=
  pay303 S (av1131 H)
theorem ar150 : MatAt (r_150 dv p m x) (S.sp (8*S.j+4)) 512 :=
  pay304 S (av1131 H)
theorem ar151 : MatAt (r_151 dv p m x) (S.pin (8*S.j+4)) 512 :=
  pay305 S (ar5 H) (ar136 H) (ar137 H) (av1131 H)
theorem ar152 : MatAt (r_152 dv p m x) (S.sig (8*S.j+4)) 512 :=
  pay306 S (av1131 H)
theorem ar153 : MatAt (r_153 dv p m x) (S.att (8*S.j+4)) 512 :=
  pay307 S (ar4 H) (ar149 H) (ar150 H) (ar151 H)
theorem aHarg15_4 : Wrote m.arg15.view (Harg15_4 dv p m x) (S.da (8*S.j+4)) :=
  holds_full (pay285 S (ar107 H))
theorem av1208 : Mat3At (v1208 dv p m x) (S.da (8*S.j+4)) 512 :=
  rows_read (o := 512) (n := 512) (aHarg15_4 H)
theorem ar154 : MatAt (r_154 dv p m x) (S.e (8*S.j+4)) 512 :=
  pay308 S (ar4 H) (ar149 H) (ar150 H) (ar151 H) (av1208 H)
theorem ar155 : MatAt (r_155 dv p m x) (S.eb (8*S.j+4)) 512 :=
  pay309 S (ar4 H) (ar6 H) (ar138 H) (ar139 H) (ar149 H) (ar150 H) (ar151 H) (av1208 H)
theorem ar156 : MatAt (r_156 dv p m x) (S.dzu (8*S.j+4)) 512 :=
  pay310 S (ar4 H) (ar6 H) (ar138 H) (ar139 H) (ar149 H) (ar150 H) (ar151 H) (ar152 H) (av1208 H)
theorem ar157 : Col (r_157 dv p m x) fun a => S.P (8*S.j+5) (512 + a) 0 :=
  pay313 S (ar151 H)
theorem ar158 : Col (r_158 dv p m x) fun a => S.P (8*S.j+5) (512 + a) 1 :=
  pay314 S (ar151 H)
theorem ar159 : Col (r_159 dv p m x) fun a => S.E (8*S.j+5) (512 + a) 0 :=
  pay315 S (ar154 H) (ar155 H)
theorem ar160 : Col (r_160 dv p m x) fun a => S.E (8*S.j+5) (512 + a) 1 :=
  pay316 S (ar154 H) (ar155 H)
theorem ar161 : Col (r_161 dv p m x) fun a => S.P (8*S.j+5) a 0 :=
  pay319 S (ar145 H) (ar157 H)
theorem ar162 : Col (r_162 dv p m x) fun a => S.P (8*S.j+5) a 1 :=
  pay320 S (ar146 H) (ar158 H)
theorem ar163 : Col (r_163 dv p m x) fun a => S.E (8*S.j+5) a 0 :=
  pay321 S (ar147 H) (ar159 H)
theorem ar164 : Col (r_164 dv p m x) fun a => S.E (8*S.j+5) a 1 :=
  pay322 S (ar148 H) (ar160 H)
theorem ar165 : Mat (r_165 dv p m x) (S.z (8*S.j+6)) :=
  pay323 S (ar H) (tile_read (H.r4 (m := m)) (o7_0_5 p H.hj))
theorem ar166 : Mat (r_166 dv p m x) (S.da (8*S.j+6)) :=
  pay324 S (ar1 H) (tile_read (H.r5 (m := m)) (o7_0_5 p H.hj))
theorem aHarg16_13 : Wrote m.arg16.view (Harg16_13 dv p m x) (S.dz (8*S.j+4)) :=
  holds_all (holds_cons (o := 512) (n := 512) (holds_top (n := 512) (holds_none _ _ _) (fun a c => (pay297 S a c).trans (S.dz_top 4 rfl a c).symm)) (pay311 S (ar156 H) av369 av628 rfl rfl)) cov_0_512
theorem av1287 : Mat3 (v1287 dv p m x) (S.dz (8*S.j+4)) :=
  top_read (n := 1024) (aHarg16_13 H)
theorem ar167 : Mat (r_167 dv p m x) (S.dz (8*S.j+4)) :=
  pay325 S (av1287 H)
theorem ar168 : Mat (r_168 dv p m x) (S.DQ (8*S.j+6)) :=
  pay328 S (ar144 H) (ar167 H) (flat_read (H.r3 (m := m)) (o9_0_5 p H.hj))
theorem ar169 : Col (r_169 dv p m x) fun a => S.P (8*S.j+5) a 0 :=
  pay331 S (ar161 H)
theorem ar170 : Col (r_170 dv p m x) fun a => S.P (8*S.j+5) a 1 :=
  pay332 S (ar162 H)
theorem ar171 : Col (r_171 dv p m x) fun a => S.E (8*S.j+5) a 0 :=
  pay333 S (ar163 H)
theorem ar172 : Col (r_172 dv p m x) fun a => S.E (8*S.j+5) a 1 :=
  pay334 S (ar164 H)
theorem aHarg14_5 : Wrote m.arg14.view (Harg14_5 dv p m x) (S.z (8*S.j+5)) :=
  holds_full (pay317 S (ar140 H))
theorem av1328 : Mat3At (v1328 dv p m x) (S.z (8*S.j+5)) 640 :=
  rows_read (o := 640) (n := 384) (aHarg14_5 H)
theorem ar173 : MatAt (r_173 dv p m x) (S.z (8*S.j+5)) 640 :=
  pay335 S (av1328 H)
theorem ar174 : MatAt (r_174 dv p m x) (S.mx (8*S.j+5)) 640 :=
  pay336 S (av1328 H)
theorem ar175 : MatAt (r_175 dv p m x) (S.ab (8*S.j+5)) 640 :=
  pay337 S (av1328 H)
theorem ar176 : MatAt (r_176 dv p m x) (S.pin (8*S.j+5)) 640 :=
  pay339 S (ar5 H) (ar161 H) (ar162 H) (ar174 H) (ar175 H) zero_lit
theorem ar177 : MatAt (r_177 dv p m x) (S.sig (8*S.j+5)) 640 :=
  pay340 S (ar173 H) (ar174 H) (ar175 H) zero_lit
theorem ar178 : MatAt (r_178 dv p m x) (S.attu (8*S.j+5)) 640 :=
  pay341 S (ar4 H) (ar5 H) (ar161 H) (ar162 H) (ar173 H) (ar174 H) (ar175 H) zero_lit
theorem ar179 : MatAt (r_179 dv p m x) (S.att (8*S.j+5)) 640 :=
  pay342 S (ar178 H) av369 av628 rfl
theorem aHarg15_5 : Wrote m.arg15.view (Harg15_5 dv p m x) (S.da (8*S.j+5)) :=
  holds_full (pay318 S (ar141 H))
theorem av1405 : Mat3At (v1405 dv p m x) (S.da (8*S.j+5)) 640 :=
  rows_read (o := 640) (n := 384) (aHarg15_5 H)
theorem ar180 : MatAt (r_180 dv p m x) (S.e (8*S.j+5)) 640 :=
  pay343 S (ar178 H) av369 av628 rfl (av1405 H)
theorem ar181 : MatAt (r_181 dv p m x) (S.eb (8*S.j+5)) 640 :=
  pay344 S (ar6 H) (ar163 H) (ar164 H) (ar178 H) av369 av628 rfl (av1405 H)
theorem ar182 : MatAt (r_182 dv p m x) (S.dzu (8*S.j+5)) 640 :=
  pay345 S (ar6 H) (ar163 H) (ar164 H) (ar177 H) (ar178 H) av369 av628 rfl (av1405 H)
theorem ar183 : Col (r_183 dv p m x) fun a => S.E (8*S.j+6) (640 + a) 1 :=
  pay350 S (ar180 H) (ar181 H)
theorem ar184 : Col (r_184 dv p m x) fun a => S.P (8*S.j+6) a 0 :=
  pay353 S (ar169 H) (ar176 H)
theorem ar185 : Col (r_185 dv p m x) fun a => S.P (8*S.j+6) a 1 :=
  pay354 S (ar170 H) (ar176 H)
theorem ar186 : Col (r_186 dv p m x) fun a => S.E (8*S.j+6) a 0 :=
  pay355 S (ar171 H) (ar180 H) (ar181 H)
theorem ar187 : Col (r_187 dv p m x) fun a => S.E (8*S.j+6) a 1 :=
  pay356 S (ar172 H) (ar183 H)
theorem ar188 : Mat (r_188 dv p m x) (S.z (8*S.j+7)) :=
  pay357 S (ar H) (tile_read (H.r4 (m := m)) (o7_0_6 p H.hj))
theorem ar189 : Mat (r_189 dv p m x) (S.da (8*S.j+7)) :=
  pay358 S (ar1 H) (tile_read (H.r5 (m := m)) (o7_0_6 p H.hj))
theorem aHarg16_15 : Wrote m.arg16.view (Harg16_15 dv p m x) (S.dz (8*S.j+5)) :=
  holds_all (holds_cons (o := 640) (n := 384) (holds_top (n := 640) (holds_none _ _ _) (fun a c => (pay329 S a c).trans (S.dz_top 5 rfl a c).symm)) (pay348 S (ar182 H) av369 rfl int346 int347)) cov_0_640
theorem av1484 : Mat3 (v1484 dv p m x) (S.dz (8*S.j+5)) :=
  top_read (n := 1024) (aHarg16_15 H)
end Cert.Proof.Sb

end
-- ==== Proof.SbStageA3.lean ====
module
public import proofs.«01_k».proof.Proof.SbStageA2

/-!
What the values of the body are when query block 0 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runA.sl
variable {S : Sp} {dv : Dev nD} {p : Fin 4} {m : Bufs} {x : Held Ideal} (H : FedA S x)
include H
theorem ar190 : Mat (r_190 dv p m x) (S.dz (8*S.j+5)) :=
  pay359 S (av1484 H)
theorem ar84 : MatAt (r_84 dv p m x) (S.att (8*S.j+2)) 256 :=
  pay204 S (ar83 H) av369 rfl int200 int201 int202 int203
theorem aHarg17_8 : Wrote m.arg17.view (Harg17_8 dv p m x) (S.att (8*S.j+2)) :=
  holds_all (holds_cons (o := 768) (n := 256) (holds_cons (o := 256) (n := 512) (holds_top (n := 256) (holds_none _ _ _) (fun a c => (pay189 S a c).trans (S.att_top 2 rfl a c).symm)) (pay212 S (ar84 H))) (pay227 S (ar93 H) (ar95 H) (ar96 H))) cov_0_256_768
theorem av846 : Mat3 (v846 dv p m x) (S.att (8*S.j+2)) :=
  top_read (n := 1024) (aHarg17_8 H)
theorem aHarg13_4 : WroteT m.arg13.view (Harg13_4 dv p m x) (S.W13 (8*S.j+4)) :=
  tiles_cons (n := 8*S.j+2) (aHarg13_3 H) (o8_0_3 p H.hj) (fun a c => ((pay243 S (S.W13 (8*S.j+3) (8*S.j+2)) (ar3 H) (ar109 H) (av846 H)) a c).trans (S.W13_step (8*S.j+2) a.val c.val).symm) fun t ht a c => S.W13_past (8*S.j+2) t a c ht
theorem aHarg17_11 : Wrote m.arg17.view (Harg17_11 dv p m x) (S.att (8*S.j+3)) :=
  holds_all (holds_cons (o := 896) (n := 128) (holds_cons (o := 384) (n := 512) (holds_top (n := 384) (holds_none _ _ _) (fun a c => (pay246 S a c).trans (S.att_top 3 rfl a c).symm)) (pay266 S (ar121 H))) (pay279 S (ar4 H) (ar102 H) (ar103 H) (ar129 H) (ar130 H) (ar131 H))) cov_0_384_896
theorem av1104 : Mat3 (v1104 dv p m x) (S.att (8*S.j+3)) :=
  top_read (n := 1024) (aHarg17_11 H)
theorem aHarg13_5 : WroteT m.arg13.view (Harg13_5 dv p m x) (S.W13 (8*S.j+5)) :=
  tiles_cons (n := 8*S.j+3) (aHarg13_4 H) (o8_0_4 p H.hj) (fun a c => ((pay295 S (S.W13 (8*S.j+4) (8*S.j+3)) (ar3 H) (tile_read (n := 8*S.j+3) (aHarg13_4 H) (o8_0_4 p H.hj)) (av1104 H)) a c).trans (S.W13_step (8*S.j+3) a.val c.val).symm) fun t ht a c => S.W13_past (8*S.j+3) t a c ht
theorem aHarg17_13 : Wrote m.arg17.view (Harg17_13 dv p m x) (S.att (8*S.j+4)) :=
  holds_all (holds_cons (o := 512) (n := 512) (holds_top (n := 512) (holds_none _ _ _) (fun a c => (pay298 S a c).trans (S.att_top 4 rfl a c).symm)) (pay312 S (ar153 H))) cov_0_512
theorem av1301 : Mat3 (v1301 dv p m x) (S.att (8*S.j+4)) :=
  top_read (n := 1024) (aHarg17_13 H)
theorem aHarg13_6 : WroteT m.arg13.view (Harg13_6 dv p m x) (S.W13 (8*S.j+6)) :=
  tiles_cons (n := 8*S.j+4) (aHarg13_5 H) (o8_0_5 p H.hj) (fun a c => ((pay327 S (S.W13 (8*S.j+5) (8*S.j+4)) (ar3 H) (tile_read (n := 8*S.j+4) (aHarg13_5 H) (o8_0_5 p H.hj)) (av1301 H)) a c).trans (S.W13_step (8*S.j+4) a.val c.val).symm) fun t ht a c => S.W13_past (8*S.j+4) t a c ht
theorem ar191 : Mat (r_191 dv p m x) (S.W13 (8*S.j+6) (8*S.j+5)) :=
  pay361 S (S.W13 (8*S.j+6) (8*S.j+5)) (tile_read (n := 8*S.j+5) (aHarg13_6 H) (o8_0_6 p H.hj))
theorem aHarg17_15 : Wrote m.arg17.view (Harg17_15 dv p m x) (S.att (8*S.j+5)) :=
  holds_all (holds_cons (o := 640) (n := 384) (holds_top (n := 640) (holds_none _ _ _) (fun a c => (pay330 S a c).trans (S.att_top 5 rfl a c).symm)) (pay349 S (ar179 H))) cov_0_640
theorem av1498 : Mat3 (v1498 dv p m x) (S.att (8*S.j+5)) :=
  top_read (n := 1024) (aHarg17_15 H)
theorem ar192 : Mat (r_192 dv p m x) (S.att (8*S.j+5)) :=
  pay362 S (av1498 H)
theorem ar193 : Mat (r_193 dv p m x) (S.DQ (8*S.j+7)) :=
  pay364 S (ar168 H) (ar190 H) (flat_read (H.r3 (m := m)) (o9_0_6 p H.hj))
theorem ar194 : Col (r_194 dv p m x) fun a => S.P (8*S.j+6) a 0 :=
  pay367 S (ar184 H)
theorem ar195 : Col (r_195 dv p m x) fun a => S.P (8*S.j+6) a 1 :=
  pay368 S (ar185 H)
theorem ar196 : Col (r_196 dv p m x) fun a => S.E (8*S.j+6) a 0 :=
  pay369 S (ar186 H)
theorem ar197 : Col (r_197 dv p m x) fun a => S.E (8*S.j+6) a 1 :=
  pay370 S (ar187 H)
theorem aHarg14_6 : Wrote m.arg14.view (Harg14_6 dv p m x) (S.z (8*S.j+6)) :=
  holds_full (pay351 S (ar165 H))
theorem av1525 : Mat3At (v1525 dv p m x) (S.z (8*S.j+6)) 768 :=
  rows_read (o := 768) (n := 256) (aHarg14_6 H)
theorem ar198 : MatAt (r_198 dv p m x) (S.z (8*S.j+6)) 768 :=
  pay371 S (av1525 H)
theorem ar199 : MatAt (r_199 dv p m x) (S.sp (8*S.j+6)) 768 :=
  pay372 S (av1525 H)
theorem ar200 : MatAt (r_200 dv p m x) (S.pin (8*S.j+6)) 768 :=
  pay373 S (ar5 H) (ar184 H) (ar185 H) (ar199 H)
theorem ar201 : MatAt (r_201 dv p m x) (S.sig (8*S.j+6)) 768 :=
  pay374 S (ar198 H) (ar199 H)
theorem ar202 : MatAt (r_202 dv p m x) (S.attu (8*S.j+6)) 768 :=
  pay375 S (ar4 H) (ar5 H) (ar184 H) (ar185 H) (ar198 H) (ar199 H)
theorem ar203 : MatAt (r_203 dv p m x) (S.att (8*S.j+6)) 768 :=
  pay378 S (ar202 H) av369 rfl int376 int377
theorem aHarg15_6 : Wrote m.arg15.view (Harg15_6 dv p m x) (S.da (8*S.j+6)) :=
  holds_full (pay352 S (ar166 H))
theorem av1602 : Mat3At (v1602 dv p m x) (S.da (8*S.j+6)) 768 :=
  rows_read (o := 768) (n := 256) (aHarg15_6 H)
theorem ar204 : MatAt (r_204 dv p m x) (S.e (8*S.j+6)) 768 :=
  pay379 S (ar202 H) av369 rfl int376 int377 (av1602 H)
theorem ar205 : MatAt (r_205 dv p m x) (S.eb (8*S.j+6)) 768 :=
  pay380 S (ar6 H) (ar186 H) (ar187 H) (ar202 H) av369 rfl int376 int377 (av1602 H)
theorem ar206 : MatAt (r_206 dv p m x) (S.dzu (8*S.j+6)) 768 :=
  pay381 S (ar6 H) (ar186 H) (ar187 H) (ar201 H) (ar202 H) av369 rfl int376 int377 (av1602 H)
theorem ar207 : Col (r_207 dv p m x) fun a => S.P (8*S.j+7) a 0 :=
  pay389 S (ar194 H) (ar200 H)
theorem ar208 : Col (r_208 dv p m x) fun a => S.P (8*S.j+7) a 1 :=
  pay390 S (ar195 H) (ar200 H)
theorem ar209 : Col (r_209 dv p m x) fun a => S.E (8*S.j+7) a 0 :=
  pay391 S (ar196 H) (ar204 H) (ar205 H)
theorem ar210 : Col (r_210 dv p m x) fun a => S.E (8*S.j+7) a 1 :=
  pay392 S (ar197 H) (ar204 H) (ar205 H)
theorem aHarg16_17 : Wrote m.arg16.view (Harg16_17 dv p m x) (S.dz (8*S.j+6)) :=
  holds_all (holds_cons (o := 768) (n := 256) (holds_top (n := 768) (holds_none _ _ _) (fun a c => (pay365 S a c).trans (S.dz_top 6 rfl a c).symm)) (pay385 S (ar206 H) av369 rfl int382 int383 int384)) cov_0_768
theorem av1681 : Mat3 (v1681 dv p m x) (S.dz (8*S.j+6)) :=
  top_read (n := 1024) (aHarg16_17 H)
theorem ar213 : Mat (r_213 dv p m x) (S.dz (8*S.j+6)) :=
  pay395 S (av1681 H)
theorem aHarg13_7 : WroteT m.arg13.view (Harg13_7 dv p m x) (S.W13 (8*S.j+7)) :=
  tiles_cons (n := 8*S.j+5) (aHarg13_6 H) (o8_0_6 p H.hj) (fun a c => ((pay363 S (S.W13 (8*S.j+6) (8*S.j+5)) (ar3 H) (ar191 H) (ar192 H)) a c).trans (S.W13_step (8*S.j+5) a.val c.val).symm) fun t ht a c => S.W13_past (8*S.j+5) t a c ht
theorem aHarg17_17 : Wrote m.arg17.view (Harg17_17 dv p m x) (S.att (8*S.j+6)) :=
  holds_all (holds_cons (o := 768) (n := 256) (holds_top (n := 768) (holds_none _ _ _) (fun a c => (pay366 S a c).trans (S.att_top 6 rfl a c).symm)) (pay386 S (ar203 H))) cov_0_768
theorem av1695 : Mat3 (v1695 dv p m x) (S.att (8*S.j+6)) :=
  top_read (n := 1024) (aHarg17_17 H)
theorem ar214 : Mat (r_214 dv p m x) (S.W13 (8*S.j+8) (8*S.j+6)) :=
  (fun a c => ((pay397 S (S.W13 (8*S.j+7) (8*S.j+6)) (ar3 H) (tile_read (n := 8*S.j+6) (aHarg13_7 H) (o8_0_7 p H.hj)) (av1695 H)) a c).trans (S.W13_step (8*S.j+6) a.val c.val).symm)
theorem ar215 : Mat (r_215 dv p m x) (S.DQ (8*S.j+8)) :=
  pay399 S (ar193 H) (ar213 H) (flat_read (H.r3 (m := m)) (o9_0_7 p H.hj))
theorem aHarg14_7 : Wrote m.arg14.view (Harg14_7 dv p m x) (S.z (8*S.j+7)) :=
  holds_full (pay387 S (ar188 H))
theorem av1718 : Mat3At (v1718 dv p m x) (S.z (8*S.j+7)) 896 :=
  rows_read (o := 896) (n := 128) (aHarg14_7 H)
theorem ar216 : MatAt (r_216 dv p m x) (S.z (8*S.j+7)) 896 :=
  pay402 S (av1718 H)
theorem ar217 : MatAt (r_217 dv p m x) (S.sp (8*S.j+7)) 896 :=
  pay403 S (av1718 H)
theorem ar218 : MatAt (r_218 dv p m x) (S.sig (8*S.j+7)) 896 :=
  pay406 S (ar216 H) (ar217 H)
theorem ar219 : MatAt (r_219 dv p m x) (S.attu (8*S.j+7)) 896 :=
  pay407 S (ar4 H) (ar5 H) (ar207 H) (ar208 H) (ar216 H) (ar217 H) av369 rfl int404 int405
theorem ar220 : MatAt (r_220 dv p m x) (S.att (8*S.j+7)) 896 :=
  pay411 S (ar219 H) int408 zero_lit
theorem aHarg15_7 : Wrote m.arg15.view (Harg15_7 dv p m x) (S.da (8*S.j+7)) :=
  holds_full (pay388 S (ar189 H))
theorem av1789 : Mat3At (v1789 dv p m x) (S.da (8*S.j+7)) 896 :=
  rows_read (o := 896) (n := 128) (aHarg15_7 H)
theorem aHarg16_19 : Wrote m.arg16.view (Harg16_19 dv p m x) (S.dz (8*S.j+7)) :=
  holds_all (holds_cons (o := 896) (n := 128) (holds_top (n := 896) (holds_none _ _ _) (fun a c => (pay400 S a c).trans (S.dz_top 7 rfl a c).symm)) (pay410 S (ar6 H) (ar209 H) (ar210 H) (ar218 H) (ar219 H) int408 zero_lit (av1789 H))) cov_0_896
theorem av1840 : Mat3 (v1840 dv p m x) (S.dz (8*S.j+7)) :=
  top_read (n := 1024) (aHarg16_19 H)
theorem ar221 : Mat (r_221 dv p m x) (S.dz (8*S.j+7)) :=
  pay415 S (av1840 H)
theorem aHarg13_8 : WroteT m.arg13.view (Harg13_8 dv p m x) (S.W13 (8*S.j+8)) :=
  tiles_cons (n := 8*S.j+6) (aHarg13_7 H) (o8_0_7 p H.hj) (pay398 S (S.W13 (8*S.j+8) (8*S.j+6)) (ar214 H)) fun t ht a c => S.W13_past (8*S.j+6) t a c ht
theorem aHarg17_19 : Wrote m.arg17.view (Harg17_19 dv p m x) (S.att (8*S.j+7)) :=
  holds_all (holds_cons (o := 896) (n := 128) (holds_top (n := 896) (holds_none _ _ _) (fun a c => (pay401 S a c).trans (S.att_top 7 rfl a c).symm)) (pay412 S (ar220 H))) cov_0_896
theorem av1854 : Mat3 (v1854 dv p m x) (S.att (8*S.j+7)) :=
  top_read (n := 1024) (aHarg17_19 H)
theorem ar222 : Mat (r_222 dv p m x) (S.W13 (8*S.j+9) (8*S.j+7)) :=
  (fun a c => ((pay417 S (S.W13 (8*S.j+8) (8*S.j+7)) (ar3 H) (tile_read (n := 8*S.j+7) (aHarg13_8 H) (o10_0 p H.hj)) (av1854 H)) a c).trans (S.W13_step (8*S.j+7) a.val c.val).symm)
theorem ar223 : Mat (r_223 dv p m x) (S.DQ (8*S.j+9)) :=
  pay419 S (ar215 H) (ar221 H) (flat_read (H.r3 (m := m)) (o11_0 p H.hj))
theorem aHarg12_5 : WroteT m.arg12.view (Harg12_5 dv p m x) (S.W12 (8*S.j+5)) :=
  tiles_cons (n := 8*S.j+3) (aHarg12_4 H) (o8_0_4 p H.hj) (pay294 S (S.W12 (8*S.j+5) (8*S.j+3)) (ar143 H)) fun t ht a c => S.W12_past (8*S.j+3) t a c ht
theorem aHarg12_6 : WroteT m.arg12.view (Harg12_6 dv p m x) (S.W12 (8*S.j+6)) :=
  tiles_cons (n := 8*S.j+4) (aHarg12_5 H) (o8_0_5 p H.hj) (fun a c => ((pay326 S (S.W12 (8*S.j+5) (8*S.j+4)) (ar2 H) (av1287 H) (tile_read (n := 8*S.j+4) (aHarg12_5 H) (o8_0_5 p H.hj))) a c).trans (S.W12_step (8*S.j+4) a.val c.val).symm) fun t ht a c => S.W12_past (8*S.j+4) t a c ht
theorem aHarg12_7 : WroteT m.arg12.view (Harg12_7 dv p m x) (S.W12 (8*S.j+7)) :=
  tiles_cons (n := 8*S.j+5) (aHarg12_6 H) (o8_0_6 p H.hj) (fun a c => ((pay360 S (S.W12 (8*S.j+6) (8*S.j+5)) (ar2 H) (av1484 H) (tile_read (n := 8*S.j+5) (aHarg12_6 H) (o8_0_6 p H.hj))) a c).trans (S.W12_step (8*S.j+5) a.val c.val).symm) fun t ht a c => S.W12_past (8*S.j+5) t a c ht
theorem aHarg12_8 : WroteT m.arg12.view (Harg12_8 dv p m x) (S.W12 (8*S.j+8)) :=
  tiles_cons (n := 8*S.j+6) (aHarg12_7 H) (o8_0_7 p H.hj) (fun a c => ((pay396 S (S.W12 (8*S.j+7) (8*S.j+6)) (ar2 H) (av1681 H) (tile_read (n := 8*S.j+6) (aHarg12_7 H) (o8_0_7 p H.hj))) a c).trans (S.W12_step (8*S.j+6) a.val c.val).symm) fun t ht a c => S.W12_past (8*S.j+6) t a c ht
end Cert.Proof.Sb

end
-- ==== Proof.SbStartB.lean ====
module
public import proofs.«01_k».proof.Proof.SbFed
public import proofs.«01_k».proof.Proof.SbRunB

/-!
The loop of the body when query block 1 is worked on.
-/

@[expose] public section
set_option maxRecDepth 16384
noncomputable section
namespace Cert.Proof.Sb
open Cert.KernelIdeal Cert.KernelIdeal.Gen
open Idealize.ShloMosaic Idealize.ShloMosaic.TcCoe
open runB.sl

theorem bv369 (a : Fin 128) (c : Fin 256) : v369 (ix2 a c) = BitVec.ofNat 32 a.val := by
  unfold v369; pointwise

theorem bv628 (a : Fin 128) (c : Fin 256) : v628 (ix2 a c) = BitVec.ofNat 32 c.val := by
  unfold v628; pointwise

variable {S : Sp} {dv : Dev nD} {p : Fin 4} {m : Bufs} {x : Held Ideal} (H : FedB S x)
include H
theorem br : Mat (runB.sl.r dv m x) S.q :=
  pay71 S (whole_read (H.r2 (m := m)))
theorem br1 : Mat (r_1 dv m x) S.dO :=
  pay72 S (whole_read (H.r6 (m := m)))
theorem br6 : Mat (r_6 dv m x) S.be :=
  pay77 S (whole_read (H.r9 (m := m)))
theorem br4 : Mat (r_4 dv m x) S.lth :=
  pay75 S (column_read (o := 0) (H.r7 (m := m))) (column_read (o := 64) (H.r7 (m := m)))
theorem br5 : Mat (r_5 dv m x) S.up :=
  pay76 S (whole_read (H.r8 (m := m)))
theorem br3 : Mat (r_3 dv m x) fun a c => S.dO c a :=
  pay74 S (whole_read (H.r6 (m := m)))
theorem br2 : Mat (r_2 dv m x) fun a c => S.q c a :=
  pay73 S (whole_read (H.r2 (m := m)))
theorem br7 : Mat (r_7 dv m x) (S.z 0) :=
  pay78 S (whole_read (H.r2 (m := m))) (tile_read (n := 0) (H.r4 (m := m)) rfl)

/-- What the loop starts from. -/
theorem bInit : Before S m (m.harg12.unread x.y12) (m.harg13.unread x.y13) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) 0 ((k0_pay84 (F := Ideal), k0_pay83 (F := Ideal), k0_pay83 (F := Ideal), k0_pay83 (F := Ideal), k0_pay83 (F := Ideal)), [], [], [], [], [], []) where
  dq a c := (pay84 (ix2 a c)).trans (S.DQ_zero _ _).symm
  p0 a := (pay83 (ix2 a 0)).trans (S.P_zero _ _).symm
  p1 a := (pay83 (ix2 a 0)).trans (S.P_zero _ _).symm
  e0 a := (pay83 (ix2 a 0)).trans (S.E_zero _ _).symm
  e1 a := (pay83 (ix2 a 0)).trans (S.E_zero _ _).symm
  w12 := tiles_nil (fun t a c => (congrFun (m.harg12.read_unread x.y12) (ix4 0 t a c)).trans ((H.w12 t a c).trans (by rw [S.W12_zero])))
  w13 := tiles_nil (fun t a c => (congrFun (m.harg13.read_unread x.y13) (ix4 0 t a c)).trans ((H.w13 t a c).trans (by rw [S.W13_zero])))
  z := holds_nil (holds_full (pay79 S (br7 H)))
  da := holds_nil (holds_full (pay80 S (br1 H) (tile_read (n := 0) (H.r5 (m := m)) rfl)))
  dz := holds_nil (holds_full fun a c => (pay81 S a c).trans (S.dzb_zero _ _).symm)
  att := holds_nil (holds_full fun a c => (pay82 S a c).trans (S.atb_zero _ _).symm)

/-- What the loop ends with. -/
theorem bLoop : Before S m (m.harg12.unread x.y12) (m.harg13.unread x.y13) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) (8*S.j)
    (st (F := Ideal) dv (at1 p) m 8#32 15#32 (runB.sl.r dv m x) (r_1 dv m x) (r_2 dv m x) (r_3 dv m x) (r_4 dv m x) (r_5 dv m x) (r_6 dv m x) (r_7 dv m x) (m.harg3.unread x.x1) (m.harg4.unread x.x2) (m.harg5.unread x.x3) (m.harg12.unread x.y12) (m.harg13.unread x.y13) (m.arg14.view.writes (Elt Ideal) m.arg14.view.junk (Harg14_1 dv m x)) (m.arg15.view.writes (Elt Ideal) m.arg15.view.junk (Harg15_1 dv m x)) (m.arg16.view.writes (Elt Ideal) m.arg16.view.junk (Harg16_1 (F := Ideal))) (m.arg17.view.writes (Elt Ideal) m.arg17.view.junk (Harg17_1 (F := Ideal))) (k0_pay84 (F := Ideal), k0_pay83 (F := Ideal), k0_pay83 (F := Ideal), k0_pay83 (F := Ideal), k0_pay83 (F := Ideal)) (Scf.trips (k0_t1_loop (at1 p)).lb (k0_t1_loop (at1 p)).ub (k0_t1_loop (at1 p)).st)) := by
  rw [H.hj, show Scf.trips (k0_t1_loop (at1 p)).lb (k0_t1_loop (at1 p)).ub (k0_t1_loop (at1 p)).st = 8 from trips_one p]
  exact before_st H.hj ⟨br H, br1 H, br2 H, br3 H, br4 H, br5 H, br6 H⟩ H.r3 H.r4 H.r5 _ (bInit H) 8 le_rfl
end Cert.Proof.Sb

end
-- ==== Proof.SbStageB0.lean ====
module
public import proofs.«01_k».proof.Proof.SbStartB

/-!
What the values of the body are when query block 1 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runB.sl
variable {S : Sp} {dv : Dev nD} {p : Fin 4} {m : Bufs} {x : Held Ideal} (H : FedB S x)
include H
theorem br10 : Col (r_10 dv p m x) fun a => S.P (8*S.j) a 1 :=
  (bLoop (dv := dv) (p := p) H).p1
theorem br9 : Col (r_9 dv p m x) fun a => S.P (8*S.j) a 0 :=
  (bLoop (dv := dv) (p := p) H).p0
theorem bv99 : Mat3 (v99 dv p m x) (S.z (8*S.j)) :=
  top_read (n := 512) (holds_append (bLoop (dv := dv) (p := p) H).z)
theorem br17 : Mat (r_17 dv p m x) (S.z (8*S.j)) :=
  pay103 S (bv99 H)
theorem br18 : Mat (r_18 dv p m x) (S.sp (8*S.j)) :=
  pay104 S (bv99 H)
theorem br19 : Mat (r_19 dv p m x) (S.nlb (8*S.j)) :=
  pay105 S (bv99 H)
theorem bv176 : Mat3 (v176 dv p m x) (S.da (8*S.j)) :=
  top_read (n := 512) (holds_append (bLoop (dv := dv) (p := p) H).da)
theorem br23 : Mat (r_23 dv p m x) (S.e (8*S.j)) :=
  pay109 S (br4 H) (br5 H) (br9 H) (br10 H) (br17 H) (br18 H) (br19 H) (bv176 H)
theorem br24 : Mat (r_24 dv p m x) (S.dote (8*S.j)) :=
  pay110 S (br4 H) (br5 H) (br6 H) (br9 H) (br10 H) (br17 H) (br18 H) (br19 H) (bv176 H)
theorem br12 : Col (r_12 dv p m x) fun a => S.E (8*S.j) a 1 :=
  (bLoop (dv := dv) (p := p) H).e1
theorem br25 : Col (r_25 dv p m x) fun a => S.E (8*S.j) a 1 :=
  pay111 S (br12 H)
theorem br11 : Col (r_11 dv p m x) fun a => S.E (8*S.j) a 0 :=
  (bLoop (dv := dv) (p := p) H).e0
theorem br26 : Col (r_26 dv p m x) fun a => S.E (8*S.j) a 0 :=
  pay112 S (br11 H)
theorem br30 : Col (r_30 dv p m x) fun a => S.E (8*S.j+1) a 0 :=
  pay118 S (br23 H) (br24 H) (br25 H) (br26 H)
theorem bv232 : Mat3At (v232 dv p m x) (S.z (8*S.j)) 512 :=
  rows_read (o := 512) (n := 512) (holds_append (bLoop (dv := dv) (p := p) H).z)
theorem bv261 : Mat3At (v261 dv p m x) (S.da (8*S.j)) 512 :=
  rows_read (o := 512) (n := 512) (holds_append (bLoop (dv := dv) (p := p) H).da)
theorem br34 : MatAt (r_34 dv p m x) (S.e (8*S.j)) 512 :=
  pay124 S (br4 H) (br5 H) (br9 H) (br10 H) (bv232 H) (bv261 H)
theorem br35 : MatAt (r_35 dv p m x) (S.eb (8*S.j)) 512 :=
  pay125 S (br4 H) (br5 H) (br6 H) (br9 H) (br10 H) (br11 H) (br12 H) (bv232 H) (bv261 H)
theorem br39 : Col (r_39 dv p m x) fun a => S.E (8*S.j+1) a 0 :=
  pay133 S (br30 H) (br34 H) (br35 H)
theorem br27 : Mat (r_27 dv p m x) (S.eb (8*S.j)) :=
  pay113 S (br24 H) (br25 H) (br26 H)
theorem br31 : Col (r_31 dv p m x) fun a => S.E (8*S.j+1) a 1 :=
  pay119 S (br23 H) (br27 H)
theorem br40 : Col (r_40 dv p m x) fun a => S.E (8*S.j+1) a 1 :=
  pay134 S (br31 H) (br34 H) (br35 H)
theorem br47 : Col (r_47 dv p m x) fun a => S.E (8*S.j+1) a 0 :=
  pay146 S (br39 H)
theorem br20 : Mat (r_20 dv p m x) (S.pin (8*S.j)) :=
  pay106 S (br5 H) (br9 H) (br10 H) (br19 H)
theorem br28 : Col (r_28 dv p m x) fun a => S.P (8*S.j+1) a 0 :=
  pay116 S (br20 H)
theorem br32 : MatAt (r_32 dv p m x) (S.pin (8*S.j)) 512 :=
  pay122 S (br5 H) (br9 H) (br10 H) (bv232 H)
theorem br37 : Col (r_37 dv p m x) fun a => S.P (8*S.j+1) a 0 :=
  pay131 S (br28 H) (br32 H)
theorem br29 : Col (r_29 dv p m x) fun a => S.P (8*S.j+1) a 1 :=
  pay117 S (br20 H)
theorem br38 : Col (r_38 dv p m x) fun a => S.P (8*S.j+1) a 1 :=
  pay132 S (br29 H) (br32 H)
theorem br13 : Mat (r_13 dv p m x) (S.z (8*S.j+1)) :=
  pay97 S (br H) (tile_read (H.r4 (m := m)) (o7_1_0 p H.hj))
theorem bHarg14_1_1 : Wrote m.arg14.view (Harg14_1_1 dv p m x) (S.z (8*S.j+1)) :=
  holds_full (pay129 S (br13 H))
theorem bv357 : Mat3At (v357 dv p m x) (S.z (8*S.j+1)) 128 :=
  rows_read (o := 128) (n := 512) (bHarg14_1_1 H)
theorem br49 : MatAt (r_49 dv p m x) (S.z (8*S.j+1)) 128 :=
  pay148 S (bv357 H)
theorem br50 : MatAt (r_50 dv p m x) (S.sp (8*S.j+1)) 128 :=
  pay149 S (bv357 H)
theorem br53 : MatAt (r_53 dv p m x) (S.att (8*S.j+1)) 128 :=
  pay155 S (br4 H) (br5 H) (br37 H) (br38 H) (br49 H) (br50 H) bv369 rfl int150 int151 int152
theorem br14 : Mat (r_14 dv p m x) (S.da (8*S.j+1)) :=
  pay98 S (br1 H) (tile_read (H.r5 (m := m)) (o7_1_0 p H.hj))
theorem bHarg15_1_1 : Wrote m.arg15.view (Harg15_1_1 dv p m x) (S.da (8*S.j+1)) :=
  holds_full (pay130 S (br14 H))
theorem bv434 : Mat3At (v434 dv p m x) (S.da (8*S.j+1)) 128 :=
  rows_read (o := 128) (n := 512) (bHarg15_1_1 H)
theorem br54 : MatAt (r_54 dv p m x) (S.e (8*S.j+1)) 128 :=
  pay156 S (br53 H) (bv434 H)
theorem br55 : MatAt (r_55 dv p m x) (S.eb (8*S.j+1)) 128 :=
  pay157 S (br6 H) (br39 H) (br40 H) (br53 H) (bv434 H)
theorem br59 : Col (r_59 dv p m x) fun a => S.E (8*S.j+2) (128 + a) 0 :=
  pay163 S (br54 H) (br55 H)
theorem bv490 : Mat3At (v490 dv p m x) (S.z (8*S.j+1)) 640 :=
  rows_read (o := 640) (n := 384) (bHarg14_1_1 H)
theorem bv519 : Mat3At (v519 dv p m x) (S.da (8*S.j+1)) 640 :=
  rows_read (o := 640) (n := 384) (bHarg15_1_1 H)
theorem br64 : MatAt (r_64 dv p m x) (S.e (8*S.j+1)) 640 :=
  pay170 S (br4 H) (br5 H) (br37 H) (br38 H) (bv490 H) (bv519 H)
theorem br65 : MatAt (r_65 dv p m x) (S.dote (8*S.j+1)) 640 :=
  pay171 S (br4 H) (br5 H) (br6 H) (br37 H) (br38 H) (bv490 H) (bv519 H)
theorem br68 : Col (r_68 dv p m x) fun a => S.E (8*S.j+2) a 0 :=
  pay179 S (br39 H) (br40 H) (br47 H) (br59 H) (br64 H) (br65 H)
theorem br48 : Col (r_48 dv p m x) fun a => S.E (8*S.j+1) a 1 :=
  pay147 S (br40 H)
theorem br60 : Col (r_60 dv p m x) fun a => S.E (8*S.j+2) (128 + a) 1 :=
  pay164 S (br54 H) (br55 H)
theorem br69 : Col (r_69 dv p m x) fun a => S.E (8*S.j+2) a 1 :=
  pay180 S (br39 H) (br40 H) (br48 H) (br60 H) (br64 H) (br65 H)
theorem br45 : Col (r_45 dv p m x) fun a => S.P (8*S.j+1) a 0 :=
  pay144 S (br37 H)
theorem br51 : MatAt (r_51 dv p m x) (S.pin (8*S.j+1)) 128 :=
  pay153 S (br5 H) (br37 H) (br38 H) (br50 H) bv369 rfl int150 int151 int152
theorem br57 : Col (r_57 dv p m x) fun a => S.P (8*S.j+2) (128 + a) 0 :=
  pay161 S (br51 H)
theorem br61 : MatAt (r_61 dv p m x) (S.pin (8*S.j+1)) 640 :=
  pay167 S (br5 H) (br37 H) (br38 H) (bv490 H)
theorem br66 : Col (r_66 dv p m x) fun a => S.P (8*S.j+2) a 0 :=
  pay177 S (br45 H) (br57 H) (br61 H)
theorem br46 : Col (r_46 dv p m x) fun a => S.P (8*S.j+1) a 1 :=
  pay145 S (br38 H)
theorem br58 : Col (r_58 dv p m x) fun a => S.P (8*S.j+2) (128 + a) 1 :=
  pay162 S (br51 H)
theorem br67 : Col (r_67 dv p m x) fun a => S.P (8*S.j+2) a 1 :=
  pay178 S (br46 H) (br58 H) (br61 H)
theorem br41 : Mat (r_41 dv p m x) (S.z (8*S.j+2)) :=
  pay135 S (br H) (tile_read (H.r4 (m := m)) (o7_1_1 p H.hj))
theorem bHarg14_2 : Wrote m.arg14.view (Harg14_2 dv p m x) (S.z (8*S.j+2)) :=
  holds_full (pay175 S (br41 H))
theorem bv748 : Mat3At (v748 dv p m x) (S.z (8*S.j+2)) 768 :=
  rows_read (o := 768) (n := 256) (bHarg14_2 H)
theorem br93 : MatAt (r_93 dv p m x) (S.pin (8*S.j+2)) 768 :=
  pay219 S (br5 H) (br66 H) (br67 H) (bv748 H)
theorem br95 : MatAt (r_95 dv p m x) (S.zs (8*S.j+2)) 768 :=
  pay221 S (bv748 H)
theorem br96 : ∀ (a : Fin 256) (c : Fin 256), r_96 dv m x (ix2 a c) = S.lth (768 + a.val) c.val :=
  pay222 S (br4 H)
theorem br42 : Mat (r_42 p m x) (S.vt (8*S.j+2)) :=
  pay136 S (tile_read (H.r5 (m := m)) (o7_1_1 p H.hj))
theorem br43 : Mat (r_43 dv p m x) (S.da (8*S.j+2)) :=
  pay137 S (br1 H) (br42 H)
theorem bHarg15_2 : Wrote m.arg15.view (Harg15_2 dv p m x) (S.da (8*S.j+2)) :=
  holds_full (pay176 S (br43 H))
theorem bv777 : Mat3At (v777 dv p m x) (S.da (8*S.j+2)) 768 :=
  rows_read (o := 768) (n := 256) (bHarg15_2 H)
theorem br100 : Col (r_100 dv p m x) fun a => S.E (8*S.j+3) (768 + a) 1 :=
  pay231 S (br6 H) (br68 H) (br69 H) (br93 H) (br95 H) (br96 H) (bv777 H)
theorem br71 : Mat (r_71 dv p m x) (S.da (8*S.j+3)) :=
  pay182 S (br1 H) (tile_read (H.r5 (m := m)) (o7_1_2 p H.hj))
theorem br101 : Mat3 (r_101 dv p m x) (S.da (8*S.j+3)) :=
  pay233 S (br71 H)
theorem br75 : Col (r_75 dv p m x) fun a => S.P (8*S.j+2) a 0 :=
  pay190 S (br66 H)
theorem bv615 : Mat3At (v615 dv p m x) (S.z (8*S.j+2)) 256 :=
  rows_read (o := 256) (n := 512) (bHarg14_2 H)
theorem br80 : MatAt (r_80 dv p m x) (S.sp (8*S.j+2)) 256 :=
  pay195 S (bv615 H)
theorem br81 : MatAt (r_81 dv p m x) (S.pin (8*S.j+2)) 256 :=
  pay197 S (br5 H) (br66 H) (br67 H) (br80 H) bv369 bv628 rfl int196
theorem br89 : Col (r_89 dv p m x) fun a => S.P (8*S.j+3) (256 + a) 0 :=
  pay213 S (br81 H)
theorem br97 : Col (r_97 dv p m x) fun a => S.P (8*S.j+3) (768 + a) 0 :=
  pay228 S (br93 H)
theorem br102 : Col (r_102 dv p m x) fun a => S.P (8*S.j+3) a 0 :=
  pay234 S (br75 H) (br89 H) (br97 H)
theorem br76 : Col (r_76 dv p m x) fun a => S.P (8*S.j+2) a 1 :=
  pay191 S (br67 H)
theorem br90 : Col (r_90 dv p m x) fun a => S.P (8*S.j+3) (256 + a) 1 :=
  pay214 S (br81 H)
theorem br98 : Col (r_98 dv p m x) fun a => S.P (8*S.j+3) (768 + a) 1 :=
  pay229 S (br93 H)
end Cert.Proof.Sb

end
-- ==== Proof.SbStageB1.lean ====
module
public import proofs.«01_k».proof.Proof.SbStageB0

/-!
What the values of the body are when query block 1 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runB.sl
variable {S : Sp} {dv : Dev nD} {p : Fin 4} {m : Bufs} {x : Held Ideal} (H : FedB S x)
include H
theorem br103 : Col (r_103 dv p m x) fun a => S.P (8*S.j+3) a 1 :=
  pay235 S (br76 H) (br90 H) (br98 H)
theorem br77 : Col (r_77 dv p m x) fun a => S.E (8*S.j+2) a 0 :=
  pay192 S (br68 H)
theorem br79 : MatAt (r_79 dv p m x) (S.z (8*S.j+2)) 256 :=
  pay194 S (bv615 H)
theorem br83 : MatAt (r_83 dv p m x) (S.attu (8*S.j+2)) 256 :=
  pay199 S (br4 H) (br5 H) (br66 H) (br67 H) (br79 H) (br80 H) bv369 bv628 rfl int196
theorem bv692 : Mat3At (v692 dv p m x) (S.da (8*S.j+2)) 256 :=
  rows_read (o := 256) (n := 512) (bHarg15_2 H)
theorem br85 : MatAt (r_85 dv p m x) (S.e (8*S.j+2)) 256 :=
  pay205 S (br83 H) bv369 rfl int200 int201 int202 int203 (bv692 H)
theorem br86 : MatAt (r_86 dv p m x) (S.eb (8*S.j+2)) 256 :=
  pay206 S (br6 H) (br68 H) (br69 H) (br83 H) bv369 rfl int200 int201 int202 int203 (bv692 H)
theorem br91 : Col (r_91 dv p m x) fun a => S.E (8*S.j+3) (256 + a) 0 :=
  pay215 S (br85 H) (br86 H)
theorem br99 : Col (r_99 dv p m x) fun a => S.E (8*S.j+3) (768 + a) 0 :=
  pay230 S (br6 H) (br68 H) (br69 H) (br93 H) (br95 H) (br96 H) (bv777 H)
theorem br104 : Col (r_104 dv p m x) fun a => S.E (8*S.j+3) a 0 :=
  pay236 S (br77 H) (br91 H) (br99 H)
theorem br78 : Col (r_78 dv p m x) fun a => S.E (8*S.j+2) a 1 :=
  pay193 S (br69 H)
theorem br92 : Col (r_92 dv p m x) fun a => S.E (8*S.j+3) (256 + a) 1 :=
  pay216 S (br85 H) (br86 H)
theorem br105 : Col (r_105 dv p m x) fun a => S.E (8*S.j+3) a 1 :=
  pay237 S (br78 H) (br92 H) (br100 H)
theorem br106 : Mat (r_106 dv p m x) (S.z (8*S.j+4)) :=
  pay238 S (br H) (tile_read (H.r4 (m := m)) (o7_1_3 p H.hj))
theorem br107 : Mat (r_107 dv p m x) (S.da (8*S.j+4)) :=
  pay239 S (br1 H) (tile_read (H.r5 (m := m)) (o7_1_3 p H.hj))
theorem br82 : MatAt (r_82 dv p m x) (S.sig (8*S.j+2)) 256 :=
  pay198 S (br79 H) (br80 H)
theorem br87 : MatAt (r_87 dv p m x) (S.dzu (8*S.j+2)) 256 :=
  pay207 S (br6 H) (br68 H) (br69 H) (br82 H) (br83 H) bv369 rfl int200 int201 int202 int203 (bv692 H)
theorem br88 : MatAt (r_88 dv p m x) (S.dzu (8*S.j+2)) 256 :=
  pay209 S (br6 H) (br68 H) (br69 H) (br82 H) (br83 H) bv369 rfl int200 int201 int202 int203 (bv692 H)
theorem br94 : MatAt (r_94 dv p m x) (S.sig (8*S.j+2)) 768 :=
  pay220 S (bv748 H)
theorem bHarg16_8 : Wrote m.arg16.view (Harg16_8 dv p m x) (S.dz (8*S.j+2)) :=
  holds_all (holds_cons (o := 768) (n := 256) (holds_cons (o := 256) (n := 512) (holds_top (n := 256) (holds_none _ _ _) (fun a c => (pay188 S a c).trans (S.dz_top 2 rfl a c).symm)) (pay211 S (br87 H) int208 (br88 H))) (pay226 S (br6 H) (br68 H) (br69 H) (br93 H) (br94 H) (br95 H) (br96 H) (bv777 H))) cov_0_256_768
theorem bv832 : Mat3 (v832 dv p m x) (S.dz (8*S.j+2)) :=
  top_read (n := 1024) (bHarg16_8 H)
theorem br108 : Mat (r_108 dv p m x) (S.dz (8*S.j+2)) :=
  pay240 S (bv832 H)
theorem bv82 : Tile (v82 dv p m x) (S.W13 (8*S.j) (8*S.j - 1)) :=
  tile_read (n := 8*S.j - 1) (bLoop (dv := dv) (p := p) H).w13 (o8_1_0 p H.hj)
theorem bv84 : Mat3 (v84 dv p m x) (S.atb (8*S.j)) :=
  top_read (n := 1024) (holds_append (bLoop (dv := dv) (p := p) H).att)
theorem bHarg13_1 : Tiles m.arg13.view (m.arg13.view.writes (Elt Ideal) (m.harg13.unread x.y13) (Harg13_1 dv p m x)) (S.W13 (8*S.j+1)) :=
  tiles_cons (n := 8*S.j - 1) (bLoop (dv := dv) (p := p) H).w13 (o8_1_0 p H.hj) (fun a c => ((pay101 S (S.W13 (8*S.j) (8*S.j - 1)) (br3 H) (bv82 H) (bv84 H)) a c).trans (S.W13_at (8*S.j) a.val c.val).symm) fun t ht a c => S.W13_off (8*S.j) t a c ht
theorem br22 : Mat (r_22 dv p m x) (S.att (8*S.j)) :=
  pay108 S (br4 H) (br5 H) (br9 H) (br10 H) (br17 H) (br18 H) (br19 H)
theorem br33 : MatAt (r_33 dv p m x) (S.att (8*S.j)) 512 :=
  pay123 S (br4 H) (br5 H) (br9 H) (br10 H) (bv232 H)
theorem bHarg17_2 : Wrote m.arg17.view (Harg17_2 dv p m x) (S.att (8*S.j)) :=
  holds_all (holds_cons (o := 512) (n := 512) (holds_top (n := 512) (holds_none _ _ _) (pay115 S (br22 H))) (pay128 S (br33 H))) cov_0_512
theorem bv330 : Mat3 (v330 dv p m x) (S.att (8*S.j)) :=
  top_read (n := 1024) (bHarg17_2 H)
theorem bHarg13_2 : Tiles m.arg13.view (m.arg13.view.writes (Elt Ideal) (m.harg13.unread x.y13) (Harg13_2 dv p m x)) (S.W13 (8*S.j+2)) :=
  tiles_cons (n := 8*S.j) (bHarg13_1 H) (o8_1_1 p H.hj) (fun a c => ((pay140 S (S.W13 (8*S.j+1) (8*S.j)) (br3 H) (tile_read (n := 8*S.j) (bHarg13_1 H) (o8_1_1 p H.hj)) (bv330 H)) a c).trans (S.W13_step (8*S.j) a.val c.val).symm) fun t ht a c => S.W13_past (8*S.j) t a c ht
theorem br56 : MatAt (r_56 dv p m x) (S.att (8*S.j+1)) 128 :=
  pay159 S (br53 H)
theorem br63 : MatAt (r_63 dv p m x) (S.att (8*S.j+1)) 640 :=
  pay169 S (br4 H) (br5 H) (br37 H) (br38 H) (bv490 H)
theorem bHarg17_5 : Wrote m.arg17.view (Harg17_5 dv p m x) (S.att (8*S.j+1)) :=
  holds_all (holds_cons (o := 640) (n := 384) (holds_cons (o := 128) (n := 512) (holds_top (n := 128) (holds_none _ _ _) (fun a c => (pay143 S a c).trans (S.att_top 1 rfl a c).symm)) (pay160 S (br56 H))) (pay174 S (br63 H))) cov_0_128_640
theorem bv588 : Mat3 (v588 dv p m x) (S.att (8*S.j+1)) :=
  top_read (n := 1024) (bHarg17_5 H)
theorem br73 : Mat (r_73 dv p m x) (S.W13 (8*S.j+3) (8*S.j+1)) :=
  (fun a c => ((pay185 S (S.W13 (8*S.j+2) (8*S.j+1)) (br3 H) (tile_read (n := 8*S.j+1) (bHarg13_2 H) (o8_1_2 p H.hj)) (bv588 H)) a c).trans (S.W13_step (8*S.j+1) a.val c.val).symm)
theorem bHarg13_3 : Tiles m.arg13.view (m.arg13.view.writes (Elt Ideal) (m.harg13.unread x.y13) (Harg13_3 dv p m x)) (S.W13 (8*S.j+3)) :=
  tiles_cons (n := 8*S.j+1) (bHarg13_2 H) (o8_1_2 p H.hj) (pay186 S (S.W13 (8*S.j+3) (8*S.j+1)) (br73 H)) fun t ht a c => S.W13_past (8*S.j+1) t a c ht
theorem br109 : Mat (r_109 dv p m x) (S.W13 (8*S.j+3) (8*S.j+2)) :=
  pay242 S (S.W13 (8*S.j+3) (8*S.j+2)) (tile_read (n := 8*S.j+2) (bHarg13_3 H) (o8_1_3 p H.hj))
theorem br8 : Mat (r_8 dv p m x) (S.DQ (8*S.j)) :=
  (bLoop (dv := dv) (p := p) H).dq
theorem bv70 : Mat3 (v70 dv p m x) (S.dzb (8*S.j)) :=
  top_read (n := 1024) (holds_append (bLoop (dv := dv) (p := p) H).dz)
theorem br15 : Mat (r_15 dv p m x) (S.dzb (8*S.j)) :=
  pay99 S (bv70 H)
theorem br16 : Mat (r_16 dv p m x) (S.DQ (8*S.j+1)) :=
  pay102 S (br8 H) (br15 H) (flat_read (H.r3 (m := m)) (o9_1_0 p H.hj))
theorem br21 : Mat (r_21 dv p m x) (S.sig (8*S.j)) :=
  pay107 S (br17 H) (br18 H)
theorem br36 : MatAt (r_36 dv p m x) (S.dz (8*S.j)) 512 :=
  pay126 S (br4 H) (br5 H) (br6 H) (br9 H) (br10 H) (br11 H) (br12 H) (bv232 H) (bv261 H)
theorem bHarg16_2 : Wrote m.arg16.view (Harg16_2 dv p m x) (S.dz (8*S.j)) :=
  holds_all (holds_cons (o := 512) (n := 512) (holds_top (n := 512) (holds_none _ _ _) (pay114 S (br21 H) (br23 H) (br24 H) (br25 H) (br26 H))) (pay127 S (br36 H))) cov_0_512
theorem bv316 : Mat3 (v316 dv p m x) (S.dz (8*S.j)) :=
  top_read (n := 1024) (bHarg16_2 H)
theorem br44 : Mat (r_44 dv p m x) (S.DQ (8*S.j+2)) :=
  pay141 S (br16 H) (bv316 H) (flat_read (H.r3 (m := m)) (o9_1_1 p H.hj))
theorem br52 : MatAt (r_52 dv p m x) (S.sig (8*S.j+1)) 128 :=
  pay154 S (br49 H) (br50 H)
theorem br62 : MatAt (r_62 dv p m x) (S.sig (8*S.j+1)) 640 :=
  pay168 S (bv490 H)
theorem bHarg16_5 : Wrote m.arg16.view (Harg16_5 dv p m x) (S.dz (8*S.j+1)) :=
  holds_all (holds_cons (o := 640) (n := 384) (holds_cons (o := 128) (n := 512) (holds_top (n := 128) (holds_none _ _ _) (fun a c => (pay142 S a c).trans (S.dz_top 1 rfl a c).symm)) (pay158 S (br6 H) (br39 H) (br40 H) (br52 H) (br53 H) (bv434 H))) (pay173 S (br39 H) (br40 H) (br62 H) (br64 H) (br65 H))) cov_0_128_640
theorem bv574 : Mat3 (v574 dv p m x) (S.dz (8*S.j+1)) :=
  top_read (n := 1024) (bHarg16_5 H)
theorem br72 : Mat (r_72 dv p m x) (S.dz (8*S.j+1)) :=
  pay183 S (bv574 H)
theorem br74 : Mat (r_74 dv p m x) (S.DQ (8*S.j+3)) :=
  pay187 S (br44 H) (br72 H) (flat_read (H.r3 (m := m)) (o9_1_2 p H.hj))
theorem br110 : Mat (r_110 dv p m x) (S.DQ (8*S.j+4)) :=
  pay244 S (br74 H) (br108 H) (flat_read (H.r3 (m := m)) (o9_1_3 p H.hj))
theorem br111 : Col (r_111 dv p m x) fun a => S.P (8*S.j+3) a 0 :=
  pay247 S (br102 H)
theorem br112 : Col (r_112 dv p m x) fun a => S.P (8*S.j+3) a 1 :=
  pay248 S (br103 H)
theorem br113 : Col (r_113 dv p m x) fun a => S.E (8*S.j+3) a 0 :=
  pay249 S (br104 H)
theorem br114 : Col (r_114 dv p m x) fun a => S.E (8*S.j+3) a 1 :=
  pay250 S (br105 H)
theorem br70 : Mat (r_70 dv p m x) (S.z (8*S.j+3)) :=
  pay181 S (br H) (tile_read (H.r4 (m := m)) (o7_1_2 p H.hj))
theorem bHarg14_3 : Wrote m.arg14.view (Harg14_3 dv p m x) (S.z (8*S.j+3)) :=
  holds_full (pay232 S (br70 H))
theorem bv873 : Mat3At (v873 dv p m x) (S.z (8*S.j+3)) 384 :=
  rows_read (o := 384) (n := 512) (bHarg14_3 H)
theorem br115 : MatAt (r_115 dv p m x) (S.z (8*S.j+3)) 384 :=
  pay251 S (bv873 H)
theorem br116 : MatAt (r_116 dv p m x) (S.mx (8*S.j+3)) 384 :=
  pay252 S (bv873 H)
theorem br117 : MatAt (r_117 dv p m x) (S.ex (8*S.j+3)) 384 :=
  pay253 S (bv873 H)
theorem br118 : MatAt (r_118 dv p m x) (S.pin (8*S.j+3)) 384 :=
  pay255 S (br5 H) (br102 H) (br103 H) (br116 H) (br117 H) one_lit
theorem br119 : MatAt (r_119 dv p m x) (S.sig (8*S.j+3)) 384 :=
  pay256 S (br115 H) (br116 H) (br117 H) one_lit
theorem br120 : MatAt (r_120 dv p m x) (S.attu (8*S.j+3)) 384 :=
  pay257 S (br4 H) (br5 H) (br102 H) (br103 H) (br115 H) (br116 H) (br117 H) one_lit
theorem br121 : MatAt (r_121 dv p m x) (S.att (8*S.j+3)) 384 :=
  pay258 S (br120 H) bv369 bv628 rfl
theorem bHarg15_3 : Wrote m.arg15.view (Harg15_3 dv p m x) (S.da (8*S.j+3)) :=
  holds_full (br101 H)
theorem bv950 : Mat3At (v950 dv p m x) (S.da (8*S.j+3)) 384 :=
  rows_read (o := 384) (n := 512) (bHarg15_3 H)
theorem br122 : MatAt (r_122 dv p m x) (S.e (8*S.j+3)) 384 :=
  pay259 S (br120 H) bv369 bv628 rfl (bv950 H)
theorem br123 : MatAt (r_123 dv p m x) (S.eb (8*S.j+3)) 384 :=
  pay260 S (br6 H) (br104 H) (br105 H) (br120 H) bv369 bv628 rfl (bv950 H)
theorem br124 : MatAt (r_124 dv p m x) (S.dzu (8*S.j+3)) 384 :=
  pay261 S (br6 H) (br104 H) (br105 H) (br119 H) (br120 H) bv369 bv628 rfl (bv950 H)
theorem br125 : Col (r_125 dv p m x) fun a => S.P (8*S.j+4) (384 + a) 0 :=
  pay267 S (br118 H)
theorem br126 : Col (r_126 dv p m x) fun a => S.P (8*S.j+4) (384 + a) 1 :=
  pay268 S (br118 H)
theorem br127 : Col (r_127 dv p m x) fun a => S.E (8*S.j+4) (384 + a) 0 :=
  pay269 S (br122 H) (br123 H)
theorem br128 : Col (r_128 dv p m x) fun a => S.E (8*S.j+4) (384 + a) 1 :=
  pay270 S (br122 H) (br123 H)
theorem bv1006 : Mat3At (v1006 dv p m x) (S.z (8*S.j+3)) 896 :=
  rows_read (o := 896) (n := 128) (bHarg14_3 H)
theorem br129 : MatAt (r_129 dv p m x) (S.z (8*S.j+3)) 896 :=
  pay271 S (bv1006 H)
theorem br130 : MatAt (r_130 dv p m x) (S.sp (8*S.j+3)) 896 :=
  pay272 S (bv1006 H)
theorem br131 : MatAt (r_131 dv p m x) (S.dotn (8*S.j+3)) 896 :=
  pay273 S (br5 H) (bv1006 H)
end Cert.Proof.Sb

end
-- ==== Proof.SbStageB2.lean ====
module
public import proofs.«01_k».proof.Proof.SbStageB1

/-!
What the values of the body are when query block 1 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runB.sl
variable {S : Sp} {dv : Dev nD} {p : Fin 4} {m : Bufs} {x : Held Ideal} (H : FedB S x)
include H
theorem br132 : Col (r_132 dv p m x) fun a => S.P (8*S.j+4) (896 + a) 0 :=
  pay280 S (br102 H) (br103 H) (br131 H)
theorem br133 : Col (r_133 dv p m x) fun a => S.P (8*S.j+4) (896 + a) 1 :=
  pay281 S (br102 H) (br103 H) (br131 H)
theorem bv1035 : Mat3At (v1035 dv p m x) (S.da (8*S.j+3)) 896 :=
  rows_read (o := 896) (n := 128) (bHarg15_3 H)
theorem br134 : Col (r_134 dv p m x) fun a => S.E (8*S.j+4) (896 + a) 0 :=
  pay282 S (br4 H) (br6 H) (br102 H) (br103 H) (br104 H) (br105 H) (br129 H) (br130 H) (br131 H) (bv1035 H)
theorem br135 : Col (r_135 dv p m x) fun a => S.E (8*S.j+4) (896 + a) 1 :=
  pay283 S (br4 H) (br6 H) (br102 H) (br103 H) (br104 H) (br105 H) (br129 H) (br130 H) (br131 H) (bv1035 H)
theorem br136 : Col (r_136 dv p m x) fun a => S.P (8*S.j+4) a 0 :=
  pay286 S (br111 H) (br125 H) (br132 H)
theorem br137 : Col (r_137 dv p m x) fun a => S.P (8*S.j+4) a 1 :=
  pay287 S (br112 H) (br126 H) (br133 H)
theorem br138 : Col (r_138 dv p m x) fun a => S.E (8*S.j+4) a 0 :=
  pay288 S (br113 H) (br127 H) (br134 H)
theorem br139 : Col (r_139 dv p m x) fun a => S.E (8*S.j+4) a 1 :=
  pay289 S (br114 H) (br128 H) (br135 H)
theorem br140 : Mat (r_140 dv p m x) (S.z (8*S.j+5)) :=
  pay290 S (br H) (tile_read (H.r4 (m := m)) (o7_1_4 p H.hj))
theorem br141 : Mat (r_141 dv p m x) (S.da (8*S.j+5)) :=
  pay291 S (br1 H) (tile_read (H.r5 (m := m)) (o7_1_4 p H.hj))
theorem bHarg16_11 : Wrote m.arg16.view (Harg16_11 dv p m x) (S.dz (8*S.j+3)) :=
  holds_all (holds_cons (o := 896) (n := 128) (holds_cons (o := 384) (n := 512) (holds_top (n := 384) (holds_none _ _ _) (fun a c => (pay245 S a c).trans (S.dz_top 3 rfl a c).symm)) (pay265 S (br124 H) bv369 rfl int262 int263 int264 rfl)) (pay278 S (br4 H) (br6 H) (br102 H) (br103 H) (br104 H) (br105 H) (br129 H) (br130 H) (br131 H) (bv1035 H))) cov_0_384_896
theorem bv1090 : Mat3 (v1090 dv p m x) (S.dz (8*S.j+3)) :=
  top_read (n := 1024) (bHarg16_11 H)
theorem br142 : Mat (r_142 dv p m x) (S.dz (8*S.j+3)) :=
  pay292 S (bv1090 H)
theorem bv73 : Tile (v73 dv p m x) (S.W12 (8*S.j) (8*S.j - 1)) :=
  tile_read (n := 8*S.j - 1) (bLoop (dv := dv) (p := p) H).w12 (o8_1_0 p H.hj)
theorem bHarg12_1 : Tiles m.arg12.view (m.arg12.view.writes (Elt Ideal) (m.harg12.unread x.y12) (Harg12_1 dv p m x)) (S.W12 (8*S.j+1)) :=
  tiles_cons (n := 8*S.j - 1) (bLoop (dv := dv) (p := p) H).w12 (o8_1_0 p H.hj) (fun a c => ((pay100 S (S.W12 (8*S.j) (8*S.j - 1)) (br2 H) (bv70 H) (bv73 H)) a c).trans (S.W12_at (8*S.j) a.val c.val).symm) fun t ht a c => S.W12_off (8*S.j) t a c ht
theorem bHarg12_2 : Tiles m.arg12.view (m.arg12.view.writes (Elt Ideal) (m.harg12.unread x.y12) (Harg12_2 dv p m x)) (S.W12 (8*S.j+2)) :=
  tiles_cons (n := 8*S.j) (bHarg12_1 H) (o8_1_1 p H.hj) (fun a c => ((pay139 S (S.W12 (8*S.j+1) (8*S.j)) (br2 H) (bv316 H) (tile_read (n := 8*S.j) (bHarg12_1 H) (o8_1_1 p H.hj))) a c).trans (S.W12_step (8*S.j) a.val c.val).symm) fun t ht a c => S.W12_past (8*S.j) t a c ht
theorem bHarg12_3 : Tiles m.arg12.view (m.arg12.view.writes (Elt Ideal) (m.harg12.unread x.y12) (Harg12_3 dv p m x)) (S.W12 (8*S.j+3)) :=
  tiles_cons (n := 8*S.j+1) (bHarg12_2 H) (o8_1_2 p H.hj) (fun a c => ((pay184 S (S.W12 (8*S.j+2) (8*S.j+1)) (br2 H) (bv574 H) (tile_read (n := 8*S.j+1) (bHarg12_2 H) (o8_1_2 p H.hj))) a c).trans (S.W12_step (8*S.j+1) a.val c.val).symm) fun t ht a c => S.W12_past (8*S.j+1) t a c ht
theorem bHarg12_4 : Tiles m.arg12.view (m.arg12.view.writes (Elt Ideal) (m.harg12.unread x.y12) (Harg12_4 dv p m x)) (S.W12 (8*S.j+4)) :=
  tiles_cons (n := 8*S.j+2) (bHarg12_3 H) (o8_1_3 p H.hj) (fun a c => ((pay241 S (S.W12 (8*S.j+3) (8*S.j+2)) (br2 H) (bv832 H) (tile_read (n := 8*S.j+2) (bHarg12_3 H) (o8_1_3 p H.hj))) a c).trans (S.W12_step (8*S.j+2) a.val c.val).symm) fun t ht a c => S.W12_past (8*S.j+2) t a c ht
theorem br143 : Mat (r_143 dv p m x) (S.W12 (8*S.j+5) (8*S.j+3)) :=
  (fun a c => ((pay293 S (S.W12 (8*S.j+4) (8*S.j+3)) (br2 H) (bv1090 H) (tile_read (n := 8*S.j+3) (bHarg12_4 H) (o8_1_4 p H.hj))) a c).trans (S.W12_step (8*S.j+3) a.val c.val).symm)
theorem br144 : Mat (r_144 dv p m x) (S.DQ (8*S.j+5)) :=
  pay296 S (br110 H) (br142 H) (flat_read (H.r3 (m := m)) (o9_1_4 p H.hj))
theorem br145 : Col (r_145 dv p m x) fun a => S.P (8*S.j+4) a 0 :=
  pay299 S (br136 H)
theorem br146 : Col (r_146 dv p m x) fun a => S.P (8*S.j+4) a 1 :=
  pay300 S (br137 H)
theorem br147 : Col (r_147 dv p m x) fun a => S.E (8*S.j+4) a 0 :=
  pay301 S (br138 H)
theorem br148 : Col (r_148 dv p m x) fun a => S.E (8*S.j+4) a 1 :=
  pay302 S (br139 H)
theorem bHarg14_4 : Wrote m.arg14.view (Harg14_4 dv p m x) (S.z (8*S.j+4)) :=
  holds_full (pay284 S (br106 H))
theorem bv1131 : Mat3At (v1131 dv p m x) (S.z (8*S.j+4)) 512 :=
  rows_read (o := 512) (n := 512) (bHarg14_4 H)
theorem br149 : MatAt (r_149 dv p m x) (S.z (8*S.j+4)) 512 :=
  pay303 S (bv1131 H)
theorem br150 : MatAt (r_150 dv p m x) (S.sp (8*S.j+4)) 512 :=
  pay304 S (bv1131 H)
theorem br151 : MatAt (r_151 dv p m x) (S.pin (8*S.j+4)) 512 :=
  pay305 S (br5 H) (br136 H) (br137 H) (bv1131 H)
theorem br152 : MatAt (r_152 dv p m x) (S.sig (8*S.j+4)) 512 :=
  pay306 S (bv1131 H)
theorem br153 : MatAt (r_153 dv p m x) (S.att (8*S.j+4)) 512 :=
  pay307 S (br4 H) (br149 H) (br150 H) (br151 H)
theorem bHarg15_4 : Wrote m.arg15.view (Harg15_4 dv p m x) (S.da (8*S.j+4)) :=
  holds_full (pay285 S (br107 H))
theorem bv1208 : Mat3At (v1208 dv p m x) (S.da (8*S.j+4)) 512 :=
  rows_read (o := 512) (n := 512) (bHarg15_4 H)
theorem br154 : MatAt (r_154 dv p m x) (S.e (8*S.j+4)) 512 :=
  pay308 S (br4 H) (br149 H) (br150 H) (br151 H) (bv1208 H)
theorem br155 : MatAt (r_155 dv p m x) (S.eb (8*S.j+4)) 512 :=
  pay309 S (br4 H) (br6 H) (br138 H) (br139 H) (br149 H) (br150 H) (br151 H) (bv1208 H)
theorem br156 : MatAt (r_156 dv p m x) (S.dzu (8*S.j+4)) 512 :=
  pay310 S (br4 H) (br6 H) (br138 H) (br139 H) (br149 H) (br150 H) (br151 H) (br152 H) (bv1208 H)
theorem br157 : Col (r_157 dv p m x) fun a => S.P (8*S.j+5) (512 + a) 0 :=
  pay313 S (br151 H)
theorem br158 : Col (r_158 dv p m x) fun a => S.P (8*S.j+5) (512 + a) 1 :=
  pay314 S (br151 H)
theorem br159 : Col (r_159 dv p m x) fun a => S.E (8*S.j+5) (512 + a) 0 :=
  pay315 S (br154 H) (br155 H)
theorem br160 : Col (r_160 dv p m x) fun a => S.E (8*S.j+5) (512 + a) 1 :=
  pay316 S (br154 H) (br155 H)
theorem br161 : Col (r_161 dv p m x) fun a => S.P (8*S.j+5) a 0 :=
  pay319 S (br145 H) (br157 H)
theorem br162 : Col (r_162 dv p m x) fun a => S.P (8*S.j+5) a 1 :=
  pay320 S (br146 H) (br158 H)
theorem br163 : Col (r_163 dv p m x) fun a => S.E (8*S.j+5) a 0 :=
  pay321 S (br147 H) (br159 H)
theorem br164 : Col (r_164 dv p m x) fun a => S.E (8*S.j+5) a 1 :=
  pay322 S (br148 H) (br160 H)
theorem br165 : Mat (r_165 dv p m x) (S.z (8*S.j+6)) :=
  pay323 S (br H) (tile_read (H.r4 (m := m)) (o7_1_5 p H.hj))
theorem br166 : Mat (r_166 dv p m x) (S.da (8*S.j+6)) :=
  pay324 S (br1 H) (tile_read (H.r5 (m := m)) (o7_1_5 p H.hj))
theorem bHarg16_13 : Wrote m.arg16.view (Harg16_13 dv p m x) (S.dz (8*S.j+4)) :=
  holds_all (holds_cons (o := 512) (n := 512) (holds_top (n := 512) (holds_none _ _ _) (fun a c => (pay297 S a c).trans (S.dz_top 4 rfl a c).symm)) (pay311 S (br156 H) bv369 bv628 rfl rfl)) cov_0_512
theorem bv1287 : Mat3 (v1287 dv p m x) (S.dz (8*S.j+4)) :=
  top_read (n := 1024) (bHarg16_13 H)
theorem br167 : Mat (r_167 dv p m x) (S.dz (8*S.j+4)) :=
  pay325 S (bv1287 H)
theorem br168 : Mat (r_168 dv p m x) (S.DQ (8*S.j+6)) :=
  pay328 S (br144 H) (br167 H) (flat_read (H.r3 (m := m)) (o9_1_5 p H.hj))
theorem br169 : Col (r_169 dv p m x) fun a => S.P (8*S.j+5) a 0 :=
  pay331 S (br161 H)
theorem br170 : Col (r_170 dv p m x) fun a => S.P (8*S.j+5) a 1 :=
  pay332 S (br162 H)
theorem br171 : Col (r_171 dv p m x) fun a => S.E (8*S.j+5) a 0 :=
  pay333 S (br163 H)
theorem br172 : Col (r_172 dv p m x) fun a => S.E (8*S.j+5) a 1 :=
  pay334 S (br164 H)
theorem bHarg14_5 : Wrote m.arg14.view (Harg14_5 dv p m x) (S.z (8*S.j+5)) :=
  holds_full (pay317 S (br140 H))
theorem bv1328 : Mat3At (v1328 dv p m x) (S.z (8*S.j+5)) 640 :=
  rows_read (o := 640) (n := 384) (bHarg14_5 H)
theorem br173 : MatAt (r_173 dv p m x) (S.z (8*S.j+5)) 640 :=
  pay335 S (bv1328 H)
theorem br174 : MatAt (r_174 dv p m x) (S.mx (8*S.j+5)) 640 :=
  pay336 S (bv1328 H)
theorem br175 : MatAt (r_175 dv p m x) (S.ab (8*S.j+5)) 640 :=
  pay337 S (bv1328 H)
theorem br176 : MatAt (r_176 dv p m x) (S.pin (8*S.j+5)) 640 :=
  pay339 S (br5 H) (br161 H) (br162 H) (br174 H) (br175 H) zero_lit
theorem br177 : MatAt (r_177 dv p m x) (S.sig (8*S.j+5)) 640 :=
  pay340 S (br173 H) (br174 H) (br175 H) zero_lit
theorem br178 : MatAt (r_178 dv p m x) (S.attu (8*S.j+5)) 640 :=
  pay341 S (br4 H) (br5 H) (br161 H) (br162 H) (br173 H) (br174 H) (br175 H) zero_lit
theorem br179 : MatAt (r_179 dv p m x) (S.att (8*S.j+5)) 640 :=
  pay342 S (br178 H) bv369 bv628 rfl
theorem bHarg15_5 : Wrote m.arg15.view (Harg15_5 dv p m x) (S.da (8*S.j+5)) :=
  holds_full (pay318 S (br141 H))
theorem bv1405 : Mat3At (v1405 dv p m x) (S.da (8*S.j+5)) 640 :=
  rows_read (o := 640) (n := 384) (bHarg15_5 H)
theorem br180 : MatAt (r_180 dv p m x) (S.e (8*S.j+5)) 640 :=
  pay343 S (br178 H) bv369 bv628 rfl (bv1405 H)
theorem br181 : MatAt (r_181 dv p m x) (S.eb (8*S.j+5)) 640 :=
  pay344 S (br6 H) (br163 H) (br164 H) (br178 H) bv369 bv628 rfl (bv1405 H)
theorem br182 : MatAt (r_182 dv p m x) (S.dzu (8*S.j+5)) 640 :=
  pay345 S (br6 H) (br163 H) (br164 H) (br177 H) (br178 H) bv369 bv628 rfl (bv1405 H)
theorem br183 : Col (r_183 dv p m x) fun a => S.E (8*S.j+6) (640 + a) 1 :=
  pay350 S (br180 H) (br181 H)
theorem br184 : Col (r_184 dv p m x) fun a => S.P (8*S.j+6) a 0 :=
  pay353 S (br169 H) (br176 H)
theorem br185 : Col (r_185 dv p m x) fun a => S.P (8*S.j+6) a 1 :=
  pay354 S (br170 H) (br176 H)
theorem br186 : Col (r_186 dv p m x) fun a => S.E (8*S.j+6) a 0 :=
  pay355 S (br171 H) (br180 H) (br181 H)
theorem br187 : Col (r_187 dv p m x) fun a => S.E (8*S.j+6) a 1 :=
  pay356 S (br172 H) (br183 H)
theorem br188 : Mat (r_188 dv p m x) (S.z (8*S.j+7)) :=
  pay357 S (br H) (tile_read (H.r4 (m := m)) (o7_1_6 p H.hj))
theorem br189 : Mat (r_189 dv p m x) (S.da (8*S.j+7)) :=
  pay358 S (br1 H) (tile_read (H.r5 (m := m)) (o7_1_6 p H.hj))
theorem bHarg16_15 : Wrote m.arg16.view (Harg16_15 dv p m x) (S.dz (8*S.j+5)) :=
  holds_all (holds_cons (o := 640) (n := 384) (holds_top (n := 640) (holds_none _ _ _) (fun a c => (pay329 S a c).trans (S.dz_top 5 rfl a c).symm)) (pay348 S (br182 H) bv369 rfl int346 int347)) cov_0_640
theorem bv1484 : Mat3 (v1484 dv p m x) (S.dz (8*S.j+5)) :=
  top_read (n := 1024) (bHarg16_15 H)
theorem br190 : Mat (r_190 dv p m x) (S.dz (8*S.j+5)) :=
  pay359 S (bv1484 H)
theorem br84 : MatAt (r_84 dv p m x) (S.att (8*S.j+2)) 256 :=
  pay204 S (br83 H) bv369 rfl int200 int201 int202 int203
end Cert.Proof.Sb

end
-- ==== Proof.SbStageB3.lean ====
module
public import proofs.«01_k».proof.Proof.SbStageB2

/-!
What the values of the body are when query block 1 is worked on.
-/

@[expose] public section
set_option maxRecDepth 16384
noncomputable section
namespace Cert.Proof.Sb
open Cert.KernelIdeal Cert.KernelIdeal.Gen
open Idealize.ShloMosaic Idealize.ShloMosaic.TcCoe
attribute [local irreducible] st
open runB.sl
variable {S : Sp} {dv : Dev nD} {p : Fin 4} {m : Bufs} {x : Held Ideal} (H : FedB S x)
include H
theorem bHarg17_8 : Wrote m.arg17.view (Harg17_8 dv p m x) (S.att (8*S.j+2)) :=
  holds_all (holds_cons (o := 768) (n := 256) (holds_cons (o := 256) (n := 512) (holds_top (n := 256) (holds_none _ _ _) (fun a c => (pay189 S a c).trans (S.att_top 2 rfl a c).symm)) (pay212 S (br84 H))) (pay227 S (br93 H) (br95 H) (br96 H))) cov_0_256_768
theorem bv846 : Mat3 (v846 dv p m x) (S.att (8*S.j+2)) :=
  top_read (n := 1024) (bHarg17_8 H)
theorem bHarg13_4 : Tiles m.arg13.view (m.arg13.view.writes (Elt Ideal) (m.harg13.unread x.y13) (Harg13_4 dv p m x)) (S.W13 (8*S.j+4)) :=
  tiles_cons (n := 8*S.j+2) (bHarg13_3 H) (o8_1_3 p H.hj) (fun a c => ((pay243 S (S.W13 (8*S.j+3) (8*S.j+2)) (br3 H) (br109 H) (bv846 H)) a c).trans (S.W13_step (8*S.j+2) a.val c.val).symm) fun t ht a c => S.W13_past (8*S.j+2) t a c ht
theorem bHarg17_11 : Wrote m.arg17.view (Harg17_11 dv p m x) (S.att (8*S.j+3)) :=
  holds_all (holds_cons (o := 896) (n := 128) (holds_cons (o := 384) (n := 512) (holds_top (n := 384) (holds_none _ _ _) (fun a c => (pay246 S a c).trans (S.att_top 3 rfl a c).symm)) (pay266 S (br121 H))) (pay279 S (br4 H) (br102 H) (br103 H) (br129 H) (br130 H) (br131 H))) cov_0_384_896
theorem bv1104 : Mat3 (v1104 dv p m x) (S.att (8*S.j+3)) :=
  top_read (n := 1024) (bHarg17_11 H)
theorem bHarg13_5 : Tiles m.arg13.view (m.arg13.view.writes (Elt Ideal) (m.harg13.unread x.y13) (Harg13_5 dv p m x)) (S.W13 (8*S.j+5)) :=
  tiles_cons (n := 8*S.j+3) (bHarg13_4 H) (o8_1_4 p H.hj) (fun a c => ((pay295 S (S.W13 (8*S.j+4) (8*S.j+3)) (br3 H) (tile_read (n := 8*S.j+3) (bHarg13_4 H) (o8_1_4 p H.hj)) (bv1104 H)) a c).trans (S.W13_step (8*S.j+3) a.val c.val).symm) fun t ht a c => S.W13_past (8*S.j+3) t a c ht
theorem bHarg17_13 : Wrote m.arg17.view (Harg17_13 dv p m x) (S.att (8*S.j+4)) :=
  holds_all (holds_cons (o := 512) (n := 512) (holds_top (n := 512) (holds_none _ _ _) (fun a c => (pay298 S a c).trans (S.att_top 4 rfl a c).symm)) (pay312 S (br153 H))) cov_0_512
theorem bv1301 : Mat3 (v1301 dv p m x) (S.att (8*S.j+4)) :=
  top_read (n := 1024) (bHarg17_13 H)
theorem bHarg13_6 : Tiles m.arg13.view (m.arg13.view.writes (Elt Ideal) (m.harg13.unread x.y13) (Harg13_6 dv p m x)) (S.W13 (8*S.j+6)) :=
  tiles_cons (n := 8*S.j+4) (bHarg13_5 H) (o8_1_5 p H.hj) (fun a c => ((pay327 S (S.W13 (8*S.j+5) (8*S.j+4)) (br3 H) (tile_read (n := 8*S.j+4) (bHarg13_5 H) (o8_1_5 p H.hj)) (bv1301 H)) a c).trans (S.W13_step (8*S.j+4) a.val c.val).symm) fun t ht a c => S.W13_past (8*S.j+4) t a c ht
theorem br191 : Mat (r_191 dv p m x) (S.W13 (8*S.j+6) (8*S.j+5)) :=
  pay361 S (S.W13 (8*S.j+6) (8*S.j+5)) (tile_read (n := 8*S.j+5) (bHarg13_6 H) (o8_1_6 p H.hj))
theorem bHarg17_15 : Wrote m.arg17.view (Harg17_15 dv p m x) (S.att (8*S.j+5)) :=
  holds_all (holds_cons (o := 640) (n := 384) (holds_top (n := 640) (holds_none _ _ _) (fun a c => (pay330 S a c).trans (S.att_top 5 rfl a c).symm)) (pay349 S (br179 H))) cov_0_640
theorem bv1498 : Mat3 (v1498 dv p m x) (S.att (8*S.j+5)) :=
  top_read (n := 1024) (bHarg17_15 H)
theorem br192 : Mat (r_192 dv p m x) (S.att (8*S.j+5)) :=
  pay362 S (bv1498 H)
theorem br193 : Mat (r_193 dv p m x) (S.DQ (8*S.j+7)) :=
  pay364 S (br168 H) (br190 H) (flat_read (H.r3 (m := m)) (o9_1_6 p H.hj))
theorem br194 : Col (r_194 dv p m x) fun a => S.P (8*S.j+6) a 0 :=
  pay367 S (br184 H)
theorem br195 : Col (r_195 dv p m x) fun a => S.P (8*S.j+6) a 1 :=
  pay368 S (br185 H)
theorem br196 : Col (r_196 dv p m x) fun a => S.E (8*S.j+6) a 0 :=
  pay369 S (br186 H)
theorem br197 : Col (r_197 dv p m x) fun a => S.E (8*S.j+6) a 1 :=
  pay370 S (br187 H)
theorem bHarg14_6 : Wrote m.arg14.view (Harg14_6 dv p m x) (S.z (8*S.j+6)) :=
  holds_full (pay351 S (br165 H))
theorem bv1525 : Mat3At (v1525 dv p m x) (S.z (8*S.j+6)) 768 :=
  rows_read (o := 768) (n := 256) (bHarg14_6 H)
theorem br198 : MatAt (r_198 dv p m x) (S.z (8*S.j+6)) 768 :=
  pay371 S (bv1525 H)
theorem br199 : MatAt (r_199 dv p m x) (S.sp (8*S.j+6)) 768 :=
  pay372 S (bv1525 H)
theorem br200 : MatAt (r_200 dv p m x) (S.pin (8*S.j+6)) 768 :=
  pay373 S (br5 H) (br184 H) (br185 H) (br199 H)
theorem br201 : MatAt (r_201 dv p m x) (S.sig (8*S.j+6)) 768 :=
  pay374 S (br198 H) (br199 H)
theorem br202 : MatAt (r_202 dv p m x) (S.attu (8*S.j+6)) 768 :=
  pay375 S (br4 H) (br5 H) (br184 H) (br185 H) (br198 H) (br199 H)
theorem br203 : MatAt (r_203 dv p m x) (S.att (8*S.j+6)) 768 :=
  pay378 S (br202 H) bv369 rfl int376 int377
theorem bHarg15_6 : Wrote m.arg15.view (Harg15_6 dv p m x) (S.da (8*S.j+6)) :=
  holds_full (pay352 S (br166 H))
theorem bv1602 : Mat3At (v1602 dv p m x) (S.da (8*S.j+6)) 768 :=
  rows_read (o := 768) (n := 256) (bHarg15_6 H)
theorem br204 : MatAt (r_204 dv p m x) (S.e (8*S.j+6)) 768 :=
  pay379 S (br202 H) bv369 rfl int376 int377 (bv1602 H)
theorem br205 : MatAt (r_205 dv p m x) (S.eb (8*S.j+6)) 768 :=
  pay380 S (br6 H) (br186 H) (br187 H) (br202 H) bv369 rfl int376 int377 (bv1602 H)
theorem br206 : MatAt (r_206 dv p m x) (S.dzu (8*S.j+6)) 768 :=
  pay381 S (br6 H) (br186 H) (br187 H) (br201 H) (br202 H) bv369 rfl int376 int377 (bv1602 H)
theorem br207 : Col (r_207 dv p m x) fun a => S.P (8*S.j+7) a 0 :=
  pay389 S (br194 H) (br200 H)
theorem br208 : Col (r_208 dv p m x) fun a => S.P (8*S.j+7) a 1 :=
  pay390 S (br195 H) (br200 H)
theorem br209 : Col (r_209 dv p m x) fun a => S.E (8*S.j+7) a 0 :=
  pay391 S (br196 H) (br204 H) (br205 H)
theorem br210 : Col (r_210 dv p m x) fun a => S.E (8*S.j+7) a 1 :=
  pay392 S (br197 H) (br204 H) (br205 H)
theorem bHarg16_17 : Wrote m.arg16.view (Harg16_17 dv p m x) (S.dz (8*S.j+6)) :=
  holds_all (holds_cons (o := 768) (n := 256) (holds_top (n := 768) (holds_none _ _ _) (fun a c => (pay365 S a c).trans (S.dz_top 6 rfl a c).symm)) (pay385 S (br206 H) bv369 rfl int382 int383 int384)) cov_0_768
theorem bv1681 : Mat3 (v1681 dv p m x) (S.dz (8*S.j+6)) :=
  top_read (n := 1024) (bHarg16_17 H)
theorem br213 : Mat (r_213 dv p m x) (S.dz (8*S.j+6)) :=
  pay395 S (bv1681 H)
theorem bHarg13_7 : Tiles m.arg13.view (m.arg13.view.writes (Elt Ideal) (m.harg13.unread x.y13) (Harg13_7 dv p m x)) (S.W13 (8*S.j+7)) :=
  tiles_cons (n := 8*S.j+5) (bHarg13_6 H) (o8_1_6 p H.hj) (fun a c => ((pay363 S (S.W13 (8*S.j+6) (8*S.j+5)) (br3 H) (br191 H) (br192 H)) a c).trans (S.W13_step (8*S.j+5) a.val c.val).symm) fun t ht a c => S.W13_past (8*S.j+5) t a c ht
theorem bHarg17_17 : Wrote m.arg17.view (Harg17_17 dv p m x) (S.att (8*S.j+6)) :=
  holds_all (holds_cons (o := 768) (n := 256) (holds_top (n := 768) (holds_none _ _ _) (fun a c => (pay366 S a c).trans (S.att_top 6 rfl a c).symm)) (pay386 S (br203 H))) cov_0_768
theorem bv1695 : Mat3 (v1695 dv p m x) (S.att (8*S.j+6)) :=
  top_read (n := 1024) (bHarg17_17 H)
theorem br214 : Mat (r_214 dv p m x) (S.W13 (8*S.j+8) (8*S.j+6)) :=
  (fun a c => ((pay397 S (S.W13 (8*S.j+7) (8*S.j+6)) (br3 H) (tile_read (n := 8*S.j+6) (bHarg13_7 H) (o8_1_7 p H.hj)) (bv1695 H)) a c).trans (S.W13_step (8*S.j+6) a.val c.val).symm)
theorem br215 : Mat (r_215 dv p m x) (S.DQ (8*S.j+8)) :=
  pay399 S (br193 H) (br213 H) (flat_read (H.r3 (m := m)) (o9_1_7 p H.hj))
theorem bHarg14_7 : Wrote m.arg14.view (Harg14_7 dv p m x) (S.z (8*S.j+7)) :=
  holds_full (pay387 S (br188 H))
theorem bv1718 : Mat3At (v1718 dv p m x) (S.z (8*S.j+7)) 896 :=
  rows_read (o := 896) (n := 128) (bHarg14_7 H)
theorem br216 : MatAt (r_216 dv p m x) (S.z (8*S.j+7)) 896 :=
  pay402 S (bv1718 H)
theorem br217 : MatAt (r_217 dv p m x) (S.sp (8*S.j+7)) 896 :=
  pay403 S (bv1718 H)
theorem br218 : MatAt (r_218 dv p m x) (S.sig (8*S.j+7)) 896 :=
  pay406 S (br216 H) (br217 H)
theorem br219 : MatAt (r_219 dv p m x) (S.attu (8*S.j+7)) 896 :=
  pay407 S (br4 H) (br5 H) (br207 H) (br208 H) (br216 H) (br217 H) bv369 rfl int404 int405
theorem br220 : MatAt (r_220 dv p m x) (S.att (8*S.j+7)) 896 :=
  pay411 S (br219 H) int408 zero_lit
theorem bHarg15_7 : Wrote m.arg15.view (Harg15_7 dv p m x) (S.da (8*S.j+7)) :=
  holds_full (pay388 S (br189 H))
theorem bv1789 : Mat3At (v1789 dv p m x) (S.da (8*S.j+7)) 896 :=
  rows_read (o := 896) (n := 128) (bHarg15_7 H)
theorem bHarg16_19 : Wrote m.arg16.view (Harg16_19 dv p m x) (S.dz (8*S.j+7)) :=
  holds_all (holds_cons (o := 896) (n := 128) (holds_top (n := 896) (holds_none _ _ _) (fun a c => (pay400 S a c).trans (S.dz_top 7 rfl a c).symm)) (pay410 S (br6 H) (br209 H) (br210 H) (br218 H) (br219 H) int408 zero_lit (bv1789 H))) cov_0_896
theorem bv1840 : Mat3 (v1840 dv p m x) (S.dz (8*S.j+7)) :=
  top_read (n := 1024) (bHarg16_19 H)
theorem br221 : Mat (r_221 dv p m x) (S.dz (8*S.j+7)) :=
  pay415 S (bv1840 H)
theorem bHarg13_8 : Tiles m.arg13.view (m.arg13.view.writes (Elt Ideal) (m.harg13.unread x.y13) (Harg13_8 dv p m x)) (S.W13 (8*S.j+8)) :=
  tiles_cons (n := 8*S.j+6) (bHarg13_7 H) (o8_1_7 p H.hj) (pay398 S (S.W13 (8*S.j+8) (8*S.j+6)) (br214 H)) fun t ht a c => S.W13_past (8*S.j+6) t a c ht
theorem bHarg17_19 : Wrote m.arg17.view (Harg17_19 dv p m x) (S.att (8*S.j+7)) :=
  holds_all (holds_cons (o := 896) (n := 128) (holds_top (n := 896) (holds_none _ _ _) (fun a c => (pay401 S a c).trans (S.att_top 7 rfl a c).symm)) (pay412 S (br220 H))) cov_0_896
theorem bv1854 : Mat3 (v1854 dv p m x) (S.att (8*S.j+7)) :=
  top_read (n := 1024) (bHarg17_19 H)
theorem br222 : Mat (r_222 dv p m x) (S.W13 (8*S.j+9) (8*S.j+7)) :=
  (fun a c => ((pay417 S (S.W13 (8*S.j+8) (8*S.j+7)) (br3 H) (tile_read (n := 8*S.j+7) (bHarg13_8 H) (o10_1 p H.hj)) (bv1854 H)) a c).trans (S.W13_step (8*S.j+7) a.val c.val).symm)
theorem br223 : Mat (r_223 dv p m x) (S.DQ (8*S.j+9)) :=
  pay419 S (br215 H) (br221 H) (flat_read (H.r3 (m := m)) (o11_1 p H.hj))
theorem bHarg12_5 : Tiles m.arg12.view (m.arg12.view.writes (Elt Ideal) (m.harg12.unread x.y12) (Harg12_5 dv p m x)) (S.W12 (8*S.j+5)) :=
  tiles_cons (n := 8*S.j+3) (bHarg12_4 H) (o8_1_4 p H.hj) (pay294 S (S.W12 (8*S.j+5) (8*S.j+3)) (br143 H)) fun t ht a c => S.W12_past (8*S.j+3) t a c ht
theorem bHarg12_6 : Tiles m.arg12.view (m.arg12.view.writes (Elt Ideal) (m.harg12.unread x.y12) (Harg12_6 dv p m x)) (S.W12 (8*S.j+6)) :=
  tiles_cons (n := 8*S.j+4) (bHarg12_5 H) (o8_1_5 p H.hj) (fun a c => ((pay326 S (S.W12 (8*S.j+5) (8*S.j+4)) (br2 H) (bv1287 H) (tile_read (n := 8*S.j+4) (bHarg12_5 H) (o8_1_5 p H.hj))) a c).trans (S.W12_step (8*S.j+4) a.val c.val).symm) fun t ht a c => S.W12_past (8*S.j+4) t a c ht
theorem bHarg12_7 : Tiles m.arg12.view (m.arg12.view.writes (Elt Ideal) (m.harg12.unread x.y12) (Harg12_7 dv p m x)) (S.W12 (8*S.j+7)) :=
  tiles_cons (n := 8*S.j+5) (bHarg12_6 H) (o8_1_6 p H.hj) (fun a c => ((pay360 S (S.W12 (8*S.j+6) (8*S.j+5)) (br2 H) (bv1484 H) (tile_read (n := 8*S.j+5) (bHarg12_6 H) (o8_1_6 p H.hj))) a c).trans (S.W12_step (8*S.j+5) a.val c.val).symm) fun t ht a c => S.W12_past (8*S.j+5) t a c ht
theorem bHarg12_8 : Tiles m.arg12.view (m.arg12.view.writes (Elt Ideal) (m.harg12.unread x.y12) (Harg12_8 dv p m x)) (S.W12 (8*S.j+8)) :=
  tiles_cons (n := 8*S.j+6) (bHarg12_7 H) (o8_1_7 p H.hj) (fun a c => ((pay396 S (S.W12 (8*S.j+7) (8*S.j+6)) (br2 H) (bv1681 H) (tile_read (n := 8*S.j+6) (bHarg12_7 H) (o8_1_7 p H.hj))) a c).trans (S.W12_step (8*S.j+6) a.val c.val).symm) fun t ht a c => S.W12_past (8*S.j+6) t a c ht
end Cert.Proof.Sb

end
-- ==== Proof.SbResult.lean ====
module
public import proofs.«01_k».proof.Proof.SbStageA3
public import proofs.«01_k».proof.Proof.SbStageB3

/-!
What the body leaves in its three output blocks, as the plain functions: the gradient of the queries after the last
key block of the query block, and the tiles of the gradients of the keys and values.
-/

@[expose] public section
set_option maxRecDepth 16384
noncomputable section
namespace Cert.Proof.Sb
open Cert.KernelIdeal Cert.KernelIdeal.Gen
open Idealize.ShloMosaic Idealize.ShloMosaic.TcCoe

theorem pay416 (S : Sp) (w : ℕ → ℕ → EReal) {u : FVec Ideal S128x1024 .bf16} {v : Vec Ideal S1x1024x256 .bf16} {t : Vec Ideal S1x1x128x256 .f32}
    (h_u : ∀ (a : Fin 128) (c : Fin 1024), u (ix2 a c) = S.q c.val a.val) (h_v : Mat3 v (S.dz (8*S.j+7))) (h_t : Tile t w) (a : Fin 128) (c : Fin 256) :
    (k0_pay416 (F := Ideal) u v t) (ix4 0 0 a c) = w a.val c.val + ∑ r : Fin 1024, S.q r a * S.dz (8*S.j+7) r c := by
  simp only [k0_pay416]
  pointwise
  simp only [h_u, h_t, pay415 S h_v]

theorem pay418 (S : Sp) (w : ℕ → ℕ → EReal) {v : FVec Ideal S128x256 .f32} (h : Mat v w) (a : Fin 128) (c : Fin 256) :
    (k0_pay418 (F := Ideal) v) (ix4 0 0 a c) = w a.val c.val := by
  simp only [k0_pay418]
  pointwise
  simp only [h _ _]

section
variable {S : Sp} {dv : Dev nD} {p : Fin 4} {m : Bufs} {x : Held Ideal} (H : FedA S x)
include H
theorem aDQ : Mat (runA (F := Ideal) dv p m x).1 (S.DQ (8*S.j+9)) := by
  intro a c
  refine Eq.trans ?_ (ar223 (dv := dv) (p := p) (m := m) H a c)
  exact congrFun (View.read_writes_full _ _ _ _ _) (ix2 a c)
theorem aW12 (t : Fin 16) (a : Fin 128) (c : Fin 256) : (runA (F := Ideal) dv p m x).2.1 (ix4 0 t a c) = S.W12 (8*S.j+9) t.val a.val c.val :=
  tiles_cons (n := 8*S.j+7) (aHarg12_8 H) (o10_0 p H.hj) (fun a c => ((pay416 S (S.W12 (8*S.j+8) (8*S.j+7)) (ar2 H) (av1840 H)
    (tile_read (n := 8*S.j+7) (aHarg12_8 H) (o10_0 p H.hj))) a c).trans (S.W12_step (8*S.j+7) a.val c.val).symm)
    (fun t ht a c => S.W12_past (8*S.j+7) t a c ht) t a c
theorem aW13 (t : Fin 16) (a : Fin 128) (c : Fin 256) : (runA (F := Ideal) dv p m x).2.2.1 (ix4 0 t a c) = S.W13 (8*S.j+9) t.val a.val c.val :=
  tiles_cons (n := 8*S.j+7) (aHarg13_8 H) (o10_0 p H.hj) (pay418 S (S.W13 (8*S.j+9) (8*S.j+7)) (ar222 H))
    (fun t ht a c => S.W13_past (8*S.j+7) t a c ht) t a c
end

section
variable {S : Sp} {dv : Dev nD} {p : Fin 4} {m : Bufs} {x : Held Ideal} (H : FedB S x)
include H
theorem bDQ : Mat (runB (F := Ideal) dv p m x).1 (S.DQ (8*S.j+9)) := by
  intro a c
  refine Eq.trans ?_ (br223 (dv := dv) (p := p) (m := m) H a c)
  exact congrFun (View.read_writes_full _ _ _ _ _) (ix2 a c)
theorem bW12 (t : Fin 16) (a : Fin 128) (c : Fin 256) : (runB (F := Ideal) dv p m x).2.1 (ix4 0 t a c) = S.W12 (8*S.j+9) t.val a.val c.val :=
  tiles_cons (n := 8*S.j+7) (bHarg12_8 H) (o10_1 p H.hj) (fun a c => ((pay416 S (S.W12 (8*S.j+8) (8*S.j+7)) (br2 H) (bv1840 H)
    (tile_read (n := 8*S.j+7) (bHarg12_8 H) (o10_1 p H.hj))) a c).trans (S.W12_step (8*S.j+7) a.val c.val).symm)
    (fun t ht a c => S.W12_past (8*S.j+7) t a c ht) t a c
theorem bW13 (t : Fin 16) (a : Fin 128) (c : Fin 256) : (runB (F := Ideal) dv p m x).2.2.1 (ix4 0 t a c) = S.W13 (8*S.j+9) t.val a.val c.val :=
  tiles_cons (n := 8*S.j+7) (bHarg13_8 H) (o10_1 p H.hj) (pay418 S (S.W13 (8*S.j+9) (8*S.j+7)) (br222 H))
    (fun t ht a c => S.W13_past (8*S.j+7) t a c ht) t a c
end
end Cert.Proof.Sb

end
-- ==== Proof.SbValue.lean ====
module

public import proofs.«01_k».proof.Proof.SbPoint
public import proofs.«01_k».proof.Proof.SbFrame
public import proofs.«01_k».proof.Proof.SbResult
public import Idealize.ShloMosaic.Lib.Pipeline.Value
public import Idealize.ShloMosaic.Lib.StableHlo.RunRead

/-!
The run on real arguments, and what its results hold.
-/

@[expose] public section

set_option maxRecDepth 16384

noncomputable section

namespace Cert.Proof.Sb

open Cert.KernelIdeal Cert.KernelIdeal.Gen
open Idealize.ShloMosaic Idealize.ShloMosaic.TcCoe Idealize.ShloMosaic.Tactic
open Idealize.SL Idealize.SL.RA Idealize.SL.BI
open Idealize.SL.BI.BIBase Idealize.SL.BI.Laws Idealize.SL.Sem
open Idealize.ShloMosaic.Pipeline (Dat Cfg Window BodyObligation)

theorem exists_ix2 {n m : ℕ} (i : (⟨2, ![n, m]⟩ : Shape).Idx) : ∃ a b, i = ix2 a b := ⟨i 0, i 1, eq_ix2 i⟩
theorem exists_ix4 {n m l : ℕ} (i : (⟨4, ![1, n, m, l]⟩ : Shape).Idx) : ∃ a b e, i = ix4 0 a b e :=
  ⟨i 1, i 2, i 3, (eq_ix4 i).trans (congrArg (fun x : Fin 1 => ix4 x (i 1) (i 2) (i 3)) (Subsingleton.elim (α := Fin 1) _ _))⟩

variable {m : (ℓ : Loc nD τ sig) → Buf (Elt Ideal) ℓ} {c : Dev nD} {q k v g : S2048x512.Idx → ℝ}

section
variable (A : RealArgs m c q k v g) (t : Fin cfg0.N)
include A

theorem leaves_left_even (h : t.val % 2 = 0) (y11 : Vec Ideal S1024x128 .f32) (y12 y13 : Vec Ideal S1x16x128x256 .f32) (y14 y15 y16 y17) :
    Leaves c t ⟨iblk m c 0 t, iblk m c 1 t, iblk m c 2 t, iblk m c 3 t, iblk m c 4 t, iblk m c 5 t, iblk m c 6 t, iblk m c 7 t, y11, y12, y13, y14, y15, y16, y17⟩
      (left (rows q k v g) t) := by
  have hj : t.val % 2 < 2 := Nat.mod_lt _ (by decide)
  have H := FedA.mk (fed A t y11 y12 y13 y14 y15 y16 y17) h
    (fun u a e => by dsimp only [spAt]; rw [h]; unfold tileK; simp) (fun u a e => by dsimp only [spAt]; rw [h]; unfold tileV; simp)
  have e := leaves_even c t h ⟨iblk m c 0 t, iblk m c 1 t, iblk m c 2 t, iblk m c 3 t, iblk m c 4 t, iblk m c 5 t, iblk m c 6 t, iblk m c 7 t, y11, y12, y13, y14, y15, y16, y17⟩
  refine (congrArg (Leaves c t _) (Prod.ext (funext fun i => ?_) (Prod.ext (funext fun i => ?_) (funext fun i => ?_)))).mp e
  · obtain ⟨a, b, rfl⟩ := exists_ix2 i
    exact (aDQ H a b).trans (spAt_DQ _ _ _ hj a.isLt b.isLt)
  · obtain ⟨a, b, d, rfl⟩ := exists_ix4 i
    exact (aW12 H a b d).trans (spAt_W12 _ _ _ hj a.isLt b.isLt d.isLt)
  · obtain ⟨a, b, d, rfl⟩ := exists_ix4 i
    exact (aW13 H a b d).trans (spAt_W13 _ _ _ hj a.isLt b.isLt d.isLt)

theorem leaves_left_odd (h : ¬ t.val % 2 = 0) (y11 : Vec Ideal S1024x128 .f32) (y12 y13 : Vec Ideal S1x16x128x256 .f32)
    (h12 : ∀ (u : Fin 16) (a : Fin 128) (e : Fin 256), y12 (ix4 0 u a e) = (tileK (rows q k v g) (t.val / 2) 1024 u.val a.val e.val : EReal))
    (h13 : ∀ (u : Fin 16) (a : Fin 128) (e : Fin 256), y13 (ix4 0 u a e) = (tileV (rows q k v g) (t.val / 2) 1024 u.val a.val e.val : EReal))
    (y14 y15 y16 y17) :
    Leaves c t ⟨iblk m c 0 t, iblk m c 1 t, iblk m c 2 t, iblk m c 3 t, iblk m c 4 t, iblk m c 5 t, iblk m c 6 t, iblk m c 7 t, y11, y12, y13, y14, y15, y16, y17⟩
      (left (rows q k v g) t) := by
  have hj : t.val % 2 < 2 := Nat.mod_lt _ (by decide)
  have h1 : t.val % 2 = 1 := by omega
  have H := FedB.mk (fed A t y11 y12 y13 y14 y15 y16 y17) h1
    (fun u a e => (h12 u a e).trans (by dsimp only [spAt]; rw [h1])) (fun u a e => (h13 u a e).trans (by dsimp only [spAt]; rw [h1]))
  have e := leaves_odd c t h ⟨iblk m c 0 t, iblk m c 1 t, iblk m c 2 t, iblk m c 3 t, iblk m c 4 t, iblk m c 5 t, iblk m c 6 t, iblk m c 7 t, y11, y12, y13, y14, y15, y16, y17⟩
  refine (congrArg (Leaves c t _) (Prod.ext (funext fun i => ?_) (Prod.ext (funext fun i => ?_) (funext fun i => ?_)))).mp e
  · obtain ⟨a, b, rfl⟩ := exists_ix2 i
    exact (bDQ H a b).trans (spAt_DQ _ _ _ hj a.isLt b.isLt)
  · obtain ⟨a, b, d, rfl⟩ := exists_ix4 i
    exact (bW12 H a b d).trans (spAt_W12 _ _ _ hj a.isLt b.isLt d.isLt)
  · obtain ⟨a, b, d, rfl⟩ := exists_ix4 i
    exact (bW13 H a b d).trans (spAt_W13 _ _ _ hj a.isLt b.isLt d.isLt)
end

/-! ### The run -/

/-- The proof data of a core with rows `R c`. -/
def vdata (m : (ℓ : Loc nD τ sig) → Buf (Elt Ideal) ℓ) (R : Dev nD → Rows) (p : Fin 1) (c : Dev nD) :
    Dat τ (Elt Ideal) Unit ℕ (UR sig nD τ) ℕ cfg0 c := data m (left (R c)) p c

section
variable (o : Fin cfg0.N → Vec Ideal S1024x128 .f32 × Vec Ideal S1x16x128x256 .f32 × Vec Ideal S1x16x128x256 .f32) (t : Fin cfg0.N)

theorem before9 (h : ¬ t.val % 2 = 0) (d) :
    (data m o 0 c).before 9 t d = (o ⟨t.val - 1, Nat.lt_of_le_of_lt (Nat.sub_le _ _) t.isLt⟩).2.1 :=
  (Dat.before_out_kept _ 9 rfl t (by omega) (Bool.eq_false_iff.mpr fun h' => by have := (flush0_9 _).mp h'; dsimp only at this; omega)
    (fun _ => rfl) (fun _ _ => rfl) d).trans (data_after9 m o c _)
theorem before10 (h : ¬ t.val % 2 = 0) (d) :
    (data m o 0 c).before 10 t d = (o ⟨t.val - 1, Nat.lt_of_le_of_lt (Nat.sub_le _ _) t.isLt⟩).2.2 :=
  (Dat.before_out_kept _ 10 rfl t (by omega) (Bool.eq_false_iff.mpr fun h' => by have := (flush0_10 _).mp h'; dsimp only at this; omega)
    (fun _ => rfl) (fun _ _ => rfl) d).trans (data_after10 m o c _)
end

theorem leaves_left (A : RealArgs m c q k v g) (t : Fin cfg0.N) (y11 : Vec Ideal S1024x128 .f32) (y12 y13 : Vec Ideal S1x16x128x256 .f32) (y14 y15 y16 y17)
    (h12 : ∃ d, y12 = (data m (left (rows q k v g)) 0 c).before 9 t d) (h13 : ∃ d, y13 = (data m (left (rows q k v g)) 0 c).before 10 t d) :
    Leaves c t ⟨iblk m c 0 t, iblk m c 1 t, iblk m c 2 t, iblk m c 3 t, iblk m c 4 t, iblk m c 5 t, iblk m c 6 t, iblk m c 7 t, y11, y12, y13, y14, y15, y16, y17⟩
      (left (rows q k v g) t) := by
  by_cases h : t.val % 2 = 0
  · exact leaves_left_even A t h y11 y12 y13 y14 y15 y16 y17
  · obtain ⟨d, rfl⟩ := h12
    obtain ⟨d', rfl⟩ := h13
    have hp : (t.val - 1) / 2 = t.val / 2 := by omega
    have hz : (t.val - 1) % 2 = 0 := by omega
    refine leaves_left_odd A t h y11 _ _ (fun u a e => ?_) (fun u a e => ?_) y14 y15 y16 y17
    · rw [before9 _ t h]
      show (tileK _ ((t.val - 1) / 2) (1024 * ((t.val - 1) % 2 + 1)) u.val a.val e.val : EReal) = _
      rw [hp, hz]
    · rw [before10 _ t h]
      show (tileV _ ((t.val - 1) / 2) (1024 * ((t.val - 1) % 2 + 1)) u.val a.val e.val : EReal) = _
      rw [hp, hz]

theorem obligation (A : RealArgs m c q k v g) :
    BodyObligation (data m (left (rows q k v g)) 0 c) (defs₀ (F := Ideal)) Variants.none () Set.univ := fun t => by
  rw [bigSep_W0, bigSep_W0, row]
  exact triple_restated (sound_given m _ c t (leaves_left A t)) rfl .rfl fun _ => .rfl

variable {Q K V' G : Dev nD → S2048x512.Idx → ℝ}

set_option backward.isDefEq.respectTransparency.types false in
theorem run_left (ρ : Dev nD → PrngReg) (A : ∀ c, RealArgs m c (Q c) (K c) (V' c) (G c)) :
    θ_run defs (onTc (τ := τ) (main (F := Ideal))) (s₀ m ρ)
      (Pipeline.FramePost cfgs (vdata m fun c => rows (Q c) (K c) (V' c) (G c)) 0
        (Pipeline.afterTail₀ cfgs (vdata m fun c => rows (Q c) (K c) (V' c) (G c)) 0 (V0 m) [hostOps1])) :=
  Pipeline.θ_run_frame_around (Q' := _) cfgs (vdata m fun c => rows (Q c) (K c) (V' c) (G c)) (0 : Fin 1) launch0 defs₀ Variants.none m ρ main
    (hbody := fun c => (obligation (A c)).loose) (hshare := fun c => (data m (left (rows (Q c) (K c) (V' c) (G c))) 0 c).share_full fun _ => rfl)
    (howed := fun _ _ => rfl) (V₀ := V0 m) (opss := [hostOps1]) (hsub := sfx_sub) (hfresh := sfx_fresh) (hkeep := sfx_keeps)
    (hmain := hmain m Variants.none) (hA := fun c => data_A m (left (rows (Q c) (K c) (V' c) (G c))) c) (hΦ := fun _ _ => rfl)

/-! ### The arrays -/

section
variable (R : Rows)

def dqArr : S2048x512.Idx → EReal := fun i => (R.dq (i 0).val (i 1).val : EReal)
def dktArr : S4x16x128x256.Idx → EReal := fun i => (tileK R (i 0).val 2048 (i 1).val (i 2).val (i 3).val : EReal)
def dvtArr : S4x16x128x256.Idx → EReal := fun i => (tileV R (i 0).val 2048 (i 1).val (i 2).val (i 3).val : EReal)

theorem arr8 : (data m (left R) 0 c).arrAt 8 cfg0.N = dqArr R := by
  refine (data m (left R) 0 c).arrAt_eq_of_covers 8 _ (by decide +kernel) fun t hf y => ?_
  blk_simp
  rw [data_after8]
  obtain ⟨a, b, rfl⟩ := exists_ix2 (n := 1024) (m := 128) y
  refine Eq.trans ?_ (emb8 t a b (dqArr R)).symm
  show (R.dq (1024 * (t.val % 2) + a.val) (128 * (t.val / 2) + b.val) : EReal) = (R.dq (t.val % 2 * 1024 + a.val) (t.val / 2 * 128 + b.val) : EReal)
  rw [Nat.mul_comm 1024, Nat.mul_comm 128]

theorem arr9 : (data m (left R) 0 c).arrAt 9 cfg0.N = dktArr R := by
  refine (data m (left R) 0 c).arrAt_eq_of_covers 9 _ (by decide +kernel) fun t hf y => ?_
  blk_simp
  rw [data_after9]
  obtain ⟨a, b, d, rfl⟩ := exists_ix4 (n := 16) (m := 128) (l := 256) y
  refine Eq.trans ?_ (emb9 t 0 a b d (dktArr R)).symm
  have h := (flush0_9 t).mp hf
  show (tileK R (t.val / 2) (1024 * (t.val % 2 + 1)) a.val b.val d.val : EReal) = (tileK R (t.val / 2) 2048 a.val b.val d.val : EReal)
  rw [h]

theorem arr10 : (data m (left R) 0 c).arrAt 10 cfg0.N = dvtArr R := by
  refine (data m (left R) 0 c).arrAt_eq_of_covers 10 _ (by decide +kernel) fun t hf y => ?_
  blk_simp
  rw [data_after10]
  obtain ⟨a, b, d, rfl⟩ := exists_ix4 (n := 16) (m := 128) (l := 256) y
  refine Eq.trans ?_ (emb10 t 0 a b d (dvtArr R)).symm
  have h := (flush0_10 t).mp hf
  show (tileV R (t.val / 2) (1024 * (t.val % 2 + 1)) a.val b.val d.val : EReal) = (tileV R (t.val / 2) 2048 a.val b.val d.val : EReal)
  rw [h]
end

/-! ### The lines after the region -/

section
variable (X : Valuation τ sig (Elt Ideal))

theorem tail_dq (a : S2048x512.Idx → EReal) (h : X (Proc.devRef .tc main_v75_0) = a) (s : Fin 2048) (d : Fin 512) : StableHlo.after hostOps1 X (Proc.devRef .tc main_v77) (ix2 s d)
    = a (ix2 s d) * Ideal.ofBits .f32 1040187392#32 := by
  after_reads_simp; try simp only [StableHlo.TRef.toBuf, StableHlo.TRef.ofBuf, cast_eq, id_eq]
  pointwise
  rw [h]

theorem tail_dk (s : Fin 2048) (d : Fin 512) : StableHlo.after hostOps1 X (Proc.devRef .tc main_v87) (ix2 s d)
    = X (Proc.devRef .tc main_v75_1) (ix4 ⟨d.val / 128, by omega⟩ ⟨s.val / 128, by omega⟩ ⟨d.val % 128, by omega⟩
        ⟨128 * (d.val % 128 / 64) + s.val % 128, by omega⟩) := by
  after_reads_simp; try simp only [StableHlo.TRef.toBuf, StableHlo.TRef.ofBuf, cast_eq, id_eq]
  pointwise
  have hs := s.isLt
  have hd := d.isLt
  split <;>
    (after_reads_simp; try simp only [StableHlo.TRef.toBuf, StableHlo.TRef.ofBuf, cast_eq, id_eq]
     pointwise
     congr 2 <;> apply Fin.ext <;> dsimp only <;> omega)

theorem tail_dv (s : Fin 2048) (d : Fin 512) : StableHlo.after hostOps1 X (Proc.devRef .tc main_v97) (ix2 s d)
    = X (Proc.devRef .tc main_v75_2) (ix4 ⟨d.val / 128, by omega⟩ ⟨s.val / 128, by omega⟩ ⟨d.val % 128, by omega⟩
        ⟨128 * (d.val % 128 / 64) + s.val % 128, by omega⟩) := by
  after_reads_simp; try simp only [StableHlo.TRef.toBuf, StableHlo.TRef.ofBuf, cast_eq, id_eq]
  pointwise
  have hs := s.isLt
  have hd := d.isLt
  split <;>
    (after_reads_simp; try simp only [StableHlo.TRef.toBuf, StableHlo.TRef.ofBuf, cast_eq, id_eq]
     pointwise
     congr 2 <;> apply Fin.ext <;> dsimp only <;> omega)
end

/-! ### The results -/

section
variable (R : Rows)

def dqOut : S2048x512.Idx → EReal := fun i => (R.dq (i 0).val (i 1).val * (1 / 8) : ℝ)
def dkOut : S2048x512.Idx → EReal := fun i => (R.dk (i 0).val (i 1).val : EReal)
def dvOut : S2048x512.Idx → EReal := fun i => (R.dv (i 0).val (i 1).val : EReal)

theorem tileK_full (s d : ℕ) (hs : s < 2048) (hd : d < 512) :
    tileK R (d / 128) 2048 (s / 128) (d % 128) (128 * (d % 128 / 64) + s % 128) = R.dk s d := by
  unfold tileK Rows.dk
  rw [show 128 * (d / 128) + d % 128 = d by omega, show 2 * (d / 128) + (128 * (d % 128 / 64) + s % 128) / 128 = d / 64 by omega,
    show 128 * (s / 128) + (128 * (d % 128 / 64) + s % 128) % 128 = s by omega]

theorem tileV_full (s d : ℕ) (hs : s < 2048) (hd : d < 512) :
    tileV R (d / 128) 2048 (s / 128) (d % 128) (128 * (d % 128 / 64) + s % 128) = R.dv s d := by
  unfold tileV Rows.dv
  rw [show 128 * (d / 128) + d % 128 = d by omega, show 2 * (d / 128) + (128 * (d % 128 / 64) + s % 128) / 128 = d / 64 by omega,
    show 128 * (s / 128) + (128 * (d % 128 / 64) + s % 128) % 128 = s by omega]

variable (m) (c) (dats : (p : Fin 1) → (c : Dev nD) → Dat τ (Elt Ideal) Unit ℕ (UR sig nD τ) ℕ (cfgs p) c)

theorem after_arr (w : Fin cfg0.W) : Pipeline.withArrays (cfgs 0).spec c (V0 m c) (fun w => (dats 0 c).arrAt w (cfgs 0).N)
    (Proc.devRef .tc (Pipeline.arrRef spec0 w)) = (dats 0 c).arrAt w cfg0.N :=
  Pipeline.withArrays_arr (cfgs 0).spec (by decide) c (V0 m c) (fun w => (dats 0 c).arrAt w (cfgs 0).N) w

theorem out_dq (h : (dats 0 c).arrAt 8 cfg0.N = dqArr R) : Pipeline.afterTail₀ cfgs dats 0 (V0 m) [hostOps1] c main_v77 = dqOut R := by
  funext i
  obtain ⟨s, d, rfl⟩ := exists_ix2 (n := 2048) (m := 512) i
  refine (tail_dq _ (dqArr R) ((after_arr m c dats 8).trans h) s d).trans ?_
  rw [lit_eighth]
  exact (EReal.coe_mul _ _).symm

theorem out_dk (h : (dats 0 c).arrAt 9 cfg0.N = dktArr R) : Pipeline.afterTail₀ cfgs dats 0 (V0 m) [hostOps1] c main_v87 = dkOut R := by
  funext i
  obtain ⟨s, d, rfl⟩ := exists_ix2 (n := 2048) (m := 512) i
  refine (tail_dk _ s d).trans ((congrFun ((after_arr m c dats 9).trans h) _).trans ?_)
  exact congrArg (fun x : ℝ => (x : EReal)) (tileK_full R s.val d.val s.isLt d.isLt)

theorem out_dv (h : (dats 0 c).arrAt 10 cfg0.N = dvtArr R) : Pipeline.afterTail₀ cfgs dats 0 (V0 m) [hostOps1] c main_v97 = dvOut R := by
  funext i
  obtain ⟨s, d, rfl⟩ := exists_ix2 (n := 2048) (m := 512) i
  refine (tail_dv _ s d).trans ((congrFun ((after_arr m c dats 10).trans h) _).trans ?_)
  exact congrArg (fun x : ℝ => (x : EReal)) (tileV_full R s.val d.val s.isLt d.isLt)
end

/-- On real arguments, every execution ends with the three results at their formulas and the arguments unchanged. -/
theorem run_values (ρ : Dev nD → PrngReg) (A : ∀ c, RealArgs m c (Q c) (K c) (V' c) (G c)) :
    θ_run defs (onTc (τ := τ) (main (F := Ideal))) ⟨m, fun _ => 0, ρ⟩ (fun r => ∀ c : Dev nD,
      r.2.mem ((c.tc : Thread nD τ).loc main_v77) = dqOut (rows (Q c) (K c) (V' c) (G c))
      ∧ r.2.mem ((c.tc : Thread nD τ).loc main_v87) = dkOut (rows (Q c) (K c) (V' c) (G c))
      ∧ r.2.mem ((c.tc : Thread nD τ).loc main_v97) = dvOut (rows (Q c) (K c) (V' c) (G c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).2 main_v77 (Pipeline.mem_restRefs_of main_v77 (by decide) (by decide))).trans (out_dq m c (rows (Q c) (K c) (V' c) (G c)) (vdata m fun c => rows (Q c) (K c) (V' c) (G c)) (arr8 (rows (Q c) (K c) (V' c) (G c)))),
      ((h c).2 main_v87 (Pipeline.mem_restRefs_of main_v87 (by decide) (by decide))).trans (out_dk m c (rows (Q c) (K c) (V' c) (G c)) (vdata m fun c => rows (Q c) (K c) (V' c) (G c)) (arr9 (rows (Q c) (K c) (V' c) (G c)))),
      ((h c).2 main_v97 (Pipeline.mem_restRefs_of main_v97 (by decide) (by decide))).trans (out_dv m c (rows (Q c) (K c) (V' c) (G c)) (vdata m fun c => rows (Q c) (K c) (V' c) (G c)) (arr10 (rows (Q c) (K c) (V' c) (G c)))),
      ((h c).2 main_arg0 (Pipeline.mem_restRefs_of main_arg0 (by decide) (by decide))).trans (W_main_arg0 m (vdata m fun c => rows (Q c) (K c) (V' c) (G c)) c),
      ((h c).2 main_arg1 (Pipeline.mem_restRefs_of main_arg1 (by decide) (by decide))).trans (W_main_arg1 m (vdata m fun c => rows (Q c) (K c) (V' c) (G c)) c),
      ((h c).2 main_arg2 (Pipeline.mem_restRefs_of main_arg2 (by decide) (by decide))).trans (W_main_arg2 m (vdata m fun c => rows (Q c) (K c) (V' c) (G c)) c),
      ((h c).1 4).trans (((data m (left (rows (Q c) (K c) (V' c) (G c))) 0 c).arrAt_in 4 rfl _).trans
        ((data_A m (left (rows (Q c) (K c) (V' c) (G c))) c 4).trans (V_main_arg3 m c)))⟩) (run_left ρ A)

end Cert.Proof.Sb

end
-- ==== Proof.SbWindow.lean ====
module

public import proofs.«01_k».proof.Proof.SbRow
public import Idealize.ShloMosaic.Lib.Pointwise

/-!
The running sums along the last axis of an array of three axes, as the host computes them: a window as long as the
axis, padded below or above.
-/

@[expose] public section

noncomputable section

namespace Cert.Proof.Sb

open Idealize.ShloMosaic Finset

theorem fold_add {M : ℕ} (f : Fin M → EReal) (v : EReal) : (List.finRange M).foldl (fun r n => r + f n) v = v + ∑ n, f n := by
  rw [Fin.sum_univ_def]
  generalize List.finRange M = l
  induction l generalizing v with
  | nil => simp
  | cons a l ih => rw [List.foldl_cons, ih, List.map_cons, List.sum_cons, add_assoc]

theorem numel_line (N : ℕ) : (⟨3, ![1, 1, N]⟩ : Shape).numel = N := by
  show ∏ a : Fin 3, (![1, 1, N] : Fin 3 → ℕ) a = N
  rw [Fin.prod_univ_three]
  show 1 * 1 * N = N
  rw [one_mul, one_mul]

theorem line_symm {N : ℕ} (n : Fin (⟨3, ![1, 1, N]⟩ : Shape).numel) :
    (⟨3, ![1, 1, N]⟩ : Shape).rowMajor.symm n = ix3 (0 : Fin 1) (0 : Fin 1) (n.cast (numel_line N)) :=
  ((⟨3, ![1, 1, N]⟩ : Shape).rowMajor.symm_apply_eq).2 (Fin.ext (by
    rw [Shape.rowMajor_val_three]
    show n.val = (0 * 1 + 0) * N + n.val
    omega))

/-- A window along the last axis, as long as the axis. -/
theorem window_sum {A B N : ℕ} (lo hi : ℕ) (x : (⟨3, ![A, B, N]⟩ : Shape).Idx → EReal) (init : EReal) (g : ℕ → ℝ) (a : Fin A) (b s : Fin B) (u : Fin N)
    (h0 : init = 0) (hx : ∀ n : Fin N, x (ix3 a b n) = (g n.val : EReal))
    (h : (⟨3, ![A, B, N]⟩ : Shape).ReduceWindows (![1, 1, N] : Fin 3 → ℕ) ![1, 1, 1] ![0, 0, lo] ![0, 0, hi] ⟨3, ![A, B, N]⟩) :
    Ideal.hostReduceWindowAdd ![1, 1, N] ![1, 1, 1] ![0, 0, lo] ![0, 0, hi] h x init (ix3 a b u)
      = ((∑ n ∈ range N, if lo ≤ u.val + n ∧ u.val + n - lo < N then g (u.val + n - lo) else 0 : ℝ) : EReal) := by
  unfold Ideal.hostReduceWindowAdd Host.reduceWindow
  dsimp only
  refine (fold_add _ _).trans ?_
  rw [h0, zero_add, ← Fin.sum_univ_eq_sum_range (fun n => if lo ≤ u.val + n ∧ u.val + n - lo < N then g (u.val + n - lo) else 0), ← Reals.coe_sum]
  refine Fintype.sum_equiv (finCongr (numel_line N)) _ _ fun n => ?_
  have hn : n.val < N := (n.cast (numel_line N)).isLt
  have w0 : ((⟨3, ![1, 1, N]⟩ : Shape).rowMajor.symm n 0).val = 0 := by rw [line_symm]; rfl
  have w1 : ((⟨3, ![1, 1, N]⟩ : Shape).rowMajor.symm n 1).val = 0 := by rw [line_symm]; rfl
  have w2 : ((⟨3, ![1, 1, N]⟩ : Shape).rowMajor.symm n 2).val = n.val := by rw [line_symm]; rfl
  show _ = ((if lo ≤ u.val + n.val ∧ u.val + n.val - lo < N then g (u.val + n.val - lo) else 0 : ℝ) : EReal)
  split
  · next hin =>
    have q2 := hin 2
    change lo ≤ u.val * 1 + ((⟨3, ![1, 1, N]⟩ : Shape).rowMajor.symm n 2).val
      ∧ u.val * 1 + ((⟨3, ![1, 1, N]⟩ : Shape).rowMajor.symm n 2).val - lo < N at q2
    rw [w2, Nat.mul_one] at q2
    rw [if_pos q2]
    refine (congrArg x (funext fun i => Fin.ext ?_)).trans (hx ⟨u.val + n.val - lo, q2.2⟩)
    match i with
    | ⟨0, _⟩ =>
      show a.val * 1 + ((⟨3, ![1, 1, N]⟩ : Shape).rowMajor.symm n 0).val - 0 = a.val
      rw [w0]; omega
    | ⟨1, _⟩ =>
      show b.val * 1 + ((⟨3, ![1, 1, N]⟩ : Shape).rowMajor.symm n 1).val - 0 = b.val
      rw [w1]; omega
    | ⟨2, _⟩ =>
      show u.val * 1 + ((⟨3, ![1, 1, N]⟩ : Shape).rowMajor.symm n 2).val - lo = u.val + n.val - lo
      rw [w2, Nat.mul_one]
  · next hin =>
    rw [if_neg fun q => hin fun i => ?_, EReal.coe_zero]
    have ha := a.isLt
    have hb := b.isLt
    match i with
    | ⟨0, _⟩ =>
      show 0 ≤ a.val * 1 + ((⟨3, ![1, 1, N]⟩ : Shape).rowMajor.symm n 0).val ∧ a.val * 1 + ((⟨3, ![1, 1, N]⟩ : Shape).rowMajor.symm n 0).val - 0 < A
      rw [w0]; omega
    | ⟨1, _⟩ =>
      show 0 ≤ b.val * 1 + ((⟨3, ![1, 1, N]⟩ : Shape).rowMajor.symm n 1).val ∧ b.val * 1 + ((⟨3, ![1, 1, N]⟩ : Shape).rowMajor.symm n 1).val - 0 < B
      rw [w1]; omega
    | ⟨2, _⟩ =>
      show lo ≤ u.val * 1 + ((⟨3, ![1, 1, N]⟩ : Shape).rowMajor.symm n 2).val ∧ u.val * 1 + ((⟨3, ![1, 1, N]⟩ : Shape).rowMajor.symm n 2).val - lo < N
      rw [w2, Nat.mul_one]; exact q

/-- Padded above: the sum of what is left. -/
theorem sum_rest (g : ℕ → ℝ) (N u : ℕ) (hu : u < N) :
    (∑ n ∈ range N, if 0 ≤ u + n ∧ u + n - 0 < N then g (u + n - 0) else 0) = (∑ i ∈ range N, g i) - ∑ i ∈ range u, g i := by
  simp only [Nat.zero_le, true_and, Nat.sub_zero]
  rw [eq_sub_iff_add_eq', ← sum_filter]
  have e1 : ∑ n ∈ (range N).filter (fun n => u + n < N), g (u + n) = ∑ n ∈ range (N - u), g (u + n) :=
    sum_congr (by ext n; simp only [mem_filter, mem_range]; omega) fun _ _ => rfl
  rw [e1, ← sum_range_add g u (N - u), show u + (N - u) = N by omega]

/-- Padded below: the sum up to the entry. -/
theorem sum_below (g : ℕ → ℝ) (M u : ℕ) (hu : u < M + 1) :
    (∑ n ∈ range (M + 1), if M ≤ u + n ∧ u + n - M < M + 1 then g (u + n - M) else 0) = ∑ i ∈ range (u + 1), g i := by
  rw [← sum_filter]
  refine sum_bij (fun n _ => u + n - M) (fun n hn => ?_) (fun a ha b hb h => ?_) (fun i hi => ?_) fun _ _ => rfl
  · simp only [mem_filter, mem_range] at hn ⊢; omega
  · simp only [mem_filter, mem_range] at ha hb; omega
  · simp only [mem_range] at hi
    exact ⟨i + M - u, by simp only [mem_filter, mem_range]; omega, by omega⟩

end Cert.Proof.Sb

end
-- ==== Proof.SbScore.lean ====
module

public import proofs.«01_k».proof.Proof.SbHost
public import proofs.«01_k».proof.Proof.SbWindow
public import proofs.«01_k».proof.Proof.Gen.ReferenceIdeal.Read
public import Idealize.ShloMosaic.Lib.Pointwise

/-!
The reference's scores, its softplus and what it takes of the stick, entry by entry, at real arguments.
-/

@[expose] public section

set_option maxRecDepth 16384

noncomputable section

namespace Cert.Proof.Sb

open Cert.ReferenceIdeal Cert.ReferenceIdeal.Read
open Idealize.ShloMosaic Finset

variable {q k v g : S2048x512.Idx → ℝ} {x0 x1 x2 x3 : S2048x512.Idx → EReal}

/-- The lane `d` of head `h`. -/
def lane (h : Fin 8) (d : Fin 64) : Fin 512 := ⟨h.val * 64 + d.val, by omega⟩

theorem ref_q (h0 : ∀ i, x0 i = (q i : EReal)) (h : Fin 8) (t : Fin 2048) (d : Fin 64) :
    val_main_v1 (F := Ideal) x0 (ix3 h t d) = (q (ix2 t (lane h d)) : EReal) := by
  pointwise [val_main_v1, val_main_v0]
  exact h0 _

theorem ref_k (h1 : ∀ i, x1 i = (k i : EReal)) (h : Fin 8) (t : Fin 2048) (d : Fin 64) :
    val_main_v3 (F := Ideal) x1 (ix3 h t d) = (k (ix2 t (lane h d)) : EReal) := by
  pointwise [val_main_v3, val_main_v2]
  exact h1 _

theorem ref_v (h2 : ∀ i, x2 i = (v i : EReal)) (h : Fin 8) (t : Fin 2048) (d : Fin 64) :
    val_main_v5 (F := Ideal) x2 (ix3 h t d) = (v (ix2 t (lane h d)) : EReal) := by
  pointwise [val_main_v5, val_main_v4]
  exact h2 _

theorem ref_g (h3 : ∀ i, x3 i = (g i : EReal)) (h : Fin 8) (t : Fin 2048) (d : Fin 64) :
    val_main_v28 (F := Ideal) x3 (ix3 h t d) = (g (ix2 t (lane h d)) : EReal) := by
  pointwise [val_main_v28, val_main_v27]
  exact h3 _

theorem ref_z (h0 : ∀ i, x0 i = (q i : EReal)) (h1 : ∀ i, x1 i = (k i : EReal)) (h : Fin 8) (t s : Fin 2048) :
    val_main_v8 (F := Ideal) x0 x1 (ix3 h t s) = ((rows q k v g).z h.val t.val s.val : EReal) := by
  pointwise [val_main_v8, val_main_v7, val_main_v6, val_main_cst]
  simp only [ref_q h0, ref_k h1, lit_eighth, ← EReal.coe_mul, Reals.coe_sum]
  refine congrArg (fun x : ℝ => (x : EReal)) ?_
  unfold Rows.z
  rw [← Fin.sum_univ_eq_sum_range (fun e => (rows q k v g).q t.val (64 * h.val + e) * (rows q k v g).k s.val (64 * h.val + e)), Finset.sum_mul]
  refine Finset.sum_congr rfl fun e _ => ?_
  rw [rows_q t (lane h e) rfl (by unfold lane; dsimp only; omega), rows_k s (lane h e) rfl (by unfold lane; dsimp only; omega)]
  ring

theorem ref_da (h2 : ∀ i, x2 i = (v i : EReal)) (h3 : ∀ i, x3 i = (g i : EReal)) (h : Fin 8) (t s : Fin 2048) :
    val_main_v31 (F := Ideal) x2 x3 (ix3 h t s) = ((rows q k v g).da h.val t.val s.val : EReal) := by
  pointwise [val_main_v31]
  simp only [ref_v h2, ref_g h3, ← EReal.coe_mul, Reals.coe_sum]
  refine congrArg (fun x : ℝ => (x : EReal)) ?_
  unfold Rows.da
  rw [← Fin.sum_univ_eq_sum_range (fun e => (rows q k v g).g t.val (64 * h.val + e) * (rows q k v g).v s.val (64 * h.val + e))]
  refine Finset.sum_congr rfl fun e _ => ?_
  rw [rows_g t (lane h e) rfl (by unfold lane; dsimp only; omega), rows_v s (lane h e) rfl (by unfold lane; dsimp only; omega)]

theorem ref_mask (h : Fin 8) (t s : Fin 2048) : val_main_v17_1 (F := Ideal) (ix3 h t s) = if s.val < t.val then 1#1 else 0#1 := by
  pointwise [val_main_v17_1, val_main_v14, val_main_v13, val_main_v12, val_main_v11, val_main_v10, val_main_v9]
  exact cmp_lt _ _ (by omega) (by omega)

theorem ref_mask' (h : Fin 8) (t s : Fin 2048) : val_main_v23_1 (F := Ideal) (ix3 h t s) = if s.val < t.val then 1#1 else 0#1 := ref_mask h t s

theorem sp_guard (y : EReal) (x : ℝ) (h : y = (x : EReal)) : (if y ≠ y then y
    else max y 0 + Ideal.log1p (Ideal.exp (-FloatOps.absf (F := Ideal) (φ := .f32) y))) = (spl x : EReal) := by
  rw [if_neg (not_not.mpr rfl), h, ← spl_coe, zero_sub]; rfl

theorem not_top (y : EReal) (x : ℝ) (h : y = (x : EReal)) : (if y = Ideal.ofBits FTy.f32 2139095040#32 then 0 else y) = (x : EReal) := by
  rw [h, Reals.lit_top, if_neg (EReal.coe_ne_top x)]

theorem ref_spl (h0 : ∀ i, x0 i = (q i : EReal)) (h1 : ∀ i, x1 i = (k i : EReal)) (h : Fin 8) (t s : Fin 2048) :
    val_main_call0_v1_0 (F := Ideal) x0 x1 (ix3 h t s) = (spl ((rows q k v g).z h.val t.val s.val) : EReal) := by
  pointwise [val_main_call0_v1_0, val_main_call0_call0_v11, val_main_call0_call0_v10, val_main_call0_call0_v9, val_main_call0_call0_v8, val_main_call0_call0_v7, val_main_call0_call0_v6, val_main_call0_call0_v5, val_main_call0_call0_v4, val_main_call0_call0_v3, val_main_call0_call0_v2, val_main_call0_call0_v1, val_main_call0_call0_v0, val_main_call0_call0_cst, val_main_call0_v0, val_main_v15]
  rw [ref_z (v := v) (g := g) h0 h1]
  exact sp_guard _ _ (neg_neg _)

theorem ref_sig (h0 : ∀ i, x0 i = (q i : EReal)) (h1 : ∀ i, x1 i = (k i : EReal)) (h : Fin 8) (t s : Fin 2048) :
    val_main_v16_1 (F := Ideal) x0 x1 (ix3 h t s) = ((rows q k v g).sig h.val t.val s.val : EReal) := by
  pointwise [val_main_v16_1, val_main_call0_call0_v21, val_main_call0_call0_v20, val_main_call0_call0_v19, val_main_call0_call0_v18, val_main_call0_call0_v17, val_main_call0_call0_v16, val_main_call0_call0_v15, val_main_call0_call0_v14, val_main_call0_call0_v13, val_main_call0_call0_cst_0, val_main_call0_call0_cst_1, val_main_call0_call0_cst_2, val_main_call0_call0_cst_3, val_main_call0_v0, val_main_v15]
  rw [ref_z (v := v) (g := g) h0 h1, ref_spl (v := v) (g := g) h0 h1]
  rw [not_top _ _ (neg_neg _), not_top _ _ rfl, ← EReal.coe_sub, Ideal.exp_coe]
  rfl

theorem ref_spl' (h0 : ∀ i, x0 i = (q i : EReal)) (h1 : ∀ i, x1 i = (k i : EReal)) (h : Fin 8) (t s : Fin 2048) :
    val_main_call3_v1_0 (F := Ideal) x0 x1 (ix3 h t s) = (spl (-(rows q k v g).z h.val t.val s.val) : EReal) := by
  pointwise [val_main_call3_v1_0, val_main_call3_call0_v11, val_main_call3_call0_v10, val_main_call3_call0_v9, val_main_call3_call0_v8, val_main_call3_call0_v7, val_main_call3_call0_v6, val_main_call3_call0_v5, val_main_call3_call0_v4, val_main_call3_call0_v3, val_main_call3_call0_v2, val_main_call3_call0_v1, val_main_call3_call0_v0, val_main_call3_call0_cst, val_main_call3_v0]
  rw [ref_z (v := v) (g := g) h0 h1]
  exact sp_guard _ _ (EReal.coe_neg _).symm

/-- The share of the stick that is left, from the softplus of the negated score. -/
theorem spl_neg (x : ℝ) : spl (-x) = spl x - x := by
  unfold spl
  rw [abs_neg]
  rcases le_total x 0 with h | h
  · rw [max_eq_left (by linarith : (0 : ℝ) ≤ -x), max_eq_right h]; ring
  · rw [max_eq_right (by linarith : -x ≤ (0 : ℝ)), max_eq_left h]; ring

theorem exp_spl (x : ℝ) : Real.exp (-spl x) = 1 - Real.exp (x - spl x) := by
  have key : Real.exp (spl x) = 1 + Real.exp x := by
    unfold spl
    have hp : 0 < 1 + Real.exp (-|x|) := by have := Real.exp_pos (-|x|); linarith
    rw [Real.exp_add, Real.exp_log hp]
    rcases le_total x 0 with h | h
    · rw [max_eq_right h, abs_of_nonpos h, neg_neg, Real.exp_zero, one_mul]
    · rw [max_eq_left h, abs_of_nonneg h, mul_add, mul_one, ← Real.exp_add, add_neg_cancel, Real.exp_zero, add_comm]
  have h0 : Real.exp (spl x) ≠ 0 := (Real.exp_pos _).ne'
  rw [Real.exp_sub, Real.exp_neg, key]
  have h1 : 1 + Real.exp x ≠ 0 := key ▸ h0
  field_simp
  ring

theorem ref_rest (h0 : ∀ i, x0 i = (q i : EReal)) (h1 : ∀ i, x1 i = (k i : EReal)) (h : Fin 8) (t s : Fin 2048) :
    val_main_v20_1 (F := Ideal) x0 x1 (ix3 h t s) = ((1 - (rows q k v g).sig h.val t.val s.val : ℝ) : EReal) := by
  pointwise [val_main_v20_1, val_main_call3_call0_v21, val_main_call3_call0_v20, val_main_call3_call0_v19, val_main_call3_call0_v18, val_main_call3_call0_v17, val_main_call3_call0_v16, val_main_call3_call0_v15, val_main_call3_call0_v14, val_main_call3_call0_v13, val_main_call3_call0_cst_0, val_main_call3_call0_cst_1, val_main_call3_call0_cst_2, val_main_call3_call0_cst_3, val_main_call3_v0]
  rw [ref_z (v := v) (g := g) h0 h1, ref_spl' (v := v) (g := g) h0 h1]
  rw [not_top _ _ (EReal.coe_neg _).symm, not_top _ _ rfl, ← EReal.coe_sub, Ideal.exp_coe, spl_neg]
  refine congrArg (fun x : ℝ => (x : EReal)) ?_
  unfold Rows.sig
  rw [← exp_spl]
  exact congrArg _ (by ring)

theorem const0 : id (constant (F := Ideal) S_ FTy.f32 0#32) ix0 = 0 := by
  show Ideal.ofBits .f32 0#32 = 0
  simp [Ideal.ofBits, Ideal.ieee]

theorem ref_w (h0 : ∀ i, x0 i = (q i : EReal)) (h1 : ∀ i, x1 i = (k i : EReal)) (h : Fin 8) (t s : Fin 2048) :
    val_main_v17_0 (F := Ideal) x0 x1 (ix3 h t s) = ((-(rows q k v g).w h.val t.val s.val : ℝ) : EReal) := by
  pointwise [val_main_v17_0, val_main_call1_v2, val_main_call1_v0, val_main_cst_0, val_main_v16_0]
  rw [ref_mask, pick, ref_spl (v := v) (g := g) h0 h1]
  unfold Rows.w
  split_ifs
  · rw [EReal.coe_neg]
  · rw [neg_zero]; exact const0

theorem read18
    (hw : S8x2048x2048.ReduceWindows (![1, 1, 2048] : Fin 3 → ℕ) ![1, 1, 1] ![0, 0, 0] ![0, 0, 2047] S8x2048x2048) (hu : 0 < S_.numel) (x : FVec Ideal S8x2048x2048 .f32) (init : FVec Ideal S_ .f32) (i : S8x2048x2048.Idx) :
    Host.reduceWindowAdd ![1, 1, 2048] ![1, 1, 1] ![0, 0, 0] ![0, 0, 2047] x init hw hu i
      = Ideal.hostReduceWindowAdd ![1, 1, 2048] ![1, 1, 1] ![0, 0, 0] ![0, 0, 2047] hw x (init (Shape.Idx.first hu)) i := rfl

theorem ref_sums (h0 : ∀ i, x0 i = (q i : EReal)) (h1 : ∀ i, x1 i = (k i : EReal)) (h : Fin 8) (t s : Fin 2048) :
    val_main_v18 (F := Ideal) x0 x1 (ix3 h t s)
      = (((∑ i ∈ range 2048, -(rows q k v g).w h.val t.val i) - ∑ i ∈ range s.val, -(rows q k v g).w h.val t.val i : ℝ) : EReal) := by
  unfold val_main_v18
  rw [read18, ← sum_rest _ _ _ s.isLt]
  refine window_sum 0 2047 _ _ (fun i => -(rows q k v g).w h.val t.val i) h t s s ?_ (fun n => ref_w h0 h1 h t n) _
  pointwise [val_main_call2_v0, val_main_call2_cst]

/-- What is left of the stick before a key, in logarithms. -/
theorem ref_left (h0 : ∀ i, x0 i = (q i : EReal)) (h1 : ∀ i, x1 i = (k i : EReal)) (h : Fin 8) (t s : Fin 2048) :
    val_main_v19 (F := Ideal) x0 x1 (ix3 h t s)
      = ((-((rows q k v g).tot h.val t.val - ∑ i ∈ range (s.val + 1), (rows q k v g).w h.val t.val i) : ℝ) : EReal) := by
  pointwise [val_main_v19]
  rw [ref_sums (v := v) (g := g) h0 h1, ref_w (v := v) (g := g) h0 h1, ← EReal.coe_sub]
  refine congrArg (fun x : ℝ => (x : EReal)) ?_
  rw [sum_range_succ (fun i => (rows q k v g).w h.val t.val i) s.val, sum_neg_distrib, sum_neg_distrib]
  unfold Rows.tot
  ring

theorem ref_exp (h0 : ∀ i, x0 i = (q i : EReal)) (h1 : ∀ i, x1 i = (k i : EReal)) (h : Fin 8) (t s : Fin 2048) :
    val_main_v22 (F := Ideal) x0 x1 (ix3 h t s)
      = (Real.exp ((rows q k v g).z h.val t.val s.val - spl ((rows q k v g).z h.val t.val s.val)
          - ((rows q k v g).tot h.val t.val - ∑ i ∈ range (s.val + 1), (rows q k v g).w h.val t.val i)) : EReal) := by
  pointwise [val_main_v22, val_main_v21, val_main_v20_0]
  rw [ref_left (v := v) (g := g) h0 h1, ref_spl' (v := v) (g := g) h0 h1, ← EReal.coe_neg, ← EReal.coe_add, Ideal.exp_coe, spl_neg]
  exact congrArg (fun x : ℝ => (Real.exp x : EReal)) (by ring)

theorem ref_att (h0 : ∀ i, x0 i = (q i : EReal)) (h1 : ∀ i, x1 i = (k i : EReal)) (h : Fin 8) (t s : Fin 2048) :
    val_main_v23_0 (F := Ideal) x0 x1 (ix3 h t s) = ((rows q k v g).att h.val t.val s.val : EReal) := by
  pointwise [val_main_v23_0, val_main_call4_v2, val_main_call4_v0, val_main_cst_1]
  rw [ref_mask', pick, ref_exp (v := v) (g := g) h0 h1]
  unfold Rows.att
  split_ifs
  · rfl
  · exact const0

theorem ref_e (h0 : ∀ i, x0 i = (q i : EReal)) (h1 : ∀ i, x1 i = (k i : EReal)) (h2 : ∀ i, x2 i = (v i : EReal)) (h3 : ∀ i, x3 i = (g i : EReal))
    (h : Fin 8) (t s : Fin 2048) :
    val_main_v33 (F := Ideal) x0 x1 x2 x3 (ix3 h t s) = ((rows q k v g).e h.val t.val s.val : EReal) := by
  pointwise [val_main_v33, val_main_v32, val_main_call5_v0, val_main_call5_cst]
  rw [ref_mask', pick, ref_exp (v := v) (g := g) h0 h1, ref_da (q := q) (k := k) h2 h3]
  unfold Rows.e Rows.att
  split_ifs
  · rw [← EReal.coe_mul, mul_comm]
  · simp

theorem read36
    (hw : S8x2048x2048.ReduceWindows (![1, 1, 2048] : Fin 3 → ℕ) ![1, 1, 1] ![0, 0, 2047] ![0, 0, 0] S8x2048x2048) (hu : 0 < S_.numel) (x : FVec Ideal S8x2048x2048 .f32) (init : FVec Ideal S_ .f32) (i : S8x2048x2048.Idx) :
    Host.reduceWindowAdd ![1, 1, 2048] ![1, 1, 1] ![0, 0, 2047] ![0, 0, 0] x init hw hu i
      = Ideal.hostReduceWindowAdd ![1, 1, 2048] ![1, 1, 1] ![0, 0, 2047] ![0, 0, 0] hw x (init (Shape.Idx.first hu)) i := rfl

theorem ref_below (h0 : ∀ i, x0 i = (q i : EReal)) (h1 : ∀ i, x1 i = (k i : EReal)) (h2 : ∀ i, x2 i = (v i : EReal)) (h3 : ∀ i, x3 i = (g i : EReal))
    (h : Fin 8) (t s : Fin 2048) :
    val_main_v36 (F := Ideal) x0 x1 x2 x3 (ix3 h t s) = ((∑ i ∈ range (s.val + 1), (rows q k v g).e h.val t.val i : ℝ) : EReal) := by
  unfold val_main_v36
  rw [read36, ← sum_below _ 2047 _ s.isLt]
  refine window_sum 2047 0 _ _ (fun i => (rows q k v g).e h.val t.val i) h t s s ?_ (fun n => ref_e h0 h1 h2 h3 h t n) _
  pointwise [val_main_call7_v0, val_main_call7_cst]

/-- The derivative by the score. -/
theorem ref_dz (h0 : ∀ i, x0 i = (q i : EReal)) (h1 : ∀ i, x1 i = (k i : EReal)) (h2 : ∀ i, x2 i = (v i : EReal)) (h3 : ∀ i, x3 i = (g i : EReal))
    (h : Fin 8) (t s : Fin 2048) :
    val_main_v43 (F := Ideal) x0 x1 x2 x3 (ix3 h t s) = (((rows q k v g).dz h.val t.val s.val * (1 / 8) : ℝ) : EReal) := by
  pointwise [val_main_v43, val_main_v42, val_main_cst_2, val_main_v41, val_main_v40, val_main_v39, val_main_call9_v1, val_main_call9_v0, val_main_v38,
    val_main_call8_v0, val_main_call8_cst, val_main_v37, val_main_v35, val_main_v34, val_main_call6_v1, val_main_call6_v0]
  rw [ref_below (v := v) (g := g) h0 h1 h2 h3, ref_mask, pick, ref_e (v := v) (g := g) h0 h1 h2 h3, ref_rest (v := v) (g := g) h0 h1, ref_sig (v := v) (g := g) h0 h1, lit_eighth]
  by_cases hs : s.val < t.val
  · rw [if_pos hs]
    simp only [← EReal.coe_mul, ← EReal.coe_neg, ← EReal.coe_add]
    refine congrArg (fun x : ℝ => (x : EReal)) ?_
    rw [Rows.dz, if_pos hs, sum_range_succ]
    ring
  · rw [if_neg hs, Rows.e_of_le _ (by omega), Rows.dz_of_le _ (by omega)]
    simp

end Cert.Proof.Sb

end
-- ==== Proof.SbReference.lean ====
module

public import proofs.«01_k».proof.Proof.SbScore

/-!
The reference's three gradients, entry by entry, at real arguments.
-/

@[expose] public section

set_option maxRecDepth 16384

noncomputable section

namespace Cert.Proof.Sb

open Cert.ReferenceIdeal Cert.ReferenceIdeal.Read
open Idealize.ShloMosaic Finset

variable {q k v g : S2048x512.Idx → ℝ} {x0 x1 x2 x3 : S2048x512.Idx → EReal}

/-- Lane `d`, split into its head and the lane in the head. -/
theorem lane_split (d : Fin 512) : lane ⟨d.val / 64, by omega⟩ ⟨d.val % 64, by omega⟩ = d :=
  Fin.ext (by show d.val / 64 * 64 + d.val % 64 = d.val; omega)

theorem ref_dq (h0 : ∀ i, x0 i = (q i : EReal)) (h1 : ∀ i, x1 i = (k i : EReal)) (h2 : ∀ i, x2 i = (v i : EReal)) (h3 : ∀ i, x3 i = (g i : EReal)) (t : Fin 2048) (d : Fin 512) :
    val_main_v51 (F := Ideal) x0 x1 x2 x3 (ix2 t d) = (((rows q k v g).dq t.val d.val * (1 / 8) : ℝ) : EReal) := by
  pointwise [val_main_v51, val_main_v50, val_main_v45]
  simp only [ref_dz h0 h1 h2 h3, ref_k h1, ← EReal.coe_mul, Reals.coe_sum, lane_split]
  refine congrArg (fun x : ℝ => (x : EReal)) ?_
  unfold Rows.dq
  rw [← Fin.sum_univ_eq_sum_range (fun s => (rows q k v g).dz (d.val / 64) t.val s * (rows q k v g).k s d.val), Finset.sum_mul]
  refine Finset.sum_congr rfl fun s _ => ?_
  rw [rows_k s d rfl rfl]
  ring

theorem ref_dk (h0 : ∀ i, x0 i = (q i : EReal)) (h1 : ∀ i, x1 i = (k i : EReal)) (h2 : ∀ i, x2 i = (v i : EReal)) (h3 : ∀ i, x3 i = (g i : EReal)) (s : Fin 2048) (d : Fin 512) :
    val_main_v49 (F := Ideal) x0 x1 x2 x3 (ix2 s d) = ((rows q k v g).dk s.val d.val : EReal) := by
  pointwise [val_main_v49, val_main_v48, val_main_v44]
  simp only [ref_dz h0 h1 h2 h3, ref_q h0, ← EReal.coe_mul, Reals.coe_sum, lane_split]
  refine congrArg (fun x : ℝ => (x : EReal)) ?_
  unfold Rows.dk
  rw [← Fin.sum_univ_eq_sum_range (fun t => (rows q k v g).q t d.val * (rows q k v g).dz (d.val / 64) t s.val)]
  refine Finset.sum_congr rfl fun t _ => ?_
  rw [rows_q t d rfl rfl]
  ring

theorem ref_dv (h0 : ∀ i, x0 i = (q i : EReal)) (h1 : ∀ i, x1 i = (k i : EReal)) (h3 : ∀ i, x3 i = (g i : EReal)) (s : Fin 2048) (d : Fin 512) :
    val_main_v47 (F := Ideal) x0 x1 x3 (ix2 s d) = ((rows q k v g).dv s.val d.val : EReal) := by
  pointwise [val_main_v47, val_main_v46, val_main_v30, val_main_v29]
  simp only [ref_att (v := v) (g := g) h0 h1, ref_g h3, ← EReal.coe_mul, Reals.coe_sum, lane_split]
  refine congrArg (fun x : ℝ => (x : EReal)) ?_
  unfold Rows.dv
  rw [← Fin.sum_univ_eq_sum_range (fun t => (rows q k v g).g t d.val * (rows q k v g).att (d.val / 64) t s.val)]
  refine Finset.sum_congr rfl fun t _ => ?_
  rw [rows_g t d rfl rfl]

end Cert.Proof.Sb

end
-- ==== Proof.SbEquation.lean ====
module

public import proofs.«01_k».proof.Defs
public import proofs.«01_k».proof.Proof.Gen.Pre_finite
public import proofs.«01_k».proof.Proof.Gen.Kernel
public import proofs.«01_k».proof.Proof.SbValue
public import proofs.«01_k».proof.Proof.SbReference

/-!
The gradient kernel of the stick-breaking attention computes the derivative of the forward lines.
-/

@[expose] public section

set_option maxRecDepth 16384

noncomputable section

namespace Cert.Proof.Sb

open Idealize.ShloMosaic Idealize.ShloMosaic.TcCoe Idealize.SL.Sem Cert.Proof.Reals

/-- Finite arguments are real. -/
theorem real_args (m : (ℓ : Loc Cert.KernelIdeal.nD Cert.KernelIdeal.τ Cert.KernelIdeal.sig) → Buf (Elt Ideal) ℓ)
    (h : Cert.Pre_KernelIdeal_finite m) (c : Dev Cert.KernelIdeal.nD) :
    ∃ a : Fin 4 → Cert.KernelIdeal.S2048x512.Idx → ℝ, RealArgs m c (a 0) (a 1) (a 2) (a 3) := by
  obtain ⟨h0, h1, h2, h3⟩ := h c
  obtain ⟨f0, h0⟩ := finite_real _ fun i => congrFun h0 i
  obtain ⟨f1, h1⟩ := finite_real _ fun i => congrFun h1 i
  obtain ⟨f2, h2⟩ := finite_real _ fun i => congrFun h2 i
  obtain ⟨f3, h3⟩ := finite_real _ fun i => congrFun h3 i
  exact ⟨![f0, f1, f2, f3], ⟨h0, h1, h2, h3⟩⟩

/-- The value claim. -/
theorem algebraic : Cert.algebraic_KernelIdeal_ReferenceIdeal_pre_finite := by
  intro m g m' g' hpre hag
  choose a A using real_args m hpre
  refine ⟨fun c => dqOut (rows (a c 0) (a c 1) (a c 2) (a c 3)), fun c => dkOut (rows (a c 0) (a c 1) (a c 2) (a c 3)),
    fun c => dvOut (rows (a c 0) (a c 1) (a c 2) (a c 3)), ?_, ?_⟩
  · exact run_values g A
  · refine (θ_run Cert.ReferenceIdeal.defs _ _).mono (fun r h c => ?_) (Cert.ReferenceIdeal.Value.run (F := Ideal) m' g')
    obtain ⟨r0, r1, r2, ha⟩ := h c
    obtain ⟨a0, a1, a2, a3⟩ := hag c
    obtain ⟨A0, A1, A2, A3⟩ := A c
    refine ⟨r0.trans ?_, r1.trans ?_, r2.trans ?_, ha⟩
    · refine (Cert.ReferenceIdeal.Read.val_main_v51_eq _ _).trans ?_
      rw [a0, a1, a2, a3]
      funext i
      obtain ⟨s, d, rfl⟩ : ∃ (s : Fin 2048) (d : Fin 512), i = ix2 s d := ⟨i 0, i 1, eq_ix2 i⟩
      exact ref_dq A0 A1 A2 A3 s d
    · refine (Cert.ReferenceIdeal.Read.val_main_v49_eq _ _).trans ?_
      rw [a0, a1, a2, a3]
      funext i
      obtain ⟨s, d, rfl⟩ : ∃ (s : Fin 2048) (d : Fin 512), i = ix2 s d := ⟨i 0, i 1, eq_ix2 i⟩
      exact ref_dk A0 A1 A2 A3 s d
    · refine (Cert.ReferenceIdeal.Read.val_main_v47_eq _ _).trans ?_
      rw [a0, a1, a3]
      funext i
      obtain ⟨s, d, rfl⟩ : ∃ (s : Fin 2048) (d : Fin 512), i = ix2 s d := ⟨i 0, i 1, eq_ix2 i⟩
      exact ref_dv A0 A1 A3 s d

/-- The kernel's frames, by one execution for both of its texts. -/
theorem frame_kernel_ideal : Cert.quiescent_KernelIdeal := fun m g _ => frame (F := Ideal) m g

/-- The same statement about the idealized text, at bit patterns. -/
def QuietBits : Prop :=
  ∀ (m : (ℓ : Loc Cert.KernelIdeal.nD Cert.KernelIdeal.τ Cert.KernelIdeal.sig) → Buf (Elt Bits) ℓ)
    (g : Dev Cert.KernelIdeal.nD → PrngReg), True →
    θ_run (Cert.KernelIdeal.defs (F := Bits)) (onTc (τ := Cert.KernelIdeal.τ) (Cert.KernelIdeal.main (F := Bits)))
      ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)
theorem same_text : QuietBits = Cert.quiescent_Kernel := by sl_kernel_rfl
theorem frame_kernel : Cert.quiescent_Kernel :=
  same_text.mp fun m g _ => frame (F := Bits) m g

/-- The reference's frame: its arguments stay, and it declares no counter. -/
theorem frame_reference : Cert.quiescent_ReferenceIdeal := fun m g _ =>
  (θ_run Cert.ReferenceIdeal.defs _ _).mono
    (fun r h => ⟨fun c => (h c).2.2.2, sem_eq_zero_of_no_sems (by decide) r.2⟩)
    (Cert.ReferenceIdeal.Value.run (F := Ideal) m g)

end Cert.Proof.Sb

end
-- ==== Proof.InFormula.lean ====
module

public import proofs.«01_k».proof.Proof.Reals

/-!
What the gradient of the projected root-mean-square norm is, row by row: in the order the kernel computes it, in the
order the derivative of the forward lines computes it, and that the two agree when the arrays hold reals.
-/

@[expose] public section
noncomputable section
namespace Cert.Proof.NormIn
open Idealize.ShloMosaic Cert.Proof.Reals

/-- A row of the three gradients set side by side: the columns of the first, of the second, of the third. -/
def side (p q : Fin 512 → EReal) (r : Fin 1536 → EReal) (e : Fin 2560) : EReal :=
  if h : (e : ℕ) < 512 then p ⟨e, h⟩
  else if h' : (e : ℕ) - 512 < 512 then q ⟨e - 512, h'⟩ else r ⟨e - 512 - 512, by omega⟩

/-- The reciprocal root mean square of a row. -/
def rinv (X : Fin 1024 → EReal) : EReal :=
  Ideal.rsqrt (Ideal.div (∑ k, X k * X k) (Ideal.ofBits .f32 1149239296#32) + Ideal.ofBits .f32 897988541#32)

/-- The gradient of the normed row: the row of the projection's gradient against the transposed weight. -/
def back (P : Fin 2560 → EReal) (W : Fin 2560 → Fin 1024 → EReal) (d : Fin 1024) : EReal := ∑ e, P e * W e d

/-- The gradient of a row as the kernel forms it. -/
def dxK (D X g : Fin 1024 → EReal) (P : Fin 2560 → EReal) (W : Fin 2560 → Fin 1024 → EReal) (d : Fin 1024) : EReal :=
  D d + rinv X * (back P W d * g d -
    X d * rinv X * Ideal.div (∑ k, back P W k * g k * (X k * rinv X)) (Ideal.ofBits .f32 1149239296#32))

/-- The gradient of the row's mean square, as the derivative of the forward lines forms it. -/
def dms (X g : Fin 1024 → EReal) (P : Fin 2560 → EReal) (W : Fin 2560 → Fin 1024 → EReal) : EReal :=
  Ideal.div ((∑ k, X k * (back P W k * g k)) *
    (Ideal.ofBits .f32 0xBF000000#32 * Ideal.div (rinv X)
      (Ideal.div (∑ k, X k * X k) (Ideal.ofBits .f32 1149239296#32) + Ideal.ofBits .f32 897988541#32)))
    (Ideal.ofBits .f32 1149239296#32)

/-- The gradient of a row as the derivative of the forward lines forms it. -/
def dxR (D X g : Fin 1024 → EReal) (P : Fin 2560 → EReal) (W : Fin 2560 → Fin 1024 → EReal) (d : Fin 1024) : EReal :=
  D d + back P W d * g d * rinv X + X d * dms X g P W + dms X g P W * X d

/-- Side by side, rows of reals make a row of reals. -/
theorem side_real (p q : Fin 512 → EReal) (r : Fin 1536 → EReal) (hp : ∃ f : Fin 512 → ℝ, ∀ i, p i = f i)
    (hq : ∃ f : Fin 512 → ℝ, ∀ i, q i = f i) (hr : ∃ f : Fin 1536 → ℝ, ∀ i, r i = f i) :
    ∃ f : Fin 2560 → ℝ, ∀ i, side p q r i = f i := by
  obtain ⟨p', hp⟩ := hp
  obtain ⟨q', hq⟩ := hq
  obtain ⟨r', hr⟩ := hr
  refine ⟨fun e => if h : (e : ℕ) < 512 then p' ⟨e, h⟩
    else if h' : (e : ℕ) - 512 < 512 then q' ⟨e - 512, h'⟩ else r' ⟨e - 512 - 512, by omega⟩, fun e => ?_⟩
  unfold side
  simp only [hp, hq, hr]
  split
  · rfl
  · split <;> rfl

/-- The identity of the two orders over the reals: `r` is the reciprocal root of `v`. -/
theorem real_row (v r x b T n : ℝ) (hr : r * r = 1 / v) :
    r * (b - x * r * (T * r / n)) = b * r + (x * (T * (-(1 / 2) * (r / v)) / n) + T * (-(1 / 2) * (r / v)) / n * x) := by
  have h : r / v = r * (r * r) := by rw [hr]; ring
  rw [h]; ring

/-- The two orders agree on rows of reals. -/
theorem dx_eq (D X g : Fin 1024 → EReal) (P : Fin 2560 → EReal) (W : Fin 2560 → Fin 1024 → EReal)
    (hX : ∃ f : Fin 1024 → ℝ, ∀ i, X i = f i) (hg : ∃ f : Fin 1024 → ℝ, ∀ i, g i = f i)
    (hP : ∃ f : Fin 2560 → ℝ, ∀ i, P i = f i) (hW : ∃ f : Fin 2560 → Fin 1024 → ℝ, ∀ i j, W i j = f i j)
    (d : Fin 1024) : dxK D X g P W d = dxR D X g P W d := by
  obtain ⟨x, hX⟩ := hX
  obtain ⟨c, hg⟩ := hg
  obtain ⟨p, hP⟩ := hP
  obtain ⟨w, hW⟩ := hW
  have hS : (∑ k, X k * X k) = ((∑ k, x k * x k : ℝ) : EReal) := by
    simp only [hX, ← EReal.coe_mul, coe_sum]
  have hS0 : 0 ≤ ∑ k, x k * x k := Finset.sum_nonneg fun k _ => mul_self_nonneg _
  have hv : 0 < (∑ k, x k * x k) / 1024 + eps := by have := eps_pos; positivity
  generalize hvv : (∑ k, x k * x k) / 1024 + eps = v at hv
  have hV : Ideal.div (∑ k, X k * X k) (Ideal.ofBits .f32 1149239296#32) + Ideal.ofBits .f32 897988541#32 = (v : EReal) := by
    rw [hS, lit_1024, lit_eps, coe_div _ _ (by norm_num), ← EReal.coe_add, hvv]
  have hR : rinv X = (((Real.sqrt v)⁻¹ : ℝ) : EReal) := by rw [rinv, hV, coe_rsqrt _ hv]
  generalize hrr : (Real.sqrt v)⁻¹ = r at hR
  have hr : r * r = 1 / v := by
    rw [← hrr, ← mul_inv, Real.mul_self_sqrt hv.le, one_div]
  have hB : ∀ k, back P W k = ((∑ e, p e * w e k : ℝ) : EReal) := fun k => by
    simp only [back, hP, hW, ← EReal.coe_mul, coe_sum]
  unfold dxK dxR dms
  rw [hV]
  simp only [hR, hB, hX, hg, lit_1024, lit_neg_half, ← EReal.coe_mul, coe_sum, coe_div _ _ hv.ne',
    coe_div _ _ (show (1024 : ℝ) ≠ 0 by norm_num), ← EReal.coe_sub, add_assoc, ← EReal.coe_add]
  congr 2
  have h1 : (∑ k, (∑ e, p e * w e k) * c k * (x k * r)) = (∑ k, x k * ((∑ e, p e * w e k) * c k)) * r := by
    rw [Finset.sum_mul]; exact Finset.sum_congr rfl fun k _ => by ring
  rw [h1]
  exact real_row v r _ _ _ _ hr

end Cert.Proof.NormIn
-- ==== Proof.InKernel.lean ====
module

public import proofs.«01_k».proof.Proof.InFormula
public import proofs.«01_k».proof.Proof.Gen.Kernel2Ideal.Value
public import Idealize.ShloMosaic.Lib.Pipeline.ValueKit

/-!
What the kernel's four result arrays hold after its run, as the row formulas at the argument arrays.
-/

@[expose] public section
set_option maxRecDepth 16384
noncomputable section
namespace Cert.Proof.NormIn
open Cert.Kernel2Ideal Cert.Kernel2Ideal.Gen Idealize.ShloMosaic Idealize.ShloMosaic.TcCoe Idealize.SL.Sem

variable (m : (ℓ : Loc nD τ sig) → Buf (Elt Ideal) ℓ) (c : Dev nD)

/-- Where each window's block sits: by rows of 512, or the whole array. -/
theorem idx (t : Fin grid0.N) : win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] ∧ win0_10.index t = ![0, 0] := by
  revert t; decide +kernel

/-- The rows of the arguments. -/
abbrev rowP (s : Fin 2048) : Fin 512 → EReal := fun k => m ((c : Thread nD τ).loc main_arg0) (ix2 s k)
abbrev rowQ (s : Fin 2048) : Fin 512 → EReal := fun k => m ((c : Thread nD τ).loc main_arg1) (ix2 s k)
abbrev rowB (s : Fin 2048) : Fin 1536 → EReal := fun k => m ((c : Thread nD τ).loc main_arg2) (ix2 s k)
abbrev rowX (s : Fin 2048) : Fin 1024 → EReal := fun k => m ((c : Thread nD τ).loc main_arg3) (ix2 s k)
abbrev gain : Fin 1024 → EReal := fun k => m ((c : Thread nD τ).loc main_arg4) (ix1 k)
abbrev wT : Fin 2560 → Fin 1024 → EReal := fun e d => m ((c : Thread nD τ).loc main_arg5) (ix2 d e)
abbrev rowD (s : Fin 2048) : Fin 1024 → EReal := fun k => m ((c : Thread nD τ).loc main_arg6) (ix2 s k)
abbrev rowS (s : Fin 2048) : Fin 2560 → EReal := side (rowP m c s) (rowQ m c s) (rowB m c s)

/-- The four result arrays. -/
def dxArr : S2048x1024.Idx → EReal := fun i => dxK (rowD m c (i 0)) (rowX m c (i 0)) (gain m c) (rowS m c (i 0)) (wT m c) (i 1)
def hArr : S2048x1024.Idx → EReal := fun i => rowX m c (i 0) (i 1) * rinv (rowX m c (i 0)) * gain m c (i 1)
def dpArr : S2048x2560.Idx → EReal := fun i => rowS m c (i 0) (i 1)
def dgArr : S1x1024.Idx → EReal :=
  fun i => ∑ s : Fin 2048, back (rowS m c s) (wT m c) (i 1) * (rowX m c s (i 1) * rinv (rowX m c s))

section blocks
variable (t : Fin cfg0.N)

/-- The array row of a block's row. -/
abbrev at512 (a : Fin 512) : Fin 2048 := ⟨t.val * 512 + a.val, by have h : t.val < 4 := t.isLt; omega⟩

theorem blk0 (a : Fin 512) (b : Fin 512) : iblk m c 0 t (ix2 a b) = rowP m c (at512 t a) b := by
  blk_simp [iblk, V, idx t]; entry_read; pointwise; blk_ext [iblk, V, idx t]

theorem blk1 (a : Fin 512) (b : Fin 512) : iblk m c 1 t (ix2 a b) = rowQ m c (at512 t a) b := by
  blk_simp [iblk, V, idx t]; entry_read; pointwise; blk_ext [iblk, V, idx t]

theorem blk2 (a : Fin 512) (b : Fin 1536) : iblk m c 2 t (ix2 a b) = rowB m c (at512 t a) b := by
  blk_simp [iblk, V, idx t]; entry_read; pointwise; blk_ext [iblk, V, idx t]

theorem blk3 (a : Fin 512) (b : Fin 1024) : iblk m c 3 t (ix2 a b) = rowX m c (at512 t a) b := by
  blk_ext! [iblk, V, idx t]

theorem blk4 (a : Fin 1) (b : Fin 1024) : iblk m c 4 t (ix2 a b) = gain m c b := by
  blk_simp [iblk, V, idx t]; entry_read; pointwise; blk_ext [iblk, V, idx t]

theorem blk5 (a : Fin 2560) (b : Fin 1024) : iblk m c 5 t (ix2 a b) = wT m c a b := by
  blk_simp [iblk, V, idx t]; entry_read; pointwise; blk_ext [iblk, V, idx t]

theorem blk6 (a : Fin 512) (b : Fin 1024) : iblk m c 6 t (ix2 a b) = rowD m c (at512 t a) b := by
  blk_ext! [iblk, V, idx t]

/-- The array entry of a block's entry in the three results stored by rows. -/
theorem emb7 (a : Fin 512) (b : Fin 1024) (G : S2048x1024.Idx → EReal) :
    G (((View.whole main_v6_0).slice (win0_7.rect t)).emb (ix2 a b)) = G (ix2 (at512 t a) b) := by
  blk_ext [idx t]

theorem emb8 (a : Fin 512) (b : Fin 1024) (G : S2048x1024.Idx → EReal) :
    G (((View.whole main_v6_1).slice (win0_8.rect t)).emb (ix2 a b)) = G (ix2 (at512 t a) b) := by
  blk_ext [idx t]

theorem emb9 (a : Fin 512) (b : Fin 2560) (G : S2048x2560.Idx → EReal) :
    G (((View.whole main_v6_2).slice (win0_9.rect t)).emb (ix2 a b)) = G (ix2 (at512 t a) b) := by
  blk_ext [idx t]

end blocks

/-- The gradient of the rows: result 0. -/
theorem dx_arr : (dats (F := Ideal) m 0 c).arrAt 7 cfg0.N = dxArr m c := by
  refine (dats m 0 c).arrAt_eq_of_covers 7 _ (by decide +kernel) fun t hf y => ?_
  blk_simp
  rw [after0_7]
  by_cases h0 : t.val % 4 = 0
  · rw [outsAt0_A m c t h0]
    dsimp only
    frame_out
    unfold_payloads
    idx_vars y
    refine Eq.trans ?_ (emb7 t _ _ (dxArr m c)).symm
    pointwise
    simp only [blk0, blk1, blk2, blk3, blk4, blk5, blk6]
    rfl
  · rw [outsAt0_B m c t h0]
    dsimp only
    frame_out
    unfold_payloads
    idx_vars y
    refine Eq.trans ?_ (emb7 t _ _ (dxArr m c)).symm
    pointwise
    simp only [blk0, blk1, blk2, blk3, blk4, blk5, blk6]
    rfl

/-- The normed rows: result 1. -/
theorem h_arr : (dats (F := Ideal) m 0 c).arrAt 8 cfg0.N = hArr m c := by
  refine (dats m 0 c).arrAt_eq_of_covers 8 _ (by decide +kernel) fun t hf y => ?_
  blk_simp
  rw [after0_8]
  by_cases h0 : t.val % 4 = 0
  · rw [outsAt0_A m c t h0]
    dsimp only
    frame_out
    unfold_payloads
    idx_vars y
    refine Eq.trans ?_ (emb8 t _ _ (hArr m c)).symm
    pointwise
    simp only [blk3, blk4]
    rfl
  · rw [outsAt0_B m c t h0]
    dsimp only
    frame_out
    unfold_payloads
    idx_vars y
    refine Eq.trans ?_ (emb8 t _ _ (hArr m c)).symm
    pointwise
    simp only [blk3, blk4]
    rfl

/-- The three gradients side by side: result 2. -/
theorem dp_arr : (dats (F := Ideal) m 0 c).arrAt 9 cfg0.N = dpArr m c := by
  refine (dats m 0 c).arrAt_eq_of_covers 9 _ (by decide +kernel) fun t hf y => ?_
  blk_simp
  rw [after0_9]
  by_cases h0 : t.val % 4 = 0
  · rw [outsAt0_A m c t h0]
    dsimp only
    frame_out
    unfold_payloads
    idx_vars y
    refine Eq.trans ?_ (emb9 t _ _ (dpArr m c)).symm
    pointwise
    simp only [blk0, blk1, blk2]
    rfl
  · rw [outsAt0_B m c t h0]
    dsimp only
    frame_out
    unfold_payloads
    idx_vars y
    refine Eq.trans ?_ (emb9 t _ _ (dpArr m c)).symm
    pointwise
    simp only [blk0, blk1, blk2]
    rfl

/-- The gradient of the gain: result 3, summed over the four blocks of rows. -/
theorem dg_arr : (dats (F := Ideal) m 0 c).arrAt 10 cfg0.N = dgArr m c := by
  refine (dats m 0 c).arrAt_eq_of_after_last 10 t0_3 (by decide +kernel) _ fun j => ?_
  blk_simp
  rw [after0_10]
  refine (Pipeline.eq_sum_fin_of_reset_step_apply_last (fun n h => (outsAt0 m c n h).2.2.2) 4 (fun _ => 0)
    (fun t j => ∑ a : Fin 512, back (rowS m c (at512 t a)) (wT m c) (j 1) * (rowX m c (at512 t a) (j 1) * rinv (rowX m c (at512 t a))))
    (fun t h j => ?_) (fun t h j => ?_) (by decide) t0_3 rfl j).trans ?_
  · rw [outsAt0_A m c t h]
    dsimp only
    frame_out
    unfold_payloads
    idx_vars j
    pointwise
    simp only [blk0, blk1, blk2, blk3, blk4, blk5, blk6]
    rfl
  · rw [outsAt0_B m c t h]
    dsimp only
    frame_out
    unfold_payloads
    idx_vars j
    pointwise
    simp only [blk0, blk1, blk2, blk3, blk4, blk5, blk6]
    rfl
  · idx_vars j
    rw [zero_add]
    exact Fin.sum_mul_add_congr fun t a hl => rfl

end Cert.Proof.NormIn
-- ==== Proof.InReference.lean ====
module

public import proofs.«01_k».proof.Proof.InFormula
public import proofs.«01_k».proof.Proof.Gen.Reference2Ideal.Run
public import proofs.«01_k».proof.Proof.Gen.Reference2Ideal.Read

/-!
What the reference's four results are, as the row formulas at the argument arrays.
-/

@[expose] public section
set_option maxRecDepth 16384
noncomputable section
namespace Cert.Proof.NormIn.Ref
open Cert.Reference2Ideal Cert.Reference2Ideal.Gen Cert.Reference2Ideal.Read Idealize.ShloMosaic Idealize.ShloMosaic.TcCoe

variable (x0 x1 : (⟨S2048x512, .f32⟩ : BufTy).Contents (Elt Ideal)) (x2 : (⟨S2048x1536, .f32⟩ : BufTy).Contents (Elt Ideal))
  (x3 : (⟨S2048x1024, .f32⟩ : BufTy).Contents (Elt Ideal)) (x4 : (⟨S1024, .f32⟩ : BufTy).Contents (Elt Ideal))
  (x5 : (⟨S1024x2560, .f32⟩ : BufTy).Contents (Elt Ideal)) (x6 : (⟨S2048x1024, .f32⟩ : BufTy).Contents (Elt Ideal))

theorem dx_val (s : Fin 2048) (d : Fin 1024) : val_main_v39 x0 x1 x2 x3 x4 x5 x6 (ix2 s d)
    = dxR (fun k => x6 (ix2 s k)) (fun k => x3 (ix2 s k)) (fun k => x4 (ix1 k))
      (side (fun k => x0 (ix2 s k)) (fun k => x1 (ix2 s k)) (fun k => x2 (ix2 s k))) (fun e k => x5 (ix2 k e)) d := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_v22, val_main_v23, val_main_cst_4, val_main_v24, val_main_v25,
    val_main_cst_5, val_main_v26, val_main_v27, val_main_v28, val_main_v29, val_main_v30, val_main_v31, val_main_cst_6,
    val_main_v32, val_main_v33, val_main_cst_7, val_main_v34, val_main_v35, val_main_v36, val_main_v37, val_main_v38,
    val_main_v39, val_main_v40, val_main_cst_8, val_main_v41, val_main_v42, val_main_cst_9, val_main_v43, val_main_v44,
    val_main_cst_10, val_main_v45, val_main_v46, val_main_v47, val_main_v48, val_main_v49, val_main_v50, val_main_v51,
    val_main_v52, val_main_v53, val_main_v54, val_main_v55]
  rw [Fin.sum_univ_one]
  rfl

theorem h_val (s : Fin 2048) (d : Fin 1024) : val_main_v53 x3 x4 (ix2 s d)
    = x3 (ix2 s d) * rinv (fun k => x3 (ix2 s k)) * x4 (ix1 d) := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_v22, val_main_v23, val_main_cst_4, val_main_v24, val_main_v25,
    val_main_cst_5, val_main_v26, val_main_v27, val_main_v28, val_main_v29, val_main_v30, val_main_v31, val_main_cst_6,
    val_main_v32, val_main_v33, val_main_cst_7, val_main_v34, val_main_v35, val_main_v36, val_main_v37, val_main_v38,
    val_main_v39, val_main_v40, val_main_cst_8, val_main_v41, val_main_v42, val_main_cst_9, val_main_v43, val_main_v44,
    val_main_cst_10, val_main_v45, val_main_v46, val_main_v47, val_main_v48, val_main_v49, val_main_v50, val_main_v51,
    val_main_v52, val_main_v53, val_main_v54, val_main_v55]
  rfl

theorem dp_val (s : Fin 2048) (e : Fin 2560) : val_main_v54 x0 x1 x2 (ix2 s e)
    = side (fun k => x0 (ix2 s k)) (fun k => x1 (ix2 s k)) (fun k => x2 (ix2 s k)) e := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_v22, val_main_v23, val_main_cst_4, val_main_v24, val_main_v25,
    val_main_cst_5, val_main_v26, val_main_v27, val_main_v28, val_main_v29, val_main_v30, val_main_v31, val_main_cst_6,
    val_main_v32, val_main_v33, val_main_cst_7, val_main_v34, val_main_v35, val_main_v36, val_main_v37, val_main_v38,
    val_main_v39, val_main_v40, val_main_cst_8, val_main_v41, val_main_v42, val_main_cst_9, val_main_v43, val_main_v44,
    val_main_cst_10, val_main_v45, val_main_v46, val_main_v47, val_main_v48, val_main_v49, val_main_v50, val_main_v51,
    val_main_v52, val_main_v53, val_main_v54, val_main_v55]
  rfl

theorem dg_val (z : Fin 1) (d : Fin 1024) : val_main_v55 x0 x1 x2 x3 x5 (ix2 z d)
    = ∑ s : Fin 2048, x3 (ix2 s d) * rinv (fun k => x3 (ix2 s k)) *
        back (side (fun k => x0 (ix2 s k)) (fun k => x1 (ix2 s k)) (fun k => x2 (ix2 s k))) (fun e k => x5 (ix2 k e)) d := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v12, val_main_v13, val_main_v14, val_main_v15, val_main_v16, val_main_v17, val_main_v18, val_main_v19,
    val_main_cst_3, val_main_v20, val_main_v21, val_main_v22, val_main_v23, val_main_cst_4, val_main_v24, val_main_v25,
    val_main_cst_5, val_main_v26, val_main_v27, val_main_v28, val_main_v29, val_main_v30, val_main_v31, val_main_cst_6,
    val_main_v32, val_main_v33, val_main_cst_7, val_main_v34, val_main_v35, val_main_v36, val_main_v37, val_main_v38,
    val_main_v39, val_main_v40, val_main_cst_8, val_main_v41, val_main_v42, val_main_cst_9, val_main_v43, val_main_v44,
    val_main_cst_10, val_main_v45, val_main_v46, val_main_v47, val_main_v48, val_main_v49, val_main_v50, val_main_v51,
    val_main_v52, val_main_v53, val_main_v54, val_main_v55]
  rw [Fin.sum_univ_one]
  rfl

end Cert.Proof.NormIn.Ref
-- ==== Proof.InEquation.lean ====
module

public import proofs.«01_k».proof.Defs
public import proofs.«01_k».proof.Proof.Gen.Pre_finite_in
public import proofs.«01_k».proof.Proof.InKernel
public import proofs.«01_k».proof.Proof.InReference

/-!
The gradient kernel of the projected root-mean-square norm computes the derivative of the forward lines.
-/

@[expose] public section
noncomputable section
namespace Cert.Proof.NormIn
open Idealize.ShloMosaic Idealize.ShloMosaic.TcCoe Idealize.SL.Sem Cert.Proof.Reals

/-- From finite arguments, the kernel's gradient of the rows is the reference's. -/
theorem dx_result (m : (ℓ : Loc Cert.Kernel2Ideal.nD Cert.Kernel2Ideal.τ Cert.Kernel2Ideal.sig) → Buf (Elt Ideal) ℓ)
    (h : Cert.Pre_Kernel2Ideal_finite_in m) (c : Dev Cert.Kernel2Ideal.nD) :
    dxArr m c = Cert.Reference2Ideal.Read.val_main_v39 (F := Ideal)
      (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg4))
      (m ((c : Thread Cert.Kernel2Ideal.nD Cert.Kernel2Ideal.τ).loc Cert.Kernel2Ideal.main_arg5))
      (m ((c : Thread Cert.Kernel2Ideal.nD Cert.Kernel2Ideal.τ).loc Cert.Kernel2Ideal.main_arg6)) := by
  obtain ⟨h0, h1, h2, h3, h4, h5⟩ := h c
  obtain ⟨f0, h0⟩ := finite_real _ fun i => congrFun h0 i
  obtain ⟨f1, h1⟩ := finite_real _ fun i => congrFun h1 i
  obtain ⟨f2, h2⟩ := finite_real _ fun i => congrFun h2 i
  obtain ⟨f3, h3⟩ := finite_real _ fun i => congrFun h3 i
  obtain ⟨f4, h4⟩ := finite_real _ fun i => congrFun h4 i
  obtain ⟨f5, h5⟩ := finite_real _ fun i => congrFun h5 i
  funext i
  obtain ⟨s, d, rfl⟩ : ∃ (s : Fin 2048) (d : Fin 1024), i = ix2 s d := ⟨i 0, i 1, eq_ix2 i⟩
  refine Eq.trans ?_ (Ref.dx_val _ _ _ _ _ _ _ s d).symm
  exact dx_eq _ _ _ _ _ ⟨_, fun k => h3 _⟩ ⟨_, fun k => h4 _⟩
    (side_real _ _ _ ⟨_, fun k => h0 _⟩ ⟨_, fun k => h1 _⟩ ⟨_, fun k => h2 _⟩) ⟨fun i j => f5 (ix2 j i), fun i j => h5 _⟩ d

/-- The gradient of the gain, whose factors stand in the other order. -/
theorem dg_result (m : (ℓ : Loc Cert.Kernel2Ideal.nD Cert.Kernel2Ideal.τ Cert.Kernel2Ideal.sig) → Buf (Elt Ideal) ℓ)
    (c : Dev Cert.Kernel2Ideal.nD) :
    dgArr m c = Cert.Reference2Ideal.Read.val_main_v55 (F := Ideal)
      (m ((c : Thread Cert.Kernel2Ideal.nD Cert.Kernel2Ideal.τ).loc Cert.Kernel2Ideal.main_arg0))
      (m ((c : Thread Cert.Kernel2Ideal.nD Cert.Kernel2Ideal.τ).loc Cert.Kernel2Ideal.main_arg1))
      (m ((c : Thread Cert.Kernel2Ideal.nD Cert.Kernel2Ideal.τ).loc Cert.Kernel2Ideal.main_arg2))
      (m ((c : Thread Cert.Kernel2Ideal.nD Cert.Kernel2Ideal.τ).loc Cert.Kernel2Ideal.main_arg3))
      (m ((c : Thread Cert.Kernel2Ideal.nD Cert.Kernel2Ideal.τ).loc Cert.Kernel2Ideal.main_arg5)) := by
  funext i
  obtain ⟨z, d, rfl⟩ : ∃ (z : Fin 1) (d : Fin 1024), i = ix2 z d := ⟨i 0, i 1, eq_ix2 i⟩
  refine Eq.trans ?_ (Ref.dg_val _ _ _ _ _ z d).symm
  exact Finset.sum_congr rfl fun s _ => mul_comm _ _

/-- The value claim. -/
theorem algebraic : Cert.algebraic_Kernel2Ideal_Reference2Ideal_pre_finite_in := by
  intro m g m' g' hpre hag
  refine ⟨dxArr m, hArr m, dpArr m, dgArr m, ?_, ?_⟩
  · refine (θ_run Cert.Kernel2Ideal.defs _ _).mono (fun r h c => ?_) (Cert.Kernel2Ideal.Value.run_blocks (F := Ideal) m g)
    obtain ⟨r0, r1, r2, r3, ha⟩ := h c
    exact ⟨r0.trans (dx_arr m c), r1.trans (h_arr m c), r2.trans (dp_arr m c), r3.trans (dg_arr m c), ha⟩
  · refine (θ_run Cert.Reference2Ideal.defs _ _).mono (fun r h c => ?_) (Cert.Reference2Ideal.Value.run (F := Ideal) m' g')
    obtain ⟨r0, r1, r2, r3, ha⟩ := h c
    obtain ⟨a0, a1, a2, a3, a4, a5, a6⟩ := hag c
    refine ⟨r0.trans ?_, r1.trans ?_, r2.trans ?_, r3.trans ?_, ha⟩
    · rw [Cert.Reference2Ideal.Read.val_main_v39_eq, a0, a1, a2, a3, a4, a5, a6]
      exact (dx_result m hpre c).symm
    · refine (Cert.Reference2Ideal.Read.val_main_v53_eq _ _).trans ?_
      rw [a3, a4]
      funext i
      obtain ⟨s, d, rfl⟩ : ∃ (s : Fin 2048) (d : Fin 1024), i = ix2 s d := ⟨i 0, i 1, eq_ix2 i⟩
      exact Ref.h_val _ _ s d
    · refine (Cert.Reference2Ideal.Read.val_main_v54_eq _ _ _).trans ?_
      rw [a0, a1, a2]
      funext i
      obtain ⟨s, d, rfl⟩ : ∃ (s : Fin 2048) (d : Fin 2560), i = ix2 s d := ⟨i 0, i 1, eq_ix2 i⟩
      exact Ref.dp_val _ _ _ s d
    · refine (Cert.Reference2Ideal.Read.val_main_v55_eq _ _ _ _ _).trans ?_
      rw [a0, a1, a2, a3, a5]
      exact (dg_result m c).symm

/-- The reference's frame: its arguments stay, and it declares no counter. -/
theorem frame_reference : Cert.quiescent_Reference2Ideal := fun m g _ =>
  (θ_run Cert.Reference2Ideal.defs _ _).mono
    (fun r h => ⟨fun c => (h c).2.2.2.2, sem_eq_zero_of_no_sems (by decide) r.2⟩)
    (Cert.Reference2Ideal.Value.run (F := Ideal) m g)

end Cert.Proof.NormIn
-- ==== Proof.RmsRow.lean ====
module

public import proofs.«01_k».proof.Proof.Reals

/-!
The gradient of a root-mean-square norm with a gain, row by row and at any width: in the order the kernels compute it,
in the order the derivative of the forward lines computes it, and that the two agree when the arrays hold reals.
-/

@[expose] public section
noncomputable section
namespace Cert.Proof.RmsRow
open Idealize.ShloMosaic Cert.Proof.Reals

variable {n : ℕ} (N : EReal) (X g B : Fin n → EReal)

/-- What the root is taken of: the row's mean square and the epsilon. -/
def msq : EReal := Ideal.div (∑ k, X k * X k) N + Ideal.ofBits .f32 897988541#32

/-- The gradient of a row as the kernels form it; `B` is the gradient of the normed row. -/
def rmsK (d : Fin n) : EReal :=
  Ideal.rsqrt (msq N X) * (B d * g d -
    X d * Ideal.rsqrt (msq N X) * Ideal.div (∑ k, B k * g k * (X k * Ideal.rsqrt (msq N X))) N)

/-- The gradient of the row's mean square, as the derivative of the forward lines forms it. -/
def dms : EReal :=
  Ideal.div ((∑ k, X k * (B k * g k)) *
    (Ideal.ofBits .f32 0xBF000000#32 * Ideal.div (Ideal.rsqrt (msq N X)) (msq N X))) N

/-- The gradient of a row as the derivative of the forward lines forms it. -/
def rmsR (d : Fin n) : EReal := B d * g d * Ideal.rsqrt (msq N X) + X d * dms N X g B + dms N X g B * X d

/-- The identity of the two orders over the reals: `r` is the reciprocal root of `v`. -/
theorem real_row (v r x b T n : ℝ) (hr : r * r = 1 / v) :
    r * (b - x * r * (T * r / n)) = b * r + x * (T * (-(1 / 2) * (r / v)) / n) + T * (-(1 / 2) * (r / v)) / n * x := by
  have h : r / v = r * (r * r) := by rw [hr]; ring
  rw [h]; ring

/-- The root of a row of reals is real. -/
theorem rsqrt_real {N : EReal} {X : Fin n → EReal} (n' : ℝ) (hN : N = n') (hn : 0 < n')
    (hX : ∃ f : Fin n → ℝ, ∀ i, X i = f i) :
    ∃ v r : ℝ, 0 < v ∧ r * r = 1 / v ∧ msq N X = v ∧ Ideal.rsqrt (msq N X) = r := by
  obtain ⟨x, hX⟩ := hX
  have hv : 0 < (∑ k, x k * x k) / n' + eps := by
    have := eps_pos
    have : 0 ≤ ∑ k, x k * x k := Finset.sum_nonneg fun k _ => mul_self_nonneg _
    positivity
  have hV : msq N X = (((∑ k, x k * x k) / n' + eps : ℝ) : EReal) := by
    simp only [msq, hX, ← EReal.coe_mul, coe_sum, hN, lit_eps, coe_div _ _ hn.ne', ← EReal.coe_add]
  refine ⟨_, (Real.sqrt ((∑ k, x k * x k) / n' + eps))⁻¹, hv, ?_, hV, by rw [hV, coe_rsqrt _ hv]⟩
  rw [← mul_inv, Real.mul_self_sqrt hv.le, one_div]

/-- The two orders agree on rows of reals. -/
theorem rms_eq {N : EReal} {X g B : Fin n → EReal} (n' : ℝ) (hN : N = n') (hn : 0 < n')
    (hX : ∃ f : Fin n → ℝ, ∀ i, X i = f i) (hg : ∃ f : Fin n → ℝ, ∀ i, g i = f i)
    (hB : ∃ f : Fin n → ℝ, ∀ i, B i = f i) (d : Fin n) : rmsK N X g B d = rmsR N X g B d := by
  obtain ⟨v, r, hv, hr, hV, hR⟩ := rsqrt_real n' hN hn hX
  obtain ⟨x, hX⟩ := hX
  obtain ⟨c, hg⟩ := hg
  obtain ⟨b, hB⟩ := hB
  unfold rmsK rmsR dms
  rw [hR, hV]
  simp only [hB, hX, hg, hN, lit_neg_half, ← EReal.coe_mul, coe_sum, coe_div _ _ hv.ne', coe_div _ _ hn.ne',
    ← EReal.coe_sub, ← EReal.coe_add]
  congr 1
  have h1 : (∑ k, b k * c k * (x k * r)) = (∑ k, x k * (b k * c k)) * r := by
    rw [Finset.sum_mul]; exact Finset.sum_congr rfl fun k _ => by ring
  rw [h1]
  exact real_row v r _ _ _ _ hr

end Cert.Proof.RmsRow
-- ==== Proof.OutKernel.lean ====
module

public import proofs.«01_k».proof.Proof.RmsRow
public import proofs.«01_k».proof.Proof.Gen.Kernel3Ideal.Value
public import Idealize.ShloMosaic.Lib.Pipeline.ValueKit

/-!
What the five result arrays of the gradient through the group norms and the output projection hold after the kernel's
run, as row formulas at the argument arrays.
-/

@[expose] public section
set_option maxRecDepth 16384
noncomputable section
namespace Cert.Proof.NormOut
open Cert.Kernel3Ideal Cert.Kernel3Ideal.Gen Idealize.ShloMosaic Idealize.ShloMosaic.TcCoe Idealize.SL.Sem Cert.Proof.RmsRow

/-- The printed widths of the groups. -/
abbrev n256 : EReal := Ideal.ofBits .f32 0x43800000#32
abbrev n512 : EReal := Ideal.ofBits .f32 0x44000000#32

/-- A row of three pieces set side by side. -/
def side (p q : Fin 256 → EReal) (r : Fin 512 → EReal) (e : Fin 1024) : EReal :=
  if h : (e : ℕ) < 256 then p ⟨e, h⟩
  else if h' : (e : ℕ) - 256 < 256 then q ⟨e - 256, h'⟩ else r ⟨e - 256 - 256, by omega⟩

theorem side_congr {p p' q q' : Fin 256 → EReal} {r r' : Fin 512 → EReal} (e : Fin 1024) (hp : ∀ e, p e = p' e)
    (hq : ∀ e, q e = q' e) (hr : ∀ e, r e = r' e) : side p q r e = side p' q' r' e := by
  rw [funext hp, funext hq, funext hr]

theorem side_sum {k : ℕ} (p q : Fin k → Fin 256 → EReal) (r : Fin k → Fin 512 → EReal) (e : Fin 1024) :
    ∑ t, side (p t) (q t) (r t) e = side (fun e => ∑ t, p t e) (fun e => ∑ t, q t e) (fun e => ∑ t, r t e) e := by
  unfold side
  by_cases h : (e : ℕ) < 256
  · simp only [dif_pos h]
  · by_cases h' : (e : ℕ) - 256 < 256
    · simp only [dif_neg h, dif_pos h']
    · simp only [dif_neg h, dif_neg h']

/-- The three pieces of a row. -/
abbrev fst (f : Fin 1024 → EReal) (e : Fin 256) : EReal := f ⟨e, by omega⟩
abbrev snd (f : Fin 1024 → EReal) (e : Fin 256) : EReal := f ⟨256 + e, by omega⟩
abbrev trd (f : Fin 1024 → EReal) (e : Fin 512) : EReal := f ⟨512 + e, by omega⟩

/-- A normed row before its gain. -/
abbrev unit {n : ℕ} (N : EReal) (X : Fin n → EReal) (e : Fin n) : EReal := X e * Ideal.rsqrt (msq N X)

variable (m : (ℓ : Loc nD τ sig) → Buf (Elt Ideal) ℓ) (c : Dev nD)

/-- Where each window's block sits: by rows of 1024, or the whole array. -/
theorem idx (t : Fin grid0.N) : win0_0.index t = ![t.val, 0] ∧ win0_1.index t = ![t.val, 0] ∧ win0_2.index t = ![t.val, 0] ∧
    win0_3.index t = ![t.val, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] ∧ win0_10.index t = ![0, 0] := by
  revert t; decide +kernel

/-- The rows of the arguments, and the row of the gradient of the normed groups. -/
abbrev rowC (s : Fin 2048) : Fin 256 → EReal := fun k => m ((c : Thread nD τ).loc main_arg1) (ix2 s k)
abbrev rowS (s : Fin 2048) : Fin 256 → EReal := fun k => m ((c : Thread nD τ).loc main_arg2) (ix2 s k)
abbrev rowB (s : Fin 2048) : Fin 512 → EReal := fun k => m ((c : Thread nD τ).loc main_arg3) (ix2 s k)
abbrev gain : Fin 1024 → EReal := fun k => m ((c : Thread nD τ).loc main_arg4) (ix1 k)
abbrev rowD (s : Fin 2048) : Fin 1024 → EReal := fun k => m ((c : Thread nD τ).loc main_arg0) (ix2 s k)
abbrev wOut (e : Fin 1024) : Fin 1024 → EReal := fun k => m ((c : Thread nD τ).loc main_arg5) (ix2 e k)
abbrev dcat (s : Fin 2048) : Fin 1024 → EReal := fun e => ∑ d : Fin 1024, rowD m c s d * wOut m c e d
abbrev units (s : Fin 2048) : Fin 1024 → EReal :=
  side (unit n256 (rowC m c s)) (unit n256 (rowS m c s)) (unit n512 (rowB m c s))

/-- The five result arrays. -/
def dcArr : S2048x256.Idx → EReal := fun i => rmsK n256 (rowC m c (i 0)) (fst (gain m c)) (fst (dcat m c (i 0))) (i 1)
def dsArr : S2048x256.Idx → EReal := fun i => rmsK n256 (rowS m c (i 0)) (snd (gain m c)) (snd (dcat m c (i 0))) (i 1)
def dbArr : S2048x512.Idx → EReal := fun i => rmsK n512 (rowB m c (i 0)) (trd (gain m c)) (trd (dcat m c (i 0))) (i 1)
def catArr : S2048x1024.Idx → EReal := fun i => units m c (i 0) (i 1) * gain m c (i 1)
def dgArr : S1x1024.Idx → EReal := fun i =>
  side (fun e => ∑ s, fst (dcat m c s) e * unit n256 (rowC m c s) e)
    (fun e => ∑ s, snd (dcat m c s) e * unit n256 (rowS m c s) e)
    (fun e => ∑ s, trd (dcat m c s) e * unit n512 (rowB m c s) e) (i 1)

section blocks
variable (t : Fin cfg0.N)

/-- The array row of a block's row. -/
abbrev atRow (a : Fin 1024) : Fin 2048 := ⟨t.val * 1024 + a.val, by have h : t.val < 2 := t.isLt; omega⟩

theorem blk0 (a b : Fin 1024) : iblk m c 0 t (ix2 a b) = rowD m c (atRow t a) b := by
  blk_ext! [iblk, V, idx t]

theorem blk1 (a : Fin 1024) (b : Fin 256) : iblk m c 1 t (ix2 a b) = rowC m c (atRow t a) b := by
  blk_ext! [iblk, V, idx t]

theorem blk2 (a : Fin 1024) (b : Fin 256) : iblk m c 2 t (ix2 a b) = rowS m c (atRow t a) b := by
  blk_ext! [iblk, V, idx t]

theorem blk3 (a : Fin 1024) (b : Fin 512) : iblk m c 3 t (ix2 a b) = rowB m c (atRow t a) b := by
  blk_ext! [iblk, V, idx t]

theorem blk4 (a : Fin 1) (b : Fin 1024) : iblk m c 4 t (ix2 a b) = gain m c b := by
  blk_simp [iblk, V, idx t]; entry_read; pointwise; blk_ext [iblk, V, idx t]

theorem blk5 (a b : Fin 1024) : iblk m c 5 t (ix2 a b) = wOut m c a b := by
  blk_simp [iblk, V, idx t]; entry_read; pointwise; blk_ext [iblk, V, idx t]

/-- The array entry of a block's entry in the results stored by rows. -/
theorem emb6 (a : Fin 1024) (b : Fin 256) (G : S2048x256.Idx → EReal) :
    G (((View.whole main_v3_0).slice (win0_6.rect t)).emb (ix2 a b)) = G (ix2 (atRow t a) b) := by
  blk_ext [idx t]

theorem emb7 (a : Fin 1024) (b : Fin 256) (G : S2048x256.Idx → EReal) :
    G (((View.whole main_v3_1).slice (win0_7.rect t)).emb (ix2 a b)) = G (ix2 (atRow t a) b) := by
  blk_ext [idx t]

theorem emb8 (a : Fin 1024) (b : Fin 512) (G : S2048x512.Idx → EReal) :
    G (((View.whole main_v3_2).slice (win0_8.rect t)).emb (ix2 a b)) = G (ix2 (atRow t a) b) := by
  blk_ext [idx t]

theorem emb9 (a b : Fin 1024) (G : S2048x1024.Idx → EReal) :
    G (((View.whole main_v3_3).slice (win0_9.rect t)).emb (ix2 a b)) = G (ix2 (atRow t a) b) := by
  blk_ext [idx t]

end blocks

/-- The gradient of the first group: result 0. -/
theorem dc_arr : (dats (F := Ideal) m 0 c).arrAt 6 cfg0.N = dcArr m c := by
  refine (dats m 0 c).arrAt_eq_of_covers 6 _ (by decide +kernel) fun t hf y => ?_
  blk_simp
  rw [after0_6]
  by_cases h0 : t.val % 2 = 0
  · rw [outsAt0_A m c t h0]
    dsimp only
    frame_out
    unfold_payloads
    idx_vars y
    refine Eq.trans ?_ (emb6 t _ _ (dcArr m c)).symm
    pointwise
    simp only [blk0, blk1, blk4, blk5]
    rfl
  · rw [outsAt0_B m c t h0]
    dsimp only
    frame_out
    unfold_payloads
    idx_vars y
    refine Eq.trans ?_ (emb6 t _ _ (dcArr m c)).symm
    pointwise
    simp only [blk0, blk1, blk4, blk5]
    rfl

/-- The gradient of the second group: result 1. -/
theorem ds_arr : (dats (F := Ideal) m 0 c).arrAt 7 cfg0.N = dsArr m c := by
  refine (dats m 0 c).arrAt_eq_of_covers 7 _ (by decide +kernel) fun t hf y => ?_
  blk_simp
  rw [after0_7]
  by_cases h0 : t.val % 2 = 0
  · rw [outsAt0_A m c t h0]
    dsimp only
    frame_out
    unfold_payloads
    idx_vars y
    refine Eq.trans ?_ (emb7 t _ _ (dsArr m c)).symm
    pointwise
    simp only [blk0, blk2, blk4, blk5]
    rfl
  · rw [outsAt0_B m c t h0]
    dsimp only
    frame_out
    unfold_payloads
    idx_vars y
    refine Eq.trans ?_ (emb7 t _ _ (dsArr m c)).symm
    pointwise
    simp only [blk0, blk2, blk4, blk5]
    rfl

/-- The gradient of the third group: result 2. -/
theorem db_arr : (dats (F := Ideal) m 0 c).arrAt 8 cfg0.N = dbArr m c := by
  refine (dats m 0 c).arrAt_eq_of_covers 8 _ (by decide +kernel) fun t hf y => ?_
  blk_simp
  rw [after0_8]
  by_cases h0 : t.val % 2 = 0
  · rw [outsAt0_A m c t h0]
    dsimp only
    frame_out
    unfold_payloads
    idx_vars y
    refine Eq.trans ?_ (emb8 t _ _ (dbArr m c)).symm
    pointwise
    simp only [blk0, blk3, blk4, blk5]
    rfl
  · rw [outsAt0_B m c t h0]
    dsimp only
    frame_out
    unfold_payloads
    idx_vars y
    refine Eq.trans ?_ (emb8 t _ _ (dbArr m c)).symm
    pointwise
    simp only [blk0, blk3, blk4, blk5]
    rfl

/-- The normed groups: result 3. -/
theorem cat_arr : (dats (F := Ideal) m 0 c).arrAt 9 cfg0.N = catArr m c := by
  refine (dats m 0 c).arrAt_eq_of_covers 9 _ (by decide +kernel) fun t hf y => ?_
  blk_simp
  rw [after0_9]
  by_cases h0 : t.val % 2 = 0
  · rw [outsAt0_A m c t h0]
    dsimp only
    frame_out
    unfold_payloads
    idx_vars y
    refine Eq.trans ?_ (emb9 t _ _ (catArr m c)).symm
    pointwise
    simp only [blk1, blk2, blk3, blk4]
    rfl
  · rw [outsAt0_B m c t h0]
    dsimp only
    frame_out
    unfold_payloads
    idx_vars y
    refine Eq.trans ?_ (emb9 t _ _ (catArr m c)).symm
    pointwise
    simp only [blk1, blk2, blk3, blk4]
    rfl

set_option maxHeartbeats 2000000 in
/-- The gradient of the gain: result 4, summed over the two blocks of rows. -/
theorem dg_arr : (dats (F := Ideal) m 0 c).arrAt 10 cfg0.N = dgArr m c := by
  refine (dats m 0 c).arrAt_eq_of_after_last 10 t0_1 (by decide +kernel) _ fun j => ?_
  blk_simp
  rw [after0_10]
  refine (Pipeline.eq_sum_fin_of_reset_step_apply_last (fun n h => (outsAt0 m c n h).2.2.2.2) 2 (fun _ => 0)
    (fun t j => side (fun e => ∑ a, fst (dcat m c (atRow t a)) e * unit n256 (rowC m c (atRow t a)) e)
      (fun e => ∑ a, snd (dcat m c (atRow t a)) e * unit n256 (rowS m c (atRow t a)) e)
      (fun e => ∑ a, trd (dcat m c (atRow t a)) e * unit n512 (rowB m c (atRow t a)) e) (j 1))
    (fun t h j => ?_) (fun t h j => ?_) (by decide) t0_1 rfl j).trans ?_
  · rw [outsAt0_A m c t h]
    dsimp only
    frame_out
    unfold_payloads
    idx_vars j
    pointwise
    simp only [blk0, blk1, blk2, blk3, blk4, blk5]
    rfl
  · rw [outsAt0_B m c t h]
    dsimp only
    frame_out
    unfold_payloads
    idx_vars j
    pointwise
    simp only [blk0, blk1, blk2, blk3, blk4, blk5]
    rfl
  · idx_vars j
    rw [zero_add]
    refine (side_sum _ _ _ _).trans ?_
    exact side_congr _ (fun e => Fin.sum_mul_add_congr fun t a hl => rfl) (fun e => Fin.sum_mul_add_congr fun t a hl => rfl)
      (fun e => Fin.sum_mul_add_congr fun t a hl => rfl)

end Cert.Proof.NormOut
-- ==== Proof.OutReference.lean ====
module

public import proofs.«01_k».proof.Proof.OutKernel
public import proofs.«01_k».proof.Proof.Gen.Reference3Ideal.Run
public import proofs.«01_k».proof.Proof.Gen.Reference3Ideal.Read

/-!
What the reference's five results are, as row formulas at the argument arrays.
-/

@[expose] public section
set_option maxRecDepth 16384
noncomputable section
namespace Cert.Proof.NormOut.Ref
open Cert.Reference3Ideal Cert.Reference3Ideal.Gen Cert.Reference3Ideal.Read Idealize.ShloMosaic Idealize.ShloMosaic.TcCoe
open Cert.Proof.RmsRow

variable (x0 : (⟨S2048x1024, .f32⟩ : BufTy).Contents (Elt Ideal)) (x1 x2 : (⟨S2048x256, .f32⟩ : BufTy).Contents (Elt Ideal))
  (x3 : (⟨S2048x512, .f32⟩ : BufTy).Contents (Elt Ideal)) (x4 : (⟨S1024, .f32⟩ : BufTy).Contents (Elt Ideal))
  (x5 : (⟨S1024x1024, .f32⟩ : BufTy).Contents (Elt Ideal))

/-- A row of the gradient of the normed groups. -/
abbrev back (s : Fin 2048) : Fin 1024 → EReal := fun e => ∑ d : Fin 1024, x0 (ix2 s d) * x5 (ix2 e d)

theorem dc_val (s : Fin 2048) (d : Fin 256) : val_main_v119 x0 x1 x4 x5 (ix2 s d)
    = rmsR n256 (fun k => x1 (ix2 s k)) (fst fun k => x4 (ix1 k)) (fst (back x0 x5 s)) d := by
  pointwise [val_main_v0, val_main_v1, val_main_cst, val_main_v2, val_main_v3, val_main_cst_0, val_main_v4, val_main_v5,
    val_main_cst_1, val_main_v6, val_main_v7, val_main_v8, val_main_v9, val_main_cst_2, val_main_v10, val_main_v11,
    val_main_v14, val_main_v53, val_main_v54, val_main_v103, val_main_v104, val_main_v106, val_main_cst_25,
    val_main_v107, val_main_v108, val_main_v109, val_main_v110, val_main_v111, val_main_cst_26, val_main_v112,
    val_main_v113, val_main_cst_27, val_main_v114, val_main_v115, val_main_v116, val_main_v117, val_main_v118,
    val_main_v119]
  rw [Fin.sum_univ_one]
  rfl

theorem ds_val (s : Fin 2048) (d : Fin 256) : val_main_v97 x0 x2 x4 x5 (ix2 s d)
    = rmsR n256 (fun k => x2 (ix2 s k)) (snd fun k => x4 (ix1 k)) (snd (back x0 x5 s)) d := by
  pointwise [val_main_v17, val_main_v18, val_main_cst_3, val_main_v19, val_main_v20, val_main_cst_4, val_main_v21,
    val_main_v22, val_main_cst_5, val_main_v23, val_main_v24, val_main_v25, val_main_v26, val_main_cst_6,
    val_main_v27, val_main_v28, val_main_v31, val_main_v53, val_main_v55, val_main_v81, val_main_v82, val_main_v84,
    val_main_cst_19, val_main_v85, val_main_v86, val_main_v87, val_main_v88, val_main_v89, val_main_cst_20,
    val_main_v90, val_main_v91, val_main_cst_21, val_main_v92, val_main_v93, val_main_v94, val_main_v95,
    val_main_v96, val_main_v97]
  rw [Fin.sum_univ_one]
  rfl

theorem db_val (s : Fin 2048) (d : Fin 512) : val_main_v76 x0 x3 x4 x5 (ix2 s d)
    = rmsR n512 (fun k => x3 (ix2 s k)) (trd fun k => x4 (ix1 k)) (trd (back x0 x5 s)) d := by
  pointwise [val_main_v34, val_main_v35, val_main_cst_7, val_main_v36, val_main_v37, val_main_cst_8, val_main_v38,
    val_main_v39, val_main_cst_9, val_main_v40, val_main_v41, val_main_v42, val_main_v43, val_main_cst_10,
    val_main_v44, val_main_v45, val_main_v48, val_main_v53, val_main_v56, val_main_v60, val_main_v61, val_main_v63,
    val_main_cst_13, val_main_v64, val_main_v65, val_main_v66, val_main_v67, val_main_v68, val_main_cst_14,
    val_main_v69, val_main_v70, val_main_cst_15, val_main_v71, val_main_v72, val_main_v73, val_main_v74,
    val_main_v75, val_main_v76]
  rw [Fin.sum_univ_one]
  rfl

theorem cat_val (s : Fin 2048) (e : Fin 1024) : val_main_v122 x1 x2 x3 x4 (ix2 s e)
    = side (unit n256 fun k => x1 (ix2 s k)) (unit n256 fun k => x2 (ix2 s k)) (unit n512 fun k => x3 (ix2 s k)) e * x4 (ix1 e) := by
  pointwise [val_main_v0, val_main_v1, val_main_cst, val_main_v2, val_main_v3, val_main_cst_0, val_main_v4, val_main_v5,
    val_main_cst_1, val_main_v6, val_main_v7, val_main_v8, val_main_v12, val_main_v13, val_main_v14, val_main_v15,
    val_main_v16, val_main_v17, val_main_v18, val_main_cst_3, val_main_v19, val_main_v20, val_main_cst_4,
    val_main_v21, val_main_v22, val_main_cst_5, val_main_v23, val_main_v24, val_main_v25, val_main_v29,
    val_main_v30, val_main_v31, val_main_v32, val_main_v33, val_main_v34, val_main_v35, val_main_cst_7,
    val_main_v36, val_main_v37, val_main_cst_8, val_main_v38, val_main_v39, val_main_cst_9, val_main_v40,
    val_main_v41, val_main_v42, val_main_v46, val_main_v47, val_main_v48, val_main_v49, val_main_v50, val_main_v51,
    val_main_v122]
  unfold side
  split
  · rfl
  · split
    · exact congrArg (fun q => unit n256 (fun k => x2 (ix2 s k)) ⟨e - 256, by omega⟩ * x4 (ix1 q))
        (Fin.ext (show 256 + ((e : ℕ) - 256) = e by omega))
    · exact congrArg (fun q => unit n512 (fun k => x3 (ix2 s k)) ⟨e - 256 - 256, by omega⟩ * x4 (ix1 q))
        (Fin.ext (show 512 + ((e : ℕ) - 256 - 256) = e by omega))

theorem dg_val (z : Fin 1) (e : Fin 1024) : val_main_v123 x0 x1 x2 x3 x5 (ix2 z e)
    = side (fun e => ∑ s, unit n256 (fun k => x1 (ix2 s k)) e * fst (back x0 x5 s) e)
        (fun e => ∑ s, unit n256 (fun k => x2 (ix2 s k)) e * snd (back x0 x5 s) e)
        (fun e => ∑ s, unit n512 (fun k => x3 (ix2 s k)) e * trd (back x0 x5 s) e) e := by
  pointwise [val_main_v1, val_main_cst, val_main_v2, val_main_v3, val_main_cst_0, val_main_v4, val_main_v5, val_main_cst_1,
    val_main_v6, val_main_v7, val_main_v8, val_main_v12, val_main_v13, val_main_v18, val_main_cst_3, val_main_v19,
    val_main_v20, val_main_cst_4, val_main_v21, val_main_v22, val_main_cst_5, val_main_v23, val_main_v24,
    val_main_v25, val_main_v29, val_main_v30, val_main_v35, val_main_cst_7, val_main_v36, val_main_v37,
    val_main_cst_8, val_main_v38, val_main_v39, val_main_cst_9, val_main_v40, val_main_v41, val_main_v42,
    val_main_v46, val_main_v47, val_main_v53, val_main_v54, val_main_v55, val_main_v56, val_main_v57,
    val_main_cst_11, val_main_v58, val_main_v59, val_main_cst_12, val_main_v62, val_main_cst_16, val_main_v77,
    val_main_v78, val_main_cst_17, val_main_v79, val_main_v80, val_main_cst_18, val_main_v83, val_main_cst_22,
    val_main_v98, val_main_v99, val_main_v100, val_main_cst_23, val_main_v101, val_main_v102, val_main_cst_24,
    val_main_v105, val_main_cst_28, val_main_v120, val_main_v121, val_main_v123]
  simp only [Fin.sum_univ_one]
  unfold side
  by_cases h : (e : ℕ) < 256
  · rw [dif_neg (by omega), dif_neg (by omega), dif_pos h, dif_pos h, zero_add, zero_add]
    rfl
  · by_cases h' : (e : ℕ) - 256 < 256
    · rw [dif_neg (by omega), dif_pos (by omega), dif_neg h, dif_neg h, dif_pos h', zero_add, add_zero]
      rfl
    · rw [dif_pos (by omega), dif_neg (by omega), dif_neg h, dif_neg h, dif_neg h', add_zero, add_zero]
      exact congrArg (fun q => ∑ s, unit n512 (fun k => x3 (ix2 s k)) q * trd (back x0 x5 s) q)
        (Fin.ext (show (e : ℕ) - 512 = e - 256 - 256 by omega))

end Cert.Proof.NormOut.Ref
-- ==== Proof.OutEquation.lean ====
module

public import proofs.«01_k».proof.Defs
public import proofs.«01_k».proof.Proof.Gen.Pre_finite_out
public import proofs.«01_k».proof.Proof.OutReference

/-!
The gradient kernel of the group norms and the output projection computes the derivative of the forward lines.
-/

@[expose] public section
noncomputable section
namespace Cert.Proof.NormOut
open Idealize.ShloMosaic Idealize.ShloMosaic.TcCoe Idealize.SL.Sem Cert.Kernel3Ideal Cert.Proof.Reals Cert.Proof.RmsRow
open Cert.Reference3Ideal.Read (val_main_v119 val_main_v97 val_main_v76 val_main_v122 val_main_v123)

theorem lit_256 : n256 = ((256 : ℝ) : EReal) := by
  simp [Ideal.ofBits, Ideal.ieee, -EReal.coe_mul]; norm_num

theorem lit_512 : n512 = ((512 : ℝ) : EReal) := by
  simp [Ideal.ofBits, Ideal.ieee, -EReal.coe_mul]; norm_num

variable (m : (ℓ : Loc nD τ sig) → Buf (Elt Ideal) ℓ) (c : Dev nD)

/-- From finite arguments, the rows of the arguments and of the gradient of the normed groups are real. -/
theorem rows_real (h : Cert.Pre_Kernel3Ideal_finite_out m) (s : Fin 2048) :
    (∃ f : Fin 256 → ℝ, ∀ i, rowC m c s i = f i) ∧ (∃ f : Fin 256 → ℝ, ∀ i, rowS m c s i = f i) ∧
    (∃ f : Fin 512 → ℝ, ∀ i, rowB m c s i = f i) ∧ (∃ f : Fin 1024 → ℝ, ∀ i, gain m c i = f i) ∧
    ∃ f : Fin 1024 → ℝ, ∀ i, dcat m c s i = f i := by
  obtain ⟨h0, h1, h2, h3, h4, h5⟩ := h c
  obtain ⟨f0, h0⟩ := finite_real _ fun i => congrFun h0 i
  obtain ⟨f1, h1⟩ := finite_real _ fun i => congrFun h1 i
  obtain ⟨f2, h2⟩ := finite_real _ fun i => congrFun h2 i
  obtain ⟨f3, h3⟩ := finite_real _ fun i => congrFun h3 i
  obtain ⟨f4, h4⟩ := finite_real _ fun i => congrFun h4 i
  obtain ⟨f5, h5⟩ := finite_real _ fun i => congrFun h5 i
  refine ⟨⟨_, fun k => h1 _⟩, ⟨_, fun k => h2 _⟩, ⟨_, fun k => h3 _⟩, ⟨_, fun k => h4 _⟩,
    fun e => ∑ d : Fin 1024, f0 (ix2 s d) * f5 (ix2 e d), fun e => ?_⟩
  simp only [dcat, rowD, wOut]
  rw [← coe_sum]
  exact Finset.sum_congr rfl fun d _ => by rw [h0, h5, EReal.coe_mul]

theorem dc_result (h : Cert.Pre_Kernel3Ideal_finite_out m) : dcArr m c = val_main_v119 (F := Ideal)
    (m ((c : Thread nD τ).loc main_arg0)) (m ((c : Thread nD τ).loc main_arg1))
    (m ((c : Thread nD τ).loc main_arg4)) (m ((c : Thread nD τ).loc main_arg5)) := by
  funext i
  obtain ⟨s, d, rfl⟩ : ∃ (s : Fin 2048) (d : Fin 256), i = ix2 s d := ⟨i 0, i 1, eq_ix2 i⟩
  refine Eq.trans ?_ (Ref.dc_val _ _ _ _ s d).symm
  obtain ⟨hc, -, -, ⟨g, hg⟩, b, hb⟩ := rows_real m c h s
  exact rms_eq 256 lit_256 (by norm_num) hc ⟨_, fun k => hg _⟩ ⟨_, fun k => hb _⟩ d

theorem ds_result (h : Cert.Pre_Kernel3Ideal_finite_out m) : dsArr m c = val_main_v97 (F := Ideal)
    (m ((c : Thread nD τ).loc main_arg0)) (m ((c : Thread nD τ).loc main_arg2))
    (m ((c : Thread nD τ).loc main_arg4)) (m ((c : Thread nD τ).loc main_arg5)) := by
  funext i
  obtain ⟨s, d, rfl⟩ : ∃ (s : Fin 2048) (d : Fin 256), i = ix2 s d := ⟨i 0, i 1, eq_ix2 i⟩
  refine Eq.trans ?_ (Ref.ds_val _ _ _ _ s d).symm
  obtain ⟨-, hs, -, ⟨g, hg⟩, b, hb⟩ := rows_real m c h s
  exact rms_eq 256 lit_256 (by norm_num) hs ⟨_, fun k => hg _⟩ ⟨_, fun k => hb _⟩ d

theorem db_result (h : Cert.Pre_Kernel3Ideal_finite_out m) : dbArr m c = val_main_v76 (F := Ideal)
    (m ((c : Thread nD τ).loc main_arg0)) (m ((c : Thread nD τ).loc main_arg3))
    (m ((c : Thread nD τ).loc main_arg4)) (m ((c : Thread nD τ).loc main_arg5)) := by
  funext i
  obtain ⟨s, d, rfl⟩ : ∃ (s : Fin 2048) (d : Fin 512), i = ix2 s d := ⟨i 0, i 1, eq_ix2 i⟩
  refine Eq.trans ?_ (Ref.db_val _ _ _ _ s d).symm
  obtain ⟨-, -, hb', ⟨g, hg⟩, b, hb⟩ := rows_real m c h s
  exact rms_eq 512 lit_512 (by norm_num) hb' ⟨_, fun k => hg _⟩ ⟨_, fun k => hb _⟩ d

theorem cat_result : catArr m c = val_main_v122 (F := Ideal)
    (m ((c : Thread nD τ).loc main_arg1)) (m ((c : Thread nD τ).loc main_arg2))
    (m ((c : Thread nD τ).loc main_arg3)) (m ((c : Thread nD τ).loc main_arg4)) := by
  funext i
  obtain ⟨s, e, rfl⟩ : ∃ (s : Fin 2048) (e : Fin 1024), i = ix2 s e := ⟨i 0, i 1, eq_ix2 i⟩
  exact (Ref.cat_val _ _ _ _ s e).symm

/-- The gradient of the gain, whose factors stand in the other order. -/
theorem dg_result : dgArr m c = val_main_v123 (F := Ideal)
    (m ((c : Thread nD τ).loc main_arg0)) (m ((c : Thread nD τ).loc main_arg1)) (m ((c : Thread nD τ).loc main_arg2))
    (m ((c : Thread nD τ).loc main_arg3)) (m ((c : Thread nD τ).loc main_arg5)) := by
  funext i
  obtain ⟨z, e, rfl⟩ : ∃ (z : Fin 1) (e : Fin 1024), i = ix2 z e := ⟨i 0, i 1, eq_ix2 i⟩
  refine Eq.trans ?_ (Ref.dg_val _ _ _ _ _ z e).symm
  exact side_congr e (fun e => Finset.sum_congr rfl fun s _ => mul_comm _ _)
    (fun e => Finset.sum_congr rfl fun s _ => mul_comm _ _) (fun e => Finset.sum_congr rfl fun s _ => mul_comm _ _)

/-- The value claim. -/
theorem algebraic : Cert.algebraic_Kernel3Ideal_Reference3Ideal_pre_finite_out := by
  intro m g m' g' hpre hag
  refine ⟨dcArr m, dsArr m, dbArr m, catArr m, dgArr m, ?_, ?_⟩
  · refine (θ_run defs _ _).mono (fun r h c => ?_) (Cert.Kernel3Ideal.Value.run_blocks (F := Ideal) m g)
    obtain ⟨r0, r1, r2, r3, r4, ha⟩ := h c
    exact ⟨r0.trans (dc_arr m c), r1.trans (ds_arr m c), r2.trans (db_arr m c), r3.trans (cat_arr m c),
      r4.trans (dg_arr m c), ha⟩
  · refine (θ_run Cert.Reference3Ideal.defs _ _).mono (fun r h c => ?_) (Cert.Reference3Ideal.Value.run (F := Ideal) m' g')
    obtain ⟨r0, r1, r2, r3, r4, ha⟩ := h c
    obtain ⟨a0, a1, a2, a3, a4, a5⟩ := hag c
    refine ⟨r0.trans ?_, r1.trans ?_, r2.trans ?_, r3.trans ?_, r4.trans ?_, ha⟩
    · rw [Cert.Reference3Ideal.Read.val_main_v119_eq, a0, a1, a4, a5]
      exact (dc_result m c hpre).symm
    · rw [Cert.Reference3Ideal.Read.val_main_v97_eq, a0, a2, a4, a5]
      exact (ds_result m c hpre).symm
    · rw [Cert.Reference3Ideal.Read.val_main_v76_eq, a0, a3, a4, a5]
      exact (db_result m c hpre).symm
    · refine (Cert.Reference3Ideal.Read.val_main_v122_eq _ _ _ _).trans ?_
      rw [a1, a2, a3, a4]
      exact (cat_result m c).symm
    · refine (Cert.Reference3Ideal.Read.val_main_v123_eq _ _ _ _ _).trans ?_
      rw [a0, a1, a2, a3, a5]
      exact (dg_result m c).symm

/-- The reference's frame: its arguments stay, and it declares no counter. -/
theorem frame_reference : Cert.quiescent_Reference3Ideal := fun m g _ =>
  (θ_run Cert.Reference3Ideal.defs _ _).mono
    (fun r h => ⟨fun c => (h c).2.2.2.2.2, sem_eq_zero_of_no_sems (by decide) r.2⟩)
    (Cert.Reference3Ideal.Value.run (F := Ideal) m g)

end Cert.Proof.NormOut
-- ==== Proof.FfnKernel.lean ====
module

public import proofs.«01_k».proof.Proof.RmsRow
public import proofs.«01_k».proof.Proof.Gen.Kernel4Ideal.Value
public import Idealize.ShloMosaic.Lib.Pipeline.ValueKit

/-!
What the five result arrays of the gradient through the gated feed-forward and its norm hold after the kernel's run, as
row formulas at the argument arrays.
-/

@[expose] public section
set_option maxRecDepth 16384
noncomputable section
namespace Cert.Proof.Ffn
open Cert.Kernel4Ideal Cert.Kernel4Ideal.Gen Idealize.ShloMosaic Idealize.ShloMosaic.TcCoe Idealize.SL.Sem Cert.Proof.RmsRow

/-- The printed `1024`. -/
abbrev n1024 : EReal := Ideal.ofBits .f32 0x44800000#32

/-- The logistic function. -/
abbrev sg (z : EReal) : EReal := Ideal.div 1 (1 + Ideal.exp (0 - z))

/-- The two halves of a row of gates and ups. -/
abbrev gate (f : Fin 5632 → EReal) (e : Fin 2816) : EReal := f ⟨e, by omega⟩
abbrev up (f : Fin 5632 → EReal) (e : Fin 2816) : EReal := f ⟨2816 + e, by omega⟩

/-- A row of gradients of gates and of ups set side by side. -/
def side (p q : Fin 2816 → EReal) (e : Fin 5632) : EReal :=
  if h : (e : ℕ) < 2816 then p ⟨e, h⟩ else q ⟨e - 2816, by omega⟩

/-- A product with such a row is the sum of the products with its halves. -/
theorem side_mul (p q : Fin 2816 → EReal) (w : Fin 5632 → EReal) :
    ∑ e, side p q e * w e = ∑ e, p e * gate w e + ∑ e, q e * up w e := by
  refine (Fin.sum_univ_add (a := 2816) (b := 2816) fun e => side p q e * w e).trans (congrArg₂ _ ?_ ?_)
  · exact Finset.sum_congr rfl fun e _ => congrArg (· * _) (dif_pos e.isLt)
  · refine Finset.sum_congr rfl fun e _ => congrArg (· * _) ?_
    refine (dif_neg (show ¬ 2816 + (e : ℕ) < 2816 by omega)).trans (congrArg q (Fin.ext ?_))
    show 2816 + (e : ℕ) - 2816 = e
    omega

/-- A row's gated units, and the gradients of the gates and the ups as the kernel forms them. -/
abbrev act (f : Fin 5632 → EReal) (e : Fin 2816) : EReal := gate f e * sg (gate f e) * up f e
abbrev dgate (f : Fin 5632 → EReal) (a : Fin 2816 → EReal) (e : Fin 2816) : EReal :=
  a e * up f e * (sg (gate f e) * (1 + gate f e * (1 - sg (gate f e))))
abbrev dup (f : Fin 5632 → EReal) (a : Fin 2816 → EReal) (e : Fin 2816) : EReal := a e * (gate f e * sg (gate f e))
abbrev dgu (f : Fin 5632 → EReal) (a : Fin 2816 → EReal) : Fin 5632 → EReal := side (dgate f a) (dup f a)

variable (m : (ℓ : Loc nD τ sig) → Buf (Elt Ideal) ℓ) (c : Dev nD)

/-- Where each window's block sits: by rows of 256, or the whole array. -/
theorem idx (t : Fin grid0.N) : win0_0.index t = ![t.val, 0] ∧ win0_1.index t = ![t.val, 0] ∧ win0_2.index t = ![t.val, 0] ∧
    win0_3.index t = ![0, 0] ∧ win0_4.index t = ![0, 0] ∧ win0_5.index t = ![0, 0] ∧ win0_6.index t = ![t.val, 0] ∧
    win0_7.index t = ![t.val, 0] ∧ win0_8.index t = ![t.val, 0] ∧ win0_9.index t = ![t.val, 0] ∧ win0_10.index t = ![0, 0] := by
  revert t; decide +kernel

/-- The rows of the arguments, and of what the forward's lines make of them. -/
abbrev rowD (s : Fin 2048) : Fin 1024 → EReal := fun k => m ((c : Thread nD τ).loc main_arg0) (ix2 s k)
abbrev rowX (s : Fin 2048) : Fin 1024 → EReal := fun k => m ((c : Thread nD τ).loc main_arg1) (ix2 s k)
abbrev gain : Fin 1024 → EReal := fun k => m ((c : Thread nD τ).loc main_arg2) (ix1 k)
abbrev wUp (d : Fin 1024) : Fin 5632 → EReal := fun e => m ((c : Thread nD τ).loc main_arg3) (ix2 d e)
abbrev wDown (e : Fin 2816) : Fin 1024 → EReal := fun d => m ((c : Thread nD τ).loc main_arg4) (ix2 e d)
abbrev rowH (s : Fin 2048) (k : Fin 1024) : EReal := rowX m c s k * Ideal.rsqrt (msq n1024 (rowX m c s)) * gain m c k
abbrev rowG (s : Fin 2048) (e : Fin 5632) : EReal := ∑ k, rowH m c s k * wUp m c k e
abbrev dact (s : Fin 2048) (e : Fin 2816) : EReal := ∑ d, rowD m c s d * wDown m c e d
abbrev dgus (s : Fin 2048) : Fin 5632 → EReal := dgu (rowG m c s) (dact m c s)
abbrev dh (s : Fin 2048) (d : Fin 1024) : EReal :=
  ∑ e, dgate (rowG m c s) (dact m c s) e * gate (wUp m c d) e + ∑ e, dup (rowG m c s) (dact m c s) e * up (wUp m c d) e

/-- The five result arrays. -/
def dguArr : S2048x5632.Idx → EReal := fun i => dgus m c (i 0) (i 1)
def actArr : S2048x2816.Idx → EReal := fun i => act (rowG m c (i 0)) (i 1)
def hArr : S2048x1024.Idx → EReal := fun i => rowH m c (i 0) (i 1)
def dxArr : S2048x1024.Idx → EReal := fun i =>
  rowD m c (i 0) (i 1) + rmsK n1024 (rowX m c (i 0)) (gain m c) (dh m c (i 0)) (i 1)
def dgArr : S1x1024.Idx → EReal := fun i =>
  ∑ s, dh m c s (i 1) * (rowX m c s (i 1) * Ideal.rsqrt (msq n1024 (rowX m c s)))

section blocks
variable (t : Fin cfg0.N)

/-- The array row of a block's row. -/
abbrev atRow (a : Fin 256) : Fin 2048 := ⟨t.val * 256 + a.val, by have h : t.val < 8 := t.isLt; omega⟩

theorem blk0 (a : Fin 256) (b : Fin 1024) : iblk m c 0 t (ix2 a b) = rowD m c (atRow t a) b := by
  blk_ext! [iblk, V, idx t]

theorem host1 (s : Fin 2048) (e : Fin 5632) : V m c main_v13 (ix2 s e) = rowG m c s e := by
  entry_read; pointwise; rfl

theorem blk1 (a : Fin 256) (b : Fin 5632) : iblk m c 1 t (ix2 a b) = rowG m c (atRow t a) b := by
  refine Eq.trans ?_ (host1 m c (atRow t a) b)
  blk_ext! [iblk, idx t]

theorem blk2 (a : Fin 256) (b : Fin 1024) : iblk m c 2 t (ix2 a b) = rowX m c (atRow t a) b := by
  blk_ext! [iblk, V, idx t]

theorem blk3 (a : Fin 1) (b : Fin 1024) : iblk m c 3 t (ix2 a b) = gain m c b := by
  blk_simp [iblk, V, idx t]; entry_read; pointwise; blk_ext [iblk, V, idx t]

theorem blk4 (a : Fin 5632) (b : Fin 1024) : iblk m c 4 t (ix2 a b) = wUp m c b a := by
  blk_simp [iblk, V, idx t]; entry_read; pointwise; blk_ext [iblk, V, idx t]

theorem blk5 (a : Fin 2816) (b : Fin 1024) : iblk m c 5 t (ix2 a b) = wDown m c a b := by
  blk_simp [iblk, V, idx t]; entry_read; pointwise; blk_ext [iblk, V, idx t]

/-- The array entry of a block's entry in the results stored by rows. -/
theorem emb6 (a : Fin 256) (b : Fin 5632) (G : S2048x5632.Idx → EReal) :
    G (((View.whole main_v19_0).slice (win0_6.rect t)).emb (ix2 a b)) = G (ix2 (atRow t a) b) := by
  blk_ext [idx t]

theorem emb7 (a : Fin 256) (b : Fin 2816) (G : S2048x2816.Idx → EReal) :
    G (((View.whole main_v19_1).slice (win0_7.rect t)).emb (ix2 a b)) = G (ix2 (atRow t a) b) := by
  blk_ext [idx t]

theorem emb8 (a : Fin 256) (b : Fin 1024) (G : S2048x1024.Idx → EReal) :
    G (((View.whole main_v19_2).slice (win0_8.rect t)).emb (ix2 a b)) = G (ix2 (atRow t a) b) := by
  blk_ext [idx t]

theorem emb9 (a : Fin 256) (b : Fin 1024) (G : S2048x1024.Idx → EReal) :
    G (((View.whole main_v19_3).slice (win0_9.rect t)).emb (ix2 a b)) = G (ix2 (atRow t a) b) := by
  blk_ext [idx t]

end blocks

set_option maxHeartbeats 4000000 in
/-- The gradients of the gates and the ups: result 0. -/
theorem dgu_arr : (dats (F := Ideal) m 0 c).arrAt 6 cfg0.N = dguArr m c := by
  refine (dats m 0 c).arrAt_eq_of_covers 6 _ (by decide +kernel) fun t hf y => ?_
  blk_simp
  rw [after0_6]
  by_cases h0 : t.val % 8 = 0
  · rw [outsAt0_A m c t h0]
    dsimp only
    frame_out
    unfold_payloads
    idx_vars y
    refine Eq.trans ?_ (emb6 t _ _ (dguArr m c)).symm
    pointwise
    simp only [blk0, blk1, blk5]
    rfl
  · rw [outsAt0_B m c t h0]
    dsimp only
    frame_out
    unfold_payloads
    idx_vars y
    refine Eq.trans ?_ (emb6 t _ _ (dguArr m c)).symm
    pointwise
    simp only [blk0, blk1, blk5]
    rfl

/-- The gated units: result 1. -/
theorem act_arr : (dats (F := Ideal) m 0 c).arrAt 7 cfg0.N = actArr m c := by
  refine (dats m 0 c).arrAt_eq_of_covers 7 _ (by decide +kernel) fun t hf y => ?_
  blk_simp
  rw [after0_7]
  by_cases h0 : t.val % 8 = 0
  · rw [outsAt0_A m c t h0]
    dsimp only
    frame_out
    unfold_payloads
    idx_vars y
    refine Eq.trans ?_ (emb7 t _ _ (actArr m c)).symm
    pointwise
    simp only [blk1]
    rfl
  · rw [outsAt0_B m c t h0]
    dsimp only
    frame_out
    unfold_payloads
    idx_vars y
    refine Eq.trans ?_ (emb7 t _ _ (actArr m c)).symm
    pointwise
    simp only [blk1]
    rfl

/-- The normed rows: result 2. -/
theorem h_arr : (dats (F := Ideal) m 0 c).arrAt 8 cfg0.N = hArr m c := by
  refine (dats m 0 c).arrAt_eq_of_covers 8 _ (by decide +kernel) fun t hf y => ?_
  blk_simp
  rw [after0_8]
  by_cases h0 : t.val % 8 = 0
  · rw [outsAt0_A m c t h0]
    dsimp only
    frame_out
    unfold_payloads
    idx_vars y
    refine Eq.trans ?_ (emb8 t _ _ (hArr m c)).symm
    pointwise
    simp only [blk2, blk3]
    rfl
  · rw [outsAt0_B m c t h0]
    dsimp only
    frame_out
    unfold_payloads
    idx_vars y
    refine Eq.trans ?_ (emb8 t _ _ (hArr m c)).symm
    pointwise
    simp only [blk2, blk3]
    rfl

set_option maxHeartbeats 4000000 in
/-- The gradient of the rows: result 3. -/
theorem dx_arr : (dats (F := Ideal) m 0 c).arrAt 9 cfg0.N = dxArr m c := by
  refine (dats m 0 c).arrAt_eq_of_covers 9 _ (by decide +kernel) fun t hf y => ?_
  blk_simp
  rw [after0_9]
  by_cases h0 : t.val % 8 = 0
  · rw [outsAt0_A m c t h0]
    dsimp only
    frame_out
    unfold_payloads
    idx_vars y
    refine Eq.trans ?_ (emb9 t _ _ (dxArr m c)).symm
    pointwise
    simp only [blk0, blk1, blk2, blk3, blk4, blk5]
    rfl
  · rw [outsAt0_B m c t h0]
    dsimp only
    frame_out
    unfold_payloads
    idx_vars y
    refine Eq.trans ?_ (emb9 t _ _ (dxArr m c)).symm
    pointwise
    simp only [blk0, blk1, blk2, blk3, blk4, blk5]
    rfl

set_option maxHeartbeats 4000000 in
/-- The gradient of the gain: result 4, summed over the eight blocks of rows. -/
theorem dg_arr : (dats (F := Ideal) m 0 c).arrAt 10 cfg0.N = dgArr m c := by
  refine (dats m 0 c).arrAt_eq_of_after_last 10 t0_7 (by decide +kernel) _ fun j => ?_
  blk_simp
  rw [after0_10]
  refine (Pipeline.eq_sum_fin_of_reset_step_apply_last (fun n h => (outsAt0 m c n h).2.2.2.2) 8 (fun _ => 0)
    (fun t j => ∑ a : Fin 256, dh m c (atRow t a) (j 1) *
      (rowX m c (atRow t a) (j 1) * Ideal.rsqrt (msq n1024 (rowX m c (atRow t a)))))
    (fun t h j => ?_) (fun t h j => ?_) (by decide) t0_7 rfl j).trans ?_
  · rw [outsAt0_A m c t h]
    dsimp only
    frame_out
    unfold_payloads
    idx_vars j
    pointwise
    simp only [blk0, blk1, blk2, blk3, blk4, blk5]
    rfl
  · rw [outsAt0_B m c t h]
    dsimp only
    frame_out
    unfold_payloads
    idx_vars j
    pointwise
    simp only [blk0, blk1, blk2, blk3, blk4, blk5]
    rfl
  · idx_vars j
    rw [zero_add]
    exact Fin.sum_mul_add_congr fun t a hl => rfl

end Cert.Proof.Ffn
-- ==== Proof.FfnReference.lean ====
module

public import proofs.«01_k».proof.Proof.FfnKernel
public import proofs.«01_k».proof.Proof.Gen.Reference4Ideal.Run
public import proofs.«01_k».proof.Proof.Gen.Reference4Ideal.Read

/-!
What the reference's five results are, as row formulas at the argument arrays.
-/

@[expose] public section
set_option maxRecDepth 16384
noncomputable section
namespace Cert.Proof.Ffn.Ref
open Cert.Reference4Ideal Cert.Reference4Ideal.Gen Cert.Reference4Ideal.Read Idealize.ShloMosaic Idealize.ShloMosaic.TcCoe
open Cert.Proof.RmsRow

variable (x0 x1 : (⟨S2048x1024, .f32⟩ : BufTy).Contents (Elt Ideal)) (x2 : (⟨S1024, .f32⟩ : BufTy).Contents (Elt Ideal))
  (x3 : (⟨S1024x5632, .f32⟩ : BufTy).Contents (Elt Ideal)) (x4 : (⟨S2816x1024, .f32⟩ : BufTy).Contents (Elt Ideal))

/-- The gradient of the gates as the derivative of the forward lines forms it. -/
abbrev dgateR (f : Fin 5632 → EReal) (a : Fin 2816 → EReal) (e : Fin 2816) : EReal :=
  a e * up f e * sg (gate f e) + gate f e * (a e * up f e) * (sg (gate f e) * (1 - sg (gate f e)))

/-- The gradient of the ups, likewise. -/
abbrev dupR (f : Fin 5632 → EReal) (a : Fin 2816 → EReal) (e : Fin 2816) : EReal := gate f e * sg (gate f e) * a e

abbrev rowH (s : Fin 2048) (k : Fin 1024) : EReal :=
  x1 (ix2 s k) * Ideal.rsqrt (msq n1024 fun k => x1 (ix2 s k)) * x2 (ix1 k)
abbrev rowG (s : Fin 2048) (e : Fin 5632) : EReal := ∑ k, rowH x1 x2 s k * x3 (ix2 k e)
abbrev dact (s : Fin 2048) (e : Fin 2816) : EReal := ∑ d, x0 (ix2 s d) * x4 (ix2 e d)
abbrev dgus (s : Fin 2048) : Fin 5632 → EReal :=
  side (dgateR (rowG x1 x2 x3 s) (dact x0 x4 s)) (dupR (rowG x1 x2 x3 s) (dact x0 x4 s))
abbrev dh (s : Fin 2048) (d : Fin 1024) : EReal := ∑ e, dgus x0 x1 x2 x3 x4 s e * x3 (ix2 d e)

theorem h_val (s : Fin 2048) (d : Fin 1024) : val_main_v52 x1 x2 (ix2 s d) = rowH x1 x2 s d := by
  pointwise [val_main_v0, val_main_cst, val_main_v1, val_main_v2, val_main_cst_0, val_main_v3, val_main_v4,
    val_main_cst_1, val_main_v5, val_main_v6, val_main_v7, val_main_v11, val_main_v12, val_main_v13, val_main_v14,
    val_main_v15, val_main_v52]
  rfl

theorem g_val (s : Fin 2048) (e : Fin 5632) : val_main_v16 x1 x2 x3 (ix2 s e) = rowG x1 x2 x3 s e := by
  pointwise [val_main_v0, val_main_cst, val_main_v1, val_main_v2, val_main_cst_0, val_main_v3, val_main_v4,
    val_main_cst_1, val_main_v5, val_main_v6, val_main_v7, val_main_v11, val_main_v12, val_main_v13, val_main_v14,
    val_main_v15, val_main_v16]
  rfl

theorem act_val (s : Fin 2048) (e : Fin 2816) : val_main_v51 x1 x2 x3 (ix2 s e) = act (rowG x1 x2 x3 s) e := by
  pointwise [val_main_v17, val_main_call0_v0, val_main_call0_v1, val_main_call0_cst, val_main_call0_v2,
    val_main_call0_v3, val_main_call0_cst_0, val_main_call0_v4, val_main_v18_2, val_main_v18_0, val_main_v19,
    val_main_v20, val_main_v51]
  simp only [g_val, ← zero_sub]

theorem dact_val (s : Fin 2048) (e : Fin 2816) : val_main_v22 x0 x4 (ix2 s e) = dact x0 x4 s e := by
  pointwise [val_main_v22]

theorem side_val (s : Fin 2048) (e : Fin 5632) : val_main_v28 x0 x1 x2 x3 x4 (ix2 s e) = dgus x0 x1 x2 x3 x4 s e := by
  pointwise [val_main_v17, val_main_call0_v0, val_main_call0_v1, val_main_call0_cst, val_main_call0_v2,
    val_main_call0_v3, val_main_call0_cst_0, val_main_call0_v4, val_main_v18_2, val_main_call0_cst_1,
    val_main_call0_v6, val_main_call0_v7, val_main_v18_1, val_main_v18_0, val_main_v19, val_main_v23, val_main_v24,
    val_main_cst_3, val_main_v25, val_main_call1_v0, val_main_call1_v1, val_main_call1_v2, val_main_v26,
    val_main_cst_4, val_main_v27, val_main_v28]
  simp only [g_val, dact_val, ← zero_sub]
  unfold dgus side
  by_cases h : (e : ℕ) < 2816
  · rw [dif_neg (by omega), dif_pos h, dif_pos h, zero_add]
  · rw [dif_pos (by omega), dif_neg h, dif_neg h, add_zero]

theorem dgu_val (s : Fin 2048) (e : Fin 5632) : val_main_v50 x0 x1 x2 x3 x4 (ix2 s e) = dgus x0 x1 x2 x3 x4 s e :=
  side_val x0 x1 x2 x3 x4 s e

theorem dh_val (s : Fin 2048) (d : Fin 1024) : val_main_v29 x0 x1 x2 x3 x4 (ix2 s d) = dh x0 x1 x2 x3 x4 s d := by
  pointwise [val_main_v29]
  simp only [side_val]

theorem dx_val (s : Fin 2048) (d : Fin 1024) : val_main_v53 x0 x1 x2 x3 x4 (ix2 s d)
    = x0 (ix2 s d) + rmsR n1024 (fun k => x1 (ix2 s k)) (fun k => x2 (ix1 k)) (dh x0 x1 x2 x3 x4 s) d := by
  pointwise [val_main_v0, val_main_cst, val_main_v1, val_main_v2, val_main_cst_0, val_main_v3, val_main_v4,
    val_main_cst_1, val_main_v5, val_main_v6, val_main_v7, val_main_v8, val_main_cst_2, val_main_v9, val_main_v10,
    val_main_v13, val_main_v33, val_main_v34, val_main_v36, val_main_cst_7, val_main_v37, val_main_v38, val_main_v39,
    val_main_v40, val_main_v41, val_main_cst_8, val_main_v42, val_main_v43, val_main_cst_9, val_main_v44,
    val_main_v45, val_main_v46, val_main_v47, val_main_v48, val_main_v49, val_main_v53]
  rw [Fin.sum_univ_one]
  simp only [dh_val]
  rfl

theorem dg_val (z : Fin 1) (d : Fin 1024) : val_main_v54 x0 x1 x2 x3 x4 (ix2 z d)
    = ∑ s : Fin 2048, x1 (ix2 s d) * Ideal.rsqrt (msq n1024 fun k => x1 (ix2 s k)) * dh x0 x1 x2 x3 x4 s d := by
  pointwise [val_main_v0, val_main_cst, val_main_v1, val_main_v2, val_main_cst_0, val_main_v3, val_main_v4,
    val_main_cst_1, val_main_v5, val_main_v6, val_main_v7, val_main_v11, val_main_v12, val_main_v30, val_main_cst_5,
    val_main_v31, val_main_v32, val_main_cst_6, val_main_v35, val_main_v54]
  rw [Fin.sum_univ_one]
  simp only [dh_val]
  rfl

end Cert.Proof.Ffn.Ref
-- ==== Proof.FfnEquation.lean ====
module

public import proofs.«01_k».proof.Defs
public import proofs.«01_k».proof.Proof.Gen.Pre_finite_ffn
public import proofs.«01_k».proof.Proof.FfnReference

/-!
The gradient kernel of the gated feed-forward and its norm computes the derivative of the forward lines.
-/

@[expose] public section
noncomputable section
namespace Cert.Proof.Ffn
open Idealize.ShloMosaic Idealize.ShloMosaic.TcCoe Idealize.SL.Sem Cert.Kernel4Ideal Cert.Proof.Reals Cert.Proof.RmsRow
open Cert.Reference4Ideal.Read (val_main_v50 val_main_v51 val_main_v52 val_main_v53 val_main_v54)

/-- The logistic function of a real. -/
theorem sg_coe (z : ℝ) : sg (z : EReal) = ((1 / (1 + Real.exp (-z)) : ℝ) : EReal) := by
  have h : (1 : ℝ) + Real.exp (-z) ≠ 0 := by positivity
  rw [sg, show (0 : EReal) - (z : EReal) = ((-z : ℝ) : EReal) by rw [zero_sub, EReal.coe_neg], Ideal.exp_coe,
    ← EReal.coe_one, ← EReal.coe_add, coe_div _ _ h]

/-- On rows of reals the kernel's gradients of the gates and the ups are the derivative's. -/
theorem dgu_eq (f : Fin 5632 → EReal) (a : Fin 2816 → EReal) (hf : ∃ q : Fin 5632 → ℝ, ∀ i, f i = q i)
    (ha : ∃ q : Fin 2816 → ℝ, ∀ i, a i = q i) : dgu f a = side (Ref.dgateR f a) (Ref.dupR f a) := by
  obtain ⟨q, hf⟩ := hf
  obtain ⟨p, ha⟩ := ha
  have hg : dgate f a = Ref.dgateR f a := funext fun e => by
    simp only [dgate, Ref.dgateR, gate, up, hf, ha, sg_coe]
    simp only [← EReal.coe_one, ← EReal.coe_mul, ← EReal.coe_sub, ← EReal.coe_add]
    congr 1
    ring
  have hu : dup f a = Ref.dupR f a := funext fun e => mul_comm _ _
  rw [dgu, hg, hu]

/-- Those gradients are real. -/
theorem dgu_real (f : Fin 5632 → EReal) (a : Fin 2816 → EReal) (hf : ∃ q : Fin 5632 → ℝ, ∀ i, f i = q i)
    (ha : ∃ q : Fin 2816 → ℝ, ∀ i, a i = q i) : ∃ q : Fin 5632 → ℝ, ∀ i, dgu f a i = q i := by
  obtain ⟨q, hf⟩ := hf
  obtain ⟨p, ha⟩ := ha
  refine ⟨fun i => (dgu f a i).toReal, fun i => (EReal.coe_toReal ?_ ?_).symm⟩ <;>
  · simp only [dgu, side, dgate, dup, gate, up, hf, ha, sg_coe]
    split <;> simp only [← EReal.coe_one, ← EReal.coe_mul, ← EReal.coe_sub, ← EReal.coe_add] <;>
      first | exact EReal.coe_ne_top _ | exact EReal.coe_ne_bot _

variable (m : (ℓ : Loc nD τ sig) → Buf (Elt Ideal) ℓ) (c : Dev nD)

/-- From finite arguments, the rows the gradient is computed from are real. -/
theorem rows_real (h : Cert.Pre_Kernel4Ideal_finite_ffn m) (s : Fin 2048) :
    (∃ f : Fin 1024 → ℝ, ∀ i, rowX m c s i = f i) ∧ (∃ f : Fin 1024 → ℝ, ∀ i, gain m c i = f i) ∧
    (∃ f : Fin 5632 → ℝ, ∀ i, rowG m c s i = f i) ∧ (∃ f : Fin 2816 → ℝ, ∀ i, dact m c s i = f i) ∧
    ∃ f : Fin 1024 → Fin 5632 → ℝ, ∀ i j, wUp m c i j = f i j := by
  obtain ⟨h0, h1, h2, h3, h4⟩ := h c
  obtain ⟨f0, h0⟩ := finite_real _ fun i => congrFun h0 i
  obtain ⟨f1, h1⟩ := finite_real _ fun i => congrFun h1 i
  obtain ⟨f2, h2⟩ := finite_real _ fun i => congrFun h2 i
  obtain ⟨f3, h3⟩ := finite_real _ fun i => congrFun h3 i
  obtain ⟨f4, h4⟩ := finite_real _ fun i => congrFun h4 i
  have hX : ∃ f : Fin 1024 → ℝ, ∀ i, rowX m c s i = f i := ⟨_, fun k => h1 _⟩
  obtain ⟨v, r, -, -, -, hr⟩ := rsqrt_real 1024 lit_1024 (by norm_num) hX
  refine ⟨hX, ⟨_, fun k => h2 _⟩, ⟨fun e => ∑ k : Fin 1024, f1 (ix2 s k) * r * f2 (ix1 k) * f3 (ix2 k e), fun e => ?_⟩,
    ⟨fun e => ∑ d : Fin 1024, f0 (ix2 s d) * f4 (ix2 e d), fun e => ?_⟩, ⟨fun i j => f3 (ix2 i j), fun i j => h3 _⟩⟩
  · simp only [rowG, rowH, wUp]
    rw [← coe_sum]
    refine Finset.sum_congr rfl fun k _ => ?_
    rw [show Ideal.rsqrt (msq n1024 (rowX m c s)) = (r : EReal) from hr]
    simp only [rowX, gain]
    rw [h1, h2, h3, EReal.coe_mul, EReal.coe_mul, EReal.coe_mul]
  · simp only [dact, rowD, wDown]
    rw [← coe_sum]
    exact Finset.sum_congr rfl fun d _ => by rw [h0, h4, EReal.coe_mul]

/-- The rows of gradients agree. -/
theorem dgus_eq (h : Cert.Pre_Kernel4Ideal_finite_ffn m) (s : Fin 2048) : dgus m c s = Ref.dgus
    (m ((c : Thread nD τ).loc main_arg0)) (m ((c : Thread nD τ).loc main_arg1)) (m ((c : Thread nD τ).loc main_arg2))
    (m ((c : Thread nD τ).loc main_arg3)) (m ((c : Thread nD τ).loc main_arg4)) s := by
  obtain ⟨-, -, hG, ha, -⟩ := rows_real m c h s
  exact dgu_eq _ _ hG ha

theorem dh_eq (h : Cert.Pre_Kernel4Ideal_finite_ffn m) (s : Fin 2048) (d : Fin 1024) : dh m c s d = Ref.dh
    (m ((c : Thread nD τ).loc main_arg0)) (m ((c : Thread nD τ).loc main_arg1)) (m ((c : Thread nD τ).loc main_arg2))
    (m ((c : Thread nD τ).loc main_arg3)) (m ((c : Thread nD τ).loc main_arg4)) s d := by
  rw [dh, ← side_mul]
  exact congrArg (fun r : Fin 5632 → EReal => ∑ e, r e * wUp m c d e) (dgus_eq m c h s)

theorem dgu_result (h : Cert.Pre_Kernel4Ideal_finite_ffn m) : dguArr m c = val_main_v50 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨s, e, rfl⟩ : ∃ (s : Fin 2048) (e : Fin 5632), i = ix2 s e := ⟨i 0, i 1, eq_ix2 i⟩
  exact (congrFun (dgus_eq m c h s) e).trans (Ref.dgu_val _ _ _ _ _ s e).symm

theorem act_result : actArr m c = val_main_v51 (F := Ideal)
    (m ((c : Thread nD τ).loc main_arg1)) (m ((c : Thread nD τ).loc main_arg2)) (m ((c : Thread nD τ).loc main_arg3)) := by
  funext i
  obtain ⟨s, e, rfl⟩ : ∃ (s : Fin 2048) (e : Fin 2816), i = ix2 s e := ⟨i 0, i 1, eq_ix2 i⟩
  exact (Ref.act_val _ _ _ s e).symm

theorem h_result : hArr m c = val_main_v52 (F := Ideal)
    (m ((c : Thread nD τ).loc main_arg1)) (m ((c : Thread nD τ).loc main_arg2)) := by
  funext i
  obtain ⟨s, e, rfl⟩ : ∃ (s : Fin 2048) (e : Fin 1024), i = ix2 s e := ⟨i 0, i 1, eq_ix2 i⟩
  exact (Ref.h_val _ _ s e).symm

theorem dx_result (h : Cert.Pre_Kernel4Ideal_finite_ffn m) : dxArr m c = val_main_v53 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨s, d, rfl⟩ : ∃ (s : Fin 2048) (d : Fin 1024), i = ix2 s d := ⟨i 0, i 1, eq_ix2 i⟩
  refine Eq.trans ?_ (Ref.dx_val _ _ _ _ _ s d).symm
  obtain ⟨hX, hg, hG, ha, w, hw⟩ := rows_real m c h s
  obtain ⟨q, hq⟩ := dgu_real _ _ hG ha
  have hB : ∃ f : Fin 1024 → ℝ, ∀ i, dh m c s i = f i := by
    refine ⟨fun d => ∑ e : Fin 5632, q e * w d e, fun d => ?_⟩
    rw [dh, ← side_mul, ← coe_sum]
    exact Finset.sum_congr rfl fun e _ => by rw [EReal.coe_mul, ← hq, ← hw]
  refine congrArg (rowD m c s d + ·) ((rms_eq 1024 lit_1024 (by norm_num) hX hg hB d).trans ?_)
  rw [funext (dh_eq m c h s)]

/-- The gradient of the gain, whose factors stand in the other order. -/
theorem dg_result (h : Cert.Pre_Kernel4Ideal_finite_ffn m) : dgArr m c = val_main_v54 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) := by
  funext i
  obtain ⟨z, d, rfl⟩ : ∃ (z : Fin 1) (d : Fin 1024), i = ix2 z d := ⟨i 0, i 1, eq_ix2 i⟩
  refine Eq.trans (Finset.sum_congr rfl fun s _ => ?_) (Ref.dg_val _ _ _ _ _ z d).symm
  rw [← dh_eq m c h s]
  exact mul_comm _ _

/-- The value claim. -/
theorem algebraic : Cert.algebraic_Kernel4Ideal_Reference4Ideal_pre_finite_ffn := by
  intro m g m' g' hpre hag
  refine ⟨dguArr m, actArr m, hArr m, dxArr m, dgArr m, ?_, ?_⟩
  · refine (θ_run defs _ _).mono (fun r h c => ?_) (Cert.Kernel4Ideal.Value.run_blocks (F := Ideal) m g)
    obtain ⟨r0, r1, r2, r3, r4, ha⟩ := h c
    exact ⟨r0.trans (dgu_arr m c), r1.trans (act_arr m c), r2.trans (h_arr m c), r3.trans (dx_arr m c),
      r4.trans (dg_arr m c), ha⟩
  · refine (θ_run Cert.Reference4Ideal.defs _ _).mono (fun r h c => ?_) (Cert.Reference4Ideal.Value.run (F := Ideal) m' g')
    obtain ⟨r0, r1, r2, r3, r4, ha⟩ := h c
    obtain ⟨a0, a1, a2, a3, a4⟩ := hag c
    refine ⟨r0.trans ?_, r1.trans ?_, r2.trans ?_, r3.trans ?_, r4.trans ?_, ha⟩
    · rw [Cert.Reference4Ideal.Read.val_main_v50_eq, a0, a1, a2, a3, a4]
      exact (dgu_result m c hpre).symm
    · refine (Cert.Reference4Ideal.Read.val_main_v51_eq _ _ _).trans ?_
      rw [a1, a2, a3]
      exact (act_result m c).symm
    · refine (Cert.Reference4Ideal.Read.val_main_v52_eq _ _).trans ?_
      rw [a1, a2]
      exact (h_result m c).symm
    · rw [Cert.Reference4Ideal.Read.val_main_v53_eq, a0, a1, a2, a3, a4]
      exact (dx_result m c hpre).symm
    · rw [Cert.Reference4Ideal.Read.val_main_v54_eq, a0, a1, a2, a3, a4]
      exact (dg_result m c hpre).symm

/-- The reference's frame: its arguments stay, and it declares no counter. -/
theorem frame_reference : Cert.quiescent_Reference4Ideal := fun m g _ =>
  (θ_run Cert.Reference4Ideal.defs _ _).mono
    (fun r h => ⟨fun c => (h c).2.2.2.2.2, sem_eq_zero_of_no_sems (by decide) r.2⟩)
    (Cert.Reference4Ideal.Value.run (F := Ideal) m g)

end Cert.Proof.Ffn
-- ==== Proof.Loss.lean ====
module

public import proofs.«01_k».proof.Defs
public import proofs.«01_k».proof.Proof.Reals
public import proofs.«01_k».proof.Proof.Gen.Kernel5Ideal.Value
public import proofs.«01_k».proof.Proof.Gen.Reference5Ideal.Run
public import proofs.«01_k».proof.Proof.Gen.Reference5Ideal.Read
public import Idealize.ShloMosaic.Lib.Pipeline.ValueKit

/-!
The loss and its gradient: what the kernel's two result arrays hold, what the reference computes, and that the two
agree at any extended reals.
-/

@[expose] public section
set_option maxRecDepth 16384
noncomputable section
namespace Cert.Proof.Loss
open Idealize.ShloMosaic Idealize.ShloMosaic.TcCoe Idealize.SL.Sem Cert.Proof.Reals

/-- The printed `0.5`. -/
abbrev half : EReal := Ideal.ofBits .f32 0x3F000000#32

theorem lit_half : half = ((1 / 2 : ℝ) : EReal) := by
  simp [half, Ideal.ofBits, Ideal.ieee, -EReal.coe_mul]; norm_num

/-- Half of a sum of nonnegative terms is the sum of the halves. -/
theorem half_sum {n : ℕ} (f : Fin n → EReal) (h : ∀ i, 0 ≤ f i) : half * ∑ i, f i = ∑ i, half * f i := by
  classical
  suffices H : ∀ s : Finset (Fin n), half * ∑ i ∈ s, f i = ∑ i ∈ s, half * f i from H _
  intro s
  induction s using Finset.induction_on with
  | empty => simp
  | insert a s ha ih =>
    rw [Finset.sum_insert ha, Finset.sum_insert ha, EReal.left_distrib_of_nonneg (h a) (Finset.sum_nonneg fun i _ => h i), ih]

theorem sq_nonneg (x : EReal) : 0 ≤ x * x := by
  induction x with
  | bot => simp
  | coe r => rw [← EReal.coe_mul]; exact EReal.coe_nonneg.mpr (mul_self_nonneg r)
  | top => simp

/-- A row's mean square. -/
def rowLoss (e : Fin 1024 → EReal) : EReal := Ideal.div (∑ k, e k * e k) (Ideal.ofBits .f32 1149239296#32)

theorem rowLoss_nonneg (e : Fin 1024 → EReal) : 0 ≤ rowLoss e := by
  rw [rowLoss, lit_1024, Ideal.div_coe (by norm_num)]
  exact mul_nonneg (Finset.sum_nonneg fun k _ => sq_nonneg _) (EReal.coe_nonneg.mpr (by norm_num))

/-- The gradient's factor, as the kernel and as the derivative of the forward line write it. -/
theorem factor (e : EReal) : e * Ideal.ofBits .f32 0x3A800000#32
    = Ideal.div (half * Ideal.ofBits .f32 0x3F800000#32) (Ideal.ofBits .f32 1149239296#32) * (Ideal.ofBits .f32 0x40000000#32 * e) := by
  have h1 : Ideal.ofBits .f32 0x3A800000#32 = ((1 / 1024 : ℝ) : EReal) := by
    simp [Ideal.ofBits, Ideal.ieee, -EReal.coe_mul]; norm_num
  have h2 : Ideal.ofBits .f32 0x3F800000#32 = ((1 : ℝ) : EReal) := by
    simp [Ideal.ofBits, Ideal.ieee, -EReal.coe_mul]; norm_num
  have h3 : Ideal.ofBits .f32 0x40000000#32 = ((2 : ℝ) : EReal) := by
    simp [Ideal.ofBits, Ideal.ieee, -EReal.coe_mul]; norm_num
  rw [h1, h2, h3, lit_half, lit_1024, ← EReal.coe_mul, coe_div _ _ (by norm_num), ← mul_assoc, ← EReal.coe_mul, mul_comm]
  norm_num

section Kernel
open Cert.Kernel5Ideal Cert.Kernel5Ideal.Gen
variable (m : (ℓ : Loc nD τ sig) → Buf (Elt Ideal) ℓ) (c : Dev nD)

/-- Where each window's block sits: by rows of 1024, or the one cell. -/
theorem idx (t : Fin grid0.N) : win0_0.index t = ![t.val, 0] ∧ win0_1.index t = ![t.val, 0] ∧ win0_2.index t = ![0, 0] ∧
    win0_3.index t = ![t.val, 0] := by
  revert t; decide +kernel

/-- The two arguments, and a row of the error. -/
abbrev out (s : Fin 2048) (k : Fin 1024) : EReal := m ((c : Thread nD τ).loc main_arg0) (ix2 s k)
abbrev goal (s : Fin 2048) (k : Fin 1024) : EReal := m ((c : Thread nD τ).loc main_arg1) (ix2 s k)
abbrev err (s : Fin 2048) (k : Fin 1024) : EReal := out m c s k - goal m c s k

/-- The two result arrays. -/
def lossArr : S1x1.Idx → EReal := fun _ => half * ∑ s, rowLoss (err m c s)
def gradArr : S2048x1024.Idx → EReal := fun i => err m c (i 0) (i 1) * Ideal.ofBits .f32 0x3A800000#32

section blocks
variable (t : Fin cfg0.N)

/-- The array row of a block's row. -/
abbrev atRow (a : Fin 1024) : Fin 2048 := ⟨t.val * 1024 + a.val, by have h : t.val < 2 := t.isLt; omega⟩

theorem blk0 (a b : Fin 1024) : iblk m c 0 t (ix2 a b) = out m c (atRow t a) b := by
  blk_ext! [iblk, V, idx t]

theorem blk1 (a b : Fin 1024) : iblk m c 1 t (ix2 a b) = goal m c (atRow t a) b := by
  blk_ext! [iblk, V, idx t]

theorem emb3 (a b : Fin 1024) (G : S2048x1024.Idx → EReal) :
    G (((View.whole main_v0_1).slice (win0_3.rect t)).emb (ix2 a b)) = G (ix2 (atRow t a) b) := by
  blk_ext [idx t]

end blocks

/-- The gradient: result 1. -/
theorem grad_arr : (dats (F := Ideal) m 0 c).arrAt 3 cfg0.N = gradArr m c := by
  refine (dats m 0 c).arrAt_eq_of_covers 3 _ (by decide +kernel) fun t hf y => ?_
  blk_simp
  rw [after0_3]
  by_cases h0 : t.val % 2 = 0
  · rw [outsAt0_A m c t h0]
    dsimp only
    frame_out
    unfold_payloads
    idx_vars y
    refine Eq.trans ?_ (emb3 t _ _ (gradArr m c)).symm
    pointwise
    simp only [blk0, blk1]
    rfl
  · rw [outsAt0_B m c t h0]
    dsimp only
    frame_out
    unfold_payloads
    idx_vars y
    refine Eq.trans ?_ (emb3 t _ _ (gradArr m c)).symm
    pointwise
    simp only [blk0, blk1]
    rfl

/-- The loss: result 0, summed over the two blocks of rows. -/
theorem loss_arr : (dats (F := Ideal) m 0 c).arrAt 2 cfg0.N = lossArr m c := by
  refine (dats m 0 c).arrAt_eq_of_after_last 2 t0_1 (by decide +kernel) _ fun j => ?_
  blk_simp
  rw [after0_2]
  refine (Pipeline.eq_sum_fin_of_reset_step_apply_last (fun n h => (outsAt0 m c n h).1) 2 (fun _ => 0)
    (fun t _ => half * ∑ a, rowLoss (err m c (atRow t a)))
    (fun t h j => ?_) (fun t h j => ?_) (by decide) t0_1 rfl j).trans ?_
  · rw [outsAt0_A m c t h]
    dsimp only
    frame_out
    unfold_payloads
    idx_vars j
    pointwise
    simp only [blk0, blk1]
    rfl
  · rw [outsAt0_B m c t h]
    dsimp only
    frame_out
    unfold_payloads
    idx_vars j
    pointwise
    simp only [blk0, blk1]
    rfl
  · rw [zero_add, lossArr, half_sum _ fun _ => rowLoss_nonneg _]
    refine Eq.trans (Finset.sum_congr rfl fun t _ => half_sum _ fun _ => rowLoss_nonneg _) ?_
    exact Fin.sum_mul_add_congr fun t a hl => rfl

end Kernel

section Reference
open Cert.Reference5Ideal Cert.Reference5Ideal.Gen Cert.Reference5Ideal.Read
variable (x0 x1 : (⟨S2048x1024, .f32⟩ : BufTy).Contents (Elt Ideal))

theorem ref_loss (i j : Fin 1) : val_main_v15 x0 x1 (ix2 i j)
    = half * ∑ s : Fin 2048, rowLoss fun k => x0 (ix2 s k) - x1 (ix2 s k) := by
  pointwise [val_main_v0, val_main_v1, val_main_cst, val_main_v2, val_main_v3, val_main_cst_0, val_main_v4, val_main_cst_1,
    val_main_v5, val_main_v6, val_main_cst_2, val_main_v7, val_main_cst_3, val_main_v8, val_main_v15]
  rfl

theorem ref_grad (s : Fin 2048) (k : Fin 1024) : val_main_v14 x0 x1 (ix2 s k)
    = Ideal.div (half * Ideal.ofBits .f32 0x3F800000#32) (Ideal.ofBits .f32 1149239296#32) *
      (Ideal.ofBits .f32 0x40000000#32 * (x0 (ix2 s k) - x1 (ix2 s k))) := by
  pointwise [val_main_v0, val_main_cst, val_main_v2, val_main_v3, val_main_cst_4, val_main_cst_5, val_main_v9, val_main_v10,
    val_main_cst_6, val_main_v11, val_main_v12, val_main_v13, val_main_v14]

end Reference

/-- The value claim. -/
theorem algebraic : Cert.algebraic_Kernel5Ideal_Reference5Ideal := by
  intro m g m' g' hpre hag
  refine ⟨lossArr m, gradArr m, ?_, ?_⟩
  · refine (θ_run Cert.Kernel5Ideal.defs _ _).mono (fun r h c => ?_) (Cert.Kernel5Ideal.Value.run_blocks (F := Ideal) m g)
    obtain ⟨r0, r1, ha⟩ := h c
    exact ⟨r0.trans (loss_arr m c), r1.trans (grad_arr m c), ha⟩
  · refine (θ_run Cert.Reference5Ideal.defs _ _).mono (fun r h c => ?_) (Cert.Reference5Ideal.Value.run (F := Ideal) m' g')
    obtain ⟨r0, r1, ha⟩ := h c
    obtain ⟨a0, a1⟩ := hag c
    refine ⟨r0.trans ?_, r1.trans ?_, ha⟩
    · refine (Cert.Reference5Ideal.Read.val_main_v15_eq _ _).trans ?_
      rw [a0, a1]
      funext i
      obtain ⟨a, b, rfl⟩ : ∃ (a b : Fin 1), i = ix2 a b := ⟨i 0, i 1, eq_ix2 i⟩
      exact ref_loss _ _ a b
    · refine (Cert.Reference5Ideal.Read.val_main_v14_eq _ _).trans ?_
      rw [a0, a1]
      funext i
      obtain ⟨s, k, rfl⟩ : ∃ (s : Fin 2048) (k : Fin 1024), i = ix2 s k := ⟨i 0, i 1, eq_ix2 i⟩
      exact (ref_grad _ _ s k).trans (factor _).symm

/-- The reference's frame: its arguments stay, and it declares no counter. -/
theorem frame_reference : Cert.quiescent_Reference5Ideal := fun m g _ =>
  (θ_run Cert.Reference5Ideal.defs _ _).mono
    (fun r h => ⟨fun c => (h c).2.2, sem_eq_zero_of_no_sems (by decide) r.2⟩)
    (Cert.Reference5Ideal.Value.run (F := Ideal) m g)

end Cert.Proof.Loss
-- ==== Proof.QkTiles.lean ====
module

public import proofs.«01_k».proof.Proof.RmsRow
public import proofs.«01_k».proof.Proof.Gen.Kernel6Ideal.Skeleton
public import Idealize.ShloMosaic.Lib.Pipeline.ValueKit

/-!
The parts of the gradient through the norms of the queries and the keys that only move entries: the packed tiles
unpacked into rows, and the matrix that takes each head's mean.
-/

@[expose] public section
set_option maxRecDepth 16384
noncomputable section
namespace Cert.Proof.NormQk
open Cert.Kernel6Ideal Cert.Kernel6Ideal.Gen Idealize.ShloMosaic Idealize.ShloMosaic.TcCoe

/-- An array's entries, at any position. -/
def Mat {n d : ℕ} (v : (⟨2, ![n, d]⟩ : Shape).Idx → EReal) (g : ℕ → ℕ → EReal) : Prop :=
  ∀ (a : Fin n) (b : Fin d), v (ix2 a b) = g a.val b.val

/-- Which of the eight heads of 64 lanes a lane lies in, as the words compute it. -/
def headOf (x : BitVec 32) : BitVec 32 :=
  Scalar.select
    (IntOp.andi
      (IntOp.cmpi CmpIPredicate.ne
        (IntOp.subi (BitVec.setWidth 32 (IntOp.cmpi CmpIPredicate.sgt x 0#32)) (BitVec.setWidth 32 (IntOp.cmpi CmpIPredicate.slt x 0#32)))
        (Scalar.subi (Scalar.extui (Scalar.cmpi CmpIPredicate.sgt 64#32 0#32)) (Scalar.extui (Scalar.cmpi CmpIPredicate.slt 64#32 0#32))))
      (IntOp.cmpi CmpIPredicate.ne (IntOp.remsi ArithUnit.vector x 64#32) 0#32))
    (IntOp.subi (IntOp.divsi ArithUnit.vector x 64#32) 1#32) (IntOp.divsi ArithUnit.vector x 64#32)

theorem headOf_eq : ∀ d < 512, headOf (BitVec.ofNat 32 d) = BitVec.ofNat 32 (d / 64) := by decide +kernel

/-- The entry of the matrix of head means. -/
theorem mean_entry (k d : Fin 512) : k0_pay7 (F := Ideal) k0_pay3 k0_pay4 k0_pay5 k0_pay6 (ix2 k d) = if k.val / 64 = d.val / 64 then ((1 / 64 : ℝ) : EReal) else 0 := by
  unfold k0_pay7 k0_pay3 k0_pay4 k0_pay5 k0_pay6
  pointwise
  change Scalar.select (IntOp.cmpi CmpIPredicate.eq (headOf (BitVec.ofNat 32 k.val)) (headOf (BitVec.ofNat 32 d.val))) _ _ = _
  rw [headOf_eq _ k.isLt, headOf_eq _ d.isLt]
  have hk := k.isLt
  have hd := d.isLt
  have e : (BitVec.ofNat 32 (k.val / 64) = BitVec.ofNat 32 (d.val / 64)) ↔ k.val / 64 = d.val / 64 := by
    rw [← BitVec.toNat_inj, BitVec.toNat_ofNat, BitVec.toNat_ofNat, Nat.mod_eq_of_lt (by omega), Nat.mod_eq_of_lt (by omega)]
  have l : Ideal.ofBits FTy.f32 1015021568#32 = ((1 / 64 : ℝ) : EReal) := by
    simp [Ideal.ofBits, Ideal.ieee, -EReal.coe_mul]; norm_num
  by_cases h : k.val / 64 = d.val / 64
  · rw [if_pos h, h, l]; simp [IntOp.cmpi, Scalar.select]
  · rw [if_neg h]
    change (if BitVec.ofBool (_ == _) = 1 then _ else _) = _
    rw [beq_eq_false_iff_ne.mpr (mt e.1 h)]; rfl

/-- Whether a lane lies in the even head of its pair, as the words compute it. -/
def evenOf (x : BitVec 32) : BitVec 1 :=
  IntOp.cmpi CmpIPredicate.slt
    (Scalar.select
      (IntOp.andi
        (IntOp.xori
          (IntOp.cmpi CmpIPredicate.slt (IntOp.remsi ArithUnit.vector x (Scalar.select (Scalar.cmpi CmpIPredicate.eq 128#32 0#32) 1#32 128#32)) 0#32)
          (Scalar.cmpi CmpIPredicate.slt (Scalar.select (Scalar.cmpi CmpIPredicate.eq 128#32 0#32) 1#32 128#32) 0#32))
        (IntOp.cmpi CmpIPredicate.ne (IntOp.remsi ArithUnit.vector x (Scalar.select (Scalar.cmpi CmpIPredicate.eq 128#32 0#32) 1#32 128#32)) 0#32))
      (IntOp.addi (IntOp.remsi ArithUnit.vector x (Scalar.select (Scalar.cmpi CmpIPredicate.eq 128#32 0#32) 1#32 128#32))
        (Scalar.select (Scalar.cmpi CmpIPredicate.eq 128#32 0#32) 1#32 128#32))
      (IntOp.remsi ArithUnit.vector x (Scalar.select (Scalar.cmpi CmpIPredicate.eq 128#32 0#32) 1#32 128#32)))
    64#32

theorem evenOf_eq : ∀ d < 512, evenOf (BitVec.ofNat 32 d) = if d % 128 < 64 then 1#1 else 0#1 := by decide +kernel

theorem even_entry (a : Fin 128) (d : Fin 512) : k0_pay31 (ix2 a d) = if d.val % 128 < 64 then 1#1 else 0#1 := by
  unfold k0_pay31
  pointwise
  exact evenOf_eq d.val d.isLt

theorem pick {α : Type} (p : Prop) [Decidable p] (a b : α) : Scalar.select (if p then 1#1 else 0#1) a b = if p then a else b := by
  unfold Scalar.select; split <;> simp

theorem dcase {α : Sort*} {p : Prop} [Decidable p] {x : p → α} {y : ¬p → α} {e : α} (h : ∀ q, x q = e) (h' : ∀ q, y q = e) : dite p x y = e := by
  by_cases q : p
  · rw [dif_pos q]; exact h q
  · rw [dif_neg q]; exact h' q

theorem icase {α : Sort*} {p : Prop} [Decidable p] {x y e : α} (h : p → x = e) (h' : ¬p → y = e) : ite p x y = e := by
  by_cases q : p
  · rw [if_pos q]; exact h q
  · rw [if_neg q]; exact h' q

variable {Z : FVec Ideal S2048x512 .f32} {z : ℕ → ℕ → EReal}

set_option maxHeartbeats 4000000 in
/-- The three gradients side by side, the values' joined from pairs of blocks. -/
theorem unstack_v (hZ : Mat Z z) (P Q : FVec Ideal S1024x512 .f32) (a : Fin 1024) (d : Fin 1536) (R : EReal)
    (hP : ∀ h : d.val < 512, P (ix2 a ⟨d, h⟩) = R) (hQ : ∀ h : d.val - 512 < 512, 512 ≤ d.val → Q (ix2 a ⟨d - 512, h⟩) = R)
    (hV : 1024 ≤ d.val → z (a.val / 128 * 256 + (d.val - 1024) % 128 / 64 * 128 + a.val % 128) (d.val - 1024) = R) :
    k0_pay57 P Q Z (Scalar.select (Scalar.cmpi .eq 128#32 0#32) 1#32 128#32) k0_pay55 k0_pay56 (ix2 a d) = R := by
  unfold k0_pay57 k0_pay55 k0_pay56
  pointwise
  have ha := a.isLt
  have hd := d.isLt
  refine dcase (fun h => hP h) (fun h => ?_)
  refine dcase (fun h' => hQ h' (by omega)) (fun h' => ?_)
  rw [← hV (by omega)]
  have hu : d.val - 512 - 512 < 512 := by omega
  have e : ∀ x y : EReal, Scalar.select (evenOf (BitVec.ofNat 32 (d.val - 512 - 512))) x y = if (d.val - 512 - 512) % 128 < 64 then x else y := fun x y =>
    (congrArg (fun w => Scalar.select w x y) (evenOf_eq _ hu)).trans (pick _ x y)
  repeat' (with_reducible refine dcase (fun _ => ?_) (fun _ => ?_))
  all_goals
    refine (e _ _).trans ?_
    refine icase (fun _ => ?_) (fun _ => ?_) <;> exact (hZ _ _).trans (congrArg₂ z (by dsimp only; omega) (by dsimp only; omega))

set_option maxHeartbeats 4000000 in
/-- The rows of the keys' derivative, joined from pairs of blocks. -/
theorem unstack_k (hZ : Mat Z z) (w : Fin 7 → FVec Ideal S128x512 .f32) (w7 : FVec Ideal S128x512 .f32)
    (hw : ∀ p a d, w p (ix2 a d) = z (256 * p.val + d.val % 128 / 64 * 128 + a.val) d.val)
    (hw7 : ∀ a d, w7 (ix2 a d) = z (1792 + a.val) d.val) (a : Fin 1024) (d : Fin 512) :
    k0_pay40 Z k0_pay31 (w 0) (w 1) (w 2) (w 3) (w 4) (w 5) (w 6) w7 (ix2 a d)
      = z (a.val / 128 * 256 + d.val % 128 / 64 * 128 + a.val % 128) d.val := by
  unfold k0_pay40
  pointwise
  have ha := a.isLt
  have hd := d.isLt
  repeat' (with_reducible refine dcase (fun _ => ?_) (fun _ => ?_))
  all_goals first
    | (refine (hw _ _ _).trans ?_; dsimp only; congr 1; omega)
    | (rw [even_entry, pick, hw7]
       refine icase (fun _ => ?_) (fun _ => ?_)
       · congr 1; dsimp only; omega
       · refine (hZ _ _).trans ?_; congr 1; dsimp only; omega)

/-- One joined pair of blocks. -/
theorem pair_entry (hZ : Mat Z z) (o o' : Fin 2 → ℕ) (n : ℕ) (h0 : o = ![n, 0]) (h1 : o' = ![n + 128, 0]) (s0 s1) (a : Fin 128) (d : Fin 512) :
    select k0_pay31 (extractStridedSlice S128x512 o Z s0) (extractStridedSlice S128x512 o' Z s1) (ix2 a d)
      = z (n + d.val % 128 / 64 * 128 + a.val) d.val := by
  subst h0 h1
  pointwise
  rw [even_entry, pick]
  refine icase (fun _ => ?_) (fun _ => ?_) <;> (refine (hZ _ _).trans ?_; congr 1; dsimp only; omega)

end Cert.Proof.NormQk
-- ==== Proof.QkKernel.lean ====
module

public import proofs.«01_k».proof.Proof.QkTiles
public import proofs.«01_k».proof.Proof.Gen.Kernel6Ideal.Value

/-!
What the three result arrays of the gradient through the norms of the queries and the keys hold after its run.
-/

@[expose] public section
set_option maxRecDepth 16384
noncomputable section
namespace Cert.Proof.NormQk
open Cert.Kernel6Ideal Cert.Kernel6Ideal.Gen Idealize.ShloMosaic Idealize.ShloMosaic.TcCoe Idealize.SL.Sem

/-- The mean of a lane's head, summed against the matrix of means: the coarse part and the rest of each entry. -/
def mean (y : Fin 512 → EReal) (d : Fin 512) : EReal :=
  (∑ k : Fin 512, y k * if k.val / 64 = d.val / 64 then ((1 / 64 : ℝ) : EReal) else 0) +
    ∑ k : Fin 512, (y k - y k) * if k.val / 64 = d.val / 64 then ((1 / 64 : ℝ) : EReal) else 0

/-- The reciprocal root of a lane's head. -/
def root (x : Fin 512 → EReal) (d : Fin 512) : EReal :=
  Ideal.rsqrt (mean (fun k => x k * x k) d + Ideal.ofBits .f32 897988541#32)

/-- The gradient of a row of eight heads as the kernel forms it. -/
def gradK (x b g : Fin 512 → EReal) (d : Fin 512) : EReal :=
  root x d * (b d * g d - x d * root x d * mean (fun k => b k * g k * (x k * root x k)) d)

section point
variable (v w : Vec Ideal S1024x512 .f32) (g s : Vec Ideal S1x512 .f32) (a : Fin 1024) (d : Fin 512)

theorem point_q : k0_pay15 (k0_pay7 k0_pay3 k0_pay4 k0_pay5 k0_pay6) (k0_pay9 k0_pay3 k0_pay4 k0_pay5 k0_pay6 v)
      (k0_pay10 k0_pay3 k0_pay4 k0_pay5 k0_pay6 v) (k0_pay11 w g) (ix2 a d)
    = gradK (fun k => v (ix2 a k)) (fun k => w (ix2 a k) * Ideal.ofBits .f32 0x3E000000#32) (fun k => g (ix2 0 k)) d := by
  unfold k0_pay15 k0_pay10 k0_pay11 k0_pay9 k0_pay8
  pointwise
  simp only [mean_entry]
  rfl

theorem point_qg : k0_pay14 (k0_pay13 k0_pay3 k0_pay4 k0_pay5 k0_pay6 v w s) (ix2 0 d)
    = s (ix2 0 d) + ∑ a : Fin 1024, w (ix2 a d) * Ideal.ofBits .f32 0x3E000000#32 * (v (ix2 a d) * root (fun k => v (ix2 a k)) d) := by
  unfold k0_pay14 k0_pay13 k0_pay10 k0_pay9 k0_pay8
  pointwise
  simp only [mean_entry]
  rfl

/-- An entry of the joined rows in terms of the stacked ones. -/
abbrev un (z : ℕ → ℕ → EReal) (a d : ℕ) : EReal := z (a / 128 * 256 + d % 128 / 64 * 128 + a % 128) d

variable {Z : FVec Ideal S2048x512 .f32} {z : ℕ → ℕ → EReal} (hZ : Mat Z z) (w0 w1 w2 w3 w4 w5 w6 w7 : FVec Ideal S128x512 .f32)
  (hw : ∀ p a d, (![w0, w1, w2, w3, w4, w5, w6] : Fin 7 → FVec Ideal S128x512 .f32) p (ix2 a d) = z (256 * p.val + d.val % 128 / 64 * 128 + a.val) d.val) (hw7 : ∀ a d, w7 (ix2 a d) = z (1792 + a.val) d.val)
include hZ hw hw7

theorem point_k : k0_pay45 (k0_pay7 k0_pay3 k0_pay4 k0_pay5 k0_pay6) v Z k0_pay31 w0 w1 w2 w3 w4 w5 w6 w7 g (ix2 a d)
    = gradK (fun k => v (ix2 a k)) (fun k => un z a k) (fun k => g (ix2 0 k)) d := by
  unfold k0_pay45 k0_pay42 k0_pay41
  pointwise
  have hu : ∀ a d, k0_pay40 Z k0_pay31 w0 w1 w2 w3 w4 w5 w6 w7 (ix2 a d) = un z a d := unstack_k hZ ![w0, w1, w2, w3, w4, w5, w6] w7 hw hw7
  simp only [mean_entry, hu]
  rfl

theorem point_kg : k0_pay44 (k0_pay7 k0_pay3 k0_pay4 k0_pay5 k0_pay6) v Z k0_pay31 w0 w1 w2 w3 w4 w5 w6 w7 s (ix2 0 d)
    = s (ix2 0 d) + ∑ a : Fin 1024, un z a d * (v (ix2 a d) * root (fun k => v (ix2 a k)) d) := by
  unfold k0_pay44 k0_pay42 k0_pay41
  pointwise
  have hu : ∀ a d, k0_pay40 Z k0_pay31 w0 w1 w2 w3 w4 w5 w6 w7 (ix2 a d) = un z a d := unstack_k hZ ![w0, w1, w2, w3, w4, w5, w6] w7 hw hw7
  simp only [mean_entry, hu]
  rfl

end point

end Cert.Proof.NormQk
-- ==== Proof.QkReference.lean ====
module

public import proofs.«01_k».proof.Proof.RmsRow
public import proofs.«01_k».proof.Proof.Gen.Reference6Ideal.Run
public import proofs.«01_k».proof.Proof.Gen.Reference6Ideal.Read

/-!
What the reference of the gradient through the norms of the queries and the keys computes, head by head.
-/

@[expose] public section
set_option maxRecDepth 16384
noncomputable section
namespace Cert.Proof.NormQk.Ref
open Cert.Reference6Ideal Cert.Reference6Ideal.Gen Cert.Reference6Ideal.Read Idealize.ShloMosaic Idealize.ShloMosaic.TcCoe
open Cert.Proof.RmsRow

variable (x0 : (⟨S2048x2560, .f32⟩ : BufTy).Contents (Elt Ideal)) (x1 x2 x3 : (⟨S2048x512, .f32⟩ : BufTy).Contents (Elt Ideal))
  (x4 x5 : (⟨S64, .f32⟩ : BufTy).Contents (Elt Ideal))

/-- The width of a head. -/
abbrev n64 : EReal := Ideal.ofBits .f32 0x42800000#32

/-- A head's part of a row of the queries, of the keys, and of a gradient. -/
abbrev headQ (s : Fin 2048) (h : Fin 8) : Fin 64 → EReal := fun k => x0 (ix2 s ⟨1024 + (h.val * 64 + k.val), by omega⟩)
abbrev headK (s : Fin 2048) (h : Fin 8) : Fin 64 → EReal := fun k => x0 (ix2 s ⟨1024 + (512 + h.val * 64 + k.val), by omega⟩)
abbrev headB (s : Fin 2048) (h : Fin 8) : Fin 64 → EReal := fun k => x1 (ix2 s ⟨h.val * 64 + k.val, by omega⟩)

/-- A sum over the first two of three axes, entry by entry. -/
theorem fiber01 {n0 n1 n2 : ℕ} (h : (⟨3, ![n0, n1, n2]⟩ : Shape).ReducesTo [0, 1] ⟨1, ![n2]⟩) (d : Fin n2) (i : (⟨3, ![n0, n1, n2]⟩ : Shape).Idx) :
    h.drop i = ix1 d ↔ ∃ k : Fin n0 × Fin n1, ix3 k.1 k.2 d = i := by
  constructor
  · intro e
    refine ⟨(i 0, i 1), ?_⟩
    funext a; apply Fin.ext
    match a with
    | ⟨0, _⟩ => rfl
    | ⟨1, _⟩ => rfl
    | ⟨2, _⟩ => exact (congrArg Fin.val (congrFun e 0)).symm
  · rintro ⟨k, rfl⟩
    funext b
    apply Fin.ext
    match b with
    | ⟨0, _⟩ => rfl

theorem sum01 {n0 n1 n2 : ℕ} (h : (⟨3, ![n0, n1, n2]⟩ : Shape).ReducesTo [0, 1] ⟨1, ![n2]⟩) (v : (⟨3, ![n0, n1, n2]⟩ : Shape).Idx → EReal) (init : EReal) (d : Fin n2) :
    Ideal.hostReduceAdd h v init (ix1 d) = init + ∑ k0 : Fin n0, ∑ k1 : Fin n1, v (ix3 k0 k1 d) := by
  refine congrArg (init + ·) ((Finset.sum_filter_eq_sum_of_fiber _ (fun k : Fin n0 × Fin n1 => ix3 k.1 k.2 d)
    (fun _ _ e => Prod.ext (congrFun e 0) (congrFun e 1)) (fiber01 h d) v).trans ?_)
  simp only [Fintype.sum_prod_type]

theorem q_val (s : Fin 2048) (h : Fin 8) (d : Fin 64) : val_main_v87 x0 x1 x4 (ix3 s h d)
    = rmsR n64 (headQ x0 s h) (fun k => x4 (ix1 k)) (headB x1 s h) d := by
  pointwise [val_main_v0, val_main_v1, val_main_v2, val_main_v3, val_main_v4, val_main_cst, val_main_v5, val_main_v6,
    val_main_cst_0, val_main_v7, val_main_v8, val_main_cst_1, val_main_v9, val_main_v10, val_main_v11, val_main_v12,
    val_main_cst_2, val_main_v13, val_main_v14, val_main_v17, val_main_v40, val_main_v71, val_main_v72, val_main_v74,
    val_main_cst_16, val_main_v75, val_main_v76, val_main_v77, val_main_v78, val_main_v79, val_main_cst_17,
    val_main_v80, val_main_v81, val_main_cst_18, val_main_v82, val_main_v83, val_main_v84, val_main_v85, val_main_v86,
    val_main_v87]
  rw [Fin.sum_univ_one]
  rfl

theorem k_val (s : Fin 2048) (h : Fin 8) (d : Fin 64) : val_main_v64 x0 x2 x5 (ix3 s h d)
    = rmsR n64 (headK x0 s h) (fun k => x5 (ix1 k)) (headB x2 s h) d := by
  pointwise [val_main_v0, val_main_v1, val_main_v20, val_main_v21, val_main_v22, val_main_cst_3, val_main_v23,
    val_main_v24, val_main_cst_4, val_main_v25, val_main_v26, val_main_cst_5, val_main_v27, val_main_v28, val_main_v29,
    val_main_v30, val_main_cst_6, val_main_v31, val_main_v32, val_main_v35, val_main_v41, val_main_v48, val_main_v49,
    val_main_v51, val_main_cst_10, val_main_v52, val_main_v53, val_main_v54, val_main_v55, val_main_v56,
    val_main_cst_11, val_main_v57, val_main_v58, val_main_cst_12, val_main_v59, val_main_v60, val_main_v61,
    val_main_v62, val_main_v63, val_main_v64]
  rw [Fin.sum_univ_one]
  rfl

/-- The gradient at equal places. -/
theorem at_congr (X B : Fin 8 → Fin 64 → EReal) (g : Fin 64 → EReal) {h h' : Fin 8} {e e' : Fin 64} (hh : h = h') (he : e = e') :
    rmsR n64 (X h) g (B h) e = rmsR n64 (X h') g (B h') e' := by
  subst hh he; rfl

theorem d_val (s : Fin 2048) (d : Fin 1536) : val_main_v92 x0 x1 x2 x3 x4 x5 (ix2 s d)
    = if h : d.val < 512 then rmsR n64 (headQ x0 s ⟨d.val / 64, by omega⟩) (fun k => x4 (ix1 k)) (headB x1 s ⟨d.val / 64, by omega⟩) ⟨d.val % 64, by omega⟩
      else if h : d.val - 512 < 512 then rmsR n64 (headK x0 s ⟨(d.val - 512) / 64, by omega⟩) (fun k => x5 (ix1 k)) (headB x2 s ⟨(d.val - 512) / 64, by omega⟩) ⟨(d.val - 512) % 64, by omega⟩
      else x3 (ix2 s ⟨d.val - 1024, by omega⟩) := by
  pointwise [val_main_v42, val_main_v43, val_main_cst_7, val_main_v44, val_main_v65, val_main_cst_13, val_main_v66,
    val_main_v67, val_main_v88, val_main_cst_19, val_main_v89, val_main_v90, val_main_v91, val_main_v92]
  have hd := d.isLt
  split_ifs <;> first | omega | skip
  all_goals try simp only [add_zero, zero_add, q_val, k_val]
  · exact congrArg x3 (congrArg (ix2 s) (Fin.ext (by dsimp only; omega)))
  · exact at_congr (headK x0 s) (headB x2 s) _ (Fin.ext (by dsimp only; omega)) (Fin.ext (by dsimp only; omega))
  · exact at_congr (headQ x0 s) (headB x1 s) _ (Fin.ext (by dsimp only; omega)) rfl

theorem qg_val (d : Fin 64) : val_main_v93 x0 x1 (ix2 0 d)
    = ∑ s : Fin 2048, ∑ h : Fin 8, headQ x0 s h d * Ideal.rsqrt (msq n64 (headQ x0 s h)) * headB x1 s h d := by
  pointwise [val_main_v0, val_main_v1, val_main_v2, val_main_v3, val_main_v4, val_main_cst, val_main_v5, val_main_v6,
    val_main_cst_0, val_main_v7, val_main_v8, val_main_cst_1, val_main_v9, val_main_v10, val_main_v11, val_main_v15,
    val_main_v16, val_main_v40, val_main_v68, val_main_cst_14, val_main_v69, val_main_v70, val_main_cst_15,
    val_main_v73, val_main_v93, sum01]
  rw [Fin.sum_univ_one, Fin.sum_univ_one]
  rfl

theorem kg_val (d : Fin 64) : val_main_v94 x0 x2 (ix2 0 d)
    = ∑ s : Fin 2048, ∑ h : Fin 8, headK x0 s h d * Ideal.rsqrt (msq n64 (headK x0 s h)) * headB x2 s h d := by
  pointwise [val_main_v0, val_main_v1, val_main_v20, val_main_v21, val_main_v22, val_main_cst_3, val_main_v23,
    val_main_v24, val_main_cst_4, val_main_v25, val_main_v26, val_main_cst_5, val_main_v27, val_main_v28, val_main_v29,
    val_main_v33, val_main_v34, val_main_v41, val_main_v45, val_main_cst_8, val_main_v46, val_main_v47, val_main_cst_9,
    val_main_v50, val_main_v94, sum01]
  rw [Fin.sum_univ_one, Fin.sum_univ_one]
  rfl

end Cert.Proof.NormQk.Ref
-- ==== Proof.QkHeads.lean ====
module

public import proofs.«01_k».proof.Proof.QkKernel
public import proofs.«01_k».proof.Proof.QkReference

/-!
On rows of reals the matrix of means takes the mean of each head, so that the kernel's gradient of a row of eight
heads is the row formula head by head.
-/

@[expose] public section
noncomputable section
namespace Cert.Proof.NormQk
open Idealize.ShloMosaic Cert.Proof.Reals Cert.Proof.RmsRow
open Cert.Proof.NormQk.Ref (n64)

/-- Lane `e` of head `h`. -/
abbrev lane (h : Fin 8) (e : Fin 64) : Fin 512 := ⟨h.val * 64 + e.val, by omega⟩

theorem lane_of (d : Fin 512) : d = lane ⟨d.val / 64, by omega⟩ ⟨d.val % 64, by omega⟩ := Fin.ext (by dsimp only; omega)

theorem lit_64 : n64 = ((64 : ℝ) : EReal) := by
  simp [Ideal.ofBits, Ideal.ieee, -EReal.coe_mul]; norm_num

/-- A sum over the lanes, head by head. -/
theorem sum_lanes {M : Type*} [AddCommMonoid M] (f : Fin 512 → M) : ∑ k, f k = ∑ h : Fin 8, ∑ e : Fin 64, f (lane h e) := by
  rw [← Fintype.sum_prod_type']
  refine (Equiv.sum_comp (finProdFinEquiv (m := 8) (n := 64)) f).symm.trans (Finset.sum_congr rfl fun k _ => ?_)
  exact congrArg f (Fin.ext (by show k.2.val + 64 * k.1.val = k.1.val * 64 + k.2.val; omega))

/-- The mean of a head of reals. -/
theorem mean_head {y : Fin 512 → EReal} (hy : ∃ f : Fin 512 → ℝ, ∀ i, y i = f i) (h : Fin 8) (e : Fin 64) :
    mean y (lane h e) = Ideal.div (∑ k, y (lane h k)) n64 := by
  obtain ⟨f, hf⟩ := hy
  have hr : ∀ k : Fin 512, (y k - y k) * (if k.val / 64 = (lane h e).val / 64 then ((1 / 64 : ℝ) : EReal) else 0) = 0 := fun k => by
    rw [hf, ← EReal.coe_sub, sub_self, EReal.coe_zero, zero_mul]
  have hs : ∀ k : Fin 512, y k * (if k.val / 64 = (lane h e).val / 64 then ((1 / 64 : ℝ) : EReal) else 0)
      = ((if k.val / 64 = (lane h e).val / 64 then f k * (1 / 64) else 0 : ℝ) : EReal) := fun k => by
    split
    · rw [hf, ← EReal.coe_mul]
    · rw [mul_zero, EReal.coe_zero]
  unfold mean
  simp only [hr, hs, Finset.sum_const_zero, add_zero]
  simp only [coe_sum, hf, lit_64]
  rw [coe_div _ _ (by norm_num), sum_lanes, Finset.sum_eq_single h]
  · congr 1
    rw [Finset.sum_div]
    refine Finset.sum_congr rfl fun k _ => ?_
    rw [if_pos (by dsimp only; omega), mul_one_div]
  · intro b _ hb
    refine Finset.sum_eq_zero fun k _ => if_neg fun hc => hb (Fin.ext ?_)
    dsimp only at hc
    omega
  · intro hn
    exact absurd (Finset.mem_univ _) hn

/-- The reciprocal root of a head. -/
theorem root_head {x : Fin 512 → EReal} (hx : ∃ f : Fin 512 → ℝ, ∀ i, x i = f i) (h : Fin 8) (e : Fin 64) :
    root x (lane h e) = Ideal.rsqrt (msq n64 fun k => x (lane h k)) := by
  obtain ⟨f, hf⟩ := hx
  unfold root msq
  rw [mean_head ⟨fun k => f k * f k, fun k => by rw [hf, EReal.coe_mul]⟩]

theorem root_real {x : Fin 512 → EReal} (hx : ∃ f : Fin 512 → ℝ, ∀ i, x i = f i) : ∃ r : Fin 512 → ℝ, ∀ i, root x i = r i := by
  have hr : ∀ d, ∃ r : ℝ, root x d = r := fun d => by
    obtain ⟨f, hf⟩ := hx
    obtain ⟨_, r, -, -, -, hR⟩ := rsqrt_real (N := n64) (X := fun k => x (lane ⟨d.val / 64, by omega⟩ k)) 64 lit_64 (by norm_num) ⟨_, fun k => hf _⟩
    exact ⟨r, (congrArg (root x) (lane_of d)).trans ((root_head ⟨f, hf⟩ _ _).trans hR)⟩
  choose r hr using hr
  exact ⟨r, hr⟩

/-- The gradient of a row of eight heads is the row formula on each. -/
theorem gradK_head {x b g : Fin 512 → EReal} (hx : ∃ f : Fin 512 → ℝ, ∀ i, x i = f i) (hb : ∃ f : Fin 512 → ℝ, ∀ i, b i = f i)
    (hg : ∃ f : Fin 512 → ℝ, ∀ i, g i = f i) (h : Fin 8) (e : Fin 64) :
    gradK x b g (lane h e) = rmsR n64 (fun k => x (lane h k)) (fun k => g (lane h k)) (fun k => b (lane h k)) e := by
  obtain ⟨r, hr⟩ := root_real hx
  have hx' := hx
  obtain ⟨x', hx'⟩ := hx'
  obtain ⟨b', hb⟩ := hb
  obtain ⟨g', hg⟩ := hg
  rw [← rms_eq 64 lit_64 (by norm_num) ⟨_, fun k => hx' _⟩ ⟨_, fun k => hg _⟩ ⟨_, fun k => hb _⟩]
  unfold gradK rmsK
  rw [mean_head ⟨fun k => b' k * g' k * (x' k * r k), fun k => by rw [hb, hg, hx', hr]; simp only [EReal.coe_mul]⟩]
  simp only [root_head hx]

end Cert.Proof.NormQk
-- ==== Proof.QkHost.lean ====
module

public import proofs.«01_k».proof.Proof.QkTiles
public import proofs.«01_k».proof.Proof.SbHost
public import proofs.«01_k».proof.Proof.Gen.Kernel6Ideal.Value
public import Idealize.ShloMosaic.Lib.StableHlo.RunRead
public import Idealize.ShloMosaic.Lib.Pipeline.ValueKit

/-!
What the host code of the gradient through the norms of the queries and the keys hands to the call, and each block
of it at a grid point.
-/

@[expose] public section
set_option maxRecDepth 16384
noncomputable section
namespace Cert.Proof.NormQk
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- Where each window's block sits. -/
theorem idx (t : Fin grid0.N) : win0_0.index t = ![t.val, 2] ∧ win0_1.index t = ![t.val, 3] ∧ win0_2.index t = ![t.val, 0] ∧
    win0_3.index t = ![0, t.val, 0, 0] ∧ win0_4.index t = ![0, t.val, 0, 0] ∧ win0_5.index t = ![0, 0] ∧ win0_6.index t = ![0, 0] ∧
    win0_7.index t = ![t.val, 0] ∧ win0_8.index t = ![0, 0] ∧ win0_9.index t = ![0, 0] := by
  revert t; decide +kernel

/-- Eight times a number: the host takes the keys' scale out of the queries' gradient. -/
def eight (x : EReal) : EReal := x * Ideal.ofBits .f32 0x41000000#32

/-- Rows of the arguments: the queries' and the keys' part of the projection, the three gradients, and the gains, one
    copy to each head. -/
abbrev rowQ (s : Fin 2048) : Fin 512 → EReal := fun d => m ((c : Thread nD τ).loc main_arg0) (ix2 s ⟨1024 + d.val, by omega⟩)
abbrev rowK (s : Fin 2048) : Fin 512 → EReal := fun d => m ((c : Thread nD τ).loc main_arg0) (ix2 s ⟨1536 + d.val, by omega⟩)
abbrev rowB (s : Fin 2048) : Fin 512 → EReal := fun d => eight (m ((c : Thread nD τ).loc main_arg1) (ix2 s d))
abbrev rowC (s : Fin 2048) : Fin 512 → EReal := fun d => m ((c : Thread nD τ).loc main_arg2) (ix2 s d)
abbrev rowV (s : Fin 2048) : Fin 512 → EReal := fun d => m ((c : Thread nD τ).loc main_arg3) (ix2 s d)
abbrev gainQ : Fin 512 → EReal := fun d => m ((c : Thread nD τ).loc main_arg4) (ix1 ⟨d.val % 64, by omega⟩)
abbrev gainK : Fin 512 → EReal := fun d => m ((c : Thread nD τ).loc main_arg5) (ix1 ⟨d.val % 64, by omega⟩)

/-- An array's entry, zero past its end. -/
def nat2 (f : Fin 2048 → Fin 512 → EReal) (s d : ℕ) : EReal := if h : s < 2048 ∧ d < 512 then f ⟨s, h.1⟩ ⟨d, h.2⟩ else 0

/-- The packed tiles of an array: a head's rows beside its pair's, zero elsewhere. -/
def tile (f : Fin 2048 → Fin 512 → EReal) (p s d e : ℕ) : EReal :=
  if e / 128 = d / 64 then nat2 f (128 * s + e % 128) (128 * p + d) else 0

theorem in_b (s : Fin 2048) (d : Fin 512) : V m c main_v1 (ix2 s d) = rowB m c s d := by
  after_reads_simp
  pointwise
  rfl

theorem nat2_of (f : Fin 2048 → Fin 512 → EReal) (s d : ℕ) (x : Fin 2048) (y : Fin 512) (hx : x.val = s) (hy : y.val = d) : nat2 f s d = f x y := by
  subst hx hy; exact dif_pos ⟨x.isLt, y.isLt⟩

theorem in_c (p : Fin 4) (s : Fin 16) (d : Fin 128) (e : Fin 256) : V m c main_v13 (ix4 p s d e) = tile (rowC m c) p s d e := by
  after_reads_simp
  pointwise
  unfold tile
  split
  · after_reads_simp; simp only [StableHlo.TRef.toBuf, StableHlo.TRef.ofBuf, cast_eq, id_eq]
    pointwise
    rw [Sb.lane_even _ (by omega), pick, nat2_of _ _ _ ⟨s.val * 128 + e.val, by omega⟩ ⟨p.val * 128 + d.val, by omega⟩ (by dsimp only; omega) (by dsimp only; omega)]
    exact if_congr (by omega) rfl rfl
  · after_reads_simp; simp only [StableHlo.TRef.toBuf, StableHlo.TRef.ofBuf, cast_eq, id_eq]
    pointwise
    rw [Sb.lane_even _ (by omega), pick, nat2_of _ _ _ ⟨s.val * 128 + (e.val - 128), by omega⟩ ⟨p.val * 128 + d.val, by omega⟩ (by dsimp only; omega) (by dsimp only; omega)]
    rw [← ite_not]
    exact if_congr (by omega) rfl rfl

theorem in_v (p : Fin 4) (s : Fin 16) (d : Fin 128) (e : Fin 256) : V m c main_v25 (ix4 p s d e) = tile (rowV m c) p s d e := by
  after_reads_simp
  pointwise
  unfold tile
  split
  · after_reads_simp; simp only [StableHlo.TRef.toBuf, StableHlo.TRef.ofBuf, cast_eq, id_eq]
    pointwise
    rw [Sb.lane_even _ (by omega), pick, nat2_of _ _ _ ⟨s.val * 128 + e.val, by omega⟩ ⟨p.val * 128 + d.val, by omega⟩ (by dsimp only; omega) (by dsimp only; omega)]
    exact if_congr (by omega) rfl rfl
  · after_reads_simp; simp only [StableHlo.TRef.toBuf, StableHlo.TRef.ofBuf, cast_eq, id_eq]
    pointwise
    rw [Sb.lane_even _ (by omega), pick, nat2_of _ _ _ ⟨s.val * 128 + (e.val - 128), by omega⟩ ⟨p.val * 128 + d.val, by omega⟩ (by dsimp only; omega) (by dsimp only; omega)]
    rw [← ite_not]
    exact if_congr (by omega) rfl rfl

theorem in_gq (d : Fin 512) : V m c main_v29 (ix2 0 d) = gainQ m c d := by
  after_reads_simp
  pointwise

theorem in_gk (d : Fin 512) : V m c main_v33 (ix2 0 d) = gainK m c d := by
  after_reads_simp
  pointwise

section blocks
variable (t : Fin cfg0.N)

/-- The array row of a block's row. -/
abbrev atRow (a : Fin 1024) : Fin 2048 := ⟨t.val * 1024 + a.val, by have h : t.val < 2 := t.isLt; omega⟩

theorem blk0 (a : Fin 1024) (b : Fin 512) : iblk m c 0 t (ix2 a b) = rowQ m c (atRow t a) b := by
  blk_ext! [iblk, V, idx t]

theorem blk1 (a : Fin 1024) (b : Fin 512) : iblk m c 1 t (ix2 a b) = rowK m c (atRow t a) b := by
  blk_ext! [iblk, V, idx t]

theorem blk2 (a : Fin 1024) (b : Fin 512) : iblk m c 2 t (ix2 a b) = rowB m c (atRow t a) b := by
  rw [← in_b m c (atRow t a) b]
  blk_ext! [iblk, idx t]

theorem blk3 (p : Fin 4) (q : Fin 8) (a : Fin 128) (b : Fin 256) : iblk m c 3 t (ix4 p q a b) = tile (rowC m c) p (t.val * 8 + q.val) a b := by
  rw [← in_c m c p ⟨t.val * 8 + q.val, by have h : t.val < 2 := t.isLt; omega⟩]
  blk_ext! [iblk, idx t]

theorem blk4 (p : Fin 4) (q : Fin 8) (a : Fin 128) (b : Fin 256) : iblk m c 4 t (ix4 p q a b) = tile (rowV m c) p (t.val * 8 + q.val) a b := by
  rw [← in_v m c p ⟨t.val * 8 + q.val, by have h : t.val < 2 := t.isLt; omega⟩]
  blk_ext! [iblk, idx t]

theorem blk5 (b : Fin 512) : iblk m c 5 t (ix2 0 b) = gainQ m c b := by
  rw [← in_gq m c b]
  blk_ext! [iblk, idx t]

theorem blk6 (b : Fin 512) : iblk m c 6 t (ix2 0 b) = gainK m c b := by
  rw [← in_gk m c b]
  blk_ext! [iblk, idx t]

/-- The array entry of a block's entry in the result stored by rows. -/
theorem emb7 (a : Fin 1024) (b : Fin 1536) (G : S2048x1536.Idx → EReal) :
    G (((View.whole main_v34_0).slice (win0_7.rect t)).emb (ix2 a b)) = G (ix2 (atRow t a) b) := by
  blk_ext [idx t]

end blocks

end Cert.Proof.NormQk
-- ==== Proof.QkArrays.lean ====
module

public import proofs.«01_k».proof.Proof.QkHost
public import proofs.«01_k».proof.Proof.QkKernel

/-!
The three arrays the call for the gradient through the norms of the queries and the keys returns.
-/

@[expose] public section
set_option maxRecDepth 16384
noncomputable section
namespace Cert.Proof.NormQk
open Cert.Kernel6Ideal Cert.Kernel6Ideal.Gen Idealize.ShloMosaic Idealize.ShloMosaic.TcCoe Idealize.SL.Sem

variable (m : (ℓ : Loc nD τ sig) → Buf (Elt Ideal) ℓ) (c : Dev nD)

/-- The queries' gradient as the call scales it back. -/
abbrev back (s : Fin 2048) : Fin 512 → EReal := fun d => rowB m c s d * Ideal.ofBits .f32 0x3E000000#32

/-- Result 0: the gradients of the queries, of the keys and of the values, side by side. -/
def dArr : S2048x1536.Idx → EReal := fun i =>
  if h : (i 1).val < 512 then gradK (rowQ m c (i 0)) (back m c (i 0)) (gainQ m c) ⟨(i 1).val, h⟩
  else if h : (i 1).val - 512 < 512 then gradK (rowK m c (i 0)) (rowC m c (i 0)) (gainK m c) ⟨(i 1).val - 512, h⟩
  else rowV m c (i 0) ⟨(i 1).val - 1024, by have : (i 1).val < 1536 := (i 1).isLt; omega⟩

theorem dArr_q (s : Fin 2048) (d : Fin 1536) (h : d.val < 512) :
    dArr m c (ix2 s d) = gradK (rowQ m c s) (back m c s) (gainQ m c) ⟨d.val, h⟩ := dif_pos h

theorem dArr_k (s : Fin 2048) (d : Fin 1536) (h : d.val - 512 < 512) (h' : 512 ≤ d.val) :
    dArr m c (ix2 s d) = gradK (rowK m c s) (rowC m c s) (gainK m c) ⟨d.val - 512, h⟩ := (dif_neg (Nat.not_lt.mpr h')).trans (dif_pos h)

theorem dArr_v (s : Fin 2048) (d : Fin 1536) (h : 1024 ≤ d.val) :
    dArr m c (ix2 s d) = rowV m c s ⟨d.val - 1024, by omega⟩ :=
  (dif_neg (Nat.not_lt.mpr (by show 512 ≤ d.val; omega))).trans (dif_neg (Nat.not_lt.mpr (by show 512 ≤ d.val - 512; omega)))

section tiles
variable (t : Fin cfg0.N)

/-- A block's joined rows are the array's rows. -/
theorem un_tile (f : Fin 2048 → Fin 512 → EReal) (a : Fin 1024) (d : Fin 512) :
    un (fun x d => tile f (d / 128) (t.val * 8 + x / 256) (d % 128) (x % 256)) a.val d.val = f (atRow t a) d := by
  have h : t.val < 2 := t.isLt
  have ha := a.isLt
  unfold un tile
  refine (if_pos (by omega)).trans ?_
  exact nat2_of _ _ _ _ _ (by dsimp only; omega) (by omega)

/-- An entry of a tile the body loads. -/
theorem load_k (p : Fin 4) (q : Fin 8) (a : Fin 128) (b : Fin 256) :
    View.read (Elt Ideal) (ms0_3 t).view ((hs0_3 t).unread (iblk m c 3 t)) (ix4 p q a b) = tile (rowC m c) p (t.val * 8 + q) a b :=
  (congrFun ((hs0_3 t).read_unread _) _).trans (blk3 m c t p q a b)

theorem load_v (p : Fin 4) (q : Fin 8) (a : Fin 128) (b : Fin 256) :
    View.read (Elt Ideal) (ms0_4 t).view ((hs0_4 t).unread (iblk m c 4 t)) (ix4 p q a b) = tile (rowV m c) p (t.val * 8 + q) a b :=
  (congrFun ((hs0_4 t).read_unread _) _).trans (blk4 m c t p q a b)

/-- Equal places hold equal entries. -/
theorem tile_congr (f : Fin 2048 → Fin 512 → EReal) {p s d e p' s' d' e' : ℕ} (hp : p = p') (hs : s = s') (hd : d = d') (he : e = e') :
    tile f p s d e = tile f p' s' d' e' := by
  subst hp hs hd he; rfl

/-- The keys' part of a block, from the stacked tiles. -/
theorem part_k {Z : FVec Ideal S2048x512 .f32} {z : ℕ → ℕ → EReal} (hZ : Mat Z z) (hz : ∀ (a : Fin 1024) (d : Fin 512), un z a d = rowC m c (atRow t a) d)
    (w0 w1 w2 w3 w4 w5 w6 w7 : FVec Ideal S128x512 .f32) (hw7 : ∀ a d, w7 (ix2 a d) = z (1792 + a.val) d.val)
    (hw : ∀ p a d, (![w0, w1, w2, w3, w4, w5, w6] : Fin 7 → FVec Ideal S128x512 .f32) p (ix2 a d) = z (256 * p.val + d.val % 128 / 64 * 128 + a.val) d.val)
    (a : Fin 1024) (d : Fin 1536) (h : d.val - 512 < 512) (h' : 512 ≤ d.val) :
    k0_pay45 (k0_pay7 k0_pay3 k0_pay4 k0_pay5 k0_pay6) (iblk m c 1 t) Z k0_pay31 w0 w1 w2 w3 w4 w5 w6 w7 (iblk m c 6 t) (ix2 a ⟨d.val - 512, h⟩)
      = dArr m c (ix2 (atRow t a) d) := by
  rw [dArr_k m c _ _ h h', point_k (hZ := hZ) (hw := hw) (hw7 := hw7)]
  simp only [blk1, blk6, hz]

theorem part_kg {Z : FVec Ideal S2048x512 .f32} {z : ℕ → ℕ → EReal} (hZ : Mat Z z) (hz : ∀ (a : Fin 1024) (d : Fin 512), un z a d = rowC m c (atRow t a) d)
    (w0 w1 w2 w3 w4 w5 w6 w7 : FVec Ideal S128x512 .f32) (hw7 : ∀ a d, w7 (ix2 a d) = z (1792 + a.val) d.val)
    (hw : ∀ p a d, (![w0, w1, w2, w3, w4, w5, w6] : Fin 7 → FVec Ideal S128x512 .f32) p (ix2 a d) = z (256 * p.val + d.val % 128 / 64 * 128 + a.val) d.val)
    (s : FVec Ideal S1x512 .f32) (d : Fin 512) :
    k0_pay44 (k0_pay7 k0_pay3 k0_pay4 k0_pay5 k0_pay6) (iblk m c 1 t) Z k0_pay31 w0 w1 w2 w3 w4 w5 w6 w7 s (ix2 0 d)
      = s (ix2 0 d) + ∑ a, rowC m c (atRow t a) d * (rowK m c (atRow t a) d * root (rowK m c (atRow t a)) d) := by
  rw [point_kg (hZ := hZ) (hw := hw) (hw7 := hw7)]
  simp only [blk1, hz]

end tiles

set_option maxHeartbeats 8000000 in
theorem d_arr : (dats (F := Ideal) m 0 c).arrAt 7 cfg0.N = dArr m c := by
  refine (dats m 0 c).arrAt_eq_of_covers 7 _ (by decide +kernel) fun t hf y => ?_
  blk_simp
  rw [after0_7]
  by_cases h0 : t.val % 2 = 0
  on_goal 1 => rw [outsAt0_A m c t h0 h0 (by omega)]
  on_goal 2 => rw [outsAt0_B m c t h0 h0 (by omega)]
  all_goals
    dsimp only
    frame_out
    idx_vars y
    generalize hz : (concatenate S2048x512 0 _ _ : FVec Ideal S2048x512 .f32) = Z
    generalize hz' : (concatenate S2048x512 0 _ _ : FVec Ideal S2048x512 .f32) = Z'
    have hk : Mat Z fun x d => tile (rowC m c) (d / 128) (t.val * 8 + x / 256) (d % 128) (x % 256) := by
      rw [← hz]
      intro x d
      unfold_payloads
      pointwise
      have hx := x.isLt
      have hd := d.isLt
      repeat' (with_reducible refine dcase (fun _ => ?_) (fun _ => ?_))
      all_goals exact (load_k m c t _ _ _ _).trans (tile_congr _ (by simp; omega) (by simp; omega) (by dsimp only; omega) (by dsimp only; omega))
    have hv : Mat Z' fun x d => tile (rowV m c) (d / 128) (t.val * 8 + x / 256) (d % 128) (x % 256) := by
      rw [← hz']
      intro x d
      unfold_payloads
      pointwise
      have hx := x.isLt
      have hd := d.isLt
      repeat' (with_reducible refine dcase (fun _ => ?_) (fun _ => ?_))
      all_goals exact (load_v m c t _ _ _ _).trans (tile_congr _ (by simp; omega) (by simp; omega) (by dsimp only; omega) (by dsimp only; omega))
    clear hz hz'
    generalize h3 : (select (andi _ _) _ _ : IVec S512x512 32) = A3
    generalize h4 : (divsi _ _ : IVec S512x512 32) = A4
    generalize h5 : (cmpi .ne (subi _ _) _ : IVec S512x512 1) = A5
    generalize h6 : (cmpi .ne (remsi _ _) _ : IVec S512x512 1) = A6
    obtain rfl : A3 = k0_pay3 := h3.symm
    obtain rfl : A4 = k0_pay4 := h4.symm
    obtain rfl : A5 = k0_pay5 := h5.symm
    obtain rfl : A6 = k0_pay6 := h6.symm
    clear h3 h4 h5 h6
    generalize h31 : (cmpi .slt (select _ _ _) _ : IVec S128x512 1) = A31
    obtain rfl : A31 = k0_pay31 := h31.symm
    clear h31
    refine Eq.trans (unstack_v hv _ _ _ _ (dArr m c (ix2 (atRow t y0) y1)) ?_ ?_ ?_) (emb7 t _ _ (dArr m c)).symm
    · intro h
      refine (point_q ..).trans ?_
      simp only [blk0, blk2, blk5]
      exact (dArr_q m c _ _ h).symm
    · intro h h'
      refine part_k m c t hk (un_tile t _) _ _ _ _ _ _ _ _ ?_ ?_ y0 y1 h h'
      · intro a d
        pointwise
        exact hk _ _
      · intro i a d
        fin_cases i
        all_goals exact pair_entry hk _ _ _ rfl rfl _ _ a d
    · intro h
      refine (un_tile t (rowV m c) y0 ⟨y1.val - 1024, by omega⟩).trans ?_
      exact (dArr_v m c _ _ h).symm

end Cert.Proof.NormQk
-- ==== Proof.QkSums.lean ====
module

public import proofs.«01_k».proof.Proof.QkArrays
public import Idealize.ShloMosaic.Lib.Pipeline.ReadBack

/-!
The gradients of the two gains, kept in scratch over the grid and summed over the heads at its end.
-/

@[expose] public section
set_option maxRecDepth 16384
noncomputable section
namespace Cert.Proof.NormQk
open Cert.Kernel6Ideal Cert.Kernel6Ideal.Gen Idealize.ShloMosaic Idealize.ShloMosaic.TcCoe Idealize.SL.Sem

/-- The sum over the heads, lane by lane. -/
theorem heads_q (v : Vec Ideal S1x512 .f32) (z : Fin 1) (i : Fin 64) : k0_pay1 v (ix2 z i) = ∑ h : Fin 8, v (ix2 0 ⟨64 * h.val + i.val, by omega⟩) := by
  obtain rfl : z = 0 := Subsingleton.elim _ _
  unfold k0_pay1
  pointwise
  rw [Fin.sum_univ_eight]
  repeat' refine congrArg₂ (· + ·) ?_ ?_
  all_goals exact congrArg v (congrArg (ix2 0) (Fin.ext (by simp)))

theorem heads_k (v : Vec Ideal S1x512 .f32) (z : Fin 1) (i : Fin 64) : k0_pay2 v (ix2 z i) = ∑ h : Fin 8, v (ix2 0 ⟨64 * h.val + i.val, by omega⟩) :=
  (congrFun (show k0_pay2 v = k0_pay1 v from rfl) _).trans (heads_q v z i)

variable (m : (ℓ : Loc nD τ sig) → Buf (Elt Ideal) ℓ) (c : Dev nD)

/-- The terms of the gains' gradients. -/
abbrev termQ (s : Fin 2048) (d : Fin 512) : EReal := back m c s d * (rowQ m c s d * root (rowQ m c s) d)
abbrev termK (s : Fin 2048) (d : Fin 512) : EReal := rowC m c s d * (rowK m c s d * root (rowK m c s) d)

/-- The sum over the rows of a function, half by half, and over the heads. -/
def sums (f : Fin 2048 → Fin 512 → EReal) : S1x64.Idx → EReal := fun i =>
  ∑ h : Fin 8, ((∑ a, f (atRow t0_0 a) ⟨64 * h.val + (i 1).val, by have : (i 1).val < 64 := (i 1).isLt; omega⟩) +
    ∑ a, f (atRow t0_1 a) ⟨64 * h.val + (i 1).val, by have : (i 1).val < 64 := (i 1).isLt; omega⟩)

set_option maxHeartbeats 8000000 in
theorem q_first (d : Fin 512) : (outsAt0 m c (t0_0 : Fin cfg0.N).val t0_0.isLt).2.2.2.1 (ix2 0 d) = ∑ a, termQ m c (atRow t0_0 a) d := by
    rw [outsAt0_A m c t0_0 (by decide) (by decide) (by decide)]
    dsimp only
    frame_out
    generalize h3 : (select (andi _ _) _ _ : IVec S512x512 32) = A3
    generalize h4 : (divsi _ _ : IVec S512x512 32) = A4
    generalize h5 : (cmpi .ne (subi _ _) _ : IVec S512x512 1) = A5
    generalize h6 : (cmpi .ne (remsi _ _) _ : IVec S512x512 1) = A6
    obtain rfl : A3 = k0_pay3 := h3.symm
    obtain rfl : A4 = k0_pay4 := h4.symm
    obtain rfl : A5 = k0_pay5 := h5.symm
    obtain rfl : A6 = k0_pay6 := h6.symm
    clear h3 h4 h5 h6
    refine (point_qg ..).trans ?_
    simp only [blk0, blk2]
    have h0 : (k0_pay12 : FVec Ideal S1x512 .f32) (ix2 0 d) = 0 := by
      unfold k0_pay12
      pointwise
    exact (congrArg (· + _) h0).trans (zero_add _)

set_option maxHeartbeats 8000000 in
theorem k_first (d : Fin 512) : (outsAt0 m c (t0_0 : Fin cfg0.N).val t0_0.isLt).2.2.2.2 (ix2 0 d) = ∑ a, termK m c (atRow t0_0 a) d := by
    rw [outsAt0_A m c t0_0 (by decide) (by decide) (by decide)]
    dsimp only
    frame_out
    generalize hz : (concatenate S2048x512 0 _ _ : FVec Ideal S2048x512 .f32) = Z
    have hk : Mat Z fun x d => tile (rowC m c) (d / 128) (t0_0.val * 8 + x / 256) (d % 128) (x % 256) := by
      rw [← hz]
      intro x d
      unfold_payloads
      pointwise
      have hx := x.isLt
      have hd := d.isLt
      repeat' (with_reducible refine dcase (fun _ => ?_) (fun _ => ?_))
      all_goals exact (load_k m c t0_0 _ _ _ _).trans (tile_congr _ (by simp; omega) (by simp; omega) (by dsimp only; omega) (by dsimp only; omega))
    clear hz
    generalize h3 : (select (andi _ _) _ _ : IVec S512x512 32) = A3
    generalize h4 : (divsi _ _ : IVec S512x512 32) = A4
    generalize h5 : (cmpi .ne (subi _ _) _ : IVec S512x512 1) = A5
    generalize h6 : (cmpi .ne (remsi _ _) _ : IVec S512x512 1) = A6
    obtain rfl : A3 = k0_pay3 := h3.symm
    obtain rfl : A4 = k0_pay4 := h4.symm
    obtain rfl : A5 = k0_pay5 := h5.symm
    obtain rfl : A6 = k0_pay6 := h6.symm
    clear h3 h4 h5 h6
    generalize h31 : (cmpi .slt (select _ _ _) _ : IVec S128x512 1) = A31
    obtain rfl : A31 = k0_pay31 := h31.symm
    clear h31
    refine (part_kg m c t0_0 hk (un_tile t0_0 _) _ _ _ _ _ _ _ _ ?_ ?_ _ d).trans ?_
    · intro a d
      pointwise
      exact hk _ _
    · intro i a d
      fin_cases i
      all_goals exact pair_entry hk _ _ _ rfl rfl _ _ a d
    · have h0 : (k0_pay43 : FVec Ideal S1x512 .f32) (ix2 0 d) = 0 := by
        unfold k0_pay43
        pointwise
      exact (congrArg (· + _) h0).trans (zero_add _)

set_option maxHeartbeats 8000000 in
theorem qg_arr : (dats (F := Ideal) m 0 c).arrAt 8 cfg0.N = sums (termQ m c) := by
  refine (dats m 0 c).arrAt_eq_of_after_last 8 t0_1 (by decide +kernel) _ fun j => ?_
  · blk_simp
    rw [after0_8, outsAt0_B m c t0_1 (by decide) (by decide) (by decide)]
    dsimp only
    frame_out
    idx_vars j
    generalize h3 : (select (andi _ _) _ _ : IVec S512x512 32) = A3
    generalize h4 : (divsi _ _ : IVec S512x512 32) = A4
    generalize h5 : (cmpi .ne (subi _ _) _ : IVec S512x512 1) = A5
    generalize h6 : (cmpi .ne (remsi _ _) _ : IVec S512x512 1) = A6
    obtain rfl : A3 = k0_pay3 := h3.symm
    obtain rfl : A4 = k0_pay4 := h4.symm
    obtain rfl : A5 = k0_pay5 := h5.symm
    obtain rfl : A6 = k0_pay6 := h6.symm
    clear h3 h4 h5 h6
    refine (heads_q _ _ _).trans (Finset.sum_congr rfl fun h _ => ?_)
    refine (point_qg ..).trans ?_
    simp only [blk0, blk2]
    exact congrArg (· + _) ((congrFun (read_unread_whole _ _ _) _).trans (q_first m c _))

set_option maxHeartbeats 8000000 in
theorem kg_arr : (dats (F := Ideal) m 0 c).arrAt 9 cfg0.N = sums (termK m c) := by
  refine (dats m 0 c).arrAt_eq_of_after_last 9 t0_1 (by decide +kernel) _ fun j => ?_
  · blk_simp
    rw [after0_9, outsAt0_B m c t0_1 (by decide) (by decide) (by decide)]
    dsimp only
    frame_out
    idx_vars j
    generalize hz : (concatenate S2048x512 0 _ _ : FVec Ideal S2048x512 .f32) = Z
    have hk : Mat Z fun x d => tile (rowC m c) (d / 128) (t0_1.val * 8 + x / 256) (d % 128) (x % 256) := by
      rw [← hz]
      intro x d
      unfold_payloads
      pointwise
      have hx := x.isLt
      have hd := d.isLt
      repeat' (with_reducible refine dcase (fun _ => ?_) (fun _ => ?_))
      all_goals exact (load_k m c t0_1 _ _ _ _).trans (tile_congr _ (by simp; omega) (by simp; omega) (by dsimp only; omega) (by dsimp only; omega))
    clear hz
    generalize h3 : (select (andi _ _) _ _ : IVec S512x512 32) = A3
    generalize h4 : (divsi _ _ : IVec S512x512 32) = A4
    generalize h5 : (cmpi .ne (subi _ _) _ : IVec S512x512 1) = A5
    generalize h6 : (cmpi .ne (remsi _ _) _ : IVec S512x512 1) = A6
    obtain rfl : A3 = k0_pay3 := h3.symm
    obtain rfl : A4 = k0_pay4 := h4.symm
    obtain rfl : A5 = k0_pay5 := h5.symm
    obtain rfl : A6 = k0_pay6 := h6.symm
    clear h3 h4 h5 h6
    generalize h31 : (cmpi .slt (select _ _ _) _ : IVec S128x512 1) = A31
    obtain rfl : A31 = k0_pay31 := h31.symm
    clear h31
    refine (heads_k _ _ _).trans (Finset.sum_congr rfl fun h _ => ?_)
    refine (part_kg m c t0_1 hk (un_tile t0_1 _) _ _ _ _ _ _ _ _ ?_ ?_ _ _).trans ?_
    · intro a d
      pointwise
      exact hk _ _
    · intro i a d
      fin_cases i
      all_goals exact pair_entry hk _ _ _ rfl rfl _ _ a d
    · exact congrArg (· + _) ((congrFun (read_unread_whole _ _ _) _).trans (k_first m c _))

end Cert.Proof.NormQk
-- ==== Proof.QkEquation.lean ====
module

public import proofs.«01_k».proof.Defs
public import proofs.«01_k».proof.Proof.Gen.Pre_finite_qk
public import proofs.«01_k».proof.Proof.QkHeads
public import proofs.«01_k».proof.Proof.QkSums

/-!
The gradient kernel of the norms of the queries and the keys computes the derivative of the forward lines.
-/

@[expose] public section
noncomputable section
namespace Cert.Proof.NormQk
open Idealize.ShloMosaic Idealize.ShloMosaic.TcCoe Idealize.SL.Sem Cert.Kernel6Ideal Cert.Kernel6Ideal.Gen Cert.Proof.Reals Cert.Proof.RmsRow
open Cert.Reference6Ideal.Read (val_main_v92 val_main_v93 val_main_v94)
open Cert.Proof.NormQk.Ref (n64 headQ headK headB)

variable (m : (ℓ : Loc nD τ sig) → Buf (Elt Ideal) ℓ) (c : Dev nD)

/-- A sum over the rows, one grid point after the other. -/
theorem sum_rows (f : Fin 2048 → EReal) : (∑ a, f (atRow t0_0 a)) + ∑ a, f (atRow t0_1 a) = ∑ s, f s := by
  refine Eq.trans ?_ (Equiv.sum_comp (finProdFinEquiv (m := 2) (n := 1024)) f)
  rw [Fintype.sum_prod_type, Fin.sum_univ_two]
  refine congrArg₂ (· + ·) (Finset.sum_congr rfl fun a _ => congrArg f (Fin.ext ?_)) (Finset.sum_congr rfl fun a _ => congrArg f (Fin.ext ?_))
  · show 0 * 1024 + a.val = a.val + 1024 * 0
    omega
  · show 1 * 1024 + a.val = a.val + 1024 * 1
    omega

/-- The two scales of the queries' gradient cancel on reals. -/
theorem eight_back (x : EReal) (h : ∃ r : ℝ, x = r) : eight x * Ideal.ofBits .f32 0x3E000000#32 = x := by
  obtain ⟨r, rfl⟩ := h
  have h8 : Ideal.ofBits .f32 0x41000000#32 = ((8 : ℝ) : EReal) := by
    simp [Ideal.ofBits, Ideal.ieee, -EReal.coe_mul]; norm_num
  have h1 : Ideal.ofBits .f32 0x3E000000#32 = ((1 / 8 : ℝ) : EReal) := by
    simp [Ideal.ofBits, Ideal.ieee, -EReal.coe_mul]; norm_num
  rw [eight, h8, h1, ← EReal.coe_mul, ← EReal.coe_mul]
  exact congrArg _ (by ring)

/-- Finite arguments are arrays of reals. -/
theorem args_real (h : Cert.Pre_Kernel6Ideal_finite_qk m) :
    (∃ f : S2048x2560.Idx → ℝ, ∀ i, m ((c : Thread nD τ).loc main_arg0) i = (f i : EReal)) ∧
    (∃ f : S2048x512.Idx → ℝ, ∀ i, m ((c : Thread nD τ).loc main_arg1) i = (f i : EReal)) ∧
    (∃ f : S2048x512.Idx → ℝ, ∀ i, m ((c : Thread nD τ).loc main_arg2) i = (f i : EReal)) ∧
    (∃ f : S64.Idx → ℝ, ∀ i, m ((c : Thread nD τ).loc main_arg4) i = (f i : EReal)) ∧
    ∃ f : S64.Idx → ℝ, ∀ i, m ((c : Thread nD τ).loc main_arg5) i = (f i : EReal) := by
  obtain ⟨h0, h1, h2, h3, h4⟩ := h c
  exact ⟨finite_real _ fun i => congrFun h0 i, finite_real _ fun i => congrFun h1 i, finite_real _ fun i => congrFun h2 i,
    finite_real _ fun i => congrFun h3 i, finite_real _ fun i => congrFun h4 i⟩

theorem back_eq (h : Cert.Pre_Kernel6Ideal_finite_qk m) (s : Fin 2048) (d : Fin 512) : back m c s d = m ((c : Thread nD τ).loc main_arg1) (ix2 s d) := by
  obtain ⟨-, ⟨f, hf⟩, -⟩ := args_real m c h
  exact eight_back _ ⟨_, hf _⟩

/-- The keys' part of a row, head by head. -/
theorem rowK_head (s : Fin 2048) (h : Fin 8) : (fun k => rowK m c s (lane h k)) = headK (m ((c : Thread nD τ).loc main_arg0)) s h :=
  funext fun k => congrArg (m ((c : Thread nD τ).loc main_arg0)) (congrArg (ix2 s) (Fin.ext (by dsimp only; omega)))

theorem gain_head (x : S64.Idx → EReal) (h : Fin 8) : (fun k => x (ix1 ⟨(lane h k).val % 64, by omega⟩)) = fun k => x (ix1 k) :=
  funext fun k => congrArg x (congrArg ix1 (Fin.ext (by dsimp only; omega)))

theorem d_result (h : Cert.Pre_Kernel6Ideal_finite_qk m) : dArr m c = val_main_v92 (F := Ideal)
    (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5)) := by
  funext i
  obtain ⟨s, d, rfl⟩ : ∃ (s : Fin 2048) (d : Fin 1536), i = ix2 s d := ⟨i 0, i 1, eq_ix2 i⟩
  refine Eq.trans ?_ (Ref.d_val _ _ _ _ _ _ s d).symm
  obtain ⟨⟨f0, h0⟩, ⟨f1, h1⟩, ⟨f2, h2⟩, ⟨f4, h4⟩, f5, h5⟩ := args_real m c h
  split_ifs with ha hb
  · rw [dArr_q m c s d ha, lane_of ⟨d.val, ha⟩]
    refine (gradK_head ⟨_, fun k => h0 _⟩ ⟨_, fun k => (back_eq m c h s k).trans (h1 _)⟩ ⟨_, fun k => h4 _⟩ _ _).trans ?_
    rw [funext fun k => back_eq m c h s _, gain_head]
  · rw [dArr_k m c s d hb (by omega), lane_of ⟨d.val - 512, hb⟩]
    refine (gradK_head ⟨_, fun k => h0 _⟩ ⟨_, fun k => h2 _⟩ ⟨_, fun k => h5 _⟩ _ _).trans ?_
    rw [rowK_head, gain_head]
  · exact dArr_v m c s d (by omega)

theorem qg_result (h : Cert.Pre_Kernel6Ideal_finite_qk m) : sums (termQ m c) = val_main_v93 (F := Ideal)
    (m ((c : Thread nD τ).loc main_arg0)) (m ((c : Thread nD τ).loc main_arg1)) := by
  funext i
  obtain ⟨z, d, rfl⟩ : ∃ (z : Fin 1) (d : Fin 64), i = ix2 z d := ⟨i 0, i 1, eq_ix2 i⟩
  obtain rfl : z = 0 := Subsingleton.elim _ _
  refine Eq.trans ?_ (Ref.qg_val _ _ d).symm
  obtain ⟨⟨f0, h0⟩, -⟩ := args_real m c h
  rw [Finset.sum_comm]
  refine Finset.sum_congr rfl fun e _ => (sum_rows fun s => termQ m c s ⟨64 * e.val + d.val, by omega⟩).trans (Finset.sum_congr rfl fun s _ => ?_)
  rw [show (⟨64 * e.val + d.val, by omega⟩ : Fin 512) = lane e d from Fin.ext (by dsimp only; omega)]
  refine (congrArg₂ (· * ·) (back_eq m c h s _) (congrArg (rowQ m c s (lane e d) * ·) (root_head ⟨_, fun k => h0 _⟩ e d))).trans ?_
  exact mul_comm _ _

theorem kg_result (h : Cert.Pre_Kernel6Ideal_finite_qk m) : sums (termK m c) = val_main_v94 (F := Ideal)
    (m ((c : Thread nD τ).loc main_arg0)) (m ((c : Thread nD τ).loc main_arg2)) := by
  funext i
  obtain ⟨z, d, rfl⟩ : ∃ (z : Fin 1) (d : Fin 64), i = ix2 z d := ⟨i 0, i 1, eq_ix2 i⟩
  obtain rfl : z = 0 := Subsingleton.elim _ _
  refine Eq.trans ?_ (Ref.kg_val _ _ d).symm
  obtain ⟨⟨f0, h0⟩, -⟩ := args_real m c h
  rw [Finset.sum_comm]
  refine Finset.sum_congr rfl fun e _ => (sum_rows fun s => termK m c s ⟨64 * e.val + d.val, by omega⟩).trans (Finset.sum_congr rfl fun s _ => ?_)
  rw [show (⟨64 * e.val + d.val, by omega⟩ : Fin 512) = lane e d from Fin.ext (by dsimp only; omega)]
  refine (congrArg (rowC m c s (lane e d) * ·) (congrArg₂ (· * ·) (congrFun (rowK_head m c s e) d)
    ((root_head ⟨_, fun k => h0 _⟩ e d).trans (congrArg (fun X => Ideal.rsqrt (msq n64 X)) (rowK_head m c s e))))).trans ?_
  exact mul_comm _ _

/-- The value claim. -/
theorem algebraic : Cert.algebraic_Kernel6Ideal_Reference6Ideal_pre_finite_qk := by
  intro m g m' g' hpre hag
  refine ⟨dArr m, fun c => sums (termQ m c), fun c => sums (termK m c), ?_, ?_⟩
  · refine (θ_run defs _ _).mono (fun r h c => ?_) (Cert.Kernel6Ideal.Value.run_blocks (F := Ideal) m g)
    obtain ⟨r0, r1, r2, ha⟩ := h c
    exact ⟨r0.trans (d_arr m c), r1.trans (qg_arr m c), r2.trans (kg_arr m c), ha⟩
  · refine (θ_run Cert.Reference6Ideal.defs _ _).mono (fun r h c => ?_) (Cert.Reference6Ideal.Value.run (F := Ideal) m' g')
    obtain ⟨r0, r1, r2, ha⟩ := h c
    obtain ⟨a0, a1, a2, a3, a4, a5⟩ := hag c
    refine ⟨r0.trans ?_, r1.trans ?_, r2.trans ?_, ha⟩
    · rw [Cert.Reference6Ideal.Read.val_main_v92_eq, a0, a1, a2, a3, a4, a5]
      exact (d_result m c hpre).symm
    · refine (Cert.Reference6Ideal.Read.val_main_v93_eq _ _).trans ?_
      rw [a0, a1]
      exact (qg_result m c hpre).symm
    · refine (Cert.Reference6Ideal.Read.val_main_v94_eq _ _).trans ?_
      rw [a0, a2]
      exact (kg_result m c hpre).symm

/-- The reference's frame: its arguments stay, and it declares no counter. -/
theorem frame_reference : Cert.quiescent_Reference6Ideal := fun m g _ =>
  (θ_run Cert.Reference6Ideal.defs _ _).mono
    (fun r h => ⟨fun c => (h c).2.2.2, sem_eq_zero_of_no_sems (by decide) r.2⟩)
    (Cert.Reference6Ideal.Value.run (F := Ideal) m g)

end Cert.Proof.NormQk
-- ==== Proof.Adam.lean ====
module

public import proofs.«01_k».proof.Defs
public import proofs.«01_k».proof.Proof.Gen.Kernel8Ideal.Value
public import proofs.«01_k».proof.Proof.Gen.Reference8Ideal.Run
public import proofs.«01_k».proof.Proof.Gen.Reference8Ideal.Read
public import Idealize.ShloMosaic.Lib.Pipeline.ValueKit

/-!
The optimiser's step on one weight: the devices' gradients summed, the two moments and the change of the weight. What the
kernel's four result arrays hold, what the reference computes, and that they agree at any extended reals.
-/

@[expose] public section
set_option maxRecDepth 16384
noncomputable section
namespace Cert.Proof.Adam
open Idealize.ShloMosaic Idealize.ShloMosaic.TcCoe Idealize.SL.Sem

/-- The new first moment, from the old one and the gradient. -/
abbrev first (x g : EReal) : EReal := Ideal.ofBits .f32 1063675494#32 * x + Ideal.ofBits .f32 1036831949#32 * g
/-- The new second moment. -/
abbrev second (x g : EReal) : EReal := Ideal.ofBits .f32 1065336439#32 * x + Ideal.ofBits .f32 981668463#32 * (g * g)
/-- The change of a weight `w`, from the new moments. -/
abbrev change (w p q : EReal) : EReal := Ideal.ofBits .f32 3129152111#32 *
  (Ideal.div (Ideal.div p (Ideal.ofBits .f32 1059503362#32))
    (Ideal.sqrt (Ideal.div q (Ideal.ofBits .f32 1008933580#32)) + Ideal.ofBits .f32 841731191#32) +
    Ideal.ofBits .f32 1008981770#32 * w)

section Kernel
open Cert.Kernel8Ideal Cert.Kernel8Ideal.Gen
variable (m : (ℓ : Loc nD τ sig) → Buf (Elt Ideal) ℓ) (c : Dev nD)

/-- Where each window's block sits: a layer per point. -/
theorem idx (t : Fin grid0.N) : win0_0.index t = ![t.val, 0, 0, 0] ∧ win0_1.index t = ![t.val, 0, 0] ∧
    win0_2.index t = ![t.val, 0, 0] ∧ win0_3.index t = ![t.val, 0, 0] ∧ win0_4.index t = ![t.val, 0, 0] ∧
    win0_5.index t = ![t.val, 0, 0] ∧ win0_6.index t = ![t.val, 0, 0] ∧ win0_7.index t = ![t.val, 0, 0] := by
  revert t; decide +kernel

/-- The arguments: the devices' gradients, the weight, its two moments. -/
abbrev part (l : Fin 4) (j : Fin 8) (a : Fin 352) (b : Fin 1024) : EReal := m ((c : Thread nD τ).loc main_arg0) (ix4 l j a b)
abbrev arg1 (i : S4x352x1024.Idx) : EReal := m ((c : Thread nD τ).loc main_arg1) i
abbrev arg2 (i : S4x352x1024.Idx) : EReal := m ((c : Thread nD τ).loc main_arg2) i
abbrev arg3 (i : S4x352x1024.Idx) : EReal := m ((c : Thread nD τ).loc main_arg3) i

/-- The four result arrays: the gradient, the new moments and the change. -/
def gArr : S4x352x1024.Idx → EReal := fun i => ∑ j, part m c (i 0) j (i 1) (i 2)
def mArr : S4x352x1024.Idx → EReal := fun i => first (arg2 m c i) (gArr m c i)
def vArr : S4x352x1024.Idx → EReal := fun i => second (arg3 m c i) (gArr m c i)
def dArr : S4x352x1024.Idx → EReal := fun i => change (arg1 m c i) (mArr m c i) (vArr m c i)

section blocks
variable (t : Fin cfg0.N)

/-- The layer a point works on. -/
abbrev layer : Fin 4 := ⟨t.val, t.isLt⟩

theorem blk0 (j : Fin 8) (a : Fin 352) (b : Fin 1024) : iblk m c 0 t (ix4 0 j a b) = part m c (layer t) j a b := by
  blk_ext! [iblk, V, idx t]

theorem blk1 (a : Fin 352) (b : Fin 1024) : iblk m c 1 t (ix3 0 a b) = arg1 m c (ix3 (layer t) a b) := by
  blk_ext! [iblk, V, idx t]

theorem blk2 (a : Fin 352) (b : Fin 1024) : iblk m c 2 t (ix3 0 a b) = arg2 m c (ix3 (layer t) a b) := by
  blk_ext! [iblk, V, idx t]

theorem blk3 (a : Fin 352) (b : Fin 1024) : iblk m c 3 t (ix3 0 a b) = arg3 m c (ix3 (layer t) a b) := by
  blk_ext! [iblk, V, idx t]

theorem emb4 (a : Fin 352) (b : Fin 1024) (G : S4x352x1024.Idx → EReal) :
    G (((View.whole main_v0_0).slice (win0_4.rect t)).emb (ix3 0 a b)) = G (ix3 (layer t) a b) := by
  blk_ext [idx t]

theorem emb5 (a : Fin 352) (b : Fin 1024) (G : S4x352x1024.Idx → EReal) :
    G (((View.whole main_v0_1).slice (win0_5.rect t)).emb (ix3 0 a b)) = G (ix3 (layer t) a b) := by
  blk_ext [idx t]

theorem emb6 (a : Fin 352) (b : Fin 1024) (G : S4x352x1024.Idx → EReal) :
    G (((View.whole main_v0_2).slice (win0_6.rect t)).emb (ix3 0 a b)) = G (ix3 (layer t) a b) := by
  blk_ext [idx t]

theorem emb7 (a : Fin 352) (b : Fin 1024) (G : S4x352x1024.Idx → EReal) :
    G (((View.whole main_v0_3).slice (win0_7.rect t)).emb (ix3 0 a b)) = G (ix3 (layer t) a b) := by
  blk_ext [idx t]

end blocks

/-! ## The body's values, entry by entry -/

section payloads
variable (x : Vec Ideal S1x8x352x1024 .bf16) (x1 x2 x3 : Vec Ideal S1x352x1024 .f32) (a : Fin 352) (b : Fin 1024)

theorem pay3 : k0_pay3 (k0_pay12 x x1 x2 x3) (View.ld x r0_7) (ix2 a b) = ∑ j, x (ix4 0 j a b) := by
  rw [Fin.sum_univ_eight]
  unfold k0_pay3 k0_pay12 k0_pay2
  pointwise

theorem pay4 : k0_pay4 (k0_pay12 x x1 x2 x3) (View.ld x r0_7) (ix3 0 a b) = ∑ j, x (ix4 0 j a b) := by
  rw [← pay3 x x1 x2 x3 a b]
  unfold k0_pay4
  pointwise

theorem pay5 : k0_pay5 (k0_pay12 x x1 x2 x3) (View.ld x r0_7) x2 (ix2 a b)
    = first (x2 (ix3 0 a b)) (∑ j, x (ix4 0 j a b)) := by
  rw [← pay3 x x1 x2 x3 a b]
  unfold k0_pay5
  pointwise

theorem pay6 : k0_pay6 (k0_pay12 x x1 x2 x3) (View.ld x r0_7) x3 (ix2 a b)
    = second (x3 (ix3 0 a b)) (∑ j, x (ix4 0 j a b)) := by
  rw [← pay3 x x1 x2 x3 a b]
  unfold k0_pay6
  pointwise

theorem pay7 : k0_pay7 (k0_pay12 x x1 x2 x3) (View.ld x r0_7) x2 (ix3 0 a b)
    = first (x2 (ix3 0 a b)) (∑ j, x (ix4 0 j a b)) := by
  rw [← pay5 x x1 x2 x3 a b]
  unfold k0_pay7
  pointwise

theorem pay8 : k0_pay8 (k0_pay12 x x1 x2 x3) (View.ld x r0_7) x3 (ix3 0 a b)
    = second (x3 (ix3 0 a b)) (∑ j, x (ix4 0 j a b)) := by
  rw [← pay6 x x1 x2 x3 a b]
  unfold k0_pay8
  pointwise

theorem pay1 : k0_pay1 (k0_pay9 (k0_pay12 x x1 x2 x3) (View.ld x r0_7) x2)
    (k0_pay10 (k0_pay12 x x1 x2 x3) (View.ld x r0_7) x3) (k0_pay11 (F := Ideal)) x1 (ix3 0 a b)
    = change (x1 (ix3 0 a b)) (first (x2 (ix3 0 a b)) (∑ j, x (ix4 0 j a b))) (second (x3 (ix3 0 a b)) (∑ j, x (ix4 0 j a b))) := by
  rw [← pay5 x x1 x2 x3 a b, ← pay6 x x1 x2 x3 a b]
  unfold k0_pay1 k0_pay9 k0_pay10 k0_pay11
  pointwise

end payloads

/-- The gradient: result 0. -/
theorem g_arr : (dats (F := Ideal) m 0 c).arrAt 4 cfg0.N = gArr m c := by
  refine (dats m 0 c).arrAt_eq_of_covers 4 _ (by decide +kernel) fun t hf y => ?_
  blk_simp
  rw [after0_4]
  frame_out
  idx_vars y
  obtain rfl : y0 = 0 := Subsingleton.elim _ _
  refine Eq.trans ?_ (emb4 t _ _ (gArr m c)).symm
  rw [pay4]
  simp only [blk0]
  rfl

/-- The change: result 1. -/
theorem d_arr : (dats (F := Ideal) m 0 c).arrAt 5 cfg0.N = dArr m c := by
  refine (dats m 0 c).arrAt_eq_of_covers 5 _ (by decide +kernel) fun t hf y => ?_
  blk_simp
  rw [after0_5]
  frame_out
  idx_vars y
  obtain rfl : y0 = 0 := Subsingleton.elim _ _
  refine Eq.trans ?_ (emb5 t _ _ (dArr m c)).symm
  rw [pay1]
  simp only [blk0, blk1, blk2, blk3]
  rfl

/-- The first moment: result 2. -/
theorem m_arr : (dats (F := Ideal) m 0 c).arrAt 6 cfg0.N = mArr m c := by
  refine (dats m 0 c).arrAt_eq_of_covers 6 _ (by decide +kernel) fun t hf y => ?_
  blk_simp
  rw [after0_6]
  frame_out
  idx_vars y
  obtain rfl : y0 = 0 := Subsingleton.elim _ _
  refine Eq.trans ?_ (emb6 t _ _ (mArr m c)).symm
  rw [pay7]
  simp only [blk0, blk2]
  rfl

/-- The second moment: result 3. -/
theorem v_arr : (dats (F := Ideal) m 0 c).arrAt 7 cfg0.N = vArr m c := by
  refine (dats m 0 c).arrAt_eq_of_covers 7 _ (by decide +kernel) fun t hf y => ?_
  blk_simp
  rw [after0_7]
  frame_out
  idx_vars y
  obtain rfl : y0 = 0 := Subsingleton.elim _ _
  refine Eq.trans ?_ (emb7 t _ _ (vArr m c)).symm
  rw [pay8]
  simp only [blk0, blk3]
  rfl

end Kernel

section Reference
open Cert.Reference8Ideal Cert.Reference8Ideal.Gen Cert.Reference8Ideal.Read
variable (x0 : (⟨S4x8x352x1024, .bf16⟩ : BufTy).Contents (Elt Ideal)) (x1 x2 x3 : (⟨S4x352x1024, .f32⟩ : BufTy).Contents (Elt Ideal))
  (l : Fin 4) (a : Fin 352) (b : Fin 1024)

theorem ref_g : val_main_v1 x0 (ix3 l a b) = ∑ j : Fin 8, x0 (ix4 l j a b) := by
  pointwise [val_main_v0, val_main_cst, val_main_v1]

theorem ref_m : val_main_v6 x0 x2 (ix3 l a b) = first (x2 (ix3 l a b)) (∑ j : Fin 8, x0 (ix4 l j a b)) := by
  rw [← ref_g]
  pointwise [val_main_cst_0, val_main_v2, val_main_v3, val_main_cst_1, val_main_v4, val_main_v5, val_main_v6]

theorem ref_v : val_main_v12 x0 x3 (ix3 l a b) = second (x3 (ix3 l a b)) (∑ j : Fin 8, x0 (ix4 l j a b)) := by
  rw [← ref_g]
  pointwise [val_main_cst_2, val_main_v7, val_main_v8, val_main_v9, val_main_cst_3, val_main_v10, val_main_v11, val_main_v12]

theorem ref_d : val_main_v25 x0 x1 x2 x3 (ix3 l a b) = change (x1 (ix3 l a b))
    (first (x2 (ix3 l a b)) (∑ j : Fin 8, x0 (ix4 l j a b))) (second (x3 (ix3 l a b)) (∑ j : Fin 8, x0 (ix4 l j a b))) := by
  rw [← ref_m, ← ref_v]
  pointwise [val_main_cst_4, val_main_v13, val_main_v14, val_main_cst_5, val_main_v15, val_main_v16, val_main_v17,
    val_main_cst_6, val_main_v18, val_main_v19, val_main_v20, val_main_cst_7, val_main_v21, val_main_v22, val_main_v23,
    val_main_cst_8, val_main_v24, val_main_v25]

end Reference

/-- Arrays that agree at every layer, row and column agree. -/
theorem ext3 {G H : Cert.Reference8Ideal.S4x352x1024.Idx → EReal} (h : ∀ l a b, G (ix3 l a b) = H (ix3 l a b)) : G = H := by
  funext i
  rw [eq_ix3 i]
  exact h _ _ _

/-- The value claim. -/
theorem algebraic : Cert.algebraic_Kernel8Ideal_Reference8Ideal := by
  intro m g m' g' hpre hag
  refine ⟨gArr m, dArr m, mArr m, vArr m, ?_, ?_⟩
  · refine (θ_run Cert.Kernel8Ideal.defs _ _).mono (fun r h c => ?_) (Cert.Kernel8Ideal.Value.run_blocks (F := Ideal) m g)
    obtain ⟨r0, r1, r2, r3, ha⟩ := h c
    exact ⟨r0.trans (g_arr m c), r1.trans (d_arr m c), r2.trans (m_arr m c), r3.trans (v_arr m c), ha⟩
  · refine (θ_run Cert.Reference8Ideal.defs _ _).mono (fun r h c => ?_) (Cert.Reference8Ideal.Value.run (F := Ideal) m' g')
    obtain ⟨r0, r1, r2, r3, ha⟩ := h c
    obtain ⟨a0, a1, a2, a3⟩ := hag c
    refine ⟨r0.trans ?_, r1.trans ?_, r2.trans ?_, r3.trans ?_, ha⟩
    · refine (Cert.Reference8Ideal.Read.val_main_v1_eq _).trans ?_
      rw [a0]
      exact ext3 fun l a b => ref_g _ l a b
    · refine (Cert.Reference8Ideal.Read.val_main_v25_eq _ _ _ _).trans ?_
      rw [a0, a1, a2, a3]
      exact ext3 fun l a b => ref_d _ _ _ _ l a b
    · refine (Cert.Reference8Ideal.Read.val_main_v6_eq _ _).trans ?_
      rw [a0, a2]
      exact ext3 fun l a b => ref_m _ _ l a b
    · refine (Cert.Reference8Ideal.Read.val_main_v12_eq _ _).trans ?_
      rw [a0, a3]
      exact ext3 fun l a b => ref_v _ _ l a b

/-- The reference's frame: its arguments stay, and it declares no counter. -/
theorem frame_reference : Cert.quiescent_Reference8Ideal := fun m g _ =>
  (θ_run Cert.Reference8Ideal.defs _ _).mono
    (fun r h => ⟨fun c => (h c).2.2.2.2, sem_eq_zero_of_no_sems (by decide) r.2⟩)
    (Cert.Reference8Ideal.Value.run (F := Ideal) m g)

end Cert.Proof.Adam
-- ==== Proof.FfnForward.lean ====
module

public import proofs.«01_k».proof.Defs
public import proofs.«01_k».proof.Proof.FfnKernel
public import proofs.«01_k».proof.Proof.Gen.Kernel9Ideal.Value
public import proofs.«01_k».proof.Proof.Gen.Reference9Ideal.Run
public import proofs.«01_k».proof.Proof.Gen.Reference9Ideal.Read

/-!
The gated feed-forward and its norm: what the forward kernel's two result arrays hold, what the reference computes, and
that they agree at any extended reals.
-/

@[expose] public section
set_option maxRecDepth 16384
noncomputable section
namespace Cert.Proof.FfnForward
open Idealize.ShloMosaic Idealize.ShloMosaic.TcCoe Idealize.SL.Sem Cert.Proof.RmsRow
open Cert.Proof.Ffn (n1024 sg act gate up)

/-- A row of gates and ups, from a row, the gain and the weight. -/
abbrev gates (x g : Fin 1024 → EReal) (w : Fin 1024 → Fin 5632 → EReal) (e : Fin 5632) : EReal :=
  ∑ k, x k * Ideal.rsqrt (msq n1024 x) * g k * w k e
/-- A row of the layer's output. -/
abbrev out (x g : Fin 1024 → EReal) (w : Fin 1024 → Fin 5632 → EReal) (v : Fin 2816 → Fin 1024 → EReal) (d : Fin 1024) : EReal :=
  x d + ∑ e, act (gates x g w) e * v e d

section Kernel
open Cert.Kernel9Ideal Cert.Kernel9Ideal.Gen
variable (m : (ℓ : Loc nD τ sig) → Buf (Elt Ideal) ℓ) (c : Dev nD)

/-- Where each window's block sits: by rows of 512, or the whole array. -/
theorem idx (t : Fin grid0.N) : win0_0.index t = ![t.val, 0] ∧ win0_1.index t = ![0, 0] ∧ win0_2.index t = ![0, 0] ∧
    win0_3.index t = ![0, 0] ∧ win0_4.index t = ![t.val, 0] ∧ win0_5.index t = ![t.val, 0] := by
  revert t; decide +kernel

/-- The arguments: a row, the gain and the two weights. -/
abbrev rowX (s : Fin 2048) : Fin 1024 → EReal := fun k => m ((c : Thread nD τ).loc main_arg0) (ix2 s k)
abbrev gain : Fin 1024 → EReal := fun k => m ((c : Thread nD τ).loc main_arg1) (ix1 k)
abbrev wUp (d : Fin 1024) : Fin 5632 → EReal := fun e => m ((c : Thread nD τ).loc main_arg2) (ix2 d e)
abbrev wDown (e : Fin 2816) : Fin 1024 → EReal := fun d => m ((c : Thread nD τ).loc main_arg3) (ix2 e d)

/-- The two result arrays. -/
def guArr : S2048x5632.Idx → EReal := fun i => gates (rowX m c (i 0)) (gain m c) (wUp m c) (i 1)
def outArr : S2048x1024.Idx → EReal := fun i => out (rowX m c (i 0)) (gain m c) (wUp m c) (wDown m c) (i 1)

section blocks
variable (t : Fin cfg0.N)

/-- The array row of a block's row. -/
abbrev atRow (a : Fin 512) : Fin 2048 := ⟨t.val * 512 + a.val, by have h : t.val < 4 := t.isLt; omega⟩

theorem blk0 (a : Fin 512) (b : Fin 1024) : iblk m c 0 t (ix2 a b) = rowX m c (atRow t a) b := by
  blk_ext! [iblk, V, idx t]

theorem blk1 (a : Fin 1) (b : Fin 1024) : iblk m c 1 t (ix2 a b) = gain m c b := by
  blk_simp [iblk, V, idx t]; entry_read; pointwise; blk_ext [iblk, V, idx t]

theorem blk2 (a : Fin 5632) (b : Fin 1024) : iblk m c 2 t (ix2 a b) = wUp m c b a := by
  blk_simp [iblk, V, idx t]; entry_read; pointwise; blk_ext [iblk, V, idx t]

theorem blk3 (a : Fin 2816) (b : Fin 1024) : iblk m c 3 t (ix2 a b) = wDown m c a b := by
  blk_simp [iblk, V, idx t]; entry_read; pointwise; blk_ext [iblk, V, idx t]

theorem emb4 (a : Fin 512) (b : Fin 5632) (G : S2048x5632.Idx → EReal) :
    G (((View.whole main_v5_0).slice (win0_4.rect t)).emb (ix2 a b)) = G (ix2 (atRow t a) b) := by
  blk_ext [idx t]

theorem emb5 (a : Fin 512) (b : Fin 1024) (G : S2048x1024.Idx → EReal) :
    G (((View.whole main_v5_1).slice (win0_5.rect t)).emb (ix2 a b)) = G (ix2 (atRow t a) b) := by
  blk_ext [idx t]

end blocks

/-- The gates and the ups: result 0. -/
theorem gu_arr : (dats (F := Ideal) m 0 c).arrAt 4 cfg0.N = guArr m c := by
  refine (dats m 0 c).arrAt_eq_of_covers 4 _ (by decide +kernel) fun t hf y => ?_
  blk_simp
  rw [after0_4]
  unfold outsAt0
  dsimp only
  frame_out
  unfold_payloads
  idx_vars y
  refine Eq.trans ?_ (emb4 t _ _ (guArr m c)).symm
  pointwise
  simp only [blk0, blk1, blk2]
  rfl

set_option maxHeartbeats 4000000 in
/-- The layer's output: result 1. -/
theorem out_arr : (dats (F := Ideal) m 0 c).arrAt 5 cfg0.N = outArr m c := by
  refine (dats m 0 c).arrAt_eq_of_covers 5 _ (by decide +kernel) fun t hf y => ?_
  blk_simp
  rw [after0_5]
  unfold outsAt0
  dsimp only
  frame_out
  unfold_payloads
  idx_vars y
  refine Eq.trans ?_ (emb5 t _ _ (outArr m c)).symm
  pointwise
  simp only [blk0, blk1, blk2, blk3]
  rfl

end Kernel

section Reference
open Cert.Reference9Ideal Cert.Reference9Ideal.Gen Cert.Reference9Ideal.Read
variable (x0 : (⟨S2048x1024, .f32⟩ : BufTy).Contents (Elt Ideal)) (x1 : (⟨S1024, .f32⟩ : BufTy).Contents (Elt Ideal))
  (x2 : (⟨S1024x5632, .f32⟩ : BufTy).Contents (Elt Ideal)) (x3 : (⟨S2816x1024, .f32⟩ : BufTy).Contents (Elt Ideal))
  (s : Fin 2048)

theorem ref_gu (e : Fin 5632) : val_main_v13 x0 x1 x2 (ix2 s e)
    = gates (fun k => x0 (ix2 s k)) (fun k => x1 (ix1 k)) (fun k e => x2 (ix2 k e)) e := by
  pointwise [val_main_v0, val_main_cst, val_main_v1, val_main_v2, val_main_cst_0, val_main_v3, val_main_v4,
    val_main_cst_1, val_main_v5, val_main_v6, val_main_v7, val_main_v8, val_main_v9, val_main_v10, val_main_v11,
    val_main_v12, val_main_v13]
  rfl

theorem ref_out (d : Fin 1024) : val_main_v19 x0 x1 x2 x3 (ix2 s d)
    = out (fun k => x0 (ix2 s k)) (fun k => x1 (ix1 k)) (fun k e => x2 (ix2 k e)) (fun e d => x3 (ix2 e d)) d := by
  pointwise [val_main_v14, val_main_call0_v0, val_main_call0_v1, val_main_call0_cst, val_main_call0_v2,
    val_main_call0_v3, val_main_call0_cst_0, val_main_call0_v4, val_main_call0_v5, val_main_v15, val_main_v16,
    val_main_v17, val_main_v18, val_main_v19]
  simp only [ref_gu, ← zero_sub]

end Reference

/-- The value claim. -/
theorem algebraic : Cert.algebraic_Kernel9Ideal_Reference9Ideal := by
  intro m g m' g' hpre hag
  refine ⟨guArr m, outArr m, ?_, ?_⟩
  · refine (θ_run Cert.Kernel9Ideal.defs _ _).mono (fun r h c => ?_) (Cert.Kernel9Ideal.Value.run_blocks (F := Ideal) m g)
    obtain ⟨r0, r1, ha⟩ := h c
    exact ⟨r0.trans (gu_arr m c), r1.trans (out_arr m c), ha⟩
  · refine (θ_run Cert.Reference9Ideal.defs _ _).mono (fun r h c => ?_) (Cert.Reference9Ideal.Value.run (F := Ideal) m' g')
    obtain ⟨r0, r1, ha⟩ := h c
    obtain ⟨a0, a1, a2, a3⟩ := hag c
    refine ⟨r0.trans ?_, r1.trans ?_, ha⟩
    · refine (Cert.Reference9Ideal.Read.val_main_v13_eq _ _ _).trans ?_
      rw [a0, a1, a2]
      funext i
      rw [eq_ix2 i]
      exact ref_gu _ _ _ _ _
    · refine (Cert.Reference9Ideal.Read.val_main_v19_eq _ _ _ _).trans ?_
      rw [a0, a1, a2, a3]
      funext i
      rw [eq_ix2 i]
      exact ref_out _ _ _ _ _ _

/-- The reference's frame: its arguments stay, and it declares no counter. -/
theorem frame_reference : Cert.quiescent_Reference9Ideal := fun m g _ =>
  (θ_run Cert.Reference9Ideal.defs _ _).mono
    (fun r h => ⟨fun c => (h c).2.2, sem_eq_zero_of_no_sems (by decide) r.2⟩)
    (Cert.Reference9Ideal.Value.run (F := Ideal) m g)

end Cert.Proof.FfnForward
-- ==== Proof.OutForward.lean ====
module

public import proofs.«01_k».proof.Defs
public import proofs.«01_k».proof.Proof.OutKernel
public import proofs.«01_k».proof.Proof.Gen.Kernel10Ideal.Value
public import proofs.«01_k».proof.Proof.Gen.Reference10Ideal.Run
public import proofs.«01_k».proof.Proof.Gen.Reference10Ideal.Read

/-!
The three group norms and the output projection: what the forward kernel's result array holds, what the reference
computes, and that they agree at any extended reals.
-/

@[expose] public section
set_option maxRecDepth 16384
noncomputable section
namespace Cert.Proof.OutForward
open Idealize.ShloMosaic Idealize.ShloMosaic.TcCoe Idealize.SL.Sem Cert.Proof.RmsRow
open Cert.Proof.NormOut (n256 n512 side unit)

/-- A row of the projected groups, on top of the row they are added to. -/
abbrev out (a b : Fin 256 → EReal) (r : Fin 512 → EReal) (g : Fin 1024 → EReal) (w : Fin 1024 → Fin 1024 → EReal)
    (x : Fin 1024 → EReal) (d : Fin 1024) : EReal :=
  x d + ∑ e, side (unit n256 a) (unit n256 b) (unit n512 r) e * g e * w e d

section Kernel
open Cert.Kernel10Ideal Cert.Kernel10Ideal.Gen
variable (m : (ℓ : Loc nD τ sig) → Buf (Elt Ideal) ℓ) (c : Dev nD)

/-- Where each window's block sits: by rows of 1024, or the whole array. -/
theorem idx (t : Fin grid0.N) : win0_0.index t = ![t.val, 0] ∧ win0_1.index t = ![t.val, 0] ∧ win0_2.index t = ![t.val, 0] ∧
    win0_3.index t = ![0, 0] ∧ win0_4.index t = ![0, 0] ∧ win0_5.index t = ![t.val, 0] ∧ win0_6.index t = ![t.val, 0] := by
  revert t; decide +kernel

/-- The rows of the arguments. -/
abbrev rowC (s : Fin 2048) : Fin 256 → EReal := fun k => m ((c : Thread nD τ).loc main_arg0) (ix2 s k)
abbrev rowS (s : Fin 2048) : Fin 256 → EReal := fun k => m ((c : Thread nD τ).loc main_arg1) (ix2 s k)
abbrev rowB (s : Fin 2048) : Fin 512 → EReal := fun k => m ((c : Thread nD τ).loc main_arg2) (ix2 s k)
abbrev gain : Fin 1024 → EReal := fun k => m ((c : Thread nD τ).loc main_arg3) (ix1 k)
abbrev wOut (e : Fin 1024) : Fin 1024 → EReal := fun k => m ((c : Thread nD τ).loc main_arg4) (ix2 e k)
abbrev rowX (s : Fin 2048) : Fin 1024 → EReal := fun k => m ((c : Thread nD τ).loc main_arg5) (ix2 s k)

/-- The result array. -/
def outArr : S2048x1024.Idx → EReal := fun i =>
  out (rowC m c (i 0)) (rowS m c (i 0)) (rowB m c (i 0)) (gain m c) (wOut m c) (rowX m c (i 0)) (i 1)

section blocks
variable (t : Fin cfg0.N)

/-- The array row of a block's row. -/
abbrev atRow (a : Fin 1024) : Fin 2048 := ⟨t.val * 1024 + a.val, by have h : t.val < 2 := t.isLt; omega⟩

theorem blk0 (a : Fin 1024) (b : Fin 256) : iblk m c 0 t (ix2 a b) = rowC m c (atRow t a) b := by
  blk_ext! [iblk, V, idx t]

theorem blk1 (a : Fin 1024) (b : Fin 256) : iblk m c 1 t (ix2 a b) = rowS m c (atRow t a) b := by
  blk_ext! [iblk, V, idx t]

theorem blk2 (a : Fin 1024) (b : Fin 512) : iblk m c 2 t (ix2 a b) = rowB m c (atRow t a) b := by
  blk_ext! [iblk, V, idx t]

theorem blk3 (a : Fin 1) (b : Fin 1024) : iblk m c 3 t (ix2 a b) = gain m c b := by
  blk_simp [iblk, V, idx t]; entry_read; pointwise; blk_ext [iblk, V, idx t]

theorem blk4 (a b : Fin 1024) : iblk m c 4 t (ix2 a b) = wOut m c a b := by
  blk_simp [iblk, V, idx t]; entry_read; pointwise; blk_ext [iblk, V, idx t]

theorem blk5 (a b : Fin 1024) : iblk m c 5 t (ix2 a b) = rowX m c (atRow t a) b := by
  blk_ext! [iblk, V, idx t]

theorem emb6 (a b : Fin 1024) (G : S2048x1024.Idx → EReal) :
    G (((View.whole main_v3).slice (win0_6.rect t)).emb (ix2 a b)) = G (ix2 (atRow t a) b) := by
  blk_ext [idx t]

end blocks

set_option maxHeartbeats 4000000 in
/-- The projected groups: the result. -/
theorem out_arr : (dats (F := Ideal) m 0 c).arrAt 6 cfg0.N = outArr m c := by
  refine (dats m 0 c).arrAt_eq_of_covers 6 _ (by decide +kernel) fun t hf y => ?_
  blk_simp
  rw [after0_6]
  unfold outsAt0
  frame_out
  unfold_payloads
  idx_vars y
  refine Eq.trans ?_ (emb6 t _ _ (outArr m c)).symm
  pointwise
  simp only [blk0, blk1, blk2, blk3, blk4, blk5]
  rfl

end Kernel

section Reference
open Cert.Reference10Ideal Cert.Reference10Ideal.Gen Cert.Reference10Ideal.Read
variable (x0 x1 : (⟨S2048x256, .f32⟩ : BufTy).Contents (Elt Ideal)) (x2 : (⟨S2048x512, .f32⟩ : BufTy).Contents (Elt Ideal))
  (x3 : (⟨S1024, .f32⟩ : BufTy).Contents (Elt Ideal)) (x4 : (⟨S1024x1024, .f32⟩ : BufTy).Contents (Elt Ideal))
  (x5 : (⟨S2048x1024, .f32⟩ : BufTy).Contents (Elt Ideal)) (s : Fin 2048)

theorem ref_cat (e : Fin 1024) : val_main_v42 x0 x1 x2 x3 (ix2 s e)
    = side (unit n256 fun k => x0 (ix2 s k)) (unit n256 fun k => x1 (ix2 s k)) (unit n512 fun k => x2 (ix2 s k)) e * x3 (ix1 e) := by
  pointwise [val_main_v0, val_main_v1, val_main_cst, val_main_v2, val_main_v3, val_main_cst_0, val_main_v4, val_main_v5,
    val_main_cst_1, val_main_v6, val_main_v7, val_main_v8, val_main_v9, val_main_v10, val_main_v11, val_main_v12,
    val_main_v13, val_main_v14, val_main_v15, val_main_cst_2, val_main_v16, val_main_v17, val_main_cst_3,
    val_main_v18, val_main_v19, val_main_cst_4, val_main_v20, val_main_v21, val_main_v22, val_main_v23,
    val_main_v24, val_main_v25, val_main_v26, val_main_v27, val_main_v28, val_main_v29, val_main_cst_5,
    val_main_v30, val_main_v31, val_main_cst_6, val_main_v32, val_main_v33, val_main_cst_7, val_main_v34,
    val_main_v35, val_main_v36, val_main_v37, val_main_v38, val_main_v39, val_main_v40, val_main_v41, val_main_v42]
  unfold side
  split
  · rfl
  · split
    · exact congrArg (fun q => unit n256 (fun k => x1 (ix2 s k)) ⟨e - 256, by omega⟩ * x3 (ix1 q))
        (Fin.ext (show 256 + ((e : ℕ) - 256) = e by omega))
    · exact congrArg (fun q => unit n512 (fun k => x2 (ix2 s k)) ⟨e - 256 - 256, by omega⟩ * x3 (ix1 q))
        (Fin.ext (show 512 + ((e : ℕ) - 256 - 256) = e by omega))

theorem ref_out (d : Fin 1024) : val_main_v44 x0 x1 x2 x3 x4 x5 (ix2 s d)
    = out (fun k => x0 (ix2 s k)) (fun k => x1 (ix2 s k)) (fun k => x2 (ix2 s k)) (fun k => x3 (ix1 k))
      (fun e k => x4 (ix2 e k)) (fun k => x5 (ix2 s k)) d := by
  pointwise [val_main_v43, val_main_v44]
  simp only [ref_cat]

end Reference

/-- The value claim. -/
theorem algebraic : Cert.algebraic_Kernel10Ideal_Reference10Ideal := by
  intro m g m' g' hpre hag
  refine ⟨outArr m, ?_, ?_⟩
  · refine (θ_run Cert.Kernel10Ideal.defs _ _).mono (fun r h c => ?_) (Cert.Kernel10Ideal.Value.run_blocks (F := Ideal) m g)
    obtain ⟨r0, ha⟩ := h c
    exact ⟨r0.trans (out_arr m c), ha⟩
  · refine (θ_run Cert.Reference10Ideal.defs _ _).mono (fun r h c => ?_) (Cert.Reference10Ideal.Value.run (F := Ideal) m' g')
    obtain ⟨r0, ha⟩ := h c
    obtain ⟨a0, a1, a2, a3, a4, a5⟩ := hag c
    refine ⟨r0.trans ?_, ha⟩
    refine (Cert.Reference10Ideal.Read.val_main_v44_eq _ _ _ _ _ _).trans ?_
    rw [a0, a1, a2, a3, a4, a5]
    funext i
    rw [eq_ix2 i]
    exact ref_out _ _ _ _ _ _ _ _

/-- The reference's frame: its arguments stay, and it declares no counter. -/
theorem frame_reference : Cert.quiescent_Reference10Ideal := fun m g _ =>
  (θ_run Cert.Reference10Ideal.defs _ _).mono
    (fun r h => ⟨fun c => (h c).2, sem_eq_zero_of_no_sems (by decide) r.2⟩)
    (Cert.Reference10Ideal.Value.run (F := Ideal) m g)

end Cert.Proof.OutForward
-- ==== Proof.SgForward.lean ====
module

public import proofs.«01_k».proof.Defs
public import proofs.«01_k».proof.Proof.RmsRow
public import proofs.«01_k».proof.Proof.Gen.Kernel12Ideal.Value
public import proofs.«01_k».proof.Proof.Gen.Reference12Ideal.Run
public import proofs.«01_k».proof.Proof.Gen.Reference12Ideal.Read
public import Idealize.ShloMosaic.Lib.Pipeline.ValueKit

/-!
The forward chunked spatial gating: what the kernel's result array holds, what the reference computes, and that they
agree at any extended reals. The kernel forms one product of a chunk per head and keeps each lane's own.
-/

@[expose] public section
set_option maxRecDepth 16384
noncomputable section
namespace Cert.Proof.SgForward
open Idealize.ShloMosaic Idealize.ShloMosaic.TcCoe Idealize.SL.Sem

/-- The activation, by the error function. -/
def gelu (q : EReal) : EReal := Ideal.ofBits .f32 0x3F000000#32 * q * (1 + FloatOps.erf (F := Ideal) (φ := .f32) (q * Ideal.ofBits .f32 0x3F3504F3#32))

/-- A row without its mean, and the normed row with its gain and shift. -/
abbrev centred (R : Fin 256 → EReal) (j : Fin 256) : EReal := R j - Ideal.div (∑ k, R k) (Ideal.ofBits .f32 0x43800000#32)
def normed (R g b : Fin 256 → EReal) (j : Fin 256) : EReal :=
  centred R j * Ideal.rsqrt (Ideal.div (∑ k, centred R k * centred R k) (Ideal.ofBits .f32 0x43800000#32)
    + Ideal.ofBits .f32 0x3727C5AC#32) * g j + b j

/-- An entry of the result: row `a` of a chunk whose rows are `V`, at lane `j`, with the row `U` of the gate. -/
def gated (U : EReal) (V : Fin 128 → Fin 256 → EReal) (g b : Fin 256 → EReal) (w : Fin 4 → Fin 128 → Fin 128 → EReal)
    (B : EReal) (a : Fin 128) (j : Fin 256) : EReal :=
  gelu U * (∑ x, normed (fun k => gelu (V x k)) g b j * (if x ≤ a then w ⟨j / 64, by omega⟩ a x else 0) + B)

theorem gated_congr {U U' B B' : EReal} {V V' : Fin 128 → Fin 256 → EReal} {g g' b b' : Fin 256 → EReal}
    {w w' : Fin 4 → Fin 128 → Fin 128 → EReal} {a a' : Fin 128} (hU : U = U') (hV : ∀ x k, V x k = V' x k)
    (hg : ∀ k, g k = g' k) (hb : ∀ k, b k = b' k) (hw : ∀ h p q, w h p q = w' h p q) (hB : B = B') (ha : a = a')
    (j : Fin 256) : gated U V g b w B a j = gated U' V' g' b' w' B' a' j := by
  obtain rfl : V = V' := funext₂ hV
  obtain rfl : g = g' := funext hg
  obtain rfl : b = b' := funext hb
  obtain rfl : w = w' := funext₃ hw
  rw [hU, hB, ha]

/-- The rows `o` and on of the second half of an array's columns. -/
abbrev chunk {n k : ℕ} (P : Fin n → Fin k → EReal) (o q : ℕ) (ho : o + 128 ≤ n) (hq : q + 256 ≤ k) (x : Fin 128)
    (j : Fin 256) : EReal := P ⟨o + x, by omega⟩ ⟨q + j, by omega⟩

/-- The head of a lane, as the body finds it. -/
abbrev headOf (b : BitVec 32) : BitVec 32 :=
  Scalar.select (IntOp.andi
      (IntOp.cmpi .ne (IntOp.subi (BitVec.setWidth 32 (IntOp.cmpi .sgt b 0#32)) (BitVec.setWidth 32 (IntOp.cmpi .slt b 0#32)))
        (Scalar.subi (Scalar.extui (Scalar.cmpi .sgt 64#32 0#32)) (Scalar.extui (Scalar.cmpi .slt 64#32 0#32))))
      (IntOp.cmpi .ne (IntOp.remsi .vector b 64#32) 0#32))
    (IntOp.subi (IntOp.divsi .vector b 64#32) 1#32) (IntOp.divsi .vector b 64#32)

theorem head_eq (z : Fin 256) : headOf (BitVec.ofNat 32 z) = BitVec.ofNat 32 (z / 64) := by revert z; decide +kernel

theorem tri (a b : Fin 128) : IntOp.cmpi .sge (BitVec.ofNat 32 a) (BitVec.ofNat 32 b) = if b ≤ a then 1#1 else 0#1 := by
  revert a b; decide +kernel

/-- Of the four heads' summands a lane keeps its own. -/
abbrev kept (z : Fin 256) (S : Fin 4 → EReal) (B : EReal) : EReal :=
  B + Scalar.select (IntOp.cmpi .eq (headOf (BitVec.ofNat 32 z)) 0#32) (S 0) 0
    + Scalar.select (IntOp.cmpi .eq (headOf (BitVec.ofNat 32 z)) 1#32) (S 1) 0
    + Scalar.select (IntOp.cmpi .eq (headOf (BitVec.ofNat 32 z)) 2#32) (S 2) 0
    + Scalar.select (IntOp.cmpi .eq (headOf (BitVec.ofNat 32 z)) 3#32) (S 3) 0

theorem kept_eq (z : Fin 256) (S : Fin 4 → EReal) (B : EReal) : kept z S B = B + S ⟨z / 64, by omega⟩ := by
  unfold kept
  rw [head_eq]
  obtain ⟨z, hz⟩ := z
  have h : z / 64 = 0 ∨ z / 64 = 1 ∨ z / 64 = 2 ∨ z / 64 = 3 := by omega
  rcases h with h | h | h | h <;> simp [h, Scalar.select, IntOp.cmpi] <;> rfl

section Kernel
open Cert.Kernel12Ideal Cert.Kernel12Ideal.Gen

section Body
variable (x0 : Vec Ideal S1024x512 .f32) (x1 x2 : Vec Ideal S1x256 .f32) (x3 : Vec Ideal S4x128x128 .f32)
  (x4 : Vec Ideal S128x256 .f32)

/-- An entry of the block the body leaves. -/
abbrev entry (a : Fin 1024) (j : Fin 256) : EReal :=
  gated (x0 (ix2 a ⟨j, by omega⟩)) (chunk (fun r k => x0 (ix2 r k)) (a / 128 * 128) 256 (by omega) (by omega))
    (fun k => x1 (ix2 0 k)) (fun k => x2 (ix2 0 k)) (fun h p q => x3 (ix3 h p q)) (x4 (ix2 ⟨a % 128, by omega⟩ j))
    ⟨a % 128, by omega⟩ j

/-- The same entry as the body of the chunk at row `o` forms it. -/
abbrev formed (o : ℕ) (ho : o + 128 ≤ 1024) (a : Fin 128) (j : Fin 256) : EReal :=
  gelu (x0 (ix2 ⟨o + a, by omega⟩ ⟨j, by omega⟩)) * kept j (fun h => ∑ x : Fin 128,
    Scalar.select (IntOp.cmpi .sge (BitVec.ofNat 32 a) (BitVec.ofNat 32 x)) (x3 (ix3 h a x) * normed
      (fun k => gelu (chunk (fun r k => x0 (ix2 r k)) o 256 ho (by omega) x k)) (fun k => x1 (ix2 0 k)) (fun k => x2 (ix2 0 k)) j) 0)
    (x4 (ix2 a j))

theorem formed_eq (o : ℕ) (ho : o + 128 ≤ 1024) (h : o % 128 = 0) (a : Fin 128) (j j' : Fin 256) (b : Fin 1024)
    (h0 : (b : ℕ) = o + a) (h1 : (j' : ℕ) = j) :
    formed x0 x1 x2 x3 x4 o ho a j = entry x0 x1 x2 x3 x4 b j' := by
  obtain rfl : j' = j := Fin.ext h1
  have e0 : b = (⟨o + a, by omega⟩ : Fin 1024) := Fin.ext h0
  have e1 : (o + (a : ℕ)) / 128 * 128 = o := by omega
  have e2 : (⟨(o + (a : ℕ)) % 128, by omega⟩ : Fin 128) = a := Fin.ext (show (o + (a : ℕ)) % 128 = a by omega)
  unfold formed entry gated
  rw [e0, kept_eq, add_comm (x4 (ix2 a j'))]
  simp only [e1, e2]
  congr 2
  refine Finset.sum_congr rfl fun x _ => ?_
  rw [tri]
  by_cases hx : x ≤ a
  · rw [if_pos hx, if_pos hx, mul_comm]; rfl
  · rw [if_neg hx, if_neg hx, mul_zero]; rfl

set_option maxHeartbeats 8000000 in
theorem out_eq (y : S1024x256.Idx) : out0_5 x0 x1 x2 x3 x4 y = entry x0 x1 x2 x3 x4 (y 0) (y 1) := by
  unfold_out out0_5
  canon_tiles z h
  all_goals
    open_payloads
    idx_vars z
    first
      | refine Eq.trans ?_ (formed_eq x0 x1 x2 x3 x4 _ (by decide) (by decide) z0 z1 (y 1) (y 0) h0 h1)
      | refine Eq.trans ?_ (formed_eq x0 x1 x2 x3 x4 0 (by decide) (by decide) z0 z1 (y 1) (y 0) (by omega) h1)
    pointwise
    simp only [formed, kept, headOf, normed, gelu, centred, chunk, Nat.zero_add]
    try rfl

end Body

variable (m : (ℓ : Loc nD τ sig) → Buf (Elt Ideal) ℓ) (c : Dev nD)

/-- Where each window's block sits: by rows of 1024, or the whole array; of the projection the second 512 columns. -/
theorem idx (t : Fin grid0.N) : win0_0.index t = ![t.val, 1] ∧ win0_1.index t = ![0, 0] ∧ win0_2.index t = ![0, 0] ∧
    win0_3.index t = ![0, 0, 0] ∧ win0_4.index t = ![0, 0] ∧ win0_5.index t = ![t.val, 0] := by
  revert t; decide +kernel

/-- The arguments' entries. -/
abbrev proj (s : Fin 2048) (k : Fin 512) : EReal := m ((c : Thread nD τ).loc main_arg0) (ix2 s ⟨512 + k, by omega⟩)
abbrev gain (k : Fin 256) : EReal := m ((c : Thread nD τ).loc main_arg1) (ix1 k)
abbrev shift (k : Fin 256) : EReal := m ((c : Thread nD τ).loc main_arg2) (ix1 k)
abbrev weight (h : Fin 4) (p q : Fin 128) : EReal := m ((c : Thread nD τ).loc main_arg3) (ix3 h p q)
abbrev bias (h : Fin 4) (p : Fin 128) : EReal := m ((c : Thread nD τ).loc main_arg4) (ix2 h p)

/-- The result array. -/
def sgArr : S2048x256.Idx → EReal := fun i =>
  gated (proj m c (i 0) ⟨i 1, Nat.lt_trans (i 1).isLt (by decide)⟩)
    (chunk (proj m c) ((i 0 : ℕ) / 128 * 128) 256 (by have h : (i 0 : ℕ) < 2048 := (i 0).isLt; omega) (by omega))
    (gain m c) (shift m c) (weight m c)
    (bias m c ⟨(i 1 : ℕ) / 64, by have h : (i 1 : ℕ) < 256 := (i 1).isLt; omega⟩ ⟨(i 0 : ℕ) % 128, by omega⟩)
    ⟨(i 0 : ℕ) % 128, by omega⟩ (i 1)

section blocks
variable (t : Fin cfg0.N)

/-- The array row of a block's row. -/
abbrev atRow (a : Fin 1024) : Fin 2048 := ⟨t.val * 1024 + a.val, by have h : t.val < 2 := t.isLt; omega⟩

theorem blk0 (a : Fin 1024) (b : Fin 512) : iblk m c 0 t (ix2 a b) = proj m c (atRow t a) b := by
  blk_ext! [iblk, V, idx t]

theorem blk1 (a : Fin 1) (b : Fin 256) : iblk m c 1 t (ix2 a b) = gain m c b := by
  blk_simp [iblk, V, idx t]; entry_read; pointwise; blk_ext [iblk, V, idx t]

theorem blk2 (a : Fin 1) (b : Fin 256) : iblk m c 2 t (ix2 a b) = shift m c b := by
  blk_simp [iblk, V, idx t]; entry_read; pointwise; blk_ext [iblk, V, idx t]

theorem blk3 (h : Fin 4) (p q : Fin 128) : iblk m c 3 t (ix3 h p q) = weight m c h p q := by
  blk_ext! [iblk, V, idx t]

theorem blk4 (p : Fin 128) (b : Fin 256) : iblk m c 4 t (ix2 p b) = bias m c ⟨b / 64, by omega⟩ p := by
  blk_simp [iblk, V, idx t]; entry_read; pointwise; blk_ext [iblk, V, idx t]

theorem emb5 (a : Fin 1024) (b : Fin 256) (G : S2048x256.Idx → EReal) :
    G (((View.whole main_v5).slice (win0_5.rect t)).emb (ix2 a b)) = G (ix2 (atRow t a) b) := by
  blk_ext [idx t]

end blocks

theorem sg_arr : (dats (F := Ideal) m 0 c).arrAt 5 cfg0.N = sgArr m c := by
  refine (dats m 0 c).arrAt_eq_of_covers 5 _ (by decide +kernel) fun t hf y => ?_
  blk_simp
  rw [after0_5, out_eq]
  idx_vars y
  refine Eq.trans ?_ (emb5 t _ _ (sgArr m c)).symm
  exact gated_congr (blk0 m c t _ _)
    (fun x k => (blk0 m c t _ _).trans (congrArg (fun r => proj m c r ⟨256 + k, by omega⟩) (Fin.ext
      (show t.val * 1024 + ((y0 : ℕ) / 128 * 128 + x) = (t.val * 1024 + y0) / 128 * 128 + x by omega))))
    (blk1 m c t 0) (blk2 m c t 0) (blk3 m c t)
    ((blk4 m c t _ _).trans (congrArg (bias m c _) (Fin.ext (show (y0 : ℕ) % 128 = (t.val * 1024 + y0) % 128 by omega))))
    (Fin.ext (show (y0 : ℕ) % 128 = (t.val * 1024 + y0) % 128 by omega)) y1

end Kernel

section Reference
open Cert.Reference12Ideal Cert.Reference12Ideal.Gen Cert.Reference12Ideal.Read
variable (x0 : (⟨S2048x2560, .f32⟩ : BufTy).Contents (Elt Ideal)) (x1 x2 : (⟨S256, .f32⟩ : BufTy).Contents (Elt Ideal))
  (x3 : (⟨S4x128x128, .f32⟩ : BufTy).Contents (Elt Ideal)) (x4 : (⟨S4x128, .f32⟩ : BufTy).Contents (Elt Ideal))

theorem ref_act (s : Fin 2048) (j : Fin 512) : val_main_v7 x0 (ix2 s j) = gelu (x0 (ix2 s ⟨512 + j, by omega⟩)) := by
  pointwise [val_main_v0, val_main_cst, val_main_v1, val_main_v2, val_main_v3, val_main_cst_0, val_main_v4,
    val_main_v5, val_main_v6, val_main_v7]
  rw [EReal.neg_mul, Ideal.erfc_neg]
  rfl

theorem ref_norm (s : Fin 2048) (j : Fin 256) : val_main_v31 x0 x1 x2 (ix2 s j)
    = normed (fun k => gelu (x0 (ix2 s ⟨512 + (256 + k), by omega⟩))) (fun k => x1 (ix1 k)) (fun k => x2 (ix1 k)) j := by
  pointwise [val_main_v8, val_main_v9, val_main_cst_1, val_main_v10,
    val_main_v11, val_main_cst_2, val_main_v12, val_main_v13, val_main_v14, val_main_v15, val_main_v16, val_main_cst_3,
    val_main_v17, val_main_v18, val_main_cst_4, val_main_v19, val_main_v20, val_main_cst_5, val_main_v21, val_main_v22,
    val_main_v23, val_main_v24, val_main_v25, val_main_v26, val_main_v27, val_main_v28, val_main_v29, val_main_v30, val_main_v31]
  simp only [ref_act]
  rfl

theorem lower (a b : Fin 128) : Scalar.select (IntOp.cmpi .sge (IntOp.addi (BitVec.ofNat 32 a) 0#32) (BitVec.ofNat 32 b)) 1#1 0#1
    = if b ≤ a then 1#1 else 0#1 := by
  revert a b; decide +kernel

theorem ref_w (h : Fin 4) (a b : Fin 128) : val_main_v36 x3 (ix3 h a b) = if b ≤ a then x3 (ix3 h a b) else 0 := by
  pointwise [val_main_c, val_main_v33, val_main_call0_v0, val_main_call0_c, val_main_call0_v1, val_main_call0_v2,
    val_main_call0_v3, val_main_call0_v4, val_main_call0_c_0, val_main_call0_v5, val_main_v34, val_main_v35, val_main_cst_6,
    val_main_call1_v0, val_main_call1_v1, val_main_call1_v2, val_main_v36]
  rw [lower]
  by_cases hb : b ≤ a
  · rw [if_pos hb, if_pos hb]; rfl
  · rw [if_neg hb, if_neg hb]
    show constant (F := Ideal) S_ .f32 0#32 ix0 = 0
    pointwise

theorem ref_res (s : Fin 2048) (j : Fin 256) : val_main_v44 x0 x1 x2 x3 x4 (ix2 s j)
    = gated (x0 (ix2 s ⟨512 + j, by omega⟩)) (chunk (fun r k => x0 (ix2 r ⟨512 + (k : Fin 512), by omega⟩)) (s / 128 * 128) 256 (by omega) (by omega))
      (fun k => x1 (ix1 k)) (fun k => x2 (ix1 k)) (fun h p q => x3 (ix3 h p q)) (x4 (ix2 ⟨j / 64, by omega⟩ ⟨s % 128, by omega⟩))
      ⟨s % 128, by omega⟩ j := by
  pointwise [val_main_v8, val_main_v32, val_main_v37, val_main_v38, val_main_v39, val_main_v40, val_main_v41, val_main_v42, val_main_v43, val_main_v44]
  simp only [ref_act, ref_norm, ref_w]
  rfl

end Reference

/-- The value claim. -/
theorem algebraic : Cert.algebraic_Kernel12Ideal_Reference12Ideal := by
  intro m g m' g' hpre hag
  refine ⟨sgArr m, ?_, ?_⟩
  · refine (θ_run Cert.Kernel12Ideal.defs _ _).mono (fun r h c => ?_) (Cert.Kernel12Ideal.Value.run_blocks (F := Ideal) m g)
    obtain ⟨r0, ha⟩ := h c
    exact ⟨r0.trans (sg_arr m c), ha⟩
  · refine (θ_run Cert.Reference12Ideal.defs _ _).mono (fun r h c => ?_) (Cert.Reference12Ideal.Value.run (F := Ideal) m' g')
    obtain ⟨r0, ha⟩ := h c
    obtain ⟨a0, a1, a2, a3, a4⟩ := hag c
    refine ⟨r0.trans ?_, ha⟩
    refine (Cert.Reference12Ideal.Read.val_main_v44_eq _ _).trans ?_
    rw [a0, a1, a2, a3, a4]
    funext i
    rw [eq_ix2 i]
    exact ref_res _ _ _ _ _ _ _

/-- The reference's frame: its arguments stay, and it declares no counter. -/
theorem frame_reference : Cert.quiescent_Reference12Ideal := fun m g _ =>
  (θ_run Cert.Reference12Ideal.defs _ _).mono
    (fun r h => ⟨fun c => (h c).2, sem_eq_zero_of_no_sems (by decide) r.2⟩)
    (Cert.Reference12Ideal.Value.run (F := Ideal) m g)

end Cert.Proof.SgForward
-- ==== Proof.WeightGrad.lean ====
module

public import proofs.«01_k».proof.Defs
public import proofs.«01_k».proof.Proof.RmsRow
public import proofs.«01_k».proof.Proof.Gen.Kernel11Ideal.Value
public import proofs.«01_k».proof.Proof.Gen.Reference11Ideal.Run
public import proofs.«01_k».proof.Proof.Gen.Reference11Ideal.Read
public import Idealize.ShloMosaic.Lib.Pipeline.ValueKit

/-!
The plain product of a weight's gradient, summed over the rows: the kernel's result array, the reference's, and that
they agree at any extended reals.
-/

@[expose] public section
set_option maxRecDepth 16384
noncomputable section
namespace Cert.Proof.WeightGrad
open Idealize.ShloMosaic Idealize.ShloMosaic.TcCoe Idealize.SL.Sem

section Kernel
open Cert.Kernel11Ideal Cert.Kernel11Ideal.Gen
variable (m : (ℓ : Loc nD τ sig) → Buf (Elt Ideal) ℓ) (c : Dev nD)

/-- Where each window's block sits: the grid goes through the columns of the first argument, 512 at a time. -/
theorem idx (t : Fin grid0.N) : win0_0.index t = ![0, t.val] ∧ win0_1.index t = ![0, 0] ∧ win0_2.index t = ![t.val, 0] := by
  revert t; decide +kernel

/-- The arguments' entries. -/
abbrev lhs (s : Fin 2048) (a : Fin 5632) : EReal := m ((c : Thread nD τ).loc main_arg0) (ix2 s a)
abbrev rhs (s : Fin 2048) (b : Fin 1024) : EReal := m ((c : Thread nD τ).loc main_arg1) (ix2 s b)

/-- The result array. -/
def prod : S5632x1024.Idx → EReal := fun i => ∑ s, lhs m c s (i 0) * rhs m c s (i 1)

section blocks
variable (t : Fin cfg0.N)

/-- The array index of a block's. -/
abbrev at512 (a : Fin 512) : Fin 5632 := ⟨t.val * 512 + a.val, by have h : t.val < 11 := t.isLt; omega⟩

theorem blk0 (a : Fin 2048) (b : Fin 512) : iblk m c 0 t (ix2 a b) = lhs m c a (at512 t b) := by
  blk_ext! [iblk, V, idx t]

theorem blk1 (a : Fin 2048) (b : Fin 1024) : iblk m c 1 t (ix2 a b) = rhs m c a b := by
  blk_ext! [iblk, V, idx t]

theorem emb2 (a : Fin 512) (b : Fin 1024) (G : S5632x1024.Idx → EReal) :
    G (((View.whole main_v0).slice (win0_2.rect t)).emb (ix2 a b)) = G (ix2 (at512 t a) b) := by
  blk_ext [idx t]

end blocks

theorem prod_arr : (dats (F := Ideal) m 0 c).arrAt 2 cfg0.N = prod m c := by
  refine (dats m 0 c).arrAt_eq_of_covers 2 _ (by decide +kernel) fun t hf y => ?_
  blk_simp
  rw [after0_2]
  frame_out
  unfold_payloads
  idx_vars y
  refine Eq.trans ?_ (emb2 t _ _ (prod m c)).symm
  pointwise
  simp only [blk0, blk1]
  rfl

end Kernel

section Reference
open Cert.Reference11Ideal Cert.Reference11Ideal.Gen Cert.Reference11Ideal.Read
variable (x0 : (⟨S2048x5632, .bf16⟩ : BufTy).Contents (Elt Ideal)) (x1 : (⟨S2048x1024, .bf16⟩ : BufTy).Contents (Elt Ideal))

theorem ref_prod (a : Fin 5632) (b : Fin 1024) :
    val_main_v3 x0 x1 (ix2 a b) = ∑ s : Fin 2048, x0 (ix2 s a) * x1 (ix2 s b) := by
  pointwise [val_main_v0, val_main_v1, val_main_v2, val_main_v3]

end Reference

/-- The value claim. -/
theorem algebraic : Cert.algebraic_Kernel11Ideal_Reference11Ideal := by
  intro m g m' g' hpre hag
  refine ⟨prod m, ?_, ?_⟩
  · refine (θ_run Cert.Kernel11Ideal.defs _ _).mono (fun r h c => ?_) (Cert.Kernel11Ideal.Value.run_blocks (F := Ideal) m g)
    obtain ⟨r0, ha⟩ := h c
    exact ⟨r0.trans (prod_arr m c), ha⟩
  · refine (θ_run Cert.Reference11Ideal.defs _ _).mono (fun r h c => ?_) (Cert.Reference11Ideal.Value.run (F := Ideal) m' g')
    obtain ⟨r0, ha⟩ := h c
    obtain ⟨a0, a1⟩ := hag c
    refine ⟨r0.trans ?_, ha⟩
    refine (Cert.Reference11Ideal.Read.val_main_v3_eq _ _).trans ?_
    rw [a0, a1]
    funext i
    rw [eq_ix2 i]
    exact ref_prod _ _ _ _

/-- The reference's frame: its arguments stay, and it declares no counter. -/
theorem frame_reference : Cert.quiescent_Reference11Ideal := fun m g _ =>
  (θ_run Cert.Reference11Ideal.defs _ _).mono
    (fun r h => ⟨fun c => (h c).2, sem_eq_zero_of_no_sems (by decide) r.2⟩)
    (Cert.Reference11Ideal.Value.run (F := Ideal) m g)

end Cert.Proof.WeightGrad
-- ==== Proof.lean ====
module

public import proofs.«01_k».proof.Defs
public import proofs.«01_k».proof.Proof.Gen.Kernel
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Pre_finite_in
public import proofs.«01_k».proof.Proof.Gen.Kernel3.Frame
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Pre_finite_out
public import proofs.«01_k».proof.Proof.Gen.Pre_finite_ffn
public import proofs.«01_k».proof.Proof.Gen.Kernel4.Frame
public import proofs.«01_k».proof.Proof.Gen.Kernel4Ideal.Value
public import proofs.«01_k».proof.Proof.Gen.Reference4Ideal.Run
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Run
public import proofs.«01_k».proof.Proof.Gen.Reference5Ideal.Read
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Run
public import proofs.«01_k».proof.Proof.Gen.Reference6Ideal.Read
public import proofs.«01_k».proof.Proof.Gen.Pre_finite_qk
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Reference7Ideal.Read
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Run
public import proofs.«01_k».proof.Proof.Gen.Reference8Ideal.Read
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Run
public import proofs.«01_k».proof.Proof.Gen.Reference9Ideal.Read
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Run
public import proofs.«01_k».proof.Proof.Gen.Reference10Ideal.Read
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Run
public import proofs.«01_k».proof.Proof.Gen.Reference11Ideal.Read
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Run
public import proofs.«01_k».proof.Proof.Gen.Reference12Ideal.Read
public import proofs.«01_k».proof.Proof.SbEquation
public import proofs.«01_k».proof.Proof.InEquation
public import proofs.«01_k».proof.Proof.OutEquation
public import proofs.«01_k».proof.Proof.FfnEquation
public import proofs.«01_k».proof.Proof.Loss
public import proofs.«01_k».proof.Proof.QkEquation
public import proofs.«01_k».proof.Proof.Adam
public import proofs.«01_k».proof.Proof.FfnForward
public import proofs.«01_k».proof.Proof.OutForward
public import proofs.«01_k».proof.Proof.SgForward
public import proofs.«01_k».proof.Proof.WeightGrad

@[expose] public section

noncomputable section

namespace Cert.Proof

open Idealize.ShloMosaic Idealize.SL.Sem

/-- The frame of the reference of the gradient of the spatial gating. -/
theorem frame_reference7 : Cert.quiescent_Reference7Ideal := fun m g _ =>
  (θ_run Cert.Reference7Ideal.defs _ _).mono
    (fun r h => ⟨fun c => (h c).2.2.2.2.2, sem_eq_zero_of_no_sems (by decide) r.2⟩)
    (Cert.Reference7Ideal.Value.run (F := Ideal) m g)

theorem claim : Cert.Claim := ⟨
  Cert.Kernel.Gen.facts, Cert.KernelIdeal.Gen.facts, Cert.ReferenceIdeal.Gen.facts, Cert.Kernel2.Gen.facts,
  Cert.Kernel2Ideal.Gen.facts, Cert.Reference2Ideal.Gen.facts, Cert.Kernel3.Gen.facts, Cert.Kernel3Ideal.Gen.facts,
  Cert.Reference3Ideal.Gen.facts, Cert.Kernel4.Gen.facts, Cert.Kernel4Ideal.Gen.facts,
  Cert.Reference4Ideal.Gen.facts, Cert.Kernel5.Gen.facts, Cert.Kernel5Ideal.Gen.facts,
  Cert.Reference5Ideal.Gen.facts, Cert.Kernel6.Gen.facts, Cert.Kernel6Ideal.Gen.facts,
  Cert.Reference6Ideal.Gen.facts, Cert.Kernel7.Gen.facts, Cert.Kernel7Ideal.Gen.facts,
  Cert.Reference7Ideal.Gen.facts, Cert.Kernel8.Gen.facts, Cert.Kernel8Ideal.Gen.facts,
  Cert.Reference8Ideal.Gen.facts, Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Pre_finite.Gen.facts, Cert.Pre_finite_in.Gen.facts,
  Cert.Pre_finite_out.Gen.facts, Cert.Pre_finite_ffn.Gen.facts, Cert.Pre_finite_qk.Gen.facts, Sb.frame_kernel,
  Sb.frame_kernel_ideal, fun m ρ _ => Sb.frame_kernel_ideal m ρ trivial, Sb.frame_reference, fun m ρ _ =>
  Sb.frame_reference m ρ trivial, fun m ρ _ => Cert.Kernel2.Gen.frame m ρ, fun m ρ _ => Cert.Kernel2Ideal.Gen.frame
  m ρ, fun m ρ _ => Cert.Kernel2Ideal.Gen.frame m ρ, NormIn.frame_reference, fun m ρ _ => NormIn.frame_reference m ρ
  trivial, fun m ρ _ => Cert.Kernel3.Gen.frame m ρ, fun m ρ _ => Cert.Kernel3Ideal.Gen.frame m ρ, fun m ρ _ =>
  Cert.Kernel3Ideal.Gen.frame m ρ, NormOut.frame_reference, fun m ρ _ => NormOut.frame_reference m ρ trivial, fun m
  ρ _ => Cert.Kernel4.Gen.frame m ρ, fun m ρ _ => Cert.Kernel4Ideal.Gen.frame m ρ, fun m ρ _ =>
  Cert.Kernel4Ideal.Gen.frame m ρ, Ffn.frame_reference, fun m ρ _ => Ffn.frame_reference m ρ trivial, fun m ρ _ =>
  Cert.Kernel5.Gen.frame m ρ, fun m ρ _ => Cert.Kernel5Ideal.Gen.frame m ρ, Loss.frame_reference, fun m ρ _ =>
  Cert.Kernel6.Gen.frame m ρ, fun m ρ _ => Cert.Kernel6Ideal.Gen.frame m ρ, fun m ρ _ => Cert.Kernel6Ideal.Gen.frame
  m ρ, NormQk.frame_reference, fun m ρ _ => NormQk.frame_reference m ρ trivial, fun m ρ _ => Cert.Kernel7.Gen.frame
  m ρ, fun m ρ _ => Cert.Kernel7Ideal.Gen.frame m ρ, frame_reference7, fun m ρ _ => Cert.Kernel8.Gen.frame m ρ,
  fun m ρ _ => Cert.Kernel8Ideal.Gen.frame m ρ, Adam.frame_reference,
  fun m ρ _ => Cert.Kernel9.Gen.frame m ρ, fun m ρ _ => Cert.Kernel9Ideal.Gen.frame m ρ, FfnForward.frame_reference,
  fun m ρ _ => Cert.Kernel10.Gen.frame m ρ, fun m ρ _ => Cert.Kernel10Ideal.Gen.frame m ρ, OutForward.frame_reference,
  fun m ρ _ => Cert.Kernel11.Gen.frame m ρ, fun m ρ _ => Cert.Kernel11Ideal.Gen.frame m ρ, WeightGrad.frame_reference,
  fun m ρ _ => Cert.Kernel12.Gen.frame m ρ, fun m ρ _ => Cert.Kernel12Ideal.Gen.frame m ρ, SgForward.frame_reference,
  trivial, Sb.algebraic, trivial,
  NormIn.algebraic, trivial, NormOut.algebraic, trivial, Ffn.algebraic, trivial, Loss.algebraic, trivial,
  NormQk.algebraic, trivial, trivial, Adam.algebraic, trivial, FfnForward.algebraic, trivial, OutForward.algebraic,
  trivial, WeightGrad.algebraic, trivial, SgForward.algebraic⟩

end Cert.Proof

end
